-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_finite [hPre_finite : Cert.Pre_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))) = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_finite [hPre_finite : Cert.Pre_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_finite_projection [hPre_finite_projection : Cert.Pre_finite_projection.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_finite_projection.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_projection [hPre_finite_projection : Cert.Pre_finite_projection.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_projection.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_ChanKernel (m : (ℓ : Loc Cert.ChanKernel.nD Cert.ChanKernel.τ Cert.ChanKernel.sig) → Buf (Elt Bits) ℓ) : Prop :=
  True

def Pre_ChanKernelIdeal (m : (ℓ : Loc Cert.ChanKernelIdeal.nD Cert.ChanKernelIdeal.τ Cert.ChanKernelIdeal.sig) → Buf (Elt Ideal) ℓ) : Prop :=
  True

def Pre_ChanKernelIdeal_finite_channel [hPre_finite_channel : Cert.Pre_finite_channel.Facts] (m : (ℓ : Loc Cert.ChanKernelIdeal.nD Cert.ChanKernelIdeal.τ Cert.ChanKernelIdeal.sig) → Buf (Elt Ideal) ℓ) : Prop :=
  ∀ c : Dev Cert.ChanKernelIdeal.nD,
    (Cert.Pre_finite_channel.fn (F := Ideal) (m ((c.tc : Thread Cert.ChanKernelIdeal.nD Cert.ChanKernelIdeal.τ).loc Cert.ChanKernelIdeal.main_arg0)) (m ((c.tc : Thread Cert.ChanKernelIdeal.nD Cert.ChanKernelIdeal.τ).loc Cert.ChanKernelIdeal.main_arg1)) (m ((c.tc : Thread Cert.ChanKernelIdeal.nD Cert.ChanKernelIdeal.τ).loc Cert.ChanKernelIdeal.main_arg2)) (m ((c.tc : Thread Cert.ChanKernelIdeal.nD Cert.ChanKernelIdeal.τ).loc Cert.ChanKernelIdeal.main_arg3)) (m ((c.tc : Thread Cert.ChanKernelIdeal.nD Cert.ChanKernelIdeal.τ).loc Cert.ChanKernelIdeal.main_arg4)) (m ((c.tc : Thread Cert.ChanKernelIdeal.nD Cert.ChanKernelIdeal.τ).loc Cert.ChanKernelIdeal.main_arg5)) (m ((c.tc : Thread Cert.ChanKernelIdeal.nD Cert.ChanKernelIdeal.τ).loc Cert.ChanKernelIdeal.main_arg6))) = (fun _ => 1#1)

def Pre_ChanReferenceIdeal (m : (ℓ : Loc Cert.ChanReferenceIdeal.nD Cert.ChanReferenceIdeal.τ Cert.ChanReferenceIdeal.sig) → Buf (Elt Ideal) ℓ) : Prop :=
  True

def Pre_ChanReferenceIdeal_finite_channel [hPre_finite_channel : Cert.Pre_finite_channel.Facts] (m : (ℓ : Loc Cert.ChanReferenceIdeal.nD Cert.ChanReferenceIdeal.τ Cert.ChanReferenceIdeal.sig) → Buf (Elt Ideal) ℓ) : Prop :=
  ∀ c : Dev Cert.ChanReferenceIdeal.nD,
    (Cert.Pre_finite_channel.fn (F := Ideal) (m ((c.tc : Thread Cert.ChanReferenceIdeal.nD Cert.ChanReferenceIdeal.τ).loc Cert.ChanReferenceIdeal.main_arg0)) (m ((c.tc : Thread Cert.ChanReferenceIdeal.nD Cert.ChanReferenceIdeal.τ).loc Cert.ChanReferenceIdeal.main_arg1)) (m ((c.tc : Thread Cert.ChanReferenceIdeal.nD Cert.ChanReferenceIdeal.τ).loc Cert.ChanReferenceIdeal.main_arg2)) (m ((c.tc : Thread Cert.ChanReferenceIdeal.nD Cert.ChanReferenceIdeal.τ).loc Cert.ChanReferenceIdeal.main_arg3)) (m ((c.tc : Thread Cert.ChanReferenceIdeal.nD Cert.ChanReferenceIdeal.τ).loc Cert.ChanReferenceIdeal.main_arg4)) (m ((c.tc : Thread Cert.ChanReferenceIdeal.nD Cert.ChanReferenceIdeal.τ).loc Cert.ChanReferenceIdeal.main_arg5)) (m ((c.tc : Thread Cert.ChanReferenceIdeal.nD Cert.ChanReferenceIdeal.τ).loc Cert.ChanReferenceIdeal.main_arg6))) = (fun _ => 1#1)

def Pre_RetFwdKernel (m : (ℓ : Loc Cert.RetFwdKernel.nD Cert.RetFwdKernel.τ Cert.RetFwdKernel.sig) → Buf (Elt Bits) ℓ) : Prop :=
  True

def Pre_RetFwdKernelIdeal (m : (ℓ : Loc Cert.RetFwdKernelIdeal.nD Cert.RetFwdKernelIdeal.τ Cert.RetFwdKernelIdeal.sig) → Buf (Elt Ideal) ℓ) : Prop :=
  True

def Pre_RetFwdReferenceIdeal (m : (ℓ : Loc Cert.RetFwdReferenceIdeal.nD Cert.RetFwdReferenceIdeal.τ Cert.RetFwdReferenceIdeal.sig) → Buf (Elt Ideal) ℓ) : Prop :=
  True

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_finite_attention [hPre_finite_attention : Cert.Pre_finite_attention.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_finite_attention.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite_attention [hPre_finite_attention : Cert.Pre_finite_attention.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite_attention.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1))) = (fun _ => 1#1)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_finite [hRetKernelIdeal : Cert.RetKernelIdeal.Facts] [hPre_finite : Cert.Pre_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_finite [hRetReferenceIdeal : Cert.RetReferenceIdeal.Facts] [hPre_finite : Cert.Pre_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_finite_projection [hProjKernelIdeal : Cert.ProjKernelIdeal.Facts] [hPre_finite_projection : Cert.Pre_finite_projection.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_finite_projection m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_finite_projection [hProjReferenceIdeal : Cert.ProjReferenceIdeal.Facts] [hPre_finite_projection : Cert.Pre_finite_projection.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_projection m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ChanKernel [hChanKernel : Cert.ChanKernel.Facts] : Prop :=
  ∀ (m : (ℓ : Loc Cert.ChanKernel.nD Cert.ChanKernel.τ Cert.ChanKernel.sig) → Buf (Elt Bits) ℓ) (g : Dev Cert.ChanKernel.nD → PrngReg), Pre_ChanKernel m →
    θ_run (Cert.ChanKernel.defs (F := Bits)) (onTc (τ := Cert.ChanKernel.τ) (Cert.ChanKernel.main (F := Bits))) ⟨m, fun _ => 0, g⟩ (fun r => (∀ c : Dev Cert.ChanKernel.nD,
      r.2.mem ((c.tc : Thread Cert.ChanKernel.nD Cert.ChanKernel.τ).loc Cert.ChanKernel.main_arg0) = m ((c.tc : Thread Cert.ChanKernel.nD Cert.ChanKernel.τ).loc Cert.ChanKernel.main_arg0)
      ∧ r.2.mem ((c.tc : Thread Cert.ChanKernel.nD Cert.ChanKernel.τ).loc Cert.ChanKernel.main_arg1) = m ((c.tc : Thread Cert.ChanKernel.nD Cert.ChanKernel.τ).loc Cert.ChanKernel.main_arg1)
      ∧ r.2.mem ((c.tc : Thread Cert.ChanKernel.nD Cert.ChanKernel.τ).loc Cert.ChanKernel.main_arg2) = m ((c.tc : Thread Cert.ChanKernel.nD Cert.ChanKernel.τ).loc Cert.ChanKernel.main_arg2)
      ∧ r.2.mem ((c.tc : Thread Cert.ChanKernel.nD Cert.ChanKernel.τ).loc Cert.ChanKernel.main_arg3) = m ((c.tc : Thread Cert.ChanKernel.nD Cert.ChanKernel.τ).loc Cert.ChanKernel.main_arg3)
      ∧ r.2.mem ((c.tc : Thread Cert.ChanKernel.nD Cert.ChanKernel.τ).loc Cert.ChanKernel.main_arg4) = m ((c.tc : Thread Cert.ChanKernel.nD Cert.ChanKernel.τ).loc Cert.ChanKernel.main_arg4)
      ∧ r.2.mem ((c.tc : Thread Cert.ChanKernel.nD Cert.ChanKernel.τ).loc Cert.ChanKernel.main_arg5) = m ((c.tc : Thread Cert.ChanKernel.nD Cert.ChanKernel.τ).loc Cert.ChanKernel.main_arg5)
      ∧ r.2.mem ((c.tc : Thread Cert.ChanKernel.nD Cert.ChanKernel.τ).loc Cert.ChanKernel.main_arg6) = m ((c.tc : Thread Cert.ChanKernel.nD Cert.ChanKernel.τ).loc Cert.ChanKernel.main_arg6))
      ∧ r.2.sem = fun _ => 0)

def quiescent_ChanKernelIdeal [hChanKernelIdeal : Cert.ChanKernelIdeal.Facts] : Prop :=
  ∀ (m : (ℓ : Loc Cert.ChanKernelIdeal.nD Cert.ChanKernelIdeal.τ Cert.ChanKernelIdeal.sig) → Buf (Elt Ideal) ℓ) (g : Dev Cert.ChanKernelIdeal.nD → PrngReg), Pre_ChanKernelIdeal m →
    θ_run (Cert.ChanKernelIdeal.defs (F := Ideal)) (onTc (τ := Cert.ChanKernelIdeal.τ) (Cert.ChanKernelIdeal.main (F := Ideal))) ⟨m, fun _ => 0, g⟩ (fun r => (∀ c : Dev Cert.ChanKernelIdeal.nD,
      r.2.mem ((c.tc : Thread Cert.ChanKernelIdeal.nD Cert.ChanKernelIdeal.τ).loc Cert.ChanKernelIdeal.main_arg0) = m ((c.tc : Thread Cert.ChanKernelIdeal.nD Cert.ChanKernelIdeal.τ).loc Cert.ChanKernelIdeal.main_arg0)
      ∧ r.2.mem ((c.tc : Thread Cert.ChanKernelIdeal.nD Cert.ChanKernelIdeal.τ).loc Cert.ChanKernelIdeal.main_arg1) = m ((c.tc : Thread Cert.ChanKernelIdeal.nD Cert.ChanKernelIdeal.τ).loc Cert.ChanKernelIdeal.main_arg1)
      ∧ r.2.mem ((c.tc : Thread Cert.ChanKernelIdeal.nD Cert.ChanKernelIdeal.τ).loc Cert.ChanKernelIdeal.main_arg2) = m ((c.tc : Thread Cert.ChanKernelIdeal.nD Cert.ChanKernelIdeal.τ).loc Cert.ChanKernelIdeal.main_arg2)
      ∧ r.2.mem ((c.tc : Thread Cert.ChanKernelIdeal.nD Cert.ChanKernelIdeal.τ).loc Cert.ChanKernelIdeal.main_arg3) = m ((c.tc : Thread Cert.ChanKernelIdeal.nD Cert.ChanKernelIdeal.τ).loc Cert.ChanKernelIdeal.main_arg3)
      ∧ r.2.mem ((c.tc : Thread Cert.ChanKernelIdeal.nD Cert.ChanKernelIdeal.τ).loc Cert.ChanKernelIdeal.main_arg4) = m ((c.tc : Thread Cert.ChanKernelIdeal.nD Cert.ChanKernelIdeal.τ).loc Cert.ChanKernelIdeal.main_arg4)
      ∧ r.2.mem ((c.tc : Thread Cert.ChanKernelIdeal.nD Cert.ChanKernelIdeal.τ).loc Cert.ChanKernelIdeal.main_arg5) = m ((c.tc : Thread Cert.ChanKernelIdeal.nD Cert.ChanKernelIdeal.τ).loc Cert.ChanKernelIdeal.main_arg5)
      ∧ r.2.mem ((c.tc : Thread Cert.ChanKernelIdeal.nD Cert.ChanKernelIdeal.τ).loc Cert.ChanKernelIdeal.main_arg6) = m ((c.tc : Thread Cert.ChanKernelIdeal.nD Cert.ChanKernelIdeal.τ).loc Cert.ChanKernelIdeal.main_arg6))
      ∧ r.2.sem = fun _ => 0)

def quiescent_ChanKernelIdeal_pre_finite_channel [hChanKernelIdeal : Cert.ChanKernelIdeal.Facts] [hPre_finite_channel : Cert.Pre_finite_channel.Facts] : Prop :=
  ∀ (m : (ℓ : Loc Cert.ChanKernelIdeal.nD Cert.ChanKernelIdeal.τ Cert.ChanKernelIdeal.sig) → Buf (Elt Ideal) ℓ) (g : Dev Cert.ChanKernelIdeal.nD → PrngReg), Pre_ChanKernelIdeal_finite_channel m →
    θ_run (Cert.ChanKernelIdeal.defs (F := Ideal)) (onTc (τ := Cert.ChanKernelIdeal.τ) (Cert.ChanKernelIdeal.main (F := Ideal))) ⟨m, fun _ => 0, g⟩ (fun r => (∀ c : Dev Cert.ChanKernelIdeal.nD,
      r.2.mem ((c.tc : Thread Cert.ChanKernelIdeal.nD Cert.ChanKernelIdeal.τ).loc Cert.ChanKernelIdeal.main_arg0) = m ((c.tc : Thread Cert.ChanKernelIdeal.nD Cert.ChanKernelIdeal.τ).loc Cert.ChanKernelIdeal.main_arg0)
      ∧ r.2.mem ((c.tc : Thread Cert.ChanKernelIdeal.nD Cert.ChanKernelIdeal.τ).loc Cert.ChanKernelIdeal.main_arg1) = m ((c.tc : Thread Cert.ChanKernelIdeal.nD Cert.ChanKernelIdeal.τ).loc Cert.ChanKernelIdeal.main_arg1)
      ∧ r.2.mem ((c.tc : Thread Cert.ChanKernelIdeal.nD Cert.ChanKernelIdeal.τ).loc Cert.ChanKernelIdeal.main_arg2) = m ((c.tc : Thread Cert.ChanKernelIdeal.nD Cert.ChanKernelIdeal.τ).loc Cert.ChanKernelIdeal.main_arg2)
      ∧ r.2.mem ((c.tc : Thread Cert.ChanKernelIdeal.nD Cert.ChanKernelIdeal.τ).loc Cert.ChanKernelIdeal.main_arg3) = m ((c.tc : Thread Cert.ChanKernelIdeal.nD Cert.ChanKernelIdeal.τ).loc Cert.ChanKernelIdeal.main_arg3)
      ∧ r.2.mem ((c.tc : Thread Cert.ChanKernelIdeal.nD Cert.ChanKernelIdeal.τ).loc Cert.ChanKernelIdeal.main_arg4) = m ((c.tc : Thread Cert.ChanKernelIdeal.nD Cert.ChanKernelIdeal.τ).loc Cert.ChanKernelIdeal.main_arg4)
      ∧ r.2.mem ((c.tc : Thread Cert.ChanKernelIdeal.nD Cert.ChanKernelIdeal.τ).loc Cert.ChanKernelIdeal.main_arg5) = m ((c.tc : Thread Cert.ChanKernelIdeal.nD Cert.ChanKernelIdeal.τ).loc Cert.ChanKernelIdeal.main_arg5)
      ∧ r.2.mem ((c.tc : Thread Cert.ChanKernelIdeal.nD Cert.ChanKernelIdeal.τ).loc Cert.ChanKernelIdeal.main_arg6) = m ((c.tc : Thread Cert.ChanKernelIdeal.nD Cert.ChanKernelIdeal.τ).loc Cert.ChanKernelIdeal.main_arg6))
      ∧ r.2.sem = fun _ => 0)

def quiescent_ChanReferenceIdeal [hChanReferenceIdeal : Cert.ChanReferenceIdeal.Facts] : Prop :=
  ∀ (m : (ℓ : Loc Cert.ChanReferenceIdeal.nD Cert.ChanReferenceIdeal.τ Cert.ChanReferenceIdeal.sig) → Buf (Elt Ideal) ℓ) (g : Dev Cert.ChanReferenceIdeal.nD → PrngReg), Pre_ChanReferenceIdeal m →
    θ_run (Cert.ChanReferenceIdeal.defs (F := Ideal)) (onTc (τ := Cert.ChanReferenceIdeal.τ) (Cert.ChanReferenceIdeal.main (F := Ideal))) ⟨m, fun _ => 0, g⟩ (fun r => (∀ c : Dev Cert.ChanReferenceIdeal.nD,
      r.2.mem ((c.tc : Thread Cert.ChanReferenceIdeal.nD Cert.ChanReferenceIdeal.τ).loc Cert.ChanReferenceIdeal.main_arg0) = m ((c.tc : Thread Cert.ChanReferenceIdeal.nD Cert.ChanReferenceIdeal.τ).loc Cert.ChanReferenceIdeal.main_arg0)
      ∧ r.2.mem ((c.tc : Thread Cert.ChanReferenceIdeal.nD Cert.ChanReferenceIdeal.τ).loc Cert.ChanReferenceIdeal.main_arg1) = m ((c.tc : Thread Cert.ChanReferenceIdeal.nD Cert.ChanReferenceIdeal.τ).loc Cert.ChanReferenceIdeal.main_arg1)
      ∧ r.2.mem ((c.tc : Thread Cert.ChanReferenceIdeal.nD Cert.ChanReferenceIdeal.τ).loc Cert.ChanReferenceIdeal.main_arg2) = m ((c.tc : Thread Cert.ChanReferenceIdeal.nD Cert.ChanReferenceIdeal.τ).loc Cert.ChanReferenceIdeal.main_arg2)
      ∧ r.2.mem ((c.tc : Thread Cert.ChanReferenceIdeal.nD Cert.ChanReferenceIdeal.τ).loc Cert.ChanReferenceIdeal.main_arg3) = m ((c.tc : Thread Cert.ChanReferenceIdeal.nD Cert.ChanReferenceIdeal.τ).loc Cert.ChanReferenceIdeal.main_arg3)
      ∧ r.2.mem ((c.tc : Thread Cert.ChanReferenceIdeal.nD Cert.ChanReferenceIdeal.τ).loc Cert.ChanReferenceIdeal.main_arg4) = m ((c.tc : Thread Cert.ChanReferenceIdeal.nD Cert.ChanReferenceIdeal.τ).loc Cert.ChanReferenceIdeal.main_arg4)
      ∧ r.2.mem ((c.tc : Thread Cert.ChanReferenceIdeal.nD Cert.ChanReferenceIdeal.τ).loc Cert.ChanReferenceIdeal.main_arg5) = m ((c.tc : Thread Cert.ChanReferenceIdeal.nD Cert.ChanReferenceIdeal.τ).loc Cert.ChanReferenceIdeal.main_arg5)
      ∧ r.2.mem ((c.tc : Thread Cert.ChanReferenceIdeal.nD Cert.ChanReferenceIdeal.τ).loc Cert.ChanReferenceIdeal.main_arg6) = m ((c.tc : Thread Cert.ChanReferenceIdeal.nD Cert.ChanReferenceIdeal.τ).loc Cert.ChanReferenceIdeal.main_arg6))
      ∧ r.2.sem = fun _ => 0)

def quiescent_ChanReferenceIdeal_pre_finite_channel [hChanReferenceIdeal : Cert.ChanReferenceIdeal.Facts] [hPre_finite_channel : Cert.Pre_finite_channel.Facts] : Prop :=
  ∀ (m : (ℓ : Loc Cert.ChanReferenceIdeal.nD Cert.ChanReferenceIdeal.τ Cert.ChanReferenceIdeal.sig) → Buf (Elt Ideal) ℓ) (g : Dev Cert.ChanReferenceIdeal.nD → PrngReg), Pre_ChanReferenceIdeal_finite_channel m →
    θ_run (Cert.ChanReferenceIdeal.defs (F := Ideal)) (onTc (τ := Cert.ChanReferenceIdeal.τ) (Cert.ChanReferenceIdeal.main (F := Ideal))) ⟨m, fun _ => 0, g⟩ (fun r => (∀ c : Dev Cert.ChanReferenceIdeal.nD,
      r.2.mem ((c.tc : Thread Cert.ChanReferenceIdeal.nD Cert.ChanReferenceIdeal.τ).loc Cert.ChanReferenceIdeal.main_arg0) = m ((c.tc : Thread Cert.ChanReferenceIdeal.nD Cert.ChanReferenceIdeal.τ).loc Cert.ChanReferenceIdeal.main_arg0)
      ∧ r.2.mem ((c.tc : Thread Cert.ChanReferenceIdeal.nD Cert.ChanReferenceIdeal.τ).loc Cert.ChanReferenceIdeal.main_arg1) = m ((c.tc : Thread Cert.ChanReferenceIdeal.nD Cert.ChanReferenceIdeal.τ).loc Cert.ChanReferenceIdeal.main_arg1)
      ∧ r.2.mem ((c.tc : Thread Cert.ChanReferenceIdeal.nD Cert.ChanReferenceIdeal.τ).loc Cert.ChanReferenceIdeal.main_arg2) = m ((c.tc : Thread Cert.ChanReferenceIdeal.nD Cert.ChanReferenceIdeal.τ).loc Cert.ChanReferenceIdeal.main_arg2)
      ∧ r.2.mem ((c.tc : Thread Cert.ChanReferenceIdeal.nD Cert.ChanReferenceIdeal.τ).loc Cert.ChanReferenceIdeal.main_arg3) = m ((c.tc : Thread Cert.ChanReferenceIdeal.nD Cert.ChanReferenceIdeal.τ).loc Cert.ChanReferenceIdeal.main_arg3)
      ∧ r.2.mem ((c.tc : Thread Cert.ChanReferenceIdeal.nD Cert.ChanReferenceIdeal.τ).loc Cert.ChanReferenceIdeal.main_arg4) = m ((c.tc : Thread Cert.ChanReferenceIdeal.nD Cert.ChanReferenceIdeal.τ).loc Cert.ChanReferenceIdeal.main_arg4)
      ∧ r.2.mem ((c.tc : Thread Cert.ChanReferenceIdeal.nD Cert.ChanReferenceIdeal.τ).loc Cert.ChanReferenceIdeal.main_arg5) = m ((c.tc : Thread Cert.ChanReferenceIdeal.nD Cert.ChanReferenceIdeal.τ).loc Cert.ChanReferenceIdeal.main_arg5)
      ∧ r.2.mem ((c.tc : Thread Cert.ChanReferenceIdeal.nD Cert.ChanReferenceIdeal.τ).loc Cert.ChanReferenceIdeal.main_arg6) = m ((c.tc : Thread Cert.ChanReferenceIdeal.nD Cert.ChanReferenceIdeal.τ).loc Cert.ChanReferenceIdeal.main_arg6))
      ∧ r.2.sem = fun _ => 0)

def quiescent_RetFwdKernel [hRetFwdKernel : Cert.RetFwdKernel.Facts] : Prop :=
  ∀ (m : (ℓ : Loc Cert.RetFwdKernel.nD Cert.RetFwdKernel.τ Cert.RetFwdKernel.sig) → Buf (Elt Bits) ℓ) (g : Dev Cert.RetFwdKernel.nD → PrngReg), Pre_RetFwdKernel m →
    θ_run (Cert.RetFwdKernel.defs (F := Bits)) (onTc (τ := Cert.RetFwdKernel.τ) (Cert.RetFwdKernel.main (F := Bits))) ⟨m, fun _ => 0, g⟩ (fun r => (∀ c : Dev Cert.RetFwdKernel.nD,
      r.2.mem ((c.tc : Thread Cert.RetFwdKernel.nD Cert.RetFwdKernel.τ).loc Cert.RetFwdKernel.main_arg0) = m ((c.tc : Thread Cert.RetFwdKernel.nD Cert.RetFwdKernel.τ).loc Cert.RetFwdKernel.main_arg0))
      ∧ r.2.sem = fun _ => 0)

def quiescent_RetFwdKernelIdeal [hRetFwdKernelIdeal : Cert.RetFwdKernelIdeal.Facts] : Prop :=
  ∀ (m : (ℓ : Loc Cert.RetFwdKernelIdeal.nD Cert.RetFwdKernelIdeal.τ Cert.RetFwdKernelIdeal.sig) → Buf (Elt Ideal) ℓ) (g : Dev Cert.RetFwdKernelIdeal.nD → PrngReg), Pre_RetFwdKernelIdeal m →
    θ_run (Cert.RetFwdKernelIdeal.defs (F := Ideal)) (onTc (τ := Cert.RetFwdKernelIdeal.τ) (Cert.RetFwdKernelIdeal.main (F := Ideal))) ⟨m, fun _ => 0, g⟩ (fun r => (∀ c : Dev Cert.RetFwdKernelIdeal.nD,
      r.2.mem ((c.tc : Thread Cert.RetFwdKernelIdeal.nD Cert.RetFwdKernelIdeal.τ).loc Cert.RetFwdKernelIdeal.main_arg0) = m ((c.tc : Thread Cert.RetFwdKernelIdeal.nD Cert.RetFwdKernelIdeal.τ).loc Cert.RetFwdKernelIdeal.main_arg0))
      ∧ r.2.sem = fun _ => 0)

def quiescent_RetFwdReferenceIdeal [hRetFwdReferenceIdeal : Cert.RetFwdReferenceIdeal.Facts] : Prop :=
  ∀ (m : (ℓ : Loc Cert.RetFwdReferenceIdeal.nD Cert.RetFwdReferenceIdeal.τ Cert.RetFwdReferenceIdeal.sig) → Buf (Elt Ideal) ℓ) (g : Dev Cert.RetFwdReferenceIdeal.nD → PrngReg), Pre_RetFwdReferenceIdeal m →
    θ_run (Cert.RetFwdReferenceIdeal.defs (F := Ideal)) (onTc (τ := Cert.RetFwdReferenceIdeal.τ) (Cert.RetFwdReferenceIdeal.main (F := Ideal))) ⟨m, fun _ => 0, g⟩ (fun r => (∀ c : Dev Cert.RetFwdReferenceIdeal.nD,
      r.2.mem ((c.tc : Thread Cert.RetFwdReferenceIdeal.nD Cert.RetFwdReferenceIdeal.τ).loc Cert.RetFwdReferenceIdeal.main_arg0) = m ((c.tc : Thread Cert.RetFwdReferenceIdeal.nD Cert.RetFwdReferenceIdeal.τ).loc Cert.RetFwdReferenceIdeal.main_arg0))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ r.2.sem = fun _ => 0)

def quiescent_AttKernelIdeal_pre_finite_attention [hAttKernelIdeal : Cert.AttKernelIdeal.Facts] [hPre_finite_attention : Cert.Pre_finite_attention.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_finite_attention m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def quiescent_AttReferenceIdeal_pre_finite_attention [hAttReferenceIdeal : Cert.AttReferenceIdeal.Facts] [hPre_finite_attention : Cert.Pre_finite_attention.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite_attention m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v13_0)) (v1 : (c : Dev Cert.MergeKernelIdeal.nD) → Buf (Elt Ideal) ((c.tc : Thread Cert.MergeKernelIdeal.nD Cert.MergeKernelIdeal.τ).loc Cert.MergeKernelIdeal.main_v15_0)) (v2 : (c : Dev Cert.MergeKernelIdeal.nD) → Buf (Elt Ideal) ((c.tc : Thread Cert.MergeKernelIdeal.nD Cert.MergeKernelIdeal.τ).loc Cert.MergeKernelIdeal.main_v15_1)) (v3 : (c : Dev Cert.MergeKernelIdeal.nD) → Buf (Elt Ideal) ((c.tc : Thread Cert.MergeKernelIdeal.nD Cert.MergeKernelIdeal.τ).loc Cert.MergeKernelIdeal.main_v15_2)) (v4 : (c : Dev Cert.MergeKernelIdeal.nD) → Buf (Elt Ideal) ((c.tc : Thread Cert.MergeKernelIdeal.nD Cert.MergeKernelIdeal.τ).loc Cert.MergeKernelIdeal.main_v19)) (v5 : (c : Dev Cert.MergeKernelIdeal.nD) → Buf (Elt Ideal) ((c.tc : Thread Cert.MergeKernelIdeal.nD Cert.MergeKernelIdeal.τ).loc Cert.MergeKernelIdeal.main_v15_3)) (v6 : (c : Dev Cert.MergeKernelIdeal.nD) → Buf (Elt Ideal) ((c.tc : Thread Cert.MergeKernelIdeal.nD Cert.MergeKernelIdeal.τ).loc Cert.MergeKernelIdeal.main_v15_4)) (v7 : (c : Dev Cert.MergeKernelIdeal.nD) → Buf (Elt Ideal) ((c.tc : Thread Cert.MergeKernelIdeal.nD Cert.MergeKernelIdeal.τ).loc Cert.MergeKernelIdeal.main_v15_5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v13_0) = v0 c
          ∧ r.2.mem ((c.tc : Thread Cert.MergeKernelIdeal.nD Cert.MergeKernelIdeal.τ).loc Cert.MergeKernelIdeal.main_v15_0) = v1 c
          ∧ r.2.mem ((c.tc : Thread Cert.MergeKernelIdeal.nD Cert.MergeKernelIdeal.τ).loc Cert.MergeKernelIdeal.main_v15_1) = v2 c
          ∧ r.2.mem ((c.tc : Thread Cert.MergeKernelIdeal.nD Cert.MergeKernelIdeal.τ).loc Cert.MergeKernelIdeal.main_v15_2) = v3 c
          ∧ r.2.mem ((c.tc : Thread Cert.MergeKernelIdeal.nD Cert.MergeKernelIdeal.τ).loc Cert.MergeKernelIdeal.main_v19) = v4 c
          ∧ r.2.mem ((c.tc : Thread Cert.MergeKernelIdeal.nD Cert.MergeKernelIdeal.τ).loc Cert.MergeKernelIdeal.main_v15_3) = v5 c
          ∧ r.2.mem ((c.tc : Thread Cert.MergeKernelIdeal.nD Cert.MergeKernelIdeal.τ).loc Cert.MergeKernelIdeal.main_v15_4) = v6 c
          ∧ r.2.mem ((c.tc : Thread Cert.MergeKernelIdeal.nD Cert.MergeKernelIdeal.τ).loc Cert.MergeKernelIdeal.main_v15_5) = v7 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_v37) = v1 c
          ∧ r.2.mem ((c.tc : Thread Cert.MergeReferenceIdeal.nD Cert.MergeReferenceIdeal.τ).loc Cert.MergeReferenceIdeal.main_v40) = v2 c
          ∧ r.2.mem ((c.tc : Thread Cert.MergeReferenceIdeal.nD Cert.MergeReferenceIdeal.τ).loc Cert.MergeReferenceIdeal.main_v42) = v3 c
          ∧ r.2.mem ((c.tc : Thread Cert.MergeReferenceIdeal.nD Cert.MergeReferenceIdeal.τ).loc Cert.MergeReferenceIdeal.main_v32) = v4 c
          ∧ r.2.mem ((c.tc : Thread Cert.MergeReferenceIdeal.nD Cert.MergeReferenceIdeal.τ).loc Cert.MergeReferenceIdeal.main_v44) = v5 c
          ∧ r.2.mem ((c.tc : Thread Cert.MergeReferenceIdeal.nD Cert.MergeReferenceIdeal.τ).loc Cert.MergeReferenceIdeal.main_v46) = v6 c
          ∧ r.2.mem ((c.tc : Thread Cert.MergeReferenceIdeal.nD Cert.MergeReferenceIdeal.τ).loc Cert.MergeReferenceIdeal.main_v48) = v7 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_RetKernel_RetKernelIdeal : Prop :=
  True

def algebraic_RetKernelIdeal_RetReferenceIdeal_pre_finite [hRetKernelIdeal : Cert.RetKernelIdeal.Facts] [hRetReferenceIdeal : Cert.RetReferenceIdeal.Facts] [hPre_finite : Cert.Pre_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v227)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v227) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v282) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_ProjKernel_ProjKernelIdeal : Prop :=
  True

def algebraic_ProjKernelIdeal_ProjReferenceIdeal_pre_finite_projection [hProjKernelIdeal : Cert.ProjKernelIdeal.Facts] [hProjReferenceIdeal : Cert.ProjReferenceIdeal.Facts] [hPre_finite_projection : Cert.Pre_finite_projection.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_finite_projection m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v8_0)) (v1 : (c : Dev Cert.ProjKernelIdeal.nD) → Buf (Elt Ideal) ((c.tc : Thread Cert.ProjKernelIdeal.nD Cert.ProjKernelIdeal.τ).loc Cert.ProjKernelIdeal.main_v12)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8_0) = v0 c
          ∧ r.2.mem ((c.tc : Thread Cert.ProjKernelIdeal.nD Cert.ProjKernelIdeal.τ).loc Cert.ProjKernelIdeal.main_v12) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v39) = v0 c
          ∧ r.2.mem ((c.tc : Thread Cert.ProjReferenceIdeal.nD Cert.ProjReferenceIdeal.τ).loc Cert.ProjReferenceIdeal.main_v23) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_ChanKernel_ChanKernelIdeal : Prop :=
  True

def algebraic_ChanKernelIdeal_ChanReferenceIdeal_pre_finite_channel [hChanKernelIdeal : Cert.ChanKernelIdeal.Facts] [hChanReferenceIdeal : Cert.ChanReferenceIdeal.Facts] [hPre_finite_channel : Cert.Pre_finite_channel.Facts] : Prop :=
  ∀ (m : (ℓ : Loc Cert.ChanKernelIdeal.nD Cert.ChanKernelIdeal.τ Cert.ChanKernelIdeal.sig) → Buf (Elt Ideal) ℓ) (g : Dev Cert.ChanKernelIdeal.nD → PrngReg)
    (m' : (ℓ : Loc Cert.ChanReferenceIdeal.nD Cert.ChanReferenceIdeal.τ Cert.ChanReferenceIdeal.sig) → Buf (Elt Ideal) ℓ) (g' : Dev Cert.ChanReferenceIdeal.nD → PrngReg), Pre_ChanKernelIdeal_finite_channel m →
    (∀ c : Dev Cert.ChanKernelIdeal.nD,
      m' ((c.tc : Thread Cert.ChanReferenceIdeal.nD Cert.ChanReferenceIdeal.τ).loc Cert.ChanReferenceIdeal.main_arg0) = m ((c.tc : Thread Cert.ChanKernelIdeal.nD Cert.ChanKernelIdeal.τ).loc Cert.ChanKernelIdeal.main_arg0)
      ∧ m' ((c.tc : Thread Cert.ChanReferenceIdeal.nD Cert.ChanReferenceIdeal.τ).loc Cert.ChanReferenceIdeal.main_arg1) = m ((c.tc : Thread Cert.ChanKernelIdeal.nD Cert.ChanKernelIdeal.τ).loc Cert.ChanKernelIdeal.main_arg1)
      ∧ m' ((c.tc : Thread Cert.ChanReferenceIdeal.nD Cert.ChanReferenceIdeal.τ).loc Cert.ChanReferenceIdeal.main_arg2) = m ((c.tc : Thread Cert.ChanKernelIdeal.nD Cert.ChanKernelIdeal.τ).loc Cert.ChanKernelIdeal.main_arg2)
      ∧ m' ((c.tc : Thread Cert.ChanReferenceIdeal.nD Cert.ChanReferenceIdeal.τ).loc Cert.ChanReferenceIdeal.main_arg3) = m ((c.tc : Thread Cert.ChanKernelIdeal.nD Cert.ChanKernelIdeal.τ).loc Cert.ChanKernelIdeal.main_arg3)
      ∧ m' ((c.tc : Thread Cert.ChanReferenceIdeal.nD Cert.ChanReferenceIdeal.τ).loc Cert.ChanReferenceIdeal.main_arg4) = m ((c.tc : Thread Cert.ChanKernelIdeal.nD Cert.ChanKernelIdeal.τ).loc Cert.ChanKernelIdeal.main_arg4)
      ∧ m' ((c.tc : Thread Cert.ChanReferenceIdeal.nD Cert.ChanReferenceIdeal.τ).loc Cert.ChanReferenceIdeal.main_arg5) = m ((c.tc : Thread Cert.ChanKernelIdeal.nD Cert.ChanKernelIdeal.τ).loc Cert.ChanKernelIdeal.main_arg5)
      ∧ m' ((c.tc : Thread Cert.ChanReferenceIdeal.nD Cert.ChanReferenceIdeal.τ).loc Cert.ChanReferenceIdeal.main_arg6) = m ((c.tc : Thread Cert.ChanKernelIdeal.nD Cert.ChanKernelIdeal.τ).loc Cert.ChanKernelIdeal.main_arg6)) →
    ∃ (v0 : (c : Dev Cert.ChanKernelIdeal.nD) → Buf (Elt Ideal) ((c.tc : Thread Cert.ChanKernelIdeal.nD Cert.ChanKernelIdeal.τ).loc Cert.ChanKernelIdeal.main_v18)) (v1 : (c : Dev Cert.ChanKernelIdeal.nD) → Buf (Elt Ideal) ((c.tc : Thread Cert.ChanKernelIdeal.nD Cert.ChanKernelIdeal.τ).loc Cert.ChanKernelIdeal.main_v13_2)) (v2 : (c : Dev Cert.ChanKernelIdeal.nD) → Buf (Elt Ideal) ((c.tc : Thread Cert.ChanKernelIdeal.nD Cert.ChanKernelIdeal.τ).loc Cert.ChanKernelIdeal.main_v22)) (v3 : (c : Dev Cert.ChanKernelIdeal.nD) → Buf (Elt Ideal) ((c.tc : Thread Cert.ChanKernelIdeal.nD Cert.ChanKernelIdeal.τ).loc Cert.ChanKernelIdeal.main_v26)) (v4 : (c : Dev Cert.ChanKernelIdeal.nD) → Buf (Elt Ideal) ((c.tc : Thread Cert.ChanKernelIdeal.nD Cert.ChanKernelIdeal.τ).loc Cert.ChanKernelIdeal.main_v12_4)) (v5 : (c : Dev Cert.ChanKernelIdeal.nD) → Buf (Elt Ideal) ((c.tc : Thread Cert.ChanKernelIdeal.nD Cert.ChanKernelIdeal.τ).loc Cert.ChanKernelIdeal.main_v12_0)) (v6 : (c : Dev Cert.ChanKernelIdeal.nD) → Buf (Elt Ideal) ((c.tc : Thread Cert.ChanKernelIdeal.nD Cert.ChanKernelIdeal.τ).loc Cert.ChanKernelIdeal.main_v12_3)) (v7 : (c : Dev Cert.ChanKernelIdeal.nD) → Buf (Elt Ideal) ((c.tc : Thread Cert.ChanKernelIdeal.nD Cert.ChanKernelIdeal.τ).loc Cert.ChanKernelIdeal.main_v13_0)) (v8 : (c : Dev Cert.ChanKernelIdeal.nD) → Buf (Elt Ideal) ((c.tc : Thread Cert.ChanKernelIdeal.nD Cert.ChanKernelIdeal.τ).loc Cert.ChanKernelIdeal.main_v13_1)),
      θ_run (Cert.ChanKernelIdeal.defs (F := Ideal)) (onTc (τ := Cert.ChanKernelIdeal.τ) (Cert.ChanKernelIdeal.main (F := Ideal))) ⟨m, fun _ => 0, g⟩ (fun r => ∀ c : Dev Cert.ChanKernelIdeal.nD,
          r.2.mem ((c.tc : Thread Cert.ChanKernelIdeal.nD Cert.ChanKernelIdeal.τ).loc Cert.ChanKernelIdeal.main_v18) = v0 c
          ∧ r.2.mem ((c.tc : Thread Cert.ChanKernelIdeal.nD Cert.ChanKernelIdeal.τ).loc Cert.ChanKernelIdeal.main_v13_2) = v1 c
          ∧ r.2.mem ((c.tc : Thread Cert.ChanKernelIdeal.nD Cert.ChanKernelIdeal.τ).loc Cert.ChanKernelIdeal.main_v22) = v2 c
          ∧ r.2.mem ((c.tc : Thread Cert.ChanKernelIdeal.nD Cert.ChanKernelIdeal.τ).loc Cert.ChanKernelIdeal.main_v26) = v3 c
          ∧ r.2.mem ((c.tc : Thread Cert.ChanKernelIdeal.nD Cert.ChanKernelIdeal.τ).loc Cert.ChanKernelIdeal.main_v12_4) = v4 c
          ∧ r.2.mem ((c.tc : Thread Cert.ChanKernelIdeal.nD Cert.ChanKernelIdeal.τ).loc Cert.ChanKernelIdeal.main_v12_0) = v5 c
          ∧ r.2.mem ((c.tc : Thread Cert.ChanKernelIdeal.nD Cert.ChanKernelIdeal.τ).loc Cert.ChanKernelIdeal.main_v12_3) = v6 c
          ∧ r.2.mem ((c.tc : Thread Cert.ChanKernelIdeal.nD Cert.ChanKernelIdeal.τ).loc Cert.ChanKernelIdeal.main_v13_0) = v7 c
          ∧ r.2.mem ((c.tc : Thread Cert.ChanKernelIdeal.nD Cert.ChanKernelIdeal.τ).loc Cert.ChanKernelIdeal.main_v13_1) = v8 c
          ∧ r.2.mem ((c.tc : Thread Cert.ChanKernelIdeal.nD Cert.ChanKernelIdeal.τ).loc Cert.ChanKernelIdeal.main_arg0) = m ((c.tc : Thread Cert.ChanKernelIdeal.nD Cert.ChanKernelIdeal.τ).loc Cert.ChanKernelIdeal.main_arg0)
          ∧ r.2.mem ((c.tc : Thread Cert.ChanKernelIdeal.nD Cert.ChanKernelIdeal.τ).loc Cert.ChanKernelIdeal.main_arg1) = m ((c.tc : Thread Cert.ChanKernelIdeal.nD Cert.ChanKernelIdeal.τ).loc Cert.ChanKernelIdeal.main_arg1)
          ∧ r.2.mem ((c.tc : Thread Cert.ChanKernelIdeal.nD Cert.ChanKernelIdeal.τ).loc Cert.ChanKernelIdeal.main_arg2) = m ((c.tc : Thread Cert.ChanKernelIdeal.nD Cert.ChanKernelIdeal.τ).loc Cert.ChanKernelIdeal.main_arg2)
          ∧ r.2.mem ((c.tc : Thread Cert.ChanKernelIdeal.nD Cert.ChanKernelIdeal.τ).loc Cert.ChanKernelIdeal.main_arg3) = m ((c.tc : Thread Cert.ChanKernelIdeal.nD Cert.ChanKernelIdeal.τ).loc Cert.ChanKernelIdeal.main_arg3)
          ∧ r.2.mem ((c.tc : Thread Cert.ChanKernelIdeal.nD Cert.ChanKernelIdeal.τ).loc Cert.ChanKernelIdeal.main_arg4) = m ((c.tc : Thread Cert.ChanKernelIdeal.nD Cert.ChanKernelIdeal.τ).loc Cert.ChanKernelIdeal.main_arg4)
          ∧ r.2.mem ((c.tc : Thread Cert.ChanKernelIdeal.nD Cert.ChanKernelIdeal.τ).loc Cert.ChanKernelIdeal.main_arg5) = m ((c.tc : Thread Cert.ChanKernelIdeal.nD Cert.ChanKernelIdeal.τ).loc Cert.ChanKernelIdeal.main_arg5)
          ∧ r.2.mem ((c.tc : Thread Cert.ChanKernelIdeal.nD Cert.ChanKernelIdeal.τ).loc Cert.ChanKernelIdeal.main_arg6) = m ((c.tc : Thread Cert.ChanKernelIdeal.nD Cert.ChanKernelIdeal.τ).loc Cert.ChanKernelIdeal.main_arg6))
      ∧ θ_run (Cert.ChanReferenceIdeal.defs (F := Ideal)) (onTc (τ := Cert.ChanReferenceIdeal.τ) (Cert.ChanReferenceIdeal.main (F := Ideal))) ⟨m', fun _ => 0, g'⟩ (fun r => ∀ c : Dev Cert.ChanReferenceIdeal.nD,
          r.2.mem ((c.tc : Thread Cert.ChanReferenceIdeal.nD Cert.ChanReferenceIdeal.τ).loc Cert.ChanReferenceIdeal.main_v46) = v0 c
          ∧ r.2.mem ((c.tc : Thread Cert.ChanReferenceIdeal.nD Cert.ChanReferenceIdeal.τ).loc Cert.ChanReferenceIdeal.main_v101) = v1 c
          ∧ r.2.mem ((c.tc : Thread Cert.ChanReferenceIdeal.nD Cert.ChanReferenceIdeal.τ).loc Cert.ChanReferenceIdeal.main_v85) = v2 c
          ∧ r.2.mem ((c.tc : Thread Cert.ChanReferenceIdeal.nD Cert.ChanReferenceIdeal.τ).loc Cert.ChanReferenceIdeal.main_v58) = v3 c
          ∧ r.2.mem ((c.tc : Thread Cert.ChanReferenceIdeal.nD Cert.ChanReferenceIdeal.τ).loc Cert.ChanReferenceIdeal.main_v102) = v4 c
          ∧ r.2.mem ((c.tc : Thread Cert.ChanReferenceIdeal.nD Cert.ChanReferenceIdeal.τ).loc Cert.ChanReferenceIdeal.main_v104) = v5 c
          ∧ r.2.mem ((c.tc : Thread Cert.ChanReferenceIdeal.nD Cert.ChanReferenceIdeal.τ).loc Cert.ChanReferenceIdeal.main_v107) = v6 c
          ∧ r.2.mem ((c.tc : Thread Cert.ChanReferenceIdeal.nD Cert.ChanReferenceIdeal.τ).loc Cert.ChanReferenceIdeal.main_v110) = v7 c
          ∧ r.2.mem ((c.tc : Thread Cert.ChanReferenceIdeal.nD Cert.ChanReferenceIdeal.τ).loc Cert.ChanReferenceIdeal.main_v113) = v8 c
          ∧ r.2.mem ((c.tc : Thread Cert.ChanReferenceIdeal.nD Cert.ChanReferenceIdeal.τ).loc Cert.ChanReferenceIdeal.main_arg0) = m' ((c.tc : Thread Cert.ChanReferenceIdeal.nD Cert.ChanReferenceIdeal.τ).loc Cert.ChanReferenceIdeal.main_arg0)
          ∧ r.2.mem ((c.tc : Thread Cert.ChanReferenceIdeal.nD Cert.ChanReferenceIdeal.τ).loc Cert.ChanReferenceIdeal.main_arg1) = m' ((c.tc : Thread Cert.ChanReferenceIdeal.nD Cert.ChanReferenceIdeal.τ).loc Cert.ChanReferenceIdeal.main_arg1)
          ∧ r.2.mem ((c.tc : Thread Cert.ChanReferenceIdeal.nD Cert.ChanReferenceIdeal.τ).loc Cert.ChanReferenceIdeal.main_arg2) = m' ((c.tc : Thread Cert.ChanReferenceIdeal.nD Cert.ChanReferenceIdeal.τ).loc Cert.ChanReferenceIdeal.main_arg2)
          ∧ r.2.mem ((c.tc : Thread Cert.ChanReferenceIdeal.nD Cert.ChanReferenceIdeal.τ).loc Cert.ChanReferenceIdeal.main_arg3) = m' ((c.tc : Thread Cert.ChanReferenceIdeal.nD Cert.ChanReferenceIdeal.τ).loc Cert.ChanReferenceIdeal.main_arg3)
          ∧ r.2.mem ((c.tc : Thread Cert.ChanReferenceIdeal.nD Cert.ChanReferenceIdeal.τ).loc Cert.ChanReferenceIdeal.main_arg4) = m' ((c.tc : Thread Cert.ChanReferenceIdeal.nD Cert.ChanReferenceIdeal.τ).loc Cert.ChanReferenceIdeal.main_arg4)
          ∧ r.2.mem ((c.tc : Thread Cert.ChanReferenceIdeal.nD Cert.ChanReferenceIdeal.τ).loc Cert.ChanReferenceIdeal.main_arg5) = m' ((c.tc : Thread Cert.ChanReferenceIdeal.nD Cert.ChanReferenceIdeal.τ).loc Cert.ChanReferenceIdeal.main_arg5)
          ∧ r.2.mem ((c.tc : Thread Cert.ChanReferenceIdeal.nD Cert.ChanReferenceIdeal.τ).loc Cert.ChanReferenceIdeal.main_arg6) = m' ((c.tc : Thread Cert.ChanReferenceIdeal.nD Cert.ChanReferenceIdeal.τ).loc Cert.ChanReferenceIdeal.main_arg6))

def preserves_RetFwdKernel_RetFwdKernelIdeal : Prop :=
  True

def algebraic_RetFwdKernelIdeal_RetFwdReferenceIdeal [hRetFwdKernelIdeal : Cert.RetFwdKernelIdeal.Facts] [hRetFwdReferenceIdeal : Cert.RetFwdReferenceIdeal.Facts] : Prop :=
  ∀ (m : (ℓ : Loc Cert.RetFwdKernelIdeal.nD Cert.RetFwdKernelIdeal.τ Cert.RetFwdKernelIdeal.sig) → Buf (Elt Ideal) ℓ) (g : Dev Cert.RetFwdKernelIdeal.nD → PrngReg)
    (m' : (ℓ : Loc Cert.RetFwdReferenceIdeal.nD Cert.RetFwdReferenceIdeal.τ Cert.RetFwdReferenceIdeal.sig) → Buf (Elt Ideal) ℓ) (g' : Dev Cert.RetFwdReferenceIdeal.nD → PrngReg), Pre_RetFwdKernelIdeal m →
    (∀ c : Dev Cert.RetFwdKernelIdeal.nD,
      m' ((c.tc : Thread Cert.RetFwdReferenceIdeal.nD Cert.RetFwdReferenceIdeal.τ).loc Cert.RetFwdReferenceIdeal.main_arg0) = m ((c.tc : Thread Cert.RetFwdKernelIdeal.nD Cert.RetFwdKernelIdeal.τ).loc Cert.RetFwdKernelIdeal.main_arg0)) →
    ∃ (v0 : (c : Dev Cert.RetFwdKernelIdeal.nD) → Buf (Elt Ideal) ((c.tc : Thread Cert.RetFwdKernelIdeal.nD Cert.RetFwdKernelIdeal.τ).loc Cert.RetFwdKernelIdeal.main_v69_3)) (v1 : (c : Dev Cert.RetFwdKernelIdeal.nD) → Buf (Elt Ideal) ((c.tc : Thread Cert.RetFwdKernelIdeal.nD Cert.RetFwdKernelIdeal.τ).loc Cert.RetFwdKernelIdeal.main_v69_0)) (v2 : (c : Dev Cert.RetFwdKernelIdeal.nD) → Buf (Elt Ideal) ((c.tc : Thread Cert.RetFwdKernelIdeal.nD Cert.RetFwdKernelIdeal.τ).loc Cert.RetFwdKernelIdeal.main_v69_1)) (v3 : (c : Dev Cert.RetFwdKernelIdeal.nD) → Buf (Elt Ideal) ((c.tc : Thread Cert.RetFwdKernelIdeal.nD Cert.RetFwdKernelIdeal.τ).loc Cert.RetFwdKernelIdeal.main_v69_2)) (v4 : (c : Dev Cert.RetFwdKernelIdeal.nD) → Buf (Elt Ideal) ((c.tc : Thread Cert.RetFwdKernelIdeal.nD Cert.RetFwdKernelIdeal.τ).loc Cert.RetFwdKernelIdeal.main_v69_4)),
      θ_run (Cert.RetFwdKernelIdeal.defs (F := Ideal)) (onTc (τ := Cert.RetFwdKernelIdeal.τ) (Cert.RetFwdKernelIdeal.main (F := Ideal))) ⟨m, fun _ => 0, g⟩ (fun r => ∀ c : Dev Cert.RetFwdKernelIdeal.nD,
          r.2.mem ((c.tc : Thread Cert.RetFwdKernelIdeal.nD Cert.RetFwdKernelIdeal.τ).loc Cert.RetFwdKernelIdeal.main_v69_3) = v0 c
          ∧ r.2.mem ((c.tc : Thread Cert.RetFwdKernelIdeal.nD Cert.RetFwdKernelIdeal.τ).loc Cert.RetFwdKernelIdeal.main_v69_0) = v1 c
          ∧ r.2.mem ((c.tc : Thread Cert.RetFwdKernelIdeal.nD Cert.RetFwdKernelIdeal.τ).loc Cert.RetFwdKernelIdeal.main_v69_1) = v2 c
          ∧ r.2.mem ((c.tc : Thread Cert.RetFwdKernelIdeal.nD Cert.RetFwdKernelIdeal.τ).loc Cert.RetFwdKernelIdeal.main_v69_2) = v3 c
          ∧ r.2.mem ((c.tc : Thread Cert.RetFwdKernelIdeal.nD Cert.RetFwdKernelIdeal.τ).loc Cert.RetFwdKernelIdeal.main_v69_4) = v4 c
          ∧ r.2.mem ((c.tc : Thread Cert.RetFwdKernelIdeal.nD Cert.RetFwdKernelIdeal.τ).loc Cert.RetFwdKernelIdeal.main_arg0) = m ((c.tc : Thread Cert.RetFwdKernelIdeal.nD Cert.RetFwdKernelIdeal.τ).loc Cert.RetFwdKernelIdeal.main_arg0))
      ∧ θ_run (Cert.RetFwdReferenceIdeal.defs (F := Ideal)) (onTc (τ := Cert.RetFwdReferenceIdeal.τ) (Cert.RetFwdReferenceIdeal.main (F := Ideal))) ⟨m', fun _ => 0, g'⟩ (fun r => ∀ c : Dev Cert.RetFwdReferenceIdeal.nD,
          r.2.mem ((c.tc : Thread Cert.RetFwdReferenceIdeal.nD Cert.RetFwdReferenceIdeal.τ).loc Cert.RetFwdReferenceIdeal.main_v171) = v0 c
          ∧ r.2.mem ((c.tc : Thread Cert.RetFwdReferenceIdeal.nD Cert.RetFwdReferenceIdeal.τ).loc Cert.RetFwdReferenceIdeal.main_v173) = v1 c
          ∧ r.2.mem ((c.tc : Thread Cert.RetFwdReferenceIdeal.nD Cert.RetFwdReferenceIdeal.τ).loc Cert.RetFwdReferenceIdeal.main_v175) = v2 c
          ∧ r.2.mem ((c.tc : Thread Cert.RetFwdReferenceIdeal.nD Cert.RetFwdReferenceIdeal.τ).loc Cert.RetFwdReferenceIdeal.main_v177) = v3 c
          ∧ r.2.mem ((c.tc : Thread Cert.RetFwdReferenceIdeal.nD Cert.RetFwdReferenceIdeal.τ).loc Cert.RetFwdReferenceIdeal.main_v178) = v4 c
          ∧ r.2.mem ((c.tc : Thread Cert.RetFwdReferenceIdeal.nD Cert.RetFwdReferenceIdeal.τ).loc Cert.RetFwdReferenceIdeal.main_arg0) = m' ((c.tc : Thread Cert.RetFwdReferenceIdeal.nD Cert.RetFwdReferenceIdeal.τ).loc Cert.RetFwdReferenceIdeal.main_arg0))

def preserves_AttKernel_AttKernelIdeal : Prop :=
  IdealRules.named_const.Statement Cert.AttKernelIdeal.κ "mask" .f32 0xF149F2CA#32 ⊥

def algebraic_AttKernelIdeal_AttReferenceIdeal_pre_finite_attention [hAttKernelIdeal : Cert.AttKernelIdeal.Facts] [hAttReferenceIdeal : Cert.AttReferenceIdeal.Facts] [hPre_finite_attention : Cert.Pre_finite_attention.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_finite_attention m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)) →
    ∃ (v0 : (c : Dev Cert.AttKernelIdeal.nD) → Buf (Elt Ideal) ((c.tc : Thread Cert.AttKernelIdeal.nD Cert.AttKernelIdeal.τ).loc Cert.AttKernelIdeal.main_v10)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v10) = v0 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v55) = v0 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1))

def Claim : Prop :=
  ∃ (hMergeKernel : Cert.MergeKernel.Facts) (hMergeKernelIdeal : Cert.MergeKernelIdeal.Facts) (hMergeReferenceIdeal : Cert.MergeReferenceIdeal.Facts) (hRetKernel : Cert.RetKernel.Facts) (hRetKernelIdeal : Cert.RetKernelIdeal.Facts) (hRetReferenceIdeal : Cert.RetReferenceIdeal.Facts) (hProjKernel : Cert.ProjKernel.Facts) (hProjKernelIdeal : Cert.ProjKernelIdeal.Facts) (hProjReferenceIdeal : Cert.ProjReferenceIdeal.Facts) (hChanKernel : Cert.ChanKernel.Facts) (hChanKernelIdeal : Cert.ChanKernelIdeal.Facts) (hChanReferenceIdeal : Cert.ChanReferenceIdeal.Facts) (hRetFwdKernel : Cert.RetFwdKernel.Facts) (hRetFwdKernelIdeal : Cert.RetFwdKernelIdeal.Facts) (hRetFwdReferenceIdeal : Cert.RetFwdReferenceIdeal.Facts) (hAttKernel : Cert.AttKernel.Facts) (hAttKernelIdeal : Cert.AttKernelIdeal.Facts) (hAttReferenceIdeal : Cert.AttReferenceIdeal.Facts) (hPre_finite : Cert.Pre_finite.Facts) (hPre_finite_projection : Cert.Pre_finite_projection.Facts) (hPre_finite_channel : Cert.Pre_finite_channel.Facts) (hPre_finite_attention : Cert.Pre_finite_attention.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_RetKernel (hRetKernel := hRetKernel)
    ∧ quiescent_RetKernelIdeal (hRetKernelIdeal := hRetKernelIdeal)
    ∧ quiescent_RetKernelIdeal_pre_finite (hRetKernelIdeal := hRetKernelIdeal) (hPre_finite := hPre_finite)
    ∧ quiescent_RetReferenceIdeal (hRetReferenceIdeal := hRetReferenceIdeal)
    ∧ quiescent_RetReferenceIdeal_pre_finite (hRetReferenceIdeal := hRetReferenceIdeal) (hPre_finite := hPre_finite)
    ∧ quiescent_ProjKernel (hProjKernel := hProjKernel)
    ∧ quiescent_ProjKernelIdeal (hProjKernelIdeal := hProjKernelIdeal)
    ∧ quiescent_ProjKernelIdeal_pre_finite_projection (hProjKernelIdeal := hProjKernelIdeal) (hPre_finite_projection := hPre_finite_projection)
    ∧ quiescent_ProjReferenceIdeal (hProjReferenceIdeal := hProjReferenceIdeal)
    ∧ quiescent_ProjReferenceIdeal_pre_finite_projection (hProjReferenceIdeal := hProjReferenceIdeal) (hPre_finite_projection := hPre_finite_projection)
    ∧ quiescent_ChanKernel (hChanKernel := hChanKernel)
    ∧ quiescent_ChanKernelIdeal (hChanKernelIdeal := hChanKernelIdeal)
    ∧ quiescent_ChanKernelIdeal_pre_finite_channel (hChanKernelIdeal := hChanKernelIdeal) (hPre_finite_channel := hPre_finite_channel)
    ∧ quiescent_ChanReferenceIdeal (hChanReferenceIdeal := hChanReferenceIdeal)
    ∧ quiescent_ChanReferenceIdeal_pre_finite_channel (hChanReferenceIdeal := hChanReferenceIdeal) (hPre_finite_channel := hPre_finite_channel)
    ∧ quiescent_RetFwdKernel (hRetFwdKernel := hRetFwdKernel)
    ∧ quiescent_RetFwdKernelIdeal (hRetFwdKernelIdeal := hRetFwdKernelIdeal)
    ∧ quiescent_RetFwdReferenceIdeal (hRetFwdReferenceIdeal := hRetFwdReferenceIdeal)
    ∧ quiescent_AttKernel (hAttKernel := hAttKernel)
    ∧ quiescent_AttKernelIdeal (hAttKernelIdeal := hAttKernelIdeal)
    ∧ quiescent_AttKernelIdeal_pre_finite_attention (hAttKernelIdeal := hAttKernelIdeal) (hPre_finite_attention := hPre_finite_attention)
    ∧ quiescent_AttReferenceIdeal (hAttReferenceIdeal := hAttReferenceIdeal)
    ∧ quiescent_AttReferenceIdeal_pre_finite_attention (hAttReferenceIdeal := hAttReferenceIdeal) (hPre_finite_attention := hPre_finite_attention)
    ∧ preserves_MergeKernel_MergeKernelIdeal
    ∧ algebraic_MergeKernelIdeal_MergeReferenceIdeal (hMergeKernelIdeal := hMergeKernelIdeal) (hMergeReferenceIdeal := hMergeReferenceIdeal)
    ∧ preserves_RetKernel_RetKernelIdeal
    ∧ algebraic_RetKernelIdeal_RetReferenceIdeal_pre_finite (hRetKernelIdeal := hRetKernelIdeal) (hRetReferenceIdeal := hRetReferenceIdeal) (hPre_finite := hPre_finite)
    ∧ preserves_ProjKernel_ProjKernelIdeal
    ∧ algebraic_ProjKernelIdeal_ProjReferenceIdeal_pre_finite_projection (hProjKernelIdeal := hProjKernelIdeal) (hProjReferenceIdeal := hProjReferenceIdeal) (hPre_finite_projection := hPre_finite_projection)
    ∧ preserves_ChanKernel_ChanKernelIdeal
    ∧ algebraic_ChanKernelIdeal_ChanReferenceIdeal_pre_finite_channel (hChanKernelIdeal := hChanKernelIdeal) (hChanReferenceIdeal := hChanReferenceIdeal) (hPre_finite_channel := hPre_finite_channel)
    ∧ preserves_RetFwdKernel_RetFwdKernelIdeal
    ∧ algebraic_RetFwdKernelIdeal_RetFwdReferenceIdeal (hRetFwdKernelIdeal := hRetFwdKernelIdeal) (hRetFwdReferenceIdeal := hRetFwdReferenceIdeal)
    ∧ preserves_AttKernel_AttKernelIdeal
    ∧ algebraic_AttKernelIdeal_AttReferenceIdeal_pre_finite_attention (hAttKernelIdeal := hAttKernelIdeal) (hAttReferenceIdeal := hAttReferenceIdeal) (hPre_finite_attention := hPre_finite_attention)
-- ==== Pre_finite.lean ====
abbrev S2x2048x6656 : Shape := ⟨3, ![2, 2048, 6656]⟩
abbrev S2x2048x1024 : Shape := ⟨3, ![2, 2048, 1024]⟩
abbrev S2x2048x3072 : Shape := ⟨3, ![2, 2048, 3072]⟩
abbrev S2x2048x4096 : Shape := ⟨3, ![2, 2048, 4096]⟩
abbrev S_ : Shape := ⟨0, ![]⟩

class Facts : Prop where
  slices_S2x2048x6656_S2x2048x3072_0_0_0 : S2x2048x6656.Slices ![0, 0, 0] S2x2048x3072
  concatenates_S2x2048x3072_S2x2048x1024_S2x2048x4096_d2 : Shape.Concatenates [S2x2048x3072, S2x2048x1024] S2x2048x4096 2
  bcast_S_S2x2048x4096 : S_.BroadcastsInDim S2x2048x4096 (![] : Fin 0 → Fin S2x2048x4096.rank)

variable [Facts]

def fn {F : FTy → Type} [FloatOps F] (main_arg0 : FVec F S2x2048x6656 .f32) (main_arg1 : FVec F S2x2048x1024 .f32) : IVec S2x2048x4096 1 :=
  let main_v0 : FVec F S2x2048x3072 .f32 := (extractStridedSlice S2x2048x3072 ![0, 0, 0] · slices_S2x2048x6656_S2x2048x3072_0_0_0) main_arg0
  let main_v1 : FVec F S2x2048x4096 .f32 := (fun a b => concatenate S2x2048x4096 2 [⟨S2x2048x3072, a⟩, ⟨S2x2048x1024, b⟩] concatenates_S2x2048x3072_S2x2048x1024_S2x2048x4096_d2) main_v0 main_arg1
  let main_v2 : FVec F S2x2048x4096 .f32 := Host.absf main_v1
  let main_cst : FVec F S_ .f32 := constant S_ .f32 0x7F800000#32
  let main_v3 : FVec F S2x2048x4096 .f32 := broadcastInDim S2x2048x4096 ![] bcast_S_S2x2048x4096 main_cst
  let main_v4 : IVec S2x2048x4096 1 := cmpf .olt main_v2 main_v3
  main_v4
-- ==== Pre_finite_attention.lean ====
abbrev S2x2048x6656 : Shape := ⟨3, ![2, 2048, 6656]⟩
abbrev S8x320 : Shape := ⟨2, ![8, 320]⟩
abbrev S2x2048x1024 : Shape := ⟨3, ![2, 2048, 1024]⟩
abbrev S4194304 : Shape := ⟨1, ![4194304]⟩
abbrev S2560 : Shape := ⟨1, ![2560]⟩
abbrev S4196864 : Shape := ⟨1, ![4196864]⟩
abbrev S_ : Shape := ⟨0, ![]⟩

class Facts : Prop where
  slices_S2x2048x6656_S2x2048x1024_0_0_3072 : S2x2048x6656.Slices ![0, 0, 3072] S2x2048x1024
  shapeCasts_S2x2048x1024_S4194304 : S2x2048x1024.ShapeCasts S4194304
  shapeCasts_S8x320_S2560 : S8x320.ShapeCasts S2560
  concatenates_S4194304_S2560_S4196864_d0 : Shape.Concatenates [S4194304, S2560] S4196864 0
  bcast_S_S4196864 : S_.BroadcastsInDim S4196864 (![] : Fin 0 → Fin S4196864.rank)

variable [Facts]

def fn {F : FTy → Type} [FloatOps F] (main_arg0 : FVec F S2x2048x6656 .f32) (main_arg1 : FVec F S8x320 .f32) : IVec S4196864 1 :=
  let main_v0 : FVec F S2x2048x1024 .f32 := (extractStridedSlice S2x2048x1024 ![0, 0, 3072] · slices_S2x2048x6656_S2x2048x1024_0_0_3072) main_arg0
  let main_v1 : FVec F S4194304 .f32 := shapeCast S4194304 main_v0 shapeCasts_S2x2048x1024_S4194304
  let main_v2 : FVec F S2560 .f32 := shapeCast S2560 main_arg1 shapeCasts_S8x320_S2560
  let main_v3 : FVec F S4196864 .f32 := (fun a b => concatenate S4196864 0 [⟨S4194304, a⟩, ⟨S2560, b⟩] concatenates_S4194304_S2560_S4196864_d0) main_v1 main_v2
  let main_v4 : FVec F S4196864 .f32 := Host.absf main_v3
  let main_cst : FVec F S_ .f32 := constant S_ .f32 0x7F800000#32
  let main_v5 : FVec F S4196864 .f32 := broadcastInDim S4196864 ![] bcast_S_S4196864 main_cst
  let main_v6 : IVec S4196864 1 := cmpf .olt main_v4 main_v5
  main_v6
-- ==== Pre_finite_channel.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4194304 : Shape := ⟨1, ![4194304]⟩
abbrev S2883584 : Shape := ⟨1, ![2883584]⟩
abbrev S17041408 : Shape := ⟨1, ![17041408]⟩
abbrev S_ : Shape := ⟨0, ![]⟩

class Facts : Prop where
  shapeCasts_S2x2048x1024_S4194304 : S2x2048x1024.ShapeCasts S4194304
  shapeCasts_S1024x2816_S2883584 : S1024x2816.ShapeCasts S2883584
  shapeCasts_S2816x1024_S2883584 : S2816x1024.ShapeCasts S2883584
  concatenates_S4194304_S1024_S2883584_S2883584_S2883584_S1024_S4194304_S17041408_d0 : Shape.Concatenates [S4194304, S1024, S2883584, S2883584, S2883584, S1024, S4194304] S17041408 0
  bcast_S_S17041408 : S_.BroadcastsInDim S17041408 (![] : Fin 0 → Fin S17041408.rank)

variable [Facts]

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S2x2048x1024 .f32) : IVec S17041408 1 :=
  let main_v0 : FVec F S4194304 .f32 := shapeCast S4194304 main_arg0 shapeCasts_S2x2048x1024_S4194304
  let main_v1 : FVec F S2883584 .f32 := shapeCast S2883584 main_arg2 shapeCasts_S1024x2816_S2883584
  let main_v2 : FVec F S2883584 .f32 := shapeCast S2883584 main_arg3 shapeCasts_S1024x2816_S2883584
  let main_v3 : FVec F S2883584 .f32 := shapeCast S2883584 main_arg4 shapeCasts_S2816x1024_S2883584
  let main_v4 : FVec F S4194304 .f32 := shapeCast S4194304 main_arg6 shapeCasts_S2x2048x1024_S4194304
  let main_v5 : FVec F S17041408 .f32 := concatenate S17041408 0 [⟨S4194304, main_v0⟩, ⟨S1024, main_arg1⟩, ⟨S2883584, main_v1⟩, ⟨S2883584, main_v2⟩, ⟨S2883584, main_v3⟩, ⟨S1024, main_arg5⟩, ⟨S4194304, main_v4⟩] concatenates_S4194304_S1024_S2883584_S2883584_S2883584_S1024_S4194304_S17041408_d0
  let main_v6 : FVec F S17041408 .f32 := Host.absf main_v5
  let main_cst : FVec F S_ .f32 := constant S_ .f32 0x7F800000#32
  let main_v7 : FVec F S17041408 .f32 := broadcastInDim S17041408 ![] bcast_S_S17041408 main_cst
  let main_v8 : IVec S17041408 1 := cmpf .olt main_v6 main_v7
  main_v8
-- ==== Pre_finite_projection.lean ====
abbrev S2x2048x1024 : Shape := ⟨3, ![2, 2048, 1024]⟩
abbrev S1024 : Shape := ⟨1, ![1024]⟩
abbrev S1024x6656 : Shape := ⟨2, ![1024, 6656]⟩
abbrev S2x2048x6656 : Shape := ⟨3, ![2, 2048, 6656]⟩
abbrev S4194304 : Shape := ⟨1, ![4194304]⟩
abbrev S6815744 : Shape := ⟨1, ![6815744]⟩
abbrev S27262976 : Shape := ⟨1, ![27262976]⟩
abbrev S38274048 : Shape := ⟨1, ![38274048]⟩
abbrev S_ : Shape := ⟨0, ![]⟩

class Facts : Prop where
  shapeCasts_S2x2048x1024_S4194304 : S2x2048x1024.ShapeCasts S4194304
  shapeCasts_S1024x6656_S6815744 : S1024x6656.ShapeCasts S6815744
  shapeCasts_S2x2048x6656_S27262976 : S2x2048x6656.ShapeCasts S27262976
  concatenates_S4194304_S1024_S6815744_S27262976_S38274048_d0 : Shape.Concatenates [S4194304, S1024, S6815744, S27262976] S38274048 0
  bcast_S_S38274048 : S_.BroadcastsInDim S38274048 (![] : Fin 0 → Fin S38274048.rank)

variable [Facts]

def fn {F : FTy → Type} [FloatOps F] (main_arg0 : FVec F S2x2048x1024 .f32) (main_arg1 : FVec F S1024 .f32) (main_arg2 : FVec F S1024x6656 .f32) (main_arg3 : FVec F S2x2048x6656 .f32) (main_arg4 : FVec F S2x2048x1024 .f32) : IVec S38274048 1 :=
  let main_v0 : FVec F S4194304 .f32 := shapeCast S4194304 main_arg0 shapeCasts_S2x2048x1024_S4194304
  let main_v1 : FVec F S6815744 .f32 := shapeCast S6815744 main_arg2 shapeCasts_S1024x6656_S6815744
  let main_v2 : FVec F S27262976 .f32 := shapeCast S27262976 main_arg3 shapeCasts_S2x2048x6656_S27262976
  let main_v3 : FVec F S38274048 .f32 := concatenate S38274048 0 [⟨S4194304, main_v0⟩, ⟨S1024, main_arg1⟩, ⟨S6815744, main_v1⟩, ⟨S27262976, main_v2⟩] concatenates_S4194304_S1024_S6815744_S27262976_S38274048_d0
  let main_v4 : FVec F S38274048 .f32 := Host.absf main_v3
  let main_cst : FVec F S_ .f32 := constant S_ .f32 0x7F800000#32
  let main_v5 : FVec F S38274048 .f32 := broadcastInDim S38274048 ![] bcast_S_S38274048 main_cst
  let main_v6 : IVec S38274048 1 := cmpf .olt main_v4 main_v5
  main_v6
-- ==== MergeKernel.lean ====
abbrev S2x2048x1024 : Shape := ⟨3, ![2, 2048, 1024]⟩
abbrev S2x2048x6656 : Shape := ⟨3, ![2, 2048, 6656]⟩
abbrev S2x2048x512 : Shape := ⟨3, ![2, 2048, 512]⟩
abbrev S2048 : Shape := ⟨1, ![2048]⟩
abbrev S1024x1024 : Shape := ⟨2, ![1024, 1024]⟩
abbrev S512x1024 : Shape := ⟨2, ![512, 1024]⟩
abbrev S4096x6656 : Shape := ⟨2, ![4096, 6656]⟩
abbrev S4096x1024 : Shape := ⟨2, ![4096, 1024]⟩
abbrev S4096x512 : Shape := ⟨2, ![4096, 512]⟩
abbrev S512x4x256 : Shape := ⟨3, ![512, 4, 256]⟩
abbrev S4x512x256 : Shape := ⟨3, ![4, 512, 256]⟩
abbrev S1x2048 : Shape := ⟨2, ![1, 2048]⟩
abbrev S512x512 : Shape := ⟨2, ![512, 512]⟩
abbrev S1x512x256 : Shape := ⟨3, ![1, 512, 256]⟩
abbrev S512x256 : Shape := ⟨2, ![512, 256]⟩
abbrev S512x2048 : Shape := ⟨2, ![512, 2048]⟩
abbrev S4096x2048 : Shape := ⟨2, ![4096, 2048]⟩
abbrev S64x2048 : Shape := ⟨2, ![64, 2048]⟩
abbrev S8x2048 : Shape := ⟨2, ![8, 2048]⟩
abbrev S8x8x2048 : Shape := ⟨3, ![8, 8, 2048]⟩
abbrev S8x1x2048 : Shape := ⟨3, ![8, 1, 2048]⟩
abbrev S_ : Shape := ⟨0, ![]⟩

abbrev nBuf : Space → Nat
  | .hbm => 38
  | .vmem => 56
  | .smem => 0
  | _ => 0

abbrev bufTy : (tb : Table) → Fin (tcTables nBuf tb) → BufTy
  | .hbm, ⟨0, _⟩ => ⟨S2x2048x1024, .f32⟩
  | .hbm, ⟨1, _⟩ => ⟨S2x2048x6656, .f32⟩
  | .hbm, ⟨2, _⟩ => ⟨S2x2048x1024, .f32⟩
  | .hbm, ⟨3, _⟩ => ⟨S2x2048x512, .f32⟩
  | .hbm, ⟨4, _⟩ => ⟨S2048, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S4096x6656, .f32⟩
  | .hbm, ⟨10, _⟩ => ⟨S4096x6656, .bf16⟩
  | .hbm, ⟨11, _⟩ => ⟨S4096x1024, .f32⟩
  | .hbm, ⟨12, _⟩ => ⟨S4096x1024, .bf16⟩
  | .hbm, ⟨13, _⟩ => ⟨S4096x512, .f32⟩
  | .hbm, ⟨14, _⟩ => ⟨S4096x512, .bf16⟩
  | .hbm, ⟨15, _⟩ => ⟨S1024x1024, .bf16⟩
  | .hbm, ⟨16, _⟩ => ⟨S1024x1024, .bf16⟩
  | .hbm, ⟨17, _⟩ => ⟨S512x4x256, .f32⟩
  | .hbm, ⟨18, _⟩ => ⟨S4x512x256, .f32⟩
  | .hbm, ⟨19, _⟩ => ⟨S4x512x256, .bf16⟩
  | .hbm, ⟨20, _⟩ => ⟨S1x2048, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x512, .bf16⟩
  | .hbm, ⟨28, _⟩ => ⟨S4096x2048, .bf16⟩
  | .hbm, ⟨29, _⟩ => ⟨S4096x1024, .bf16⟩
  | .hbm, ⟨30, _⟩ => ⟨S4096x1024, .bf16⟩
  | .hbm, ⟨31, _⟩ => ⟨S4096x1024, .bf16⟩
  | .hbm, ⟨32, _⟩ => ⟨S64x2048, .f32⟩
  | .hbm, ⟨33, _⟩ => ⟨S8x8x2048, .f32⟩
  | .hbm, ⟨34, _⟩ => ⟨S8x1x2048, .f32⟩
  | .hbm, ⟨35, _⟩ => ⟨S8x2048, .f32⟩
  | .hbm, ⟨36, _⟩ => ⟨S_, .f32⟩
  | .hbm, ⟨37, _⟩ => ⟨S2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x2048, .f32⟩
  | .local _ .vmem, ⟨15, _⟩ => ⟨S1024x1024, .bf16⟩
  | .local _ .vmem, ⟨16, _⟩ => ⟨S4x512x256, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S1x2048, .f32⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S1024x1024, .bf16⟩
  | .local _ .vmem, ⟨40, _⟩ => ⟨S4x512x256, .bf16⟩
  | .local _ .vmem, ⟨41, _⟩ => ⟨S1024x1024, .bf16⟩
  | .local _ .vmem, ⟨42, _⟩ => ⟨S512x1024, .bf16⟩
  | .local _ .vmem, ⟨43, _⟩ => ⟨S512x1024, .bf16⟩
  | .local _ .vmem, ⟨44, _⟩ => ⟨S512x512, .bf16⟩
  | .local _ .vmem, ⟨45, _⟩ => ⟨S512x512, .bf16⟩
  | .local _ .vmem, ⟨46, _⟩ => ⟨S512x2048, .bf16⟩
  | .local _ .vmem, ⟨47, _⟩ => ⟨S512x2048, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S8x2048, .f32⟩
  | .local _ .vmem, ⟨55, _⟩ => ⟨S8x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg9_0 : Ref sig .tc := ⟨.vmem, 40, rfl⟩
abbrev cc1_stg10_0 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc1_stg17_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem6_0 : DmaSem sig := 35
abbrev cc1_sem6_1 : DmaSem sig := 36
abbrev cc1_sem7_0 : DmaSem sig := 37
abbrev cc1_sem7_1 : DmaSem sig := 38
abbrev cc1_sem8_0 : DmaSem sig := 39
abbrev cc1_sem9_0 : DmaSem sig := 40
abbrev cc1_sem10_0 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49
abbrev cc1_sem15_0 : DmaSem sig := 50
abbrev cc1_sem15_1 : DmaSem sig := 51
abbrev cc1_sem16_0 : DmaSem sig := 52
abbrev cc1_sem16_1 : DmaSem sig := 53
abbrev cc1_sem17_0 : DmaSem sig := 54
abbrev cc1_sem17_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c9_i32 : BitVec 32 := 9#32
  let c0_i32 : BitVec 32 := 0#32
  ![arg0.toNat, c9_i32.toNat]

def cc1_transform_2 (i : grid1.Coords) : Fin 2 → Nat :=
  let arg0 : BitVec 32 := BitVec.ofNat 32 (i 0).val
  let c10_i32 : BitVec 32 := 10#32
  let c0_i32 : BitVec 32 := 0#32
  ![arg0.toNat, c10_i32.toNat]

def cc1_transform_3 (i : grid1.Coords) : Fin 2 → Nat :=
  let arg0 : BitVec 32 := BitVec.ofNat 32 (i 0).val
  let c11_i32 : BitVec 32 := 11#32
  let c0_i32 : BitVec 32 := 0#32
  ![arg0.toNat, c11_i32.toNat]

def cc1_transform_4 (i : grid1.Coords) : Fin 2 → Nat :=
  let arg0 : BitVec 32 := BitVec.ofNat 32 (i 0).val
  let c12_i32 : BitVec 32 := 12#32
  let c0_i32 : BitVec 32 := 0#32
  ![arg0.toNat, c12_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x512x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S8x2048 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== MergeReferenceIdeal.lean ====
abbrev S2x2048x1024 : Shape := ⟨3, ![2, 2048, 1024]⟩
abbrev S2x2048x6656 : Shape := ⟨3, ![2, 2048, 6656]⟩
abbrev S2x2048x512 : Shape := ⟨3, ![2, 2048, 512]⟩
abbrev S2048 : Shape := ⟨1, ![2048]⟩
abbrev S1024x1024 : Shape := ⟨2, ![1024, 1024]⟩
abbrev S512x1024 : Shape := ⟨2, ![512, 1024]⟩
abbrev S2x2048x2048 : Shape := ⟨3, ![2, 2048, 2048]⟩
abbrev S1x1x2048 : Shape := ⟨3, ![1, 1, 2048]⟩
abbrev S_ : Shape := ⟨0, ![]⟩
abbrev S4096x1024 : Shape := ⟨2, ![4096, 1024]⟩
abbrev S4096x512 : Shape := ⟨2, ![4096, 512]⟩
abbrev S4096x2048 : Shape := ⟨2, ![4096, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x6656, .f32⟩
  | .hbm, ⟨2, _⟩ => ⟨S2x2048x1024, .f32⟩
  | .hbm, ⟨3, _⟩ => ⟨S2x2048x512, .f32⟩
  | .hbm, ⟨4, _⟩ => ⟨S2048, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S2x2048x2048, .f32⟩
  | .hbm, ⟨10, _⟩ => ⟨S2x2048x1024, .f32⟩
  | .hbm, ⟨11, _⟩ => ⟨S2x2048x1024, .f32⟩
  | .hbm, ⟨12, _⟩ => ⟨S1x1x2048, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048x2048, .f32⟩
  | .hbm, ⟨40, _⟩ => ⟨S_, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S_, .f32⟩
  | .hbm, ⟨45, _⟩ => ⟨S2048, .f32⟩
  | .hbm, ⟨46, _⟩ => ⟨S1x1x2048, .f32⟩
  | .hbm, ⟨47, _⟩ => ⟨S_, .f32⟩
  | .hbm, ⟨48, _⟩ => ⟨S2048, .f32⟩
  | .hbm, ⟨49, _⟩ => ⟨S2x2048x1024, .f32⟩
  | .hbm, ⟨50, _⟩ => ⟨S4096x1024, .f32⟩
  | .hbm, ⟨51, _⟩ => ⟨S2x2048x1024, .f32⟩
  | .hbm, ⟨52, _⟩ => ⟨S4096x1024, .f32⟩
  | .hbm, ⟨53, _⟩ => ⟨S4096x1024, .bf16⟩
  | .hbm, ⟨54, _⟩ => ⟨S2x2048x512, .f32⟩
  | .hbm, ⟨55, _⟩ => ⟨S4096x512, .f32⟩
  | .hbm, ⟨56, _⟩ => ⟨S4096x512, .bf16⟩
  | .hbm, ⟨57, _⟩ => ⟨S4096x2048, .f32⟩
  | .hbm, ⟨58, _⟩ => ⟨S4096x2048, .bf16⟩
  | .hbm, ⟨59, _⟩ => ⟨S4096x1024, .f32⟩
  | .hbm, ⟨60, _⟩ => ⟨S4096x1024, .bf16⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== RetKernel.lean ====
abbrev S2x2048x6656 : Shape := ⟨3, ![2, 2048, 6656]⟩
abbrev S2x2048x1024 : Shape := ⟨3, ![2, 2048, 1024]⟩
abbrev S2x2048x3072 : Shape := ⟨3, ![2, 2048, 3072]⟩
abbrev S2x2048x512 : Shape := ⟨3, ![2, 2048, 512]⟩
abbrev S2048 : Shape := ⟨1, ![2048]⟩
abbrev S2x2048x4x128 : Shape := ⟨4, ![2, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S2x2048x4x64 : Shape := ⟨4, ![2, 2048, 4, 64]⟩
abbrev S2x2048x4x256 : Shape := ⟨4, ![2, 2048, 4, 256]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x1 : Shape := ⟨3, ![64, 4, 1]⟩
abbrev S32 : Shape := ⟨1, ![32]⟩
abbrev S32x1 : Shape := ⟨2, ![32, 1]⟩
abbrev S1x2048 : Shape := ⟨2, ![1, 2048]⟩
abbrev S32x2048 : Shape := ⟨2, ![32, 2048]⟩
abbrev S1x32x2048 : Shape := ⟨3, ![1, 32, 2048]⟩
abbrev S4x32x2048 : Shape := ⟨3, ![4, 32, 2048]⟩
abbrev S2x4x2048x128 : Shape := ⟨4, ![2, 4, 2048, 128]⟩
abbrev S2x4x1x2048x128 : Shape := ⟨5, ![2, 4, 1, 2048, 128]⟩
abbrev S4x32x2048x1 : Shape := ⟨4, ![4, 32, 2048, 1]⟩
abbrev S1x4x32x2048x1 : Shape := ⟨5, ![1, 4, 32, 2048, 1]⟩
abbrev S2x4x32x2048x128 : Shape := ⟨5, ![2, 4, 32, 2048, 128]⟩
abbrev S2x4x32x128x256 : Shape := ⟨5, ![2, 4, 32, 128, 256]⟩
abbrev S2x32x64x4x128 : Shape := ⟨5, ![2, 32, 64, 4, 128]⟩
abbrev S2x32x64x4x256 : Shape := ⟨5, ![2, 32, 64, 4, 256]⟩
abbrev S2x32x4x64x64 : Shape := ⟨5, ![2, 32, 4, 64, 64]⟩
abbrev S1x1x4x64x64 : Shape := ⟨5, ![1, 1, 4, 64, 64]⟩
abbrev S2x32x4x256x64 : Shape := ⟨5, ![2, 32, 4, 256, 64]⟩
abbrev S1x1x64x4x1 : Shape := ⟨5, ![1, 1, 64, 4, 1]⟩
abbrev S4096x6656 : Shape := ⟨2, ![4096, 6656]⟩
abbrev S4096x512 : Shape := ⟨2, ![4096, 512]⟩
abbrev S4096x1024 : Shape := ⟨2, ![4096, 1024]⟩
abbrev S2048x128 : Shape := ⟨2, ![2048, 128]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x1x256 : Shape := ⟨3, ![4, 1, 256]⟩
abbrev S256x512 : Shape := ⟨2, ![256, 512]⟩
abbrev S256x1024 : Shape := ⟨2, ![256, 1024]⟩
abbrev S1x4x4x128x256 : Shape := ⟨5, ![1, 4, 4, 128, 256]⟩
abbrev S256x128 : Shape := ⟨2, ![256, 128]⟩
abbrev S256x3072 : Shape := ⟨2, ![256, 3072]⟩
abbrev S4x128x256 : Shape := ⟨3, ![4, 128, 256]⟩
abbrev S1x128x256 : Shape := ⟨3, ![1, 128, 256]⟩
abbrev S128x256 : Shape := ⟨2, ![128, 256]⟩
abbrev S1x64x128 : Shape := ⟨3, ![1, 64, 128]⟩
abbrev S64x128 : Shape := ⟨2, ![64, 128]⟩
abbrev S64x256 : Shape := ⟨2, ![64, 256]⟩
abbrev S1x1x1x128x256 : Shape := ⟨5, ![1, 1, 1, 128, 256]⟩
abbrev S1x1x256 : Shape := ⟨3, ![1, 1, 256]⟩
abbrev S1x256 : Shape := ⟨2, ![1, 256]⟩
abbrev S4096x3072 : Shape := ⟨2, ![4096, 3072]⟩

abbrev nBuf : Space → Nat
  | .hbm => 260
  | .vmem => 25
  | .smem => 0
  | _ => 0

abbrev hbmTy0_0 (i : Nat) : BufTy := match i % 128 with
  | 0 => ⟨S2x2048x6656, .f32⟩
  | 1 => ⟨S2x2048x1024, .f32⟩
  | 2 => ⟨S2x2048x3072, .f32⟩
  | 3 => ⟨S2x2048x512, .f32⟩
  | 4 => ⟨S2x2048x512, .f32⟩
  | 5 => ⟨S2x2048x1024, .f32⟩
  | 6 => ⟨S2048, .f32⟩
  | 7 => ⟨S2x2048x4x128, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S2048x1, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S1x2048x1x64, .f32⟩
  | 29 => ⟨S2048x64, .f32⟩
  | 30 => ⟨S1x2048x1x64, .f32⟩
  | 31 => ⟨S2x2048x4x64, .f32⟩
  | 32 => ⟨S2x2048x4x64, .f32⟩
  | 33 => ⟨S2x2048x4x64, .f32⟩
  | 34 => ⟨S2x2048x4x64, .f32⟩
  | 35 => ⟨S2x2048x4x64, .f32⟩
  | 36 => ⟨S2x2048x4x64, .f32⟩
  | 37 => ⟨S2x2048x4x64, .f32⟩
  | 38 => ⟨S2x2048x4x64, .f32⟩
  | 39 => ⟨S2x2048x4x64, .f32⟩
  | 40 => ⟨S2x2048x4x64, .f32⟩
  | 41 => ⟨S2x2048x4x64, .f32⟩
  | 42 => ⟨S2x2048x4x64, .f32⟩
  | 43 => ⟨S2x2048x4x128, .f32⟩
  | 44 => ⟨S2x2048x4x128, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S1x2048x1x64, .f32⟩
  | 66 => ⟨S2048x64, .f32⟩
  | 67 => ⟨S1x2048x1x64, .f32⟩
  | 68 => ⟨S2x2048x4x64, .f32⟩
  | 69 => ⟨S2x2048x4x64, .f32⟩
  | 70 => ⟨S2x2048x4x64, .f32⟩
  | 71 => ⟨S2x2048x4x64, .f32⟩
  | 72 => ⟨S2x2048x4x64, .f32⟩
  | 73 => ⟨S2x2048x4x64, .f32⟩
  | 74 => ⟨S2x2048x4x64, .f32⟩
  | 75 => ⟨S2x2048x4x64, .f32⟩
  | 76 => ⟨S2x2048x4x64, .f32⟩
  | 77 => ⟨S2x2048x4x64, .f32⟩
  | 78 => ⟨S2x2048x4x64, .f32⟩
  | 79 => ⟨S2x2048x4x64, .f32⟩
  | 80 => ⟨S2x2048x4x128, .f32⟩
  | 81 => ⟨S2x2048x4x256, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S64, .f32⟩
  | 94 => ⟨S4x1x1, .f32⟩
  | 95 => ⟨S64x1, .f32⟩
  | 96 => ⟨S1x64, .f32⟩
  | 97 => ⟨S64x64, .f32⟩
  | 98 => ⟨S64x64, .f32⟩
  | 99 => ⟨S64x64, .f32⟩
  | 100 => ⟨S64x64, .f32⟩
  | 101 => ⟨S1x64x64, .f32⟩
  | 102 => ⟨S4x64x64, .f32⟩
  | 103 => ⟨S4x64x64, .f32⟩
  | 104 => ⟨S4x64x64, .f32⟩
  | 105 => ⟨S4x64x64, .f32⟩
  | 106 => ⟨S1x4, .f32⟩
  | 107 => ⟨S64x1, .f32⟩
  | 108 => ⟨S_, .f32⟩
  | 109 => ⟨S64x1, .f32⟩
  | 110 => ⟨S64x1, .f32⟩
  | 111 => ⟨S64x4, .f32⟩
  | 112 => ⟨S64x4, .f32⟩
  | 113 => ⟨S64x4, .f32⟩
  | 114 => ⟨S64x4, .f32⟩
  | 115 => ⟨S64x4x1, .f32⟩
  | 116 => ⟨S32, .f32⟩
  | 117 => ⟨S32x1, .f32⟩
  | 118 => ⟨S_, .f32⟩
  | 119 => ⟨S32x1, .f32⟩
  | 120 => ⟨S32x1, .f32⟩
  | 121 => ⟨S_, .f32⟩
  | 122 => ⟨S32x1, .f32⟩
  | 123 => ⟨S32x1, .f32⟩
  | 124 => ⟨S2048, .f32⟩
  | 125 => ⟨S1x2048, .f32⟩
  | 126 => ⟨S32x2048, .f32⟩
  | 127 => ⟨S32x2048, .f32⟩
  | _ => ⟨S2x2048x6656, .f32⟩

abbrev hbmTy0_1 (i : Nat) : BufTy := match i % 128 with
  | 0 => ⟨S32x2048, .f32⟩
  | 1 => ⟨S_, .f32⟩
  | 2 => ⟨S32x2048, .f32⟩
  | 3 => ⟨S32x2048, .i1⟩
  | 4 => ⟨S4x1x1, .f32⟩
  | 5 => ⟨S1x32x2048, .f32⟩
  | 6 => ⟨S4x32x2048, .f32⟩
  | 7 => ⟨S4x32x2048, .f32⟩
  | 8 => ⟨S4x32x2048, .f32⟩
  | 9 => ⟨S4x32x2048, .f32⟩
  | 10 => ⟨S_, .f32⟩
  | 11 => ⟨S_, .f32⟩
  | 12 => ⟨S4x32x2048, .i1⟩
  | 13 => ⟨S4x32x2048, .f32⟩
  | 14 => ⟨S4x32x2048, .f32⟩
  | 15 => ⟨S_, .f32⟩
  | 16 => ⟨S2x2048x4x128, .f32⟩
  | 17 => ⟨S2x2048x4x128, .f32⟩
  | 18 => ⟨S2x4x2048x128, .f32⟩
  | 19 => ⟨S2x4x1x2048x128, .f32⟩
  | 20 => ⟨S4x32x2048x1, .f32⟩
  | 21 => ⟨S1x4x32x2048x1, .f32⟩
  | 22 => ⟨S2x4x32x2048x128, .f32⟩
  | 23 => ⟨S2x4x32x2048x128, .f32⟩
  | 24 => ⟨S2x4x32x2048x128, .f32⟩
  | 25 => ⟨S2x4x32x128x256, .f32⟩
  | 26 => ⟨S2x32x64x4x128, .f32⟩
  | 27 => ⟨S2x32x64x4x128, .f32⟩
  | 28 => ⟨S2x32x64x4x256, .f32⟩
  | 29 => ⟨S2x32x4x64x64, .f32⟩
  | 30 => ⟨S1x1x4x64x64, .f32⟩
  | 31 => ⟨S2x32x4x64x64, .f32⟩
  | 32 => ⟨S2x32x4x64x64, .f32⟩
  | 33 => ⟨S2x32x4x256x64, .f32⟩
  | 34 => ⟨S2x32x64x4x256, .f32⟩
  | 35 => ⟨S1x1x64x4x1, .f32⟩
  | 36 => ⟨S2x32x64x4x128, .f32⟩
  | 37 => ⟨S2x32x64x4x128, .f32⟩
  | 38 => ⟨S2x32x4x256x64, .f32⟩
  | 39 => ⟨S2x32x64x4x256, .f32⟩
  | 40 => ⟨S2x32x64x4x256, .f32⟩
  | 41 => ⟨S2x2048x4x256, .f32⟩
  | 42 => ⟨S4096x6656, .f32⟩
  | 43 => ⟨S4096x6656, .bf16⟩
  | 44 => ⟨S4096x512, .f32⟩
  | 45 => ⟨S4096x512, .bf16⟩
  | 46 => ⟨S4096x512, .f32⟩
  | 47 => ⟨S4096x512, .bf16⟩
  | 48 => ⟨S4096x1024, .f32⟩
  | 49 => ⟨S4096x1024, .bf16⟩
  | 50 => ⟨S2x4x32x128x256, .bf16⟩
  | 51 => ⟨S4096x1024, .f32⟩
  | 52 => ⟨S4096x1024, .bf16⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S2048, .f32⟩
  | 68 => ⟨S2048x1, .f32⟩
  | 69 => ⟨S1x64, .f32⟩
  | 70 => ⟨S2048x64, .f32⟩
  | 71 => ⟨S2048x64, .f32⟩
  | 72 => ⟨S2048x64, .f32⟩
  | 73 => ⟨S2048x64, .f32⟩
  | 74 => ⟨S2048x64, .f32⟩
  | 75 => ⟨S2048x128, .f32⟩
  | 76 => ⟨S2048x64, .f32⟩
  | 77 => ⟨S2048x128, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S64, .f32⟩
  | 90 => ⟨S4x1x1, .f32⟩
  | 91 => ⟨S64x1, .f32⟩
  | 92 => ⟨S1x64, .f32⟩
  | 93 => ⟨S64x64, .f32⟩
  | 94 => ⟨S64x64, .f32⟩
  | 95 => ⟨S64x64, .f32⟩
  | 96 => ⟨S64x64, .f32⟩
  | 97 => ⟨S1x64x64, .f32⟩
  | 98 => ⟨S4x64x64, .f32⟩
  | 99 => ⟨S4x64x64, .f32⟩
  | 100 => ⟨S4x64x64, .f32⟩
  | 101 => ⟨S4x64x64, .f32⟩
  | 102 => ⟨S4x1, .f32⟩
  | 103 => ⟨S1x64, .f32⟩
  | 104 => ⟨S_, .f32⟩
  | 105 => ⟨S1x64, .f32⟩
  | 106 => ⟨S1x64, .f32⟩
  | 107 => ⟨S4x64, .f32⟩
  | 108 => ⟨S4x64, .f32⟩
  | 109 => ⟨S4x64, .f32⟩
  | 110 => ⟨S4x64, .f32⟩
  | 111 => ⟨S4x1, .f32⟩
  | 112 => ⟨S1x64, .f32⟩
  | 113 => ⟨S_, .f32⟩
  | 114 => ⟨S1x64, .f32⟩
  | 115 => ⟨S1x64, .f32⟩
  | 116 => ⟨S4x64, .f32⟩
  | 117 => ⟨S4x64, .f32⟩
  | 118 => ⟨S4x64, .f32⟩
  | 119 => ⟨S4x64, .f32⟩
  | 120 => ⟨S_, .f32⟩
  | 121 => ⟨S4, .f32⟩
  | 122 => ⟨S4, .f32⟩
  | 123 => ⟨S4, .f32⟩
  | 124 => ⟨S4x64x1, .f32⟩
  | 125 => ⟨S4x64x128, .f32⟩
  | 126 => ⟨S4x64x1, .f32⟩
  | 127 => ⟨S4x64x128, .f32⟩
  | _ => ⟨S2x2048x6656, .f32⟩

abbrev hbmTy0_2 (i : Nat) : BufTy := match i % 128 with
  | 0 => ⟨S4x1x1, .f32⟩
  | 1 => ⟨S4x1x256, .f32⟩
  | 2 => ⟨S4096x6656, .bf16⟩
  | 3 => ⟨S4096x3072, .bf16⟩
  | _ => ⟨S2x2048x6656, .f32⟩

abbrev hbmTy (i : Nat) : BufTy := match i / 128 with
  | 0 => hbmTy0_0 i
  | 1 => hbmTy0_1 i
  | 2 => hbmTy0_2 i
  | _ => ⟨S2x2048x6656, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x4x4x128x256, .bf16⟩
  | .local _ .vmem, ⟨11, _⟩ => ⟨S1x4x4x128x256, .bf16⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4x64x64, .f32⟩
  | .local _ .vmem, ⟨19, _⟩ => ⟨S4x64x128, .f32⟩
  | .local _ .vmem, ⟨20, _⟩ => ⟨S4x64x128, .f32⟩
  | .local _ .vmem, ⟨21, _⟩ => ⟨S4x1x256, .f32⟩
  | .local _ .vmem, ⟨22, _⟩ => ⟨S256x3072, .bf16⟩
  | .local _ .vmem, ⟨23, _⟩ => ⟨S256x3072, .bf16⟩
  | .local _ .vmem, ⟨24, _⟩ => ⟨S4x128x256, .f32⟩
  | _, _ => ⟨S2x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_7 : Ref sig .tc := ⟨.hbm, 83, rfl⟩
abbrev main_v73 : Ref sig .tc := ⟨.hbm, 84, rfl⟩
abbrev main_v74 : Ref sig .tc := ⟨.hbm, 85, rfl⟩
abbrev main_cst_8 : Ref sig .tc := ⟨.hbm, 86, rfl⟩
abbrev main_v75 : Ref sig .tc := ⟨.hbm, 87, rfl⟩
abbrev main_v76 : Ref sig .tc := ⟨.hbm, 88, rfl⟩
abbrev main_cst_9 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_10 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_11 : Ref sig .tc := ⟨.hbm, 118, rfl⟩
abbrev main_v104 : Ref sig .tc := ⟨.hbm, 119, rfl⟩
abbrev main_v105 : Ref sig .tc := ⟨.hbm, 120, rfl⟩
abbrev main_cst_12 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_13 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_14 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v121 : Ref sig .tc := ⟨.hbm, 142, rfl⟩
abbrev main_cst_15 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_cst_16 : Ref sig .tc := ⟨.hbm, 182, rfl⟩
abbrev main_v160 : Ref sig .tc := ⟨.hbm, 183, rfl⟩
abbrev main_v161 : Ref sig .tc := ⟨.hbm, 184, rfl⟩
abbrev main_cst_17 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_cst_18 : Ref sig .tc := ⟨.hbm, 189, rfl⟩
abbrev main_v165 : Ref sig .tc := ⟨.hbm, 190, rfl⟩
abbrev main_v166 : Ref sig .tc := ⟨.hbm, 191, rfl⟩
abbrev main_cst_19 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_cst_20 : Ref sig .tc := ⟨.hbm, 207, rfl⟩
abbrev main_v181 : Ref sig .tc := ⟨.hbm, 208, rfl⟩
abbrev main_v182 : Ref sig .tc := ⟨.hbm, 209, rfl⟩
abbrev main_cst_21 : Ref sig .tc := ⟨.hbm, 210, rfl⟩
abbrev main_v183 : Ref sig .tc := ⟨.hbm, 211, rfl⟩
abbrev main_v184 : Ref sig .tc := ⟨.hbm, 212, rfl⟩
abbrev main_cst_22 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_23 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_cst_24 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_cst_25 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c2_i32 : BitVec 32 := 2#32
  let c0_i32 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x4x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S4x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RetReferenceIdeal.lean ====
abbrev S2x2048x6656 : Shape := ⟨3, ![2, 2048, 6656]⟩
abbrev S2x2048x1024 : Shape := ⟨3, ![2, 2048, 1024]⟩
abbrev S2x2048x3072 : Shape := ⟨3, ![2, 2048, 3072]⟩
abbrev S2x2048x512 : Shape := ⟨3, ![2, 2048, 512]⟩
abbrev S2048 : Shape := ⟨1, ![2048]⟩
abbrev S2x2048x4x128 : Shape := ⟨4, ![2, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S2x2048x4x64 : Shape := ⟨4, ![2, 2048, 4, 64]⟩
abbrev S2x2048x4x256 : Shape := ⟨4, ![2, 2048, 4, 256]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x1 : Shape := ⟨3, ![64, 4, 1]⟩
abbrev S32 : Shape := ⟨1, ![32]⟩
abbrev S32x1 : Shape := ⟨2, ![32, 1]⟩
abbrev S1x2048 : Shape := ⟨2, ![1, 2048]⟩
abbrev S32x2048 : Shape := ⟨2, ![32, 2048]⟩
abbrev S1x32x2048 : Shape := ⟨3, ![1, 32, 2048]⟩
abbrev S4x32x2048 : Shape := ⟨3, ![4, 32, 2048]⟩
abbrev S2x4x2048x128 : Shape := ⟨4, ![2, 4, 2048, 128]⟩
abbrev S2x4x1x2048x128 : Shape := ⟨5, ![2, 4, 1, 2048, 128]⟩
abbrev S4x32x2048x1 : Shape := ⟨4, ![4, 32, 2048, 1]⟩
abbrev S1x4x32x2048x1 : Shape := ⟨5, ![1, 4, 32, 2048, 1]⟩
abbrev S2x4x32x2048x128 : Shape := ⟨5, ![2, 4, 32, 2048, 128]⟩
abbrev S2x4x32x128x256 : Shape := ⟨5, ![2, 4, 32, 128, 256]⟩
abbrev S2x32x64x4x128 : Shape := ⟨5, ![2, 32, 64, 4, 128]⟩
abbrev S2x32x64x4x256 : Shape := ⟨5, ![2, 32, 64, 4, 256]⟩
abbrev S2x32x4x64x64 : Shape := ⟨5, ![2, 32, 4, 64, 64]⟩
abbrev S1x1x4x64x64 : Shape := ⟨5, ![1, 1, 4, 64, 64]⟩
abbrev S2x32x4x256x64 : Shape := ⟨5, ![2, 32, 4, 256, 64]⟩
abbrev S1x1x64x4x1 : Shape := ⟨5, ![1, 1, 64, 4, 1]⟩
abbrev S2x2048x4 : Shape := ⟨3, ![2, 2048, 4]⟩
abbrev S2x2048x4x1 : Shape := ⟨4, ![2, 2048, 4, 1]⟩
abbrev S2x32x4x64x128 : Shape := ⟨5, ![2, 32, 4, 64, 128]⟩
abbrev S2x32x4x256x128 : Shape := ⟨5, ![2, 32, 4, 256, 128]⟩
abbrev S2x4x256x2048 : Shape := ⟨4, ![2, 4, 256, 2048]⟩
abbrev S2x4x32x128x2048 : Shape := ⟨5, ![2, 4, 32, 128, 2048]⟩
abbrev S4096x3072 : Shape := ⟨2, ![4096, 3072]⟩

abbrev nBuf : Space → Nat
  | .hbm => 345
  | .vmem => 0
  | .smem => 0
  | _ => 0

abbrev hbmTy0_0 (i : Nat) : BufTy := match i % 128 with
  | 0 => ⟨S2x2048x6656, .f32⟩
  | 1 => ⟨S2x2048x1024, .f32⟩
  | 2 => ⟨S2x2048x3072, .f32⟩
  | 3 => ⟨S2x2048x512, .f32⟩
  | 4 => ⟨S2x2048x512, .f32⟩
  | 5 => ⟨S2x2048x1024, .f32⟩
  | 6 => ⟨S2048, .f32⟩
  | 7 => ⟨S2x2048x4x128, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S2048x1, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S1x2048x1x64, .f32⟩
  | 29 => ⟨S2048x64, .f32⟩
  | 30 => ⟨S1x2048x1x64, .f32⟩
  | 31 => ⟨S2x2048x4x64, .f32⟩
  | 32 => ⟨S2x2048x4x64, .f32⟩
  | 33 => ⟨S2x2048x4x64, .f32⟩
  | 34 => ⟨S2x2048x4x64, .f32⟩
  | 35 => ⟨S2x2048x4x64, .f32⟩
  | 36 => ⟨S2x2048x4x64, .f32⟩
  | 37 => ⟨S2x2048x4x64, .f32⟩
  | 38 => ⟨S2x2048x4x64, .f32⟩
  | 39 => ⟨S2x2048x4x64, .f32⟩
  | 40 => ⟨S2x2048x4x64, .f32⟩
  | 41 => ⟨S2x2048x4x64, .f32⟩
  | 42 => ⟨S2x2048x4x64, .f32⟩
  | 43 => ⟨S2x2048x4x128, .f32⟩
  | 44 => ⟨S2x2048x4x128, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S1x2048x1x64, .f32⟩
  | 66 => ⟨S2048x64, .f32⟩
  | 67 => ⟨S1x2048x1x64, .f32⟩
  | 68 => ⟨S2x2048x4x64, .f32⟩
  | 69 => ⟨S2x2048x4x64, .f32⟩
  | 70 => ⟨S2x2048x4x64, .f32⟩
  | 71 => ⟨S2x2048x4x64, .f32⟩
  | 72 => ⟨S2x2048x4x64, .f32⟩
  | 73 => ⟨S2x2048x4x64, .f32⟩
  | 74 => ⟨S2x2048x4x64, .f32⟩
  | 75 => ⟨S2x2048x4x64, .f32⟩
  | 76 => ⟨S2x2048x4x64, .f32⟩
  | 77 => ⟨S2x2048x4x64, .f32⟩
  | 78 => ⟨S2x2048x4x64, .f32⟩
  | 79 => ⟨S2x2048x4x64, .f32⟩
  | 80 => ⟨S2x2048x4x128, .f32⟩
  | 81 => ⟨S2x2048x4x256, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S64, .f32⟩
  | 94 => ⟨S4x1x1, .f32⟩
  | 95 => ⟨S64x1, .f32⟩
  | 96 => ⟨S1x64, .f32⟩
  | 97 => ⟨S64x64, .f32⟩
  | 98 => ⟨S64x64, .f32⟩
  | 99 => ⟨S64x64, .f32⟩
  | 100 => ⟨S64x64, .f32⟩
  | 101 => ⟨S1x64x64, .f32⟩
  | 102 => ⟨S4x64x64, .f32⟩
  | 103 => ⟨S4x64x64, .f32⟩
  | 104 => ⟨S4x64x64, .f32⟩
  | 105 => ⟨S4x64x64, .f32⟩
  | 106 => ⟨S1x4, .f32⟩
  | 107 => ⟨S64x1, .f32⟩
  | 108 => ⟨S_, .f32⟩
  | 109 => ⟨S64x1, .f32⟩
  | 110 => ⟨S64x1, .f32⟩
  | 111 => ⟨S64x4, .f32⟩
  | 112 => ⟨S64x4, .f32⟩
  | 113 => ⟨S64x4, .f32⟩
  | 114 => ⟨S64x4, .f32⟩
  | 115 => ⟨S64x4x1, .f32⟩
  | 116 => ⟨S32, .f32⟩
  | 117 => ⟨S32x1, .f32⟩
  | 118 => ⟨S_, .f32⟩
  | 119 => ⟨S32x1, .f32⟩
  | 120 => ⟨S32x1, .f32⟩
  | 121 => ⟨S_, .f32⟩
  | 122 => ⟨S32x1, .f32⟩
  | 123 => ⟨S32x1, .f32⟩
  | 124 => ⟨S2048, .f32⟩
  | 125 => ⟨S1x2048, .f32⟩
  | 126 => ⟨S32x2048, .f32⟩
  | 127 => ⟨S32x2048, .f32⟩
  | _ => ⟨S2x2048x6656, .f32⟩

abbrev hbmTy0_1 (i : Nat) : BufTy := match i % 128 with
  | 0 => ⟨S32x2048, .f32⟩
  | 1 => ⟨S_, .f32⟩
  | 2 => ⟨S32x2048, .f32⟩
  | 3 => ⟨S32x2048, .i1⟩
  | 4 => ⟨S4x1x1, .f32⟩
  | 5 => ⟨S1x32x2048, .f32⟩
  | 6 => ⟨S4x32x2048, .f32⟩
  | 7 => ⟨S4x32x2048, .f32⟩
  | 8 => ⟨S4x32x2048, .f32⟩
  | 9 => ⟨S4x32x2048, .f32⟩
  | 10 => ⟨S_, .f32⟩
  | 11 => ⟨S_, .f32⟩
  | 12 => ⟨S4x32x2048, .i1⟩
  | 13 => ⟨S4x32x2048, .f32⟩
  | 14 => ⟨S4x32x2048, .f32⟩
  | 15 => ⟨S_, .f32⟩
  | 16 => ⟨S2x2048x4x128, .f32⟩
  | 17 => ⟨S2x2048x4x128, .f32⟩
  | 18 => ⟨S2x4x2048x128, .f32⟩
  | 19 => ⟨S2x4x1x2048x128, .f32⟩
  | 20 => ⟨S4x32x2048x1, .f32⟩
  | 21 => ⟨S1x4x32x2048x1, .f32⟩
  | 22 => ⟨S2x4x32x2048x128, .f32⟩
  | 23 => ⟨S2x4x32x2048x128, .f32⟩
  | 24 => ⟨S2x4x32x2048x128, .f32⟩
  | 25 => ⟨S2x4x32x128x256, .f32⟩
  | 26 => ⟨S2x32x64x4x128, .f32⟩
  | 27 => ⟨S2x32x64x4x128, .f32⟩
  | 28 => ⟨S2x32x64x4x256, .f32⟩
  | 29 => ⟨S2x32x4x64x64, .f32⟩
  | 30 => ⟨S1x1x4x64x64, .f32⟩
  | 31 => ⟨S2x32x4x64x64, .f32⟩
  | 32 => ⟨S2x32x4x64x64, .f32⟩
  | 33 => ⟨S2x32x4x256x64, .f32⟩
  | 34 => ⟨S2x32x64x4x256, .f32⟩
  | 35 => ⟨S1x1x64x4x1, .f32⟩
  | 36 => ⟨S2x32x64x4x128, .f32⟩
  | 37 => ⟨S2x32x64x4x128, .f32⟩
  | 38 => ⟨S2x32x4x256x64, .f32⟩
  | 39 => ⟨S2x32x64x4x256, .f32⟩
  | 40 => ⟨S2x32x64x4x256, .f32⟩
  | 41 => ⟨S2x2048x4x256, .f32⟩
  | 42 => ⟨S_, .f32⟩
  | 43 => ⟨S2x2048x4, .f32⟩
  | 44 => ⟨S2x2048x4x1, .f32⟩
  | 45 => ⟨S_, .f32⟩
  | 46 => ⟨S2x2048x4x1, .f32⟩
  | 47 => ⟨S2x2048x4x1, .f32⟩
  | 48 => ⟨S2x2048x4x256, .f32⟩
  | 49 => ⟨S2x2048x4x256, .f32⟩
  | 50 => ⟨S2x2048x4x256, .f32⟩
  | 51 => ⟨S_, .f32⟩
  | 52 => ⟨S2x2048x4x256, .f32⟩
  | 53 => ⟨S2x2048x4x256, .f32⟩
  | 54 => ⟨S_, .f32⟩
  | 55 => ⟨S2x2048x4, .f32⟩
  | 56 => ⟨S2x2048x4x1, .f32⟩
  | 57 => ⟨S_, .f32⟩
  | 58 => ⟨S2x2048x4x1, .f32⟩
  | 59 => ⟨S2x2048x4x1, .f32⟩
  | 60 => ⟨S2x2048x4x256, .f32⟩
  | 61 => ⟨S2x2048x4x256, .f32⟩
  | 62 => ⟨S_, .f32⟩
  | 63 => ⟨S2x2048x4x1, .f32⟩
  | 64 => ⟨S2x2048x4x1, .f32⟩
  | 65 => ⟨S2x2048x4x1, .f32⟩
  | 66 => ⟨S2x2048x4x1, .f32⟩
  | 67 => ⟨S_, .f32⟩
  | 68 => ⟨S2x2048x4x1, .f32⟩
  | 69 => ⟨S2x2048x4x1, .f32⟩
  | 70 => ⟨S2x2048x4x256, .f32⟩
  | 71 => ⟨S2x2048x4x256, .f32⟩
  | 72 => ⟨S2x2048x1024, .f32⟩
  | 73 => ⟨S2x2048x1024, .f32⟩
  | 74 => ⟨S2x2048x1024, .f32⟩
  | 75 => ⟨S2x2048x1024, .f32⟩
  | 76 => ⟨S_, .f32⟩
  | 77 => ⟨S2x2048x1024, .f32⟩
  | 78 => ⟨S2x2048x1024, .f32⟩
  | 79 => ⟨S_, .f32⟩
  | 80 => ⟨S2x2048x1024, .f32⟩
  | 81 => ⟨S2x2048x1024, .f32⟩
  | 82 => ⟨S_, .f32⟩
  | 83 => ⟨S2x2048x1024, .f32⟩
  | 84 => ⟨S2x2048x1024, .f32⟩
  | 85 => ⟨S2x2048x1024, .f32⟩
  | 86 => ⟨S2x2048x1024, .f32⟩
  | 87 => ⟨S2x2048x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S_, .f32⟩
  | 95 => ⟨S2x2048x3072, .f32⟩
  | 96 => ⟨S2x2048x4x256, .f32⟩
  | 97 => ⟨S2x2048x4x256, .f32⟩
  | 98 => ⟨S_, .f32⟩
  | 99 => ⟨S2x2048x4, .f32⟩
  | 100 => ⟨S2x2048x4x1, .f32⟩
  | 101 => ⟨S2x2048x4x256, .f32⟩
  | 102 => ⟨S2x2048x4x256, .f32⟩
  | 103 => ⟨S2x2048x4x1, .f32⟩
  | 104 => ⟨S2x2048x4x256, .f32⟩
  | 105 => ⟨S_, .f32⟩
  | 106 => ⟨S2x2048x4, .f32⟩
  | 107 => ⟨S2x2048x4x1, .f32⟩
  | 108 => ⟨S_, .f32⟩
  | 109 => ⟨S2x2048x4x1, .f32⟩
  | 110 => ⟨S2x2048x4x1, .f32⟩
  | 111 => ⟨S_, .f32⟩
  | 112 => ⟨S2x2048x4, .f32⟩
  | 113 => ⟨S2x2048x4x256, .f32⟩
  | 114 => ⟨S2x2048x4x256, .f32⟩
  | 115 => ⟨S2x2048x4x256, .f32⟩
  | 116 => ⟨S_, .f32⟩
  | 117 => ⟨S2x2048x4, .f32⟩
  | 118 => ⟨S2x2048x4x1, .f32⟩
  | 119 => ⟨S2x2048x4x256, .f32⟩
  | 120 => ⟨S2x2048x4x1, .f32⟩
  | 121 => ⟨S_, .f32⟩
  | 122 => ⟨S2x2048x4x1, .f32⟩
  | 123 => ⟨S2x2048x4x1, .f32⟩
  | 124 => ⟨S_, .f32⟩
  | 125 => ⟨S2x2048x4, .f32⟩
  | 126 => ⟨S2x2048x4x256, .f32⟩
  | 127 => ⟨S2x2048x4x256, .f32⟩
  | _ => ⟨S2x2048x6656, .f32⟩

abbrev hbmTy0_2 (i : Nat) : BufTy := match i % 128 with
  | 0 => ⟨S2x32x64x4x256, .f32⟩
  | 1 => ⟨S2x32x4x256x64, .f32⟩
  | 2 => ⟨S2x32x4x64x128, .f32⟩
  | 3 => ⟨S2x32x64x4x128, .f32⟩
  | 4 => ⟨S2x32x4x256x128, .f32⟩
  | 5 => ⟨S2x4x32x128x256, .f32⟩
  | 6 => ⟨S2x32x64x4x128, .f32⟩
  | 7 => ⟨S2x32x64x4x128, .f32⟩
  | 8 => ⟨S2x32x4x256x64, .f32⟩
  | 9 => ⟨S2x32x4x64x64, .f32⟩
  | 10 => ⟨S2x32x4x256x64, .f32⟩
  | 11 => ⟨S2x32x64x4x256, .f32⟩
  | 12 => ⟨S2x32x4x64x64, .f32⟩
  | 13 => ⟨S2x32x4x64x64, .f32⟩
  | 14 => ⟨S2x32x4x64x128, .f32⟩
  | 15 => ⟨S2x32x64x4x128, .f32⟩
  | 16 => ⟨S2x32x4x64x128, .f32⟩
  | 17 => ⟨S2x32x64x4x128, .f32⟩
  | 18 => ⟨S2x32x64x4x128, .f32⟩
  | 19 => ⟨S2x2048x4x256, .f32⟩
  | 20 => ⟨S2x2048x4x128, .f32⟩
  | 21 => ⟨S2x2048x4x128, .f32⟩
  | 22 => ⟨S2x4x256x2048, .f32⟩
  | 23 => ⟨S2x2048x4x256, .f32⟩
  | 24 => ⟨S2x2048x4x256, .f32⟩
  | 25 => ⟨S2x4x32x128x2048, .f32⟩
  | 26 => ⟨S2x4x32x2048x128, .f32⟩
  | 27 => ⟨S2x4x32x2048x128, .f32⟩
  | 28 => ⟨S2x4x32x2048x128, .f32⟩
  | 29 => ⟨S_, .f32⟩
  | 30 => ⟨S2x4x2048x128, .f32⟩
  | 31 => ⟨S2x4x1x2048x128, .f32⟩
  | 32 => ⟨S_, .f32⟩
  | 33 => ⟨S2x4x2048x128, .f32⟩
  | 34 => ⟨S2x2048x4x128, .f32⟩
  | 35 => ⟨S2x2048x4x128, .f32⟩
  | 36 => ⟨S_, .f32⟩
  | 37 => ⟨S2x2048x4x128, .f32⟩
  | 38 => ⟨S2x2048x4x128, .f32⟩
  | 39 => ⟨S2x2048x1024, .f32⟩
  | 40 => ⟨S2x2048x4x64, .f32⟩
  | 41 => ⟨S2x2048x4x64, .f32⟩
  | 42 => ⟨S2x2048x4x64, .f32⟩
  | 43 => ⟨S2x2048x4x64, .f32⟩
  | 44 => ⟨S2x2048x4x64, .f32⟩
  | 45 => ⟨S2x2048x4x64, .f32⟩
  | 46 => ⟨S2x2048x4x64, .f32⟩
  | 47 => ⟨S2x2048x4x64, .f32⟩
  | 48 => ⟨S2x2048x4x64, .f32⟩
  | 49 => ⟨S2x2048x4x64, .f32⟩
  | 50 => ⟨S2x2048x4x64, .f32⟩
  | 51 => ⟨S2x2048x4x64, .f32⟩
  | 52 => ⟨S2x2048x4x64, .f32⟩
  | 53 => ⟨S_, .f32⟩
  | 54 => ⟨S2x2048x4x128, .f32⟩
  | 55 => ⟨S_, .f32⟩
  | 56 => ⟨S2x2048x4x128, .f32⟩
  | 57 => ⟨S2x2048x4x128, .f32⟩
  | 58 => ⟨S2x2048x512, .f32⟩
  | 59 => ⟨S2x2048x4x64, .f32⟩
  | 60 => ⟨S2x2048x4x64, .f32⟩
  | 61 => ⟨S2x2048x4x64, .f32⟩
  | 62 => ⟨S2x2048x4x64, .f32⟩
  | 63 => ⟨S2x2048x4x64, .f32⟩
  | 64 => ⟨S2x2048x4x64, .f32⟩
  | 65 => ⟨S2x2048x4x64, .f32⟩
  | 66 => ⟨S2x2048x4x64, .f32⟩
  | 67 => ⟨S2x2048x4x64, .f32⟩
  | 68 => ⟨S2x2048x4x64, .f32⟩
  | 69 => ⟨S2x2048x4x64, .f32⟩
  | 70 => ⟨S2x2048x4x64, .f32⟩
  | 71 => ⟨S2x2048x4x64, .f32⟩
  | 72 => ⟨S_, .f32⟩
  | 73 => ⟨S2x2048x4x128, .f32⟩
  | 74 => ⟨S_, .f32⟩
  | 75 => ⟨S2x2048x4x128, .f32⟩
  | 76 => ⟨S2x2048x4x128, .f32⟩
  | 77 => ⟨S2x2048x512, .f32⟩
  | 78 => ⟨S_, .f32⟩
  | 79 => ⟨S2x2048x3072, .f32⟩
  | 80 => ⟨S2x2048x3072, .f32⟩
  | 81 => ⟨S_, .f32⟩
  | 82 => ⟨S2x2048x3072, .f32⟩
  | 83 => ⟨S2x2048x3072, .f32⟩
  | 84 => ⟨S_, .f32⟩
  | 85 => ⟨S2x2048x3072, .f32⟩
  | 86 => ⟨S2x2048x3072, .f32⟩
  | 87 => ⟨S4096x3072, .f32⟩
  | 88 => ⟨S4096x3072, .bf16⟩
  | _ => ⟨S2x2048x6656, .f32⟩

abbrev hbmTy (i : Nat) : BufTy := match i / 128 with
  | 0 => hbmTy0_0 i
  | 1 => hbmTy0_1 i
  | 2 => hbmTy0_2 i
  | _ => ⟨S2x2048x6656, .f32⟩

abbrev bufTy : (tb : Table) → Fin (tcTables nBuf tb) → BufTy
  | .hbm, ⟨i, _⟩ => hbmTy i
  | _, _ => ⟨S2x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_7 : Ref sig .tc := ⟨.hbm, 83, rfl⟩
abbrev main_v73 : Ref sig .tc := ⟨.hbm, 84, rfl⟩
abbrev main_v74 : Ref sig .tc := ⟨.hbm, 85, rfl⟩
abbrev main_cst_8 : Ref sig .tc := ⟨.hbm, 86, rfl⟩
abbrev main_v75 : Ref sig .tc := ⟨.hbm, 87, rfl⟩
abbrev main_v76 : Ref sig .tc := ⟨.hbm, 88, rfl⟩
abbrev main_cst_9 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_10 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_11 : Ref sig .tc := ⟨.hbm, 118, rfl⟩
abbrev main_v104 : Ref sig .tc := ⟨.hbm, 119, rfl⟩
abbrev main_v105 : Ref sig .tc := ⟨.hbm, 120, rfl⟩
abbrev main_cst_12 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_13 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_14 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v121 : Ref sig .tc := ⟨.hbm, 142, rfl⟩
abbrev main_cst_15 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_16 : Ref sig .tc := ⟨.hbm, 170, rfl⟩
abbrev main_v148 : Ref sig .tc := ⟨.hbm, 171, rfl⟩
abbrev main_v149 : Ref sig .tc := ⟨.hbm, 172, rfl⟩
abbrev main_cst_17 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_18 : Ref sig .tc := ⟨.hbm, 179, rfl⟩
abbrev main_v155 : Ref sig .tc := ⟨.hbm, 180, rfl⟩
abbrev main_v156 : Ref sig .tc := ⟨.hbm, 181, rfl⟩
abbrev main_cst_19 : Ref sig .tc := ⟨.hbm, 182, rfl⟩
abbrev main_v157 : Ref sig .tc := ⟨.hbm, 183, rfl⟩
abbrev main_v158 : Ref sig .tc := ⟨.hbm, 184, rfl⟩
abbrev main_cst_20 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_cst_21 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_22 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_call1_v0 : Ref sig .tc := ⟨.hbm, 202, rfl⟩
abbrev main_call1_v1 : Ref sig .tc := ⟨.hbm, 203, rfl⟩
abbrev main_call1_cst : Ref sig .tc := ⟨.hbm, 204, rfl⟩
abbrev main_call1_v2 : Ref sig .tc := ⟨.hbm, 205, rfl⟩
abbrev main_call1_v3 : Ref sig .tc := ⟨.hbm, 206, rfl⟩
abbrev main_call1_cst_0 : Ref sig .tc := ⟨.hbm, 207, rfl⟩
abbrev main_call1_v4 : Ref sig .tc := ⟨.hbm, 208, rfl⟩
abbrev main_v173_2 : Ref sig .tc := ⟨.hbm, 209, rfl⟩
abbrev main_call1_cst_1 : Ref sig .tc := ⟨.hbm, 210, rfl⟩
abbrev main_call1_v6 : Ref sig .tc := ⟨.hbm, 211, rfl⟩
abbrev main_call1_v7 : Ref sig .tc := ⟨.hbm, 212, rfl⟩
abbrev main_v173_1 : Ref sig .tc := ⟨.hbm, 213, rfl⟩
abbrev main_v173_0 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_call2_v0 : Ref sig .tc := ⟨.hbm, 218, rfl⟩
abbrev main_call2_v1 : Ref sig .tc := ⟨.hbm, 219, rfl⟩
abbrev main_call2_v2 : Ref sig .tc := ⟨.hbm, 220, rfl⟩
abbrev main_v177 : Ref sig .tc := ⟨.hbm, 221, rfl⟩
abbrev main_cst_23 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_cst_24 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_cst_25 : Ref sig .tc := ⟨.hbm, 233, rfl⟩
abbrev main_v187 : Ref sig .tc := ⟨.hbm, 234, rfl⟩
abbrev main_v188 : Ref sig .tc := ⟨.hbm, 235, rfl⟩
abbrev main_cst_26 : Ref sig .tc := ⟨.hbm, 236, rfl⟩
abbrev main_v189 : Ref sig .tc := ⟨.hbm, 237, rfl⟩
abbrev main_v190 : Ref sig .tc := ⟨.hbm, 238, rfl⟩
abbrev main_cst_27 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_28 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_cst_29 : Ref sig .tc := ⟨.hbm, 249, rfl⟩
abbrev main_v199 : Ref sig .tc := ⟨.hbm, 250, rfl⟩
abbrev main_v200 : Ref sig .tc := ⟨.hbm, 251, rfl⟩
abbrev main_cst_30 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_cst_31 : Ref sig .tc := ⟨.hbm, 285, rfl⟩
abbrev main_v233 : Ref sig .tc := ⟨.hbm, 286, rfl⟩
abbrev main_v234 : Ref sig .tc := ⟨.hbm, 287, rfl⟩
abbrev main_cst_32 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_33 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_cst_34 : Ref sig .tc := ⟨.hbm, 309, rfl⟩
abbrev main_v254 : Ref sig .tc := ⟨.hbm, 310, rfl⟩
abbrev main_cst_35 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_cst_36 : Ref sig .tc := ⟨.hbm, 328, rfl⟩
abbrev main_v271 : Ref sig .tc := ⟨.hbm, 329, rfl⟩
abbrev main_cst_37 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_cst_38 : Ref sig .tc := ⟨.hbm, 334, rfl⟩
abbrev main_v275 : Ref sig .tc := ⟨.hbm, 335, rfl⟩
abbrev main_v276 : Ref sig .tc := ⟨.hbm, 336, rfl⟩
abbrev main_cst_39 : Ref sig .tc := ⟨.hbm, 337, rfl⟩
abbrev main_v277 : Ref sig .tc := ⟨.hbm, 338, rfl⟩
abbrev main_v278 : Ref sig .tc := ⟨.hbm, 339, rfl⟩
abbrev main_cst_40 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩

abbrev nD : Nat := 1
abbrev τ : Topo := Topo.v7x

variable {F : FTy → Type} [FloatOps F]
-- ==== ProjKernel.lean ====
abbrev S2x2048x1024 : Shape := ⟨3, ![2, 2048, 1024]⟩
abbrev S1024 : Shape := ⟨1, ![1024]⟩
abbrev S1024x6656 : Shape := ⟨2, ![1024, 6656]⟩
abbrev S2x2048x6656 : Shape := ⟨3, ![2, 2048, 6656]⟩
abbrev S1024x4x1664 : Shape := ⟨3, ![1024, 4, 1664]⟩
abbrev S4x1024x1664 : Shape := ⟨3, ![4, 1024, 1664]⟩
abbrev S4096x6656 : Shape := ⟨2, ![4096, 6656]⟩
abbrev S4096x1024 : Shape := ⟨2, ![4096, 1024]⟩
abbrev S1x1024 : Shape := ⟨2, ![1, 1024]⟩
abbrev S32x1024 : Shape := ⟨2, ![32, 1024]⟩
abbrev S1024x1664 : Shape := ⟨2, ![1024, 1664]⟩
abbrev S1x1024x1664 : Shape := ⟨3, ![1, 1024, 1664]⟩
abbrev S1024x1024 : Shape := ⟨2, ![1024, 1024]⟩
abbrev S8x1024 : Shape := ⟨2, ![8, 1024]⟩
abbrev S1024x1 : Shape := ⟨2, ![1024, 1]⟩
abbrev S4x8x1024 : Shape := ⟨3, ![4, 8, 1024]⟩
abbrev S4x1x1024 : Shape := ⟨3, ![4, 1, 1024]⟩
abbrev S4x1024 : Shape := ⟨2, ![4, 1024]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x6656, .f32⟩
  | .hbm, ⟨3, _⟩ => ⟨S2x2048x6656, .f32⟩
  | .hbm, ⟨4, _⟩ => ⟨S2x2048x1024, .f32⟩
  | .hbm, ⟨5, _⟩ => ⟨S1024x6656, .bf16⟩
  | .hbm, ⟨6, _⟩ => ⟨S1024x4x1664, .bf16⟩
  | .hbm, ⟨7, _⟩ => ⟨S4x1024x1664, .bf16⟩
  | .hbm, ⟨8, _⟩ => ⟨S4096x6656, .f32⟩
  | .hbm, ⟨9, _⟩ => ⟨S4096x6656, .bf16⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S32x1024, .f32⟩
  | .hbm, ⟨15, _⟩ => ⟨S4x8x1024, .f32⟩
  | .hbm, ⟨16, _⟩ => ⟨S4x1x1024, .f32⟩
  | .hbm, ⟨17, _⟩ => ⟨S4x1024, .f32⟩
  | .hbm, ⟨18, _⟩ => ⟨S_, .f32⟩
  | .hbm, ⟨19, _⟩ => ⟨S1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S8x1024, .f32⟩
  | .local _ .vmem, ⟨13, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjReferenceIdeal.lean ====
abbrev S2x2048x1024 : Shape := ⟨3, ![2, 2048, 1024]⟩
abbrev S1024 : Shape := ⟨1, ![1024]⟩
abbrev S1024x6656 : Shape := ⟨2, ![1024, 6656]⟩
abbrev S2x2048x6656 : Shape := ⟨3, ![2, 2048, 6656]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x6656, .f32⟩
  | .hbm, ⟨3, _⟩ => ⟨S2x2048x6656, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x6656, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== ChanKernel.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S4096x1024 : Shape := ⟨2, ![4096, 1024]⟩
abbrev S1x1024 : Shape := ⟨2, ![1, 1024]⟩
abbrev S4x4096x704 : Shape := ⟨3, ![4, 4096, 704]⟩
abbrev S64x1024 : Shape := ⟨2, ![64, 1024]⟩
abbrev S512x1024 : Shape := ⟨2, ![512, 1024]⟩
abbrev S4x512x704 : Shape := ⟨3, ![4, 512, 704]⟩
abbrev S8x1024 : Shape := ⟨2, ![8, 1024]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S128x1024 : Shape := ⟨2, ![128, 1024]⟩
abbrev S256x1024 : Shape := ⟨2, ![256, 1024]⟩
abbrev S4x256x704 : Shape := ⟨3, ![4, 256, 704]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S8x8x1024 : Shape := ⟨3, ![8, 8, 1024]⟩
abbrev S8x1x1024 : Shape := ⟨3, ![8, 1, 1024]⟩
abbrev S_ : Shape := ⟨0, ![]⟩
abbrev S16x8x1024 : Shape := ⟨3, ![16, 8, 1024]⟩
abbrev S16x1x1024 : Shape := ⟨3, ![16, 1, 1024]⟩
abbrev S16x1024 : Shape := ⟨2, ![16, 1024]⟩

abbrev nBuf : Space → Nat
  | .hbm => 46
  | .vmem => 41
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x2048x1024, .f32⟩
  | .hbm, ⟨7, _⟩ => ⟨S1024x2816, .bf16⟩
  | .hbm, ⟨8, _⟩ => ⟨S2816x1024, .bf16⟩
  | .hbm, ⟨9, _⟩ => ⟨S4x704x1024, .bf16⟩
  | .hbm, ⟨10, _⟩ => ⟨S1024x2816, .bf16⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S4096x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S4x4096x704, .bf16⟩
  | .hbm, ⟨21, _⟩ => ⟨S4x4096x704, .bf16⟩
  | .hbm, ⟨22, _⟩ => ⟨S4x4096x704, .bf16⟩
  | .hbm, ⟨23, _⟩ => ⟨S4096x1024, .f32⟩
  | .hbm, ⟨24, _⟩ => ⟨S64x1024, .f32⟩
  | .hbm, ⟨25, _⟩ => ⟨S4x4096x704, .bf16⟩
  | .hbm, ⟨26, _⟩ => ⟨S4x4096x704, .bf16⟩
  | .hbm, ⟨27, _⟩ => ⟨S4096x1024, .f32⟩
  | .hbm, ⟨28, _⟩ => ⟨S128x1024, .f32⟩
  | .hbm, ⟨29, _⟩ => ⟨S8x8x1024, .f32⟩
  | .hbm, ⟨30, _⟩ => ⟨S8x1x1024, .f32⟩
  | .hbm, ⟨31, _⟩ => ⟨S8x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S_, .f32⟩
  | .hbm, ⟨36, _⟩ => ⟨S16x8x1024, .f32⟩
  | .hbm, ⟨37, _⟩ => ⟨S16x1x1024, .f32⟩
  | .hbm, ⟨38, _⟩ => ⟨S16x1024, .f32⟩
  | .hbm, ⟨39, _⟩ => ⟨S_, .f32⟩
  | .hbm, ⟨40, _⟩ => ⟨S1024, .f32⟩
  | .hbm, ⟨41, _⟩ => ⟨S8x8x1024, .f32⟩
  | .hbm, ⟨42, _⟩ => ⟨S8x1x1024, .f32⟩
  | .hbm, ⟨43, _⟩ => ⟨S8x1024, .f32⟩
  | .hbm, ⟨44, _⟩ => ⟨S_, .f32⟩
  | .hbm, ⟨45, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S8x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S4x256x704, .bf16⟩
  | .local _ .vmem, ⟨27, _⟩ => ⟨S4x256x704, .bf16⟩
  | .local _ .vmem, ⟨28, _⟩ => ⟨S4x256x704, .bf16⟩
  | .local _ .vmem, ⟨29, _⟩ => ⟨S4x256x704, .bf16⟩
  | .local _ .vmem, ⟨30, _⟩ => ⟨S4x704x1024, .bf16⟩
  | .local _ .vmem, ⟨31, _⟩ => ⟨S4x704x1024, .bf16⟩
  | .local _ .vmem, ⟨32, _⟩ => ⟨S4x704x1024, .bf16⟩
  | .local _ .vmem, ⟨33, _⟩ => ⟨S4x256x704, .bf16⟩
  | .local _ .vmem, ⟨34, _⟩ => ⟨S4x256x704, .bf16⟩
  | .local _ .vmem, ⟨35, _⟩ => ⟨S4x256x704, .bf16⟩
  | .local _ .vmem, ⟨36, _⟩ => ⟨S4x256x704, .bf16⟩
  | .local _ .vmem, ⟨37, _⟩ => ⟨S256x1024, .f32⟩
  | .local _ .vmem, ⟨38, _⟩ => ⟨S256x1024, .f32⟩
  | .local _ .vmem, ⟨39, _⟩ => ⟨S8x1024, .f32⟩
  | .local _ .vmem, ⟨40, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem10_1 : DmaSem sig := 38
abbrev cc1_sem11_0 : DmaSem sig := 39
abbrev cc1_sem11_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x704x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x704x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x704x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4x256x704 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ChanReferenceIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩

abbrev nBuf : Space → Nat
  | .hbm => 162
  | .vmem => 0
  | .smem => 0
  | _ => 0

abbrev hbmTy0_0 (i : Nat) : BufTy := match i % 128 with
  | 0 => ⟨S2x2048x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S2x2048x1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1024, .f32⟩
  | 23 => ⟨S2x2048x1024, .f32⟩
  | 24 => ⟨S1x1x1024, .f32⟩
  | 25 => ⟨S2x2048x1024, .f32⟩
  | 26 => ⟨S2x2048x1024, .f32⟩
  | 27 => ⟨S2x2048x2816, .f32⟩
  | 28 => ⟨S2x2048x2816, .f32⟩
  | 29 => ⟨S2x2048x2816, .f32⟩
  | 30 => ⟨S2x2048x2816, .f32⟩
  | 31 => ⟨S_, .f32⟩
  | 32 => ⟨S2x2048x2816, .f32⟩
  | 33 => ⟨S2x2048x2816, .f32⟩
  | 34 => ⟨S_, .f32⟩
  | 35 => ⟨S2x2048x2816, .f32⟩
  | 36 => ⟨S2x2048x2816, .f32⟩
  | 37 => ⟨S_, .f32⟩
  | 38 => ⟨S2x2048x2816, .f32⟩
  | 39 => ⟨S2x2048x2816, .f32⟩
  | 40 => ⟨S2x2048x2816, .f32⟩
  | 41 => ⟨S2x2048x2816, .f32⟩
  | 42 => ⟨S2x2048x2816, .f32⟩
  | 43 => ⟨S2x2048x1024, .f32⟩
  | 44 => ⟨S2x2048x1024, .f32⟩
  | 45 => ⟨S2x2048x1024, .f32⟩
  | 46 => ⟨S_, .f32⟩
  | 47 => ⟨S2x2048, .f32⟩
  | 48 => ⟨S2x2048x1, .f32⟩
  | 49 => ⟨S_, .f32⟩
  | 50 => ⟨S2x2048x1, .f32⟩
  | 51 => ⟨S2x2048x1, .f32⟩
  | 52 => ⟨S_, .f32⟩
  | 53 => ⟨S2x2048x1, .f32⟩
  | 54 => ⟨S2x2048x1, .f32⟩
  | 55 => ⟨S2x2048x1, .f32⟩
  | 56 => ⟨S2x2048x1, .f32⟩
  | 57 => ⟨S_, .f32⟩
  | 58 => ⟨S2x2048x1, .f32⟩
  | 59 => ⟨S2x2048x1, .f32⟩
  | 60 => ⟨S2x2048x1024, .f32⟩
  | 61 => ⟨S2x2048x1024, .f32⟩
  | 62 => ⟨S1x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S_, .f32⟩
  | 68 => ⟨S2x2048x1024, .f32⟩
  | 69 => ⟨S2x2048x1024, .f32⟩
  | 70 => ⟨S_, .f32⟩
  | 71 => ⟨S2x2048, .f32⟩
  | 72 => ⟨S_, .f32⟩
  | 73 => ⟨S2x2048, .f32⟩
  | 74 => ⟨S2x2048, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S2x2048, .f32⟩
  | 83 => ⟨S_, .f32⟩
  | 84 => ⟨S2x2048, .f32⟩
  | 85 => ⟨S2x2048, .f32⟩
  | 86 => ⟨S2x2048x1024, .f32⟩
  | 87 => ⟨S2x2048x1024, .f32⟩
  | 88 => ⟨S2x2048x1024, .f32⟩
  | 89 => ⟨S_, .f32⟩
  | 90 => ⟨S1024, .f32⟩
  | 91 => ⟨S1x1x1024, .f32⟩
  | 92 => ⟨S2x2048x1024, .f32⟩
  | 93 => ⟨S2x2048x1024, .f32⟩
  | 94 => ⟨S_, .f32⟩
  | 95 => ⟨S1024, .f32⟩
  | 96 => ⟨S2x2048x1024, .f32⟩
  | 97 => ⟨S_, .f32⟩
  | 98 => ⟨S2x2048, .f32⟩
  | 99 => ⟨S2x2048x1, .f32⟩
  | 100 => ⟨S2x2048x1024, .f32⟩
  | 101 => ⟨S2x2048x1024, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x2048x1024, .f32⟩
  | 113 => ⟨S2x2048x2816, .f32⟩
  | 114 => ⟨S2x2048x2816, .f32⟩
  | 115 => ⟨S2x2048x2816, .f32⟩
  | 116 => ⟨S2x2048x2816, .f32⟩
  | 117 => ⟨S2x2048x2816, .f32⟩
  | 118 => ⟨S2x2048x2816, .f32⟩
  | 119 => ⟨S2x2048x2816, .f32⟩
  | 120 => ⟨S2x2048x1024, .f32⟩
  | 121 => ⟨S2x2048x1024, .f32⟩
  | 122 => ⟨S2x2048x1024, .f32⟩
  | 123 => ⟨S2x2048x1024, .f32⟩
  | 124 => ⟨S_, .f32⟩
  | 125 => ⟨S1024, .f32⟩
  | 126 => ⟨S1x1x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S_, .f32⟩
  | 2 => ⟨S1024, .f32⟩
  | 3 => ⟨S2x2048x1024, .f32⟩
  | 4 => ⟨S_, .f32⟩
  | 5 => ⟨S2x2048, .f32⟩
  | 6 => ⟨S2x2048x1, .f32⟩
  | 7 => ⟨S2x2048x1024, .f32⟩
  | 8 => ⟨S2x2048x1024, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S2x2048x1024, .f32⟩
  | 21 => ⟨S4096x1024, .f32⟩
  | 22 => ⟨S4096x1024, .f32⟩
  | 23 => ⟨S4096x1024, .f32⟩
  | 24 => ⟨S4096x1024, .bf16⟩
  | 25 => ⟨S4096x4x704, .f32⟩
  | 26 => ⟨S4x4096x704, .f32⟩
  | 27 => ⟨S4x4096x704, .bf16⟩
  | 28 => ⟨S4096x4x704, .f32⟩
  | 29 => ⟨S4x4096x704, .f32⟩
  | 30 => ⟨S4x4096x704, .bf16⟩
  | 31 => ⟨S4096x4x704, .f32⟩
  | 32 => ⟨S4x4096x704, .f32⟩
  | 33 => ⟨S4x4096x704, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_20 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_23 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩

abbrev nD : Nat := 1
abbrev τ : Topo := Topo.v7x

variable {F : FTy → Type} [FloatOps F]
-- ==== RetFwdKernel.lean ====
abbrev S2x2048x6656 : Shape := ⟨3, ![2, 2048, 6656]⟩
abbrev S4096x6656 : Shape := ⟨2, ![4096, 6656]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x1x256 : Shape := ⟨3, ![4, 1, 256]⟩
abbrev S4096x512 : Shape := ⟨2, ![4096, 512]⟩
abbrev S4096x1024 : Shape := ⟨2, ![4096, 1024]⟩
abbrev S2x4x32x128x256 : Shape := ⟨5, ![2, 4, 32, 128, 256]⟩
abbrev S256x512 : Shape := ⟨2, ![256, 512]⟩
abbrev S256x1024 : Shape := ⟨2, ![256, 1024]⟩
abbrev S256x128 : Shape := ⟨2, ![256, 128]⟩
abbrev S1x4x4x128x256 : Shape := ⟨5, ![1, 4, 4, 128, 256]⟩
abbrev S4x128x256 : Shape := ⟨3, ![4, 128, 256]⟩
abbrev S1x128x256 : Shape := ⟨3, ![1, 128, 256]⟩
abbrev S128x256 : Shape := ⟨2, ![128, 256]⟩
abbrev S64x128 : Shape := ⟨2, ![64, 128]⟩
abbrev S64x256 : Shape := ⟨2, ![64, 256]⟩
abbrev S1x1x1x128x256 : Shape := ⟨5, ![1, 1, 1, 128, 256]⟩
abbrev S1x64x128 : Shape := ⟨3, ![1, 64, 128]⟩
abbrev S1x1x256 : Shape := ⟨3, ![1, 1, 256]⟩
abbrev S1x256 : Shape := ⟨2, ![1, 256]⟩

abbrev nBuf : Space → Nat
  | .hbm => 85
  | .vmem => 27
  | .smem => 0
  | _ => 0

abbrev bufTy : (tb : Table) → Fin (tcTables nBuf tb) → BufTy
  | .hbm, ⟨0, _⟩ => ⟨S2x2048x6656, .f32⟩
  | .hbm, ⟨1, _⟩ => ⟨S4096x6656, .f32⟩
  | .hbm, ⟨2, _⟩ => ⟨S4096x6656, .bf16⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x128, .f32⟩
  | .hbm, ⟨26, _⟩ => ⟨S2048x64, .f32⟩
  | .hbm, ⟨27, _⟩ => ⟨S2048x128, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S64, .f32⟩
  | .hbm, ⟨40, _⟩ => ⟨S4x1x1, .f32⟩
  | .hbm, ⟨41, _⟩ => ⟨S64x1, .f32⟩
  | .hbm, ⟨42, _⟩ => ⟨S1x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S1x64x64, .f32⟩
  | .hbm, ⟨48, _⟩ => ⟨S4x64x64, .f32⟩
  | .hbm, ⟨49, _⟩ => ⟨S4x64x64, .f32⟩
  | .hbm, ⟨50, _⟩ => ⟨S4x64x64, .f32⟩
  | .hbm, ⟨51, _⟩ => ⟨S4x64x64, .f32⟩
  | .hbm, ⟨52, _⟩ => ⟨S4x1, .f32⟩
  | .hbm, ⟨53, _⟩ => ⟨S1x64, .f32⟩
  | .hbm, ⟨54, _⟩ => ⟨S_, .f32⟩
  | .hbm, ⟨55, _⟩ => ⟨S1x64, .f32⟩
  | .hbm, ⟨56, _⟩ => ⟨S1x64, .f32⟩
  | .hbm, ⟨57, _⟩ => ⟨S4x64, .f32⟩
  | .hbm, ⟨58, _⟩ => ⟨S4x64, .f32⟩
  | .hbm, ⟨59, _⟩ => ⟨S4x64, .f32⟩
  | .hbm, ⟨60, _⟩ => ⟨S4x64, .f32⟩
  | .hbm, ⟨61, _⟩ => ⟨S4x1, .f32⟩
  | .hbm, ⟨62, _⟩ => ⟨S1x64, .f32⟩
  | .hbm, ⟨63, _⟩ => ⟨S_, .f32⟩
  | .hbm, ⟨64, _⟩ => ⟨S1x64, .f32⟩
  | .hbm, ⟨65, _⟩ => ⟨S1x64, .f32⟩
  | .hbm, ⟨66, _⟩ => ⟨S4x64, .f32⟩
  | .hbm, ⟨67, _⟩ => ⟨S4x64, .f32⟩
  | .hbm, ⟨68, _⟩ => ⟨S4x64, .f32⟩
  | .hbm, ⟨69, _⟩ => ⟨S4x64, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4x64x1, .f32⟩
  | .hbm, ⟨75, _⟩ => ⟨S4x64x128, .f32⟩
  | .hbm, ⟨76, _⟩ => ⟨S4x64x1, .f32⟩
  | .hbm, ⟨77, _⟩ => ⟨S4x64x128, .f32⟩
  | .hbm, ⟨78, _⟩ => ⟨S4x1x1, .f32⟩
  | .hbm, ⟨79, _⟩ => ⟨S4x1x256, .f32⟩
  | .hbm, ⟨80, _⟩ => ⟨S4096x512, .bf16⟩
  | .hbm, ⟨81, _⟩ => ⟨S4096x512, .bf16⟩
  | .hbm, ⟨82, _⟩ => ⟨S4096x1024, .bf16⟩
  | .hbm, ⟨83, _⟩ => ⟨S4096x1024, .bf16⟩
  | .hbm, ⟨84, _⟩ => ⟨S2x4x32x128x256, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x64x64, .f32⟩
  | .local _ .vmem, ⟨13, _⟩ => ⟨S4x64x128, .f32⟩
  | .local _ .vmem, ⟨14, _⟩ => ⟨S4x64x128, .f32⟩
  | .local _ .vmem, ⟨15, _⟩ => ⟨S4x1x256, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x4x4x128x256, .bf16⟩
  | .local _ .vmem, ⟨25, _⟩ => ⟨S1x4x4x128x256, .bf16⟩
  | .local _ .vmem, ⟨26, _⟩ => ⟨S4x128x256, .f32⟩
  | _, _ => ⟨S2x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_6 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_7 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_8 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69_0 : Ref sig .tc := ⟨.hbm, 80, rfl⟩
abbrev main_v69_1 : Ref sig .tc := ⟨.hbm, 81, rfl⟩
abbrev main_v69_2 : Ref sig .tc := ⟨.hbm, 82, rfl⟩
abbrev main_v69_3 : Ref sig .tc := ⟨.hbm, 83, rfl⟩
abbrev main_v69_4 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x4x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RetFwdReferenceIdeal.lean ====
abbrev S2x2048x6656 : Shape := ⟨3, ![2, 2048, 6656]⟩
abbrev S2x2048x3072 : Shape := ⟨3, ![2, 2048, 3072]⟩
abbrev S2x2048x512 : Shape := ⟨3, ![2, 2048, 512]⟩
abbrev S2x2048x1024 : Shape := ⟨3, ![2, 2048, 1024]⟩
abbrev S2048 : Shape := ⟨1, ![2048]⟩
abbrev S2x2048x4x128 : Shape := ⟨4, ![2, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S2x2048x4x64 : Shape := ⟨4, ![2, 2048, 4, 64]⟩
abbrev S2x2048x4x256 : Shape := ⟨4, ![2, 2048, 4, 256]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x1 : Shape := ⟨3, ![64, 4, 1]⟩
abbrev S32 : Shape := ⟨1, ![32]⟩
abbrev S32x1 : Shape := ⟨2, ![32, 1]⟩
abbrev S1x2048 : Shape := ⟨2, ![1, 2048]⟩
abbrev S32x2048 : Shape := ⟨2, ![32, 2048]⟩
abbrev S1x32x2048 : Shape := ⟨3, ![1, 32, 2048]⟩
abbrev S4x32x2048 : Shape := ⟨3, ![4, 32, 2048]⟩
abbrev S2x4x2048x128 : Shape := ⟨4, ![2, 4, 2048, 128]⟩
abbrev S2x4x1x2048x128 : Shape := ⟨5, ![2, 4, 1, 2048, 128]⟩
abbrev S4x32x2048x1 : Shape := ⟨4, ![4, 32, 2048, 1]⟩
abbrev S1x4x32x2048x1 : Shape := ⟨5, ![1, 4, 32, 2048, 1]⟩
abbrev S2x4x32x2048x128 : Shape := ⟨5, ![2, 4, 32, 2048, 128]⟩
abbrev S2x4x32x128x256 : Shape := ⟨5, ![2, 4, 32, 128, 256]⟩
abbrev S2x32x64x4x128 : Shape := ⟨5, ![2, 32, 64, 4, 128]⟩
abbrev S2x32x64x4x256 : Shape := ⟨5, ![2, 32, 64, 4, 256]⟩
abbrev S2x32x4x64x64 : Shape := ⟨5, ![2, 32, 4, 64, 64]⟩
abbrev S1x1x4x64x64 : Shape := ⟨5, ![1, 1, 4, 64, 64]⟩
abbrev S2x32x4x256x64 : Shape := ⟨5, ![2, 32, 4, 256, 64]⟩
abbrev S1x1x64x4x1 : Shape := ⟨5, ![1, 1, 64, 4, 1]⟩
abbrev S2x2048x4 : Shape := ⟨3, ![2, 2048, 4]⟩
abbrev S2x2048x4x1 : Shape := ⟨4, ![2, 2048, 4, 1]⟩
abbrev S4096x1024 : Shape := ⟨2, ![4096, 1024]⟩
abbrev S4096x512 : Shape := ⟨2, ![4096, 512]⟩

abbrev nBuf : Space → Nat
  | .hbm => 213
  | .vmem => 0
  | .smem => 0
  | _ => 0

abbrev hbmTy0_0 (i : Nat) : BufTy := match i % 128 with
  | 0 => ⟨S2x2048x6656, .f32⟩
  | 1 => ⟨S2x2048x3072, .f32⟩
  | 2 => ⟨S2x2048x512, .f32⟩
  | 3 => ⟨S2x2048x512, .f32⟩
  | 4 => ⟨S2x2048x1024, .f32⟩
  | 5 => ⟨S2048, .f32⟩
  | 6 => ⟨S2x2048x4x128, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S2048x1, .f32⟩
  | 22 => ⟨S1x64, .f32⟩
  | 23 => ⟨S2048x64, .f32⟩
  | 24 => ⟨S2048x64, .f32⟩
  | 25 => ⟨S2048x64, .f32⟩
  | 26 => ⟨S2048x64, .f32⟩
  | 27 => ⟨S1x2048x1x64, .f32⟩
  | 28 => ⟨S2048x64, .f32⟩
  | 29 => ⟨S1x2048x1x64, .f32⟩
  | 30 => ⟨S2x2048x4x64, .f32⟩
  | 31 => ⟨S2x2048x4x64, .f32⟩
  | 32 => ⟨S2x2048x4x64, .f32⟩
  | 33 => ⟨S2x2048x4x64, .f32⟩
  | 34 => ⟨S2x2048x4x64, .f32⟩
  | 35 => ⟨S2x2048x4x64, .f32⟩
  | 36 => ⟨S2x2048x4x64, .f32⟩
  | 37 => ⟨S2x2048x4x64, .f32⟩
  | 38 => ⟨S2x2048x4x64, .f32⟩
  | 39 => ⟨S2x2048x4x64, .f32⟩
  | 40 => ⟨S2x2048x4x64, .f32⟩
  | 41 => ⟨S2x2048x4x64, .f32⟩
  | 42 => ⟨S2x2048x4x128, .f32⟩
  | 43 => ⟨S2x2048x4x128, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S2048x1, .f32⟩
  | 59 => ⟨S1x64, .f32⟩
  | 60 => ⟨S2048x64, .f32⟩
  | 61 => ⟨S2048x64, .f32⟩
  | 62 => ⟨S2048x64, .f32⟩
  | 63 => ⟨S2048x64, .f32⟩
  | 64 => ⟨S1x2048x1x64, .f32⟩
  | 65 => ⟨S2048x64, .f32⟩
  | 66 => ⟨S1x2048x1x64, .f32⟩
  | 67 => ⟨S2x2048x4x64, .f32⟩
  | 68 => ⟨S2x2048x4x64, .f32⟩
  | 69 => ⟨S2x2048x4x64, .f32⟩
  | 70 => ⟨S2x2048x4x64, .f32⟩
  | 71 => ⟨S2x2048x4x64, .f32⟩
  | 72 => ⟨S2x2048x4x64, .f32⟩
  | 73 => ⟨S2x2048x4x64, .f32⟩
  | 74 => ⟨S2x2048x4x64, .f32⟩
  | 75 => ⟨S2x2048x4x64, .f32⟩
  | 76 => ⟨S2x2048x4x64, .f32⟩
  | 77 => ⟨S2x2048x4x64, .f32⟩
  | 78 => ⟨S2x2048x4x64, .f32⟩
  | 79 => ⟨S2x2048x4x128, .f32⟩
  | 80 => ⟨S2x2048x4x256, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4, .f32⟩
  | 92 => ⟨S64, .f32⟩
  | 93 => ⟨S4x1x1, .f32⟩
  | 94 => ⟨S64x1, .f32⟩
  | 95 => ⟨S1x64, .f32⟩
  | 96 => ⟨S64x64, .f32⟩
  | 97 => ⟨S64x64, .f32⟩
  | 98 => ⟨S64x64, .f32⟩
  | 99 => ⟨S64x64, .f32⟩
  | 100 => ⟨S1x64x64, .f32⟩
  | 101 => ⟨S4x64x64, .f32⟩
  | 102 => ⟨S4x64x64, .f32⟩
  | 103 => ⟨S4x64x64, .f32⟩
  | 104 => ⟨S4x64x64, .f32⟩
  | 105 => ⟨S1x4, .f32⟩
  | 106 => ⟨S64x1, .f32⟩
  | 107 => ⟨S_, .f32⟩
  | 108 => ⟨S64x1, .f32⟩
  | 109 => ⟨S64x1, .f32⟩
  | 110 => ⟨S64x4, .f32⟩
  | 111 => ⟨S64x4, .f32⟩
  | 112 => ⟨S64x4, .f32⟩
  | 113 => ⟨S64x4, .f32⟩
  | 114 => ⟨S64x4x1, .f32⟩
  | 115 => ⟨S32, .f32⟩
  | 116 => ⟨S32x1, .f32⟩
  | 117 => ⟨S_, .f32⟩
  | 118 => ⟨S32x1, .f32⟩
  | 119 => ⟨S32x1, .f32⟩
  | 120 => ⟨S_, .f32⟩
  | 121 => ⟨S32x1, .f32⟩
  | 122 => ⟨S32x1, .f32⟩
  | 123 => ⟨S2048, .f32⟩
  | 124 => ⟨S1x2048, .f32⟩
  | 125 => ⟨S32x2048, .f32⟩
  | 126 => ⟨S32x2048, .f32⟩
  | 127 => ⟨S32x2048, .f32⟩
  | _ => ⟨S2x2048x6656, .f32⟩

abbrev hbmTy0_1 (i : Nat) : BufTy := match i % 128 with
  | 0 => ⟨S_, .f32⟩
  | 1 => ⟨S32x2048, .f32⟩
  | 2 => ⟨S32x2048, .i1⟩
  | 3 => ⟨S4x1x1, .f32⟩
  | 4 => ⟨S1x32x2048, .f32⟩
  | 5 => ⟨S4x32x2048, .f32⟩
  | 6 => ⟨S4x32x2048, .f32⟩
  | 7 => ⟨S4x32x2048, .f32⟩
  | 8 => ⟨S4x32x2048, .f32⟩
  | 9 => ⟨S_, .f32⟩
  | 10 => ⟨S_, .f32⟩
  | 11 => ⟨S4x32x2048, .i1⟩
  | 12 => ⟨S4x32x2048, .f32⟩
  | 13 => ⟨S4x32x2048, .f32⟩
  | 14 => ⟨S_, .f32⟩
  | 15 => ⟨S2x2048x4x128, .f32⟩
  | 16 => ⟨S2x2048x4x128, .f32⟩
  | 17 => ⟨S2x4x2048x128, .f32⟩
  | 18 => ⟨S2x4x1x2048x128, .f32⟩
  | 19 => ⟨S4x32x2048x1, .f32⟩
  | 20 => ⟨S1x4x32x2048x1, .f32⟩
  | 21 => ⟨S2x4x32x2048x128, .f32⟩
  | 22 => ⟨S2x4x32x2048x128, .f32⟩
  | 23 => ⟨S2x4x32x2048x128, .f32⟩
  | 24 => ⟨S2x4x32x128x256, .f32⟩
  | 25 => ⟨S2x32x64x4x128, .f32⟩
  | 26 => ⟨S2x32x64x4x128, .f32⟩
  | 27 => ⟨S2x32x64x4x256, .f32⟩
  | 28 => ⟨S2x32x4x64x64, .f32⟩
  | 29 => ⟨S1x1x4x64x64, .f32⟩
  | 30 => ⟨S2x32x4x64x64, .f32⟩
  | 31 => ⟨S2x32x4x64x64, .f32⟩
  | 32 => ⟨S2x32x4x256x64, .f32⟩
  | 33 => ⟨S2x32x64x4x256, .f32⟩
  | 34 => ⟨S1x1x64x4x1, .f32⟩
  | 35 => ⟨S2x32x64x4x128, .f32⟩
  | 36 => ⟨S2x32x64x4x128, .f32⟩
  | 37 => ⟨S2x32x4x256x64, .f32⟩
  | 38 => ⟨S2x32x64x4x256, .f32⟩
  | 39 => ⟨S2x32x64x4x256, .f32⟩
  | 40 => ⟨S2x2048x4x256, .f32⟩
  | 41 => ⟨S2x2048x1024, .f32⟩
  | 42 => ⟨S2x2048x1024, .f32⟩
  | 43 => ⟨S2x2048x1024, .f32⟩
  | 44 => ⟨S_, .f32⟩
  | 45 => ⟨S2x2048x1024, .f32⟩
  | 46 => ⟨S2x2048x1024, .f32⟩
  | 47 => ⟨S_, .f32⟩
  | 48 => ⟨S2x2048x1024, .f32⟩
  | 49 => ⟨S2x2048x1024, .f32⟩
  | 50 => ⟨S2x2048x1024, .f32⟩
  | 51 => ⟨S_, .f32⟩
  | 52 => ⟨S2x2048x4, .f32⟩
  | 53 => ⟨S2x2048x4x1, .f32⟩
  | 54 => ⟨S_, .f32⟩
  | 55 => ⟨S2x2048x4x1, .f32⟩
  | 56 => ⟨S2x2048x4x1, .f32⟩
  | 57 => ⟨S2x2048x4x256, .f32⟩
  | 58 => ⟨S2x2048x4x256, .f32⟩
  | 59 => ⟨S2x2048x4x256, .f32⟩
  | 60 => ⟨S_, .f32⟩
  | 61 => ⟨S2x2048x4, .f32⟩
  | 62 => ⟨S2x2048x4x1, .f32⟩
  | 63 => ⟨S_, .f32⟩
  | 64 => ⟨S2x2048x4x1, .f32⟩
  | 65 => ⟨S2x2048x4x1, .f32⟩
  | 66 => ⟨S2x2048x4x256, .f32⟩
  | 67 => ⟨S2x2048x4x256, .f32⟩
  | 68 => ⟨S_, .f32⟩
  | 69 => ⟨S2x2048x4x1, .f32⟩
  | 70 => ⟨S2x2048x4x1, .f32⟩
  | 71 => ⟨S2x2048x4x1, .f32⟩
  | 72 => ⟨S2x2048x4x256, .f32⟩
  | 73 => ⟨S2x2048x4x256, .f32⟩
  | 74 => ⟨S2x2048x1024, .f32⟩
  | 75 => ⟨S2x2048x1024, .f32⟩
  | 76 => ⟨S4096x1024, .f32⟩
  | 77 => ⟨S4096x1024, .bf16⟩
  | 78 => ⟨S4096x512, .f32⟩
  | 79 => ⟨S4096x512, .bf16⟩
  | 80 => ⟨S4096x512, .f32⟩
  | 81 => ⟨S4096x512, .bf16⟩
  | 82 => ⟨S4096x1024, .f32⟩
  | 83 => ⟨S4096x1024, .bf16⟩
  | 84 => ⟨S2x4x32x128x256, .bf16⟩
  | _ => ⟨S2x2048x6656, .f32⟩

abbrev hbmTy (i : Nat) : BufTy := match i / 128 with
  | 0 => hbmTy0_0 i
  | 1 => hbmTy0_1 i
  | _ => ⟨S2x2048x6656, .f32⟩

abbrev bufTy : (tb : Table) → Fin (tcTables nBuf tb) → BufTy
  | .hbm, ⟨i, _⟩ => hbmTy i
  | _, _ => ⟨S2x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_cst_4 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_5 : Ref sig .tc := ⟨.hbm, 52, rfl⟩
abbrev main_v45 : Ref sig .tc := ⟨.hbm, 53, rfl⟩
abbrev main_v46 : Ref sig .tc := ⟨.hbm, 54, rfl⟩
abbrev main_cst_6 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_7 : Ref sig .tc := ⟨.hbm, 82, rfl⟩
abbrev main_v73 : Ref sig .tc := ⟨.hbm, 83, rfl⟩
abbrev main_v74 : Ref sig .tc := ⟨.hbm, 84, rfl⟩
abbrev main_cst_8 : Ref sig .tc := ⟨.hbm, 85, rfl⟩
abbrev main_v75 : Ref sig .tc := ⟨.hbm, 86, rfl⟩
abbrev main_v76 : Ref sig .tc := ⟨.hbm, 87, rfl⟩
abbrev main_cst_9 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_cst_10 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_11 : Ref sig .tc := ⟨.hbm, 117, rfl⟩
abbrev main_v104 : Ref sig .tc := ⟨.hbm, 118, rfl⟩
abbrev main_v105 : Ref sig .tc := ⟨.hbm, 119, rfl⟩
abbrev main_cst_12 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_cst_13 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_14 : Ref sig .tc := ⟨.hbm, 137, rfl⟩
abbrev main_call0_v0 : Ref sig .tc := ⟨.hbm, 138, rfl⟩
abbrev main_call0_v1 : Ref sig .tc := ⟨.hbm, 139, rfl⟩
abbrev main_call0_v2 : Ref sig .tc := ⟨.hbm, 140, rfl⟩
abbrev main_v121 : Ref sig .tc := ⟨.hbm, 141, rfl⟩
abbrev main_cst_15 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_call1_v0 : Ref sig .tc := ⟨.hbm, 170, rfl⟩
abbrev main_call1_v1 : Ref sig .tc := ⟨.hbm, 171, rfl⟩
abbrev main_call1_cst : Ref sig .tc := ⟨.hbm, 172, rfl⟩
abbrev main_call1_v2 : Ref sig .tc := ⟨.hbm, 173, rfl⟩
abbrev main_call1_v3 : Ref sig .tc := ⟨.hbm, 174, rfl⟩
abbrev main_call1_cst_0 : Ref sig .tc := ⟨.hbm, 175, rfl⟩
abbrev main_call1_v4 : Ref sig .tc := ⟨.hbm, 176, rfl⟩
abbrev main_call1_v5 : Ref sig .tc := ⟨.hbm, 177, rfl⟩
abbrev main_v149 : Ref sig .tc := ⟨.hbm, 178, rfl⟩
abbrev main_cst_16 : Ref sig .tc := ⟨.hbm, 179, rfl⟩
abbrev main_v150 : Ref sig .tc := ⟨.hbm, 180, rfl⟩
abbrev main_v151 : Ref sig .tc := ⟨.hbm, 181, rfl⟩
abbrev main_cst_17 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_18 : Ref sig .tc := ⟨.hbm, 188, rfl⟩
abbrev main_v157 : Ref sig .tc := ⟨.hbm, 189, rfl⟩
abbrev main_v158 : Ref sig .tc := ⟨.hbm, 190, rfl⟩
abbrev main_cst_19 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_20 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩

abbrev nD : Nat := 1
abbrev τ : Topo := Topo.v7x

variable {F : FTy → Type} [FloatOps F]
-- ==== AttKernel.lean ====
abbrev S2x2048x6656 : Shape := ⟨3, ![2, 2048, 6656]⟩
abbrev S8x320 : Shape := ⟨2, ![8, 320]⟩
abbrev S4096x6656 : Shape := ⟨2, ![4096, 6656]⟩
abbrev S8x1 : Shape := ⟨2, ![8, 1]⟩
abbrev S8x257 : Shape := ⟨2, ![8, 257]⟩
abbrev S8x319 : Shape := ⟨2, ![8, 319]⟩
abbrev S8x192 : Shape := ⟨2, ![8, 192]⟩
abbrev S8x256 : Shape := ⟨2, ![8, 256]⟩
abbrev S8x1024 : Shape := ⟨2, ![8, 1024]⟩
abbrev S4096x512 : Shape := ⟨2, ![4096, 512]⟩
abbrev S256x512 : Shape := ⟨2, ![256, 512]⟩
abbrev S2048x512 : Shape := ⟨2, ![2048, 512]⟩
abbrev S8x256x768 : Shape := ⟨3, ![8, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S1x128 : Shape := ⟨2, ![1, 128]⟩
abbrev S256x128 : Shape := ⟨2, ![256, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S512x512 : Shape := ⟨2, ![512, 512]⟩
abbrev S512x128 : Shape := ⟨2, ![512, 128]⟩
abbrev S1x256x512 : Shape := ⟨3, ![1, 256, 512]⟩
abbrev S768x512 : Shape := ⟨2, ![768, 512]⟩
abbrev S768x128 : Shape := ⟨2, ![768, 128]⟩

abbrev nBuf : Space → Nat
  | .hbm => 13
  | .vmem => 10
  | .smem => 0
  | _ => 0

abbrev bufTy : (tb : Table) → Fin (tcTables nBuf tb) → BufTy
  | .hbm, ⟨0, _⟩ => ⟨S2x2048x6656, .f32⟩
  | .hbm, ⟨1, _⟩ => ⟨S8x320, .f32⟩
  | .hbm, ⟨2, _⟩ => ⟨S4096x6656, .f32⟩
  | .hbm, ⟨3, _⟩ => ⟨S4096x6656, .bf16⟩
  | .hbm, ⟨4, _⟩ => ⟨S8x1, .f32⟩
  | .hbm, ⟨5, _⟩ => ⟨S8x257, .f32⟩
  | .hbm, ⟨6, _⟩ => ⟨S8x319, .f32⟩
  | .hbm, ⟨7, _⟩ => ⟨S8x319, .f32⟩
  | .hbm, ⟨8, _⟩ => ⟨S8x1, .f32⟩
  | .hbm, ⟨9, _⟩ => ⟨S8x192, .f32⟩
  | .hbm, ⟨10, _⟩ => ⟨S8x256, .f32⟩
  | .hbm, ⟨11, _⟩ => ⟨S8x1024, .f32⟩
  | .hbm, ⟨12, _⟩ => ⟨S4096x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x1024, .f32⟩
  | .local _ .vmem, ⟨7, _⟩ => ⟨S256x512, .bf16⟩
  | .local _ .vmem, ⟨8, _⟩ => ⟨S256x512, .bf16⟩
  | .local _ .vmem, ⟨9, _⟩ => ⟨S8x256x768, .f32⟩
  | _, _ => ⟨S2x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c256_i32_7 : BitVec 32 := 256#32
  let v16 : BitVec 32 := Scalar.subi v15 c256_i32_7
  v16
def k0_off1 (i : grid0.Coords) : Fin 2 → Nat :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c256_i32_7 : BitVec 32 := 256#32
  let v16 : BitVec 32 := Scalar.subi v15 c256_i32_7
  let v17 : BitVec 32 := v16
  let v18 : Index := Scalar.indexCast v17
  let c0 : Index := 0#32
  ![v18.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_mult2 (i : grid0.Coords) : BitVec 32 :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c512_i32 : BitVec 32 := 512#32
  let v16 : BitVec 32 := Scalar.subi v15 c512_i32
  v16
def k0_off2 (i : grid0.Coords) : Fin 2 → Nat :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c512_i32 : BitVec 32 := 512#32
  let v16 : BitVec 32 := Scalar.subi v15 c512_i32
  let v17 : BitVec 32 := v16
  let v18 : Index := Scalar.indexCast v17
  let c0 : Index := 0#32
  ![v18.toNat, 0]
def k0_cond4 (i : grid0.Coords) : BitVec 1 :=
  let arg1 : BitVec 32 := BitVec.ofNat 32 (i 1).val
  let c2_i32 : BitVec 32 := 2#32
  let v11 : BitVec 1 := Scalar.cmpi .sge arg1 c2_i32
  let v12 : BitVec 32 := Scalar.extui v11
  let c0_i32_5 : BitVec 32 := 0#32
  let v13 : BitVec 1 := Scalar.cmpi .ne v12 c0_i32_5
  v13

def k0_mult3 (i : grid0.Coords) : BitVec 32 :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c768_i32 : BitVec 32 := 768#32
  let v16 : BitVec 32 := Scalar.subi v15 c768_i32
  v16
def k0_off3 (i : grid0.Coords) : Fin 2 → Nat :=
  let arg1 : BitVec 32 := BitVec.ofNat 32 (i 1).val
  let c1_i32_6 : BitVec 32 := 1#32
  let v14 : BitVec 32 := Scalar.addi arg1 c1_i32_6
  let c256_i32 : BitVec 32 := 256#32
  let v15 : BitVec 32 := Scalar.muli v14 c256_i32
  let c768_i32 : BitVec 32 := 768#32
  let v16 : BitVec 32 := Scalar.subi v15 c768_i32
  let v17 : BitVec 32 := v16
  let v18 : Index := Scalar.indexCast v17
  let c0 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttKernelIdeal.lean ====
variable {F : FTy → Type} [FloatOps F] [Named F]
def κ : String → Option EReal := fun
  | "mask" => some ⊥
  | _ => none
-- ==== AttReferenceIdeal.lean ====
abbrev S2x2048x6656 : Shape := ⟨3, ![2, 2048, 6656]⟩
abbrev S8x320 : Shape := ⟨2, ![8, 320]⟩
abbrev S2x2048x512 : Shape := ⟨3, ![2, 2048, 512]⟩
abbrev S2x2048x8x64 : Shape := ⟨4, ![2, 2048, 8, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S8x2048x2048 : Shape := ⟨3, ![8, 2048, 2048]⟩
abbrev S2x8x2048x2048 : Shape := ⟨4, ![2, 8, 2048, 2048]⟩
abbrev S1x8x2048x2048 : Shape := ⟨4, ![1, 8, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S4096x512 : Shape := ⟨2, ![4096, 512]⟩

abbrev nBuf : Space → Nat
  | .hbm => 112
  | .vmem => 0
  | .smem => 0
  | _ => 0

abbrev bufTy : (tb : Table) → Fin (tcTables nBuf tb) → BufTy
  | .hbm, ⟨0, _⟩ => ⟨S2x2048x6656, .f32⟩
  | .hbm, ⟨1, _⟩ => ⟨S8x320, .f32⟩
  | .hbm, ⟨2, _⟩ => ⟨S2x2048x512, .f32⟩
  | .hbm, ⟨3, _⟩ => ⟨S2x2048x8x64, .f32⟩
  | .hbm, ⟨4, _⟩ => ⟨S2x2048x512, .f32⟩
  | .hbm, ⟨5, _⟩ => ⟨S2x2048x8x64, .f32⟩
  | .hbm, ⟨6, _⟩ => ⟨S2x2048x512, .f32⟩
  | .hbm, ⟨7, _⟩ => ⟨S2x2048x8x64, .f32⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048x1, .i32⟩
  | .hbm, ⟨34, _⟩ => ⟨S8x2048x2048, .f32⟩
  | .hbm, ⟨35, _⟩ => ⟨S2x8x2048x2048, .f32⟩
  | .hbm, ⟨36, _⟩ => ⟨S_, .f32⟩
  | .hbm, ⟨37, _⟩ => ⟨S2x8x2048x2048, .f32⟩
  | .hbm, ⟨38, _⟩ => ⟨S2x8x2048x2048, .f32⟩
  | .hbm, ⟨39, _⟩ => ⟨S1x8x2048x2048, .f32⟩
  | .hbm, ⟨40, _⟩ => ⟨S2x8x2048x2048, .f32⟩
  | .hbm, ⟨41, _⟩ => ⟨S2x8x2048x2048, .f32⟩
  | .hbm, ⟨42, _⟩ => ⟨S_, .i32⟩
  | .hbm, ⟨43, _⟩ => ⟨S_, .i32⟩
  | .hbm, ⟨44, _⟩ => ⟨S2048x1, .i32⟩
  | .hbm, ⟨45, _⟩ => ⟨S2048x1, .i32⟩
  | .hbm, ⟨46, _⟩ => ⟨S2048x1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S2048x1, .i32⟩
  | .hbm, ⟨51, _⟩ => ⟨S2048x1, .i32⟩
  | .hbm, ⟨52, _⟩ => ⟨S_, .i32⟩
  | .hbm, ⟨53, _⟩ => ⟨S2048x1, .i32⟩
  | .hbm, ⟨54, _⟩ => ⟨S2048x1, .i1⟩
  | .hbm, ⟨55, _⟩ => ⟨S2048x1, .i1⟩
  | .hbm, ⟨56, _⟩ => ⟨S_, .i32⟩
  | .hbm, ⟨57, _⟩ => ⟨S2048x1, .i32⟩
  | .hbm, ⟨58, _⟩ => ⟨S2048x1, .i32⟩
  | .hbm, ⟨59, _⟩ => ⟨S2048x1, .i32⟩
  | .hbm, ⟨60, _⟩ => ⟨S_, .i32⟩
  | .hbm, ⟨61, _⟩ => ⟨S_, .i32⟩
  | .hbm, ⟨62, _⟩ => ⟨S1x2048, .i32⟩
  | .hbm, ⟨63, _⟩ => ⟨S1x2048, .i32⟩
  | .hbm, ⟨64, _⟩ => ⟨S1x2048, .i32⟩
  | .hbm, ⟨65, _⟩ => ⟨S_, .i32⟩
  | .hbm, ⟨66, _⟩ => ⟨S1x2048, .i32⟩
  | .hbm, ⟨67, _⟩ => ⟨S1x2048, .i1⟩
  | .hbm, ⟨68, _⟩ => ⟨S1x2048, .i32⟩
  | .hbm, ⟨69, _⟩ => ⟨S1x2048, .i32⟩
  | .hbm, ⟨70, _⟩ => ⟨S_, .i32⟩
  | .hbm, ⟨71, _⟩ => ⟨S1x2048, .i32⟩
  | .hbm, ⟨72, _⟩ => ⟨S1x2048, .i1⟩
  | .hbm, ⟨73, _⟩ => ⟨S1x2048, .i1⟩
  | .hbm, ⟨74, _⟩ => ⟨S_, .i32⟩
  | .hbm, ⟨75, _⟩ => ⟨S1x2048, .i32⟩
  | .hbm, ⟨76, _⟩ => ⟨S1x2048, .i32⟩
  | .hbm, ⟨77, _⟩ => ⟨S1x2048, .i32⟩
  | .hbm, ⟨78, _⟩ => ⟨S2048x2048, .i32⟩
  | .hbm, ⟨79, _⟩ => ⟨S2048x2048, .i32⟩
  | .hbm, ⟨80, _⟩ => ⟨S2048x2048, .i32⟩
  | .hbm, ⟨81, _⟩ => ⟨S_, .i32⟩
  | .hbm, ⟨82, _⟩ => ⟨S2048x2048, .i32⟩
  | .hbm, ⟨83, _⟩ => ⟨S2048x2048, .i1⟩
  | .hbm, ⟨84, _⟩ => ⟨S_, .i32⟩
  | .hbm, ⟨85, _⟩ => ⟨S2048x2048, .i32⟩
  | .hbm, ⟨86, _⟩ => ⟨S2048x2048, .i1⟩
  | .hbm, ⟨87, _⟩ => ⟨S2048x2048, .i1⟩
  | .hbm, ⟨88, _⟩ => ⟨S_, .f32⟩
  | .hbm, ⟨89, _⟩ => ⟨S_, .f32⟩
  | .hbm, ⟨90, _⟩ => ⟨S2x8x2048x2048, .i1⟩
  | .hbm, ⟨91, _⟩ => ⟨S2x8x2048x2048, .f32⟩
  | .hbm, ⟨92, _⟩ => ⟨S2x8x2048x2048, .f32⟩
  | .hbm, ⟨93, _⟩ => ⟨S_, .f32⟩
  | .hbm, ⟨94, _⟩ => ⟨S2x8x2048, .f32⟩
  | .hbm, ⟨95, _⟩ => ⟨S_, .f32⟩
  | .hbm, ⟨96, _⟩ => ⟨S2x8x2048, .f32⟩
  | .hbm, ⟨97, _⟩ => ⟨S2x8x2048, .f32⟩
  | .hbm, ⟨98, _⟩ => ⟨S2x8x2048x1, .f32⟩
  | .hbm, ⟨99, _⟩ => ⟨S2x8x2048x2048, .f32⟩
  | .hbm, ⟨100, _⟩ => ⟨S2x8x2048x2048, .f32⟩
  | .hbm, ⟨101, _⟩ => ⟨S2x8x2048x2048, .f32⟩
  | .hbm, ⟨102, _⟩ => ⟨S_, .f32⟩
  | .hbm, ⟨103, _⟩ => ⟨S2x8x2048, .f32⟩
  | .hbm, ⟨104, _⟩ => ⟨S2x8x2048x1, .f32⟩
  | .hbm, ⟨105, _⟩ => ⟨S2x8x2048x2048, .f32⟩
  | .hbm, ⟨106, _⟩ => ⟨S2x8x2048x2048, .f32⟩
  | .hbm, ⟨107, _⟩ => ⟨S2x8x64x2048, .f32⟩
  | .hbm, ⟨108, _⟩ => ⟨S2x2048x8x64, .f32⟩
  | .hbm, ⟨109, _⟩ => ⟨S2x2048x512, .f32⟩
  | .hbm, ⟨110, _⟩ => ⟨S4096x512, .f32⟩
  | .hbm, ⟨111, _⟩ => ⟨S4096x512, .bf16⟩
  | _, _ => ⟨S2x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_c_6 : Ref sig .tc := ⟨.hbm, 81, rfl⟩
abbrev main_v34 : Ref sig .tc := ⟨.hbm, 82, rfl⟩
abbrev main_v35 : Ref sig .tc := ⟨.hbm, 83, rfl⟩
abbrev main_c_7 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v39 : Ref sig .tc := ⟨.hbm, 92, rfl⟩
abbrev main_cst_9 : Ref sig .tc := ⟨.hbm, 93, rfl⟩
abbrev main_v40 : Ref sig .tc := ⟨.hbm, 94, rfl⟩
abbrev main_cst_10 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_11 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩

abbrev nD : Nat := 1
abbrev τ : Topo := Topo.v7x

variable {F : FTy → Type} [FloatOps F]

def κ : String → Option EReal := fun
  | "mask" => some ⊥
  | _ => none
-- ==== Proof.Merge.Math.lean ====
module

public import Idealize.ShloMosaic.Lib.Pointwise

@[expose] public section

noncomputable section

open Idealize.ShloMosaic

/-! The merge of the retention and attention branches and its gradient, one row of tokens at a time: `g` is the row's
    gate argument, `yr` and `ya` its two branches. -/

namespace Cert.Merge

/-- The gate, a logistic function. -/
def gate (g : Fin 2048 → EReal) (n : Nat) (hn : n < 2048) : EReal := Ideal.div 1 (1 + Ideal.exp (0 - g ⟨n, hn⟩))

/-- The retention branch's gates. -/
def gateR (g : Fin 2048 → EReal) (j : Fin 1024) : EReal := gate g j.val (by omega)

/-- The attention branch's gates. -/
def gateA (g : Fin 2048 → EReal) (j : Fin 1024) : EReal := gate g (1024 + j.val) (by omega)

/-- A row times a matrix. -/
def prod {a b : Nat} (x : Fin a → EReal) (w : Fin a → Fin b → EReal) (j : Fin b) : EReal := ∑ k, x k * w k j

/-- The gated sum of two branches. -/
def mixed (g : Fin 2048 → EReal) (yr ya : Fin 1024 → EReal) (j : Fin 1024) : EReal :=
  gateR g j * yr j + gateA g j * ya j

/-- Four blocks side by side. -/
def four {b : Nat} (x0 x1 x2 x3 : Fin b → EReal) (n : Nat) (hn : n - b - b - b < b) : EReal :=
  if h : n < b then x0 ⟨n, h⟩ else if h : n - b < b then x1 ⟨n - b, h⟩
    else if h : n - b - b < b then x2 ⟨n - b - b, h⟩ else x3 ⟨n - b - b - b, hn⟩

/-- Four blocks of a longer row are the row. -/
theorem four_eq {b : Nat} (f : Nat → EReal) (n : Nat) (hn : n - b - b - b < b) :
    four (fun i : Fin b => f i.val) (fun i => f (b + i.val)) (fun i => f (b + (b + i.val)))
      (fun i => f (b + (b + (b + i.val)))) n hn = f n := by
  unfold four
  split_ifs <;> exact congrArg f (by dsimp only; try omega)

/-- The array of a function of row and column. -/
def arr {a b : Nat} (G : Fin a → Fin b → EReal) : (⟨2, ![a, b]⟩ : Shape).Idx → EReal := fun j => G (j 0) (j 1)

/-- The gradient of a gated branch: the gradient of the sum times the gate. -/
def gated (s d : Fin 1024 → EReal) (j : Fin 1024) : EReal := d j * s j

/-- The gradient of a branch's gate argument: `s (1 - s)` times the branch times the gradient of the sum. -/
def slope (s d y : Fin 1024 → EReal) (j : Fin 1024) : EReal := d j * y j * s j * (1 - s j)

/-- The gradient of the gate's argument. -/
def gateGrad (g : Fin 2048 → EReal) (d yr ya : Fin 1024 → EReal) (n : Fin 2048) : EReal :=
  if h : n.val < 1024 then slope (gateR g) d yr ⟨n.val, h⟩ else slope (gateA g) d ya ⟨n.val - 1024, by omega⟩

/-- A sum over four blocks of 256 is the sum over all. -/
theorem four_sum (f : Nat → EReal) : (∑ k : Fin 256, f k.val) + (∑ k : Fin 256, f (256 + k.val)) + (∑ k : Fin 256, f (512 + k.val))
    + (∑ k : Fin 256, f (768 + k.val)) = ∑ k : Fin 1024, f k.val := by
  simp only [← Finset.sum_range (n := 1024) f, ← Finset.sum_range (n := 256) f, ← Finset.sum_range (n := 256) fun k => f (256 + k),
    ← Finset.sum_range (n := 256) fun k => f (512 + k), ← Finset.sum_range (n := 256) fun k => f (768 + k)]
  rw [show 1024 = 768 + 256 from rfl, Finset.sum_range_add, show 768 = 512 + 256 from rfl, Finset.sum_range_add,
    show 512 = 256 + 256 from rfl, Finset.sum_range_add]

/-- The row of tokens `r` of an array of two sequences of 2048 tokens each. -/
def tok {n : Nat} (x : (⟨3, ![2, 2048, n]⟩ : Shape).Idx → EReal) (r : Fin 4096) (k : Fin n) : EReal :=
  x (ix3 ⟨r.val / 2048, by omega⟩ ⟨r.val % 2048, by omega⟩ k)

end Cert.Merge
-- ==== Proof.Merge.Fwd.lean ====
module

public import proofs.«01_k».proof.Proof.Gen.MergeKernelIdeal.Frame
public import Idealize.ShloMosaic.Lib.Pipeline.ValueKit
public import proofs.«01_k».proof.Proof.Merge.Math
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeKernelIdeal.Value

open Cert.MergeKernelIdeal Cert.MergeKernelIdeal.Gen Cert.Merge

variable (V : (c : Dev nD) → (b : Ref sig .tc) → Buf (Elt Ideal) ((c : Thread nD τ).loc b))

/-- The blocks that a grid point of the forward call reads and writes. -/
theorem idx0 : ∀ t : Fin cfg0.N, win0_0.index t = ![t.val, 0] ∧ win0_1.index t = ![t.val, 0] ∧ win0_2.index t = ![t.val, 0]
    ∧ win0_3.index t = ![t.val, 9] ∧ win0_4.index t = ![t.val, 10] ∧ win0_5.index t = ![t.val, 11] ∧ win0_6.index t = ![t.val, 12]
    ∧ win0_7.index t = ![0, 0] ∧ win0_8.index t = ![0, 0] ∧ win0_9.index t = ![0, 0, 0] ∧ win0_10.index t = ![0, 0]
    ∧ win0_11.index t = ![t.val, 0] ∧ win0_12.index t = ![t.val, 0] ∧ win0_13.index t = ![t.val, 0] :=
  (by decide +kernel : ∀ t : Fin grid0.N, _)

/-- The row of the whole array that a block's row is. -/
def row (t : Nat) (ht : t < 8) (i : Nat) (hi : i < 512) : Fin 4096 := ⟨t * 512 + i, by omega⟩

theorem blkx (c : Dev nD) (t : Fin cfg0.N) (i : Fin 512) (k : Fin 1024) : iblk0 V c 0 t (ix2 i k)
    = (show FVec Ideal S4096x1024 .f32 from V c main_v12) (ix2 (row t.val t.isLt i.val i.isLt) k) := by
  blk_point [iblk0, idx0 t, row]

theorem blku (c : Dev nD) (t : Fin cfg0.N) (i : Fin 512) (k : Fin 1024) : iblk0 V c 1 t (ix2 i k)
    = (show FVec Ideal S4096x1024 .bf16 from V c main_v3) (ix2 (row t.val t.isLt i.val i.isLt) k) := by
  blk_point [iblk0, idx0 t, row]

theorem blka (c : Dev nD) (t : Fin cfg0.N) (i : Fin 512) (k : Fin 512) : iblk0 V c 2 t (ix2 i k)
    = (show FVec Ideal S4096x512 .bf16 from V c main_v5) (ix2 (row t.val t.isLt i.val i.isLt) k) := by
  blk_point [iblk0, idx0 t, row]

/-- The gate's columns of the projection, by a natural number. -/
def glArg (P : FVec Ideal S4096x6656 .bf16) (r : Fin 4096) (n : Nat) : EReal :=
  if h : 4608 + n < 6656 then P (ix2 r ⟨4608 + n, h⟩) else 0

theorem blkg3 (c : Dev nD) (t : Fin cfg0.N) (i k : Fin 512) : iblk0 V c 3 t (ix2 i k)
    = glArg (V c main_v1) (row t.val t.isLt i.val i.isLt) (k.val) := by
  unfold glArg; rw [dif_pos (by omega)]; blk_point [iblk0, idx0 t, row]

theorem blkg4 (c : Dev nD) (t : Fin cfg0.N) (i k : Fin 512) : iblk0 V c 4 t (ix2 i k)
    = glArg (V c main_v1) (row t.val t.isLt i.val i.isLt) (512 + k.val) := by
  unfold glArg; rw [dif_pos (by omega)]; blk_point [iblk0, idx0 t, row]

theorem blkg5 (c : Dev nD) (t : Fin cfg0.N) (i k : Fin 512) : iblk0 V c 5 t (ix2 i k)
    = glArg (V c main_v1) (row t.val t.isLt i.val i.isLt) (512 + (512 + k.val)) := by
  unfold glArg; rw [dif_pos (by omega)]; blk_point [iblk0, idx0 t, row]

theorem blkg6 (c : Dev nD) (t : Fin cfg0.N) (i k : Fin 512) : iblk0 V c 6 t (ix2 i k)
    = glArg (V c main_v1) (row t.val t.isLt i.val i.isLt) (512 + (512 + (512 + k.val))) := by
  unfold glArg; rw [dif_pos (by omega)]; blk_point [iblk0, idx0 t, row]

theorem blkb (c : Dev nD) (t : Fin cfg0.N) (k : Fin 2048) : iblk0 V c 7 t (ix2 0 k)
    = (show FVec Ideal S1x2048 .f32 from V c main_v11) (ix2 0 k) := by
  blk_point [iblk0, idx0 t]

theorem blkro (c : Dev nD) (t : Fin cfg0.N) (i k : Fin 1024) : iblk0 V c 8 t (ix2 i k)
    = (show FVec Ideal S1024x1024 .bf16 from V c main_v6) (ix2 i k) := by
  blk_point [iblk0, idx0 t]

theorem blkao (c : Dev nD) (t : Fin cfg0.N) (s : Fin 4) (i : Fin 512) (k : Fin 256) : iblk0 V c 9 t (ix3 s i k)
    = (show FVec Ideal S4x512x256 .bf16 from V c main_v10) (ix3 s i k) := by
  blk_point [iblk0, idx0 t]

theorem blkwo (c : Dev nD) (t : Fin cfg0.N) (i k : Fin 1024) : iblk0 V c 10 t (ix2 i k)
    = (show FVec Ideal S1024x1024 .bf16 from V c main_v7) (ix2 i k) := by
  blk_point [iblk0, idx0 t]

/-- The gate's argument in a block's row. -/
def blkGl (x3 x4 x5 x6 : FVec Ideal S512x512 .bf16) (x7 : FVec Ideal S1x2048 .f32) (i : Fin 512) (n : Fin 2048) : EReal :=
  four (fun k => x3 (ix2 i k)) (fun k => x4 (ix2 i k)) (fun k => x5 (ix2 i k)) (fun k => x6 (ix2 i k)) n.val (by omega)
    + x7 (ix2 0 n)

/-- The attention branch in a block's row, a column of which lies in one of four shards. -/
def blkYa (x2 : FVec Ideal S512x512 .bf16) (x9 : FVec Ideal S4x512x256 .bf16) (i : Fin 512) (n : Fin 1024) : EReal :=
  four (prod (fun k => x2 (ix2 i k)) fun k j => x9 (ix3 0 k j)) (prod (fun k => x2 (ix2 i k)) fun k j => x9 (ix3 1 k j))
    (prod (fun k => x2 (ix2 i k)) fun k j => x9 (ix3 2 k j)) (prod (fun k => x2 (ix2 i k)) fun k j => x9 (ix3 3 k j))
    n.val (by omega)

section Block
variable (x0 : FVec Ideal S512x1024 .f32) (x1 : FVec Ideal S512x1024 .bf16) (x2 x3 x4 x5 x6 : FVec Ideal S512x512 .bf16)
  (x7 : FVec Ideal S1x2048 .f32) (x8 : FVec Ideal S1024x1024 .bf16) (x9 : FVec Ideal S4x512x256 .bf16)
  (x10 : FVec Ideal S1024x1024 .bf16)

theorem blk_yr (i : Fin 512) (j : Fin 1024) : out0_12 (F := Ideal) x0 x1 x2 x3 x4 x5 x6 x7 x8 x9 x10 (ix2 i j)
    = prod (fun k => x1 (ix2 i k)) (fun k j => x8 (ix2 k j)) j := by
  frame_out
  pointwise [k0_pay2, k0_pay3, k0_pay4, k0_pay5, k0_pay10, k0_pay11]
  rfl

theorem blk_ya (i : Fin 512) (j : Fin 1024) : out0_13 (F := Ideal) x0 x1 x2 x3 x4 x5 x6 x7 x8 x9 x10 (ix2 i j) = blkYa x2 x9 i j := by
  frame_out
  pointwise [k0_pay2, k0_pay3, k0_pay4, k0_pay5, k0_pay10, k0_pay11]
  rfl

theorem blk_h1 (i : Fin 512) (j : Fin 1024) : out0_11 (F := Ideal) x0 x1 x2 x3 x4 x5 x6 x7 x8 x9 x10 (ix2 i j)
    = x0 (ix2 i j) + prod (mixed (blkGl x3 x4 x5 x6 x7 i)
        (prod (fun k => x1 (ix2 i k)) fun k j => x8 (ix2 k j)) (blkYa x2 x9 i)) (fun k j => x10 (ix2 k j)) j := by
  frame_out
  pointwise [k0_pay1, k0_pay2, k0_pay3, k0_pay4, k0_pay5, k0_pay6, k0_pay7, k0_pay8, k0_pay9, k0_pay10, k0_pay11]
  rfl

end Block

/-- The gate's argument in a row of the whole array. -/
def rowGl (P : FVec Ideal S4096x6656 .bf16) (b : FVec Ideal S1x2048 .f32) (r : Fin 4096) (n : Fin 2048) : EReal :=
  P (ix2 r ⟨4608 + n.val, by omega⟩) + b (ix2 0 n)

/-- The attention branch in a row of the whole array. -/
def rowYa (a : FVec Ideal S4096x512 .bf16) (w : FVec Ideal S4x512x256 .bf16) (r : Fin 4096) : Fin 1024 → EReal :=
  prod (fun k => a (ix2 r k)) fun k j => w (ix3 ⟨j.val / 256, by omega⟩ k ⟨j.val % 256, by omega⟩)

/-- The retention branch in a row of the whole array. -/
def rowYr (u : FVec Ideal S4096x1024 .bf16) (w : FVec Ideal S1024x1024 .bf16) (r : Fin 4096) : Fin 1024 → EReal :=
  prod (fun k => u (ix2 r k)) fun k j => w (ix2 k j)

theorem blkGl_eq (c : Dev nD) (t : Fin cfg0.N) (i : Fin 512) :
    blkGl (iblk0 V c 3 t) (iblk0 V c 4 t) (iblk0 V c 5 t) (iblk0 V c 6 t) (iblk0 V c 7 t) i
      = rowGl (V c main_v1) (V c main_v11) (row t.val t.isLt i.val i.isLt) := by
  funext n
  unfold blkGl rowGl
  simp only [blkg3, blkg4, blkg5, blkg6, blkb]
  rw [four_eq (glArg (V c main_v1) (row t.val t.isLt i.val i.isLt))]
  unfold glArg
  rw [dif_pos (by omega)]

theorem blkYa_eq (c : Dev nD) (t : Fin cfg0.N) (i : Fin 512) : blkYa (iblk0 V c 2 t) (iblk0 V c 9 t) i
      = rowYa (V c main_v5) (V c main_v10) (row t.val t.isLt i.val i.isLt) := by
  funext n
  unfold blkYa rowYa four prod
  simp only [blka, blkao]
  split_ifs
  all_goals
    refine Finset.sum_congr rfl fun k _ => congrArg _ (congrArg _ ?_)
    congr 1 <;> (apply Fin.ext; simp; omega)

theorem blkYr_eq (c : Dev nD) (t : Fin cfg0.N) (i : Fin 512) :
    prod (fun k : Fin 1024 => iblk0 V c 1 t (ix2 i k)) (fun k (j : Fin 1024) => iblk0 V c 8 t (ix2 k j))
      = rowYr (V c main_v3) (V c main_v6) (row t.val t.isLt i.val i.isLt) := by
  funext n
  unfold rowYr
  simp only [blku, blkro]

/-- A block's entry lies in the whole array at the block's row. -/
theorem at11 (t : Fin cfg0.N) (i : Fin 512) (j : Fin 1024) :
    ((View.whole main_v13_0).slice (win0_11.rect t)).emb (ix2 i j) = ix2 (row t.val t.isLt i.val i.isLt) j := by
  blk_ext [idx0 t, row]

theorem at12 (t : Fin cfg0.N) (i : Fin 512) (j : Fin 1024) :
    ((View.whole main_v13_1).slice (win0_12.rect t)).emb (ix2 i j) = ix2 (row t.val t.isLt i.val i.isLt) j := by
  blk_ext [idx0 t, row]

theorem at13 (t : Fin cfg0.N) (i : Fin 512) (j : Fin 1024) :
    ((View.whole main_v13_2).slice (win0_13.rect t)).emb (ix2 i j) = ix2 (row t.val t.isLt i.val i.isLt) j := by
  blk_ext [idx0 t, row]

/-- What the forward call leaves in its second result: the retention branch. -/
theorem yr (c : Dev nD) : (dat0 V c).arrAt 12 cfg0.N
    = arr (rowYr (V c main_v3) (V c main_v6)) := by
  refine (dat0 V c).arrAt_eq_of_covers 12 _ (by decide +kernel) fun t _ y => ?_
  obtain ⟨i, j, rfl⟩ : ∃ (i : Fin 512) (j : Fin 1024), y = (ix2 i j : S512x1024.Idx) := ⟨y 0, y 1, eq_ix2 y⟩
  blk_simp
  rw [after0_12]
  refine (blk_yr _ _ _ _ _ _ _ _ _ _ _ i j).trans ?_
  refine (congrFun (blkYr_eq V c t i) j).trans ?_
  exact congrArg (arr (rowYr _ _)) (at12 t i j).symm

/-- Its third: the attention branch. -/
theorem ya (c : Dev nD) : (dat0 V c).arrAt 13 cfg0.N
    = arr (rowYa (V c main_v5) (V c main_v10)) := by
  refine (dat0 V c).arrAt_eq_of_covers 13 _ (by decide +kernel) fun t _ y => ?_
  obtain ⟨i, j, rfl⟩ : ∃ (i : Fin 512) (j : Fin 1024), y = (ix2 i j : S512x1024.Idx) := ⟨y 0, y 1, eq_ix2 y⟩
  blk_simp
  rw [after0_13]
  refine (blk_ya _ _ _ _ _ _ _ _ _ _ _ i j).trans ?_
  refine (congrFun (blkYa_eq V c t i) j).trans ?_
  exact congrArg (arr (rowYa _ _)) (at13 t i j).symm

/-- The residual sum in a row of the whole array. -/
def rowH1 (x : FVec Ideal S4096x1024 .f32) (P : FVec Ideal S4096x6656 .bf16) (b : FVec Ideal S1x2048 .f32)
    (u : FVec Ideal S4096x1024 .bf16) (wr : FVec Ideal S1024x1024 .bf16) (a : FVec Ideal S4096x512 .bf16)
    (wa : FVec Ideal S4x512x256 .bf16) (wo : FVec Ideal S1024x1024 .bf16) (r : Fin 4096) (j : Fin 1024) : EReal :=
  x (ix2 r j) + prod (mixed (rowGl P b r) (rowYr u wr r) (rowYa a wa r)) (fun k j => wo (ix2 k j)) j

/-- Its first: the residual sum. -/
theorem h1 (c : Dev nD) : (dat0 V c).arrAt 11 cfg0.N
    = arr (rowH1 (V c main_v12) (V c main_v1) (V c main_v11) (V c main_v3) (V c main_v6)
        (V c main_v5) (V c main_v10) (V c main_v7)) := by
  refine (dat0 V c).arrAt_eq_of_covers 11 _ (by decide +kernel) fun t _ y => ?_
  obtain ⟨i, j, rfl⟩ : ∃ (i : Fin 512) (j : Fin 1024), y = (ix2 i j : S512x1024.Idx) := ⟨y 0, y 1, eq_ix2 y⟩
  blk_simp
  rw [after0_11]
  refine (blk_h1 _ _ _ _ _ _ _ _ _ _ _ i j).trans ?_
  rw [blkYr_eq V c t, blkYa_eq V c t, blkGl_eq V c t, blkx V c t]
  simp only [blkwo V c t]
  exact congrArg (arr (rowH1 _ _ _ _ _ _ _ _)) (at11 t i j).symm
-- ==== Proof.Merge.Bwd.lean ====
module

public import proofs.«01_k».proof.Proof.Gen.MergeKernelIdeal.Frame
public import Idealize.ShloMosaic.Lib.Pipeline.ValueKit
public import proofs.«01_k».proof.Proof.Merge.Fwd
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeKernelIdeal.Value

open Cert.MergeKernelIdeal Cert.MergeKernelIdeal.Gen Cert.Merge

variable (V : (c : Dev nD) → (b : Ref sig .tc) → Buf (Elt Ideal) ((c : Thread nD τ).loc b))

/-- The blocks that a grid point of the backward call reads and writes. -/
theorem idx1 : ∀ t : Fin cfg1.N, win1_0.index t = ![t.val, 0]
    ∧ win1_1.index t = ![t.val, 9]
    ∧ win1_2.index t = ![t.val, 10]
    ∧ win1_3.index t = ![t.val, 11]
    ∧ win1_4.index t = ![t.val, 12]
    ∧ win1_5.index t = ![0, 0]
    ∧ win1_6.index t = ![t.val, 0]
    ∧ win1_7.index t = ![t.val, 0]
    ∧ win1_8.index t = ![0, 0]
    ∧ win1_9.index t = ![0, 0, 0]
    ∧ win1_10.index t = ![0, 0]
    ∧ win1_11.index t = ![t.val, 0]
    ∧ win1_12.index t = ![t.val, 0]
    ∧ win1_13.index t = ![t.val, 0]
    ∧ win1_14.index t = ![t.val, 0]
    ∧ win1_15.index t = ![t.val, 0]
    ∧ win1_16.index t = ![t.val, 0]
    ∧ win1_17.index t = ![t.val, 0] :=
  (by decide +kernel : ∀ t : Fin grid1.N, _)

theorem bblkd (c : Dev nD) (t : Fin cfg1.N) (i : Fin 512) (k : Fin 1024) : iblk1 V c 0 t (ix2 i k)
    = (show FVec Ideal S4096x1024 .f32 from V c main_v14) (ix2 (row t.val t.isLt i.val i.isLt) k) := by
  blk_point [iblk1, idx1 t, row]

theorem bblkg1 (c : Dev nD) (t : Fin cfg1.N) (i k : Fin 512) : iblk1 V c 1 t (ix2 i k)
    = glArg (V c main_v1) (row t.val t.isLt i.val i.isLt) (k.val) := by
  unfold glArg; rw [dif_pos (by omega)]; blk_point [iblk1, idx1 t, row]

theorem bblkg2 (c : Dev nD) (t : Fin cfg1.N) (i k : Fin 512) : iblk1 V c 2 t (ix2 i k)
    = glArg (V c main_v1) (row t.val t.isLt i.val i.isLt) (512 + k.val) := by
  unfold glArg; rw [dif_pos (by omega)]; blk_point [iblk1, idx1 t, row]

theorem bblkg3 (c : Dev nD) (t : Fin cfg1.N) (i k : Fin 512) : iblk1 V c 3 t (ix2 i k)
    = glArg (V c main_v1) (row t.val t.isLt i.val i.isLt) (512 + (512 + k.val)) := by
  unfold glArg; rw [dif_pos (by omega)]; blk_point [iblk1, idx1 t, row]

theorem bblkg4 (c : Dev nD) (t : Fin cfg1.N) (i k : Fin 512) : iblk1 V c 4 t (ix2 i k)
    = glArg (V c main_v1) (row t.val t.isLt i.val i.isLt) (512 + (512 + (512 + k.val))) := by
  unfold glArg; rw [dif_pos (by omega)]; blk_point [iblk1, idx1 t, row]

theorem bblkb (c : Dev nD) (t : Fin cfg1.N) (k : Fin 2048) : iblk1 V c 5 t (ix2 0 k)
    = (show FVec Ideal S1x2048 .f32 from V c main_v11) (ix2 0 k) := by
  blk_point [iblk1, idx1 t]

theorem bblkyr (c : Dev nD) (t : Fin cfg1.N) (i : Fin 512) (k : Fin 1024) : iblk1 V c 6 t (ix2 i k)
    = (show FVec Ideal S4096x1024 .bf16 from V c main_v13_1) (ix2 (row t.val t.isLt i.val i.isLt) k) := by
  blk_point [iblk1, idx1 t, row]

theorem bblkya (c : Dev nD) (t : Fin cfg1.N) (i : Fin 512) (k : Fin 1024) : iblk1 V c 7 t (ix2 i k)
    = (show FVec Ideal S4096x1024 .bf16 from V c main_v13_2) (ix2 (row t.val t.isLt i.val i.isLt) k) := by
  blk_point [iblk1, idx1 t, row]

theorem bblkro (c : Dev nD) (t : Fin cfg1.N) (i : Fin 1024) (k : Fin 1024) : iblk1 V c 8 t (ix2 i k)
    = (show FVec Ideal S1024x1024 .bf16 from V c main_v6) (ix2 i k) := by
  blk_point [iblk1, idx1 t, row]

theorem bblkao (c : Dev nD) (t : Fin cfg1.N) (s : Fin 4) (i : Fin 512) (k : Fin 256) : iblk1 V c 9 t (ix3 s i k)
    = (show FVec Ideal S4x512x256 .bf16 from V c main_v10) (ix3 s i k) := by
  blk_point [iblk1, idx1 t]

theorem bblkwo (c : Dev nD) (t : Fin cfg1.N) (i : Fin 1024) (k : Fin 1024) : iblk1 V c 10 t (ix2 i k)
    = (show FVec Ideal S1024x1024 .bf16 from V c main_v7) (ix2 i k) := by
  blk_point [iblk1, idx1 t, row]

theorem bat11 (t : Fin cfg1.N) (i : Fin 512) (j : Fin 1024) :
    ((View.whole main_v15_0).slice (win1_11.rect t)).emb (ix2 i j) = ix2 (row t.val t.isLt i.val i.isLt) j := by
  blk_ext [idx1 t, row]

theorem bat12 (t : Fin cfg1.N) (i : Fin 512) (j : Fin 512) :
    ((View.whole main_v15_1).slice (win1_12.rect t)).emb (ix2 i j) = ix2 (row t.val t.isLt i.val i.isLt) j := by
  blk_ext [idx1 t, row]

theorem bat13 (t : Fin cfg1.N) (i : Fin 512) (j : Fin 2048) :
    ((View.whole main_v15_2).slice (win1_13.rect t)).emb (ix2 i j) = ix2 (row t.val t.isLt i.val i.isLt) j := by
  blk_ext [idx1 t, row]

theorem bat14 (t : Fin cfg1.N) (i : Fin 512) (j : Fin 1024) :
    ((View.whole main_v15_3).slice (win1_14.rect t)).emb (ix2 i j) = ix2 (row t.val t.isLt i.val i.isLt) j := by
  blk_ext [idx1 t, row]

theorem bat15 (t : Fin cfg1.N) (i : Fin 512) (j : Fin 1024) :
    ((View.whole main_v15_4).slice (win1_15.rect t)).emb (ix2 i j) = ix2 (row t.val t.isLt i.val i.isLt) j := by
  blk_ext [idx1 t, row]

theorem bat16 (t : Fin cfg1.N) (i : Fin 512) (j : Fin 1024) :
    ((View.whole main_v15_5).slice (win1_16.rect t)).emb (ix2 i j) = ix2 (row t.val t.isLt i.val i.isLt) j := by
  blk_ext [idx1 t, row]

theorem bat17 (t : Fin cfg1.N) (i : Fin 8) (j : Fin 2048) :
    ((View.whole main_v15_6).slice (win1_17.rect t)).emb (ix2 i j)
      = ix2 (⟨t.val * 8 + i.val, by have : t.val < 8 := t.isLt; omega⟩ : Fin 64) j := by
  blk_ext [idx1 t]

/-- A row of a block. -/
def blk1 (x : FVec Ideal S512x1024 .bf16) (i : Fin 512) (k : Fin 1024) : EReal := x (ix2 i k)

/-- The gradient of the gated sum in a block's row. -/
def blkD (x : FVec Ideal S512x1024 .f32) (w : FVec Ideal S1024x1024 .bf16) (i : Fin 512) : Fin 1024 → EReal :=
  prod (blk1 x i) fun k j => w (ix2 j k)

/-- A row's gradient of the attention branch's input: four products, a shard each. -/
def blkDa (d : Fin 1024 → EReal) (w : FVec Ideal S4x512x256 .bf16) (j : Fin 512) : EReal :=
  (∑ k : Fin 256, d ⟨k.val, by omega⟩ * w (ix3 0 j k)) + (∑ k : Fin 256, d ⟨256 + k.val, by omega⟩ * w (ix3 1 j k))
    + (∑ k : Fin 256, d ⟨512 + k.val, by omega⟩ * w (ix3 2 j k)) + (∑ k : Fin 256, d ⟨768 + k.val, by omega⟩ * w (ix3 3 j k))

section Block
variable (x0 : FVec Ideal S512x1024 .f32) (x6 x7 : FVec Ideal S512x1024 .bf16) (x1 x2 x3 x4 : FVec Ideal S512x512 .bf16)
  (x5 : FVec Ideal S1x2048 .f32) (x8 : FVec Ideal S1024x1024 .bf16) (x9 : FVec Ideal S4x512x256 .bf16)
  (x10 : FVec Ideal S1024x1024 .bf16) (i : Fin 512)

theorem pay6 (j : Fin 1024) : k1_pay6 (F := Ideal) x0 x10 (ix2 i j) = blkD x0 x10 i j := by
  pointwise [k1_pay6]
  rfl

theorem pay8 (j : Fin 1024) : k1_pay8 (F := Ideal) x1 x2 x3 x4 x5 (ix2 i j) = gateR (blkGl x1 x2 x3 x4 x5 i) j := by
  pointwise [k1_pay7, k1_pay8]
  rfl

theorem pay9 (j : Fin 1024) : k1_pay9 (F := Ideal) x1 x2 x3 x4 x5 (ix2 i j) = gateA (blkGl x1 x2 x3 x4 x5 i) j := by
  pointwise [k1_pay7, k1_pay9]
  rfl

theorem pay12 (j : Fin 1024) : k1_pay12 (F := Ideal) x0 x10 x1 x2 x3 x4 x5 (ix2 i j)
    = gated (gateR (blkGl x1 x2 x3 x4 x5 i)) (blkD x0 x10 i) j := by
  pointwise [k1_pay12]
  rw [pay6, pay8]
  rfl

theorem pay13 (j : Fin 1024) : k1_pay13 (F := Ideal) (k1_pay6 x0 x10) (k1_pay9 x1 x2 x3 x4 x5) (ix2 i j)
    = gated (gateA (blkGl x1 x2 x3 x4 x5 i)) (blkD x0 x10 i) j := by
  pointwise [k1_pay13]
  rw [pay6, pay9]
  rfl

theorem pay10 (j : Fin 1024) : k1_pay10 (F := Ideal) x6 (ix2 i j) = blk1 x6 i j := by
  pointwise [k1_pay10]
  rfl

theorem pay11 (j : Fin 1024) : k1_pay11 (F := Ideal) x7 (ix2 i j) = blk1 x7 i j := by
  pointwise [k1_pay11]
  rfl

theorem pay14 (j : Fin 2048) : k1_pay14 (F := Ideal) (k1_pay6 x0 x10) (k1_pay8 x1 x2 x3 x4 x5) (k1_pay9 x1 x2 x3 x4 x5)
      (k1_pay10 x6) (k1_pay11 x7) (ix2 i j)
    = gateGrad (blkGl x1 x2 x3 x4 x5 i) (blkD x0 x10 i) (blk1 x6 i) (blk1 x7 i) j := by
  pointwise [k1_pay14]
  simp only [pay6, pay8, pay9, pay10, pay11]
  rfl

end Block

theorem bblk11 (c : Dev nD) (t : Fin cfg1.N) (i : Fin 512) (j : Fin 1024) : (outsAt1 V c t).1 (ix2 i j) = prod (gated (gateR (blkGl (iblk1 V c 1 t) (iblk1 V c 2 t) (iblk1 V c 3 t) (iblk1 V c 4 t) (iblk1 V c 5 t) i)) (blkD (iblk1 V c 0 t) (iblk1 V c 10 t) i)) (fun k j => (iblk1 V c 8 t : FVec Ideal S1024x1024 .bf16) (ix2 j k)) j := by
  unfold outsAt1
  frame_out
  pointwise [k1_pay15]
  simp only [pay12]
  rfl

theorem bblk12 (c : Dev nD) (t : Fin cfg1.N) (i : Fin 512) (j : Fin 512) : (outsAt1 V c t).2.1 (ix2 i j) = blkDa (gated (gateA (blkGl (iblk1 V c 1 t) (iblk1 V c 2 t) (iblk1 V c 3 t) (iblk1 V c 4 t) (iblk1 V c 5 t) i)) (blkD (iblk1 V c 0 t) (iblk1 V c 10 t) i)) (iblk1 V c 9 t) j := by
  unfold outsAt1
  frame_out
  pointwise [k1_pay1, k1_pay16, k1_pay17]
  simp only [pay13]
  rfl

theorem bblk13 (c : Dev nD) (t : Fin cfg1.N) (i : Fin 512) (j : Fin 2048) : (outsAt1 V c t).2.2.1 (ix2 i j) = gateGrad (blkGl (iblk1 V c 1 t) (iblk1 V c 2 t) (iblk1 V c 3 t) (iblk1 V c 4 t) (iblk1 V c 5 t) i) (blkD (iblk1 V c 0 t) (iblk1 V c 10 t) i) (blk1 (iblk1 V c 6 t) i) (blk1 (iblk1 V c 7 t) i) j := by
  unfold outsAt1
  frame_out
  pointwise [k1_pay2]
  exact pay14 _ _ _ _ _ _ _ _ _ i j

theorem bblk14 (c : Dev nD) (t : Fin cfg1.N) (i : Fin 512) (j : Fin 1024) : (outsAt1 V c t).2.2.2.1 (ix2 i j) = mixed (blkGl (iblk1 V c 1 t) (iblk1 V c 2 t) (iblk1 V c 3 t) (iblk1 V c 4 t) (iblk1 V c 5 t) i) (blk1 (iblk1 V c 6 t) i) (blk1 (iblk1 V c 7 t) i) j := by
  unfold outsAt1
  frame_out
  pointwise [k1_pay3]
  rw [pay8, pay9, pay10, pay11]
  rfl

theorem bblk15 (c : Dev nD) (t : Fin cfg1.N) (i : Fin 512) (j : Fin 1024) : (outsAt1 V c t).2.2.2.2.1 (ix2 i j) = gated (gateR (blkGl (iblk1 V c 1 t) (iblk1 V c 2 t) (iblk1 V c 3 t) (iblk1 V c 4 t) (iblk1 V c 5 t) i)) (blkD (iblk1 V c 0 t) (iblk1 V c 10 t) i) j := by
  unfold outsAt1
  frame_out
  exact pay12 _ _ _ _ _ _ _ i j

theorem bblk16 (c : Dev nD) (t : Fin cfg1.N) (i : Fin 512) (j : Fin 1024) : (outsAt1 V c t).2.2.2.2.2.1 (ix2 i j) = gated (gateA (blkGl (iblk1 V c 1 t) (iblk1 V c 2 t) (iblk1 V c 3 t) (iblk1 V c 4 t) (iblk1 V c 5 t) i)) (blkD (iblk1 V c 0 t) (iblk1 V c 10 t) i) j := by
  unfold outsAt1
  frame_out
  exact pay13 _ _ _ _ _ _ _ i j

theorem canon_at (r : Rect S8x2048) (w : r.shape.Idx → Elt Ideal .f32) (L : List (View.Piece (Elt Ideal) S8x2048 .f32))
    (y : S8x2048.Idx) (x : r.shape.Idx) (h : y = r.emb x) : View.canon (⟨r, w⟩ :: L) y = w x := by
  rw [h]; exact View.canon_cons_emb r w L x

/-- A block stored whole and then again in its first row. -/
theorem canon_row0 (w : FVec Ideal S1x2048 .f32) (w' : FVec Ideal S8x2048 .f32) (i : Fin 8) (j : Fin 2048) :
    View.canon (Val := Elt Ideal) (e := .f32) [⟨Rect.unit ![0, 0] ![1, 2048] inb_S8x2048_S1x2048_0_0, w⟩,
        ⟨Rect.unit ![0, 0] ![8, 2048] inb_S8x2048_S8x2048_0_0, w'⟩] (ix2 i j : S8x2048.Idx)
      = if i.val = 0 then w (ix2 0 j) else w' (ix2 i j) := by
  split_ifs with h
  · refine canon_at (Rect.unit (s := S8x2048) ![0, 0] ![1, 2048] inb_S8x2048_S1x2048_0_0) w _ _ (ix2 0 j : S1x2048.Idx) ?_
    blk_ext [h]
  · rw [View.canon_cons_of_not_mem]
    · refine canon_at (Rect.unit (s := S8x2048) ![0, 0] ![8, 2048] inb_S8x2048_S8x2048_0_0) w' _ _ (ix2 i j : S8x2048.Idx) ?_
      blk_ext
    · exact Rect.not_mem_set_of_axis _ _ 0 0 1 rfl rfl rfl (Or.inr (by show 1 ≤ i.val; omega))

theorem bblk17 (c : Dev nD) (t : Fin cfg1.N) (i : Fin 8) (j : Fin 2048) : (outsAt1 V c t).2.2.2.2.2.2 (ix2 i j)
    = if i.val = 0 then ∑ k : Fin 512, gateGrad (blkGl (iblk1 V c 1 t) (iblk1 V c 2 t) (iblk1 V c 3 t) (iblk1 V c 4 t) (iblk1 V c 5 t) k)
        (blkD (iblk1 V c 0 t) (iblk1 V c 10 t) k) (blk1 (iblk1 V c 6 t) k) (blk1 (iblk1 V c 7 t) k) j else 0 := by
  unfold outsAt1
  frame_out
  refine (canon_row0 _ _ i j).trans ?_
  split_ifs
  · pointwise [k1_pay5]
    simp only [pay14]
  · pointwise [k1_pay4]

/-- The gradient of the gated sum in a row of the whole array. -/
def rowD (d : FVec Ideal S4096x1024 .f32) (w : FVec Ideal S1024x1024 .bf16) (r : Fin 4096) : Fin 1024 → EReal :=
  prod (fun k => d (ix2 r k)) fun k j => w (ix2 j k)

theorem blkD_eq (c : Dev nD) (t : Fin cfg1.N) (i : Fin 512) : blkD (iblk1 V c 0 t) (iblk1 V c 10 t) i
      = rowD (V c main_v14) (V c main_v7) (row t.val t.isLt i.val i.isLt) := by
  funext n
  unfold blkD rowD prod blk1
  simp only [bblkd, bblkwo]

theorem bblkGl_eq (c : Dev nD) (t : Fin cfg1.N) (i : Fin 512) :
    blkGl (iblk1 V c 1 t) (iblk1 V c 2 t) (iblk1 V c 3 t) (iblk1 V c 4 t) (iblk1 V c 5 t) i
      = rowGl (V c main_v1) (V c main_v11) (row t.val t.isLt i.val i.isLt) := by
  funext n
  unfold blkGl rowGl
  simp only [bblkg1, bblkg2, bblkg3, bblkg4, bblkb]
  rw [four_eq (glArg (V c main_v1) (row t.val t.isLt i.val i.isLt))]
  unfold glArg
  rw [dif_pos (by omega)]

/-- A row of the whole array. -/
def row1 (x : FVec Ideal S4096x1024 .bf16) (r : Fin 4096) (k : Fin 1024) : EReal := x (ix2 r k)

theorem blk1_yr (c : Dev nD) (t : Fin cfg1.N) (i : Fin 512) : blk1 (iblk1 V c 6 t) i
    = row1 (V c main_v13_1) (row t.val t.isLt i.val i.isLt) := by
  funext k; exact bblkyr V c t i k

theorem blk1_ya (c : Dev nD) (t : Fin cfg1.N) (i : Fin 512) : blk1 (iblk1 V c 7 t) i
    = row1 (V c main_v13_2) (row t.val t.isLt i.val i.isLt) := by
  funext k; exact bblkya V c t i k

/-- A row's gradient of the attention branch's input, a column of whose weights lies in one of four shards. -/
def rowDa (d : Fin 1024 → EReal) (w : FVec Ideal S4x512x256 .bf16) : Fin 512 → EReal :=
  prod d fun k j => w (ix3 ⟨k.val / 256, by omega⟩ j ⟨k.val % 256, by omega⟩)

theorem blkDa_eq (d : Fin 1024 → EReal) (w : FVec Ideal S4x512x256 .bf16) : blkDa d w = rowDa d w := by
  funext j
  let f : Nat → EReal := fun n => if h : n < 1024 then d ⟨n, h⟩ * w (ix3 ⟨n / 256, by omega⟩ j ⟨n % 256, by omega⟩) else 0
  have hf : ∀ (o : Nat) (s : Fin 4) (k : Fin 256) (h : o + k.val < 1024) (ho : o = s.val * 256),
      d ⟨o + k.val, h⟩ * w (ix3 s j k) = f (o + k.val) := by
    intro o s k h ho
    simp only [f, dif_pos h]
    refine congrArg _ (congrArg w ?_)
    congr 1 <;> (apply Fin.ext; simp; omega)
  have h0 : ∀ k : Fin 256, d ⟨k.val, by omega⟩ * w (ix3 0 j k) = f k.val := by
    intro k
    have := hf 0 0 k (by omega) rfl
    simp only [Nat.zero_add] at this
    exact this
  unfold blkDa rowDa prod
  refine Eq.trans ?_ ((four_sum f).trans ?_)
  · refine congrArg₂ (· + ·) (congrArg₂ (· + ·) (congrArg₂ (· + ·) ?_ ?_) ?_) ?_ <;> refine Finset.sum_congr rfl fun k _ => ?_
    · exact h0 k
    · exact hf 256 1 k (by omega) rfl
    · exact hf 512 2 k (by omega) rfl
    · exact hf 768 3 k (by omega) rfl
  · refine Finset.sum_congr rfl fun k _ => ?_
    simp only [f, dif_pos k.isLt]

/-! ## The results of the backward call, as functions of the arrays it reads -/

section Arrays
variable (d : FVec Ideal S4096x1024 .f32) (P : FVec Ideal S4096x6656 .bf16) (b : FVec Ideal S1x2048 .f32)
  (yr ya : FVec Ideal S4096x1024 .bf16) (wr wo : FVec Ideal S1024x1024 .bf16) (wa : FVec Ideal S4x512x256 .bf16) (r : Fin 4096)

/-- The gradient of the retention branch. -/
def rowDyr : Fin 1024 → EReal := gated (gateR (rowGl P b r)) (rowD d wo r)
/-- The gradient of the attention branch. -/
def rowDya : Fin 1024 → EReal := gated (gateA (rowGl P b r)) (rowD d wo r)
/-- The gradient of the retention branch's input. -/
def rowDu : Fin 1024 → EReal := prod (rowDyr d P b wo r) fun k j => wr (ix2 j k)
/-- The gradient of the attention branch's input. -/
def rowDao : Fin 512 → EReal := rowDa (rowDya d P b wo r) wa
/-- The gradient of the gate's argument. -/
def rowDgl : Fin 2048 → EReal := gateGrad (rowGl P b r) (rowD d wo r) (row1 yr r) (row1 ya r)
/-- The gated sum. -/
def rowMix : Fin 1024 → EReal := mixed (rowGl P b r) (row1 yr r) (row1 ya r)
/-- A block's sum of the gate's argument's gradient in the first of its eight rows, zero in the others. -/
def rowPart (r : Fin 64) (n : Fin 2048) : EReal :=
  if r.val % 8 = 0 then ∑ k : Fin 512, rowDgl d P b yr ya wo (row (r.val / 8) (by omega) k.val k.isLt) n else 0

end Arrays

theorem du (c : Dev nD) : (dat1 V c).arrAt 11 cfg1.N
    = arr (rowDu (V c main_v14) (V c main_v1) (V c main_v11) (V c main_v6) (V c main_v7)) := by
  refine (dat1 V c).arrAt_eq_of_covers 11 _ (by decide +kernel) fun t _ y => ?_
  obtain ⟨i, j, rfl⟩ : ∃ (i : Fin 512) (j : Fin 1024), y = (ix2 i j : S512x1024.Idx) := ⟨y 0, y 1, eq_ix2 y⟩
  blk_simp
  rw [after1_11]
  refine (bblk11 V c t i j).trans ?_
  rw [blkD_eq, bblkGl_eq]
  simp only [bblkro]
  refine Eq.trans ?_ (congrArg (arr (rowDu _ _ _ _ _ )) (bat11 t i j)).symm
  rfl

theorem dao (c : Dev nD) : (dat1 V c).arrAt 12 cfg1.N
    = arr (rowDao (V c main_v14) (V c main_v1) (V c main_v11) (V c main_v7) (V c main_v10)) := by
  refine (dat1 V c).arrAt_eq_of_covers 12 _ (by decide +kernel) fun t _ y => ?_
  obtain ⟨i, j, rfl⟩ : ∃ (i : Fin 512) (j : Fin 512), y = (ix2 i j : S512x512.Idx) := ⟨y 0, y 1, eq_ix2 y⟩
  blk_simp
  rw [after1_12]
  refine (bblk12 V c t i j).trans ?_
  rw [blkD_eq, bblkGl_eq, blkDa_eq]
  rw [show (iblk1 V c 9 t : FVec Ideal S4x512x256 .bf16) = V c main_v10 from funext fun y => by rw [eq_ix3 y]; exact bblkao V c t _ _ _]
  refine Eq.trans ?_ (congrArg (arr (rowDao _ _ _ _ _ )) (bat12 t i j)).symm
  rfl

theorem dgl (c : Dev nD) : (dat1 V c).arrAt 13 cfg1.N
    = arr (rowDgl (V c main_v14) (V c main_v1) (V c main_v11) (V c main_v13_1) (V c main_v13_2) (V c main_v7)) := by
  refine (dat1 V c).arrAt_eq_of_covers 13 _ (by decide +kernel) fun t _ y => ?_
  obtain ⟨i, j, rfl⟩ : ∃ (i : Fin 512) (j : Fin 2048), y = (ix2 i j : S512x2048.Idx) := ⟨y 0, y 1, eq_ix2 y⟩
  blk_simp
  rw [after1_13]
  refine (bblk13 V c t i j).trans ?_
  rw [blkD_eq, bblkGl_eq, blk1_yr, blk1_ya]
  refine Eq.trans ?_ (congrArg (arr (rowDgl _ _ _ _ _ _ )) (bat13 t i j)).symm
  rfl

theorem mix (c : Dev nD) : (dat1 V c).arrAt 14 cfg1.N
    = arr (rowMix (V c main_v1) (V c main_v11) (V c main_v13_1) (V c main_v13_2)) := by
  refine (dat1 V c).arrAt_eq_of_covers 14 _ (by decide +kernel) fun t _ y => ?_
  obtain ⟨i, j, rfl⟩ : ∃ (i : Fin 512) (j : Fin 1024), y = (ix2 i j : S512x1024.Idx) := ⟨y 0, y 1, eq_ix2 y⟩
  blk_simp
  rw [after1_14]
  refine (bblk14 V c t i j).trans ?_
  rw [bblkGl_eq, blk1_yr, blk1_ya]
  refine Eq.trans ?_ (congrArg (arr (rowMix _ _ _ _ )) (bat14 t i j)).symm
  rfl

theorem dyr (c : Dev nD) : (dat1 V c).arrAt 15 cfg1.N
    = arr (rowDyr (V c main_v14) (V c main_v1) (V c main_v11) (V c main_v7)) := by
  refine (dat1 V c).arrAt_eq_of_covers 15 _ (by decide +kernel) fun t _ y => ?_
  obtain ⟨i, j, rfl⟩ : ∃ (i : Fin 512) (j : Fin 1024), y = (ix2 i j : S512x1024.Idx) := ⟨y 0, y 1, eq_ix2 y⟩
  blk_simp
  rw [after1_15]
  refine (bblk15 V c t i j).trans ?_
  rw [blkD_eq, bblkGl_eq]
  refine Eq.trans ?_ (congrArg (arr (rowDyr _ _ _ _ )) (bat15 t i j)).symm
  rfl

theorem dya (c : Dev nD) : (dat1 V c).arrAt 16 cfg1.N
    = arr (rowDya (V c main_v14) (V c main_v1) (V c main_v11) (V c main_v7)) := by
  refine (dat1 V c).arrAt_eq_of_covers 16 _ (by decide +kernel) fun t _ y => ?_
  obtain ⟨i, j, rfl⟩ : ∃ (i : Fin 512) (j : Fin 1024), y = (ix2 i j : S512x1024.Idx) := ⟨y 0, y 1, eq_ix2 y⟩
  blk_simp
  rw [after1_16]
  refine (bblk16 V c t i j).trans ?_
  rw [blkD_eq, bblkGl_eq]
  refine Eq.trans ?_ (congrArg (arr (rowDya _ _ _ _ )) (bat16 t i j)).symm
  rfl

theorem part (c : Dev nD) : (dat1 V c).arrAt 17 cfg1.N
    = arr (rowPart (V c main_v14) (V c main_v1) (V c main_v11) (V c main_v13_1) (V c main_v13_2) (V c main_v7)) := by
  refine (dat1 V c).arrAt_eq_of_covers 17 _ (by decide +kernel) fun t _ y => ?_
  obtain ⟨i, j, rfl⟩ : ∃ (i : Fin 8) (j : Fin 2048), y = (ix2 i j : S8x2048.Idx) := ⟨y 0, y 1, eq_ix2 y⟩
  blk_simp
  rw [after1_17]
  refine (bblk17 V c t i j).trans ?_
  simp only [blkD_eq, bblkGl_eq, blk1_yr, blk1_ya]
  refine Eq.trans ?_ (congrArg (arr (rowPart _ _ _ _ _ _ )) (bat17 t i j)).symm
  show _ = rowPart _ _ _ _ _ _ _ _
  unfold rowPart
  have ht : t.val < 8 := t.isLt
  by_cases hi : i.val = 0
  · rw [if_pos hi, if_pos (by show (t.val * 8 + i.val) % 8 = 0; omega)]
    refine Finset.sum_congr rfl fun k _ => ?_
    have e : row t.val t.isLt k.val k.isLt = row ((t.val * 8 + i.val) / 8) (by omega) k.val k.isLt :=
      Fin.ext (by show t.val * 512 + k.val = (t.val * 8 + i.val) / 8 * 512 + k.val; omega)
    rw [e]
    rfl
  · rw [if_neg hi, if_neg (by show ¬ (t.val * 8 + i.val) % 8 = 0; omega)]
-- ==== Proof.Merge.Run.lean ====
module

public import proofs.«01_k».proof.Proof.Gen.MergeKernelIdeal.Frame
public import Idealize.ShloMosaic.Lib.Claim
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MergeKernelIdeal.Value

open Cert.MergeKernelIdeal Cert.MergeKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer at the contents that the fold through the program gives it. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.MergeKernelIdeal.Value

end
-- ==== Proof.Merge.Host.lean ====
module

public import proofs.«01_k».proof.Proof.Gen.MergeKernelIdeal.Frame
public import Idealize.ShloMosaic.Lib.Pipeline.ValueKit
public import proofs.«01_k».proof.Proof.Merge.Bwd
public import proofs.«01_k».proof.Proof.Merge.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeKernelIdeal.Value

open Cert.MergeKernelIdeal Cert.MergeKernelIdeal.Gen Cert.Merge

variable (m : (ℓ : Loc nD τ sig) → Buf (Elt Ideal) ℓ) (ρ : Dev nD → PrngReg) (c : Dev nD)

theorem V1_proj : V1 m ρ c main_v1 = arr (tok (n := 6656) (m ((c.tc : Thread nD τ).loc main_arg1))) := by
  show StableHlo.after hostOps0 _ _ = _
  after_results
  funext y
  obtain ⟨r, k, rfl⟩ : ∃ (r : Fin 4096) (k : Fin 6656), y = (ix2 r k : S4096x6656.Idx) := ⟨y 0, y 1, eq_ix2 y⟩
  pointwise
  rfl

theorem V1_u : V1 m ρ c main_v3 = arr (tok (n := 1024) (m ((c.tc : Thread nD τ).loc main_arg2))) := by
  show StableHlo.after hostOps0 _ _ = _
  after_results
  funext y
  obtain ⟨r, k, rfl⟩ : ∃ (r : Fin 4096) (k : Fin 1024), y = (ix2 r k : S4096x1024.Idx) := ⟨y 0, y 1, eq_ix2 y⟩
  pointwise
  rfl

theorem V1_a : V1 m ρ c main_v5 = arr (tok (n := 512) (m ((c.tc : Thread nD τ).loc main_arg3))) := by
  show StableHlo.after hostOps0 _ _ = _
  after_results
  funext y
  obtain ⟨r, k, rfl⟩ : ∃ (r : Fin 4096) (k : Fin 512), y = (ix2 r k : S4096x512.Idx) := ⟨y 0, y 1, eq_ix2 y⟩
  pointwise
  rfl

theorem V1_x : V1 m ρ c main_v12 = arr (tok (n := 1024) (m ((c.tc : Thread nD τ).loc main_arg0))) := by
  show StableHlo.after hostOps0 _ _ = _
  after_results
  funext y
  obtain ⟨r, k, rfl⟩ : ∃ (r : Fin 4096) (k : Fin 1024), y = (ix2 r k : S4096x1024.Idx) := ⟨y 0, y 1, eq_ix2 y⟩
  pointwise
  rfl

theorem V1_wr : V1 m ρ c main_v6 = (show FVec Ideal S1024x1024 .f32 from (m ((c.tc : Thread nD τ).loc main_arg5))) := by
  show StableHlo.after hostOps0 _ _ = _
  after_results
  funext y
  obtain ⟨r, k, rfl⟩ : ∃ (r : Fin 1024) (k : Fin 1024), y = (ix2 r k : S1024x1024.Idx) := ⟨y 0, y 1, eq_ix2 y⟩
  pointwise

theorem V1_wo : V1 m ρ c main_v7 = (show FVec Ideal S1024x1024 .f32 from (m ((c.tc : Thread nD τ).loc main_arg7))) := by
  show StableHlo.after hostOps0 _ _ = _
  after_results
  funext y
  obtain ⟨r, k, rfl⟩ : ∃ (r : Fin 1024) (k : Fin 1024), y = (ix2 r k : S1024x1024.Idx) := ⟨y 0, y 1, eq_ix2 y⟩
  pointwise

/-- The attention branch's weights by shards of its columns. -/
def shards (w : FVec Ideal S512x1024 .f32) : FVec Ideal S4x512x256 .bf16 := fun y => w (ix2 (y 1) ⟨(y 0).val * 256 + (y 2).val, by
  have h0 : (y 0).val < 4 := (y 0).isLt
  have h2 : (y 2).val < 256 := (y 2).isLt
  omega⟩)

theorem V1_wa : V1 m ρ c main_v10 = shards (m ((c.tc : Thread nD τ).loc main_arg6)) := by
  show StableHlo.after hostOps0 _ _ = _
  after_results
  funext y
  obtain ⟨s, r, k, rfl⟩ : ∃ (s : Fin 4) (r : Fin 512) (k : Fin 256), y = (ix3 s r k : S4x512x256.Idx) := ⟨y 0, y 1, y 2, eq_ix3 y⟩
  pointwise
  rfl

theorem V1_b : V1 m ρ c main_v11 = arr (fun (_ : Fin 1) (n : Fin 2048) => (show FVec Ideal S2048 .f32 from (m ((c.tc : Thread nD τ).loc main_arg4))) (ix1 n)) := by
  show StableHlo.after hostOps0 _ _ = _
  after_results
  funext y
  obtain ⟨r, k, rfl⟩ : ∃ (r : Fin 1) (k : Fin 2048), y = (ix2 r k : S1x2048.Idx) := ⟨y 0, y 1, eq_ix2 y⟩
  pointwise
  rfl

theorem V3_d : V3 m ρ c main_v14 = arr (tok (n := 1024) (m ((c.tc : Thread nD τ).loc main_arg8))) := by
  show StableHlo.after hostOps1 _ _ = _
  after_results
  rw [W2_of m ρ c main_arg8 (by decide +kernel), W1_of m ρ c main_arg8 (by decide +kernel)]
  funext y
  obtain ⟨r, k, rfl⟩ : ∃ (r : Fin 4096) (k : Fin 1024), y = (ix2 r k : S4096x1024.Idx) := ⟨y 0, y 1, eq_ix2 y⟩
  pointwise
  rfl

theorem V3_main_v1 : V3 m ρ c main_v1 = V1 m ρ c main_v1 :=
  (W3_of m ρ c main_v1 (by decide +kernel)).trans (W2_of m ρ c main_v1 (by decide +kernel))

theorem V3_main_v11 : V3 m ρ c main_v11 = V1 m ρ c main_v11 :=
  (W3_of m ρ c main_v11 (by decide +kernel)).trans (W2_of m ρ c main_v11 (by decide +kernel))

theorem V3_main_v6 : V3 m ρ c main_v6 = V1 m ρ c main_v6 :=
  (W3_of m ρ c main_v6 (by decide +kernel)).trans (W2_of m ρ c main_v6 (by decide +kernel))

theorem V3_main_v7 : V3 m ρ c main_v7 = V1 m ρ c main_v7 :=
  (W3_of m ρ c main_v7 (by decide +kernel)).trans (W2_of m ρ c main_v7 (by decide +kernel))

theorem V3_main_v10 : V3 m ρ c main_v10 = V1 m ρ c main_v10 :=
  (W3_of m ρ c main_v10 (by decide +kernel)).trans (W2_of m ρ c main_v10 (by decide +kernel))

theorem V3_yr : V3 m ρ c main_v13_1 = arr (rowYr (V1 m ρ c main_v3) (V1 m ρ c main_v6)) :=
  (W3_of m ρ c main_v13_1 (by decide +kernel)).trans ((W2_arr m ρ c 12).trans (yr (V1 m ρ) c))

theorem V3_ya : V3 m ρ c main_v13_2 = arr (rowYa (V1 m ρ c main_v5) (V1 m ρ c main_v10)) :=
  (W3_of m ρ c main_v13_2 (by decide +kernel)).trans ((W2_arr m ρ c 13).trans (ya (V1 m ρ) c))

theorem W5_h1 : W5 m ρ c main_v13_0 = arr (rowH1 (V1 m ρ c main_v12) (V1 m ρ c main_v1) (V1 m ρ c main_v11) (V1 m ρ c main_v3)
    (V1 m ρ c main_v6) (V1 m ρ c main_v5) (V1 m ρ c main_v10) (V1 m ρ c main_v7)) :=
  (W5_of m ρ c main_v13_0 (by decide +kernel)).trans ((W4_of m ρ c main_v13_0 (by decide +kernel)).trans
    ((W3_of m ρ c main_v13_0 (by decide +kernel)).trans ((W2_arr m ρ c 11).trans (h1 (V1 m ρ) c))))

theorem W5_du : W5 m ρ c main_v15_0 = arr (rowDu (V3 m ρ c main_v14) (V3 m ρ c main_v1) (V3 m ρ c main_v11) (V3 m ρ c main_v6) (V3 m ρ c main_v7)) :=
  (W5_of m ρ c main_v15_0 (by decide +kernel)).trans ((W4_arr m ρ c 11).trans (du (V3 m ρ) c))

theorem W5_dao : W5 m ρ c main_v15_1 = arr (rowDao (V3 m ρ c main_v14) (V3 m ρ c main_v1) (V3 m ρ c main_v11) (V3 m ρ c main_v7) (V3 m ρ c main_v10)) :=
  (W5_of m ρ c main_v15_1 (by decide +kernel)).trans ((W4_arr m ρ c 12).trans (dao (V3 m ρ) c))

theorem W5_dgl : W5 m ρ c main_v15_2 = arr (rowDgl (V3 m ρ c main_v14) (V3 m ρ c main_v1) (V3 m ρ c main_v11) (V3 m ρ c main_v13_1) (V3 m ρ c main_v13_2) (V3 m ρ c main_v7)) :=
  (W5_of m ρ c main_v15_2 (by decide +kernel)).trans ((W4_arr m ρ c 13).trans (dgl (V3 m ρ) c))

theorem W5_mix : W5 m ρ c main_v15_3 = arr (rowMix (V3 m ρ c main_v1) (V3 m ρ c main_v11) (V3 m ρ c main_v13_1) (V3 m ρ c main_v13_2)) :=
  (W5_of m ρ c main_v15_3 (by decide +kernel)).trans ((W4_arr m ρ c 14).trans (mix (V3 m ρ) c))

theorem W5_dyr : W5 m ρ c main_v15_4 = arr (rowDyr (V3 m ρ c main_v14) (V3 m ρ c main_v1) (V3 m ρ c main_v11) (V3 m ρ c main_v7)) :=
  (W5_of m ρ c main_v15_4 (by decide +kernel)).trans ((W4_arr m ρ c 15).trans (dyr (V3 m ρ) c))

theorem W5_dya : W5 m ρ c main_v15_5 = arr (rowDya (V3 m ρ c main_v14) (V3 m ρ c main_v1) (V3 m ρ c main_v11) (V3 m ρ c main_v7)) :=
  (W5_of m ρ c main_v15_5 (by decide +kernel)).trans ((W4_arr m ρ c 16).trans (dya (V3 m ρ) c))

theorem W5_db : W5 m ρ c main_v19 = fun n : S2048.Idx => ∑ r : Fin 4096, rowDgl (V3 m ρ c main_v14) (V3 m ρ c main_v1) (V3 m ρ c main_v11) (V3 m ρ c main_v13_1)
    (V3 m ρ c main_v13_2) (V3 m ρ c main_v7) r (n 0) := by
  show StableHlo.after hostOps2 _ _ = _
  after_results
  rw [show W4 m ρ c (Proc.devRef .tc main_v15_6) = _ from (W4_arr m ρ c 17).trans (part (V3 m ρ) c)]
  funext y
  obtain ⟨n, rfl⟩ : ∃ (n : Fin 2048), y = (ix1 n : S2048.Idx) := ⟨y 0, eq_ix1 y⟩
  pointwise
  rw [Fin.sum_univ_tiles 8 512 rfl]
  refine Finset.sum_congr rfl fun t _ => ?_
  show rowPart _ _ _ _ _ _ (⟨t.val * 8, _⟩ : Fin 64) n = _
  unfold rowPart
  rw [if_pos (by show t.val * 8 % 8 = 0; omega)]
  refine Finset.sum_congr rfl fun k _ => ?_
  rw [show row (t.val * 8 / 8) (by omega) k.val k.isLt = (⟨t.val * 512 + k.val, by omega⟩ : Fin 4096) from
    Fin.ext (by show t.val * 8 / 8 * 512 + k.val = t.val * 512 + k.val; omega)]

end Cert.MergeKernelIdeal.Value

end
-- ==== Proof.Merge.Ref.lean ====
module

public import proofs.«01_k».proof.Proof.Gen.MergeKernelIdeal.Frame
public import Idealize.ShloMosaic.Lib.Pipeline.ValueKit
public import proofs.«01_k».proof.Proof.Merge.Host
public import proofs.«01_k».proof.Proof.Gen.MergeReferenceIdeal.Run
public import proofs.«01_k».proof.Proof.Gen.MergeReferenceIdeal.Read
public import Idealize.ShloMosaic.Lib.Claim
public import Idealize.ShloMosaic.Lib.Pointwise

@[expose] public section

set_option maxRecDepth 16384

noncomputable section

open Idealize.ShloMosaic Idealize.ShloMosaic.TcCoe

namespace Cert.Merge

open Cert.MergeReferenceIdeal Cert.MergeReferenceIdeal.Read Cert.MergeKernelIdeal.Value

/-! The reference's arrays at a row of tokens, one after the other. -/

variable (x0 : FVec Ideal S2x2048x1024 .f32) (x1 : FVec Ideal S2x2048x6656 .f32) (x2 : FVec Ideal S2x2048x1024 .f32)
  (x3 : FVec Ideal S2x2048x512 .f32) (x4 : FVec Ideal S2048 .f32) (x5 : FVec Ideal S1024x1024 .f32)
  (x6 : FVec Ideal S512x1024 .f32) (x7 : FVec Ideal S1024x1024 .f32) (x8 : FVec Ideal S2x2048x1024 .f32) (r : Fin 4096)

/-- The place of a row's entry in an array of two sequences. -/
def pos {n : Nat} (r : Fin 4096) (k : Fin n) : (⟨3, ![2, 2048, n]⟩ : Shape).Idx :=
  ix3 ⟨r.val / 2048, by omega⟩ ⟨r.val % 2048, by omega⟩ k

local notation "gl" => rowGl (arr (tok (n := 6656) x1)) (arr fun (_ : Fin 1) (n : Fin 2048) => x4 (ix1 n)) r
local notation "yr" => rowYr (arr (tok (n := 1024) x2)) x5 r
local notation "ya" => rowYa (arr (tok (n := 512) x3)) (shards x6) r
local notation "dm" => rowD (arr (tok (n := 1024) x8)) x7 r

theorem ref_gate (n : Fin 2048) : val_main_v11 (F := Ideal) x1 x4 (pos r n) = gate gl n.val n.isLt := by
  unfold pos
  pointwise [val_main_v11, val_main_v10, val_main_cst_0, val_main_v9, val_main_v8, val_main_cst, val_main_v7, val_main_v6,
    val_main_v5, val_main_v4, val_main_v3, val_main_v0]
  unfold gate
  rw [zero_sub]
  rfl

theorem ref_yr (j : Fin 1024) : val_main_v1 (F := Ideal) x2 x5 (pos r j) = yr j := by
  unfold pos
  pointwise [val_main_v1]
  rfl

theorem ref_ya (j : Fin 1024) : val_main_v2 (F := Ideal) x3 x6 (pos r j) = ya j := by
  unfold pos
  pointwise [val_main_v2]
  unfold rowYa prod
  refine Finset.sum_congr rfl fun k _ => congrArg (x3 (ix3 ⟨r.val / 2048, _⟩ ⟨r.val % 2048, _⟩ k) * ·) (congrArg x6 ?_)
  show _ = ix2 k (⟨j.val / 256 * 256 + j.val % 256, _⟩ : Fin 1024)
  refine congrArg (ix2 k) ?_
  exact Fin.ext (by show j.val = j.val / 256 * 256 + j.val % 256; omega)

theorem ref_d (j : Fin 1024) : val_main_v21 (F := Ideal) x7 x8 (pos r j) = dm j := by
  unfold pos
  pointwise [val_main_v21]
  rfl

theorem ref_gateR (j : Fin 1024) : val_main_v15 (F := Ideal) x1 x4 (pos r j) = gateR gl j := by
  rw [gateR, ← ref_gate x1 x4 r ⟨j.val, by omega⟩]
  unfold pos
  pointwise [val_main_v15]

theorem ref_gateA (j : Fin 1024) : val_main_v16 (F := Ideal) x1 x4 (pos r j) = gateA gl j := by
  rw [gateA, ← ref_gate x1 x4 r ⟨1024 + j.val, by omega⟩]
  unfold pos
  pointwise [val_main_v16]

theorem ref_mix (j : Fin 1024) : val_main_v19 (F := Ideal) x1 x2 x3 x4 x5 x6 (pos r j) = mixed gl yr ya j := by
  rw [mixed, ← ref_gateR, ← ref_gateA, ← ref_yr, ← ref_ya]
  rfl

theorem ref_dya (j : Fin 1024) : val_main_v22 (F := Ideal) x1 x4 x7 x8 (pos r j) = gated (gateA gl) dm j := by
  rw [gated, ← ref_gateA, ← ref_d, mul_comm]
  rfl

theorem ref_dyr (j : Fin 1024) : val_main_v24 (F := Ideal) x1 x4 x7 x8 (pos r j) = gated (gateR gl) dm j := by
  rw [gated, ← ref_gateR, ← ref_d, mul_comm]
  rfl

theorem ref_v23 (j : Fin 1024) : val_main_v23 (F := Ideal) x3 x6 x7 x8 (pos r j) = dm j * ya j := by
  rw [← ref_d, ← ref_ya]
  rfl

theorem ref_v25 (j : Fin 1024) : val_main_v25 (F := Ideal) x2 x5 x7 x8 (pos r j) = dm j * yr j := by
  rw [← ref_d, ← ref_yr]
  rfl

theorem ref_dgl (n : Fin 2048) : val_main_v29 (F := Ideal) x1 x2 x3 x4 x5 x6 x7 x8 (pos r n) = gateGrad gl dm yr ya n := by
  have h14 : val_main_v14 (F := Ideal) x1 x4 (pos r n) = gate gl n.val n.isLt * (1 - gate gl n.val n.isLt) := by
    rw [← ref_gate]
    unfold pos
    pointwise [val_main_v14, val_main_v13, val_main_v12, val_main_cst_1]
  have h23 := ref_v23 x3 x6 x7 x8 r
  have h25 := ref_v25 x2 x5 x7 x8 r
  have h : val_main_v28 (F := Ideal) x2 x3 x5 x6 x7 x8 (pos r n)
      = if h : n.val < 1024 then dm ⟨n.val, h⟩ * yr ⟨n.val, h⟩ else dm ⟨n.val - 1024, by omega⟩ * ya ⟨n.val - 1024, by omega⟩ := by
    simp only [← h23, ← h25]
    unfold pos
    pointwise [val_main_v28, val_main_v27, val_main_v26, val_main_cst_2, val_main_cst_3]
    have e1 : r.val / 2048 < 2 := by omega
    have e2 : r.val % 2048 < 2048 := by omega
    by_cases hn : n.val < 1024
    · rw [dif_neg (by omega), dif_pos ⟨e1, e2, hn⟩, dif_pos hn, zero_add]
    · rw [dif_pos ⟨e1, e2, by omega, by omega⟩, dif_neg (by omega), dif_neg hn, add_zero]
  show val_main_v28 (F := Ideal) x2 x3 x5 x6 x7 x8 (pos r n) * val_main_v14 (F := Ideal) x1 x4 (pos r n) = _
  rw [h, h14, gateGrad]
  unfold slope gateR gateA
  split_ifs with hn
  · rw [← mul_assoc]
  · have e : 1024 + (n.val - 1024) = n.val := by omega
    simp only [e]
    rw [← mul_assoc]

/-! The results. -/

theorem ref_h1 (j : Fin 1024) : val_main_v34 (F := Ideal) x0 x1 x2 x3 x4 x5 x6 x7 (ix2 r j)
    = rowH1 (arr (tok (n := 1024) x0)) (arr (tok (n := 6656) x1)) (arr fun (_ : Fin 1) (n : Fin 2048) => x4 (ix1 n))
        (arr (tok (n := 1024) x2)) x5 (arr (tok (n := 512) x3)) (shards x6) x7 r j := by
  unfold rowH1 prod
  simp only [← ref_mix]
  unfold pos
  pointwise [val_main_v34, val_main_v33, val_main_v20]
  rfl

theorem ref_du (j : Fin 1024) : val_main_v37 (F := Ideal) x1 x4 x5 x7 x8 (ix2 r j)
    = rowDu (arr (tok (n := 1024) x8)) (arr (tok (n := 6656) x1)) (arr fun (_ : Fin 1) (n : Fin 2048) => x4 (ix1 n)) x5 x7 r j := by
  unfold rowDu prod rowDyr
  simp only [← ref_dyr]
  unfold pos
  pointwise [val_main_v37, val_main_v36, val_main_v35]

theorem ref_dao (j : Fin 512) : val_main_v40 (F := Ideal) x1 x4 x6 x7 x8 (ix2 r j)
    = rowDao (arr (tok (n := 1024) x8)) (arr (tok (n := 6656) x1)) (arr fun (_ : Fin 1) (n : Fin 2048) => x4 (ix1 n)) x7 (shards x6) r j := by
  unfold rowDao rowDa prod rowDya
  simp only [← ref_dya]
  unfold pos
  pointwise [val_main_v40, val_main_v39, val_main_v38]
  refine Finset.sum_congr rfl fun k _ => congrArg _ (congrArg x6 ?_)
  show _ = ix2 j (⟨k.val / 256 * 256 + k.val % 256, _⟩ : Fin 1024)
  congr 1
  exact Fin.ext (by show k.val = k.val / 256 * 256 + k.val % 256; omega)

theorem ref_dgl' (n : Fin 2048) : val_main_v42 (F := Ideal) x1 x2 x3 x4 x5 x6 x7 x8 (ix2 r n) = gateGrad gl dm yr ya n := by
  rw [← ref_dgl]
  unfold pos
  pointwise [val_main_v42, val_main_v41]

theorem ref_mix' (j : Fin 1024) : val_main_v44 (F := Ideal) x1 x2 x3 x4 x5 x6 (ix2 r j) = mixed gl yr ya j := by
  rw [← ref_mix]
  unfold pos
  pointwise [val_main_v44, val_main_v43]

theorem ref_dyr' (j : Fin 1024) : val_main_v46 (F := Ideal) x1 x4 x7 x8 (ix2 r j) = gated (gateR gl) dm j := by
  rw [← ref_dyr]
  unfold pos
  pointwise [val_main_v46, val_main_v45]

theorem ref_dya' (j : Fin 1024) : val_main_v48 (F := Ideal) x1 x4 x7 x8 (ix2 r j) = gated (gateA gl) dm j := by
  rw [← ref_dya]
  unfold pos
  pointwise [val_main_v48, val_main_v47]

theorem sum_two_axes {n0 n1 n2 : Nat} (h : (⟨3, ![n0, n1, n2]⟩ : Shape).ReducesTo [0, 1] ⟨1, ![n2]⟩)
    (v : (⟨3, ![n0, n1, n2]⟩ : Shape).Idx → EReal) (init : EReal) (n : Fin n2) :
    Ideal.hostReduceAdd h v init (ix1 n) = init + ∑ a : Fin n0, ∑ b : Fin n1, v (ix3 a b n) := by
  unfold Ideal.hostReduceAdd
  rw [← Fintype.sum_prod_type' (fun a b => v (ix3 a b n))]
  refine congrArg (init + ·) ?_
  refine Finset.sum_nbij' (fun i => ((i 0, i 1) : Fin n0 × Fin n1)) (fun p => ix3 p.1 p.2 n) (fun _ _ => Finset.mem_univ _)
    (fun p _ => ?_) (fun i hi => ?_) (fun p _ => rfl) (fun i hi => ?_)
  · refine Finset.mem_filter.mpr ⟨Finset.mem_univ _, ?_⟩
    funext b
    fin_cases b
    rfl
  · have e : i 2 = n := congrFun (Finset.mem_filter.mp hi).2 0
    rw [← e]
    exact (eq_ix3 i).symm
  · have e : i 2 = n := congrFun (Finset.mem_filter.mp hi).2 0
    rw [← e]
    exact congrArg v (eq_ix3 i)

theorem ref_db (n : Fin 2048) : val_main_v32 (F := Ideal) x1 x2 x3 x4 x5 x6 x7 x8 (ix1 n)
    = ∑ r : Fin 4096, val_main_v29 (F := Ideal) x1 x2 x3 x4 x5 x6 x7 x8 (pos r n) := by
  unfold val_main_v32 val_main_v31 val_main_v30
  generalize val_main_v29 (F := Ideal) x1 x2 x3 x4 x5 x6 x7 x8 = y
  pointwise [val_main_cst_5, val_main_cst_4]
  rw [sum_two_axes]
  pointwise
  simp only [sum_two_axes, Finset.univ_unique, Finset.sum_singleton, zero_add]
  rw [Fin.sum_univ_tiles 2 2048 rfl]
  refine Finset.sum_congr rfl fun a _ => Finset.sum_congr rfl fun b _ => congrArg y ?_
  show ix3 a b n = ix3 (⟨(a.val * 2048 + b.val) / 2048, _⟩ : Fin 2) (⟨(a.val * 2048 + b.val) % 2048, _⟩ : Fin 2048) n
  have e1 : a = (⟨(a.val * 2048 + b.val) / 2048, by omega⟩ : Fin 2) := Fin.ext (by show a.val = (a.val * 2048 + b.val) / 2048; omega)
  have e2 : b = (⟨(a.val * 2048 + b.val) % 2048, by omega⟩ : Fin 2048) := Fin.ext (by show b.val = (a.val * 2048 + b.val) % 2048; omega)
  exact congrArg₂ (fun a b => ix3 a b n) e1 e2

end Cert.Merge

end
-- ==== Proof.Merge.Claim.lean ====
module

public import proofs.«01_k».proof.Proof.Gen.MergeKernelIdeal.Frame
public import Idealize.ShloMosaic.Lib.Pipeline.ValueKit
public import proofs.«01_k».proof.Proof.Merge.Host
public import proofs.«01_k».proof.Proof.Merge.Ref
public import Idealize.ShloMosaic.Lib.Claim
public import proofs.«01_k».proof.Defs
public import Idealize.ShloMosaic.Lib.Pointwise

@[expose] public section

set_option maxRecDepth 16384

noncomputable section

open Idealize.ShloMosaic Idealize.ShloMosaic.TcCoe Idealize.SL.Sem

namespace Cert.MergeKernelIdeal.Value

open Cert.MergeKernelIdeal Cert.MergeKernelIdeal.Gen Cert.Merge

variable (m : (ℓ : Loc nD τ sig) → Buf (Elt Ideal) ℓ) (ρ : Dev nD → PrngReg)

theorem eq_h1 (c : Dev nD) : W5 m ρ c main_v13_0
    = Cert.MergeReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W5_h1, V1_x, V1_proj, V1_b, V1_u, V1_wr, V1_a, V1_wa, V1_wo]
  funext y
  obtain ⟨i, j, rfl⟩ : ∃ (i : Fin 4096) (j : Fin 1024), y = (ix2 i j : S4096x1024.Idx) := ⟨y 0, y 1, eq_ix2 y⟩
  refine Eq.trans ?_ (ref_h1 _ _ _ _ _ _ _ _ i j).symm
  rfl

theorem eq_du (c : Dev nD) : W5 m ρ c main_v15_0
    = Cert.MergeReferenceIdeal.Read.val_main_v37 (F := Ideal) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg8)) := by
  rw [W5_du, V3_d, V3_main_v1, V3_main_v11, V3_main_v6, V3_main_v7, V1_proj, V1_b, V1_wr, V1_wo]
  funext y
  obtain ⟨i, j, rfl⟩ : ∃ (i : Fin 4096) (j : Fin 1024), y = (ix2 i j : S4096x1024.Idx) := ⟨y 0, y 1, eq_ix2 y⟩
  refine Eq.trans ?_ (ref_du _ _ _ _ _ i j).symm
  rfl

theorem eq_dao (c : Dev nD) : W5 m ρ c main_v15_1
    = Cert.MergeReferenceIdeal.Read.val_main_v40 (F := Ideal) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) := by
  rw [W5_dao, V3_d, V3_main_v1, V3_main_v11, V3_main_v7, V3_main_v10, V1_proj, V1_b, V1_wo, V1_wa]
  funext y
  obtain ⟨i, j, rfl⟩ : ∃ (i : Fin 4096) (j : Fin 512), y = (ix2 i j : S4096x512.Idx) := ⟨y 0, y 1, eq_ix2 y⟩
  refine Eq.trans ?_ (ref_dao _ _ _ _ _ i j).symm
  rfl

theorem eq_dgl (c : Dev nD) : W5 m ρ c main_v15_2
    = Cert.MergeReferenceIdeal.Read.val_main_v42 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W5_dgl, V3_d, V3_main_v1, V3_main_v11, V3_yr, V3_ya, V3_main_v7, V1_proj, V1_b, V1_u, V1_wr, V1_a, V1_wa, V1_wo]
  funext y
  obtain ⟨i, j, rfl⟩ : ∃ (i : Fin 4096) (j : Fin 2048), y = (ix2 i j : S4096x2048.Idx) := ⟨y 0, y 1, eq_ix2 y⟩
  refine Eq.trans ?_ (ref_dgl' _ _ _ _ _ _ _ _ i j).symm
  rfl

theorem eq_db (c : Dev nD) : W5 m ρ c main_v19
    = Cert.MergeReferenceIdeal.Read.val_main_v32 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W5_db, V3_d, V3_main_v1, V3_main_v11, V3_yr, V3_ya, V3_main_v7, V1_proj, V1_b, V1_u, V1_wr, V1_a, V1_wa, V1_wo]
  funext n
  obtain ⟨n, rfl⟩ : ∃ k : Fin 2048, n = (ix1 k : S2048.Idx) := ⟨n 0, eq_ix1 n⟩
  refine Eq.trans ?_ (ref_db _ _ _ _ _ _ _ _ n).symm
  refine Finset.sum_congr rfl fun r _ => ?_
  rw [ref_dgl]
  rfl

theorem eq_mix (c : Dev nD) : W5 m ρ c main_v15_3
    = Cert.MergeReferenceIdeal.Read.val_main_v44 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W5_mix, V3_main_v1, V3_main_v11, V3_yr, V3_ya, V1_proj, V1_b, V1_u, V1_wr, V1_a, V1_wa]
  funext y
  obtain ⟨i, j, rfl⟩ : ∃ (i : Fin 4096) (j : Fin 1024), y = (ix2 i j : S4096x1024.Idx) := ⟨y 0, y 1, eq_ix2 y⟩
  refine Eq.trans ?_ (ref_mix' _ _ _ _ _ _ i j).symm
  rfl

theorem eq_dyr (c : Dev nD) : W5 m ρ c main_v15_4
    = Cert.MergeReferenceIdeal.Read.val_main_v46 (F := Ideal) (m ((c.tc : Thread nD τ).loc main_arg1)) (m ((c.tc : Thread nD τ).loc main_arg4)) (m ((c.tc : Thread nD τ).loc main_arg7)) (m ((c.tc : Thread nD τ).loc main_arg8)) := by
  rw [W5_dyr, V3_d, V3_main_v1, V3_main_v11, V3_main_v7, V1_proj, V1_b, V1_wo]
  funext y
  obtain ⟨i, j, rfl⟩ : ∃ (i : Fin 4096) (j : Fin 1024), y = (ix2 i j : S4096x1024.Idx) := ⟨y 0, y 1, eq_ix2 y⟩
  refine Eq.trans ?_ (ref_dyr' _ _ _ _ i j).symm
  rfl

theorem eq_dya (c : Dev nD) : W5 m ρ c main_v15_5
    = Cert.MergeReferenceIdeal.Read.val_main_v48 (F := Ideal) (m ((c.tc : Thread nD τ).loc main_arg1)) (m ((c.tc : Thread nD τ).loc main_arg4)) (m ((c.tc : Thread nD τ).loc main_arg7)) (m ((c.tc : Thread nD τ).loc main_arg8)) := by
  rw [W5_dya, V3_d, V3_main_v1, V3_main_v11, V3_main_v7, V1_proj, V1_b, V1_wo]
  funext y
  obtain ⟨i, j, rfl⟩ : ∃ (i : Fin 4096) (j : Fin 1024), y = (ix2 i j : S4096x1024.Idx) := ⟨y 0, y 1, eq_ix2 y⟩
  refine Eq.trans ?_ (ref_dya' _ _ _ _ i j).symm
  rfl

/-- The kernel's run: its results are the reference's terms over its own arguments, which end unchanged. -/
theorem run : θ_run defs (onTc (τ := τ) (main (F := Ideal))) ⟨m, fun _ => 0, ρ⟩ (fun r => ∀ c : Dev nD,
      r.2.mem ((c.tc : Thread nD τ).loc main_v13_0) = Cert.MergeReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v15_0) = Cert.MergeReferenceIdeal.Read.val_main_v37 (F := Ideal) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_v15_1) = Cert.MergeReferenceIdeal.Read.val_main_v40 (F := Ideal) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_v15_2) = Cert.MergeReferenceIdeal.Read.val_main_v42 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v19) = Cert.MergeReferenceIdeal.Read.val_main_v32 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v15_3) = Cert.MergeReferenceIdeal.Read.val_main_v44 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v15_4) = Cert.MergeReferenceIdeal.Read.val_main_v46 (F := Ideal) (m ((c.tc : Thread nD τ).loc main_arg1)) (m ((c.tc : Thread nD τ).loc main_arg4)) (m ((c.tc : Thread nD τ).loc main_arg7)) (m ((c.tc : Thread nD τ).loc main_arg8))
      ∧ r.2.mem ((c.tc : Thread nD τ).loc main_v15_5) = Cert.MergeReferenceIdeal.Read.val_main_v48 (F := Ideal) (m ((c.tc : Thread nD τ).loc main_arg1)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v13_0 (by decide))).trans (eq_h1 m ρ c),
    (h c _ (mem_uc main_v15_0 (by decide))).trans (eq_du m ρ c),
    (h c _ (mem_uc main_v15_1 (by decide))).trans (eq_dao m ρ c),
    (h c _ (mem_uc main_v15_2 (by decide))).trans (eq_dgl m ρ c),
    (h c _ (mem_uc main_v19 (by decide))).trans (eq_db m ρ c),
    (h c _ (mem_uc main_v15_3 (by decide))).trans (eq_mix m ρ c),
    (h c _ (mem_uc main_v15_4 (by decide))).trans (eq_dyr m ρ c),
    (h c _ (mem_uc main_v15_5 (by decide))).trans (eq_dya m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.MergeKernelIdeal.Value

/-! The reference's run, its results as the stages' terms. -/
namespace Cert.MergeReferenceIdeal.Value

open Cert.MergeReferenceIdeal Cert.MergeReferenceIdeal.Gen Cert.MergeReferenceIdeal.Read

theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v37) = val_main_v37 (F := Ideal) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_v40) = val_main_v40 (F := Ideal) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_v42) = val_main_v42 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v32) = val_main_v32 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v44) = val_main_v44 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v46) = val_main_v46 (F := Ideal) (m ((c.tc : Thread nD τ).loc main_arg1)) (m ((c.tc : Thread nD τ).loc main_arg4)) (m ((c.tc : Thread nD τ).loc main_arg7)) (m ((c.tc : Thread nD τ).loc main_arg8))
      ∧ r.2.mem ((c.tc : Thread nD τ).loc main_v48) = val_main_v48 (F := Ideal) (m ((c.tc : Thread nD τ).loc main_arg1)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (val_main_v34_eq _ _ _ _ _ _ _ _),
    (h c).2.1.trans (val_main_v37_eq _ _ _ _ _),
    (h c).2.2.1.trans (val_main_v40_eq _ _ _ _ _),
    (h c).2.2.2.1.trans (val_main_v42_eq _ _ _ _ _ _ _ _),
    (h c).2.2.2.2.1.trans (val_main_v32_eq _ _ _ _ _ _ _ _),
    (h c).2.2.2.2.2.1.trans (val_main_v44_eq _ _ _ _ _ _),
    (h c).2.2.2.2.2.2.1.trans (val_main_v46_eq _ _ _ _),
    (h c).2.2.2.2.2.2.2.1.trans (val_main_v48_eq _ _ _ _),
    (h c).2.2.2.2.2.2.2.2⟩) (run m ρ)

end Cert.MergeReferenceIdeal.Value

namespace Cert.Merge

theorem algebraic : Cert.algebraic_MergeKernelIdeal_MergeReferenceIdeal := by
  intro m g m' g' _ hagree
  refine ⟨fun c => Cert.MergeReferenceIdeal.Read.val_main_v34 (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)),
    fun c => Cert.MergeReferenceIdeal.Read.val_main_v37 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    fun c => Cert.MergeReferenceIdeal.Read.val_main_v40 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    fun c => Cert.MergeReferenceIdeal.Read.val_main_v42 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    fun c => Cert.MergeReferenceIdeal.Read.val_main_v32 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    fun c => Cert.MergeReferenceIdeal.Read.val_main_v44 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)),
    fun c => Cert.MergeReferenceIdeal.Read.val_main_v46 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    fun c => Cert.MergeReferenceIdeal.Read.val_main_v48 (F := Ideal) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)),
    Cert.MergeKernelIdeal.Value.run m g, ?_⟩
  refine (θ_run Cert.MergeReferenceIdeal.defs _ _).mono (fun r h c => ?_) (Cert.MergeReferenceIdeal.Value.run_stages m' g')
  obtain ⟨a0, a1, a2, a3, a4, a5, a6, a7, a8⟩ := hagree c
  obtain ⟨h0, h1, h2, h3, h4, h5, h6, h7, hargs⟩ := h c
  rw [a0, a1, a2, a3, a4, a5, a6, a7] at h0
  rw [a1, a4, a5, a7, a8] at h1
  rw [a1, a4, a6, a7, a8] at h2
  rw [a1, a2, a3, a4, a5, a6, a7, a8] at h3
  rw [a1, a2, a3, a4, a5, a6, a7, a8] at h4
  rw [a1, a2, a3, a4, a5, a6] at h5
  rw [a1, a4, a7, a8] at h6
  rw [a1, a4, a7, a8] at h7
  exact ⟨h0, h1, h2, h3, h4, h5, h6, h7, hargs⟩

theorem frame_reference : Cert.quiescent_MergeReferenceIdeal := by
  intro m g _
  exact (θ_run Cert.MergeReferenceIdeal.defs _ _).mono (fun r h => ⟨fun c => (h c).2.2.2.2.2.2.2.2,
    sem_eq_zero_of_no_sems (by decide) r.2⟩) (Cert.MergeReferenceIdeal.Value.run m g)

end Cert.Merge

end
-- ==== Proof.Ret.Host.lean ====
module

public import proofs.«01_k».proof.Proof.Gen.RetKernelIdeal.Frame
public import proofs.«01_k».proof.Proof.Gen.RetReferenceIdeal.Read
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

variable (m : (ℓ : Loc nD τ sig) → Buf (Elt Ideal) ℓ) (c : Dev nD)

/-- The projections, the call's first argument. -/
abbrev X0 : FVec Ideal S2x2048x6656 .f32 := m ((c.tc : Thread nD τ).loc main_arg0)
/-- The gradient of the gated output, its second argument. -/
abbrev X1 : FVec Ideal S2x2048x1024 .f32 := m ((c.tc : Thread nD τ).loc main_arg1)

/-! The host's lines before the call, read as the reference's stages: first the pieces a line joins, then the arrays
the call takes. -/

theorem u31 : @Eq (FVec Ideal S2x2048x4x64 .f32) (StableHlo.upto [hostOps0, hostOps0_1, hostOps0_2].flatten (fun b => m (c, b)) 41
      (Proc.tc.devRef main_v31)) (val_main_v31 (F := Ideal) (X0 m c)) := by
  after_reads_simp
  rfl

theorem u36 : @Eq (FVec Ideal S2x2048x4x64 .f32) (StableHlo.upto [hostOps0, hostOps0_1, hostOps0_2].flatten (fun b => m (c, b)) 41
      (Proc.tc.devRef main_v36)) (val_main_v36 (F := Ideal) (X0 m c)) := by
  after_reads_simp
  rfl

theorem u64 : @Eq (FVec Ideal S2x2048x4x64 .f32) (StableHlo.upto [hostOps0, hostOps0_1, hostOps0_2].flatten (fun b => m (c, b)) 78
      (Proc.tc.devRef main_v64)) (val_main_v64 (F := Ideal) (X0 m c)) := by
  after_reads_simp
  rfl

theorem u69 : @Eq (FVec Ideal S2x2048x4x64 .f32) (StableHlo.upto [hostOps0, hostOps0_1, hostOps0_2].flatten (fun b => m (c, b)) 78
      (Proc.tc.devRef main_v69)) (val_main_v69 (F := Ideal) (X0 m c)) := by
  after_reads_simp
  rfl

theorem u175 : @Eq (FVec Ideal S2048x64 .f32) (StableHlo.upto [hostOps0, hostOps0_1, hostOps0_2].flatten (fun b => m (c, b)) 201
      (Proc.tc.devRef main_v175)) (val_main_v54 (F := Ideal)) := by
  after_reads_simp
  rfl

theorem u178 : @Eq (FVec Ideal S2048x64 .f32) (StableHlo.upto [hostOps0, hostOps0_1, hostOps0_2].flatten (fun b => m (c, b)) 203
      (Proc.tc.devRef main_v178)) (Host.negf (val_main_v56 (F := Ideal))) := by
  after_reads_simp
  rfl

theorem u176 : @Eq (FVec Ideal S2048x64 .f32) (StableHlo.upto [hostOps0, hostOps0_1, hostOps0_2].flatten (fun b => m (c, b)) 203
      (Proc.tc.devRef main_v176)) (val_main_v56 (F := Ideal)) := by
  after_reads_simp
  rfl

/-- The rotated queries. -/
theorem V_q : @Eq (FVec Ideal S4096x512 .bf16) (V m c main_v151)
    (truncf .bf16 (shapeCast S4096x512 (val_main_v37 (F := Ideal) (X0 m c)) shapeCasts_S2x2048x4x128_S4096x512) bitsLt_bf16_f32) := by
  unfold_abbrev_sides
  after_reads_simp
  rw [u31, u36]
  rfl

/-- The rotated and scaled keys. -/
theorem V_k : @Eq (FVec Ideal S4096x512 .bf16) (V m c main_v153)
    (truncf .bf16 (shapeCast S4096x512 (val_main_v123 (F := Ideal) (X0 m c)) shapeCasts_S2x2048x4x128_S4096x512) bitsLt_bf16_f32) := by
  unfold_abbrev_sides
  after_reads_simp
  rw [u64, u69]
  rfl

/-- The projections, a row to a token. -/
theorem V_p : @Eq (FVec Ideal S4096x6656 .bf16) (V m c main_v149)
    (truncf .bf16 (shapeCast S4096x6656 (X0 m c) shapeCasts_S2x2048x6656_S4096x6656) bitsLt_bf16_f32) := by
  unfold_abbrev_sides
  after_reads_simp
  rfl

/-- The retention's output. -/
theorem V_o : @Eq (FVec Ideal S4096x1024 .bf16) (V m c main_v155)
    (truncf .bf16 (shapeCast S4096x1024 (val_main_v147 (F := Ideal) (X0 m c)) shapeCasts_S2x2048x4x256_S4096x1024) bitsLt_bf16_f32) := by
  unfold_abbrev_sides
  after_reads_simp
  rw [u31, u36, u64, u69]
  rfl

/-- The states before each chunk. -/
theorem V_s : @Eq (FVec Ideal S2x4x32x128x256 .bf16) (V m c main_v156)
    (truncf .bf16 (val_main_v131 (F := Ideal) (X0 m c)) bitsLt_bf16_f32) := by
  unfold_abbrev_sides
  after_reads_simp
  rw [u64, u69]
  rfl

/-- The gradient, a row to a token. -/
theorem V_u : @Eq (FVec Ideal S4096x1024 .bf16) (V m c main_v158)
    (truncf .bf16 (shapeCast S4096x1024 (X1 m c) shapeCasts_S2x2048x1024_S4096x1024) bitsLt_bf16_f32) := by
  unfold_abbrev_sides
  after_reads_simp
  rfl

/-- The cosines, twice. -/
theorem V_cos : @Eq (FVec Ideal S2048x128 .f32) (V m c main_v177)
    (concatenate S2048x128 1 [⟨S2048x64, val_main_v54 (F := Ideal)⟩, ⟨S2048x64, val_main_v54 (F := Ideal)⟩] concatenates_S2048x64_S2048x64_S2048x128_d1) := by
  unfold_abbrev_sides
  after_reads_simp
  rw [u175]

/-- The sines, negated in the first half. -/
theorem V_sin : @Eq (FVec Ideal S2048x128 .f32) (V m c main_v179)
    (concatenate S2048x128 1 [⟨S2048x64, Host.negf (val_main_v56 (F := Ideal))⟩, ⟨S2048x64, val_main_v56 (F := Ideal)⟩] concatenates_S2048x64_S2048x64_S2048x128_d1) := by
  unfold_abbrev_sides
  after_reads_simp
  rw [u178, u176]

/-- The decay inside a chunk. -/
theorem V_intra : @Eq (FVec Ideal S4x64x64 .f32) (V m c main_v200)
    (val_main_v92 (F := Ideal)) := by
  unfold_abbrev_sides
  after_reads_simp
  rfl

/-- The decay from the chunk before to a token. -/
theorem V_qd : @Eq (FVec Ideal S4x64x128 .f32) (V m c main_v221)
    (broadcastInDim S4x64x128 ![0, 1, 2] bcast_S4x64x1_S4x64x128_0_1_2 (broadcastInDim S4x64x1 ![0, 1] bcast_S4x64_S4x64x1_0_1
      (Host.exp (mulf (broadcastInDim S4x64 ![0, 1] bcast_S4x1_S4x64_0_1 (broadcastInDim S4x1 ![0] bcast_S4_S4x1_0 (val_main_v79 (F := Ideal))))
        (broadcastInDim S4x64 ![0, 1] bcast_S1x64_S4x64_0_1 (addf (broadcastInDim S1x64 ![1] bcast_S64_S1x64_1 (sitofp FTy.f32 (iotaInDim S64 32 0))) (broadcastInDim S1x64 ![] bcast_S_S1x64 (constant S_ FTy.f32 1065353216#32)))))))) := by
  unfold_abbrev_sides
  after_reads_simp
  rfl

/-- The decay from a token to its chunk's end. -/
theorem V_kd : @Eq (FVec Ideal S4x64x128 .f32) (V m c main_v223)
    (broadcastInDim S4x64x128 ![0, 1, 2] bcast_S4x64x1_S4x64x128_0_1_2 (broadcastInDim S4x64x1 ![0, 1] bcast_S4x64_S4x64x1_0_1
      (Host.exp (mulf (broadcastInDim S4x64 ![0, 1] bcast_S4x1_S4x64_0_1 (broadcastInDim S4x1 ![0] bcast_S4_S4x1_0 (val_main_v79 (F := Ideal))))
        (broadcastInDim S4x64 ![0, 1] bcast_S1x64_S4x64_0_1 (subf (broadcastInDim S1x64 ![] bcast_S_S1x64 (constant S_ FTy.f32 1115422720#32)) (broadcastInDim S1x64 ![1] bcast_S64_S1x64_1 (sitofp FTy.f32 (iotaInDim S64 32 0))))))))) := by
  unfold_abbrev_sides
  after_reads_simp
  rfl

/-- The decay over a chunk. -/
theorem V_cd : @Eq (FVec Ideal S4x1x256 .f32) (V m c main_v225)
    (broadcastInDim S4x1x256 ![0, 1, 2] bcast_S4x1x1_S4x1x256_0_1_2 (broadcastInDim S4x1x1 ![0] bcast_S4_S4x1x1_0
      (Host.exp (mulf (val_main_v79 (F := Ideal)) (broadcastInDim S4 ![] bcast_S_S4 (constant S_ FTy.f32 1115684864#32)))))) := by
  unfold_abbrev_sides
  after_reads_simp
  rfl

end Cert.RetKernelIdeal.Value
-- ==== Proof.Ret.Entry.lean ====
module

public import proofs.«01_k».proof.Proof.Ret.Host
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

variable (m : (ℓ : Loc nD τ sig) → Buf (Elt Ideal) ℓ) (c : Dev nD)

theorem idx0 : ∀ t : Fin cfg0.N, win0_0.index t = ![t.val / 8 * 8 + (7 - t.val % 8), 0] ∧ win0_1.index t = ![t.val / 8 * 8 + (7 - t.val % 8), 0]
    ∧ win0_2.index t = ![t.val / 8 * 8 + (7 - t.val % 8), 1] ∧ win0_3.index t = ![t.val / 8 * 8 + (7 - t.val % 8), 2]
    ∧ win0_4.index t = ![t.val / 8 * 8 + (7 - t.val % 8), 0] ∧ win0_5.index t = ![t.val / 8, 0, 7 - t.val % 8, 0, 0]
    ∧ win0_6.index t = ![t.val / 8 * 8 + (7 - t.val % 8), 0] ∧ win0_7.index t = ![7 - t.val % 8, 0] ∧ win0_8.index t = ![7 - t.val % 8, 0]
    ∧ win0_9.index t = ![0, 0, 0] ∧ win0_10.index t = ![0, 0, 0] ∧ win0_11.index t = ![0, 0, 0] ∧ win0_12.index t = ![0, 0, 0]
    ∧ win0_13.index t = ![t.val / 8 * 8 + (7 - t.val % 8), 0] :=
  (by decide +kernel : ∀ t : Fin grid0.N, _)

/-- The row of the flat arrays that a block's row is. -/
def row (t : ℕ) (ht : t < 16) (i : ℕ) (hi : i < 256) : Fin 4096 := ⟨(t / 8 * 8 + (7 - t % 8)) * 256 + i, by omega⟩

theorem blkq (t : Fin cfg0.N) (i : Fin 256) (k : Fin 512) : iblk m c 0 t (ix2 i k)
    = (show FVec Ideal S4096x512 .bf16 from V m c main_v151) (ix2 (row t.val t.isLt i.val i.isLt) k) := by
  blk_point [iblk, idx0 t, row]
theorem blkk (t : Fin cfg0.N) (i : Fin 256) (k : Fin 512) : iblk m c 1 t (ix2 i k)
    = (show FVec Ideal S4096x512 .bf16 from V m c main_v153) (ix2 (row t.val t.isLt i.val i.isLt) k) := by
  blk_point [iblk, idx0 t, row]
theorem blkv (t : Fin cfg0.N) (i : Fin 256) (k : Fin 1024) : X0_2 m c t (ix2 i k)
    = (show FVec Ideal S4096x6656 .bf16 from V m c main_v149) (ix2 (row t.val t.isLt i.val i.isLt) (⟨1024 + k.val, by omega⟩ : Fin 6656)) := by
  unfold X0_2 Pipeline.Window.fill; rw [dif_pos (moved0_2 t _)]
  blk_point [iblk, idx0 t, row]
theorem blkg (t : Fin cfg0.N) (i : Fin 256) (k : Fin 1024) : X0_3 m c t (ix2 i k)
    = (show FVec Ideal S4096x6656 .bf16 from V m c main_v149) (ix2 (row t.val t.isLt i.val i.isLt) (⟨2048 + k.val, by omega⟩ : Fin 6656)) := by
  unfold X0_3 Pipeline.Window.fill; rw [dif_pos (moved0_3 t _)]
  blk_point [iblk, idx0 t, row]
theorem blko (t : Fin cfg0.N) (i : Fin 256) (k : Fin 1024) : iblk m c 4 t (ix2 i k)
    = (show FVec Ideal S4096x1024 .bf16 from V m c main_v155) (ix2 (row t.val t.isLt i.val i.isLt) k) := by
  blk_point [iblk, idx0 t, row]
theorem blks (t : Fin cfg0.N) (h a : Fin 4) (d : Fin 128) (e : Fin 256) : iblk m c 5 t (ix5 (0 : Fin 1) h a d e)
    = (show FVec Ideal S2x4x32x128x256 .bf16 from V m c main_v156)
      (ix5 (⟨t.val / 8, by have : t.val < 16 := t.isLt; omega⟩ : Fin 2) h (⟨(7 - t.val % 8) * 4 + a.val, by omega⟩ : Fin 32) d e) := by
  blk_point [iblk, idx0 t, row]
theorem blku (t : Fin cfg0.N) (i : Fin 256) (k : Fin 1024) : iblk m c 6 t (ix2 i k)
    = (show FVec Ideal S4096x1024 .bf16 from V m c main_v158) (ix2 (row t.val t.isLt i.val i.isLt) k) := by
  blk_point [iblk, idx0 t, row]
theorem blkcos (t : Fin cfg0.N) (i : Fin 256) (k : Fin 128) : iblk m c 7 t (ix2 i k)
    = (show FVec Ideal S2048x128 .f32 from V m c main_v177) (ix2 (⟨(7 - t.val % 8) * 256 + i.val, by omega⟩ : Fin 2048) k) := by
  blk_point [iblk, idx0 t, row]
theorem blksin (t : Fin cfg0.N) (i : Fin 256) (k : Fin 128) : iblk m c 8 t (ix2 i k)
    = (show FVec Ideal S2048x128 .f32 from V m c main_v179) (ix2 (⟨(7 - t.val % 8) * 256 + i.val, by omega⟩ : Fin 2048) k) := by
  blk_point [iblk, idx0 t, row]
theorem blkintra (t : Fin cfg0.N) : iblk m c 9 t = (show FVec Ideal S4x64x64 .f32 from V m c main_v200) := by
  funext y; obtain ⟨h, n, p, rfl⟩ : ∃ (h : Fin 4) (n p : Fin 64), y = (ix3 h n p : S4x64x64.Idx) := ⟨y 0, y 1, y 2, eq_ix3 y⟩
  blk_point [iblk, idx0 t, row]
theorem blkqd (t : Fin cfg0.N) : iblk m c 10 t = (show FVec Ideal S4x64x128 .f32 from V m c main_v221) := by
  funext y; obtain ⟨h, n, p, rfl⟩ : ∃ (h : Fin 4) (n : Fin 64) (p : Fin 128), y = (ix3 h n p : S4x64x128.Idx) := ⟨y 0, y 1, y 2, eq_ix3 y⟩
  blk_point [iblk, idx0 t, row]
theorem blkkd (t : Fin cfg0.N) : iblk m c 11 t = (show FVec Ideal S4x64x128 .f32 from V m c main_v223) := by
  funext y; obtain ⟨h, n, p, rfl⟩ : ∃ (h : Fin 4) (n : Fin 64) (p : Fin 128), y = (ix3 h n p : S4x64x128.Idx) := ⟨y 0, y 1, y 2, eq_ix3 y⟩
  blk_point [iblk, idx0 t, row]
theorem blkcd (t : Fin cfg0.N) : iblk m c 12 t = (show FVec Ideal S4x1x256 .f32 from V m c main_v225) := by
  funext y; obtain ⟨h, n, p, rfl⟩ : ∃ (h : Fin 4) (n : Fin 1) (p : Fin 256), y = (ix3 h n p : S4x1x256.Idx) := ⟨y 0, y 1, y 2, eq_ix3 y⟩
  blk_point [iblk, idx0 t, row]

end Cert.RetKernelIdeal.Value
-- ==== Proof.Ret.Tile.lean ====
module

public import proofs.«01_k».proof.Proof.Gen.RetKernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen

/-! ## The tiles of one chunk and one head

The kernel walks over 64-token chunks and over the heads. For one chunk and one head it reads a tile of every argument and stores
a tile of each gradient. The tiles are written here once, as functions of the tiles read. -/

abbrev T64x256 := FVec Ideal S64x256 .bf16
abbrev T64x128 := FVec Ideal S64x128 .bf16

/-- The tile of a 1024-wide block that starts at row `a` and column `b`. -/
def s256 (B : FVec Ideal S256x1024 .bf16) (a b : ℕ) : T64x256 :=
  fun i => B (ix2 (⟨(a + (i 0 : ℕ)) % 256, Nat.mod_lt _ (by norm_num)⟩ : Fin 256) (⟨(b + (i 1 : ℕ)) % 1024, Nat.mod_lt _ (by norm_num)⟩ : Fin 1024))

/-- The tile of a 512-wide block that starts at row `a` and column `b`. -/
def s128 (B : FVec Ideal S256x512 .bf16) (a b : ℕ) : T64x128 :=
  fun i => B (ix2 (⟨(a + (i 0 : ℕ)) % 256, Nat.mod_lt _ (by norm_num)⟩ : Fin 256) (⟨(b + (i 1 : ℕ)) % 512, Nat.mod_lt _ (by norm_num)⟩ : Fin 512))

/-- A head's decay inside a chunk. -/
def hIntra (B : FVec Ideal S4x64x64 .f32) (h : ℕ) : FVec Ideal S1x64x64 .f32 :=
  fun i => B (ix3 (⟨h % 4, Nat.mod_lt _ (by norm_num)⟩ : Fin 4) (i 1) (i 2))

/-- A head's decay of queries or keys. -/
def hDec (B : FVec Ideal S4x64x128 .f32) (h : ℕ) : FVec Ideal S1x64x128 .f32 :=
  fun i => B (ix3 (⟨h % 4, Nat.mod_lt _ (by norm_num)⟩ : Fin 4) (i 1) (i 2))

/-- A head's decay over a whole chunk. -/
def hCd (B : FVec Ideal S4x1x256 .f32) (h : ℕ) : FVec Ideal S1x1x256 .f32 :=
  fun i => B (ix3 (⟨h % 4, Nat.mod_lt _ (by norm_num)⟩ : Fin 4) (i 1) (i 2))

/-- A head's saved state before a chunk. -/
def hState (B : FVec Ideal S1x4x4x128x256 .bf16) (h c : ℕ) : FVec Ideal S1x1x1x128x256 .bf16 :=
  fun i => B (ix5 (i 0) (⟨h % 4, Nat.mod_lt _ (by norm_num)⟩ : Fin 4) (⟨c % 4, Nat.mod_lt _ (by norm_num)⟩ : Fin 4) (i 3) (i 4))

/-- A head's carried gradient of the state. -/
def hCarry (B : FVec Ideal S4x128x256 .f32) (h : ℕ) : FVec Ideal S1x128x256 .f32 :=
  fun i => B (ix3 (⟨h % 4, Nat.mod_lt _ (by norm_num)⟩ : Fin 4) (i 1) (i 2))

/-- The rows of a rotary table from row `a`. -/
def sRope (B : FVec Ideal S256x128 .f32) (a : ℕ) : FVec Ideal S64x128 .f32 :=
  fun i => B (ix2 (⟨(a + (i 0 : ℕ)) % 256, Nat.mod_lt _ (by norm_num)⟩ : Fin 256) (i 1))

/-- The retention's output less its mean over the head. -/
def tcen (o : T64x256) : FVec Ideal S64x256 .f32 :=
  let x := extf .f32 (shapeCast S64x256 o shapeCasts_S64x256_S64x256) bitsLt_bf16_f32
  subf x (broadcastTo S64x256 (divf (shapeCast S64x1 (multiReduction .add [1] S64 x 0x00000000#32 reduces_S64x256_S64 (.inl rfl) rfl) shapeCasts_S64_S64x1)
    (broadcast S64x1 (Scalar.ofBits .f32 0x43800000#32))) broadcasts_S64x1_S64x256)

/-- The reciprocal of its standard deviation. -/
def trs (o : T64x256) : FVec Ideal S64x1 .f32 :=
  rsqrt (addf (divf (shapeCast S64x1 (multiReduction .add [1] S64 (mulf (tcen o) (tcen o)) 0x00000000#32 reduces_S64x256_S64 (.inl rfl) rfl) shapeCasts_S64_S64x1)
    (broadcast S64x1 (Scalar.ofBits .f32 0x43800000#32))) (broadcast S64x1 (Scalar.ofBits .f32 0x358637BD#32)))

/-- The normalised output. -/
def toh (o : T64x256) : FVec Ideal S64x256 .f32 := mulf (tcen o) (broadcastTo S64x256 (trs o) broadcasts_S64x1_S64x256)

/-- A tile in single precision. -/
def tf (g : T64x256) : FVec Ideal S64x256 .f32 := extf .f32 (shapeCast S64x256 g shapeCasts_S64x256_S64x256) bitsLt_bf16_f32

/-- The logistic function of the gate. -/
def tsg (g : T64x256) : FVec Ideal S64x256 .f32 :=
  divf (broadcast S64x256 (Scalar.ofBits .f32 0x3F800000#32)) (addf (broadcast S64x256 (Scalar.ofBits .f32 0x3F800000#32))
    (exp (subf (broadcast S64x256 (Scalar.ofBits .f32 0x00000000#32)) (tf g))))

/-- The gradient of the gate. -/
def tdg (o g du : T64x256) : T64x256 :=
  truncf .bf16 (mulf (mulf (tf du) (toh o)) (mulf (tsg g) (addf (broadcast S64x256 (Scalar.ofBits .f32 0x3F800000#32))
    (mulf (tf g) (subf (broadcast S64x256 (Scalar.ofBits .f32 0x3F800000#32)) (tsg g)))))) bitsLt_bf16_f32

/-- The gradient of the normalised output. -/
def tdoh (g du : T64x256) : FVec Ideal S64x256 .f32 := mulf (tf du) (mulf (tf g) (tsg g))

/-- A row's mean, repeated along the row. -/
def tmean (x : FVec Ideal S64x256 .f32) : FVec Ideal S64x256 .f32 :=
  broadcastTo S64x256 (divf (shapeCast S64x1 (multiReduction .add [1] S64 x 0x00000000#32 reduces_S64x256_S64 (.inl rfl) rfl) shapeCasts_S64_S64x1)
    (broadcast S64x1 (Scalar.ofBits .f32 0x43800000#32))) broadcasts_S64x1_S64x256

/-- The gradient of the retention's output. -/
def tdo (o g du : T64x256) : T64x256 :=
  truncf .bf16 (mulf (broadcastTo S64x256 (trs o) broadcasts_S64x1_S64x256)
    (subf (subf (tdoh g du) (tmean (tdoh g du))) (mulf (toh o) (tmean (mulf (tdoh g du) (toh o)))))) bitsLt_bf16_f32

/-- Keys or queries times their decay. -/
def tdec (k : T64x128) (d : FVec Ideal S1x64x128 .f32) : T64x128 :=
  truncf .bf16 (mulf (extf .f32 (shapeCast S64x128 k shapeCasts_S64x128_S64x128) bitsLt_bf16_f32)
    (shapeCast S64x128 d shapeCasts_S1x64x128_S64x128)) bitsLt_bf16_f32

/-- The gradient of the values. -/
def tdv (q k : T64x128) (dO : T64x256) (intra : FVec Ideal S1x64x64 .f32) (kd : FVec Ideal S1x64x128 .f32) (dS : FVec Ideal S128x256 .f32) : T64x256 :=
  truncf .bf16 (addf
    (matmul dot_S64x64_S64x256_S64x256_0_0_1_1_n_n none
      (truncf .bf16 (mulf (matmul dot_S64x128_S64x128_S64x64_1_1_0_0_n_n none (shapeCast S64x128 q shapeCasts_S64x128_S64x128)
        (shapeCast S64x128 k shapeCasts_S64x128_S64x128) (constant S64x64 .f32 0x00000000#32))
        (shapeCast S64x64 intra shapeCasts_S1x64x64_S64x64)) bitsLt_bf16_f32) dO (constant S64x256 .f32 0x00000000#32))
    (matmul dot_S64x128_S128x256_S64x256_1_0_0_1_n_n none (tdec k kd) (truncf .bf16 dS bitsLt_bf16_f32) (constant S64x256 .f32 0x00000000#32))) bitsLt_bf16_f32

/-- The gradient of the scores inside a chunk. -/
def tda (v : T64x256) (dO : T64x256) (intra : FVec Ideal S1x64x64 .f32) : FVec Ideal S64x64 .bf16 :=
  truncf .bf16 (mulf (matmul dot_S64x256_S64x256_S64x64_1_1_0_0_n_n none dO (shapeCast S64x256 v shapeCasts_S64x256_S64x256) (constant S64x64 .f32 0x00000000#32))
    (shapeCast S64x64 intra shapeCasts_S1x64x64_S64x64)) bitsLt_bf16_f32

/-- A rotary turn of a tile. -/
def trot (x C N : FVec Ideal S64x128 .f32) : T64x128 :=
  truncf .bf16 (addf (mulf x C) (mulf (dynamicRotate 1 64#32 none x rotates_S64x128_d1) N)) bitsLt_bf16_f32

/-- The gradient of the turned queries. -/
def tdq (k : T64x128) (v dO : T64x256) (s : FVec Ideal S1x1x1x128x256 .bf16) (intra : FVec Ideal S1x64x64 .f32) (qd : FVec Ideal S1x64x128 .f32) : FVec Ideal S64x128 .f32 :=
  addf (matmul dot_S64x64_S64x128_S64x128_1_0_0_1_n_n none (tda v dO intra) (shapeCast S64x128 k shapeCasts_S64x128_S64x128) (constant S64x128 .f32 0x00000000#32))
    (mulf (matmul dot_S64x256_S128x256_S64x128_1_1_0_0_n_n none dO (shapeCast S128x256 s shapeCasts_S1x1x1x128x256_S128x256) (constant S64x128 .f32 0x00000000#32))
      (shapeCast S64x128 qd shapeCasts_S1x64x128_S64x128))

/-- The gradient of the turned keys. -/
def tdk (q : T64x128) (v dO : T64x256) (intra : FVec Ideal S1x64x64 .f32) (kd : FVec Ideal S1x64x128 .f32) (dS : FVec Ideal S128x256 .f32) : FVec Ideal S64x128 .f32 :=
  mulf (addf (matmul dot_S64x64_S64x128_S64x128_0_0_1_1_n_n none (tda v dO intra) (shapeCast S64x128 q shapeCasts_S64x128_S64x128) (constant S64x128 .f32 0x00000000#32))
    (mulf (matmul dot_S64x256_S128x256_S64x128_1_1_0_0_n_n none (shapeCast S64x256 v shapeCasts_S64x256_S64x256) (truncf .bf16 dS bitsLt_bf16_f32) (constant S64x128 .f32 0x00000000#32))
      (shapeCast S64x128 kd shapeCasts_S1x64x128_S64x128))) (broadcast S64x128 (Scalar.ofBits .f32 0x3DB504F3#32))

/-- The gradient of the state, taken one chunk further. -/
def tstep (dS : FVec Ideal S128x256 .f32) (q : T64x128) (dO : T64x256) (qd : FVec Ideal S1x64x128 .f32) (cd : FVec Ideal S1x1x256 .f32) : FVec Ideal S128x256 .f32 :=
  addf (mulf dS (broadcastTo S128x256 (shapeCast S1x256 cd shapeCasts_S1x1x256_S1x256) broadcasts_S1x256_S128x256))
    (matmul dot_S64x128_S64x256_S128x256_0_0_1_1_n_n none (tdec q qd) dO (constant S128x256 .f32 0x00000000#32))

/-! ### The tiles of a block -/

variable (x0 x1 : FVec Ideal S256x512 .bf16) (x2 x3 x4 : FVec Ideal S256x1024 .bf16) (x5 : FVec Ideal S1x4x4x128x256 .bf16) (x6 : FVec Ideal S256x1024 .bf16)
  (x7 x8 : FVec Ideal S256x128 .f32) (x9 : FVec Ideal S4x64x64 .f32) (x10 x11 : FVec Ideal S4x64x128 .f32) (x12 : FVec Ideal S4x1x256 .f32)
  (xs : FVec Ideal S4x128x256 .f32)

/-- The gradient of the output in the tile at row `a` of head `h`. -/
def bdo (a h : ℕ) : T64x256 := tdo (s256 x4 a (256 * h)) (s256 x3 a (256 * h)) (s256 x6 a (256 * h))

/-- The carried gradient of the state after `n` chunks of the block, which are walked from the last to the first. -/
def bchain (h : ℕ) : ℕ → FVec Ideal S128x256 .f32
  | 0 => shapeCast S128x256 (hCarry xs h) shapeCasts_S1x128x256_S128x256
  | n + 1 => tstep (bchain h n) (s128 x0 (192 - 64 * n) (128 * h)) (bdo x3 x4 x6 (192 - 64 * n) h) (hDec x10 h) (hCd x12 h)

def bdg (a h : ℕ) : T64x256 := tdg (s256 x4 a (256 * h)) (s256 x3 a (256 * h)) (s256 x6 a (256 * h))
def bdv (a h : ℕ) : T64x256 := tdv (s128 x0 a (128 * h)) (s128 x1 a (128 * h)) (bdo x3 x4 x6 a h) (hIntra x9 h) (hDec x11 h)
  (bchain x0 x3 x4 x6 x10 x12 xs h (3 - a / 64))
/-- The table of sines with the sign of the turn back. -/
def bneg : FVec Ideal S256x128 .f32 := subf (broadcast S256x128 (Scalar.ofBits .f32 0x00000000#32)) (shapeCast S256x128 x8 shapeCasts_S256x128_S256x128)
def bdq (a h : ℕ) : T64x128 := trot (tdq (s128 x1 a (128 * h)) (s256 x2 a (256 * h)) (bdo x3 x4 x6 a h) (hState x5 h (a / 64)) (hIntra x9 h) (hDec x10 h))
  (sRope (shapeCast S256x128 x7 shapeCasts_S256x128_S256x128) a) (sRope (bneg x8) a)
def bdk (a h : ℕ) : T64x128 := trot (tdk (s128 x0 a (128 * h)) (s256 x2 a (256 * h)) (bdo x3 x4 x6 a h) (hIntra x9 h) (hDec x11 h)
  (bchain x0 x3 x4 x6 x10 x12 xs h (3 - a / 64)))
  (sRope (shapeCast S256x128 x7 shapeCasts_S256x128_S256x128) a) (sRope (bneg x8) a)

/-- The block that a point stores: the gradients of queries, keys, values and gate beside each other, every tile at its place. -/
def bout : FVec Ideal S256x3072 .bf16 := fun y =>
  let a := (y 0 : ℕ) / 64 * 64
  let p : Fin 64 := ⟨(y 0 : ℕ) % 64, Nat.mod_lt _ (by norm_num)⟩
  if (y 1 : ℕ) < 512 then bdq x1 x2 x3 x4 x5 x6 x7 x8 x9 x10 a ((y 1 : ℕ) / 128) (ix2 p (⟨(y 1 : ℕ) % 128, Nat.mod_lt _ (by norm_num)⟩ : Fin 128))
  else if (y 1 : ℕ) < 1024 then bdk x0 x2 x3 x4 x6 x7 x8 x9 x10 x11 x12 xs a (((y 1 : ℕ) - 512) / 128) (ix2 p (⟨(y 1 : ℕ) % 128, Nat.mod_lt _ (by norm_num)⟩ : Fin 128))
  else if (y 1 : ℕ) < 2048 then bdv x0 x1 x3 x4 x6 x9 x10 x11 x12 xs a (((y 1 : ℕ) - 1024) / 256) (ix2 p (⟨(y 1 : ℕ) % 256, Nat.mod_lt _ (by norm_num)⟩ : Fin 256))
  else bdg x3 x4 x6 a (((y 1 : ℕ) - 2048) / 256) (ix2 p (⟨(y 1 : ℕ) % 256, Nat.mod_lt _ (by norm_num)⟩ : Fin 256))

end Cert.RetKernelIdeal.Value
-- ==== Proof.Ret.TileAt.lean ====
module

public import proofs.«01_k».proof.Proof.Ret.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen

/-! ## What the tiles hold

Every entry of a tile, written with sums over the entries of the tiles it is made from. -/

/-- The mean of 256 numbers, as the programs take it. -/
def rmean (x : Fin 256 → EReal) : EReal := Ideal.div (∑ j, x j) (Ideal.ofBits .f32 0x43800000#32)
/-- A row less its mean. -/
def rcen (o : Fin 256 → EReal) (e : Fin 256) : EReal := o e - rmean o
/-- The reciprocal of a row's standard deviation. -/
def rrs (o : Fin 256 → EReal) : EReal := Ideal.rsqrt (rmean (fun j => rcen o j * rcen o j) + Ideal.ofBits .f32 0x358637BD#32)
/-- A row normalised. -/
def roh (o : Fin 256 → EReal) (e : Fin 256) : EReal := rcen o e * rrs o
/-- The logistic function. -/
def rsig (x : EReal) : EReal := Ideal.div 1 (1 + Ideal.exp (0 - x))
/-- The gradient of the gate. -/
def rdg (o g du : Fin 256 → EReal) (e : Fin 256) : EReal := du e * roh o e * (rsig (g e) * (1 + g e * (1 - rsig (g e))))
/-- The gradient of the normalised row. -/
def rdoh (g du : Fin 256 → EReal) (e : Fin 256) : EReal := du e * (g e * rsig (g e))
/-- The gradient of the row. -/
def rdo (o g du : Fin 256 → EReal) (e : Fin 256) : EReal :=
  rrs o * (rdoh g du e - rmean (rdoh g du) - roh o e * rmean (fun j => rdoh g du j * roh o j))

theorem tcen_at (o : T64x256) (p : Fin 64) (e : Fin 256) : tcen o (ix2 p e) = rcen (fun j => o (ix2 p j)) e := by
  unfold tcen; pointwise; rfl

theorem trs_at (o : T64x256) (p : Fin 64) (e : Fin 1) : trs o (ix2 p e) = rrs (fun j => o (ix2 p j)) := by
  unfold trs; pointwise; simp only [tcen_at]; rfl

theorem toh_at (o : T64x256) (p : Fin 64) (e : Fin 256) : toh o (ix2 p e) = roh (fun j => o (ix2 p j)) e := by
  unfold toh; pointwise; rw [tcen_at, trs_at]; rfl

theorem tf_at (g : T64x256) (p : Fin 64) (e : Fin 256) : tf g (ix2 p e) = g (ix2 p e) := by
  unfold tf; pointwise

theorem tsg_at (g : T64x256) (p : Fin 64) (e : Fin 256) : tsg g (ix2 p e) = rsig (g (ix2 p e)) := by
  unfold tsg; pointwise; rw [tf_at]; rfl

theorem tdg_at (o g du : T64x256) (p : Fin 64) (e : Fin 256) :
    tdg o g du (ix2 p e) = rdg (fun j => o (ix2 p j)) (fun j => g (ix2 p j)) (fun j => du (ix2 p j)) e := by
  unfold tdg; pointwise; simp only [tf_at, tsg_at, toh_at]; rfl

theorem tdoh_at (g du : T64x256) (p : Fin 64) (e : Fin 256) :
    tdoh g du (ix2 p e) = rdoh (fun j => g (ix2 p j)) (fun j => du (ix2 p j)) e := by
  unfold tdoh; pointwise; simp only [tf_at, tsg_at]; rfl

theorem tmean_at (x : FVec Ideal S64x256 .f32) (p : Fin 64) (e : Fin 256) : tmean x (ix2 p e) = rmean (fun j => x (ix2 p j)) := by
  unfold tmean; pointwise; rfl

theorem tdo_at (o g du : T64x256) (p : Fin 64) (e : Fin 256) :
    tdo o g du (ix2 p e) = rdo (fun j => o (ix2 p j)) (fun j => g (ix2 p j)) (fun j => du (ix2 p j)) e := by
  unfold tdo; pointwise; simp only [trs_at, tdoh_at, toh_at, tmean_at]; pointwise; simp only [tdoh_at, toh_at]; rfl

theorem tdec_at (k : T64x128) (d : FVec Ideal S1x64x128 .f32) (p : Fin 64) (c : Fin 128) :
    tdec k d (ix2 p c) = k (ix2 p c) * d (ix3 (0 : Fin 1) p c) := by
  unfold tdec; pointwise

theorem tda_at (v dO : T64x256) (intra : FVec Ideal S1x64x64 .f32) (n m : Fin 64) :
    tda v dO intra (ix2 n m) = (∑ e : Fin 256, dO (ix2 n e) * v (ix2 m e)) * intra (ix3 (0 : Fin 1) n m) := by
  unfold tda; pointwise

theorem tdv_at (q k : T64x128) (dO : T64x256) (intra : FVec Ideal S1x64x64 .f32) (kd : FVec Ideal S1x64x128 .f32) (dS : FVec Ideal S128x256 .f32)
    (p : Fin 64) (e : Fin 256) :
    tdv q k dO intra kd dS (ix2 p e)
      = (∑ n : Fin 64, (∑ d : Fin 128, q (ix2 n d) * k (ix2 p d)) * intra (ix3 (0 : Fin 1) n p) * dO (ix2 n e))
        + ∑ d : Fin 128, k (ix2 p d) * kd (ix3 (0 : Fin 1) p d) * dS (ix2 d e) := by
  unfold tdv; pointwise; simp only [tdec_at]

theorem tdq_at (k : T64x128) (v dO : T64x256) (s : FVec Ideal S1x1x1x128x256 .bf16) (intra : FVec Ideal S1x64x64 .f32) (qd : FVec Ideal S1x64x128 .f32)
    (p : Fin 64) (d : Fin 128) :
    tdq k v dO s intra qd (ix2 p d)
      = (∑ m : Fin 64, (∑ e : Fin 256, dO (ix2 p e) * v (ix2 m e)) * intra (ix3 (0 : Fin 1) p m) * k (ix2 m d))
        + (∑ e : Fin 256, dO (ix2 p e) * s (ix5 (0 : Fin 1) (0 : Fin 1) (0 : Fin 1) d e)) * qd (ix3 (0 : Fin 1) p d) := by
  unfold tdq; pointwise; simp only [tda_at]

theorem tdk_at (q : T64x128) (v dO : T64x256) (intra : FVec Ideal S1x64x64 .f32) (kd : FVec Ideal S1x64x128 .f32) (dS : FVec Ideal S128x256 .f32)
    (p : Fin 64) (d : Fin 128) :
    tdk q v dO intra kd dS (ix2 p d)
      = ((∑ n : Fin 64, (∑ e : Fin 256, dO (ix2 n e) * v (ix2 p e)) * intra (ix3 (0 : Fin 1) n p) * q (ix2 n d))
        + (∑ e : Fin 256, v (ix2 p e) * dS (ix2 d e)) * kd (ix3 (0 : Fin 1) p d)) * Ideal.ofBits .f32 0x3DB504F3#32 := by
  unfold tdk; pointwise; simp only [tda_at]

theorem tstep_at (dS : FVec Ideal S128x256 .f32) (q : T64x128) (dO : T64x256) (qd : FVec Ideal S1x64x128 .f32) (cd : FVec Ideal S1x1x256 .f32)
    (d : Fin 128) (e : Fin 256) :
    tstep dS q dO qd cd (ix2 d e)
      = dS (ix2 d e) * cd (ix3 (0 : Fin 1) (0 : Fin 1) e) + ∑ n : Fin 64, q (ix2 n d) * qd (ix3 (0 : Fin 1) n d) * dO (ix2 n e) := by
  unfold tstep; pointwise; simp only [tdec_at]

theorem trot_at (x C N : FVec Ideal S64x128 .f32) (p : Fin 64) (d : Fin 128) :
    trot x C N (ix2 p d) = x (ix2 p d) * C (ix2 p d)
      + x (ix2 p (⟨((d : ℕ) + 64) % 128, Nat.mod_lt _ (by norm_num)⟩ : Fin 128)) * N (ix2 p d) := by
  unfold trot; pointwise; rfl

end Cert.RetKernelIdeal.Value
-- ==== Proof.Ret.Spec.lean ====
module

public import proofs.«01_k».proof.Proof.Ret.TileAt
public import proofs.«01_k».proof.Proof.Gen.RetReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

/-! ## The gradients, entry by entry

The four gradients that the call computes, as functions of the projections and of the gradient of the gated output. A token
is a chunk and a place inside the chunk; `dS` is the gradient of the state, carried from the last chunk to the first. -/

/-- The token at a place of a chunk. -/
def tok (C : Fin 32) (p : Fin 64) : Fin 2048 := ⟨C.val * 64 + p.val, by omega⟩
/-- A token's chunk. -/
def chunk (s : Fin 2048) : Fin 32 := ⟨s.val / 64, by omega⟩
/-- A token's place in its chunk. -/
def place (s : Fin 2048) : Fin 64 := ⟨s.val % 64, by omega⟩

theorem tok_chunk (s : Fin 2048) : tok (chunk s) (place s) = s := Fin.ext (by unfold tok chunk place; simp only; omega)
theorem chunk_tok (C : Fin 32) (p : Fin 64) : chunk (tok C p) = C := Fin.ext (by unfold tok chunk; simp only; omega)
theorem place_tok (C : Fin 32) (p : Fin 64) : place (tok C p) = p := Fin.ext (by unfold tok place; simp only; omega)

/-- The logarithm of a head's decay. -/
def lg (h : Fin 4) : EReal := val_main_v79 (F := Ideal) (ix1 h)
/-- A head's decay over `r` tokens. -/
def dec (h : Fin 4) (r : ℝ) : EReal := Ideal.exp (lg h * (r : EReal))
/-- The decay inside a chunk. -/
def intra (h : Fin 4) (n p : Fin 64) : EReal := val_main_v92 (F := Ideal) (ix3 h n p)
/-- The cosine and the sine of a token's turn of a pair. -/
def cosT (s : Fin 2048) (d : Fin 64) : EReal := val_main_v54 (F := Ideal) (ix2 s d)
def sinT (s : Fin 2048) (d : Fin 64) : EReal := val_main_v56 (F := Ideal) (ix2 s d)

/-- The table of sines as the call takes it: negated in the first half. -/
def sinC (s : Fin 2048) (d : Fin 128) : EReal := if h : (d : ℕ) < 64 then -sinT s ⟨d, h⟩ else sinT s ⟨(d : ℕ) - 64, by omega⟩

/-- The turn back. -/
def turn (x : Fin 128 → EReal) (s : Fin 2048) (d : Fin 128) : EReal :=
  x d * cosT s ⟨(d : ℕ) % 64, by omega⟩ + x ⟨((d : ℕ) + 64) % 128, by omega⟩ * (0 - sinC s d)

variable (x0 : FVec Ideal S2x2048x6656 .f32) (x1 : FVec Ideal S2x2048x1024 .f32) (b : Fin 2) (h : Fin 4)

def aq (s : Fin 2048) (d : Fin 128) : EReal := val_main_v37 (F := Ideal) x0 (ix4 b s h d)
def ak (s : Fin 2048) (d : Fin 128) : EReal := val_main_v123 (F := Ideal) x0 (ix4 b s h d)
def av (s : Fin 2048) (e : Fin 256) : EReal := val_main_v71 (F := Ideal) x0 (ix4 b s h e)
def ao (s : Fin 2048) (e : Fin 256) : EReal := val_main_v147 (F := Ideal) x0 (ix4 b s h e)
def ast (C : Fin 32) (d : Fin 128) (e : Fin 256) : EReal := val_main_v131 (F := Ideal) x0 (ix5 b h C d e)
def ag (s : Fin 2048) (e : Fin 256) : EReal := x0 (ix3 b s (⟨2048 + (256 * h.val + e.val), by omega⟩ : Fin 6656))
def au (s : Fin 2048) (e : Fin 256) : EReal := x1 (ix3 b s (⟨256 * h.val + e.val, by omega⟩ : Fin 1024))

/-- The gradient of the retention's output. -/
def gdo (s : Fin 2048) (e : Fin 256) : EReal := rdo (ao x0 b h s) (ag x0 b h s) (au x1 b h s) e

/-- What a chunk adds to the gradient of the state before it. -/
def gadd (C : Fin 32) (d : Fin 128) (e : Fin 256) : EReal :=
  ∑ n : Fin 64, aq x0 b h (tok C n) d * dec h (n.val + 1) * gdo x0 x1 b h (tok C n) e

/-- The gradient of the state after the last `n` chunks. -/
def gdS : ℕ → Fin 128 → Fin 256 → EReal
  | 0 => fun _ _ => 0
  | n + 1 => fun d e => gdS n d e * dec h 64 + gadd x0 x1 b h ⟨31 - n, by omega⟩ d e

/-- The gradient of the values. -/
def gv (s : Fin 2048) (e : Fin 256) : EReal :=
  (∑ n : Fin 64, (∑ d : Fin 128, aq x0 b h (tok (chunk s) n) d * ak x0 b h s d) * intra h n (place s) * gdo x0 x1 b h (tok (chunk s) n) e)
    + ∑ d : Fin 128, ak x0 b h s d * dec h (63 - (place s).val) * gdS x0 x1 b h (31 - (chunk s).val) d e

/-- The gradient of the turned queries. -/
def gtq (s : Fin 2048) (d : Fin 128) : EReal :=
  (∑ k : Fin 64, (∑ e : Fin 256, gdo x0 x1 b h s e * av x0 b h (tok (chunk s) k) e) * intra h (place s) k * ak x0 b h (tok (chunk s) k) d)
    + (∑ e : Fin 256, gdo x0 x1 b h s e * ast x0 b h (chunk s) d e) * dec h ((place s).val + 1)

/-- The gradient of the turned keys. -/
def gtk (s : Fin 2048) (d : Fin 128) : EReal :=
  ((∑ n : Fin 64, (∑ e : Fin 256, gdo x0 x1 b h (tok (chunk s) n) e * av x0 b h s e) * intra h n (place s) * aq x0 b h (tok (chunk s) n) d)
    + (∑ e : Fin 256, av x0 b h s e * gdS x0 x1 b h (31 - (chunk s).val) d e) * dec h (63 - (place s).val)) * Ideal.ofBits .f32 0x3DB504F3#32

/-- The gradient of the gate. -/
def gg (s : Fin 2048) (e : Fin 256) : EReal := rdg (ao x0 b h s) (ag x0 b h s) (au x1 b h s) e

/-- The result at a token and a column: queries, keys, values and gate beside each other. -/
def gout (b : Fin 2) (s : Fin 2048) (k : ℕ) : EReal :=
  if k < 512 then turn (gtq x0 x1 b ⟨k / 128 % 4, by omega⟩ s) s ⟨k % 128, by omega⟩
  else if k < 1024 then turn (gtk x0 x1 b ⟨(k - 512) / 128 % 4, by omega⟩ s) s ⟨k % 128, by omega⟩
  else if k < 2048 then gv x0 x1 b ⟨(k - 1024) / 256 % 4, by omega⟩ s ⟨k % 256, by omega⟩
  else gg x0 x1 b ⟨(k - 2048) / 256 % 4, by omega⟩ s ⟨k % 256, by omega⟩

end Cert.RetKernelIdeal.Value
-- ==== Proof.Ret.Tiles.lean ====
module

public import proofs.«01_k».proof.Proof.Ret.Entry
public import proofs.«01_k».proof.Proof.Ret.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

variable (m : (ℓ : Loc nD τ sig) → Buf (Elt Ideal) ℓ) (c : Dev nD)

theorem sitofp_nat (n : ℕ) (hn : n < 2 ^ 31) : FloatOps.sitofp (F := Ideal) FTy.f32 (BitVec.ofNat 32 n) = ((n : ℝ) : EReal) := by
  show (((BitVec.ofNat 32 n).toInt : ℝ) : EReal) = _
  have e : (BitVec.ofNat 32 n).toNat = n := by rw [BitVec.toNat_ofNat]; exact Nat.mod_eq_of_lt (by omega)
  rw [BitVec.toInt_eq_toNat_of_lt (by rw [e]; omega), e]
  norm_num

theorem ofBits_63 : Ideal.ofBits .f32 1115422720#32 = ((63 : ℝ) : EReal) := by
  simp [Ideal.ofBits, Ideal.ieee, -EReal.coe_mul]; norm_num
theorem ofBits_64 : Ideal.ofBits .f32 1115684864#32 = ((64 : ℝ) : EReal) := by
  simp [Ideal.ofBits, Ideal.ieee, -EReal.coe_mul]; norm_num

/-! ## A grid point's tiles

The tiles that a grid point reads, as the entries of the reference's stages at the tokens of its chunk. -/

/-- The sequence that a point works on. -/
def sq (t : ℕ) (ht : t < 16) : Fin 2 := ⟨t / 8, by omega⟩
/-- The chunk in row `a` of its block. -/
def ck (t : ℕ) (a : Fin 4) : Fin 32 := ⟨(7 - t % 8) * 4 + a.val, by omega⟩

theorem tile_q (t : Fin cfg0.N) (a h : Fin 4) (p : Fin 64) (d : Fin 128) :
    s128 (iblk m c 0 t) (64 * a.val) (128 * h.val) (ix2 p d) = aq (X0 m c) (sq t.val t.isLt) h (tok (ck t.val a) p) d := by
  have ht : t.val < 16 := t.isLt
  refine (blkq m c t _ _).trans ((congrFun (V_q m c) _).trans ?_)
  unfold aq sq tok ck row
  pointwise
  blk_ext

theorem tile_k (t : Fin cfg0.N) (a h : Fin 4) (p : Fin 64) (d : Fin 128) :
    s128 (iblk m c 1 t) (64 * a.val) (128 * h.val) (ix2 p d) = ak (X0 m c) (sq t.val t.isLt) h (tok (ck t.val a) p) d := by
  have ht : t.val < 16 := t.isLt
  refine (blkk m c t _ _).trans ((congrFun (V_k m c) _).trans ?_)
  unfold ak sq tok ck row
  pointwise
  blk_ext

theorem tile_v (t : Fin cfg0.N) (a h : Fin 4) (p : Fin 64) (e : Fin 256) :
    s256 (X0_2 m c t) (64 * a.val) (256 * h.val) (ix2 p e) = av (X0 m c) (sq t.val t.isLt) h (tok (ck t.val a) p) e := by
  have ht : t.val < 16 := t.isLt
  refine (blkv m c t _ _).trans ((congrFun (V_p m c) _).trans ?_)
  unfold av sq tok ck row
  pointwise [val_main_v71, val_main_v3, val_main_v0]
  blk_ext

theorem tile_g (t : Fin cfg0.N) (a h : Fin 4) (p : Fin 64) (e : Fin 256) :
    s256 (X0_3 m c t) (64 * a.val) (256 * h.val) (ix2 p e) = ag (X0 m c) (sq t.val t.isLt) h (tok (ck t.val a) p) e := by
  have ht : t.val < 16 := t.isLt
  refine (blkg m c t _ _).trans ((congrFun (V_p m c) _).trans ?_)
  unfold ag sq tok ck row
  pointwise
  blk_ext

theorem tile_o (t : Fin cfg0.N) (a h : Fin 4) (p : Fin 64) (e : Fin 256) :
    s256 (iblk m c 4 t) (64 * a.val) (256 * h.val) (ix2 p e) = ao (X0 m c) (sq t.val t.isLt) h (tok (ck t.val a) p) e := by
  have ht : t.val < 16 := t.isLt
  refine (blko m c t _ _).trans ((congrFun (V_o m c) _).trans ?_)
  unfold ao sq tok ck row
  pointwise
  blk_ext

theorem tile_u (t : Fin cfg0.N) (a h : Fin 4) (p : Fin 64) (e : Fin 256) :
    s256 (iblk m c 6 t) (64 * a.val) (256 * h.val) (ix2 p e) = au (X1 m c) (sq t.val t.isLt) h (tok (ck t.val a) p) e := by
  have ht : t.val < 16 := t.isLt
  refine (blku m c t _ _).trans ((congrFun (V_u m c) _).trans ?_)
  unfold au sq tok ck row
  pointwise
  blk_ext

theorem tile_s (t : Fin cfg0.N) (a h : Fin 4) (d : Fin 128) (e : Fin 256) :
    hState (iblk m c 5 t) h.val a.val (ix5 (0 : Fin 1) (0 : Fin 1) (0 : Fin 1) d e) = ast (X0 m c) (sq t.val t.isLt) h (ck t.val a) d e := by
  have ht : t.val < 16 := t.isLt
  refine (blks m c t _ _ _ _).trans ((congrFun (V_s m c) _).trans ?_)
  unfold ast sq ck
  pointwise
  blk_ext

theorem tile_intra (t : Fin cfg0.N) (h : Fin 4) (n p : Fin 64) :
    hIntra (iblk m c 9 t) h.val (ix3 (0 : Fin 1) n p) = intra h n p := by
  rw [blkintra]
  refine (congrFun (V_intra m c) _).trans ?_
  unfold intra
  blk_ext

theorem tile_qd (t : Fin cfg0.N) (h : Fin 4) (n : Fin 64) (d : Fin 128) :
    hDec (iblk m c 10 t) h.val (ix3 (0 : Fin 1) n d) = dec h (n.val + 1) := by
  rw [blkqd]
  refine (congrFun (V_qd m c) _).trans ?_
  unfold dec lg
  pointwise
  rw [show (⟨h.val % 4, Nat.mod_lt _ (by norm_num)⟩ : Fin 4) = h from Fin.ext (Nat.mod_eq_of_lt h.isLt), sitofp_nat n.val (by omega), EReal.coe_add]
  norm_num

theorem tile_kd (t : Fin cfg0.N) (h : Fin 4) (n : Fin 64) (d : Fin 128) :
    hDec (iblk m c 11 t) h.val (ix3 (0 : Fin 1) n d) = dec h (63 - n.val) := by
  rw [blkkd]
  refine (congrFun (V_kd m c) _).trans ?_
  unfold dec lg
  pointwise
  rw [show (⟨h.val % 4, Nat.mod_lt _ (by norm_num)⟩ : Fin 4) = h from Fin.ext (Nat.mod_eq_of_lt h.isLt), sitofp_nat n.val (by omega), ofBits_63, EReal.coe_sub]

theorem tile_cd (t : Fin cfg0.N) (h : Fin 4) (e : Fin 256) :
    hCd (iblk m c 12 t) h.val (ix3 (0 : Fin 1) (0 : Fin 1) e) = dec h 64 := by
  rw [blkcd]
  refine (congrFun (V_cd m c) _).trans ?_
  unfold dec lg
  pointwise
  rw [show (⟨h.val % 4, Nat.mod_lt _ (by norm_num)⟩ : Fin 4) = h from Fin.ext (Nat.mod_eq_of_lt h.isLt), ofBits_64]

theorem tile_cos (t : Fin cfg0.N) (a : Fin 4) (p : Fin 64) (d : Fin 128) :
    sRope (shapeCast S256x128 (iblk m c 7 t) shapeCasts_S256x128_S256x128) (64 * a.val) (ix2 p d) = cosT (tok (ck t.val a) p) ⟨(d : ℕ) % 64, by omega⟩ := by
  have ht : t.val < 16 := t.isLt
  unfold sRope
  pointwise
  refine (blkcos m c t _ _).trans ((congrFun (V_cos m c) _).trans ?_)
  unfold cosT tok ck
  pointwise
  split_ifs with hd
  all_goals exact congrArg _ (by blk_ext)

theorem tile_sin (t : Fin cfg0.N) (a : Fin 4) (p : Fin 64) (d : Fin 128) :
    sRope (bneg (iblk m c 8 t)) (64 * a.val) (ix2 p d) = 0 - sinC (tok (ck t.val a) p) d := by
  have ht : t.val < 16 := t.isLt
  unfold sRope bneg
  pointwise
  refine congrArg (0 - ·) ((blksin m c t _ _).trans ((congrFun (V_sin m c) _).trans ?_))
  unfold sinC sinT tok ck
  pointwise
  split_ifs with hd
  · exact congrArg (fun i => -val_main_v56 (F := Ideal) i) (by blk_ext)
  all_goals exact congrArg _ (by blk_ext)

end Cert.RetKernelIdeal.Value
-- ==== Proof.Ret.Load.lean ====
module

public import proofs.«01_k».proof.Proof.Gen.RetKernelIdeal.Skeleton
public import Idealize.ShloMosaic.Lib.Pipeline.ValueKit
public import Idealize.ShloMosaic.Lib.Pointwise
public import proofs.«01_k».proof.Proof.Ret.Tile

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen

theorem ld256 (B : Vec Ideal S256x1024 .bf16) (a b : ℕ) (h) : (View.ld B (Rect.unit (s := S256x1024) ![a, b] ![64, 256] h) : Vec Ideal S64x256 .bf16) = s256 B a b := by
  have h0 : a + 64 ≤ 256 := h 0
  have h1 : b + 256 ≤ 1024 := h 1
  funext i
  unfold s256
  pointwise
  blk_ext
theorem ld128 (B : Vec Ideal S256x512 .bf16) (a b : ℕ) (h) : (View.ld B (Rect.unit (s := S256x512) ![a, b] ![64, 128] h) : Vec Ideal S64x128 .bf16) = s128 B a b := by
  have h0 : a + 64 ≤ 256 := h 0
  have h1 : b + 128 ≤ 512 := h 1
  funext i
  unfold s128
  pointwise
  blk_ext
theorem ldIntra (B : Vec Ideal S4x64x64 .f32) (a : ℕ) (h) : (View.ld B (Rect.unit (s := S4x64x64) ![a, 0, 0] ![1, 64, 64] h) : Vec Ideal S1x64x64 .f32) = hIntra B a := by
  have h0 : a + 1 ≤ 4 := h 0
  funext i
  unfold hIntra
  pointwise
  blk_ext
theorem ldDec (B : Vec Ideal S4x64x128 .f32) (a : ℕ) (h) : (View.ld B (Rect.unit (s := S4x64x128) ![a, 0, 0] ![1, 64, 128] h) : Vec Ideal S1x64x128 .f32) = hDec B a := by
  have h0 : a + 1 ≤ 4 := h 0
  funext i
  unfold hDec
  pointwise
  blk_ext
theorem ldCd (B : Vec Ideal S4x1x256 .f32) (a : ℕ) (h) : (View.ld B (Rect.unit (s := S4x1x256) ![a, 0, 0] ![1, 1, 256] h) : Vec Ideal S1x1x256 .f32) = hCd B a := by
  have h0 : a + 1 ≤ 4 := h 0
  funext i
  unfold hCd
  pointwise
  blk_ext
theorem ldCarry (B : Vec Ideal S4x128x256 .f32) (a : ℕ) (h) : (View.ld B (Rect.unit (s := S4x128x256) ![a, 0, 0] ![1, 128, 256] h) : Vec Ideal S1x128x256 .f32) = hCarry B a := by
  have h0 : a + 1 ≤ 4 := h 0
  funext i
  unfold hCarry
  pointwise
  blk_ext
theorem ldState (B : Vec Ideal S1x4x4x128x256 .bf16) (a b : ℕ) (h) : (View.ld B (Rect.unit (s := S1x4x4x128x256) ![0, a, b, 0, 0] ![1, 1, 1, 128, 256] h) : Vec Ideal S1x1x1x128x256 .bf16) = hState B a b := by
  have h0 : a + 1 ≤ 4 := h 1
  have h1 : b + 1 ≤ 4 := h 2
  funext i
  unfold hState
  pointwise
  blk_ext
theorem exRope (B : FVec Ideal S256x128 .f32) (a : ℕ) (ha : a + 64 ≤ 256) (h) : extractStridedSlice S64x128 ![a, 0] B h = sRope B a := by
  funext i
  unfold sRope
  pointwise
  blk_ext

variable {x0 x1 : Vec Ideal S256x512 .bf16} {x2 x3 x4 : Vec Ideal S256x1024 .bf16} {x5 : Vec Ideal S1x4x4x128x256 .bf16} {x6 : Vec Ideal S256x1024 .bf16}
  {x7 x8 : Vec Ideal S256x128 .f32} {x9 : Vec Ideal S4x64x64 .f32} {x10 x11 : Vec Ideal S4x64x128 .f32} {x12 : Vec Ideal S4x1x256 .f32}
  {xs : Vec Ideal S4x128x256 .f32} {y : S256x3072.Idx}

theorem bout_q {x : S64x128.Idx} (h0 : (x 0 : ℕ) = (y 0 : ℕ) % 64) (h1 : (x 1 : ℕ) = (y 1 : ℕ) % 128) (hl : 0 ≤ (y 1 : ℕ)) (hh : (y 1 : ℕ) < 512) :
    bout x0 x1 x2 x3 x4 x5 x6 x7 x8 x9 x10 x11 x12 xs y = bdq x1 x2 x3 x4 x5 x6 x7 x8 x9 x10 ((y 0 : ℕ) / 64 * 64) ((y 1 : ℕ) / 128) x := by
  unfold bout
  dsimp only
  rw [if_pos (by omega)]
  congr 1
  rw [eq_ix2 x]
  exact (ix2_inj ..).2 ⟨Fin.ext h0.symm, Fin.ext h1.symm⟩

theorem bout_k {x : S64x128.Idx} (h0 : (x 0 : ℕ) = (y 0 : ℕ) % 64) (h1 : (x 1 : ℕ) = (y 1 : ℕ) % 128) (hl : 512 ≤ (y 1 : ℕ)) (hh : (y 1 : ℕ) < 1024) :
    bout x0 x1 x2 x3 x4 x5 x6 x7 x8 x9 x10 x11 x12 xs y = bdk x0 x2 x3 x4 x6 x7 x8 x9 x10 x11 x12 xs ((y 0 : ℕ) / 64 * 64) (((y 1 : ℕ) - 512) / 128) x := by
  unfold bout
  dsimp only
  rw [if_neg (by omega), if_pos (by omega)]
  congr 1
  rw [eq_ix2 x]
  exact (ix2_inj ..).2 ⟨Fin.ext h0.symm, Fin.ext h1.symm⟩

theorem bout_v {x : S64x256.Idx} (h0 : (x 0 : ℕ) = (y 0 : ℕ) % 64) (h1 : (x 1 : ℕ) = (y 1 : ℕ) % 256) (hl : 1024 ≤ (y 1 : ℕ)) (hh : (y 1 : ℕ) < 2048) :
    bout x0 x1 x2 x3 x4 x5 x6 x7 x8 x9 x10 x11 x12 xs y = bdv x0 x1 x3 x4 x6 x9 x10 x11 x12 xs ((y 0 : ℕ) / 64 * 64) (((y 1 : ℕ) - 1024) / 256) x := by
  unfold bout
  dsimp only
  rw [if_neg (by omega), if_neg (by omega), if_pos (by omega)]
  congr 1
  rw [eq_ix2 x]
  exact (ix2_inj ..).2 ⟨Fin.ext h0.symm, Fin.ext h1.symm⟩

theorem bout_g {x : S64x256.Idx} (h0 : (x 0 : ℕ) = (y 0 : ℕ) % 64) (h1 : (x 1 : ℕ) = (y 1 : ℕ) % 256) (hl : 2048 ≤ (y 1 : ℕ)) (hh : (y 1 : ℕ) < 3072) :
    bout x0 x1 x2 x3 x4 x5 x6 x7 x8 x9 x10 x11 x12 xs y = bdg x3 x4 x6 ((y 0 : ℕ) / 64 * 64) (((y 1 : ℕ) - 2048) / 256) x := by
  unfold bout
  dsimp only
  rw [if_neg (by omega), if_neg (by omega), if_neg (by omega)]
  congr 1
  rw [eq_ix2 x]
  exact (ix2_inj ..).2 ⟨Fin.ext h0.symm, Fin.ext h1.symm⟩

/-! The tile a row and a column lie in. -/
theorem row_tile {a x : ℕ} (hx : x < 64) (ha : a % 64 = 0) : (a + x) / 64 * 64 = a := by omega
theorem row_tile0 {x : ℕ} (hx : x < 64) : x / 64 * 64 = 0 := by omega
theorem col_tile {b x w : ℕ} (hx : x < w) (hb : b % w = 0) : (b + x) / w = b / w := by
  obtain ⟨q, rfl⟩ := Nat.dvd_of_mod_eq_zero hb
  have hw : 0 < w := by omega
  rw [Nat.mul_add_div hw, Nat.div_eq_of_lt hx, Nat.mul_div_cancel_left _ hw, Nat.add_zero]
theorem col_tile_sub {b x w l : ℕ} (hx : x < w) (hl : l ≤ b) (hb : (b - l) % w = 0) : (b + x - l) / w = (b - l) / w := by
  rw [show b + x - l = (b - l) + x by omega, col_tile hx hb]
theorem col_tile0 {x w : ℕ} (hx : x < w) : x / w = 0 := Nat.div_eq_of_lt hx

end Cert.RetKernelIdeal.Value
-- ==== Proof.Ret.Block.lean ====
module

public import proofs.«01_k».proof.Proof.Gen.RetKernelIdeal.Frame
public import Idealize.ShloMosaic.Lib.Pipeline.ValueKit
public import Idealize.ShloMosaic.Lib.Pointwise
public import Idealize.ShloMosaic.Lib.Pipeline.ReadBack
public import proofs.«01_k».proof.Proof.Ret.Load

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
variable (m : (ℓ : Loc nD τ sig) → Buf (Elt Ideal) ℓ) (ρ : Dev nD → PrngReg)

/-- A load of one head after a fill of the whole scratch. -/
theorem carry_fill (Z : Vec Ideal S4x128x256 .f32) (a : ℕ) (inb) (h) :
    (View.whole cc0_scratch0 : View sig .tc .vmem S4x128x256 .f32).readCov (Val := Elt Ideal) [⟨Rect.unit (s := S4x128x256) ![0, 0, 0] ![4, 128, 256] inb, Z⟩]
      (Rect.unit (s := S4x128x256) ![a, 0, 0] ![1, 128, 256] h).toLoadRect = (hCarry Z a : Vec Ideal S1x128x256 .f32) := by
  refine (View.readCov_fill (s := S4x128x256) _ inb Z [] _ (by decide)).trans ?_
  exact ldCarry Z a h

/-- Four stores that cover a buffer hide the store before them. -/
theorem canon_four {S : Shape} {e : EltTy} (a b c d z : View.Piece (Elt Ideal) S e) (y : S.Idx) (h : ∃ p ∈ [a, b, c, d], y ∈ p.1.set) :
    View.canon [a, b, c, d, z] y = View.canon [a, b, c, d] y := by
  by_cases ha : y ∈ a.1.set
  · obtain ⟨x, rfl⟩ := a.1.exists_idx_of_mem ha
    exact (View.canon_cons_emb _ _ _ _).trans (View.canon_cons_emb _ _ _ _).symm
  rw [View.canon_cons_of_not_mem _ _ ha, View.canon_cons_of_not_mem _ _ ha]
  by_cases hb : y ∈ b.1.set
  · obtain ⟨x, rfl⟩ := b.1.exists_idx_of_mem hb
    exact (View.canon_cons_emb _ _ _ _).trans (View.canon_cons_emb _ _ _ _).symm
  rw [View.canon_cons_of_not_mem _ _ hb, View.canon_cons_of_not_mem _ _ hb]
  by_cases hc : y ∈ c.1.set
  · obtain ⟨x, rfl⟩ := c.1.exists_idx_of_mem hc
    exact (View.canon_cons_emb _ _ _ _).trans (View.canon_cons_emb _ _ _ _).symm
  rw [View.canon_cons_of_not_mem _ _ hc, View.canon_cons_of_not_mem _ _ hc]
  by_cases hd : y ∈ d.1.set
  · obtain ⟨x, rfl⟩ := d.1.exists_idx_of_mem hd
    exact (View.canon_cons_emb _ _ _ _).trans (View.canon_cons_emb _ _ _ _).symm
  simp [ha, hb, hc, hd] at h

/-- A store of one head, read at the state's own coordinates. -/
theorem carry_drop (x : S1x128x256.Idx) (d : Fin 128) (e : Fin 256) (hd : (d : ℕ) = (x 1 : ℕ)) (he : (e : ℕ) = (x 2 : ℕ)) (M : FVec Ideal S128x256 .f32) :
    shapeCast S1x128x256 M shapeCasts_S128x256_S1x128x256 x = M (ix2 d e) := by
  pointwise
  blk_ext

set_option maxHeartbeats 8000000 in
/-- The scratch after a point that is not the first of a sequence. -/
theorem carry_step (c : Dev nD) (t : Fin cfg0.N) (hB : ¬t.val % 8 = 0) (y : S4x128x256.Idx) :
   (outsAt0 m c t.val t.isLt).2 y = bchain (iblk m c 0 t) (X0_3 m c t) (iblk m c 4 t) (iblk m c 6 t) (iblk m c 10 t) (iblk m c 12 t)
      (outsAt0 m c (t.val - 1) (Nat.lt_of_le_of_lt (Nat.sub_le _ _) t.isLt)).2 (y 0 : ℕ) 4 (ix2 (y 1) (y 2)) := by
  rw [outsAt0_B m c t hB]; frame_out
  canon_tiles x h
  all_goals
    have e0 : (y 0 : ℕ) = (y 0 : ℕ) := rfl
    conv at e0 => rhs; rw [h0]
    have z0 : (x 0 : ℕ) = 0 := by omega
    simp only [z0, Nat.add_zero] at e0
    simp only [read_unread_whole, ld256, ld128, ldIntra, ldDec, ldCd, ldCarry, ldState, e0, ← carry_drop x (y 1) (y 2) h1 h2]
    refine congrFun ?_ x
    rfl

set_option maxHeartbeats 8000000 in
/-- The scratch after the first point of a sequence. -/
theorem carry_first (c : Dev nD) (t : Fin cfg0.N) (hB : t.val % 8 = 0) (y : S4x128x256.Idx) :
   (outsAt0 m c t.val t.isLt).2 y = bchain (iblk m c 0 t) (X0_3 m c t) (iblk m c 4 t) (iblk m c 6 t) (iblk m c 10 t) (iblk m c 12 t)
      (k0_pay5 (F := Ideal)) (y 0 : ℕ) 4 (ix2 (y 1) (y 2)) := by
  rw [outsAt0_A m c t hB]; frame_out
  refine (canon_four _ _ _ _ _ y (View.cover_of_tiled_head _ _ _ (by sl_kernel_rfl) y)).trans ?_
  canon_tiles x h
  all_goals
    have e0 : (y 0 : ℕ) = (y 0 : ℕ) := rfl
    conv at e0 => rhs; rw [h0]
    have z0 : (x 0 : ℕ) = 0 := by omega
    simp only [z0, Nat.add_zero] at e0
    simp only [ld256, ld128, ldIntra, ldDec, ldCd, ldCarry, ldState, e0, ← carry_drop x (y 1) (y 2) h1 h2]
    refine congrFun ?_ x
    rw [carry_fill]
    rfl

set_option maxHeartbeats 8000000 in
/-- What a point that is not the first of a sequence stores. -/
theorem point_step (c : Dev nD) (t : Fin cfg0.N) (hB : ¬t.val % 8 = 0) (y : S256x3072.Idx) :
   (outsAt0 m c t.val t.isLt).1 y = bout (iblk m c 0 t) (iblk m c 1 t) (X0_2 m c t) (X0_3 m c t) (iblk m c 4 t) (iblk m c 5 t) (iblk m c 6 t) (iblk m c 7 t)
    (iblk m c 8 t) (iblk m c 9 t) (iblk m c 10 t) (iblk m c 11 t) (iblk m c 12 t) (outsAt0 m c (t.val - 1) (Nat.lt_of_le_of_lt (Nat.sub_le _ _) t.isLt)).2 y := by
  rw [outsAt0_B m c t hB]; frame_out
  canon_tiles x h using View.cover_of_tiledBy _ ![64, 128] (by sl_kernel_rfl) y
  all_goals
    first
      | refine Eq.trans ?_ (bout_q (x := x) (by omega) (by omega) (by omega) (by omega)).symm
      | refine Eq.trans ?_ (bout_k (x := x) (by omega) (by omega) (by omega) (by omega)).symm
      | refine Eq.trans ?_ (bout_v (x := x) (by omega) (by omega) (by omega) (by omega)).symm
      | refine Eq.trans ?_ (bout_g (x := x) (by omega) (by omega) (by omega) (by omega)).symm
    simp only [h0, h1, row_tile x0_lt, row_tile0 x0_lt, col_tile x1_lt, col_tile_sub x1_lt, col_tile0 x1_lt, Nat.reduceMod, Nat.reduceSub, Nat.reduceDiv, Nat.reduceLeDiff,
      read_unread_whole, ld256, ld128, ldIntra, ldDec, ldCd, ldCarry, ldState]
    first | unfold bdq | unfold bdk | skip
    first
      | rw [← exRope _ _ (by norm_num) slices_S256x128_o0_0_S64x128, ← exRope _ _ (by norm_num) slices_S256x128_o0_0_S64x128]
      | rw [← exRope _ _ (by norm_num) slices_S256x128_o64_0_S64x128, ← exRope _ _ (by norm_num) slices_S256x128_o64_0_S64x128]
      | rw [← exRope _ _ (by norm_num) slices_S256x128_o128_0_S64x128, ← exRope _ _ (by norm_num) slices_S256x128_o128_0_S64x128]
      | rw [← exRope _ _ (by norm_num) slices_S256x128_o192_0_S64x128, ← exRope _ _ (by norm_num) slices_S256x128_o192_0_S64x128]
      | skip
    rfl

set_option maxHeartbeats 8000000 in
/-- What a point that is the first of a sequence stores. -/
theorem point_first (c : Dev nD) (t : Fin cfg0.N) (hB : t.val % 8 = 0) (y : S256x3072.Idx) :
   (outsAt0 m c t.val t.isLt).1 y = bout (iblk m c 0 t) (iblk m c 1 t) (X0_2 m c t) (X0_3 m c t) (iblk m c 4 t) (iblk m c 5 t) (iblk m c 6 t) (iblk m c 7 t)
    (iblk m c 8 t) (iblk m c 9 t) (iblk m c 10 t) (iblk m c 11 t) (iblk m c 12 t) (k0_pay5 (F := Ideal)) y := by
  rw [outsAt0_A m c t hB]; frame_out
  canon_tiles x h using View.cover_of_tiledBy _ ![64, 128] (by sl_kernel_rfl) y
  all_goals
    first
      | refine Eq.trans ?_ (bout_q (x := x) (by omega) (by omega) (by omega) (by omega)).symm
      | refine Eq.trans ?_ (bout_k (x := x) (by omega) (by omega) (by omega) (by omega)).symm
      | refine Eq.trans ?_ (bout_v (x := x) (by omega) (by omega) (by omega) (by omega)).symm
      | refine Eq.trans ?_ (bout_g (x := x) (by omega) (by omega) (by omega) (by omega)).symm
    simp only [h0, h1, row_tile x0_lt, row_tile0 x0_lt, col_tile x1_lt, col_tile_sub x1_lt, col_tile0 x1_lt, Nat.reduceMod, Nat.reduceSub, Nat.reduceDiv, Nat.reduceLeDiff,
      ld256, ld128, ldIntra, ldDec, ldCd, ldCarry, ldState]
    first | unfold bdq | unfold bdk | skip
    first
      | rw [← exRope _ _ (by norm_num) slices_S256x128_o0_0_S64x128, ← exRope _ _ (by norm_num) slices_S256x128_o0_0_S64x128]
      | rw [← exRope _ _ (by norm_num) slices_S256x128_o64_0_S64x128, ← exRope _ _ (by norm_num) slices_S256x128_o64_0_S64x128]
      | rw [← exRope _ _ (by norm_num) slices_S256x128_o128_0_S64x128, ← exRope _ _ (by norm_num) slices_S256x128_o128_0_S64x128]
      | rw [← exRope _ _ (by norm_num) slices_S256x128_o192_0_S64x128, ← exRope _ _ (by norm_num) slices_S256x128_o192_0_S64x128]
      | skip
    try rw [carry_fill]
    rfl

end Cert.RetKernelIdeal.Value
-- ==== Proof.Ret.Array.lean ====
module

public import proofs.«01_k».proof.Proof.Ret.Tiles
public import proofs.«01_k».proof.Proof.Ret.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

variable (m : (ℓ : Loc nD τ sig) → Buf (Elt Ideal) ℓ) (c : Dev nD)

/-! ## The call's result

The carried gradient of the state at every grid point, the block that a point stores, and the array that the blocks fill. -/

theorem do_at (t : Fin cfg0.N) (a h : Fin 4) (p : Fin 64) (e : Fin 256) :
    bdo (X0_3 m c t) (iblk m c 4 t) (iblk m c 6 t) (64 * a.val) h.val (ix2 p e) = gdo (X0 m c) (X1 m c) (sq t.val t.isLt) h (tok (ck t.val a) p) e := by
  unfold bdo
  rw [tdo_at]
  simp only [tile_o, tile_g, tile_u]
  rfl

/-- The carried gradient inside a point, if it is right at the point's start. -/
theorem chain_at (t : Fin cfg0.N) (h : Fin 4) (xs : FVec Ideal S4x128x256 .f32)
    (hxs : ∀ d e, xs (ix3 h d e) = gdS (X0 m c) (X1 m c) (sq t.val t.isLt) h (4 * (t.val % 8)) d e) :
    ∀ n, n ≤ 4 → ∀ d e, bchain (iblk m c 0 t) (X0_3 m c t) (iblk m c 4 t) (iblk m c 6 t) (iblk m c 10 t) (iblk m c 12 t) xs h.val n (ix2 d e)
      = gdS (X0 m c) (X1 m c) (sq t.val t.isLt) h (4 * (t.val % 8) + n) d e := by
  have ht : t.val < 16 := t.isLt
  intro n
  induction n with
  | zero =>
    intro _ d e
    refine Eq.trans ?_ (hxs d e)
    unfold bchain hCarry
    pointwise
    blk_ext
  | succ n ih =>
    intro hn d e
    obtain ⟨a, ha⟩ : ∃ a : Fin 4, a.val = 3 - n := ⟨⟨3 - n, by omega⟩, rfl⟩
    have e1 : 192 - 64 * n = 64 * a.val := by omega
    have e2 : ck t.val a = ⟨31 - (4 * (t.val % 8) + n), by omega⟩ := Fin.ext (by unfold ck; simp only; omega)
    show tstep (bchain _ _ _ _ _ _ xs h.val n) _ _ _ _ (ix2 d e) = gdS (X0 m c) (X1 m c) (sq t.val t.isLt) h (4 * (t.val % 8) + n) d e * dec h 64
      + gadd (X0 m c) (X1 m c) (sq t.val t.isLt) h ⟨31 - (4 * (t.val % 8) + n), by omega⟩ d e
    rw [tstep_at, ih (by omega), e1, tile_cd]
    simp only [tile_q, tile_qd, do_at, e2]
    unfold gadd
    rfl

theorem zero_at (h : Fin 4) (d : Fin 128) (e : Fin 256) : k0_pay5 (F := Ideal) (ix3 h d e) = 0 := by
  unfold k0_pay5
  pointwise

/-- The carried gradient after a point. -/
theorem carry_at : ∀ n (hn : n < 16) (h : Fin 4) (d : Fin 128) (e : Fin 256),
    (outsAt0 m c n hn).2 (ix3 h d e) = gdS (X0 m c) (X1 m c) (sq n hn) h (4 * (n % 8) + 4) d e := by
  intro n
  induction n using Nat.strong_induction_on with
  | _ n ih =>
    intro hn h d e
    by_cases h0 : n % 8 = 0
    · refine (carry_first m c ⟨n, hn⟩ h0 _).trans ?_
      refine chain_at m c ⟨n, hn⟩ h _ (fun d e => (zero_at h d e).trans ?_) 4 le_rfl d e
      simp only [h0]
      rfl
    · refine (carry_step m c ⟨n, hn⟩ h0 _).trans ?_
      refine chain_at m c ⟨n, hn⟩ h _ (fun d e => (ih (n - 1) (by omega) (by omega) h d e).trans ?_) 4 le_rfl d e
      have e1 : sq (n - 1) (by omega) = sq n hn := Fin.ext (by unfold sq; simp only; omega)
      have e2 : 4 * ((n - 1) % 8) + 4 = 4 * (n % 8) := by omega
      rw [e1, e2]

/-- The token that a row of a point's block is. -/
def brow (t : ℕ) (i : Fin 256) : Fin 2048 := tok (ck t ⟨i.val / 64, by omega⟩) ⟨i.val % 64, by omega⟩

/-- A tile's rotary turn. -/
theorem turn_at (t : Fin cfg0.N) (a : Fin 4) (p : Fin 64) (d : Fin 128) (x : FVec Ideal S64x128 .f32) (f : Fin 128 → EReal) (hf : ∀ d, x (ix2 p d) = f d) :
    trot x (sRope (shapeCast S256x128 (iblk m c 7 t) shapeCasts_S256x128_S256x128) (64 * a.val)) (sRope (bneg (iblk m c 8 t)) (64 * a.val)) (ix2 p d)
      = turn f (tok (ck t.val a) p) d := by
  rw [trot_at, hf, hf, tile_cos, tile_sin]
  rfl

/-- The carried gradient at a chunk of the block. -/
theorem chain_ck (t : Fin cfg0.N) (a h : Fin 4) (xs : FVec Ideal S4x128x256 .f32)
    (hxs : ∀ h d e, xs (ix3 h d e) = gdS (X0 m c) (X1 m c) (sq t.val t.isLt) h (4 * (t.val % 8)) d e) (d : Fin 128) (e : Fin 256) :
    bchain (iblk m c 0 t) (X0_3 m c t) (iblk m c 4 t) (iblk m c 6 t) (iblk m c 10 t) (iblk m c 12 t) xs h.val (3 - 64 * a.val / 64) (ix2 d e)
      = gdS (X0 m c) (X1 m c) (sq t.val t.isLt) h (31 - (ck t.val a).val) d e := by
  have hd : 64 * a.val / 64 = a.val := by omega
  have hck : 31 - (ck t.val a).val = 4 * (t.val % 8) + (3 - a.val) := by unfold ck; simp only; omega
  rw [hd, hck]
  exact chain_at m c t h xs (hxs h) (3 - a.val) (by omega) d e

theorem dq_at (t : Fin cfg0.N) (a h : Fin 4) (p : Fin 64) (d : Fin 128) :
    bdq (iblk m c 1 t) (X0_2 m c t) (X0_3 m c t) (iblk m c 4 t) (iblk m c 5 t) (iblk m c 6 t) (iblk m c 7 t) (iblk m c 8 t) (iblk m c 9 t) (iblk m c 10 t)
      (64 * a.val) h.val (ix2 p d) = turn (gtq (X0 m c) (X1 m c) (sq t.val t.isLt) h (tok (ck t.val a) p)) (tok (ck t.val a) p) d := by
  have hd : 64 * a.val / 64 = a.val := by omega
  unfold bdq
  refine turn_at m c t a p _ _ _ fun d => ?_
  rw [tdq_at]
  simp only [hd, tile_k, tile_v, do_at, tile_s, tile_intra, tile_qd]
  unfold gtq
  rw [chunk_tok, place_tok]

theorem dk_at (t : Fin cfg0.N) (a h : Fin 4) (p : Fin 64) (xs : FVec Ideal S4x128x256 .f32)
    (hxs : ∀ h d e, xs (ix3 h d e) = gdS (X0 m c) (X1 m c) (sq t.val t.isLt) h (4 * (t.val % 8)) d e) (d : Fin 128) :
    bdk (iblk m c 0 t) (X0_2 m c t) (X0_3 m c t) (iblk m c 4 t) (iblk m c 6 t) (iblk m c 7 t) (iblk m c 8 t) (iblk m c 9 t) (iblk m c 10 t)
      (iblk m c 11 t) (iblk m c 12 t) xs
      (64 * a.val) h.val (ix2 p d) = turn (gtk (X0 m c) (X1 m c) (sq t.val t.isLt) h (tok (ck t.val a) p)) (tok (ck t.val a) p) d := by
  unfold bdk
  refine turn_at m c t a p _ _ _ fun d => ?_
  rw [tdk_at]
  simp only [tile_q, tile_v, do_at, tile_intra, tile_kd, chain_ck m c t a h xs hxs]
  unfold gtk
  rw [chunk_tok, place_tok]

theorem dv_at (t : Fin cfg0.N) (a h : Fin 4) (p : Fin 64) (xs : FVec Ideal S4x128x256 .f32)
    (hxs : ∀ h d e, xs (ix3 h d e) = gdS (X0 m c) (X1 m c) (sq t.val t.isLt) h (4 * (t.val % 8)) d e) (e : Fin 256) :
    bdv (iblk m c 0 t) (iblk m c 1 t) (X0_3 m c t) (iblk m c 4 t) (iblk m c 6 t) (iblk m c 9 t) (iblk m c 10 t)
      (iblk m c 11 t) (iblk m c 12 t) xs
      (64 * a.val) h.val (ix2 p e) = gv (X0 m c) (X1 m c) (sq t.val t.isLt) h (tok (ck t.val a) p) e := by
  unfold bdv
  rw [tdv_at]
  simp only [tile_q, tile_k, do_at, tile_intra, tile_kd, chain_ck m c t a h xs hxs]
  unfold gv
  rw [chunk_tok, place_tok]

theorem dg_at (t : Fin cfg0.N) (a h : Fin 4) (p : Fin 64) (e : Fin 256) :
    bdg (X0_3 m c t) (iblk m c 4 t) (iblk m c 6 t) (64 * a.val) h.val (ix2 p e) = gg (X0 m c) (X1 m c) (sq t.val t.isLt) h (tok (ck t.val a) p) e := by
  unfold bdg
  rw [tdg_at]
  simp only [tile_o, tile_g, tile_u]
  rfl

/-- The block that a point stores. -/
theorem bout_at (t : Fin cfg0.N) (xs : FVec Ideal S4x128x256 .f32)
    (hxs : ∀ h d e, xs (ix3 h d e) = gdS (X0 m c) (X1 m c) (sq t.val t.isLt) h (4 * (t.val % 8)) d e) (i : Fin 256) (k : Fin 3072) :
    bout (iblk m c 0 t) (iblk m c 1 t) (X0_2 m c t) (X0_3 m c t) (iblk m c 4 t) (iblk m c 5 t) (iblk m c 6 t) (iblk m c 7 t)
      (iblk m c 8 t) (iblk m c 9 t) (iblk m c 10 t) (iblk m c 11 t) (iblk m c 12 t) xs (ix2 i k)
      = gout (X0 m c) (X1 m c) (sq t.val t.isLt) (brow t.val i) k.val := by
  have ht : t.val < 16 := t.isLt
  have hA : ((ix2 i k : S256x3072.Idx) 0 : ℕ) / 64 * 64 = 64 * ((⟨i.val / 64, by omega⟩ : Fin 4) : ℕ) := by show i.val / 64 * 64 = 64 * (i.val / 64); omega
  unfold gout brow
  split_ifs with h1 h2 h3
  · have eh : ((ix2 i k : S256x3072.Idx) 1 : ℕ) / 128 = ((⟨k.val / 128 % 4, by omega⟩ : Fin 4) : ℕ) := by show k.val / 128 = k.val / 128 % 4; omega
    refine (bout_q (y := ix2 i k) (x := ix2 (⟨i.val % 64, by omega⟩ : Fin 64) (⟨k.val % 128, by omega⟩ : Fin 128)) rfl rfl (show 0 ≤ k.val by omega) (show k.val < 512 by omega)).trans ?_
    refine Eq.trans ?_ (dq_at m c t ⟨i.val / 64, by omega⟩ ⟨k.val / 128 % 4, by omega⟩ ⟨i.val % 64, by omega⟩ ⟨k.val % 128, by omega⟩)
    rw [hA, eh]
  · have eh : (((ix2 i k : S256x3072.Idx) 1 : ℕ) - 512) / 128 = ((⟨(k.val - 512) / 128 % 4, by omega⟩ : Fin 4) : ℕ) := by show (k.val - 512) / 128 = (k.val - 512) / 128 % 4; omega
    refine (bout_k (y := ix2 i k) (x := ix2 (⟨i.val % 64, by omega⟩ : Fin 64) (⟨k.val % 128, by omega⟩ : Fin 128)) rfl rfl (show 512 ≤ k.val by omega) (show k.val < 1024 by omega)).trans ?_
    refine Eq.trans ?_ (dk_at m c t ⟨i.val / 64, by omega⟩ ⟨(k.val - 512) / 128 % 4, by omega⟩ ⟨i.val % 64, by omega⟩ xs hxs ⟨k.val % 128, by omega⟩)
    rw [hA, eh]
  · have eh : (((ix2 i k : S256x3072.Idx) 1 : ℕ) - 1024) / 256 = ((⟨(k.val - 1024) / 256 % 4, by omega⟩ : Fin 4) : ℕ) := by show (k.val - 1024) / 256 = (k.val - 1024) / 256 % 4; omega
    refine (bout_v (y := ix2 i k) (x := ix2 (⟨i.val % 64, by omega⟩ : Fin 64) (⟨k.val % 256, by omega⟩ : Fin 256)) rfl rfl (show 1024 ≤ k.val by omega) (show k.val < 2048 by omega)).trans ?_
    refine Eq.trans ?_ (dv_at m c t ⟨i.val / 64, by omega⟩ ⟨(k.val - 1024) / 256 % 4, by omega⟩ ⟨i.val % 64, by omega⟩ xs hxs ⟨k.val % 256, by omega⟩)
    rw [hA, eh]
  · have eh : (((ix2 i k : S256x3072.Idx) 1 : ℕ) - 2048) / 256 = ((⟨(k.val - 2048) / 256 % 4, by omega⟩ : Fin 4) : ℕ) := by show (k.val - 2048) / 256 = (k.val - 2048) / 256 % 4; omega
    refine (bout_g (y := ix2 i k) (x := ix2 (⟨i.val % 64, by omega⟩ : Fin 64) (⟨k.val % 256, by omega⟩ : Fin 256)) rfl rfl (show 2048 ≤ k.val by omega) (show k.val < 3072 by omega)).trans ?_
    refine Eq.trans ?_ (dg_at m c t ⟨i.val / 64, by omega⟩ ⟨(k.val - 2048) / 256 % 4, by omega⟩ ⟨i.val % 64, by omega⟩ ⟨k.val % 256, by omega⟩)
    rw [hA, eh]

/-- What a point leaves in the output's block. -/
theorem point_at (t : Fin cfg0.N) (i : Fin 256) (k : Fin 3072) :
    (outsAt0 m c t.val t.isLt).1 (ix2 i k) = gout (X0 m c) (X1 m c) (sq t.val t.isLt) (brow t.val i) k.val := by
  have ht : t.val < 16 := t.isLt
  by_cases h0 : t.val % 8 = 0
  · refine (point_first m c t h0 _).trans (bout_at m c t _ (fun h d e => (zero_at h d e).trans ?_) i k)
    simp only [h0]
    rfl
  · refine (point_step m c t h0 _).trans (bout_at m c t _ (fun h d e => (carry_at m c (t.val - 1) (by omega) h d e).trans ?_) i k)
    have e1 : sq (t.val - 1) (by omega) = sq t.val t.isLt := Fin.ext (by unfold sq; simp only; omega)
    have e2 : 4 * ((t.val - 1) % 8) + 4 = 4 * (t.val % 8) := by omega
    rw [e1, e2]

/-- The result's array, where it is written. -/
def garr (x0 : FVec Ideal S2x2048x6656 .f32) (x1 : FVec Ideal S2x2048x1024 .f32) : FVec Ideal S4096x6656 .bf16 := fun i =>
  gout x0 x1 ⟨(i 0 : ℕ) / 2048 % 2, Nat.mod_lt _ (by norm_num)⟩ ⟨(i 0 : ℕ) % 2048, Nat.mod_lt _ (by norm_num)⟩ (i 1 : ℕ)

theorem at13 (t : Fin cfg0.N) (y : ((cfg0.win 13).xblock (cfg0.grid.coords t)).Idx) (i : Fin 256) (k : Fin 3072)
    (h0 : (y 0 : ℕ) = i.val) (h1 : (y 1 : ℕ) = k.val) :
    ((cfg0.win 13).blk t).view.emb y = ix2 (row t.val t.isLt i.val i.isLt) (⟨k.val, by omega⟩ : Fin 6656) := by
  blk_ext [idx0 t, row, h0, h1]

theorem result (c : Dev nD) : (dats m 0 c).arrAt 13 cfg0.N
    = fun i => if (i 1 : ℕ) / 3072 = 0 then garr (X0 m c) (X1 m c) i else V m c main_v226 i := by
  refine (dats m 0 c).arrAt_eq_of_coversWhere 13 _ (fun β => β (1 : Fin _) = 0) (by decide +kernel) (fun t _ y => ?_) (fun j => Iff.rfl)
  obtain ⟨i, k, hy⟩ : ∃ (i : Fin 256) (k : Fin 3072), (cfg0.win 13).xinj (cfg0.grid.coords t) y = (ix2 i k : S256x3072.Idx) := ⟨_, _, eq_ix2 _⟩
  have h0 : (y 0 : ℕ) = i.val := congrArg (fun z : S256x3072.Idx => (z 0 : ℕ)) hy
  have h1 : (y 1 : ℕ) = k.val := congrArg (fun z : S256x3072.Idx => (z 1 : ℕ)) hy
  rw [hy, after0_13]
  refine (point_at m c t i k).trans ?_
  refine Eq.trans ?_ (congrArg (garr (X0 m c) (X1 m c)) (at13 t y i k h0 h1)).symm
  have ht : t.val < 16 := t.isLt
  unfold garr
  refine congrArg₂ (fun b s => gout (X0 m c) (X1 m c) b s k.val) (Fin.ext ?_) (Fin.ext ?_)
  · show t.val / 8 = ((t.val / 8 * 8 + (7 - t.val % 8)) * 256 + i.val) / 2048 % 2
    omega
  · show ((7 - t.val % 8) * 4 + i.val / 64) * 64 + i.val % 64 = ((t.val / 8 * 8 + (7 - t.val % 8)) * 256 + i.val) % 2048
    omega

end Cert.RetKernelIdeal.Value
-- ==== Proof.Ret.Run.lean ====
module

public import proofs.«01_k».proof.Proof.Ret.Array
public import proofs.«01_k».proof.Proof.Gen.RetKernelIdeal.Frame
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen

/-! ## The call's run

The region leaves its output's array, whose first 3072 columns are written; the line after the region takes these columns. -/

variable (m : (ℓ : Loc nD τ sig) → Buf (Elt Ideal) ℓ) (ρ : Dev nD → PrngReg)

/-- The slice of the written array. -/
theorem tail_at (c : Dev nD) (R : Fin 4096) (k : Fin 3072) :
    (Pipeline.afterTail₀ cfgs (dats m) 0 (V0 m) [hostOps1] c main_v227 : FVec Ideal S4096x3072 .bf16) (ix2 R k)
    = gout (X0 m c) (X1 m c) ⟨R.val / 2048, by omega⟩ ⟨R.val % 2048, Nat.mod_lt _ (by norm_num)⟩ k.val := by
  have e : (Pipeline.afterTail₀ cfgs (dats m) 0 (V0 m) [hostOps1] c main_v227 : FVec Ideal S4096x3072 .bf16)
      = extractStridedSlice S4096x3072 ![0, 0] ((dats m 0 c).arrAt 13 cfg0.N : FVec Ideal S4096x6656 .bf16) slices_S4096x6656_S4096x3072_0_0 := by
    unfold Pipeline.afterTail₀
    refine (StableHlo.after_last_write (ops := [hostOps1].flatten) (i := 0) (rest := []) [] rfl rfl (by simp) _).trans ?_
    rw [StableHlo.unary_result']
    refine congrArg (fun A : FVec Ideal S4096x6656 .bf16 => extractStridedSlice S4096x3072 ![0, 0] A slices_S4096x6656_S4096x3072_0_0) ?_
    exact Pipeline.withArrays_arr_shared (cfgs 0).spec c _ _ ((dats m 0 c).arrAt_sharedIn sharedIn0 (V0 m c) (A_eq m c) _) 13
  rw [e, result]
  refine (?_ : _ = garr (X0 m c) (X1 m c) (ix2 R (⟨k.val, by omega⟩ : Fin 6656))).trans ?_
  · pointwise
    rw [if_pos (by omega)]
  · unfold garr
    exact congrArg₂ (fun b s => gout (X0 m c) (X1 m c) b s k.val) (Fin.ext (Nat.mod_eq_of_lt (show R.val / 2048 < 2 by omega))) rfl

end Cert.RetKernelIdeal.Value

end
-- ==== Proof.Ret.RefRow.lean ====
module

public import proofs.«01_k».proof.Proof.Ret.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

/-! ## The reference's gradient of the normalised and gated row, as it is written -/

/-- A row's variance with the small number added. -/
def rvar (o : Fin 256 → EReal) : EReal := rmean (fun j => rcen o j * rcen o j) + Ideal.ofBits .f32 0x358637BD#32
/-- The factor that every entry's distance from the mean is given. -/
def rslope (o y : Fin 256 → EReal) : EReal :=
  Ideal.div ((∑ j, rcen o j * y j) * (Ideal.ofBits .f32 0xBF000000#32 * Ideal.div (rrs o) (rvar o))) (Ideal.ofBits .f32 0x43800000#32)
/-- The gradient of the row, as differentiation writes it. -/
def pdo (o y : Fin 256 → EReal) (e : Fin 256) : EReal :=
  (y e * rrs o + rslope o y * (Ideal.ofBits .f32 0x40000000#32 * rcen o e))
    + Ideal.div ((∑ j, -(y j * rrs o)) + ∑ j, -(rslope o y * (Ideal.ofBits .f32 0x40000000#32 * rcen o j))) (Ideal.ofBits .f32 0x43800000#32)
/-- The gradient of the gate, as differentiation writes it. -/
def pdg (o g du : Fin 256 → EReal) (e : Fin 256) : EReal :=
  (du e * roh o e) * rsig (g e) + (g e * (du e * roh o e)) * (rsig (g e) * (1 - rsig (g e)))

variable (x0 : FVec Ideal S2x2048x6656 .f32) (x1 : FVec Ideal S2x2048x1024 .f32) (b : Fin 2) (h : Fin 4) (s : Fin 2048)

theorem ref_mean (u : Fin 1) : val_main_v151 (F := Ideal) x0 (ix4 b s h u) = rmean (ao x0 b h s) := by
  pointwise [val_main_v151, val_main_v150, val_main_cst_17, val_main_v149, val_main_v148, val_main_cst_16]
  rfl

theorem ref_cen (e : Fin 256) : val_main_v162 (F := Ideal) x0 (ix4 b s h e) = rcen (ao x0 b h s) e := by
  unfold rcen
  rw [← ref_mean x0 b h s 0]
  pointwise [val_main_v162, val_main_v161]
  rfl

theorem ref_cen' (e : Fin 256) : val_main_v153 (F := Ideal) x0 (ix4 b s h e) = rcen (ao x0 b h s) e := by
  unfold rcen
  rw [← ref_mean x0 b h s 0]
  pointwise [val_main_v153, val_main_v152]
  rfl

theorem ref_var (u : Fin 1) : val_main_v164 (F := Ideal) x0 (ix4 b s h u) = rvar (ao x0 b h s) := by
  unfold rvar
  simp only [← ref_cen']
  pointwise [val_main_v164, val_main_v163, val_main_cst_21, val_main_v160, val_main_v159, val_main_cst_20, val_main_v158, val_main_v157,
    val_main_cst_19, val_main_v154]
  rfl

theorem ref_rs (u : Fin 1) : val_main_v165 (F := Ideal) x0 (ix4 b s h u) = rrs (ao x0 b h s) := by
  show Ideal.rsqrt (val_main_v164 (F := Ideal) x0 (ix4 b s h u)) = _
  rw [ref_var]
  rfl

theorem ref_slope0 (u : Fin 1) : val_main_v168 (F := Ideal) x0 (ix4 b s h u)
    = Ideal.ofBits .f32 0xBF000000#32 * Ideal.div (rrs (ao x0 b h s)) (rvar (ao x0 b h s)) := by
  rw [← ref_var x0 b h s u, ← ref_rs x0 b h s u]
  pointwise [val_main_v168, val_main_v167, val_main_cst_22, val_main_v166]

/-- A column of a head among the gate's columns. -/
def gcol (e : Fin 256) : Fin 1024 := ⟨256 * h.val + e.val, by omega⟩

theorem ref_oh (e : Fin 256) : val_main_v171 (F := Ideal) x0 (ix3 b s (gcol h e)) = roh (ao x0 b h s) e := by
  unfold roh
  rw [← ref_cen x0 b h s e, ← ref_rs x0 b h s 0]
  unfold gcol
  pointwise [val_main_v171, val_main_v170, val_main_v169]
  blk_ext

theorem ref_g (e : Fin 256) : val_main_v172 (F := Ideal) x0 (ix3 b s (gcol h e)) = ag x0 b h s e := by
  unfold gcol ag
  pointwise [val_main_v172, val_main_v0]

theorem ref_sig (e : Fin 256) : val_main_v173_2 (F := Ideal) x0 (ix3 b s (gcol h e)) = rsig (ag x0 b h s e) := by
  unfold rsig
  rw [← ref_g, zero_sub]
  pointwise [val_main_v173_2, val_main_call1_v4, val_main_call1_v3, val_main_call1_v2, val_main_call1_v1, val_main_call1_v0, val_main_call1_cst, val_main_call1_cst_0]

theorem ref_dsig (e : Fin 256) : val_main_v173_1 (F := Ideal) x0 (ix3 b s (gcol h e)) = rsig (ag x0 b h s e) * (1 - rsig (ag x0 b h s e)) := by
  rw [← ref_sig]
  pointwise [val_main_v173_1, val_main_call1_v7, val_main_call1_v6, val_main_call1_cst_1]

theorem ref_y (e : Fin 256) : val_main_v179 (F := Ideal) x0 x1 (ix4 b s h e) = ag x0 b h s e * rsig (ag x0 b h s e) * au x1 b h s e := by
  rw [← ref_sig, ← ref_g]
  unfold gcol au
  pointwise [val_main_v179, val_main_v175, val_main_v173_0]
  simp only [Nat.mul_comm h.val 256]

/-- The gradient of the normalised row, the reference's order of factors. -/
def ay (s : Fin 2048) (e : Fin 256) : EReal := ag x0 b h s e * rsig (ag x0 b h s e) * au x1 b h s e

theorem ref_slope (u : Fin 1) : val_main_v190 (F := Ideal) x0 x1 (ix4 b s h u) = rslope (ao x0 b h s) (ay x0 x1 b h s) := by
  unfold rslope
  rw [← ref_slope0 x0 b h s u]
  simp only [← ref_cen]
  unfold ay
  simp only [← ref_y]
  pointwise [val_main_v190, val_main_v189, val_main_cst_26, val_main_v185, val_main_v182, val_main_v181, val_main_v180, val_main_cst_24]

theorem ref_yr (e : Fin 256) : val_main_v184 (F := Ideal) x0 x1 (ix4 b s h e) = ay x0 x1 b h s e * rrs (ao x0 b h s) := by
  rw [← ref_rs x0 b h s 0]
  unfold ay
  rw [← ref_y]
  pointwise [val_main_v184, val_main_v183]

theorem ref_sum_one (x : Fin 1 → EReal) : ∑ u : Fin 1, x u = x 0 := by simp

theorem ref_sl (e : Fin 256) : val_main_v193 (F := Ideal) x0 x1 (ix4 b s h e)
    = rslope (ao x0 b h s) (ay x0 x1 b h s) * (Ideal.ofBits .f32 0x40000000#32 * rcen (ao x0 b h s) e) := by
  rw [← ref_slope x0 x1 b h s 0, ← ref_cen']
  pointwise [val_main_v193, val_main_v192, val_main_v191, val_main_cst_27, val_main_v156, val_main_v155, val_main_cst_18]
  rw [ref_sum_one]

theorem ref_do (e : Fin 256) : val_main_v203 (F := Ideal) x0 x1 (ix4 b s h e) = pdo (ao x0 b h s) (ay x0 x1 b h s) e := by
  unfold pdo
  simp only [← ref_yr, ← ref_sl]
  pointwise [val_main_v203, val_main_v202, val_main_v201, val_main_cst_30, val_main_v200, val_main_v199, val_main_cst_29, val_main_v198,
    val_main_v197, val_main_v196, val_main_v195, val_main_cst_28, val_main_v194, val_main_v188, val_main_v187, val_main_cst_25, val_main_v186]
  rw [ref_sum_one]

theorem ref_dg (e : Fin 256) : val_main_v177 (F := Ideal) x0 x1 (ix3 b s (gcol h e)) = pdg (ao x0 b h s) (ag x0 b h s) (au x1 b h s) e := by
  unfold pdg
  rw [← ref_dsig, ← ref_sig, ← ref_g, ← ref_oh]
  unfold au
  pointwise [val_main_v177, val_main_call2_v2, val_main_call2_v1, val_main_call2_v0, val_main_v176]
  rfl
-- ==== Proof.Ret.Fine.lean ====
module

public import proofs.«01_k».proof.Proof.Ret.RefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
/-! ## Real numbers among the extended reals

An entry is called fine where it is a real number. What the programs compute from fine entries is fine, and for fine entries
the two ways to write a row's gradient agree. -/

/-- An extended real that is a real number. -/
def Fine (x : EReal) : Prop := ∃ r : ℝ, x = (r : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

namespace Fine

theorem coe (r : ℝ) : Fine (r : EReal) := ⟨r, rfl⟩
theorem zero : Fine 0 := ⟨0, rfl⟩
theorem one : Fine 1 := ⟨1, rfl⟩

theorem add {x y : EReal} (hx : Fine x) (hy : Fine y) : Fine (x + y) := by
  obtain ⟨a, rfl⟩ := hx; obtain ⟨b, rfl⟩ := hy; exact ⟨a + b, (EReal.coe_add a b).symm⟩

theorem sub {x y : EReal} (hx : Fine x) (hy : Fine y) : Fine (x - y) := by
  obtain ⟨a, rfl⟩ := hx; obtain ⟨b, rfl⟩ := hy; exact ⟨a - b, (EReal.coe_sub a b).symm⟩

theorem mul {x y : EReal} (hx : Fine x) (hy : Fine y) : Fine (x * y) := by
  obtain ⟨a, rfl⟩ := hx; obtain ⟨b, rfl⟩ := hy; exact ⟨a * b, (EReal.coe_mul a b).symm⟩

theorem neg {x : EReal} (hx : Fine x) : Fine (-x) := by
  obtain ⟨a, rfl⟩ := hx; exact ⟨-a, (EReal.coe_neg a).symm⟩

theorem sum {ι : Type} (s : Finset ι) {f : ι → EReal} (hf : ∀ i, Fine (f i)) : Fine (∑ i ∈ s, f i) := by
  choose g hg using hf
  exact ⟨∑ i ∈ s, g i, by rw [coe_sum]; exact Finset.sum_congr rfl fun i _ => hg i⟩

theorem exp {x : EReal} (hx : Fine x) : Fine (Ideal.exp x) := by obtain ⟨a, rfl⟩ := hx; exact ⟨Real.exp a, rfl⟩
theorem sin {x : EReal} (hx : Fine x) : Fine (Ideal.sin x) := by obtain ⟨a, rfl⟩ := hx; exact ⟨Real.sin a, rfl⟩
theorem cos {x : EReal} (hx : Fine x) : Fine (Ideal.cos x) := by obtain ⟨a, rfl⟩ := hx; exact ⟨Real.cos a, rfl⟩

end Fine

theorem lit_256 : Ideal.ofBits .f32 0x43800000#32 = ((256 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_small : ∃ ε : ℝ, 0 < ε ∧ Ideal.ofBits .f32 0x358637BD#32 = ((ε : ℝ) : EReal) := by
  refine ⟨8796093 / 8796093022208, by norm_num, ?_⟩
  simp [Ideal.ofBits, Ideal.ieee, -EReal.coe_mul]; norm_num
theorem lit_scale : Fine (Ideal.ofBits .f32 0x3DB504F3#32) := by
  refine ⟨11863283 / 134217728, ?_⟩
  simp [Ideal.ofBits, Ideal.ieee, -EReal.coe_mul]; norm_num

theorem div_256 (r : ℝ) : Ideal.div (r : EReal) (Ideal.ofBits .f32 0x43800000#32) = ((r / 256 : ℝ) : EReal) := by
  rw [lit_256, Ideal.div_coe (by norm_num), ← EReal.coe_mul, mul_one_div]

theorem rmean_coe (x : Fin 256 → ℝ) : rmean (fun j => (x j : EReal)) = (((∑ j, x j) / 256 : ℝ) : EReal) := by
  unfold rmean
  rw [← coe_sum, div_256]

theorem rcen_coe (o : Fin 256 → ℝ) (e : Fin 256) : rcen (fun j => (o j : EReal)) e = ((o e - (∑ j, o j) / 256 : ℝ) : EReal) := by
  unfold rcen
  rw [rmean_coe, ← EReal.coe_sub]

/-- A row's distances from its mean sum to nothing. -/
theorem sum_cen (o : Fin 256 → ℝ) : ∑ e : Fin 256, (o e - (∑ j, o j) / 256) = 0 := by
  rw [Finset.sum_sub_distrib, Finset.sum_const, Finset.card_univ, Fintype.card_fin]
  simp only [nsmul_eq_mul]
  push_cast
  ring

/-- A row's variance is positive and its root's reciprocal squares to its reciprocal. -/
theorem rvar_coe (o : Fin 256 → ℝ) : ∃ v r : ℝ, v ≠ 0 ∧ r * r * v = 1 ∧ rvar (fun j => (o j : EReal)) = (v : EReal)
    ∧ rrs (fun j => (o j : EReal)) = (r : EReal) := by
  obtain ⟨ε, hε, he⟩ := lit_small
  have hv : rvar (fun j => (o j : EReal)) = (((∑ e, (o e - (∑ j, o j) / 256) * (o e - (∑ j, o j) / 256)) / 256 + ε : ℝ) : EReal) := by
    unfold rvar
    simp only [rcen_coe, ← EReal.coe_mul]
    rw [rmean_coe, he, ← EReal.coe_add]
  generalize hV : (∑ e, (o e - (∑ j, o j) / 256) * (o e - (∑ j, o j) / 256)) / 256 + ε = v at hv
  have hp : 0 < v := by
    rw [← hV]
    have : 0 ≤ ∑ e, (o e - (∑ j, o j) / 256) * (o e - (∑ j, o j) / 256) := Finset.sum_nonneg fun e _ => mul_self_nonneg _
    positivity
  refine ⟨v, (Real.sqrt v)⁻¹, hp.ne', ?_, hv, ?_⟩
  · rw [← mul_inv, Real.mul_self_sqrt hp.le, inv_mul_cancel₀ hp.ne']
  · show Ideal.rsqrt (rvar (fun j => (o j : EReal))) = _
    rw [hv, Ideal.rsqrt_coe, if_neg (not_lt.mpr hp.le), if_neg hp.ne']

/-- The row's gradient, the two ways to write it. -/
theorem pdo_eq (o y : Fin 256 → ℝ) (e : Fin 256) : pdo (fun j => (o j : EReal)) (fun j => (y j : EReal)) e
    = rrs (fun j => (o j : EReal)) * ((y e : EReal) - rmean (fun j => (y j : EReal))
      - roh (fun j => (o j : EReal)) e * rmean (fun j => (y j : EReal) * roh (fun j => (o j : EReal)) j)) := by
  obtain ⟨v, r, hv, hr, ev, er⟩ := rvar_coe o
  have hc := sum_cen o
  generalize hm : (∑ j, o j) / 256 = mu at hc
  unfold pdo rslope roh
  simp only [rcen_coe, ev, er, hm, lit_2, lit_neg_half, Ideal.div_coe hv, ← EReal.coe_mul, ← coe_sum, div_256, ← EReal.coe_neg, rmean_coe,
    ← EReal.coe_sub, ← EReal.coe_add, EReal.coe_eq_coe_iff]
  set A := ∑ j, (o j - mu) * y j with hA
  have h1 : ∑ j, -(y j * r) = -((∑ j, y j) * r) := by rw [Finset.sum_neg_distrib, Finset.sum_mul]
  have h2 : ∑ j, -(A * (-(1 / 2) * (r * (1 / v))) / 256 * (2 * (o j - mu))) = 0 := by
    rw [Finset.sum_neg_distrib, ← Finset.mul_sum, ← Finset.mul_sum, hc]; ring
  have h3 : ∑ j, y j * ((o j - mu) * r) = A * r := by
    rw [hA, Finset.sum_mul]; exact Finset.sum_congr rfl fun j _ => by ring
  rw [h1, h2, h3]
  have h4 : 1 / v = r * r := by field_simp; linarith
  rw [h4]
  ring

theorem rsig_fine {x : EReal} (hx : Fine x) : Fine (rsig x) := by
  obtain ⟨a, rfl⟩ := hx
  refine ⟨1 / (1 + Real.exp (-a)), ?_⟩
  unfold rsig
  have h : 1 + Real.exp (-a) ≠ 0 := by positivity
  rw [zero_sub, ← EReal.coe_neg, Ideal.exp_coe, ← EReal.coe_one, ← EReal.coe_add, Ideal.div_coe h, ← EReal.coe_mul, one_mul]

theorem row_real {x : Fin 256 → EReal} (hx : ∀ e, Fine (x e)) : ∃ r : Fin 256 → ℝ, x = fun e => (r e : EReal) := by
  choose r hr using hx
  exact ⟨r, funext hr⟩

theorem rmean_fine {x : Fin 256 → EReal} (hx : ∀ e, Fine (x e)) : Fine (rmean x) := by
  obtain ⟨r, rfl⟩ := row_real hx
  exact ⟨_, rmean_coe r⟩

theorem rrs_fine {o : Fin 256 → EReal} (ho : ∀ e, Fine (o e)) : Fine (rrs o) := by
  obtain ⟨r, rfl⟩ := row_real ho
  obtain ⟨v, r, hv, hr, ev, er⟩ := rvar_coe r
  exact ⟨r, er⟩

theorem roh_fine {o : Fin 256 → EReal} (ho : ∀ e, Fine (o e)) (e : Fin 256) : Fine (roh o e) :=
  ((ho e).sub (rmean_fine ho)).mul (rrs_fine ho)

theorem rdo_fine {o g du : Fin 256 → EReal} (ho : ∀ e, Fine (o e)) (hg : ∀ e, Fine (g e)) (hu : ∀ e, Fine (du e)) (e : Fin 256) :
    Fine (rdo o g du e) := by
  have hy : ∀ e, Fine (rdoh g du e) := fun e => (hu e).mul ((hg e).mul (rsig_fine (hg e)))
  exact (rrs_fine ho).mul (((hy e).sub (rmean_fine hy)).sub ((roh_fine ho e).mul (rmean_fine fun j => (hy j).mul (roh_fine ho j))))

/-- The reference's gradient of a row is the call's. -/
theorem pdo_rdo {o g du : Fin 256 → EReal} (ho : ∀ e, Fine (o e)) (hg : ∀ e, Fine (g e)) (hu : ∀ e, Fine (du e)) (e : Fin 256) :
    pdo o (fun j => g j * rsig (g j) * du j) e = rdo o g du e := by
  have hy : (fun j => g j * rsig (g j) * du j) = rdoh g du := funext fun j => mul_comm _ _
  rw [hy]
  have hf : ∀ e, Fine (rdoh g du e) := fun e => (hu e).mul ((hg e).mul (rsig_fine (hg e)))
  unfold rdo
  generalize rdoh g du = y at hf
  obtain ⟨o, rfl⟩ := row_real ho
  obtain ⟨y, rfl⟩ := row_real hf
  exact pdo_eq o y e

/-- The reference's gradient of the gate is the call's. -/
theorem pdg_rdg {o g du : Fin 256 → EReal} (ho : ∀ e, Fine (o e)) (hg : ∀ e, Fine (g e)) (hu : ∀ e, Fine (du e)) (e : Fin 256) :
    pdg o g du e = rdg o g du e := by
  unfold pdg rdg
  obtain ⟨a, ha⟩ := roh_fine ho e
  obtain ⟨u, hu⟩ := hu e
  obtain ⟨w, hw⟩ := rsig_fine (hg e)
  obtain ⟨g, hg⟩ := hg e
  rw [hw, ha, hu, hg]
  simp only [← EReal.coe_mul, ← EReal.coe_one, ← EReal.coe_sub, ← EReal.coe_add, EReal.coe_eq_coe_iff]
  ring
-- ==== Proof.Ret.Finite.lean ====
module

public import proofs.«01_k».proof.Proof.Ret.Fine
public import proofs.«01_k».proof.Proof.Gen.RetReferenceIdeal.Read
public import proofs.«01_k».proof.Defs
public import Idealize.ShloMosaic.Lib.Pointwise

@[expose] public section

set_option maxRecDepth 16384

noncomputable section

open Idealize.ShloMosaic Idealize.ShloMosaic.TcCoe Idealize.SL.Sem

/-! ## What the precondition says

The precondition compares the absolute value of every entry of the projections' retention columns and of the cotangent with
infinity; where it holds these entries are real numbers. -/

theorem Cert.Pre_finite.preFacts : Cert.Pre_finite.Facts where
  slices_S2x2048x6656_S2x2048x3072_0_0_0 := by decide
  concatenates_S2x2048x3072_S2x2048x1024_S2x2048x4096_d2 := by decide
  bcast_S_S2x2048x4096 := by decide

namespace Cert.RetKernelIdeal.Value

open Cert.Pre_finite

theorem fine_of_lt {x : EReal} (h : max x (-x) < Ideal.ofBits .f32 0x7F800000#32) : Fine x := by
  have e : Ideal.ofBits .f32 0x7F800000#32 = (⊤ : EReal) := by simp [Ideal.ofBits, Ideal.ieee]
  rw [e] at h
  induction x using EReal.rec with
  | bot => simp at h
  | coe r => exact ⟨r, rfl⟩
  | top => simp at h

theorem of_bit (p : Prop) [hp : Decidable p] (h : BitVec.ofBool (decide p) = 1#1) : p := by
  by_contra hc
  rw [decide_eq_false hc] at h
  exact absurd h (by decide)

variable [Cert.Pre_finite.Facts]

theorem pre_at (x0 : FVec Ideal S2x2048x6656 .f32) (x1 : FVec Ideal S2x2048x1024 .f32)
    (h : Cert.Pre_finite.fn (F := Ideal) x0 x1 = fun _ => 1#1) (b : Fin 2) (s : Fin 2048) (k : Fin 4096) :
    Fine (if hk : k.val < 3072 then x0 (ix3 b s ⟨k.val, by omega⟩) else x1 (ix3 b s ⟨k.val - 3072, by omega⟩)) := by
  have := congrFun h (ix3 b s k)
  unfold Cert.Pre_finite.fn at this
  revert this
  pointwise
  intro this
  exact fine_of_lt (of_bit _ this)

theorem pre_proj (x0 : FVec Ideal S2x2048x6656 .f32) (x1 : FVec Ideal S2x2048x1024 .f32)
    (h : Cert.Pre_finite.fn (F := Ideal) x0 x1 = fun _ => 1#1) (i : S2x2048x3072.Idx) :
    Fine (Cert.RetReferenceIdeal.Read.val_main_v0 (F := Ideal) x0 i) := by
  obtain ⟨b, s, k, rfl⟩ : ∃ (b : Fin 2) (s : Fin 2048) (k : Fin 3072), i = ix3 b s k := ⟨_, _, _, eq_ix3 i⟩
  have := pre_at x0 x1 h b s ⟨k.val, by omega⟩
  rw [dif_pos k.isLt] at this
  pointwise [Cert.RetReferenceIdeal.Read.val_main_v0]
  exact this

theorem pre_grad (x0 : FVec Ideal S2x2048x6656 .f32) (x1 : FVec Ideal S2x2048x1024 .f32)
    (h : Cert.Pre_finite.fn (F := Ideal) x0 x1 = fun _ => 1#1) (i : S2x2048x1024.Idx) : Fine (x1 i) := by
  obtain ⟨b, s, k, rfl⟩ : ∃ (b : Fin 2) (s : Fin 2048) (k : Fin 1024), i = ix3 b s k := ⟨_, _, _, eq_ix3 i⟩
  have := pre_at x0 x1 h b s ⟨3072 + k.val, by omega⟩
  rw [dif_neg (by simp)] at this
  have e : (⟨3072 + k.val - 3072, by omega⟩ : Fin 1024) = k := Fin.ext (by simp)
  exact e ▸ this

end Cert.RetKernelIdeal.Value

end
-- ==== Proof.Ret.RefAt.lean ====
module

public import proofs.«01_k».proof.Proof.Ret.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

/-! ## The reference's gradients of the values, queries and keys, as they are written -/

variable (x0 : FVec Ideal S2x2048x6656 .f32) (x1 : FVec Ideal S2x2048x1024 .f32) (b : Fin 2) (h : Fin 4) (C : Fin 32)

/-- The gradient of the retention's output in the reference. -/
def pR (s : Fin 2048) (e : Fin 256) : EReal := val_main_v203 (F := Ideal) x0 x1 (ix4 b s h e)
/-- The decay of a place of a chunk, from the chunk's start. -/
def qdec (p : Fin 64) : EReal := val_main_v100 (F := Ideal) (ix2 p h)
/-- The decay from a token to the start of a later chunk. -/
def wdec (C : Fin 32) (s : Fin 2048) : EReal := val_main_v121 (F := Ideal) (ix3 h C s)

theorem ref_204 (n : Fin 64) (e : Fin 256) : val_main_v204 (F := Ideal) x0 x1 (ix5 b C n h e) = pR x0 x1 b h (tok C n) e := by
  unfold pR tok
  pointwise [val_main_v204]
  blk_ext

theorem ref_132 (n : Fin 64) (d : Fin 128) : val_main_v132 (F := Ideal) x0 (ix5 b C n h d) = aq x0 b h (tok C n) d := by
  unfold aq tok
  pointwise [val_main_v132]
  blk_ext

theorem ref_133 (n : Fin 64) (d : Fin 128) : val_main_v133 (F := Ideal) x0 (ix5 b C n h d) = ak x0 b h (tok C n) d := by
  unfold ak tok
  pointwise [val_main_v133]
  blk_ext

theorem ref_134 (n : Fin 64) (e : Fin 256) : val_main_v134 (F := Ideal) x0 (ix5 b C n h e) = av x0 b h (tok C n) e := by
  unfold av tok
  pointwise [val_main_v134]
  blk_ext

theorem ref_143 (n : Fin 64) (d : Fin 128) : val_main_v143 (F := Ideal) x0 (ix5 b C n h d) = aq x0 b h (tok C n) d * qdec h n := by
  rw [← ref_132]
  unfold qdec
  pointwise [val_main_v143, val_main_v142, val_main_v141, val_main_v101]

theorem ref_138 (n p : Fin 64) : val_main_v138 (F := Ideal) x0 (ix5 b C h n p)
    = (∑ d : Fin 128, aq x0 b h (tok C n) d * ak x0 b h (tok C p) d) * intra h n p := by
  simp only [← ref_132, ← ref_133]
  unfold intra
  pointwise [val_main_v138, val_main_v137, val_main_v136, val_main_v135]

theorem ref_217 (n p : Fin 64) : val_main_v217 (F := Ideal) x0 x1 (ix5 b C h n p)
    = (∑ e : Fin 256, pR x0 x1 b h (tok C n) e * av x0 b h (tok C p) e) * intra h n p := by
  simp only [← ref_204, ← ref_134]
  unfold intra
  pointwise [val_main_v217, val_main_v216, val_main_v136, val_main_v213, val_main_v212]

theorem ref_209 (d : Fin 128) (e : Fin 256) : val_main_v209 (F := Ideal) x0 x1 (ix5 b h C d e)
    = ∑ n : Fin 64, pR x0 x1 b h (tok C n) e * (aq x0 b h (tok C n) d * qdec h n) := by
  simp only [← ref_204, ← ref_143]
  pointwise [val_main_v209, val_main_v208, val_main_v205]

theorem ref_223 (p : Fin 64) (e : Fin 256) : val_main_v223 (F := Ideal) x0 x1 (ix4 b (tok C p) h e)
    = ∑ n : Fin 64, pR x0 x1 b h (tok C n) e * ((∑ d : Fin 128, aq x0 b h (tok C n) d * ak x0 b h (tok C p) d) * intra h n p) := by
  simp only [← ref_138, ← ref_204]
  have hr : val_main_v223 (F := Ideal) x0 x1 (ix4 b (tok C p) h e) = val_main_v215 (F := Ideal) x0 x1 (ix5 b C p h e) := by
    unfold tok
    pointwise [val_main_v223]
    blk_ext
  rw [hr]
  pointwise [val_main_v215, val_main_v214, val_main_v212]

theorem ref_224 (p : Fin 64) (d : Fin 128) : val_main_v224 (F := Ideal) x0 x1 (ix4 b (tok C p) h d)
    = ∑ n : Fin 64, (∑ e : Fin 256, pR x0 x1 b h (tok C n) e * av x0 b h (tok C p) e) * intra h n p * aq x0 b h (tok C n) d := by
  simp only [← ref_217, ← ref_132]
  have hr : val_main_v224 (F := Ideal) x0 x1 (ix4 b (tok C p) h d) = val_main_v219 (F := Ideal) x0 x1 (ix5 b C p h d) := by
    unfold tok
    pointwise [val_main_v224]
    blk_ext
  rw [hr]
  pointwise [val_main_v219, val_main_v218]

theorem ref_225 (p : Fin 64) (d : Fin 128) : val_main_v225 (F := Ideal) x0 x1 (ix4 b (tok C p) h d)
    = (∑ e : Fin 256, pR x0 x1 b h (tok C p) e * ast x0 b h C d e) * qdec h p
      + ∑ k : Fin 64, (∑ e : Fin 256, pR x0 x1 b h (tok C p) e * av x0 b h (tok C k) e) * intra h p k * ak x0 b h (tok C k) d := by
  simp only [← ref_217, ← ref_133, ← ref_204]
  have hr : val_main_v225 (F := Ideal) x0 x1 (ix4 b (tok C p) h d) = val_main_v222 (F := Ideal) x0 x1 (ix5 b C p h d) := by
    unfold tok
    pointwise [val_main_v225]
    blk_ext
  rw [hr]
  unfold qdec ast
  pointwise [val_main_v222, val_main_v221, val_main_v220, val_main_v211, val_main_v210, val_main_v141, val_main_v101, val_main_v207, val_main_v206, val_main_v205]
  simp only [ref_217, ← ref_204]

theorem ref_130 (C : Fin 32) (s : Fin 2048) (d : Fin 128) : val_main_v130 (F := Ideal) x0 (ix5 b h C s d) = ak x0 b h s d * wdec h C s := by
  unfold ak wdec
  pointwise [val_main_v130, val_main_v129, val_main_v128, val_main_v127, val_main_v126, val_main_v125, val_main_v124]

theorem ref_239 (s : Fin 2048) (d : Fin 128) : val_main_v239 (F := Ideal) x0 x1 (ix4 b s h d)
    = (val_main_v224 (F := Ideal) x0 x1 (ix4 b s h d)
      + ∑ C : Fin 32, (∑ e : Fin 256, val_main_v209 (F := Ideal) x0 x1 (ix5 b h C d e) * av x0 b h s e) * wdec h C s)
      * Ideal.ofBits .f32 0x3DB504F3#32 := by
  unfold av wdec
  pointwise [val_main_v239, val_main_v238, val_main_cst_33, val_main_v237, val_main_v236, val_main_v235, val_main_cst_32, val_main_v234, val_main_v233,
    val_main_cst_31, val_main_v232, val_main_v231, val_main_v127, val_main_v126, val_main_v230, val_main_v229]
  simp only [Finset.univ_unique, Finset.sum_singleton]

theorem ref_228 (s : Fin 2048) (e : Fin 256) : val_main_v228 (F := Ideal) x0 x1 (ix4 b s h e)
    = val_main_v223 (F := Ideal) x0 x1 (ix4 b s h e)
      + ∑ C : Fin 32, ∑ d : Fin 128, val_main_v209 (F := Ideal) x0 x1 (ix5 b h C d e) * (ak x0 b h s d * wdec h C s) := by
  simp only [← ref_130]
  pointwise [val_main_v228, val_main_v227]
  pointwise [val_main_v226]
-- ==== Proof.Ret.RefOut.lean ====
module

public import proofs.«01_k».proof.Proof.Ret.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

/-! ## The reference's result at a token and a column -/

variable (x0 : FVec Ideal S2x2048x6656 .f32) (x1 : FVec Ideal S2x2048x1024 .f32) (b : Fin 2) (s : Fin 2048)

theorem turn_lo (x : Fin 128 → EReal) (d : Fin 128) (hd : d.val < 64) :
    turn x s d = x ⟨d.val + 64, by omega⟩ * sinT s ⟨d.val, hd⟩ + x d * cosT s ⟨d.val, hd⟩ := by
  have e1 : (⟨(d : ℕ) % 64, by omega⟩ : Fin 64) = ⟨d.val, hd⟩ := Fin.ext (by simp only; omega)
  have e2 : (⟨((d : ℕ) + 64) % 128, by omega⟩ : Fin 128) = ⟨d.val + 64, by omega⟩ := Fin.ext (by simp only; omega)
  unfold turn sinC
  rw [dif_pos hd, e1, e2, zero_sub, neg_neg, add_comm]

theorem turn_hi (x : Fin 128 → EReal) (d : Fin 128) (hd : ¬ d.val < 64) :
    turn x s d = x d * cosT s ⟨d.val - 64, by omega⟩ + -x ⟨d.val - 64, by omega⟩ * sinT s ⟨d.val - 64, by omega⟩ := by
  have e1 : (⟨(d : ℕ) % 64, by omega⟩ : Fin 64) = ⟨d.val - 64, by omega⟩ := Fin.ext (by simp only; omega)
  have e2 : (⟨((d : ℕ) + 64) % 128, by omega⟩ : Fin 128) = ⟨d.val - 64, by omega⟩ := Fin.ext (by simp only; omega)
  unfold turn sinC
  rw [dif_neg hd, e1, e2, zero_sub, mul_neg, neg_mul]

theorem ref_turn_k (h : Fin 4) (d : Fin 128) :
    val_main_v256 (F := Ideal) x0 x1 (ix4 b s h d) = turn (fun d => val_main_v239 (F := Ideal) x0 x1 (ix4 b s h d)) s d := by
  by_cases hd : d.val < 64
  · rw [turn_lo s _ d hd]
    unfold sinT cosT
    pointwise [val_main_v256, val_main_v255, val_main_v254, val_main_cst_34, val_main_cst_35, val_main_v253, val_main_v252, val_main_v251, val_main_v246,
      val_main_v245, val_main_v241, val_main_v242, val_main_v55, val_main_v57, val_main_v250]
    rw [dif_neg (by omega), dif_pos hd, zero_add]
    simp only [Nat.add_comm 64]
  · have e : (⟨64 + (d.val - 64), by omega⟩ : Fin 128) = d := Fin.ext (by simp only; omega)
    rw [turn_hi s _ d hd]
    unfold sinT cosT
    pointwise [val_main_v256, val_main_v255, val_main_v254, val_main_cst_34, val_main_cst_35, val_main_v250, val_main_v249, val_main_v248, val_main_v247,
      val_main_v244, val_main_v243, val_main_v241, val_main_v242, val_main_v55, val_main_v57]
    rw [dif_pos (by omega), dif_neg hd, add_zero, e]

theorem tables_cos : val_main_v21 (F := Ideal) = val_main_v54 (F := Ideal) := rfl
theorem tables_sin : val_main_v23 (F := Ideal) = val_main_v56 (F := Ideal) := rfl

theorem ref_turn_q (h : Fin 4) (d : Fin 128) :
    val_main_v273 (F := Ideal) x0 x1 (ix4 b s h d) = turn (fun d => val_main_v225 (F := Ideal) x0 x1 (ix4 b s h d)) s d := by
  by_cases hd : d.val < 64
  · rw [turn_lo s _ d hd]
    unfold sinT cosT
    rw [← tables_cos, ← tables_sin]
    pointwise [val_main_v273, val_main_v272, val_main_v271, val_main_cst_36, val_main_cst_37, val_main_v270, val_main_v269, val_main_v268, val_main_v263,
      val_main_v262, val_main_v258, val_main_v259, val_main_v22, val_main_v24, val_main_v267]
    rw [dif_neg (by omega), dif_pos hd, zero_add]
    simp only [Nat.add_comm 64]
  · have e : (⟨64 + (d.val - 64), by omega⟩ : Fin 128) = d := Fin.ext (by simp only; omega)
    rw [turn_hi s _ d hd]
    unfold sinT cosT
    rw [← tables_cos, ← tables_sin]
    pointwise [val_main_v273, val_main_v272, val_main_v271, val_main_cst_36, val_main_cst_37, val_main_v267, val_main_v266, val_main_v265, val_main_v264,
      val_main_v261, val_main_v260, val_main_v258, val_main_v259, val_main_v22, val_main_v24]
    rw [dif_pos (by omega), dif_neg hd, add_zero, e]

/-- The reference's result at a token and a column, from the gradients of its four parts. -/
def pout (b : Fin 2) (s : Fin 2048) (k : ℕ) : EReal :=
  if k < 512 then turn (fun d => val_main_v225 (F := Ideal) x0 x1 (ix4 b s ⟨k / 128 % 4, by omega⟩ d)) s ⟨k % 128, by omega⟩
  else if k < 1024 then turn (fun d => val_main_v239 (F := Ideal) x0 x1 (ix4 b s ⟨(k - 512) / 128 % 4, by omega⟩ d)) s ⟨k % 128, by omega⟩
  else if k < 2048 then val_main_v228 (F := Ideal) x0 x1 (ix4 b s ⟨(k - 1024) / 256 % 4, by omega⟩ ⟨k % 256, by omega⟩)
  else val_main_v177 (F := Ideal) x0 x1 (ix3 b s ⟨(k - 2048) % 1024, by omega⟩)

theorem ref_280 (k : Fin 3072) : val_main_v280 (F := Ideal) x0 x1 (ix3 b s k) = pout x0 x1 b s k.val := by
  unfold pout
  rw [← ref_turn_q, ← ref_turn_k]
  pointwise [val_main_v280, val_main_v279, val_main_cst_40, val_main_v278, val_main_v277, val_main_cst_39, val_main_v276, val_main_v275, val_main_cst_38,
    val_main_v178, val_main_cst_23, val_main_v274, val_main_v257, val_main_v240]
  by_cases h1 : k.val < 512
  · have e : (⟨k.val / 128, by omega⟩ : Fin 4) = ⟨k.val / 128 % 4, by omega⟩ := Fin.ext (by simp only; omega)
    rw [dif_neg (by omega), dif_neg (by omega), dif_neg (by omega), dif_pos h1, if_pos h1, zero_add, zero_add, zero_add, e]
  · by_cases h2 : k.val < 1024
    · have e : (⟨(k.val - 512) / 128, by omega⟩ : Fin 4) = ⟨(k.val - 512) / 128 % 4, by omega⟩ := Fin.ext (by simp only; omega)
      have e' : (⟨(k.val - 512) % 128, by omega⟩ : Fin 128) = ⟨k.val % 128, by omega⟩ := Fin.ext (by simp only; omega)
      rw [dif_neg (by omega), dif_neg (by omega), dif_pos (by omega), dif_neg h1, if_neg h1, if_pos h2, zero_add, zero_add, add_zero, e, e']
    · by_cases h3 : k.val < 2048
      · have e : (⟨(k.val - 1024) / 256, by omega⟩ : Fin 4) = ⟨(k.val - 1024) / 256 % 4, by omega⟩ := Fin.ext (by simp only; omega)
        have e' : (⟨(k.val - 1024) % 256, by omega⟩ : Fin 256) = ⟨k.val % 256, by omega⟩ := Fin.ext (by simp only; omega)
        rw [dif_neg (by omega), dif_pos (by omega), dif_neg (by omega), dif_neg h1, if_neg h1, if_neg h2, if_pos h3, zero_add, add_zero, add_zero,
          e, e']
      · have e : (⟨k.val - 2048, by omega⟩ : Fin 1024) = ⟨(k.val - 2048) % 1024, by omega⟩ := Fin.ext (by simp only; omega)
        rw [dif_pos (by omega), dif_neg (by omega), dif_neg (by omega), dif_neg h1, if_neg h1, if_neg h2, if_neg h3, add_zero, add_zero, add_zero, e]

theorem ref_282 (R : Fin 4096) (k : Fin 3072) :
    val_main_v282 (F := Ideal) x0 x1 (ix2 R k) = pout x0 x1 ⟨R.val / 2048, by omega⟩ ⟨R.val % 2048, by omega⟩ k.val := by
  rw [← ref_280]
  pointwise [val_main_v282, val_main_v281]
  blk_ext
-- ==== Proof.Ret.FineAt.lean ====
module

public import proofs.«01_k».proof.Proof.Ret.Fine
public import proofs.«01_k».proof.Proof.Ret.Tiles
public import proofs.«01_k».proof.Proof.Ret.RefAt
public import proofs.«01_k».proof.Proof.Ret.RefOut
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read

/-! ## Which arrays of the reference are fine -/

theorem div_fine {x y : EReal} (hx : Fine x) {r : ℝ} (hr : r ≠ 0) (hy : y = (r : EReal)) : Fine (Ideal.div x y) := by
  rw [hy, Ideal.div_coe hr]
  exact hx.mul (Fine.coe _)

theorem pow_fine {x y : EReal} (hx : Fine x) (hy : Fine y) : Fine (Ideal.pow x y) := by
  obtain ⟨a, rfl⟩ := hx; obtain ⟨b, rfl⟩ := hy; exact ⟨_, Ideal.pow_coe_coe a b⟩

theorem lit_128 : Ideal.ofBits .f32 0x43000000#32 = ((128 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_neg_5 : Ideal.ofBits .f32 0xC0A00000#32 = ((-5 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

/-- The logarithm of a head's decay is a real number: the decay is one less a power of a half. -/
theorem lg_real (h : Fin 4) : ∃ l : ℝ, lg h = (l : EReal) := by
  refine ⟨Real.log (1 - Real.rpow 2 (-5 - (h.val : ℝ))), ?_⟩
  have hp : Real.rpow 2 (-5 - (h.val : ℝ)) < 1 :=
    Real.rpow_lt_one_of_one_lt_of_neg (by norm_num) (by have := Nat.cast_nonneg (α := ℝ) h.val; linarith)
  unfold lg
  pointwise [val_main_v79, val_main_v78, val_main_v77, val_main_v76, val_main_v75, val_main_v74, val_main_v73, val_main_v72, val_main_cst_7,
    val_main_cst_8, val_main_cst_9]
  rw [sitofp_nat _ (by omega), lit_2, lit_neg_5, ← EReal.coe_sub, Ideal.pow_coe_coe, ← EReal.coe_one, ← EReal.coe_sub, Ideal.log_coe,
    if_neg (by linarith)]

theorem dec_real (h : Fin 4) : ∃ l : ℝ, ∀ r : ℝ, dec h r = ((Real.exp (l * r) : ℝ) : EReal) := by
  obtain ⟨l, hl⟩ := lg_real h
  refine ⟨l, fun r => ?_⟩
  unfold dec
  rw [hl, ← EReal.coe_mul, Ideal.exp_coe]

theorem dec_fine (h : Fin 4) (r : ℝ) : Fine (dec h r) := by
  obtain ⟨l, hl⟩ := dec_real h
  exact ⟨_, hl r⟩

theorem intra_fine (h : Fin 4) (n p : Fin 64) : Fine (intra h n p) := by
  unfold intra
  pointwise [val_main_v92, val_main_v91, val_main_v90, val_main_v89, val_main_v88, val_main_v87, val_main_v86, val_main_v85, val_main_v84,
    val_main_v83, val_main_v82, val_main_v81, val_main_v80]
  have hx : Fine (FloatOps.sitofp (F := Ideal) FTy.f32 (BitVec.ofNat 32 n.val) - FloatOps.sitofp (F := Ideal) FTy.f32 (BitVec.ofNat 32 p.val)) :=
    Fine.sub ⟨_, rfl⟩ ⟨_, rfl⟩
  refine (Fine.mul (lg_real h) ?_).exp
  obtain ⟨r, hr⟩ := hx
  rw [hr]
  show Fine (max (r : EReal) (-(r : EReal)))
  rcases max_choice (r : EReal) (-(r : EReal)) with e | e <;> rw [e]
  · exact Fine.coe r
  · exact (Fine.coe r).neg

theorem qdec_eq (h : Fin 4) (p : Fin 64) : qdec h p = dec h (p.val + 1) := by
  unfold qdec dec lg
  pointwise [val_main_v100, val_main_v99, val_main_v98, val_main_v97, val_main_v96, val_main_v95, val_main_v94, val_main_v93, val_main_v80,
    val_main_cst_10]
  rw [sitofp_nat _ (by omega), ← EReal.coe_one, ← EReal.coe_add]

theorem wdec_eq (h : Fin 4) (C : Fin 32) (s : Fin 2048) :
    wdec h C s = if s.val < 64 * C.val then dec h (64 * C.val - 1 - s.val) else 0 := by
  unfold wdec dec lg
  pointwise [val_main_v121, val_main_call0_v0, val_main_call0_v1, val_main_call0_v2, val_main_cst_14, val_main_v120, val_main_v119, val_main_v118,
    val_main_v117, val_main_v116, val_main_v115, val_main_v114, val_main_v113, val_main_v112, val_main_v111, val_main_v110, val_main_v109,
    val_main_v108, val_main_v107, val_main_v106, val_main_v105, val_main_v104, val_main_v103, val_main_v102, val_main_cst_11, val_main_cst_12,
    val_main_cst_13]
  rw [sitofp_nat _ (by omega), sitofp_nat _ (by omega), lit_64, ← EReal.coe_one, ← EReal.coe_mul, ← EReal.coe_sub, ← EReal.coe_sub]
  have hz : (id (constant (F := Ideal) RetReferenceIdeal.S_ FTy.f32 0#32) ix0 : EReal) = 0 := Ideal.ofBits_zero_f32
  rw [hz]
  have hc : (0 : EReal) ≤ ((64 * (C.val : ℝ) - 1 - (s.val : ℝ) : ℝ) : EReal) ↔ s.val < 64 * C.val := by
    rw [← EReal.coe_zero, EReal.coe_le_coe_iff]
    constructor
    · intro h
      have h' : ((s.val + 1 : ℕ) : ℝ) ≤ ((64 * C.val : ℕ) : ℝ) := by push_cast; linarith
      have := Nat.cast_le.mp h'
      omega
    · intro h
      have h' : ((s.val + 1 : ℕ) : ℝ) ≤ ((64 * C.val : ℕ) : ℝ) := Nat.cast_le.mpr h
      push_cast at h'
      linarith
  simp only [hc]

theorem wdec_fine (h : Fin 4) (C : Fin 32) (s : Fin 2048) : Fine (wdec h C s) := by
  rw [wdec_eq]
  split_ifs
  · exact dec_fine _ _
  · exact Fine.zero

theorem angle_fine (s : Fin 2048) (d : Fin 64) : Fine (val_main_v53 (F := Ideal) (ix2 s d)) := by
  pointwise [val_main_v53, val_main_v52, val_main_v51, val_main_v50, val_main_v49, val_main_v48, val_main_v47, val_main_v46, val_main_v45,
    val_main_v44, val_main_v43, val_main_v42, val_main_v41, val_main_v40, val_main_v39, val_main_cst_3, val_main_cst_4, val_main_cst_5,
    val_main_cst_6, val_main_v4]
  refine Fine.mul ⟨_, rfl⟩ (pow_fine ⟨_, lit_10000⟩ (div_fine (Fine.neg (Fine.mul ⟨_, lit_2⟩ ⟨_, rfl⟩)) (by norm_num) lit_128))

theorem cos_fine (s : Fin 2048) (d : Fin 64) : Fine (val_main_v54 (F := Ideal) (ix2 s d)) := (angle_fine s d).cos
theorem sin_fine (s : Fin 2048) (d : Fin 64) : Fine (val_main_v56 (F := Ideal) (ix2 s d)) := (angle_fine s d).sin

section
variable (x0 : FVec Ideal S2x2048x6656 .f32) (H : ∀ i, Fine (val_main_v0 (F := Ideal) x0 i)) (b : Fin 2) (h : Fin 4)
include H

theorem f5 (i) : Fine (val_main_v5 (F := Ideal) x0 i) := by rw [val_main_v5_apply, val_main_v1_apply]; exact H _
theorem f38 (i) : Fine (val_main_v38 (F := Ideal) x0 i) := by rw [val_main_v38_apply, val_main_v2_apply]; exact H _
theorem f71 (i) : Fine (val_main_v71 (F := Ideal) x0 i) := by rw [val_main_v71_apply, val_main_v3_apply]; exact H _

theorem f31 (s : Fin 2048) (d : Fin 64) : Fine (val_main_v31 (F := Ideal) x0 (ix4 b s h d)) := by
  pointwise [val_main_v31, val_main_v28, val_main_v27, val_main_v22, val_main_v30, val_main_v29, val_main_v24, val_main_v25, val_main_v26]
  rw [tables_cos, tables_sin]
  exact ((f5 x0 H _).mul (cos_fine _ _)).sub ((f5 x0 H _).mul (sin_fine _ _))

theorem f36 (s : Fin 2048) (d : Fin 64) : Fine (val_main_v36 (F := Ideal) x0 (ix4 b s h d)) := by
  pointwise [val_main_v36, val_main_v22, val_main_v24, val_main_v25, val_main_v26, val_main_v33, val_main_v32, val_main_v35, val_main_v34]
  rw [tables_cos, tables_sin]
  exact ((f5 x0 H _).mul (sin_fine _ _)).add ((f5 x0 H _).mul (cos_fine _ _))

theorem f64 (s : Fin 2048) (d : Fin 64) : Fine (val_main_v64 (F := Ideal) x0 (ix4 b s h d)) := by
  pointwise [val_main_v64, val_main_v61, val_main_v60, val_main_v55, val_main_v63, val_main_v62, val_main_v57, val_main_v58, val_main_v59]
  exact ((f38 x0 H _).mul (cos_fine _ _)).sub ((f38 x0 H _).mul (sin_fine _ _))

theorem f69 (s : Fin 2048) (d : Fin 64) : Fine (val_main_v69 (F := Ideal) x0 (ix4 b s h d)) := by
  pointwise [val_main_v69, val_main_v55, val_main_v57, val_main_v58, val_main_v59, val_main_v66, val_main_v65, val_main_v68, val_main_v67]
  exact ((f38 x0 H _).mul (sin_fine _ _)).add ((f38 x0 H _).mul (cos_fine _ _))

theorem aq_fine (s : Fin 2048) (d : Fin 128) : Fine (aq x0 b h s d) := by
  unfold aq
  pointwise [val_main_v37]
  by_cases hd : d.val < 64
  · rw [dif_pos hd]; exact f31 x0 H b h s _
  · rw [dif_neg hd]; exact f36 x0 H b h s _

theorem ak_fine (s : Fin 2048) (d : Fin 128) : Fine (ak x0 b h s d) := by
  have hk : Fine (val_main_v70 (F := Ideal) x0 (ix4 b s h d)) := by
    pointwise [val_main_v70]
    by_cases hd : d.val < 64
    · rw [dif_pos hd]; exact f64 x0 H b h s _
    · rw [dif_neg hd]; exact f69 x0 H b h s _
  unfold ak
  pointwise [val_main_v123, val_main_v122, val_main_cst_15]
  exact hk.mul lit_scale

theorem av_fine (s : Fin 2048) (e : Fin 256) : Fine (av x0 b h s e) := f71 x0 H _

theorem ag_fine (s : Fin 2048) (e : Fin 256) : Fine (ag x0 b h s e) := by
  rw [← ref_g, val_main_v172_apply]
  exact H _

theorem ast_fine (C : Fin 32) (d : Fin 128) (e : Fin 256) : Fine (ast x0 b h C d e) := by
  unfold ast
  pointwise [val_main_v131]
  refine Fine.sum _ fun s => Fine.mul ?_ (f71 x0 H _)
  rw [ref_130]
  exact (ak_fine x0 H b h s d).mul (wdec_fine h C s)

theorem ao_fine (s : Fin 2048) (e : Fin 256) : Fine (ao x0 b h s e) := by
  rw [← tok_chunk s]
  have hr : ao x0 b h (tok (chunk s) (place s)) e = val_main_v146 (F := Ideal) x0 (ix5 b (chunk s) (place s) h e) := by
    unfold ao tok
    pointwise [val_main_v147]
    blk_ext
  rw [hr]
  pointwise [val_main_v146, val_main_v145, val_main_v144, val_main_v140, val_main_v139]
  refine Fine.add (Fine.sum _ fun k => ?_) (Fine.sum _ fun d => ?_)
  · rw [ref_134, ref_138]
    exact (av_fine x0 H b h _ _).mul (Fine.mul (Fine.sum _ fun d => (aq_fine x0 H b h _ _).mul (ak_fine x0 H b h _ _)) (intra_fine _ _ _))
  · rw [ref_143, qdec_eq]
    exact (ast_fine x0 H b h _ _ _).mul ((aq_fine x0 H b h _ _).mul (dec_fine _ _))

end
-- ==== Proof.Ret.Equal.lean ====
module

public import proofs.«01_k».proof.Proof.Ret.FineAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetKernelIdeal.Value

open Cert.RetKernelIdeal Cert.RetKernelIdeal.Gen
open Cert.RetReferenceIdeal.Read
/-! ## The reference's result is the call's

The reference sums, for a token, over all later chunks with the decay from the token to each of them; the call carries the
gradient of the state from chunk to chunk and decays it once inside the token's own chunk. -/

theorem fine_mul_sum {ι : Type} (s : Finset ι) {x : EReal} {f : ι → EReal} (hx : Fine x) (hf : ∀ i, Fine (f i)) :
    x * ∑ i ∈ s, f i = ∑ i ∈ s, x * f i := by
  obtain ⟨a, rfl⟩ := hx
  choose g hg using hf
  simp only [hg, ← coe_sum, ← EReal.coe_mul]
  rw [Finset.mul_sum]

/-- What is carried after the last `n` chunks, as a sum over them. -/
def carried (l : ℝ) (a : Fin 32 → ℝ) (n : ℕ) : ℝ :=
  ∑ C : Fin 32, if 32 - n ≤ C.val then Real.exp (l * (64 * (C.val + n - 32))) * a C else 0

theorem carried_zero (l : ℝ) (a : Fin 32 → ℝ) : carried l a 0 = 0 :=
  Finset.sum_eq_zero fun C _ => if_neg (by omega)

theorem carried_succ (l : ℝ) (a : Fin 32 → ℝ) (n : ℕ) (hn : n < 32) :
    carried l a (n + 1) = carried l a n * Real.exp (l * 64) + a ⟨31 - n, by omega⟩ := by
  unfold carried
  have ha : a ⟨31 - n, by omega⟩ = ∑ C : Fin 32, if C = ⟨31 - n, by omega⟩ then a C else 0 := by
    rw [Finset.sum_ite_eq' Finset.univ, if_pos (Finset.mem_univ _)]
  rw [ha, Finset.sum_mul, ← Finset.sum_add_distrib]
  refine Finset.sum_congr rfl fun C _ => ?_
  by_cases h1 : 32 - n ≤ C.val
  · have h3 : ¬ C = ⟨31 - n, by omega⟩ := fun h => by rw [h] at h1; simp only at h1; omega
    rw [if_pos h1, if_pos (by omega), if_neg h3, add_zero, mul_right_comm, ← Real.exp_add]
    push_cast
    ring_nf
  · by_cases h2 : C.val = 31 - n
    · have h3 : C = ⟨31 - n, by omega⟩ := Fin.ext h2
      have h4 : (C.val : ℝ) + ((n + 1 : ℕ) : ℝ) - 32 = 0 := by
        have : C.val + (n + 1) = 32 := by omega
        have : ((C.val + (n + 1) : ℕ) : ℝ) = 32 := by rw [this]; norm_num
        push_cast at this ⊢
        linarith
      rw [if_neg h1, if_pos (by omega), if_pos h3, h4]
      simp
    · have h3 : ¬ C = ⟨31 - n, by omega⟩ := fun h => h2 (by rw [h])
      rw [if_neg h1, if_neg (by omega), if_neg h3]
      simp

section
variable (x0 : FVec Ideal S2x2048x6656 .f32) (x1 : FVec Ideal S2x2048x1024 .f32) (H : ∀ i, Fine (val_main_v0 (F := Ideal) x0 i)) (H1 : ∀ i, Fine (x1 i))
  (b : Fin 2) (h : Fin 4)
include H H1

theorem au_fine (s : Fin 2048) (e : Fin 256) : Fine (au x1 b h s e) := H1 _

theorem gdo_fine (s : Fin 2048) (e : Fin 256) : Fine (gdo x0 x1 b h s e) :=
  rdo_fine (ao_fine x0 H b h s) (ag_fine x0 H b h s) (fun _ => H1 _) e

theorem pR_eq (s : Fin 2048) (e : Fin 256) : pR x0 x1 b h s e = gdo x0 x1 b h s e :=
  (ref_do x0 x1 b h s e).trans (pdo_rdo (ao_fine x0 H b h s) (ag_fine x0 H b h s) (fun _ => H1 _) e)

theorem gadd_fine (C : Fin 32) (d : Fin 128) (e : Fin 256) : Fine (gadd x0 x1 b h C d e) :=
  Fine.sum _ fun n => ((aq_fine x0 H b h _ _).mul (dec_fine _ _)).mul (gdo_fine x0 x1 H H1 b h _ _)

theorem ref_gadd (C : Fin 32) (d : Fin 128) (e : Fin 256) : val_main_v209 (F := Ideal) x0 x1 (ix5 b h C d e) = gadd x0 x1 b h C d e := by
  rw [ref_209]
  exact Finset.sum_congr rfl fun n _ => by rw [pR_eq x0 x1 H H1, qdec_eq, mul_comm]

/-- The carry, decayed to a token, is the sum over the later chunks. -/
theorem carry_eq (s : Fin 2048) (d : Fin 128) (e : Fin 256) :
    dec h (63 - (place s).val) * gdS x0 x1 b h (31 - (chunk s).val) d e = ∑ C : Fin 32, wdec h C s * gadd x0 x1 b h C d e := by
  obtain ⟨l, hl⟩ := dec_real h
  choose a ha using fun C => gadd_fine x0 x1 H H1 b h C d e
  have hS : ∀ n, n ≤ 32 → gdS x0 x1 b h n d e = ((carried l a n : ℝ) : EReal) := by
    intro n
    induction n with
    | zero => intro _; rw [carried_zero]; rfl
    | succ n ih =>
      intro hn
      rw [carried_succ l a n (by omega), EReal.coe_add, EReal.coe_mul, ← ih (by omega), ← ha, ← hl]
      rfl
  rw [hS _ (by omega), hl]
  simp only [wdec_eq, ha, hl]
  unfold carried
  rw [← EReal.coe_mul, Finset.mul_sum, coe_sum]
  refine Finset.sum_congr rfl fun C _ => ?_
  have hs : s.val = 64 * (chunk s).val + (place s).val := by unfold chunk place; simp only; omega
  by_cases hc : s.val < 64 * C.val
  · have h1 : 32 - (31 - (chunk s).val) ≤ C.val := by unfold chunk; simp only; omega
    have h2 : ((31 - (chunk s).val : ℕ) : ℝ) = 31 - ((chunk s).val : ℝ) := by
      rw [Nat.cast_sub (by omega)]; norm_num
    rw [if_pos h1, if_pos hc, ← EReal.coe_mul, ← mul_assoc, ← Real.exp_add, h2]
    congr 3
    rw [hs]
    push_cast
    ring
  · have h1 : ¬ 32 - (31 - (chunk s).val) ≤ C.val := by unfold chunk; simp only; omega
    rw [if_neg h1, if_neg hc, mul_zero, zero_mul, EReal.coe_zero]

theorem gdS_fine (n : ℕ) (hn : n ≤ 32) (d : Fin 128) (e : Fin 256) : Fine (gdS x0 x1 b h n d e) := by
  induction n with
  | zero => exact Fine.zero
  | succ n ih => exact ((ih (by omega)).mul (dec_fine _ _)).add (gadd_fine x0 x1 H H1 b h _ d e)

theorem ref_gv (s : Fin 2048) (e : Fin 256) : val_main_v228 (F := Ideal) x0 x1 (ix4 b s h e) = gv x0 x1 b h s e := by
  rw [ref_228]
  unfold gv
  congr 1
  · conv_lhs => rw [← tok_chunk s]
    rw [ref_223]
    refine Finset.sum_congr rfl fun n _ => ?_
    rw [pR_eq x0 x1 H H1, mul_comm, tok_chunk]
  · rw [Finset.sum_comm]
    refine Finset.sum_congr rfl fun d _ => ?_
    rw [mul_assoc, carry_eq x0 x1 H H1,
      fine_mul_sum _ (ak_fine x0 H b h s d) fun C => (wdec_fine h C s).mul (gadd_fine x0 x1 H H1 b h C d e)]
    refine Finset.sum_congr rfl fun C _ => ?_
    rw [ref_gadd x0 x1 H H1, mul_comm, mul_assoc]

theorem ref_gtq (s : Fin 2048) (d : Fin 128) : val_main_v225 (F := Ideal) x0 x1 (ix4 b s h d) = gtq x0 x1 b h s d := by
  unfold gtq
  conv_lhs => rw [← tok_chunk s]
  rw [ref_225, qdec_eq, add_comm]
  simp only [pR_eq x0 x1 H H1, tok_chunk]

theorem ref_gtk (s : Fin 2048) (d : Fin 128) : val_main_v239 (F := Ideal) x0 x1 (ix4 b s h d) = gtk x0 x1 b h s d := by
  rw [ref_239]
  unfold gtk
  congr 2
  · conv_lhs => rw [← tok_chunk s]
    rw [ref_224]
    simp only [pR_eq x0 x1 H H1, tok_chunk]
  · rw [mul_comm, fine_mul_sum _ (dec_fine h _) fun e => (av_fine x0 H b h s e).mul (gdS_fine x0 x1 H H1 b h _ (by omega) d e)]
    have hL : ∀ C : Fin 32, (∑ e : Fin 256, val_main_v209 (F := Ideal) x0 x1 (ix5 b h C d e) * av x0 b h s e) * wdec h C s
        = ∑ e : Fin 256, av x0 b h s e * (wdec h C s * gadd x0 x1 b h C d e) := by
      intro C
      simp only [ref_gadd x0 x1 H H1]
      rw [mul_comm, fine_mul_sum _ (wdec_fine h C s) fun e => (gadd_fine x0 x1 H H1 b h C d e).mul (av_fine x0 H b h s e)]
      exact Finset.sum_congr rfl fun e _ => by rw [← mul_assoc, mul_comm]
    rw [Finset.sum_congr rfl fun C _ => hL C, Finset.sum_comm]
    refine Finset.sum_congr rfl fun e _ => ?_
    rw [mul_left_comm, carry_eq x0 x1 H H1,
      fine_mul_sum _ (av_fine x0 H b h s e) fun C => (wdec_fine h C s).mul (gadd_fine x0 x1 H H1 b h C d e)]

theorem ref_gg (s : Fin 2048) (e : Fin 256) : val_main_v177 (F := Ideal) x0 x1 (ix3 b s (gcol h e)) = gg x0 x1 b h s e :=
  (ref_dg x0 x1 b h s e).trans (pdg_rdg (ao_fine x0 H b h s) (ag_fine x0 H b h s) (fun _ => H1 _) e)

end

/-- The reference's result at a token and a column is the call's. -/
theorem pout_gout (x0 : FVec Ideal S2x2048x6656 .f32) (x1 : FVec Ideal S2x2048x1024 .f32) (H : ∀ i, Fine (val_main_v0 (F := Ideal) x0 i))
    (H1 : ∀ i, Fine (x1 i)) (b : Fin 2) (s : Fin 2048) (k : ℕ) : pout x0 x1 b s k = gout x0 x1 b s k := by
  unfold pout gout
  simp only [ref_gtq x0 x1 H H1, ref_gtk x0 x1 H H1, ref_gv x0 x1 H H1]
  rw [← ref_gg x0 x1 H H1]
  have e : gcol ⟨(k - 2048) / 256 % 4, by omega⟩ ⟨k % 256, by omega⟩ = ⟨(k - 2048) % 1024, by omega⟩ ∨ k < 2048 := by
    by_cases hk : k < 2048
    · exact Or.inr hk
    · exact Or.inl (Fin.ext (by unfold gcol; simp only; omega))
  by_cases h1 : k < 512
  · rw [if_pos h1, if_pos h1]
  · by_cases h2 : k < 1024
    · rw [if_neg h1, if_pos h2, if_neg h1, if_pos h2]
    · by_cases h3 : k < 2048
      · rw [if_neg h1, if_neg h2, if_pos h3, if_neg h1, if_neg h2, if_pos h3]
      · rw [if_neg h1, if_neg h2, if_neg h3, if_neg h1, if_neg h2, if_neg h3, e.resolve_right h3]
-- ==== Proof.Ret.Claim.lean ====
module

public import proofs.«01_k».proof.Proof.Ret.Run
public import proofs.«01_k».proof.Proof.Ret.Finite
public import proofs.«01_k».proof.Proof.Ret.Equal
public import proofs.«01_k».proof.Proof.Gen.RetKernelIdeal.Frame
public import proofs.«01_k».proof.Proof.Gen.RetReferenceIdeal.Run
public import Idealize.ShloMosaic.Lib.Claim
public import proofs.«01_k».proof.Defs
public import Idealize.ShloMosaic.Lib.Pointwise

@[expose] public section

set_option maxRecDepth 16384

noncomputable section

open Idealize.ShloMosaic Idealize.ShloMosaic.TcCoe Idealize.SL.Sem

namespace Cert.RetKernelIdeal.Value

open Cert.RetKernelIdeal Cert.RetKernelIdeal.Gen
open Cert.RetReferenceIdeal.Read

variable (m : (ℓ : Loc nD τ sig) → Buf (Elt Ideal) ℓ) (ρ : Dev nD → PrngReg)

/-- At finite arguments the slice of the written array is the reference's result. -/
theorem tail_eq [Cert.Pre_finite.Facts] (hpre : Cert.Pre_RetKernelIdeal_finite m) (c : Dev nD) :
    Pipeline.afterTail₀ cfgs (dats m) 0 (V0 m) [hostOps1] c main_v227
    = val_main_v282 (F := Ideal) (m ((c.tc : Thread nD τ).loc main_arg0)) (m ((c.tc : Thread nD τ).loc main_arg1)) := by
  funext y
  obtain ⟨R, k, rfl⟩ : ∃ (R : Fin 4096) (k : Fin 3072), y = (ix2 R k : S4096x3072.Idx) := ⟨y 0, y 1, eq_ix2 y⟩
  refine (tail_at m c R k).trans ?_
  refine (pout_gout (X0 m c) (X1 m c) (pre_proj _ _ (hpre c)) (pre_grad _ _ (hpre c)) _ _ _).symm.trans ?_
  exact (ref_282 (X0 m c) (X1 m c) R k).symm

/-- The call's run: its result is the reference's term over its own arguments, which end unchanged. -/
theorem run [Cert.Pre_finite.Facts] (hpre : Cert.Pre_RetKernelIdeal_finite m) :
    θ_run defs (onTc (τ := τ) (main (F := Ideal))) ⟨m, fun _ => 0, ρ⟩ (fun r => ∀ c : Dev nD,
      r.2.mem ((c.tc : Thread nD τ).loc main_v227) = val_main_v282 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v227 (Pipeline.mem_restRefs_of _ (by decide) (by decide))).trans (tail_eq m hpre c), h.2 c⟩)
    (Idealize.ShloMosaic.θ_run_and (run_main m ρ) (unchanged m ρ))

end Cert.RetKernelIdeal.Value

/-! The reference's run, its result as the stages' term. -/
namespace Cert.RetReferenceIdeal.Value

open Cert.RetReferenceIdeal Cert.RetReferenceIdeal.Gen Cert.RetReferenceIdeal.Read

theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v282) = val_main_v282 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v282_eq (StableHlo.launchContents m c)), (h c).2⟩) (run m ρ)

end Cert.RetReferenceIdeal.Value

namespace Cert.Ret

theorem algebraic [Cert.Pre_finite.Facts] : Cert.algebraic_RetKernelIdeal_RetReferenceIdeal_pre_finite := by
  intro m g m' g' hpre hagree
  refine ⟨fun c => Cert.RetReferenceIdeal.Read.val_main_v282 (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)),
    Cert.RetKernelIdeal.Value.run m g hpre, ?_⟩
  refine (θ_run Cert.RetReferenceIdeal.defs _ _).mono (fun r h c => ?_) (Cert.RetReferenceIdeal.Value.run_stages m' g')
  obtain ⟨a0, a1⟩ := hagree c
  obtain ⟨h0, hargs⟩ := h c
  rw [a0, a1] at h0
  exact ⟨h0, hargs⟩

theorem frame_reference : Cert.quiescent_RetReferenceIdeal := by
  intro m g _
  exact (θ_run Cert.RetReferenceIdeal.defs _ _).mono (fun r h => ⟨fun c => (h c).2,
    sem_eq_zero_of_no_sems (by decide) r.2⟩) (Cert.RetReferenceIdeal.Value.run m g)

end Cert.Ret

end
-- ==== Proof.Norm.Rms.lean ====
module

public import proofs.«01_k».proof.Proof.Ret.Fine
public import Idealize.ShloMosaic.Lib.Pointwise

@[expose] public section

set_option maxRecDepth 16384

noncomputable section

open Idealize.ShloMosaic

/-! The root-mean-square norm of a row of 1024 entries and its gradient, the two ways to write it: `x` is the row, `d` the
    gradient of the normed row after the gain. -/

namespace Cert.Norm

open Cert.RetKernelIdeal.Value

/-- A sum over a row's length. -/
def mean (s : EReal) : EReal := Ideal.div s (Ideal.ofBits .f32 0x44800000#32)

/-- The row's mean square and a small number. -/
def sq (x : Fin 1024 → EReal) : EReal := mean (∑ k, x k * x k) + Ideal.ofBits .f32 0x358637BD#32

/-- The reciprocal of its root. -/
def rs (x : Fin 1024 → EReal) : EReal := Ideal.rsqrt (sq x)

/-- The normed row. -/
def unit (x : Fin 1024 → EReal) (j : Fin 1024) : EReal := x j * rs x

/-- The gradient of the row, as the calls write it. -/
def grad (x d : Fin 1024 → EReal) (j : Fin 1024) : EReal := rs x * (d j - unit x j * mean (∑ k, d k * unit x k))

/-- What the derivative adds to a row for the change of the mean square, over twice the row. -/
def slope (x d : Fin 1024 → EReal) : EReal :=
  mean ((∑ k, x k * d k) * (Ideal.ofBits .f32 0xBF000000#32 * Ideal.div (rs x) (sq x)))

/-- The gradient of the row added to `h`, as the derivative of the norm writes it. -/
def pgrad (h : EReal) (x d : Fin 1024 → EReal) (j : Fin 1024) : EReal := h + d j * rs x + x j * slope x d + slope x d * x j

theorem lit_1024 : Ideal.ofBits .f32 0x44800000#32 = ((1024 : ℝ) : EReal) := by
  simp [Ideal.ofBits, Ideal.ieee, -EReal.coe_mul]; norm_num

theorem mean_coe (r : ℝ) : mean (r : EReal) = ((r / 1024 : ℝ) : EReal) := by
  unfold mean
  rw [lit_1024, Ideal.div_coe (by norm_num), ← EReal.coe_mul, mul_one_div]

theorem mean_fine {x : EReal} (hx : Fine x) : Fine (mean x) := by
  obtain ⟨a, rfl⟩ := hx
  exact ⟨_, mean_coe a⟩

theorem row_coe {x : Fin 1024 → EReal} (hx : ∀ e, Fine (x e)) : ∃ r : Fin 1024 → ℝ, x = fun e => (r e : EReal) := by
  choose r hr using hx
  exact ⟨r, funext hr⟩

/-- The mean square is positive and its root's reciprocal squares to its reciprocal. -/
theorem sq_coe (x : Fin 1024 → ℝ) : ∃ v r : ℝ, v ≠ 0 ∧ r * r * v = 1 ∧ sq (fun j => (x j : EReal)) = (v : EReal)
    ∧ rs (fun j => (x j : EReal)) = (r : EReal) := by
  obtain ⟨ε, hε, he⟩ := lit_small
  have hv : sq (fun j => (x j : EReal)) = (((∑ e, x e * x e) / 1024 + ε : ℝ) : EReal) := by
    unfold sq
    simp only [← EReal.coe_mul]
    rw [← coe_sum, mean_coe, he, ← EReal.coe_add]
  generalize hV : (∑ e, x e * x e) / 1024 + ε = v at hv
  have hp : 0 < v := by
    rw [← hV]
    have : 0 ≤ ∑ e, x e * x e := Finset.sum_nonneg fun e _ => mul_self_nonneg _
    positivity
  refine ⟨v, (Real.sqrt v)⁻¹, hp.ne', ?_, hv, ?_⟩
  · rw [← mul_inv, Real.mul_self_sqrt hp.le, inv_mul_cancel₀ hp.ne']
  · unfold rs
    rw [hv, Ideal.rsqrt_coe, if_neg (not_lt.mpr hp.le), if_neg hp.ne']

theorem rs_fine {x : Fin 1024 → EReal} (hx : ∀ e, Fine (x e)) : Fine (rs x) := by
  obtain ⟨x, rfl⟩ := row_coe hx
  obtain ⟨v, r, -, -, -, er⟩ := sq_coe x
  exact ⟨r, er⟩

theorem unit_fine {x : Fin 1024 → EReal} (hx : ∀ e, Fine (x e)) (j : Fin 1024) : Fine (unit x j) := (hx j).mul (rs_fine hx)

theorem grad_fine {x d : Fin 1024 → EReal} (hx : ∀ e, Fine (x e)) (hd : ∀ e, Fine (d e)) (j : Fin 1024) : Fine (grad x d j) :=
  (rs_fine hx).mul ((hd j).sub ((unit_fine hx j).mul (mean_fine (Fine.sum _ fun k => (hd k).mul (unit_fine hx k)))))

/-- The two ways to write the gradient of a row of real numbers agree. -/
theorem pgrad_eq (h : EReal) {x d : Fin 1024 → EReal} (hx : ∀ e, Fine (x e)) (hd : ∀ e, Fine (d e)) (j : Fin 1024) :
    pgrad h x d j = h + grad x d j := by
  obtain ⟨x, rfl⟩ := row_coe hx
  obtain ⟨d, rfl⟩ := row_coe hd
  obtain ⟨v, r, hv, hr, ev, er⟩ := sq_coe x
  unfold pgrad grad slope unit
  rw [add_assoc h, add_assoc h]
  congr 1
  simp only [ev, er, lit_neg_half, Ideal.div_coe hv, ← EReal.coe_mul, ← coe_sum, mean_coe, ← EReal.coe_sub, ← EReal.coe_add,
    EReal.coe_eq_coe_iff]
  have h3 : ∑ k, d k * (x k * r) = (∑ k, x k * d k) * r := by
    rw [Finset.sum_mul]; exact Finset.sum_congr rfl fun j _ => by ring
  have h4 : 1 / v = r * r := by field_simp; linarith
  rw [h3, h4]
  ring

end Cert.Norm

end
-- ==== Proof.Proj.Block.lean ====
module

public import proofs.«01_k».proof.Proof.Gen.ProjKernelIdeal.Frame
public import proofs.«01_k».proof.Proof.Norm.Rms
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! What the gradient call of the projection leaves, over its operands' arrays. The grid takes a block of 1024 rows after the
    other, and for each the four shards of the weights; the product is summed over the shards in a scratch buffer. -/

namespace Cert.ProjKernelIdeal.Value

open Cert.ProjKernelIdeal Cert.ProjKernelIdeal.Gen Cert.Norm

variable (m : (ℓ : Loc nD τ sig) → Buf (Elt Ideal) ℓ) (c : Dev nD)

theorem idx0 : ∀ t : Fin cfg0.N, win0_0.index t = ![t.val / 4, t.val % 4]
    ∧ win0_1.index t = ![t.val % 4, 0, 0]
    ∧ win0_2.index t = ![t.val / 4, 0]
    ∧ win0_3.index t = ![0, 0]
    ∧ win0_4.index t = ![t.val / 4, 0]
    ∧ win0_5.index t = ![t.val / 4, 0]
    ∧ win0_6.index t = ![t.val / 4, 0] :=
  (by decide +kernel : ∀ t : Fin grid0.N, _)

/-- The operands' arrays. -/
def aD : FVec Ideal S4096x6656 .bf16 := V m c main_v4
def aW : FVec Ideal S4x1024x1664 .bf16 := V m c main_v2
def aX : FVec Ideal S4096x1024 .f32 := V m c main_v5
def aG : FVec Ideal S1x1024 .f32 := V m c main_v6
def aH : FVec Ideal S4096x1024 .f32 := V m c main_v7

/-- The row of the array that a row of a block is. -/
def row (t : ℕ) (ht : t < 16) (i : Fin 1024) : Fin 4096 := ⟨t / 4 * 1024 + i.val, by omega⟩

/-- A summand of the product with the weights. -/
def term (R : Fin 4096) (j : Fin 1024) (k : ℕ) : EReal :=
  aD m c (ix2 R ⟨k % 6656, Nat.mod_lt _ (by norm_num)⟩) * aW m c (ix3 ⟨k / 1664 % 4, Nat.mod_lt _ (by norm_num)⟩ j ⟨k % 1664, Nat.mod_lt _ (by norm_num)⟩)

/-- The product's entry. -/
def dn (R : Fin 4096) (j : Fin 1024) : EReal := ∑ k ∈ Finset.range 6656, term m c R j k

/-- A row of the norm's argument. -/
def xrow (R : Fin 4096) (j : Fin 1024) : EReal := aX m c (ix2 R j)

/-- The gradient of a normed row. -/
def drow (R : Fin 4096) (j : Fin 1024) : EReal := dn m c R j * aG m c (ix2 0 j)

theorem blkD (t : Fin cfg0.N) (i : Fin 1024) (k : Fin 1664) (h : t.val % 4 * 1664 + k.val < 6656) :
    iblk m c 0 t (ix2 i k) = aD m c (ix2 (row t.val t.isLt i) ⟨t.val % 4 * 1664 + k.val, h⟩) := by
  unfold aD
  blk_point [iblk, idx0 t, row]

theorem blkW (t : Fin cfg0.N) (j : Fin 1024) (k : Fin 1664) : iblk m c 1 t (ix3 0 j k)
    = aW m c (ix3 ⟨t.val % 4, Nat.mod_lt _ (by norm_num)⟩ j k) := by
  unfold aW
  blk_point [iblk, idx0 t]

theorem blkX (t : Fin cfg0.N) (i k : Fin 1024) : iblk m c 2 t (ix2 i k) = xrow m c (row t.val t.isLt i) k := by
  unfold xrow aX
  blk_point [iblk, idx0 t, row]

theorem blkG (t : Fin cfg0.N) (k : Fin 1024) : iblk m c 3 t (ix2 0 k) = aG m c (ix2 0 k) := by
  unfold aG
  blk_point [iblk, idx0 t]

theorem blkH (t : Fin cfg0.N) (i k : Fin 1024) : iblk m c 4 t (ix2 i k) = aH m c (ix2 (row t.val t.isLt i) k) := by
  unfold aH
  blk_point [iblk, idx0 t, row]

theorem at5 (t : Fin cfg0.N) (i j : Fin 1024) :
    ((View.whole main_v8_0).slice (win0_5.rect t)).emb (ix2 i j) = ix2 (row t.val t.isLt i) j := by
  blk_ext [idx0 t, row]

theorem at6 (t : Fin cfg0.N) (i : Fin 8) (j : Fin 1024) :
    ((View.whole main_v8_1).slice (win0_6.rect t)).emb (ix2 i j)
      = ix2 (⟨t.val / 4 * 8 + i.val, by have : t.val < 16 := t.isLt; omega⟩ : Fin 32) j := by
  blk_ext [idx0 t]

theorem pay1 (y : S1024x1024.Idx) : k0_pay1 (F := Ideal) y = 0 := by
  pointwise [k0_pay1]

theorem pay2 (acc : FVec Ideal S1024x1024 .f32) (t : Fin cfg0.N) (i j : Fin 1024) :
    k0_pay2 (F := Ideal) acc (iblk m c 0 t) (iblk m c 1 t) (ix2 i j) = acc (ix2 i j)
      + ∑ k ∈ Finset.range 1664, term m c (row t.val t.isLt i) j (t.val % 4 * 1664 + k) := by
  pointwise [k0_pay2]
  refine congrArg (acc (ix2 i j) + ·) ?_
  rw [Finset.sum_range]
  refine Finset.sum_congr rfl fun k _ => ?_
  refine (congrArg₂ (fun a b : EReal => a * b) (blkD m c t i k (by omega)) (blkW m c t j k)).trans ?_
  unfold term
  refine congrArg₂ (fun a b : EReal => a * b) (congrArg (aD m c) (congrArg (ix2 _) (Fin.ext ?_))) (congrArg (aW m c) (congrArg₂ (fun a b => ix3 a j b) (Fin.ext ?_) (Fin.ext ?_)))
  · show t.val % 4 * 1664 + k.val = (t.val % 4 * 1664 + k.val) % 6656
    omega
  · show t.val % 4 = (t.val % 4 * 1664 + k.val) / 1664 % 4
    omega
  · show k.val = (t.val % 4 * 1664 + k.val) % 1664
    omega

/-- What a point adds to the scratch. -/
theorem acc_first (t : Fin cfg0.N) (h : t.val % 4 = 0) (y : S1024x1024.Idx) : (outsAt0 m c t.val t.isLt).2.2 y
    = k0_pay2 (F := Ideal) (k0_pay1 (F := Ideal)) (iblk m c 0 t) (iblk m c 1 t) y := by
  rw [outsAt0_A m c t h (by omega)]; frame_out

theorem acc_step (t : Fin cfg0.N) (h : ¬t.val % 4 = 0) (y : S1024x1024.Idx) : (outsAt0 m c t.val t.isLt).2.2 y
    = k0_pay2 (F := Ideal) (outsAt0 m c (t.val - 1) (Nat.lt_of_le_of_lt (Nat.sub_le _ _) t.isLt)).2.2 (iblk m c 0 t) (iblk m c 1 t) y := by
  by_cases h1 : t.val % 4 = 3
  · rw [outsAt0_C m c t h h1]; frame_out
    simp only [read_unread_whole]
  · rw [outsAt0_B m c t h h1]; frame_out
    simp only [read_unread_whole]

/-- The scratch after a point: the product over the shards so far. -/
theorem acc_at : ∀ n (hn : n < cfg0.N) (i j : Fin 1024), (outsAt0 m c n hn).2.2 (ix2 i j)
    = ∑ k ∈ Finset.range (n % 4 * 1664 + 1664), term m c (row n hn i) j k := by
  intro n
  induction n using Nat.strong_induction_on with
  | _ n ih =>
    intro hn i j
    have hN : n < 16 := hn
    by_cases h0 : n % 4 = 0
    · refine (acc_first m c ⟨n, hn⟩ h0 _).trans ((pay2 m c _ ⟨n, hn⟩ i j).trans ?_)
      rw [pay1, zero_add]
      simp only [h0, zero_mul, zero_add]
    · refine (acc_step m c ⟨n, hn⟩ h0 _).trans ((pay2 m c _ ⟨n, hn⟩ i j).trans ?_)
      rw [Finset.sum_range_add, ih (n - 1) (by omega)]
      have e1 : row (n - 1) (Nat.lt_of_le_of_lt (Nat.sub_le _ _) hn) i = row n hn i :=
        Fin.ext (by show (n - 1) / 4 * 1024 + i.val = n / 4 * 1024 + i.val; omega)
      have e2 : (n - 1) % 4 * 1664 + 1664 = n % 4 * 1664 := by omega
      rw [e1, e2]

theorem acc_last (t : Fin cfg0.N) (h : t.val % 4 = 3) (i j : Fin 1024) :
    (outsAt0 m c t.val t.isLt).2.2 (ix2 i j) = dn m c (row t.val t.isLt i) j := by
  rw [acc_at]
  simp only [h]
  rfl

theorem out5 (t : Fin cfg0.N) (h : t.val % 4 = 3) (y : S1024x1024.Idx) : (outsAt0 m c t.val t.isLt).1 y
    = k0_pay6 (F := Ideal) (iblk m c 2 t) (outsAt0 m c t.val t.isLt).2.2 (iblk m c 3 t) (iblk m c 4 t) y := by
  rw [show (outsAt0 m c t.val t.isLt).2.2 = _ from funext (acc_step m c t (by omega))]
  rw [outsAt0_C m c t (by omega) h]; frame_out
  simp only [read_unread_whole]

theorem canon_at (r : Rect S8x1024) (w : r.shape.Idx → Elt Ideal .f32) (L : List (View.Piece (Elt Ideal) S8x1024 .f32))
    (y : S8x1024.Idx) (x : r.shape.Idx) (h : y = r.emb x) : View.canon (⟨r, w⟩ :: L) y = w x := by
  rw [h]; exact View.canon_cons_emb r w L x

theorem out6 (t : Fin cfg0.N) (h : t.val % 4 = 3) (j : Fin 1024) : (outsAt0 m c t.val t.isLt).2.1 (ix2 0 j)
    = k0_pay8 (F := Ideal) (iblk m c 2 t) (outsAt0 m c t.val t.isLt).2.2 (ix2 0 j) := by
  rw [show (outsAt0 m c t.val t.isLt).2.2 = _ from funext (acc_step m c t (by omega))]
  rw [outsAt0_C m c t (by omega) h]; frame_out
  simp only [read_unread_whole]
  refine canon_at (Rect.unit (s := S8x1024) ![0, 0] ![1, 1024] inb_S8x1024_S1x1024_0_0) _ _ _ (ix2 0 j : S1x1024.Idx) ?_
  blk_ext

theorem pay4 (t : Fin cfg0.N) (i : Fin 1024) : k0_pay4 (F := Ideal) (iblk m c 2 t) (ix2 i 0) = rs (xrow m c (row t.val t.isLt i)) := by
  pointwise [k0_pay4, k0_pay3]
  simp only [blkX]
  rfl

theorem pay6 (acc : FVec Ideal S1024x1024 .f32) (t : Fin cfg0.N) (i j : Fin 1024)
    (hacc : ∀ k, acc (ix2 i k) = dn m c (row t.val t.isLt i) k) :
    k0_pay6 (F := Ideal) (iblk m c 2 t) acc (iblk m c 3 t) (iblk m c 4 t) (ix2 i j)
      = aH m c (ix2 (row t.val t.isLt i) j) + grad (xrow m c (row t.val t.isLt i)) (drow m c (row t.val t.isLt i)) j := by
  have := pay4 m c t i
  pointwise [k0_pay6, k0_pay5, k0_pay3]
  simp only [this, hacc, blkX, blkG, blkH]
  rfl

theorem pay8 (acc : FVec Ideal S1024x1024 .f32) (t : Fin cfg0.N) (j : Fin 1024)
    (hacc : ∀ i k, acc (ix2 i k) = dn m c (row t.val t.isLt i) k) :
    k0_pay8 (F := Ideal) (iblk m c 2 t) acc (ix2 0 j)
      = ∑ i : Fin 1024, dn m c (row t.val t.isLt i) j * unit (xrow m c (row t.val t.isLt i)) j := by
  have := pay4 m c t
  pointwise [k0_pay8, k0_pay5, k0_pay3]
  simp only [this, hacc, blkX]
  rfl

end Cert.ProjKernelIdeal.Value

end
-- ==== Proof.Proj.Run.lean ====
module

public import proofs.«01_k».proof.Proof.Proj.Block
public import proofs.«01_k».proof.Proof.Merge.Math
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The call's two arrays and what the program's results are over its arguments. -/

namespace Cert.ProjKernelIdeal.Value

open Cert.ProjKernelIdeal Cert.ProjKernelIdeal.Gen Cert.Norm Cert.Merge

variable (m : (ℓ : Loc nD τ sig) → Buf (Elt Ideal) ℓ) (c : Dev nD)

/-- A row of the gradient of the norm's argument. -/
def grow (R : Fin 4096) (j : Fin 1024) : EReal := aH m c (ix2 R j) + grad (xrow m c R) (drow m c R) j

/-- The gradient of the norm's argument. -/
theorem gx : (dats m 0 c).arrAt 5 cfg0.N = arr (grow m c) := by
  refine (dats m 0 c).arrAt_eq_of_covers 5 _ (by decide +kernel) fun t ht y => ?_
  obtain ⟨i, j, rfl⟩ : ∃ (i : Fin 1024) (j : Fin 1024), y = (ix2 i j : S1024x1024.Idx) := ⟨y 0, y 1, eq_ix2 y⟩
  have h3 : t.val % 4 = 3 := (flush0_5 t).mp ht
  blk_simp
  rw [after0_5]
  refine (out5 m c t h3 _).trans ((pay6 m c _ t i j fun k => acc_last m c t h3 i k).trans ?_)
  refine Eq.trans ?_ (congrArg (arr (grow m c)) (at5 t i j)).symm
  rfl

/-- The first row of a block of the gain's gradient. -/
theorem part (a : Fin 4) (j : Fin 1024) : (show FVec Ideal S32x1024 .f32 from (dats m 0 c).arrAt 6 cfg0.N) (ix2 ⟨a.val * 8, by omega⟩ j)
    = ∑ i : Fin 1024, dn m c ⟨a.val * 1024 + i.val, by omega⟩ j * unit (xrow m c ⟨a.val * 1024 + i.val, by omega⟩) j := by
  obtain ⟨t, hta⟩ : ∃ t : Fin cfg0.N, t.val = 4 * a.val + 3 := ⟨⟨4 * a.val + 3, by show _ < 16; omega⟩, rfl⟩
  have h3 : t.val % 4 = 3 := by omega
  have := (dats m 0 c).arrAt_emb_eq_flushed 6 (Pipeline.Window.hdisj_of_index_inj _ (by decide +kernel)) t ((flush0_6 t).mpr h3)
    (ix2 0 j : S8x1024.Idx)
  have e : ((cfg0.win 6).blk t).view.emb (ix2 0 j : S8x1024.Idx) = ix2 (⟨a.val * 8, by omega⟩ : Fin 32) j := by
    refine (at6 t 0 j).trans (congrArg (fun r => ix2 r j) (Fin.ext ?_))
    show t.val / 4 * 8 + 0 = a.val * 8
    omega
  rw [e] at this
  refine this.trans ?_
  refine (congrFun (after0_6 m c t) (ix2 0 j)).trans ?_
  refine (out6 m c t h3 j).trans ((pay8 m c _ t j fun i k => acc_last m c t h3 i k).trans ?_)
  refine Finset.sum_congr rfl fun i _ => ?_
  rw [show row t.val t.isLt i = (⟨a.val * 1024 + i.val, by omega⟩ : Fin 4096) from
    Fin.ext (by show t.val / 4 * 1024 + i.val = a.val * 1024 + i.val; omega)]

/-- The gain's gradient. -/
theorem tail : (Pipeline.afterTail₀ cfgs (dats m) 0 (V0 m) [hostOps1] c main_v12 : FVec Ideal S1024 .f32)
    = fun y => ∑ R : Fin 4096, dn m c R (y 0) * unit (xrow m c R) (y 0) := by
  unfold Pipeline.afterTail₀
  show StableHlo.after hostOps1 _ _ = _
  after_results
  rw [show Pipeline.withArrays (cfgs 0).spec c (V0 m c) (fun w => (dats m 0 c).arrAt w (cfgs 0).N) (Proc.devRef .tc main_v8_1) = _ from
    Pipeline.withArrays_arr (cfgs 0).spec winFacts0.arr_inj c _ _ 6]
  funext y
  obtain ⟨j, rfl⟩ : ∃ (j : Fin 1024), y = (ix1 j : S1024.Idx) := ⟨y 0, eq_ix1 y⟩
  pointwise
  rw [Fin.sum_univ_tiles 4 1024 rfl]
  refine Finset.sum_congr rfl fun a _ => ?_
  exact part m c a j

/-! The operands over the program's arguments. -/

theorem aD_eq : aD m c = arr (tok (n := 6656) (m ((c.tc : Thread nD τ).loc main_arg3))) := by
  show StableHlo.after hostOps0 _ _ = _
  after_results
  funext y
  obtain ⟨r, k, rfl⟩ : ∃ (r : Fin 4096) (k : Fin 6656), y = (ix2 r k : S4096x6656.Idx) := ⟨y 0, y 1, eq_ix2 y⟩
  pointwise
  rfl

theorem aX_eq : aX m c = arr (tok (n := 1024) (m ((c.tc : Thread nD τ).loc main_arg0))) := by
  show StableHlo.after hostOps0 _ _ = _
  after_results
  funext y
  obtain ⟨r, k, rfl⟩ : ∃ (r : Fin 4096) (k : Fin 1024), y = (ix2 r k : S4096x1024.Idx) := ⟨y 0, y 1, eq_ix2 y⟩
  pointwise
  rfl

theorem aH_eq : aH m c = arr (tok (n := 1024) (m ((c.tc : Thread nD τ).loc main_arg4))) := by
  show StableHlo.after hostOps0 _ _ = _
  after_results
  funext y
  obtain ⟨r, k, rfl⟩ : ∃ (r : Fin 4096) (k : Fin 1024), y = (ix2 r k : S4096x1024.Idx) := ⟨y 0, y 1, eq_ix2 y⟩
  pointwise
  rfl

theorem aG_eq (j : Fin 1024) : aG m c (ix2 0 j) = (show FVec Ideal S1024 .f32 from m ((c.tc : Thread nD τ).loc main_arg1)) (ix1 j) := by
  have e : aG m c = arr (fun (_ : Fin 1) (j : Fin 1024) => (show FVec Ideal S1024 .f32 from m ((c.tc : Thread nD τ).loc main_arg1)) (ix1 j)) := by
    show StableHlo.after hostOps0 _ _ = _
    after_results
    funext y
    obtain ⟨r, k, rfl⟩ : ∃ (r : Fin 1) (k : Fin 1024), y = (ix2 r k : S1x1024.Idx) := ⟨y 0, y 1, eq_ix2 y⟩
    pointwise
    rfl
  rw [e]
  rfl

theorem aW_eq (s : Fin 4) (j : Fin 1024) (k : Fin 1664) : aW m c (ix3 s j k)
    = (show FVec Ideal S1024x6656 .f32 from m ((c.tc : Thread nD τ).loc main_arg2)) (ix2 j ⟨s.val * 1664 + k.val, by omega⟩) := by
  have e : aW m c = fun y => (show FVec Ideal S1024x6656 .f32 from m ((c.tc : Thread nD τ).loc main_arg2))
      (ix2 (y 1) ⟨(y 0).val * 1664 + (y 2).val, by
        have h0 : (y 0).val < 4 := (y 0).isLt
        have h2 : (y 2).val < 1664 := (y 2).isLt
        omega⟩) := by
    show StableHlo.after hostOps0 _ _ = _
    after_results
    funext y
    obtain ⟨s, r, k, rfl⟩ : ∃ (s : Fin 4) (r : Fin 1024) (k : Fin 1664), y = (ix3 s r k : S4x1024x1664.Idx) := ⟨y 0, y 1, y 2, eq_ix3 y⟩
    pointwise
  rw [e]
  rfl

/-- The product over the arguments. -/
theorem dn_eq (R : Fin 4096) (j : Fin 1024) : dn m c R j
    = ∑ k : Fin 6656, tok (n := 6656) (m ((c.tc : Thread nD τ).loc main_arg3)) R k
        * (show FVec Ideal S1024x6656 .f32 from m ((c.tc : Thread nD τ).loc main_arg2)) (ix2 j k) := by
  unfold dn
  rw [Finset.sum_range]
  refine Finset.sum_congr rfl fun k _ => ?_
  unfold term
  rw [aD_eq, aW_eq]
  refine congrArg₂ (fun a b : EReal => a * b) (congrArg (tok _ R) (Fin.ext ?_)) (congrArg _ (congrArg (ix2 j) (Fin.ext ?_)))
  · exact Nat.mod_eq_of_lt k.isLt
  · show k.val / 1664 % 4 * 1664 + k.val % 1664 = k.val
    omega

end Cert.ProjKernelIdeal.Value

end
-- ==== Proof.Norm.Sum.lean ====
module

public import Idealize.ShloMosaic.Lib.Pointwise

@[expose] public section

noncomputable section

open Idealize.ShloMosaic

/-! A sum over the first two of three axes, and over the tokens of two sequences. -/

namespace Cert.Norm

variable {n0 n1 n2 : Nat}

theorem fiber01 (h : (⟨3, ![n0, n1, n2]⟩ : Shape).ReducesTo [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The sum over the first two axes at an index of the third. -/
theorem hostSum01 (h : (⟨3, ![n0, n1, n2]⟩ : Shape).ReducesTo [0, 1] ⟨1, ![n2]⟩) (v : (⟨3, ![n0, n1, n2]⟩ : Shape).Idx → EReal)
    (init : EReal) (j : Fin n2) : Ideal.hostReduceAdd h v init (ix1 j) = init + ∑ k0 : Fin n0, ∑ k1 : Fin n1, v (ix3 k0 k1 j) := by
  unfold Ideal.hostReduceAdd
  rw [Finset.sum_filter_eq_sum_of_fiber _ (fun k : Fin n0 × Fin n1 => ix3 k.1 k.2 j)
    (fun _ _ e => Prod.ext (congrFun e 0) (congrFun e 1)) (fiber01 h j) v]
  simp only [Fintype.sum_prod_type]

/-- A sum over two sequences of 2048 tokens is a sum over 4096 rows. -/
theorem sum_rows (f : Fin 2 → Fin 2048 → EReal) :
    ∑ b : Fin 2, ∑ s : Fin 2048, f b s = ∑ R : Fin 4096, f ⟨R.val / 2048, by omega⟩ ⟨R.val % 2048, by omega⟩ := by
  rw [Fin.sum_univ_tiles 2 2048 rfl]
  refine Finset.sum_congr rfl fun b _ => Finset.sum_congr rfl fun s _ => ?_
  exact congrArg₂ f (Fin.ext (by show b.val = (b.val * 2048 + s.val) / 2048; omega)) (Fin.ext (by show s.val = (b.val * 2048 + s.val) % 2048; omega))

end Cert.Norm

end
-- ==== Proof.Proj.Ref.lean ====
module

public import proofs.«01_k».proof.Proof.Norm.Rms
public import proofs.«01_k».proof.Proof.Norm.Sum
public import proofs.«01_k».proof.Proof.Merge.Math
public import proofs.«01_k».proof.Proof.Gen.ProjReferenceIdeal.Read
public import Idealize.ShloMosaic.Lib.Pointwise

@[expose] public section

set_option maxRecDepth 16384

noncomputable section

open Idealize.ShloMosaic Idealize.ShloMosaic.TcCoe

/-! The reference's gradients of the norm's argument and gain, at a row of tokens. -/

namespace Cert.Proj

open Cert.ProjReferenceIdeal Cert.ProjReferenceIdeal.Read Cert.Norm Cert.Merge

variable (x0 : FVec Ideal S2x2048x1024 .f32) (x1 : FVec Ideal S1024 .f32) (x2 : FVec Ideal S1024x6656 .f32)
  (x3 : FVec Ideal S2x2048x6656 .f32) (x4 : FVec Ideal S2x2048x1024 .f32) (R : Fin 4096)

/-- The cotangent's product with the weights. -/
def pdn (R : Fin 4096) (j : Fin 1024) : EReal := ∑ k : Fin 6656, tok (n := 6656) x3 R k * x2 (ix2 j k)

/-- The gradient of a normed row. -/
def pd (R : Fin 4096) (j : Fin 1024) : EReal := pdn x2 x3 R j * x1 (ix1 j)

theorem ref_sq : val_main_v6 (F := Ideal) x0 (ix3 ⟨R.val / 2048, by omega⟩ ⟨R.val % 2048, by omega⟩ 0) = Norm.sq (tok (n := 1024) x0 R) := by
  pointwise [val_main_v6, val_main_v5, val_main_cst_1, val_main_v4, val_main_v3, val_main_cst_0, val_main_v2, val_main_v1, val_main_v0, val_main_cst]
  rfl

theorem ref_rs : val_main_v7 (F := Ideal) x0 (ix3 ⟨R.val / 2048, by omega⟩ ⟨R.val % 2048, by omega⟩ 0) = rs (tok (n := 1024) x0 R) := by
  have := ref_sq x0 R
  pointwise [val_main_v7]
  rw [this]
  rfl

theorem ref_dn (j : Fin 1024) : val_main_v17 (F := Ideal) x2 x3 (ix3 ⟨R.val / 2048, by omega⟩ ⟨R.val % 2048, by omega⟩ j) = pdn x2 x3 R j := by
  pointwise [val_main_v17]
  rfl

theorem ref_d (j : Fin 1024) : val_main_v22 (F := Ideal) x1 x2 x3 (ix3 ⟨R.val / 2048, by omega⟩ ⟨R.val % 2048, by omega⟩ j) = pd x1 x2 x3 R j := by
  have := ref_dn x2 x3 R j
  pointwise [val_main_v22, val_main_v21, val_main_v13]
  rw [this]
  rfl

theorem ref_slope (j : Fin 1024) : val_main_v34 (F := Ideal) x0 x1 x2 x3 (ix3 ⟨R.val / 2048, by omega⟩ ⟨R.val % 2048, by omega⟩ j) = Norm.slope (tok (n := 1024) x0 R) (pd x1 x2 x3 R) := by
  have h6 := ref_sq x0 R
  have h7 := ref_rs x0 R
  have h22 := ref_d x1 x2 x3 R
  pointwise [val_main_v34, val_main_v33, val_main_cst_7, val_main_v32, val_main_v31, val_main_cst_6, val_main_v30, val_main_v10, val_main_v9,
    val_main_cst_2, val_main_v8, val_main_v26, val_main_v25, val_main_cst_5, val_main_v24]
  rw [Fin.sum_univ_one, h6, h7]
  simp only [h22]
  rfl

theorem ref_dx (j : Fin 1024) : val_main_v39 (F := Ideal) x0 x1 x2 x3 x4 (ix2 R j)
    = pgrad (tok (n := 1024) x4 R j) (tok (n := 1024) x0 R) (pd x1 x2 x3 R) j := by
  have h7 := ref_rs x0 R
  have h22 := ref_d x1 x2 x3 R j
  have h34 := ref_slope x0 x1 x2 x3 R j
  pointwise [val_main_v39, val_main_v38, val_main_v37, val_main_v36, val_main_v35, val_main_v29, val_main_v28, val_main_v27]
  rw [h7, h22, h34]
  rfl

/-- The gain's gradient before it is laid out. -/
theorem ref_sum (j : Fin 1024) : val_main_v19 (F := Ideal) x0 x2 x3 (ix1 j)
    = ∑ R : Fin 4096, unit (tok (n := 1024) x0 R) j * pdn x2 x3 R j := by
  unfold val_main_v19
  refine (hostSum01 Gen.reducesTo_S2x2048x1024_S1024_d0_1 (val_main_v18 (F := Ideal) x0 x2 x3) _ j).trans ?_
  rw [sum_rows]
  refine Eq.trans (congrArg (· + _) (show val_main_cst_3 (F := Ideal) _ = 0 by pointwise [val_main_cst_3])) ((zero_add _).trans ?_)
  refine Finset.sum_congr rfl fun R _ => ?_
  have h7 := ref_rs x0 R
  have h17 := ref_dn x2 x3 R j
  pointwise [val_main_v18, val_main_v12, val_main_v11]
  rw [h7, h17]
  rfl

theorem ref_dg (j : Fin 1024) : val_main_v23 (F := Ideal) x0 x2 x3 (ix1 j)
    = ∑ R : Fin 4096, unit (tok (n := 1024) x0 R) j * pdn x2 x3 R j := by
  refine Eq.trans ?_ (ref_sum x0 x2 x3 j)
  unfold val_main_v23
  refine (hostSum01 Gen.reducesTo_S1x1x1024_S1024_d0_1 (val_main_v20 (F := Ideal) x0 x2 x3) _ j).trans ?_
  refine Eq.trans (congrArg (· + _) (show val_main_cst_4 (F := Ideal) _ = 0 by pointwise [val_main_cst_4])) ((zero_add _).trans ?_)
  rw [Fin.sum_univ_one, Fin.sum_univ_one]
  pointwise [val_main_v20]

end Cert.Proj

end
-- ==== Proof.Proj.Finite.lean ====
module

public import proofs.«01_k».proof.Proof.Ret.Finite
public import proofs.«01_k».proof.Proof.Proj.Ref
public import proofs.«01_k».proof.Defs
public import Idealize.ShloMosaic.Lib.Pointwise

@[expose] public section

set_option maxRecDepth 16384

noncomputable section

open Idealize.ShloMosaic Idealize.ShloMosaic.TcCoe Idealize.SL.Sem

/-! ## What the precondition says

The precondition lays the layer's input, its gain, the weights and the cotangent out as one list and compares the absolute value
of every entry with infinity; where it holds these entries are real numbers. -/

theorem Cert.Pre_finite_projection.preFacts : Cert.Pre_finite_projection.Facts where
  shapeCasts_S2x2048x1024_S4194304 := by decide
  shapeCasts_S1024x6656_S6815744 := by decide
  shapeCasts_S2x2048x6656_S27262976 := by decide
  concatenates_S4194304_S1024_S6815744_S27262976_S38274048_d0 := by decide
  bcast_S_S38274048 := by decide

namespace Cert.ProjKernelIdeal.Value

open Cert.Pre_finite_projection Cert.Merge
open Cert.RetKernelIdeal.Value (Fine fine_of_lt of_bit)

theorem ix3_congr {n0 n1 n2 : Nat} {a a' : Fin n0} {b b' : Fin n1} {d d' : Fin n2} (ha : a = a') (hb : b = b') (hd : d = d') :
    ix3 a b d = ix3 a' b' d' := by
  rw [ha, hb, hd]

variable [Cert.Pre_finite_projection.Facts]

variable (x0 : FVec Ideal S2x2048x1024 .f32) (x1 : FVec Ideal S1024 .f32) (x2 : FVec Ideal S1024x6656 .f32)
  (x3 : FVec Ideal S2x2048x6656 .f32) (x4 : FVec Ideal S2x2048x1024 .f32)
  (h : Cert.Pre_finite_projection.fn (F := Ideal) x0 x1 x2 x3 x4 = fun _ => 1#1)

include h

/-- Entry `k` of the list. -/
theorem pre_at (k : Fin 38274048) : Fine (
    if h : k.val < 4194304 then x0 (ix3 ⟨k.val / 2097152, by omega⟩ ⟨k.val / 1024 % 2048, by omega⟩ ⟨k.val % 1024, by omega⟩)
    else if h : k.val - 4194304 < 1024 then x1 (ix1 ⟨k.val - 4194304, by omega⟩)
    else if h : k.val - 4194304 - 1024 < 6815744 then
      x2 (ix2 ⟨(k.val - 4194304 - 1024) / 6656, by omega⟩ ⟨(k.val - 4194304 - 1024) % 6656, by omega⟩)
    else x3 (ix3 ⟨(k.val - 4194304 - 1024 - 6815744) / 13631488, by omega⟩
      ⟨(k.val - 4194304 - 1024 - 6815744) / 6656 % 2048, by omega⟩ ⟨(k.val - 4194304 - 1024 - 6815744) % 6656, by omega⟩)) := by
  have := congrFun h (ix1 k)
  unfold Cert.Pre_finite_projection.fn at this
  revert this
  pointwise
  intro this
  exact fine_of_lt (of_bit _ this)

theorem pre_x (R : Fin 4096) (j : Fin 1024) : Fine (tok (n := 1024) x0 R j) := by
  have := pre_at x0 x1 x2 x3 x4 h ⟨R.val * 1024 + j.val, by omega⟩
  rw [dif_pos (by show R.val * 1024 + j.val < 4194304; omega)] at this
  refine Eq.subst (motive := fun i => Fine (x0 i)) ?_ this
  refine ix3_congr ?_ ?_ ?_
  all_goals (apply Fin.ext; dsimp only; omega)

theorem pre_gain (j : Fin 1024) : Fine (x1 (ix1 j)) := by
  have := pre_at x0 x1 x2 x3 x4 h ⟨4194304 + j.val, by omega⟩
  rw [dif_neg (by dsimp only; omega), dif_pos (by dsimp only; omega)] at this
  refine Eq.subst (motive := fun i => Fine (x1 i)) ?_ this
  exact congrArg ix1 (Fin.ext (by dsimp only; omega))

theorem pre_w (j : Fin 1024) (k : Fin 6656) : Fine (x2 (ix2 j k)) := by
  have := pre_at x0 x1 x2 x3 x4 h ⟨4195328 + (j.val * 6656 + k.val), by omega⟩
  rw [dif_neg (by dsimp only; omega), dif_neg (by dsimp only; omega), dif_pos (by dsimp only; omega)] at this
  refine Eq.subst (motive := fun i => Fine (x2 i)) ?_ this
  exact congrArg₂ ix2 (Fin.ext (by dsimp only; omega)) (Fin.ext (by dsimp only; omega))

theorem pre_d (R : Fin 4096) (k : Fin 6656) : Fine (tok (n := 6656) x3 R k) := by
  have := pre_at x0 x1 x2 x3 x4 h ⟨11011072 + (R.val * 6656 + k.val), by omega⟩
  rw [dif_neg (by dsimp only; omega), dif_neg (by dsimp only; omega), dif_neg (by dsimp only; omega)] at this
  refine Eq.subst (motive := fun i => Fine (x3 i)) ?_ this
  refine ix3_congr ?_ ?_ ?_
  all_goals (apply Fin.ext; dsimp only; omega)

/-- The gradient of a normed row is finite. -/
theorem pre_pd (R : Fin 4096) (j : Fin 1024) : Fine (Cert.Proj.pd x1 x2 x3 R j) :=
  (Fine.sum _ fun k => (pre_d x0 x1 x2 x3 x4 h R k).mul (pre_w x0 x1 x2 x3 x4 h j k)).mul (pre_gain x0 x1 x2 x3 x4 h j)

end Cert.ProjKernelIdeal.Value

end
-- ==== Proof.Proj.Claim.lean ====
module

public import proofs.«01_k».proof.Proof.Proj.Run
public import proofs.«01_k».proof.Proof.Proj.Finite
public import proofs.«01_k».proof.Proof.Gen.ProjKernelIdeal.Frame
public import proofs.«01_k».proof.Proof.Gen.ProjReferenceIdeal.Run
public import Idealize.ShloMosaic.Lib.Claim
public import proofs.«01_k».proof.Defs
public import Idealize.ShloMosaic.Lib.Pointwise

@[expose] public section

set_option maxRecDepth 16384

noncomputable section

open Idealize.ShloMosaic Idealize.ShloMosaic.TcCoe Idealize.SL.Sem

/-! ## The two results of the input projection's gradient

The kernel's row is `rs x * (d - unit x * mean (∑ d * unit x))`; the reference's is the derivative of the square root and of the
quotient, spelt out. They agree where the rows are real numbers. The gain's gradient needs no finiteness. -/

namespace Cert.ProjKernelIdeal.Value

open Cert.ProjKernelIdeal Cert.ProjKernelIdeal.Gen Cert.Norm Cert.Merge Cert.Proj
open Cert.ProjReferenceIdeal.Read (val_main_v39 val_main_v23)

variable (m : (ℓ : Loc nD τ sig) → Buf (Elt Ideal) ℓ) (ρ : Dev nD → PrngReg) (c : Dev nD)

/-- The program's arguments at a device. -/
def P0 : FVec Ideal S2x2048x1024 .f32 := m ((c.tc : Thread nD τ).loc main_arg0)
def P1 : FVec Ideal S1024 .f32 := m ((c.tc : Thread nD τ).loc main_arg1)
def P2 : FVec Ideal S1024x6656 .f32 := m ((c.tc : Thread nD τ).loc main_arg2)
def P3 : FVec Ideal S2x2048x6656 .f32 := m ((c.tc : Thread nD τ).loc main_arg3)
def P4 : FVec Ideal S2x2048x1024 .f32 := m ((c.tc : Thread nD τ).loc main_arg4)

theorem xrow_eq (R : Fin 4096) : xrow m c R = tok (n := 1024) (P0 m c) R :=
  funext fun j => congrFun (aX_eq m c) (ix2 R j)

theorem dn_pdn (R : Fin 4096) (j : Fin 1024) : dn m c R j = pdn (P2 m c) (P3 m c) R j := dn_eq m c R j

theorem drow_eq (R : Fin 4096) : drow m c R = pd (P1 m c) (P2 m c) (P3 m c) R :=
  funext fun j => congrArg₂ (fun a b : EReal => a * b) (dn_pdn m c R j) (aG_eq m c j)

theorem gx_eq [Cert.Pre_finite_projection.Facts] (hpre : Cert.Pre_ProjKernelIdeal_finite_projection m) :
    (dats m 0 c).arrAt 5 cfg0.N = val_main_v39 (F := Ideal) (P0 m c) (P1 m c) (P2 m c) (P3 m c) (P4 m c) := by
  refine (gx m c).trans (funext fun y => ?_)
  obtain ⟨R, j, rfl⟩ : ∃ (R : Fin 4096) (j : Fin 1024), y = (ix2 R j : S4096x1024.Idx) := ⟨y 0, y 1, eq_ix2 y⟩
  refine Eq.trans ?_ (ref_dx (P0 m c) (P1 m c) (P2 m c) (P3 m c) (P4 m c) R j).symm
  refine Eq.trans ?_ (pgrad_eq _ (pre_x _ _ _ _ _ (hpre c) R) (pre_pd _ _ _ _ _ (hpre c) R) j).symm
  show aH m c (ix2 R j) + grad (xrow m c R) (drow m c R) j = _
  rw [xrow_eq, drow_eq, aH_eq]
  rfl

theorem gain_eq : (Pipeline.afterTail₀ cfgs (dats m) 0 (V0 m) [hostOps1] c main_v12 : FVec Ideal S1024 .f32)
    = val_main_v23 (F := Ideal) (P0 m c) (P2 m c) (P3 m c) := by
  refine (tail m c).trans (funext fun y => ?_)
  obtain ⟨j, rfl⟩ : ∃ j : Fin 1024, y = (ix1 j : S1024.Idx) := ⟨y 0, eq_ix1 y⟩
  refine Eq.trans ?_ (ref_dg (P0 m c) (P2 m c) (P3 m c) j).symm
  refine Finset.sum_congr rfl fun R _ => ?_
  show dn m c R j * unit (xrow m c R) j = _
  rw [xrow_eq, dn_pdn, mul_comm]

/-- The call's run: its results are the reference's terms over its own arguments, which end unchanged. -/
theorem run [Cert.Pre_finite_projection.Facts] (hpre : Cert.Pre_ProjKernelIdeal_finite_projection m) :
    θ_run defs (onTc (τ := τ) (main (F := Ideal))) ⟨m, fun _ => 0, ρ⟩ (fun r => ∀ c : Dev nD,
      r.2.mem ((c.tc : Thread nD τ).loc main_v8_0) = val_main_v39 (F := Ideal) (P0 m c) (P1 m c) (P2 m c) (P3 m c) (P4 m c)
      ∧ r.2.mem ((c.tc : Thread nD τ).loc main_v12) = val_main_v23 (F := Ideal) (P0 m c) (P2 m c) (P3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (gx_eq m c hpre),
      ((h.1 c).2 main_v12 (Pipeline.mem_restRefs_of _ (by decide) (by decide))).trans (gain_eq m c), h.2 c⟩)
    (Idealize.ShloMosaic.θ_run_and (run_main m ρ) (unchanged m ρ))

end Cert.ProjKernelIdeal.Value

/-! The reference's run, its results as the stages' terms. -/
namespace Cert.ProjReferenceIdeal.Value

open Cert.ProjReferenceIdeal Cert.ProjReferenceIdeal.Gen Cert.ProjReferenceIdeal.Read

theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39) = val_main_v39 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_v23) = val_main_v23 (F := Ideal) (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (val_main_v39_eq m c),
    (h c).2.1.trans (val_main_v23_eq _ _ _), (h c).2.2⟩) (run m ρ)

end Cert.ProjReferenceIdeal.Value

namespace Cert.Proj

open Cert.ProjKernelIdeal.Value (P0 P1 P2 P3 P4)

theorem algebraic [Cert.Pre_finite_projection.Facts] : Cert.algebraic_ProjKernelIdeal_ProjReferenceIdeal_pre_finite_projection := by
  intro m g m' g' hpre hagree
  refine ⟨fun c => Cert.ProjReferenceIdeal.Read.val_main_v39 (F := Ideal) (P0 m c) (P1 m c) (P2 m c) (P3 m c) (P4 m c),
    fun c => Cert.ProjReferenceIdeal.Read.val_main_v23 (F := Ideal) (P0 m c) (P2 m c) (P3 m c),
    Cert.ProjKernelIdeal.Value.run m g hpre, ?_⟩
  refine (θ_run Cert.ProjReferenceIdeal.defs _ _).mono (fun r h c => ?_) (Cert.ProjReferenceIdeal.Value.run_stages m' g')
  obtain ⟨a0, a1, a2, a3, a4⟩ := hagree c
  obtain ⟨h0, h1, hargs⟩ := h c
  rw [a0, a1, a2, a3, a4] at h0
  rw [a0, a2, a3] at h1
  exact ⟨h0, h1, hargs⟩

theorem frame_reference : Cert.quiescent_ProjReferenceIdeal := by
  intro m g _
  exact (θ_run Cert.ProjReferenceIdeal.defs _ _).mono (fun r h => ⟨fun c => (h c).2.2,
    sem_eq_zero_of_no_sems (by decide) r.2⟩) (Cert.ProjReferenceIdeal.Value.run m g)

end Cert.Proj

end
-- ==== Proof.Chan.Math.lean ====
module

public import Idealize.ShloMosaic.Lib.Pointwise
public import proofs.«01_k».proof.Proof.Norm.Rms

@[expose] public section

noncomputable section

open Idealize.ShloMosaic

/-! The channel mixer (a gated feed-forward layer between two norms), the loss and their gradients, one row of tokens at a
    time. The 2816 channels lie in four shards of 704. -/

namespace Cert.Chan

open Cert.Norm

/-- A weight matrix whose channels lie in four shards. -/
abbrev Mat := Fin 4 → Fin 704 → Fin 1024 → EReal

/-- A row of channels. -/
abbrev Chans := Fin 4 → Fin 704 → EReal

/-- The logistic function. -/
def sg (a : EReal) : EReal := Ideal.div 1 (1 + Ideal.exp (0 - a))

/-- The normalised row times the norm's gain. -/
def hn (x g : Fin 1024 → EReal) (j : Fin 1024) : EReal := unit x j * g j

/-- A row of columns times a matrix: one entry for each channel. -/
def up (x : Fin 1024 → EReal) (w : Mat) (s : Fin 4) (n : Fin 704) : EReal := ∑ k, x k * w s n k

/-- The gated channels: `silu a · b`. -/
def ff (a b : Chans) (s : Fin 4) (n : Fin 704) : EReal := a s n * sg (a s n) * b s n

/-- The part of a row of channels times a matrix that one shard gives. -/
def down (f : Chans) (w : Mat) (s : Fin 4) (j : Fin 1024) : EReal := ∑ n, f s n * w s n j

/-- The layer's output, the row plus the shards' parts one after the other. -/
def h2 (x : Fin 1024 → EReal) (f : Chans) (w : Mat) (j : Fin 1024) : EReal :=
  x j + down f w 0 j + down f w 1 j + down f w 2 j + down f w 3 j

/-- The error of the final norm's output. -/
def err (y g t : Fin 1024 → EReal) (j : Fin 1024) : EReal := unit y j * g j - t j

/-- The loss's gradient with respect to the final norm's output: the error over 1024. -/
def dy (y g t : Fin 1024 → EReal) (j : Fin 1024) : EReal := err y g t j * Ideal.ofBits .f32 0x3A800000#32

/-- The loss's gradient with respect to the layer's output. -/
def dh2 (y g t : Fin 1024 → EReal) : Fin 1024 → EReal := grad y fun j => dy y g t j * g j

/-- The gradients of the two products that the gated channels are made of, and of their argument: `d` is the gradient of the
    layer's output. -/
def db (d : Fin 1024 → EReal) (a : Chans) (wd : Mat) (s : Fin 4) (n : Fin 704) : EReal := up d wd s n * (a s n * sg (a s n))

def da (d : Fin 1024 → EReal) (a b : Chans) (wd : Mat) (s : Fin 4) (n : Fin 704) : EReal :=
  up d wd s n * b s n * (sg (a s n) * (1 + a s n * (1 - sg (a s n))))

/-- The gradient of the normed row, a shard after the other. -/
def dhn (da db : Chans) (wg wu : Mat) (j : Fin 1024) : EReal :=
  down da wg 0 j + down db wu 0 j + down da wg 1 j + down db wu 1 j + down da wg 2 j + down db wu 2 j
    + down da wg 3 j + down db wu 3 j

end Cert.Chan
-- ==== Proof.Chan.Fwd.lean ====
module

public import proofs.«01_k».proof.Proof.Gen.ChanKernelIdeal.Frame
public import Idealize.ShloMosaic.Lib.Pipeline.ValueKit
public import proofs.«01_k».proof.Proof.Chan.Math
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ChanKernelIdeal.Value

open Cert.ChanKernelIdeal Cert.ChanKernelIdeal.Gen Cert.Chan Cert.Norm

variable (V : (c : Dev nD) → (b : Ref sig .tc) → Buf (Elt Ideal) ((c : Thread nD τ).loc b))

/-- The blocks that a grid point of the forward call reads and writes. -/
theorem idx0 : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![0, 0] ∧ win0_6.index t = ![t.val, 0]
    ∧ win0_7.index t = ![t.val, 0] ∧ win0_8.index t = ![0, t.val, 0] ∧ win0_9.index t = ![0, t.val, 0]
    ∧ win0_10.index t = ![0, t.val, 0] ∧ win0_11.index t = ![t.val, 0] ∧ win0_12.index t = ![t.val, 0] :=
  (by decide +kernel : ∀ t : Fin grid0.N, _)

/-- The row of the whole array that a block's row is. -/
def row (t : Nat) (ht : t < 8) (i : Nat) (hi : i < 512) : Fin 4096 := ⟨t * 512 + i, by omega⟩

/-- A row of an array. -/
def rowOf {a b : ℕ} (x : (⟨2, ![a, b]⟩ : Shape).Idx → EReal) (R : Fin a) (k : Fin b) : EReal := x (ix2 R k)

/-- The matrix of an array of four shards. -/
def mat (w : (⟨3, ![4, 704, 1024]⟩ : Shape).Idx → EReal) : Mat := fun s n k => w (ix3 s n k)

/-! ## What the body computes, over its operands' blocks -/

section Block
variable (x0 : FVec Ideal S512x1024 .f32) (x1 : FVec Ideal S1x1024 .f32) (x2 x3 x4 : FVec Ideal S4x704x1024 .bf16)
  (x5 : FVec Ideal S1x1024 .f32) (x6 : FVec Ideal S512x1024 .f32) (i : Fin 512)

/-- A shard of a matrix, as loaded. -/
def sh0 (w : FVec Ideal S4x704x1024 .bf16) : FVec Ideal S1x704x1024 .bf16 :=
  View.ld (Val := Elt Ideal) (e' := .bf16) w (Rect.unit (s := S4x704x1024) ![0, 0, 0] ![1, 704, 1024] inb_S4x704x1024_S1x704x1024_0_0_0)
def sh1 (w : FVec Ideal S4x704x1024 .bf16) : FVec Ideal S1x704x1024 .bf16 :=
  View.ld (Val := Elt Ideal) (e' := .bf16) w (Rect.unit (s := S4x704x1024) ![1, 0, 0] ![1, 704, 1024] inb_S4x704x1024_S1x704x1024_1_0_0)
def sh2 (w : FVec Ideal S4x704x1024 .bf16) : FVec Ideal S1x704x1024 .bf16 :=
  View.ld (Val := Elt Ideal) (e' := .bf16) w (Rect.unit (s := S4x704x1024) ![2, 0, 0] ![1, 704, 1024] inb_S4x704x1024_S1x704x1024_2_0_0)
def sh3 (w : FVec Ideal S4x704x1024 .bf16) : FVec Ideal S1x704x1024 .bf16 :=
  View.ld (Val := Elt Ideal) (e' := .bf16) w (Rect.unit (s := S4x704x1024) ![3, 0, 0] ![1, 704, 1024] inb_S4x704x1024_S1x704x1024_3_0_0)

theorem sh0_at (w : FVec Ideal S4x704x1024 .bf16) (n : Fin 704) (k : Fin 1024) : sh0 w (ix3 0 n k) = mat w 0 n k :=
  congrArg w (show (Rect.unit (s := S4x704x1024) ![0, 0, 0] ![1, 704, 1024] inb_S4x704x1024_S1x704x1024_0_0_0).emb (ix3 0 n k : S1x704x1024.Idx)
    = ix3 0 n k by blk_ext)
theorem sh1_at (w : FVec Ideal S4x704x1024 .bf16) (n : Fin 704) (k : Fin 1024) : sh1 w (ix3 0 n k) = mat w 1 n k :=
  congrArg w (show (Rect.unit (s := S4x704x1024) ![1, 0, 0] ![1, 704, 1024] inb_S4x704x1024_S1x704x1024_1_0_0).emb (ix3 0 n k : S1x704x1024.Idx)
    = ix3 1 n k by blk_ext)
theorem sh2_at (w : FVec Ideal S4x704x1024 .bf16) (n : Fin 704) (k : Fin 1024) : sh2 w (ix3 0 n k) = mat w 2 n k :=
  congrArg w (show (Rect.unit (s := S4x704x1024) ![2, 0, 0] ![1, 704, 1024] inb_S4x704x1024_S1x704x1024_2_0_0).emb (ix3 0 n k : S1x704x1024.Idx)
    = ix3 2 n k by blk_ext)
theorem sh3_at (w : FVec Ideal S4x704x1024 .bf16) (n : Fin 704) (k : Fin 1024) : sh3 w (ix3 0 n k) = mat w 3 n k :=
  congrArg w (show (Rect.unit (s := S4x704x1024) ![3, 0, 0] ![1, 704, 1024] inb_S4x704x1024_S1x704x1024_3_0_0).emb (ix3 0 n k : S1x704x1024.Idx)
    = ix3 3 n k by blk_ext)

/-- The rows of the layer's stages over the operands' blocks. -/
def bHn : Fin 1024 → EReal := hn (rowOf x0 i) (rowOf x1 0)
def bA : Chans := up (bHn x0 x1 i) (mat x2)
def bF : Chans := ff (bA x0 x1 x2 i) (bA x0 x1 x3 i)
def bH2 : Fin 1024 → EReal := h2 (rowOf x0 i) (bF x0 x1 x2 x3 i) (mat x4)

theorem blk_hn (j : Fin 1024) : k0_pay6 (F := Ideal) x0 x1 (ix2 i j) = bHn x0 x1 i j := by
  pointwise [k0_pay5, k0_pay6]
  rfl

theorem blk_a0 (n : Fin 704) : k0_pay7 (F := Ideal) x0 x1 (sh0 x2) (ix2 i n) = bA x0 x1 x2 i 0 n := by
  pointwise [k0_pay7]
  simp only [blk_hn, sh0_at]
  rfl
theorem blk_b0 (n : Fin 704) : k0_pay8 (F := Ideal) x0 x1 (sh0 x2) (ix2 i n) = bA x0 x1 x2 i 0 n := by
  pointwise [k0_pay8]
  simp only [blk_hn, sh0_at]
  rfl
theorem blk_a1 (n : Fin 704) : k0_pay15 (F := Ideal) (k0_pay6 x0 x1) (sh1 x2) (ix2 i n) = bA x0 x1 x2 i 1 n := by
  pointwise [k0_pay15]
  simp only [blk_hn, sh1_at]
  rfl
theorem blk_b1 (n : Fin 704) : k0_pay16 (F := Ideal) (k0_pay6 x0 x1) (sh1 x2) (ix2 i n) = bA x0 x1 x2 i 1 n := by
  pointwise [k0_pay16]
  simp only [blk_hn, sh1_at]
  rfl
theorem blk_a2 (n : Fin 704) : k0_pay23 (F := Ideal) (k0_pay6 x0 x1) (sh2 x2) (ix2 i n) = bA x0 x1 x2 i 2 n := by
  pointwise [k0_pay23]
  simp only [blk_hn, sh2_at]
  rfl
theorem blk_b2 (n : Fin 704) : k0_pay24 (F := Ideal) (k0_pay6 x0 x1) (sh2 x2) (ix2 i n) = bA x0 x1 x2 i 2 n := by
  pointwise [k0_pay24]
  simp only [blk_hn, sh2_at]
  rfl
theorem blk_a3 (n : Fin 704) : k0_pay30 (F := Ideal) (k0_pay6 x0 x1) (sh3 x2) (ix2 i n) = bA x0 x1 x2 i 3 n := by
  pointwise [k0_pay30]
  simp only [blk_hn, sh3_at]
  rfl
theorem blk_b3 (n : Fin 704) : k0_pay31 (F := Ideal) (k0_pay6 x0 x1) (sh3 x2) (ix2 i n) = bA x0 x1 x2 i 3 n := by
  pointwise [k0_pay31]
  simp only [blk_hn, sh3_at]
  rfl

theorem blk_f0 (n : Fin 704) : k0_pay9 (F := Ideal) x0 x1 (sh0 x2) (sh0 x3) (ix2 i n) = bF x0 x1 x2 x3 i 0 n := by
  pointwise [k0_pay9]
  simp only [blk_a0, blk_b0]
  rfl
theorem blk_f1 (n : Fin 704) : k0_pay17 (F := Ideal) (k0_pay6 x0 x1) (sh1 x2) (sh1 x3) (ix2 i n) = bF x0 x1 x2 x3 i 1 n := by
  pointwise [k0_pay17]
  simp only [blk_a1, blk_b1]
  rfl
theorem blk_f2 (n : Fin 704) : k0_pay25 (F := Ideal) (k0_pay6 x0 x1) (sh2 x2) (sh2 x3) (ix2 i n) = bF x0 x1 x2 x3 i 2 n := by
  pointwise [k0_pay25]
  simp only [blk_a2, blk_b2]
  rfl
theorem blk_f3 (n : Fin 704) : k0_pay32 (F := Ideal) (k0_pay6 x0 x1) (sh3 x2) (sh3 x3) (ix2 i n) = bF x0 x1 x2 x3 i 3 n := by
  pointwise [k0_pay32]
  simp only [blk_a3, blk_b3]
  rfl

/-- The layer's output before the last shard's part. -/
abbrev acc : FVec Ideal S512x1024 .f32 :=
  k0_pay29 (k0_pay22 (k0_pay14 (k0_pay5 x0) (k0_pay9 x0 x1 (sh0 x2) (sh0 x3)) (sh0 x4))
    (k0_pay17 (k0_pay6 x0 x1) (sh1 x2) (sh1 x3)) (sh1 x4)) (k0_pay25 (k0_pay6 x0 x1) (sh2 x2) (sh2 x3)) (sh2 x4)

theorem blk_h2 (j : Fin 1024) : k0_pay37 (F := Ideal) (acc x0 x1 x2 x3 x4) (k0_pay32 (k0_pay6 x0 x1) (sh3 x2) (sh3 x3)) (sh3 x4) (ix2 i j)
    = bH2 x0 x1 x2 x3 x4 i j := by
  pointwise [k0_pay37, k0_pay29, k0_pay22, k0_pay14, k0_pay5]
  simp only [blk_f0, blk_f1, blk_f2, blk_f3, sh0_at, sh1_at, sh2_at, sh3_at]
  rfl

/-- The rest of the body, over the layer's output. -/
theorem last_rs (p : FVec Ideal S512x1024 .f32) (q : FVec Ideal S512x704 .bf16) (w : FVec Ideal S1x704x1024 .bf16)
    (y : Fin 1024 → EReal) (h : ∀ j, k0_pay37 (F := Ideal) p q w (ix2 i j) = y j) : k0_pay38 (F := Ideal) p q w (ix2 i 0) = rs y := by
  pointwise [k0_pay38]
  simp only [h]
  rfl

theorem last_unit (p : FVec Ideal S512x1024 .f32) (q : FVec Ideal S512x704 .bf16) (w : FVec Ideal S1x704x1024 .bf16)
    (y : Fin 1024 → EReal) (h : ∀ j, k0_pay37 (F := Ideal) p q w (ix2 i j) = y j) (j : Fin 1024) :
    k0_pay39 (F := Ideal) p q w (ix2 i j) = unit y j := by
  pointwise [k0_pay39]
  simp only [h, last_rs i p q w y h]
  rfl

theorem last_err (p : FVec Ideal S512x1024 .f32) (q : FVec Ideal S512x704 .bf16) (w : FVec Ideal S1x704x1024 .bf16)
    (y : Fin 1024 → EReal) (h : ∀ j, k0_pay37 (F := Ideal) p q w (ix2 i j) = y j) (j : Fin 1024) :
    k0_pay41 (F := Ideal) p q w x5 x6 (ix2 i j) = err y (rowOf x5 0) (rowOf x6 i) j := by
  pointwise [k0_pay41, k0_pay40]
  simp only [last_unit i p q w y h]
  rfl

theorem last_dy (p : FVec Ideal S512x1024 .f32) (q : FVec Ideal S512x704 .bf16) (w : FVec Ideal S1x704x1024 .bf16)
    (y : Fin 1024 → EReal) (h : ∀ j, k0_pay37 (F := Ideal) p q w (ix2 i j) = y j) (j : Fin 1024) :
    k0_pay42 (F := Ideal) p q w x5 x6 (ix2 i j) = dy y (rowOf x5 0) (rowOf x6 i) j := by
  pointwise [k0_pay42]
  simp only [last_err x5 x6 i p q w y h]
  rfl

theorem last_dh2 (p : FVec Ideal S512x1024 .f32) (q : FVec Ideal S512x704 .bf16) (w : FVec Ideal S1x704x1024 .bf16)
    (y : Fin 1024 → EReal) (h : ∀ j, k0_pay37 (F := Ideal) p q w (ix2 i j) = y j) (j : Fin 1024) :
    k0_pay1 (F := Ideal) (k0_pay38 p q w) (k0_pay43 p q w x5 x6) (ix2 i j) = dh2 y (rowOf x5 0) (rowOf x6 i) j := by
  pointwise [k0_pay1, k0_pay43, k0_pay40]
  simp only [last_dy x5 x6 i p q w y h, last_unit i p q w y h, last_rs i p q w y h]
  rfl

/-- The rows of the loss over the operands' blocks. -/
def bDh2 : Fin 1024 → EReal := dh2 (bH2 x0 x1 x2 x3 x4 i) (rowOf x5 0) (rowOf x6 i)
def bDg (j : Fin 1024) : EReal := dy (bH2 x0 x1 x2 x3 x4 i) (rowOf x5 0) (rowOf x6 i) j * unit (bH2 x0 x1 x2 x3 x4 i) j
def bSq (j : Fin 1024) : EReal := err (bH2 x0 x1 x2 x3 x4 i) (rowOf x5 0) (rowOf x6 i) j * err (bH2 x0 x1 x2 x3 x4 i) (rowOf x5 0) (rowOf x6 i) j

theorem blk_dh2 (j : Fin 1024) : k0_pay1 (F := Ideal)
      (k0_pay38 (acc x0 x1 x2 x3 x4) (k0_pay32 (k0_pay6 x0 x1) (sh3 x2) (sh3 x3)) (sh3 x4))
      (k0_pay43 (acc x0 x1 x2 x3 x4) (k0_pay32 (k0_pay6 x0 x1) (sh3 x2) (sh3 x3)) (sh3 x4) x5 x6) (ix2 i j)
    = bDh2 x0 x1 x2 x3 x4 x5 x6 i j :=
  last_dh2 x5 x6 i _ _ _ _ (blk_h2 x0 x1 x2 x3 x4 i) j

theorem blk_dg (j : Fin 1024) : k0_pay3 (F := Ideal)
      (k0_pay39 (acc x0 x1 x2 x3 x4) (k0_pay32 (k0_pay6 x0 x1) (sh3 x2) (sh3 x3)) (sh3 x4))
      (k0_pay42 (acc x0 x1 x2 x3 x4) (k0_pay32 (k0_pay6 x0 x1) (sh3 x2) (sh3 x3)) (sh3 x4) x5 x6) (ix2 0 j)
    = ∑ r, bDg x0 x1 x2 x3 x4 x5 x6 r j := by
  pointwise [k0_pay3]
  simp only [fun r => last_dy x5 x6 r _ _ _ _ (blk_h2 x0 x1 x2 x3 x4 r), fun r => last_unit r _ _ _ _ (blk_h2 x0 x1 x2 x3 x4 r)]
  rfl

theorem blk_sq (j : Fin 1024) : k0_pay4 (F := Ideal)
      (k0_pay41 (acc x0 x1 x2 x3 x4) (k0_pay32 (k0_pay6 x0 x1) (sh3 x2) (sh3 x3)) (sh3 x4) x5 x6) (ix2 0 j)
    = Ideal.ofBits .f32 0x3A000000#32 * ∑ r, bSq x0 x1 x2 x3 x4 x5 x6 r j := by
  pointwise [k0_pay4]
  simp only [fun r => last_err x5 x6 r _ _ _ _ (blk_h2 x0 x1 x2 x3 x4 r)]
  rfl

end Block

theorem canon_at (r : Rect S8x1024) (w : r.shape.Idx → Elt Ideal .f32) (L : List (View.Piece (Elt Ideal) S8x1024 .f32))
    (y : S8x1024.Idx) (x : r.shape.Idx) (h : y = r.emb x) : View.canon (⟨r, w⟩ :: L) y = w x := by
  rw [h]; exact View.canon_cons_emb r w L x

/-- A block stored whole and then again in its first two rows. -/
theorem canon_rows (w1 w0 : FVec Ideal S1x1024 .f32) (w' : FVec Ideal S8x1024 .f32) (i : Fin 8) (j : Fin 1024) :
    View.canon (Val := Elt Ideal) (e := .f32) [⟨Rect.unit ![1, 0] ![1, 1024] inb_S8x1024_S1x1024_1_0, w1⟩,
        ⟨Rect.unit ![0, 0] ![1, 1024] inb_S8x1024_S1x1024_0_0, w0⟩,
        ⟨Rect.unit ![0, 0] ![8, 1024] inb_S8x1024_S8x1024_0_0, w'⟩] (ix2 i j : S8x1024.Idx)
      = if i.val = 1 then w1 (ix2 0 j) else if i.val = 0 then w0 (ix2 0 j) else w' (ix2 i j) := by
  split_ifs with h h0
  · refine canon_at (Rect.unit (s := S8x1024) ![1, 0] ![1, 1024] inb_S8x1024_S1x1024_1_0) w1 _ _ (ix2 0 j : S1x1024.Idx) ?_
    blk_ext [h]
  · rw [View.canon_cons_of_not_mem]
    · refine canon_at (Rect.unit (s := S8x1024) ![0, 0] ![1, 1024] inb_S8x1024_S1x1024_0_0) w0 _ _ (ix2 0 j : S1x1024.Idx) ?_
      blk_ext [h0]
    · exact Rect.not_mem_set_of_axis _ _ 0 1 1 rfl rfl rfl (Or.inl (by show i.val < 1; omega))
  · rw [View.canon_cons_of_not_mem]
    · rw [View.canon_cons_of_not_mem]
      · refine canon_at (Rect.unit (s := S8x1024) ![0, 0] ![8, 1024] inb_S8x1024_S8x1024_0_0) w' _ _ (ix2 i j : S8x1024.Idx) ?_
        blk_ext
      · exact Rect.not_mem_set_of_axis _ _ 0 0 1 rfl rfl rfl (Or.inr (by show 1 ≤ i.val; omega))
    · exact Rect.not_mem_set_of_axis _ _ 0 1 1 rfl rfl rfl (Or.inr (by show 2 ≤ i.val; omega))

theorem canon_at3 {S : Shape} (r : Rect S) (w : r.shape.Idx → Elt Ideal .bf16) (L : List (View.Piece (Elt Ideal) S .bf16))
    (y : S.Idx) (x : r.shape.Idx) (h : y = r.emb x) : View.canon (⟨r, w⟩ :: L) y = w x := by
  rw [h]; exact View.canon_cons_emb r w L x

/-- A block stored a shard after the other. -/
theorem canon_shards (w3 w2 w1 w0 : FVec Ideal S1x512x704 .bf16) (s : Fin 4) (i : Fin 512) (n : Fin 704) (G : Fin 4 → EReal)
    (h0 : w0 (ix3 0 i n) = G 0) (h1 : w1 (ix3 0 i n) = G 1) (h2 : w2 (ix3 0 i n) = G 2) (h3 : w3 (ix3 0 i n) = G 3) :
    View.canon (Val := Elt Ideal) (e := .bf16) [⟨Rect.unit ![3, 0, 0] ![1, 512, 704] inb_S4x512x704_S1x512x704_3_0_0, w3⟩,
        ⟨Rect.unit ![2, 0, 0] ![1, 512, 704] inb_S4x512x704_S1x512x704_2_0_0, w2⟩,
        ⟨Rect.unit ![1, 0, 0] ![1, 512, 704] inb_S4x512x704_S1x512x704_1_0_0, w1⟩,
        ⟨Rect.unit ![0, 0, 0] ![1, 512, 704] inb_S4x512x704_S1x512x704_0_0_0, w0⟩] (ix3 s i n : S4x512x704.Idx) = G s := by
  have hs := s.isLt
  by_cases e3 : s.val = 3
  · rw [show s = 3 from Fin.ext e3]
    refine (canon_at3 (S := S4x512x704) (Rect.unit ![3, 0, 0] ![1, 512, 704] inb_S4x512x704_S1x512x704_3_0_0) w3 _ _ (ix3 0 i n : S1x512x704.Idx) ?_).trans h3
    blk_ext
  rw [View.canon_cons_of_not_mem _ _ (Rect.not_mem_set_of_axis _ _ 0 3 1 rfl rfl rfl (Or.inl (by show s.val < 3; omega)))]
  by_cases e2 : s.val = 2
  · rw [show s = 2 from Fin.ext e2]
    refine (canon_at3 (S := S4x512x704) (Rect.unit ![2, 0, 0] ![1, 512, 704] inb_S4x512x704_S1x512x704_2_0_0) w2 _ _ (ix3 0 i n : S1x512x704.Idx) ?_).trans h2
    blk_ext
  rw [View.canon_cons_of_not_mem _ _ (Rect.not_mem_set_of_axis _ _ 0 2 1 rfl rfl rfl (Or.inl (by show s.val < 2; omega)))]
  by_cases e1 : s.val = 1
  · rw [show s = 1 from Fin.ext e1]
    refine (canon_at3 (S := S4x512x704) (Rect.unit ![1, 0, 0] ![1, 512, 704] inb_S4x512x704_S1x512x704_1_0_0) w1 _ _ (ix3 0 i n : S1x512x704.Idx) ?_).trans h1
    blk_ext
  rw [View.canon_cons_of_not_mem _ _ (Rect.not_mem_set_of_axis _ _ 0 1 1 rfl rfl rfl (Or.inl (by show s.val < 1; omega)))]
  rw [show s = 0 from Fin.ext (by show s.val = 0; omega)]
  refine (canon_at3 (S := S4x512x704) (Rect.unit ![0, 0, 0] ![1, 512, 704] inb_S4x512x704_S1x512x704_0_0_0) w0 _ _ (ix3 0 i n : S1x512x704.Idx) ?_).trans h0
  blk_ext

section Points
variable (c : Dev nD) (t : Fin cfg0.N)

theorem blkx (i : Fin 512) : rowOf (iblk0 V c 0 t) i = rowOf (a := 4096) (b := 1024) (V c main_v8) (row t.val t.isLt i.val i.isLt) := by
  funext k; unfold rowOf; blk_point [iblk0, idx0 t, row]

theorem blkt (i : Fin 512) : rowOf (iblk0 V c 6 t) i = rowOf (a := 4096) (b := 1024) (V c main_v11) (row t.val t.isLt i.val i.isLt) := by
  funext k; unfold rowOf; blk_point [iblk0, idx0 t, row]

theorem blkg : rowOf (iblk0 V c 1 t) 0 = rowOf (a := 1) (b := 1024) (V c main_v9) 0 := by
  funext k; unfold rowOf; blk_point [iblk0, idx0 t]

theorem blkgf : rowOf (iblk0 V c 5 t) 0 = rowOf (a := 1) (b := 1024) (V c main_v10) 0 := by
  funext k; unfold rowOf; blk_point [iblk0, idx0 t]

theorem blkwg : mat (iblk0 V c 2 t) = mat (V c main_v2) := by
  funext s n k; unfold mat; blk_point [iblk0, idx0 t]

theorem blkwu : mat (iblk0 V c 3 t) = mat (V c main_v5) := by
  funext s n k; unfold mat; blk_point [iblk0, idx0 t]

theorem blkwd : mat (iblk0 V c 4 t) = mat (V c main_v7) := by
  funext s n k; unfold mat; blk_point [iblk0, idx0 t]

end Points

/-! ## The rows of the results, over the operands' arrays -/

section Rows
variable (c : Dev nD) (R : Fin 4096)

/-- The row of the layer's argument. -/
def rX : Fin 1024 → EReal := rowOf (a := 4096) (b := 1024) (V c main_v8) R
def rG : Fin 1024 → EReal := rowOf (a := 1) (b := 1024) (V c main_v9) 0
def rGf : Fin 1024 → EReal := rowOf (a := 1) (b := 1024) (V c main_v10) 0
def rT : Fin 1024 → EReal := rowOf (a := 4096) (b := 1024) (V c main_v11) R
/-- The normed row. -/
def rHn : Fin 1024 → EReal := hn (rX V c R) (rG V c)
def rA : Chans := up (rHn V c R) (mat (V c main_v2))
def rB : Chans := up (rHn V c R) (mat (V c main_v5))
/-- The gated channels. -/
def rF : Chans := ff (rA V c R) (rB V c R)
/-- The layer's output and its gradient. -/
def rH2 : Fin 1024 → EReal := h2 (rX V c R) (rF V c R) (mat (V c main_v7))
def rDh2 : Fin 1024 → EReal := dh2 (rH2 V c R) (rGf V c) (rT V c R)
/-- A row's summand of the final gain's gradient and its squared errors. -/
def rDg (j : Fin 1024) : EReal := dy (rH2 V c R) (rGf V c) (rT V c R) j * unit (rH2 V c R) j
def rSq (j : Fin 1024) : EReal := err (rH2 V c R) (rGf V c) (rT V c R) j * err (rH2 V c R) (rGf V c) (rT V c R) j

end Rows

section Points
variable (c : Dev nD) (t : Fin cfg0.N)

theorem bA_eq (i : Fin 512) : bA (iblk0 V c 0 t) (iblk0 V c 1 t) (iblk0 V c 2 t) i = rA V c (row t.val t.isLt i.val i.isLt) := by
  unfold bA bHn; rw [blkx, blkg, blkwg]; rfl
theorem bB_eq (i : Fin 512) : bA (iblk0 V c 0 t) (iblk0 V c 1 t) (iblk0 V c 3 t) i = rB V c (row t.val t.isLt i.val i.isLt) := by
  unfold bA bHn; rw [blkx, blkg, blkwu]; rfl
theorem bF_eq (i : Fin 512) : bF (iblk0 V c 0 t) (iblk0 V c 1 t) (iblk0 V c 2 t) (iblk0 V c 3 t) i = rF V c (row t.val t.isLt i.val i.isLt) := by
  unfold bF; rw [bA_eq, bB_eq]; rfl
theorem bH2_eq (i : Fin 512) : bH2 (iblk0 V c 0 t) (iblk0 V c 1 t) (iblk0 V c 2 t) (iblk0 V c 3 t) (iblk0 V c 4 t) i
    = rH2 V c (row t.val t.isLt i.val i.isLt) := by
  unfold bH2; rw [bF_eq, blkx, blkwd]; rfl

theorem out7 (i : Fin 512) (j : Fin 1024) : (outsAt0 V c t).1 (ix2 i j) = rHn V c (row t.val t.isLt i.val i.isLt) j := by
  unfold outsAt0
  frame_out
  refine (blk_hn _ _ i j).trans ?_
  unfold bHn; rw [blkx, blkg]; rfl

theorem out11 (i : Fin 512) (j : Fin 1024) : (outsAt0 V c t).2.2.2.2.1 (ix2 i j) = rDh2 V c (row t.val t.isLt i.val i.isLt) j := by
  unfold outsAt0
  frame_out
  refine (blk_dh2 (iblk0 V c 0 t) (iblk0 V c 1 t) (iblk0 V c 2 t) (iblk0 V c 3 t) (iblk0 V c 4 t) (iblk0 V c 5 t) (iblk0 V c 6 t) i j).trans ?_
  unfold bDh2; rw [bH2_eq, blkgf, blkt]; rfl

theorem out12 (i : Fin 8) (j : Fin 1024) : (outsAt0 V c t).2.2.2.2.2 (ix2 i j)
    = if i.val = 1 then Ideal.ofBits .f32 0x3A000000#32 * ∑ r : Fin 512, rSq V c (row t.val t.isLt r.val r.isLt) j
      else if i.val = 0 then ∑ r : Fin 512, rDg V c (row t.val t.isLt r.val r.isLt) j else 0 := by
  unfold outsAt0
  frame_out
  refine (canon_rows _ _ _ i j).trans ?_
  refine if_congr Iff.rfl ?_ (if_congr Iff.rfl ?_ ?_)
  · refine (blk_sq (iblk0 V c 0 t) (iblk0 V c 1 t) (iblk0 V c 2 t) (iblk0 V c 3 t) (iblk0 V c 4 t) (iblk0 V c 5 t) (iblk0 V c 6 t) j).trans ?_
    refine congrArg (Ideal.ofBits .f32 0x3A000000#32 * ·) (Finset.sum_congr rfl fun r _ => ?_)
    unfold bSq; rw [bH2_eq, blkgf, blkt]; rfl
  · refine (blk_dg (iblk0 V c 0 t) (iblk0 V c 1 t) (iblk0 V c 2 t) (iblk0 V c 3 t) (iblk0 V c 4 t) (iblk0 V c 5 t) (iblk0 V c 6 t) j).trans ?_
    refine Finset.sum_congr rfl fun r _ => ?_
    unfold bDg; rw [bH2_eq, blkgf, blkt]; rfl
  · pointwise [k0_pay2]

theorem out8 (s : Fin 4) (i : Fin 512) (n : Fin 704) : (outsAt0 V c t).2.1 (ix3 s i n) = rA V c (row t.val t.isLt i.val i.isLt) s n := by
  rw [← bA_eq]
  unfold outsAt0
  frame_out
  refine canon_shards _ _ _ _ s i n (fun s => bA (iblk0 V c 0 t) (iblk0 V c 1 t) (iblk0 V c 2 t) i s n) ?_ ?_ ?_ ?_
  · pointwise [k0_pay10, k0_pay11]; exact blk_a0 (iblk0 V c 0 t) (iblk0 V c 1 t) (iblk0 V c 2 t) i n
  · pointwise [k0_pay18, k0_pay19]; exact blk_a1 (iblk0 V c 0 t) (iblk0 V c 1 t) (iblk0 V c 2 t) i n
  · pointwise [k0_pay26]; exact blk_a2 (iblk0 V c 0 t) (iblk0 V c 1 t) (iblk0 V c 2 t) i n
  · pointwise [k0_pay33]; exact blk_a3 (iblk0 V c 0 t) (iblk0 V c 1 t) (iblk0 V c 2 t) i n

theorem out9 (s : Fin 4) (i : Fin 512) (n : Fin 704) : (outsAt0 V c t).2.2.1 (ix3 s i n) = rB V c (row t.val t.isLt i.val i.isLt) s n := by
  rw [← bB_eq]
  unfold outsAt0
  frame_out
  refine canon_shards _ _ _ _ s i n (fun s => bA (iblk0 V c 0 t) (iblk0 V c 1 t) (iblk0 V c 3 t) i s n) ?_ ?_ ?_ ?_
  · pointwise [k0_pay12]; exact blk_b0 (iblk0 V c 0 t) (iblk0 V c 1 t) (iblk0 V c 3 t) i n
  · pointwise [k0_pay20]; exact blk_b1 (iblk0 V c 0 t) (iblk0 V c 1 t) (iblk0 V c 3 t) i n
  · pointwise [k0_pay27]; exact blk_b2 (iblk0 V c 0 t) (iblk0 V c 1 t) (iblk0 V c 3 t) i n
  · pointwise [k0_pay34, k0_pay35]; exact blk_b3 (iblk0 V c 0 t) (iblk0 V c 1 t) (iblk0 V c 3 t) i n

theorem out10 (s : Fin 4) (i : Fin 512) (n : Fin 704) : (outsAt0 V c t).2.2.2.1 (ix3 s i n) = rF V c (row t.val t.isLt i.val i.isLt) s n := by
  rw [← bF_eq]
  unfold outsAt0
  frame_out
  refine canon_shards _ _ _ _ s i n (fun s => bF (iblk0 V c 0 t) (iblk0 V c 1 t) (iblk0 V c 2 t) (iblk0 V c 3 t) i s n) ?_ ?_ ?_ ?_
  · pointwise [k0_pay13]; exact blk_f0 (iblk0 V c 0 t) (iblk0 V c 1 t) (iblk0 V c 2 t) (iblk0 V c 3 t) i n
  · pointwise [k0_pay21]; exact blk_f1 (iblk0 V c 0 t) (iblk0 V c 1 t) (iblk0 V c 2 t) (iblk0 V c 3 t) i n
  · pointwise [k0_pay28]; exact blk_f2 (iblk0 V c 0 t) (iblk0 V c 1 t) (iblk0 V c 2 t) (iblk0 V c 3 t) i n
  · pointwise [k0_pay36]; exact blk_f3 (iblk0 V c 0 t) (iblk0 V c 1 t) (iblk0 V c 2 t) (iblk0 V c 3 t) i n

/-! ## The call's results -/

theorem at7 (i : Fin 512) (j : Fin 1024) : ((View.whole main_v12_0).slice (win0_7.rect t)).emb (ix2 i j)
    = ix2 (row t.val t.isLt i.val i.isLt) j := by blk_ext [idx0 t, row]
theorem at8 (s : Fin 4) (i : Fin 512) (j : Fin 704) : ((View.whole main_v12_1).slice (win0_8.rect t)).emb (ix3 s i j)
    = ix3 s (row t.val t.isLt i.val i.isLt) j := by blk_ext [idx0 t, row]
theorem at9 (s : Fin 4) (i : Fin 512) (j : Fin 704) : ((View.whole main_v12_2).slice (win0_9.rect t)).emb (ix3 s i j)
    = ix3 s (row t.val t.isLt i.val i.isLt) j := by blk_ext [idx0 t, row]
theorem at10 (s : Fin 4) (i : Fin 512) (j : Fin 704) : ((View.whole main_v12_3).slice (win0_10.rect t)).emb (ix3 s i j)
    = ix3 s (row t.val t.isLt i.val i.isLt) j := by blk_ext [idx0 t, row]
theorem at11 (i : Fin 512) (j : Fin 1024) : ((View.whole main_v12_4).slice (win0_11.rect t)).emb (ix2 i j)
    = ix2 (row t.val t.isLt i.val i.isLt) j := by blk_ext [idx0 t, row]
theorem at12 (i : Fin 8) (j : Fin 1024) : ((View.whole main_v12_5).slice (win0_12.rect t)).emb (ix2 i j)
    = ix2 (⟨t.val * 8 + i.val, by have : t.val < 8 := t.isLt; omega⟩ : Fin 64) j := by blk_ext [idx0 t]

end Points

section Arrays
variable (c : Dev nD)

/-- The array of a function of row and column, and of shard, row and channel. -/
def arr {a b : ℕ} (G : Fin a → Fin b → EReal) : (⟨2, ![a, b]⟩ : Shape).Idx → EReal := fun y => G (y 0) (y 1)
def arr3 (G : Fin 4096 → Chans) : (⟨3, ![4, 4096, 704]⟩ : Shape).Idx → EReal := fun y => G (y 1) (y 0) (y 2)

/-- A block's eight rows of partial sums: the gain's gradient in the first, the loss in the second. -/
def rPart (r : Fin 64) (j : Fin 1024) : EReal :=
  if r.val % 8 = 1 then Ideal.ofBits .f32 0x3A000000#32 * ∑ k : Fin 512, rSq V c (row (r.val / 8) (by omega) k.val k.isLt) j
  else if r.val % 8 = 0 then ∑ k : Fin 512, rDg V c (row (r.val / 8) (by omega) k.val k.isLt) j else 0

theorem arr_hn : (dat0 V c).arrAt 7 cfg0.N = arr (rHn V c) := by
  refine (dat0 V c).arrAt_eq_of_covers 7 _ (by decide +kernel) fun t _ y => ?_
  obtain ⟨i, j, rfl⟩ : ∃ (i : Fin 512) (j : Fin 1024), y = (ix2 i j : S512x1024.Idx) := ⟨y 0, y 1, eq_ix2 y⟩
  blk_simp
  rw [after0_7]
  exact (out7 V c t i j).trans (congrArg (arr (rHn V c)) (at7 t i j)).symm

theorem arr_a : (dat0 V c).arrAt 8 cfg0.N = arr3 (rA V c) := by
  refine (dat0 V c).arrAt_eq_of_covers 8 _ (by decide +kernel) fun t _ y => ?_
  obtain ⟨s, i, j, rfl⟩ : ∃ (s : Fin 4) (i : Fin 512) (j : Fin 704), y = (ix3 s i j : S4x512x704.Idx) := ⟨y 0, y 1, y 2, eq_ix3 y⟩
  blk_simp
  rw [after0_8]
  exact (out8 V c t s i j).trans (congrArg (arr3 (rA V c)) (at8 t s i j)).symm

theorem arr_b : (dat0 V c).arrAt 9 cfg0.N = arr3 (rB V c) := by
  refine (dat0 V c).arrAt_eq_of_covers 9 _ (by decide +kernel) fun t _ y => ?_
  obtain ⟨s, i, j, rfl⟩ : ∃ (s : Fin 4) (i : Fin 512) (j : Fin 704), y = (ix3 s i j : S4x512x704.Idx) := ⟨y 0, y 1, y 2, eq_ix3 y⟩
  blk_simp
  rw [after0_9]
  exact (out9 V c t s i j).trans (congrArg (arr3 (rB V c)) (at9 t s i j)).symm

theorem arr_f : (dat0 V c).arrAt 10 cfg0.N = arr3 (rF V c) := by
  refine (dat0 V c).arrAt_eq_of_covers 10 _ (by decide +kernel) fun t _ y => ?_
  obtain ⟨s, i, j, rfl⟩ : ∃ (s : Fin 4) (i : Fin 512) (j : Fin 704), y = (ix3 s i j : S4x512x704.Idx) := ⟨y 0, y 1, y 2, eq_ix3 y⟩
  blk_simp
  rw [after0_10]
  exact (out10 V c t s i j).trans (congrArg (arr3 (rF V c)) (at10 t s i j)).symm

theorem arr_dh2 : (dat0 V c).arrAt 11 cfg0.N = arr (rDh2 V c) := by
  refine (dat0 V c).arrAt_eq_of_covers 11 _ (by decide +kernel) fun t _ y => ?_
  obtain ⟨i, j, rfl⟩ : ∃ (i : Fin 512) (j : Fin 1024), y = (ix2 i j : S512x1024.Idx) := ⟨y 0, y 1, eq_ix2 y⟩
  blk_simp
  rw [after0_11]
  exact (out11 V c t i j).trans (congrArg (arr (rDh2 V c)) (at11 t i j)).symm

theorem arr_part : (dat0 V c).arrAt 12 cfg0.N = arr (rPart V c) := by
  refine (dat0 V c).arrAt_eq_of_covers 12 _ (by decide +kernel) fun t _ y => ?_
  obtain ⟨i, j, rfl⟩ : ∃ (i : Fin 8) (j : Fin 1024), y = (ix2 i j : S8x1024.Idx) := ⟨y 0, y 1, eq_ix2 y⟩
  blk_simp
  rw [after0_12]
  refine (out12 V c t i j).trans (Eq.trans ?_ (congrArg (arr (rPart V c)) (at12 t i j)).symm)
  have ht : t.val < 8 := t.isLt
  have h8 : (t.val * 8 + i.val) % 8 = i.val := by omega
  have e : ∀ k : Fin 512, row ((t.val * 8 + i.val) / 8) (by omega) k.val k.isLt = row t.val t.isLt k.val k.isLt :=
    fun k => Fin.ext (by show (t.val * 8 + i.val) / 8 * 512 + k.val = t.val * 512 + k.val; omega)
  show _ = if (t.val * 8 + i.val) % 8 = 1 then _ else if (t.val * 8 + i.val) % 8 = 0 then _ else _
  rw [h8]
  exact if_congr Iff.rfl (congrArg (Ideal.ofBits .f32 0x3A000000#32 * ·) (Finset.sum_congr rfl fun k _ => congrArg (fun R => rSq V c R j) (e k).symm))
    (if_congr Iff.rfl (Finset.sum_congr rfl fun k _ => congrArg (fun R => rDg V c R j) (e k).symm) rfl)

end Arrays

end Cert.ChanKernelIdeal.Value

end
-- ==== Proof.Chan.Bwd.lean ====
module

public import proofs.«01_k».proof.Proof.Gen.ChanKernelIdeal.Frame
public import Idealize.ShloMosaic.Lib.Pipeline.ValueKit
public import proofs.«01_k».proof.Proof.Chan.Fwd
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ChanKernelIdeal.Value

open Cert.ChanKernelIdeal Cert.ChanKernelIdeal.Gen Cert.Chan Cert.Norm

variable (V : (c : Dev nD) → (b : Ref sig .tc) → Buf (Elt Ideal) ((c : Thread nD τ).loc b))

/-- The blocks that a grid point of the backward call reads and writes. -/
theorem idx1 : ∀ t : Fin cfg1.N, win1_0.index t = ![t.val, 0] ∧ win1_1.index t = ![t.val, 0] ∧ win1_2.index t = ![0, 0]
    ∧ win1_3.index t = ![0, t.val, 0] ∧ win1_4.index t = ![0, t.val, 0] ∧ win1_5.index t = ![0, 0, 0] ∧ win1_6.index t = ![0, 0, 0]
    ∧ win1_7.index t = ![0, 0, 0] ∧ win1_8.index t = ![0, t.val, 0] ∧ win1_9.index t = ![0, t.val, 0]
    ∧ win1_10.index t = ![t.val, 0] ∧ win1_11.index t = ![t.val, 0] :=
  (by decide +kernel : ∀ t : Fin grid1.N, _)

/-- The row of the whole array that a block's row is. -/
def row1 (t : Nat) (ht : t < 16) (i : Nat) (hi : i < 256) : Fin 4096 := ⟨t * 256 + i, by omega⟩

/-- A row's channels in an array of four shards. -/
def chan {a : ℕ} (x : (⟨3, ![4, a, 704]⟩ : Shape).Idx → EReal) (R : Fin a) : Chans := fun s n => x (ix3 s R n)

/-! ## What the body computes, over its operands' blocks -/

/-- A shard of a block of channels, as loaded. -/
def ch0 (w : FVec Ideal S4x256x704 .bf16) : FVec Ideal S1x256x704 .bf16 :=
  View.ld (Val := Elt Ideal) (e' := .bf16) w (Rect.unit (s := S4x256x704) ![0, 0, 0] ![1, 256, 704] inb_S4x256x704_S1x256x704_0_0_0)
def ch1 (w : FVec Ideal S4x256x704 .bf16) : FVec Ideal S1x256x704 .bf16 :=
  View.ld (Val := Elt Ideal) (e' := .bf16) w (Rect.unit (s := S4x256x704) ![1, 0, 0] ![1, 256, 704] inb_S4x256x704_S1x256x704_1_0_0)
def ch2 (w : FVec Ideal S4x256x704 .bf16) : FVec Ideal S1x256x704 .bf16 :=
  View.ld (Val := Elt Ideal) (e' := .bf16) w (Rect.unit (s := S4x256x704) ![2, 0, 0] ![1, 256, 704] inb_S4x256x704_S1x256x704_2_0_0)
def ch3 (w : FVec Ideal S4x256x704 .bf16) : FVec Ideal S1x256x704 .bf16 :=
  View.ld (Val := Elt Ideal) (e' := .bf16) w (Rect.unit (s := S4x256x704) ![3, 0, 0] ![1, 256, 704] inb_S4x256x704_S1x256x704_3_0_0)

theorem ch0_at (w : FVec Ideal S4x256x704 .bf16) (i : Fin 256) (n : Fin 704) : ch0 w (ix3 0 i n) = chan w i 0 n :=
  congrArg w (show (Rect.unit (s := S4x256x704) ![0, 0, 0] ![1, 256, 704] inb_S4x256x704_S1x256x704_0_0_0).emb (ix3 0 i n : S1x256x704.Idx)
    = ix3 0 i n by blk_ext)
theorem ch1_at (w : FVec Ideal S4x256x704 .bf16) (i : Fin 256) (n : Fin 704) : ch1 w (ix3 0 i n) = chan w i 1 n :=
  congrArg w (show (Rect.unit (s := S4x256x704) ![1, 0, 0] ![1, 256, 704] inb_S4x256x704_S1x256x704_1_0_0).emb (ix3 0 i n : S1x256x704.Idx)
    = ix3 1 i n by blk_ext)
theorem ch2_at (w : FVec Ideal S4x256x704 .bf16) (i : Fin 256) (n : Fin 704) : ch2 w (ix3 0 i n) = chan w i 2 n :=
  congrArg w (show (Rect.unit (s := S4x256x704) ![2, 0, 0] ![1, 256, 704] inb_S4x256x704_S1x256x704_2_0_0).emb (ix3 0 i n : S1x256x704.Idx)
    = ix3 2 i n by blk_ext)
theorem ch3_at (w : FVec Ideal S4x256x704 .bf16) (i : Fin 256) (n : Fin 704) : ch3 w (ix3 0 i n) = chan w i 3 n :=
  congrArg w (show (Rect.unit (s := S4x256x704) ![3, 0, 0] ![1, 256, 704] inb_S4x256x704_S1x256x704_3_0_0).emb (ix3 0 i n : S1x256x704.Idx)
    = ix3 3 i n by blk_ext)

section Block
variable (x0 x1 : FVec Ideal S256x1024 .f32) (x2 : FVec Ideal S1x1024 .f32) (x3 x4 : FVec Ideal S4x256x704 .bf16)
  (x5 x6 x7 : FVec Ideal S4x704x1024 .bf16) (i : Fin 256)

/-- The rows of the gradients over the operands' blocks. -/
def bDa : Chans := da (rowOf x0 i) (chan x3 i) (chan x4 i) (mat x7)
def bDb : Chans := db (rowOf x0 i) (chan x3 i) (mat x7)
def bDhn : Fin 1024 → EReal := dhn (bDa x0 x3 x4 x7 i) (bDb x0 x3 x7 i) (mat x5) (mat x6)

theorem blk_da0 (n : Fin 704) : (k1_pay14 (F := Ideal) x0 (sh0 x7) (ch0 x3) (ch0 x4)) (ix2 i n) = bDa x0 x3 x4 x7 i 0 n := by
  pointwise [k1_pay14, k1_pay12, k1_pay11, k1_pay10, k1_pay8, k1_pay7]
  simp only [sh0_at, ch0_at]
  rfl
theorem blk_db0 (n : Fin 704) : (k1_pay13 (F := Ideal) x0 (sh0 x7) (ch0 x3)) (ix2 i n) = bDb x0 x3 x7 i 0 n := by
  pointwise [k1_pay13, k1_pay12, k1_pay11, k1_pay10, k1_pay8, k1_pay7]
  simp only [sh0_at, ch0_at]
  rfl
theorem blk_da1 (n : Fin 704) : (k1_pay25 (F := Ideal) (k1_pay20 (ch1 x3)) (k1_pay22 (k1_pay8 x0) (sh1 x7) (ch1 x4)) (k1_pay23 (ch1 x3)) k1_pay24) (ix2 i n) = bDa x0 x3 x4 x7 i 1 n := by
  pointwise [k1_pay25, k1_pay24, k1_pay23, k1_pay22, k1_pay20, k1_pay19, k1_pay18, k1_pay8, k1_pay7]
  simp only [sh1_at, ch1_at]
  rfl
theorem blk_db1 (n : Fin 704) : (k1_pay21 (F := Ideal) (k1_pay8 x0) (sh1 x7) (ch1 x3)) (ix2 i n) = bDb x0 x3 x7 i 1 n := by
  pointwise [k1_pay21, k1_pay20, k1_pay19, k1_pay18, k1_pay8, k1_pay7]
  simp only [sh1_at, ch1_at]
  rfl
theorem blk_da2 (n : Fin 704) : (k1_pay33 (F := Ideal) (k1_pay29 (k1_pay8 x0) (sh2 x7)) (k1_pay30 (ch2 x3)) (k1_pay31 (ch2 x3)) (ch2 x4)) (ix2 i n) = bDa x0 x3 x4 x7 i 2 n := by
  pointwise [k1_pay33, k1_pay31, k1_pay30, k1_pay29, k1_pay8, k1_pay7]
  simp only [sh2_at, ch2_at]
  rfl
theorem blk_db2 (n : Fin 704) : (k1_pay32 (F := Ideal) (k1_pay8 x0) (sh2 x7) (ch2 x3)) (ix2 i n) = bDb x0 x3 x7 i 2 n := by
  pointwise [k1_pay32, k1_pay31, k1_pay30, k1_pay29, k1_pay8, k1_pay7]
  simp only [sh2_at, ch2_at]
  rfl
theorem blk_da3 (n : Fin 704) : (k1_pay41 (F := Ideal) (k1_pay37 (k1_pay8 x0) (sh3 x7)) (k1_pay38 (ch3 x3)) (ch3 x4)) (ix2 i n) = bDa x0 x3 x4 x7 i 3 n := by
  pointwise [k1_pay41, k1_pay39, k1_pay38, k1_pay37, k1_pay8, k1_pay7]
  simp only [sh3_at, ch3_at]
  rfl
theorem blk_db3 (n : Fin 704) : (k1_pay40 (F := Ideal) (k1_pay37 (k1_pay8 x0) (sh3 x7)) (k1_pay38 (ch3 x3))) (ix2 i n) = bDb x0 x3 x7 i 3 n := by
  pointwise [k1_pay40, k1_pay39, k1_pay38, k1_pay37, k1_pay8, k1_pay7]
  simp only [sh3_at, ch3_at]
  rfl

/-- The gradient of the normed row, as the body adds it up. -/
abbrev accB : FVec Ideal S256x1024 .f32 :=
  k1_pay44 (k1_pay36 (k1_pay28 (k1_pay17 k1_pay9 (k1_pay13 x0 (sh0 x7) (ch0 x3)) (k1_pay14 x0 (sh0 x7) (ch0 x3) (ch0 x4)) (sh0 x5) (sh0 x6))
      (k1_pay20 (ch1 x3)) (k1_pay21 (k1_pay8 x0) (sh1 x7) (ch1 x3)) (k1_pay22 (k1_pay8 x0) (sh1 x7) (ch1 x4)) (k1_pay23 (ch1 x3)) k1_pay24 (sh1 x5) (sh1 x6))
    (k1_pay29 (k1_pay8 x0) (sh2 x7)) (k1_pay30 (ch2 x3)) (k1_pay31 (ch2 x3)) (k1_pay32 (k1_pay8 x0) (sh2 x7) (ch2 x3)) (ch2 x4) (sh2 x5) (sh2 x6))
    (k1_pay37 (k1_pay8 x0) (sh3 x7)) (k1_pay38 (ch3 x3)) (ch3 x4) (sh3 x5) (sh3 x6)

theorem blk_dhn (j : Fin 1024) : accB x0 x3 x4 x5 x6 x7 (ix2 i j) = bDhn x0 x3 x4 x5 x6 x7 i j := by
  pointwise [k1_pay44, k1_pay36, k1_pay28, k1_pay17, k1_pay9]
  simp only [blk_da0, blk_da1, blk_da2, blk_da3, blk_db0, blk_db1, blk_db2, blk_db3, sh0_at, sh1_at, sh2_at, sh3_at]
  rfl

theorem blk_rs : k1_pay2 (F := Ideal) x1 (ix2 i 0) = rs (rowOf x1 i) := by
  pointwise [k1_pay2, k1_pay1]
  rfl

theorem blk_unit (j : Fin 1024) : k1_pay3 (F := Ideal) x1 (ix2 i j) = unit (rowOf x1 i) j := by
  pointwise [k1_pay3, k1_pay1]
  simp only [blk_rs]
  rfl

/-- The row of the gradient of the layer's argument, and the row's summand of the gain's gradient. -/
def bDh1 (j : Fin 1024) : EReal :=
  rowOf x0 i j + grad (rowOf x1 i) (fun j => bDhn x0 x3 x4 x5 x6 x7 i j * rowOf x2 0 j) j
def bDgn (j : Fin 1024) : EReal := bDhn x0 x3 x4 x5 x6 x7 i j * unit (rowOf x1 i) j

theorem blk_dh1 (j : Fin 1024) : k1_pay4 (F := Ideal) (k1_pay7 x0) (accB x0 x3 x4 x5 x6 x7) x1 x2 (ix2 i j)
    = bDh1 x0 x1 x2 x3 x4 x5 x6 x7 i j := by
  have h := blk_dhn x0 x3 x4 x5 x6 x7 i
  generalize accB x0 x3 x4 x5 x6 x7 = q at h
  pointwise [k1_pay4, k1_pay7]
  simp only [h, blk_rs, blk_unit]
  rfl

theorem blk_dgn (j : Fin 1024) : k1_pay6 (F := Ideal) (accB x0 x3 x4 x5 x6 x7) x1 (ix2 0 j)
    = ∑ r, bDgn x0 x1 x3 x4 x5 x6 x7 r j := by
  have h := blk_dhn x0 x3 x4 x5 x6 x7
  generalize accB x0 x3 x4 x5 x6 x7 = q at h
  pointwise [k1_pay6]
  simp only [h, blk_unit]
  rfl

end Block

/-- A block stored a shard after the other. -/
theorem canon_bshards (w3 w2 w1 w0 : FVec Ideal S1x256x704 .bf16) (s : Fin 4) (i : Fin 256) (n : Fin 704) (G : Fin 4 → EReal)
    (h0 : w0 (ix3 0 i n) = G 0) (h1 : w1 (ix3 0 i n) = G 1) (h2 : w2 (ix3 0 i n) = G 2) (h3 : w3 (ix3 0 i n) = G 3) :
    View.canon (Val := Elt Ideal) (e := .bf16) [⟨Rect.unit ![3, 0, 0] ![1, 256, 704] inb_S4x256x704_S1x256x704_3_0_0, w3⟩,
        ⟨Rect.unit ![2, 0, 0] ![1, 256, 704] inb_S4x256x704_S1x256x704_2_0_0, w2⟩,
        ⟨Rect.unit ![1, 0, 0] ![1, 256, 704] inb_S4x256x704_S1x256x704_1_0_0, w1⟩,
        ⟨Rect.unit ![0, 0, 0] ![1, 256, 704] inb_S4x256x704_S1x256x704_0_0_0, w0⟩] (ix3 s i n : S4x256x704.Idx) = G s := by
  have hs := s.isLt
  by_cases e3 : s.val = 3
  · rw [show s = 3 from Fin.ext e3]
    refine (canon_at3 (S := S4x256x704) (Rect.unit ![3, 0, 0] ![1, 256, 704] inb_S4x256x704_S1x256x704_3_0_0) w3 _ _ (ix3 0 i n : S1x256x704.Idx) ?_).trans h3
    blk_ext
  rw [View.canon_cons_of_not_mem _ _ (Rect.not_mem_set_of_axis _ _ 0 3 1 rfl rfl rfl (Or.inl (by show s.val < 3; omega)))]
  by_cases e2 : s.val = 2
  · rw [show s = 2 from Fin.ext e2]
    refine (canon_at3 (S := S4x256x704) (Rect.unit ![2, 0, 0] ![1, 256, 704] inb_S4x256x704_S1x256x704_2_0_0) w2 _ _ (ix3 0 i n : S1x256x704.Idx) ?_).trans h2
    blk_ext
  rw [View.canon_cons_of_not_mem _ _ (Rect.not_mem_set_of_axis _ _ 0 2 1 rfl rfl rfl (Or.inl (by show s.val < 2; omega)))]
  by_cases e1 : s.val = 1
  · rw [show s = 1 from Fin.ext e1]
    refine (canon_at3 (S := S4x256x704) (Rect.unit ![1, 0, 0] ![1, 256, 704] inb_S4x256x704_S1x256x704_1_0_0) w1 _ _ (ix3 0 i n : S1x256x704.Idx) ?_).trans h1
    blk_ext
  rw [View.canon_cons_of_not_mem _ _ (Rect.not_mem_set_of_axis _ _ 0 1 1 rfl rfl rfl (Or.inl (by show s.val < 1; omega)))]
  rw [show s = 0 from Fin.ext (by show s.val = 0; omega)]
  refine (canon_at3 (S := S4x256x704) (Rect.unit ![0, 0, 0] ![1, 256, 704] inb_S4x256x704_S1x256x704_0_0_0) w0 _ _ (ix3 0 i n : S1x256x704.Idx) ?_).trans h0
  blk_ext

/-- A block stored whole and then again in its first row. -/
theorem canon_row0 (w : FVec Ideal S1x1024 .f32) (w' : FVec Ideal S8x1024 .f32) (i : Fin 8) (j : Fin 1024) :
    View.canon (Val := Elt Ideal) (e := .f32) [⟨Rect.unit ![0, 0] ![1, 1024] inb_S8x1024_S1x1024_0_0, w⟩,
        ⟨Rect.unit ![0, 0] ![8, 1024] inb_S8x1024_S8x1024_0_0, w'⟩] (ix2 i j : S8x1024.Idx)
      = if i.val = 0 then w (ix2 0 j) else w' (ix2 i j) := by
  split_ifs with h
  · refine canon_at (Rect.unit (s := S8x1024) ![0, 0] ![1, 1024] inb_S8x1024_S1x1024_0_0) w _ _ (ix2 0 j : S1x1024.Idx) ?_
    blk_ext [h]
  · rw [View.canon_cons_of_not_mem]
    · refine canon_at (Rect.unit (s := S8x1024) ![0, 0] ![8, 1024] inb_S8x1024_S8x1024_0_0) w' _ _ (ix2 i j : S8x1024.Idx) ?_
      blk_ext
    · exact Rect.not_mem_set_of_axis _ _ 0 0 1 rfl rfl rfl (Or.inr (by show 1 ≤ i.val; omega))

section Points
variable (c : Dev nD) (t : Fin cfg1.N)

theorem bblkd (i : Fin 256) : rowOf (iblk1 V c 0 t) i = rowOf (a := 4096) (b := 1024) (V c main_v12_4) (row1 t.val t.isLt i.val i.isLt) := by
  funext k; unfold rowOf; blk_point [iblk1, idx1 t, row1]

theorem bblkx (i : Fin 256) : rowOf (iblk1 V c 1 t) i = rowOf (a := 4096) (b := 1024) (V c main_v8) (row1 t.val t.isLt i.val i.isLt) := by
  funext k; unfold rowOf; blk_point [iblk1, idx1 t, row1]

theorem bblkg : rowOf (iblk1 V c 2 t) 0 = rowOf (a := 1) (b := 1024) (V c main_v9) 0 := by
  funext k; unfold rowOf; blk_point [iblk1, idx1 t]

theorem bblka (i : Fin 256) : chan (iblk1 V c 3 t) i = chan (a := 4096) (V c main_v12_1) (row1 t.val t.isLt i.val i.isLt) := by
  funext s k; unfold chan; blk_point [iblk1, idx1 t, row1]

theorem bblkb (i : Fin 256) : chan (iblk1 V c 4 t) i = chan (a := 4096) (V c main_v12_2) (row1 t.val t.isLt i.val i.isLt) := by
  funext s k; unfold chan; blk_point [iblk1, idx1 t, row1]

theorem bblkwg : mat (iblk1 V c 5 t) = mat (V c main_v2) := by
  funext s n k; unfold mat; blk_point [iblk1, idx1 t]

theorem bblkwu : mat (iblk1 V c 6 t) = mat (V c main_v5) := by
  funext s n k; unfold mat; blk_point [iblk1, idx1 t]

theorem bblkwd : mat (iblk1 V c 7 t) = mat (V c main_v7) := by
  funext s n k; unfold mat; blk_point [iblk1, idx1 t]

end Points

/-! ## The rows of the results, over the operands' arrays -/

section Rows
variable (c : Dev nD) (R : Fin 4096)

/-- The gradient of the layer's output, as the call reads it. -/
def qD : Fin 1024 → EReal := rowOf (a := 4096) (b := 1024) (V c main_v12_4) R
def qDa : Chans := da (qD V c R) (chan (a := 4096) (V c main_v12_1) R) (chan (a := 4096) (V c main_v12_2) R) (mat (V c main_v7))
def qDb : Chans := db (qD V c R) (chan (a := 4096) (V c main_v12_1) R) (mat (V c main_v7))
def qDhn : Fin 1024 → EReal := dhn (qDa V c R) (qDb V c R) (mat (V c main_v2)) (mat (V c main_v5))
/-- The gradient of the layer's argument, and a row's summand of the gain's gradient. -/
def qDh1 (j : Fin 1024) : EReal := qD V c R j + grad (rX V c R) (fun j => qDhn V c R j * rG V c j) j
def qDgn (j : Fin 1024) : EReal := qDhn V c R j * unit (rX V c R) j
/-- A block's eight rows of partial sums. -/
def qPart (r : Fin 128) (j : Fin 1024) : EReal :=
  if r.val % 8 = 0 then ∑ k : Fin 256, qDgn V c (row1 (r.val / 8) (by omega) k.val k.isLt) j else 0

end Rows

section Points
variable (c : Dev nD) (t : Fin cfg1.N)

theorem bDa_eq (i : Fin 256) : bDa (iblk1 V c 0 t) (iblk1 V c 3 t) (iblk1 V c 4 t) (iblk1 V c 7 t) i = qDa V c (row1 t.val t.isLt i.val i.isLt) := by
  unfold bDa; rw [bblkd, bblka, bblkb, bblkwd]; rfl
theorem bDb_eq (i : Fin 256) : bDb (iblk1 V c 0 t) (iblk1 V c 3 t) (iblk1 V c 7 t) i = qDb V c (row1 t.val t.isLt i.val i.isLt) := by
  unfold bDb; rw [bblkd, bblka, bblkwd]; rfl
theorem bDhn_eq (i : Fin 256) : bDhn (iblk1 V c 0 t) (iblk1 V c 3 t) (iblk1 V c 4 t) (iblk1 V c 5 t) (iblk1 V c 6 t) (iblk1 V c 7 t) i
    = qDhn V c (row1 t.val t.isLt i.val i.isLt) := by
  unfold bDhn; rw [bDa_eq, bDb_eq, bblkwg, bblkwu]; rfl

theorem bout8 (s : Fin 4) (i : Fin 256) (n : Fin 704) : (outsAt1 V c t).1 (ix3 s i n) = qDa V c (row1 t.val t.isLt i.val i.isLt) s n := by
  rw [← bDa_eq]
  unfold outsAt1
  frame_out
  refine canon_bshards _ _ _ _ s i n (fun s => bDa (iblk1 V c 0 t) (iblk1 V c 3 t) (iblk1 V c 4 t) (iblk1 V c 7 t) i s n) ?_ ?_ ?_ ?_
  · pointwise [k1_pay15]; exact blk_da0 (iblk1 V c 0 t) (iblk1 V c 3 t) (iblk1 V c 4 t) (iblk1 V c 7 t) i n
  · pointwise [k1_pay26]; exact blk_da1 (iblk1 V c 0 t) (iblk1 V c 3 t) (iblk1 V c 4 t) (iblk1 V c 7 t) i n
  · pointwise [k1_pay34]; exact blk_da2 (iblk1 V c 0 t) (iblk1 V c 3 t) (iblk1 V c 4 t) (iblk1 V c 7 t) i n
  · pointwise [k1_pay42]; exact blk_da3 (iblk1 V c 0 t) (iblk1 V c 3 t) (iblk1 V c 4 t) (iblk1 V c 7 t) i n

theorem bout9 (s : Fin 4) (i : Fin 256) (n : Fin 704) : (outsAt1 V c t).2.1 (ix3 s i n) = qDb V c (row1 t.val t.isLt i.val i.isLt) s n := by
  rw [← bDb_eq]
  unfold outsAt1
  frame_out
  refine canon_bshards _ _ _ _ s i n (fun s => bDb (iblk1 V c 0 t) (iblk1 V c 3 t) (iblk1 V c 7 t) i s n) ?_ ?_ ?_ ?_
  · pointwise [k1_pay16]; exact blk_db0 (iblk1 V c 0 t) (iblk1 V c 3 t) (iblk1 V c 7 t) i n
  · pointwise [k1_pay27]; exact blk_db1 (iblk1 V c 0 t) (iblk1 V c 3 t) (iblk1 V c 7 t) i n
  · pointwise [k1_pay35]; exact blk_db2 (iblk1 V c 0 t) (iblk1 V c 3 t) (iblk1 V c 7 t) i n
  · pointwise [k1_pay43]; exact blk_db3 (iblk1 V c 0 t) (iblk1 V c 3 t) (iblk1 V c 7 t) i n

theorem bout10 (i : Fin 256) (j : Fin 1024) : (outsAt1 V c t).2.2.1 (ix2 i j) = qDh1 V c (row1 t.val t.isLt i.val i.isLt) j := by
  unfold outsAt1
  frame_out
  refine (blk_dh1 (iblk1 V c 0 t) (iblk1 V c 1 t) (iblk1 V c 2 t) (iblk1 V c 3 t) (iblk1 V c 4 t) (iblk1 V c 5 t) (iblk1 V c 6 t) (iblk1 V c 7 t) i j).trans ?_
  unfold bDh1; rw [bDhn_eq, bblkd, bblkx, bblkg]; rfl

theorem bout11 (i : Fin 8) (j : Fin 1024) : (outsAt1 V c t).2.2.2 (ix2 i j)
    = if i.val = 0 then ∑ r : Fin 256, qDgn V c (row1 t.val t.isLt r.val r.isLt) j else 0 := by
  unfold outsAt1
  frame_out
  refine (canon_row0 _ _ i j).trans ?_
  refine if_congr Iff.rfl ?_ ?_
  · refine (blk_dgn (iblk1 V c 0 t) (iblk1 V c 1 t) (iblk1 V c 3 t) (iblk1 V c 4 t) (iblk1 V c 5 t) (iblk1 V c 6 t) (iblk1 V c 7 t) j).trans ?_
    refine Finset.sum_congr rfl fun r _ => ?_
    unfold bDgn; rw [bDhn_eq, bblkx]; rfl
  · pointwise [k1_pay5]

/-! ## The call's results -/

theorem bat8 (s : Fin 4) (i : Fin 256) (j : Fin 704) : ((View.whole main_v13_0).slice (win1_8.rect t)).emb (ix3 s i j)
    = ix3 s (row1 t.val t.isLt i.val i.isLt) j := by blk_ext [idx1 t, row1]
theorem bat9 (s : Fin 4) (i : Fin 256) (j : Fin 704) : ((View.whole main_v13_1).slice (win1_9.rect t)).emb (ix3 s i j)
    = ix3 s (row1 t.val t.isLt i.val i.isLt) j := by blk_ext [idx1 t, row1]
theorem bat10 (i : Fin 256) (j : Fin 1024) : ((View.whole main_v13_2).slice (win1_10.rect t)).emb (ix2 i j)
    = ix2 (row1 t.val t.isLt i.val i.isLt) j := by blk_ext [idx1 t, row1]
theorem bat11 (i : Fin 8) (j : Fin 1024) : ((View.whole main_v13_3).slice (win1_11.rect t)).emb (ix2 i j)
    = ix2 (⟨t.val * 8 + i.val, by have : t.val < 16 := t.isLt; omega⟩ : Fin 128) j := by blk_ext [idx1 t]

end Points

section Arrays
variable (c : Dev nD)

theorem arr_da : (dat1 V c).arrAt 8 cfg1.N = arr3 (qDa V c) := by
  refine (dat1 V c).arrAt_eq_of_covers 8 _ (by decide +kernel) fun t _ y => ?_
  obtain ⟨s, i, j, rfl⟩ : ∃ (s : Fin 4) (i : Fin 256) (j : Fin 704), y = (ix3 s i j : S4x256x704.Idx) := ⟨y 0, y 1, y 2, eq_ix3 y⟩
  blk_simp
  rw [after1_8]
  exact (bout8 V c t s i j).trans (congrArg (arr3 (qDa V c)) (bat8 t s i j)).symm

theorem arr_db : (dat1 V c).arrAt 9 cfg1.N = arr3 (qDb V c) := by
  refine (dat1 V c).arrAt_eq_of_covers 9 _ (by decide +kernel) fun t _ y => ?_
  obtain ⟨s, i, j, rfl⟩ : ∃ (s : Fin 4) (i : Fin 256) (j : Fin 704), y = (ix3 s i j : S4x256x704.Idx) := ⟨y 0, y 1, y 2, eq_ix3 y⟩
  blk_simp
  rw [after1_9]
  exact (bout9 V c t s i j).trans (congrArg (arr3 (qDb V c)) (bat9 t s i j)).symm

theorem arr_dh1 : (dat1 V c).arrAt 10 cfg1.N = arr (qDh1 V c) := by
  refine (dat1 V c).arrAt_eq_of_covers 10 _ (by decide +kernel) fun t _ y => ?_
  obtain ⟨i, j, rfl⟩ : ∃ (i : Fin 256) (j : Fin 1024), y = (ix2 i j : S256x1024.Idx) := ⟨y 0, y 1, eq_ix2 y⟩
  blk_simp
  rw [after1_10]
  exact (bout10 V c t i j).trans (congrArg (arr (qDh1 V c)) (bat10 t i j)).symm

theorem arr_bpart : (dat1 V c).arrAt 11 cfg1.N = arr (qPart V c) := by
  refine (dat1 V c).arrAt_eq_of_covers 11 _ (by decide +kernel) fun t _ y => ?_
  obtain ⟨i, j, rfl⟩ : ∃ (i : Fin 8) (j : Fin 1024), y = (ix2 i j : S8x1024.Idx) := ⟨y 0, y 1, eq_ix2 y⟩
  blk_simp
  rw [after1_11]
  refine (bout11 V c t i j).trans (Eq.trans ?_ (congrArg (arr (qPart V c)) (bat11 t i j)).symm)
  have ht : t.val < 16 := t.isLt
  have h8 : (t.val * 8 + i.val) % 8 = i.val := by omega
  have e : ∀ k : Fin 256, row1 ((t.val * 8 + i.val) / 8) (by omega) k.val k.isLt = row1 t.val t.isLt k.val k.isLt :=
    fun k => Fin.ext (by show (t.val * 8 + i.val) / 8 * 256 + k.val = t.val * 256 + k.val; omega)
  show _ = if (t.val * 8 + i.val) % 8 = 0 then _ else _
  rw [h8]
  exact if_congr Iff.rfl (Finset.sum_congr rfl fun k _ => congrArg (fun R => qDgn V c R j) (e k).symm) rfl

end Arrays

end Cert.ChanKernelIdeal.Value

end
-- ==== Proof.Chan.Run.lean ====
module

public import proofs.«01_k».proof.Proof.Gen.ChanKernelIdeal.Frame
public import Idealize.ShloMosaic.Lib.Claim
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ChanKernelIdeal.Value

open Cert.ChanKernelIdeal Cert.ChanKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer at the contents that the fold through the program gives it. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.ChanKernelIdeal.Value

end
-- ==== Proof.Chan.Args.lean ====
module

public import Idealize.ShloMosaic.Lib.Pointwise
public import proofs.«01_k».proof.Proof.Chan.Math
public import proofs.«01_k».proof.Proof.Merge.Math
public import proofs.«01_k».proof.Proof.Norm.Rms

@[expose] public section

set_option maxRecDepth 16384

noncomputable section

open Idealize.ShloMosaic

/-! ## The channel mixer's rows over the call's arguments

The stages of `Math` over the seven arrays that both programs take, and what finite arguments give. -/

namespace Cert.Chan

open Cert.Norm Cert.Merge
open Cert.RetKernelIdeal.Value (Fine coe_sum lit_2)

/-- The seven arguments: the rows, the norm's gain, the three matrices by shards of channels, the final gain, the target. -/
structure Args where
  x : Fin 4096 → Fin 1024 → EReal
  g : Fin 1024 → EReal
  wg : Mat
  wu : Mat
  wd : Mat
  gf : Fin 1024 → EReal
  t : Fin 4096 → Fin 1024 → EReal

/-- Channel `n` of shard `s`. -/
def ch (s : Fin 4) (n : Fin 704) : Fin 2816 := ⟨s.val * 704 + n.val, by omega⟩

/-- The arguments of seven arrays. -/
def args (x0 : (⟨3, ![2, 2048, 1024]⟩ : Shape).Idx → EReal) (x1 : (⟨1, ![1024]⟩ : Shape).Idx → EReal)
    (x2 x3 : (⟨2, ![1024, 2816]⟩ : Shape).Idx → EReal) (x4 : (⟨2, ![2816, 1024]⟩ : Shape).Idx → EReal)
    (x5 : (⟨1, ![1024]⟩ : Shape).Idx → EReal) (x6 : (⟨3, ![2, 2048, 1024]⟩ : Shape).Idx → EReal) : Args where
  x := tok (n := 1024) x0
  g j := x1 (ix1 j)
  wg s n k := x2 (ix2 k (ch s n))
  wu s n k := x3 (ix2 k (ch s n))
  wd s n k := x4 (ix2 (ch s n) k)
  gf j := x5 (ix1 j)
  t := tok (n := 1024) x6

namespace Args

variable (A : Args) (R : Fin 4096)

def rhn : Fin 1024 → EReal := hn (A.x R) A.g
def ra : Chans := up (A.rhn R) A.wg
def rb : Chans := up (A.rhn R) A.wu
def rf : Chans := ff (A.ra R) (A.rb R)
def rh2 : Fin 1024 → EReal := h2 (A.x R) (A.rf R) A.wd
def rdh2 : Fin 1024 → EReal := dh2 (A.rh2 R) A.gf (A.t R)
def rda : Chans := da (A.rdh2 R) (A.ra R) (A.rb R) A.wd
def rdb : Chans := db (A.rdh2 R) (A.ra R) A.wd
def rdhn : Fin 1024 → EReal := dhn (A.rda R) (A.rdb R) A.wg A.wu
def rdh1 (j : Fin 1024) : EReal := A.rdh2 R j + grad (A.x R) (fun j => A.rdhn R j * A.g j) j
/-- A row's summands of the two gains' gradients and its squared errors. -/
def rdg (j : Fin 1024) : EReal := A.rdhn R j * unit (A.x R) j
def rdgf (j : Fin 1024) : EReal := dy (A.rh2 R) A.gf (A.t R) j * unit (A.rh2 R) j
def rsq (j : Fin 1024) : EReal := err (A.rh2 R) A.gf (A.t R) j * err (A.rh2 R) A.gf (A.t R) j

/-- The loss as the kernel adds it up: for every lane the sums of eight blocks of 512 rows, each times 1/2048. -/
def loss : EReal := ∑ j : Fin 1024, ∑ T : Fin 8, Ideal.ofBits .f32 0x3A000000#32 * ∑ k : Fin 512, A.rsq ⟨T.val * 512 + k.val, by omega⟩ j

/-- Every argument is a real number. -/
structure Real : Prop where
  x : ∀ R j, Fine (A.x R j)
  g : ∀ j, Fine (A.g j)
  wg : ∀ s n k, Fine (A.wg s n k)
  wu : ∀ s n k, Fine (A.wu s n k)
  wd : ∀ s n k, Fine (A.wd s n k)
  gf : ∀ j, Fine (A.gf j)
  t : ∀ R j, Fine (A.t R j)

end Args

/-! ## Finite arguments give finite stages -/

theorem sg_fine {a : EReal} (ha : Fine a) : Fine (sg a) := by
  obtain ⟨a, rfl⟩ := ha
  refine ⟨1 * (1 / (1 + _root_.Real.exp (0 - a))), ?_⟩
  have hp : (1 + _root_.Real.exp (0 - a) : ℝ) ≠ 0 := by positivity
  have he : (1 : EReal) + Ideal.exp (0 - (a : EReal)) = ((1 + _root_.Real.exp (0 - a) : ℝ) : EReal) := by
    rw [EReal.coe_add, EReal.coe_one]
    rfl
  unfold sg
  rw [he, Ideal.div_coe hp, ← EReal.coe_one, ← EReal.coe_mul]

theorem up_fine {x : Fin 1024 → EReal} {w : Mat} (hx : ∀ e, Fine (x e)) (hw : ∀ s n k, Fine (w s n k)) (s : Fin 4) (n : Fin 704) :
    Fine (up x w s n) := Fine.sum _ fun k => (hx k).mul (hw s n k)

theorem down_fine {f : Chans} {w : Mat} (hf : ∀ s n, Fine (f s n)) (hw : ∀ s n k, Fine (w s n k)) (s : Fin 4) (j : Fin 1024) :
    Fine (down f w s j) := Fine.sum _ fun n => (hf s n).mul (hw s n j)

/-- The two ways to write the derivative of `a · sg a` agree over the real numbers. -/
theorem silu_grad {a b u : EReal} (ha : Fine a) (hb : Fine b) (hu : Fine u) :
    u * b * sg a + a * (u * b) * (sg a * (1 - sg a)) = u * b * (sg a * (1 + a * (1 - sg a))) := by
  obtain ⟨s, hs⟩ := sg_fine ha
  rw [hs]
  obtain ⟨a, rfl⟩ := ha
  obtain ⟨b, rfl⟩ := hb
  obtain ⟨u, rfl⟩ := hu
  rw [← EReal.coe_one]
  simp only [← EReal.coe_mul, ← EReal.coe_add, ← EReal.coe_sub]
  exact congrArg Real.toEReal (by ring)

theorem lit_1024th : Ideal.ofBits .f32 0x3A800000#32 = ((1 / 1024 : ℝ) : EReal) := by
  simp [Ideal.ofBits, Ideal.ieee, -EReal.coe_mul]; norm_num
theorem lit_2048th : Ideal.ofBits .f32 0x3A000000#32 = ((1 / 2048 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = 1 := by
  simp [Ideal.ofBits, Ideal.ieee, -EReal.coe_mul]; norm_num

/-- A half over 1024, times twice an error, is the error over 1024. -/
theorem dy_lit (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [lit_one, mul_one, lit_half, lit_1024, lit_2, lit_1024th, Ideal.div_coe (by norm_num), ← mul_assoc, mul_comm]
  refine congrArg (e * ·) ?_
  simp only [← EReal.coe_mul]
  exact congrArg Real.toEReal (by norm_num)

/-- The sum over all channels is the sum of the four shards' parts. -/
theorem sum_ch (f : Fin 2816 → EReal) : ∑ k, f k = (∑ n, f (ch 0 n)) + (∑ n, f (ch 1 n)) + (∑ n, f (ch 2 n)) + ∑ n, f (ch 3 n) := by
  rw [Fin.sum_univ_tiles 4 704 rfl, Fin.sum_univ_four]
  rfl

namespace Args.Real

variable {A : Args} (hA : A.Real) (R : Fin 4096)
include hA

theorem rhn (j : Fin 1024) : Fine (A.rhn R j) := (unit_fine (hA.x R) j).mul (hA.g j)
theorem ra (s : Fin 4) (n : Fin 704) : Fine (A.ra R s n) := up_fine (hA.rhn R) hA.wg s n
theorem rb (s : Fin 4) (n : Fin 704) : Fine (A.rb R s n) := up_fine (hA.rhn R) hA.wu s n
theorem rf (s : Fin 4) (n : Fin 704) : Fine (A.rf R s n) := ((hA.ra R s n).mul (sg_fine (hA.ra R s n))).mul (hA.rb R s n)
theorem rh2 (j : Fin 1024) : Fine (A.rh2 R j) :=
  ((((hA.x R j).add (down_fine (hA.rf R) hA.wd 0 j)).add (down_fine (hA.rf R) hA.wd 1 j)).add
    (down_fine (hA.rf R) hA.wd 2 j)).add (down_fine (hA.rf R) hA.wd 3 j)
theorem rerr (j : Fin 1024) : Fine (err (A.rh2 R) A.gf (A.t R) j) := ((unit_fine (hA.rh2 R) j).mul (hA.gf j)).sub (hA.t R j)
theorem rdy (j : Fin 1024) : Fine (dy (A.rh2 R) A.gf (A.t R) j) := (hA.rerr R j).mul ⟨_, lit_1024th⟩
theorem rdh2 (j : Fin 1024) : Fine (A.rdh2 R j) := grad_fine (hA.rh2 R) (fun e => (hA.rdy R e).mul (hA.gf e)) j
theorem rda (s : Fin 4) (n : Fin 704) : Fine (A.rda R s n) :=
  ((up_fine (hA.rdh2 R) hA.wd s n).mul (hA.rb R s n)).mul ((sg_fine (hA.ra R s n)).mul
    (Fine.one.add ((hA.ra R s n).mul (Fine.one.sub (sg_fine (hA.ra R s n))))))
theorem rdb (s : Fin 4) (n : Fin 704) : Fine (A.rdb R s n) :=
  (up_fine (hA.rdh2 R) hA.wd s n).mul ((hA.ra R s n).mul (sg_fine (hA.ra R s n)))
theorem rdhn (j : Fin 1024) : Fine (A.rdhn R j) :=
  (((((((down_fine (hA.rda R) hA.wg 0 j).add (down_fine (hA.rdb R) hA.wu 0 j)).add (down_fine (hA.rda R) hA.wg 1 j)).add
    (down_fine (hA.rdb R) hA.wu 1 j)).add (down_fine (hA.rda R) hA.wg 2 j)).add (down_fine (hA.rdb R) hA.wu 2 j)).add
    (down_fine (hA.rda R) hA.wg 3 j)).add (down_fine (hA.rdb R) hA.wu 3 j)

/-- The loss is half the sum of the rows' mean squared errors. -/
theorem loss : A.loss = Ideal.ofBits .f32 0x3F000000#32 * ∑ R, Ideal.div (∑ j, A.rsq R j) (Ideal.ofBits .f32 0x44800000#32) := by
  choose q hq using fun R j => (hA.rerr R j).mul (hA.rerr R j)
  have hq : ∀ R j, A.rsq R j = (q R j : EReal) := hq
  unfold Args.loss
  simp only [hq, lit_half, lit_2048th, lit_1024, ← coe_sum, ← EReal.coe_mul]
  have hd : ∀ r : ℝ, Ideal.div (r : EReal) ((1024 : ℝ) : EReal) = ((r * (1 / 1024) : ℝ) : EReal) := fun r => by
    rw [Ideal.div_coe (by norm_num), ← EReal.coe_mul]
  simp only [hd, ← coe_sum, ← EReal.coe_mul]
  refine congrArg Real.toEReal ?_
  simp only [← Finset.mul_sum, ← Finset.sum_mul]
  rw [Finset.sum_comm (s := (Finset.univ : Finset (Fin 4096)))]
  have ht : ∀ j, (∑ T : Fin 8, ∑ k : Fin 512, q ⟨T.val * 512 + k.val, by omega⟩ j) = ∑ R, q R j := fun j =>
    (Fin.sum_univ_tiles 8 512 rfl (f := fun R : Fin 4096 => q R j)).symm
  simp only [ht]
  ring

end Args.Real

end Cert.Chan

end
-- ==== Proof.Chan.Host.lean ====
module

public import proofs.«01_k».proof.Proof.Gen.ChanKernelIdeal.Frame
public import Idealize.ShloMosaic.Lib.Pipeline.ValueKit
public import proofs.«01_k».proof.Proof.Chan.Bwd
public import proofs.«01_k».proof.Proof.Chan.Run
public import proofs.«01_k».proof.Proof.Chan.Args
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The call's nine results over its arguments

The host lines before the two launches lay the arguments out by rows and shards; the lines after them sum the blocks' partial
sums. The second launch reads what the first one wrote. -/

namespace Cert.ChanKernelIdeal.Value

open Cert.ChanKernelIdeal Cert.ChanKernelIdeal.Gen Cert.Chan Cert.Merge Cert.Norm

variable (m : (ℓ : Loc nD τ sig) → Buf (Elt Ideal) ℓ) (ρ : Dev nD → PrngReg) (c : Dev nD)

/-- The program's arguments at a device. -/
def P0 : FVec Ideal S2x2048x1024 .f32 := m ((c.tc : Thread nD τ).loc main_arg0)
def P1 : FVec Ideal S1024 .f32 := m ((c.tc : Thread nD τ).loc main_arg1)
def P2 : FVec Ideal S1024x2816 .f32 := m ((c.tc : Thread nD τ).loc main_arg2)
def P3 : FVec Ideal S1024x2816 .f32 := m ((c.tc : Thread nD τ).loc main_arg3)
def P4 : FVec Ideal S2816x1024 .f32 := m ((c.tc : Thread nD τ).loc main_arg4)
def P5 : FVec Ideal S1024 .f32 := m ((c.tc : Thread nD τ).loc main_arg5)
def P6 : FVec Ideal S2x2048x1024 .f32 := m ((c.tc : Thread nD τ).loc main_arg6)

def A : Args := args (P0 m c) (P1 m c) (P2 m c) (P3 m c) (P4 m c) (P5 m c) (P6 m c)

/-! Before the first launch. -/

theorem V1_x (R : Fin 4096) : rX (V1 m ρ) c R = (A m c).x R := by
  funext j
  show StableHlo.after (hostOps0 (F := Ideal)) (W0 m ρ c) (Proc.devRef .tc main_v8) (ix2 R j : S4096x1024.Idx) = _
  after_results
  pointwise
  rfl

theorem V1_t (R : Fin 4096) : rT (V1 m ρ) c R = (A m c).t R := by
  funext j
  show StableHlo.after (hostOps0 (F := Ideal)) (W0 m ρ c) (Proc.devRef .tc main_v11) (ix2 R j : S4096x1024.Idx) = _
  after_results
  pointwise
  rfl

theorem V1_g : rG (V1 m ρ) c = (A m c).g := by
  funext j
  show StableHlo.after (hostOps0 (F := Ideal)) (W0 m ρ c) (Proc.devRef .tc main_v9) (ix2 0 j : S1x1024.Idx) = _
  after_results
  pointwise
  rfl

theorem V1_gf : rGf (V1 m ρ) c = (A m c).gf := by
  funext j
  show StableHlo.after (hostOps0 (F := Ideal)) (W0 m ρ c) (Proc.devRef .tc main_v10) (ix2 0 j : S1x1024.Idx) = _
  after_results
  pointwise
  rfl

theorem V1_wg : mat (V1 m ρ c main_v2) = (A m c).wg := by
  funext s n k
  show StableHlo.after (hostOps0 (F := Ideal)) (W0 m ρ c) (Proc.devRef .tc main_v2) (ix3 s n k : S4x704x1024.Idx) = _
  after_results
  pointwise
  rfl

theorem V1_wu : mat (V1 m ρ c main_v5) = (A m c).wu := by
  funext s n k
  show StableHlo.after (hostOps0 (F := Ideal)) (W0 m ρ c) (Proc.devRef .tc main_v5) (ix3 s n k : S4x704x1024.Idx) = _
  after_results
  pointwise
  rfl

theorem V1_wd : mat (V1 m ρ c main_v7) = (A m c).wd := by
  funext s n k
  show StableHlo.after (hostOps0 (F := Ideal)) (W0 m ρ c) (Proc.devRef .tc main_v7) (ix3 s n k : S4x704x1024.Idx) = _
  after_results
  pointwise
  rfl

/-! The first launch's rows. -/

theorem hn_eq (R : Fin 4096) : rHn (V1 m ρ) c R = (A m c).rhn R := by unfold rHn; rw [V1_x, V1_g]; rfl
theorem a_eq (R : Fin 4096) : rA (V1 m ρ) c R = (A m c).ra R := by unfold rA; rw [hn_eq, V1_wg]; rfl
theorem b_eq (R : Fin 4096) : rB (V1 m ρ) c R = (A m c).rb R := by unfold rB; rw [hn_eq, V1_wu]; rfl
theorem f_eq (R : Fin 4096) : rF (V1 m ρ) c R = (A m c).rf R := by unfold rF; rw [a_eq, b_eq]; rfl
theorem h2_eq (R : Fin 4096) : rH2 (V1 m ρ) c R = (A m c).rh2 R := by unfold rH2; rw [V1_x, f_eq, V1_wd]; rfl
theorem dh2_eq (R : Fin 4096) : rDh2 (V1 m ρ) c R = (A m c).rdh2 R := by unfold rDh2; rw [h2_eq, V1_gf, V1_t]; rfl
theorem dg_eq (R : Fin 4096) : rDg (V1 m ρ) c R = (A m c).rdgf R := by funext j; unfold rDg; rw [h2_eq, V1_gf, V1_t]; rfl
theorem sq_eq (R : Fin 4096) : rSq (V1 m ρ) c R = (A m c).rsq R := by funext j; unfold rSq; rw [h2_eq, V1_gf, V1_t]; rfl

/-! Before the second launch. -/

theorem V2_d (R : Fin 4096) : qD (V2 m ρ) c R = (A m c).rdh2 R := by
  funext j
  show W2 m ρ c main_v12_4 (ix2 R j : S4096x1024.Idx) = _
  rw [show W2 m ρ c main_v12_4 = arr (rDh2 (V1 m ρ) c) from (W2_arr m ρ c 11).trans (arr_dh2 (V1 m ρ) c), ← dh2_eq m ρ c R]
  rfl

theorem V2_a (R : Fin 4096) : chan (a := 4096) (V2 m ρ c main_v12_1) R = (A m c).ra R := by
  funext s n
  show W2 m ρ c main_v12_1 (ix3 s R n : S4x4096x704.Idx) = _
  rw [show W2 m ρ c main_v12_1 = arr3 (rA (V1 m ρ) c) from (W2_arr m ρ c 8).trans (arr_a (V1 m ρ) c), ← a_eq m ρ c R]
  rfl

theorem V2_b (R : Fin 4096) : chan (a := 4096) (V2 m ρ c main_v12_2) R = (A m c).rb R := by
  funext s n
  show W2 m ρ c main_v12_2 (ix3 s R n : S4x4096x704.Idx) = _
  rw [show W2 m ρ c main_v12_2 = arr3 (rB (V1 m ρ) c) from (W2_arr m ρ c 9).trans (arr_b (V1 m ρ) c), ← b_eq m ρ c R]
  rfl

theorem V2_wg : mat (V2 m ρ c main_v2) = (A m c).wg :=
  (congrArg mat (W2_of m ρ c main_v2 (by decide +kernel))).trans (V1_wg m ρ c)
theorem V2_wu : mat (V2 m ρ c main_v5) = (A m c).wu :=
  (congrArg mat (W2_of m ρ c main_v5 (by decide +kernel))).trans (V1_wu m ρ c)
theorem V2_wd : mat (V2 m ρ c main_v7) = (A m c).wd :=
  (congrArg mat (W2_of m ρ c main_v7 (by decide +kernel))).trans (V1_wd m ρ c)
theorem V2_x (R : Fin 4096) : rX (V2 m ρ) c R = (A m c).x R :=
  (congrArg (fun v => rowOf (a := 4096) (b := 1024) v R) (W2_of m ρ c main_v8 (by decide +kernel))).trans (V1_x m ρ c R)
theorem V2_g : rG (V2 m ρ) c = (A m c).g :=
  (congrArg (fun v => rowOf (a := 1) (b := 1024) v 0) (W2_of m ρ c main_v9 (by decide +kernel))).trans (V1_g m ρ c)

/-! The second launch's rows. -/

theorem da_eq (R : Fin 4096) : qDa (V2 m ρ) c R = (A m c).rda R := by unfold qDa; rw [V2_d, V2_a, V2_b, V2_wd]; rfl
theorem db_eq (R : Fin 4096) : qDb (V2 m ρ) c R = (A m c).rdb R := by unfold qDb; rw [V2_d, V2_a, V2_wd]; rfl
theorem dhn_eq (R : Fin 4096) : qDhn (V2 m ρ) c R = (A m c).rdhn R := by unfold qDhn; rw [da_eq, db_eq, V2_wg, V2_wu]; rfl
theorem dh1_eq (R : Fin 4096) : qDh1 (V2 m ρ) c R = (A m c).rdh1 R := by
  funext j; unfold qDh1; rw [V2_d, V2_x, dhn_eq, V2_g]; rfl
theorem dgn_eq (R : Fin 4096) : qDgn (V2 m ρ) c R = (A m c).rdg R := by funext j; unfold qDgn; rw [dhn_eq, V2_x]; rfl

/-! The results at the end. -/

theorem W4_hn : W4 m ρ c main_v12_0 = arr (A m c).rhn :=
  (W4_of m ρ c main_v12_0 (by decide +kernel)).trans ((W3_of m ρ c main_v12_0 (by decide +kernel)).trans
    ((W2_arr m ρ c 7).trans ((arr_hn (V1 m ρ) c).trans (congrArg arr (funext (hn_eq m ρ c))))))

theorem W4_f : W4 m ρ c main_v12_3 = arr3 (A m c).rf :=
  (W4_of m ρ c main_v12_3 (by decide +kernel)).trans ((W3_of m ρ c main_v12_3 (by decide +kernel)).trans
    ((W2_arr m ρ c 10).trans ((arr_f (V1 m ρ) c).trans (congrArg arr3 (funext (f_eq m ρ c))))))

theorem W4_dh2 : W4 m ρ c main_v12_4 = arr (A m c).rdh2 :=
  (W4_of m ρ c main_v12_4 (by decide +kernel)).trans ((W3_of m ρ c main_v12_4 (by decide +kernel)).trans
    ((W2_arr m ρ c 11).trans ((arr_dh2 (V1 m ρ) c).trans (congrArg arr (funext (dh2_eq m ρ c))))))

theorem W4_da : W4 m ρ c main_v13_0 = arr3 (A m c).rda :=
  (W4_of m ρ c main_v13_0 (by decide +kernel)).trans ((W3_arr m ρ c 8).trans
    ((arr_da (V2 m ρ) c).trans (congrArg arr3 (funext (da_eq m ρ c)))))

theorem W4_db : W4 m ρ c main_v13_1 = arr3 (A m c).rdb :=
  (W4_of m ρ c main_v13_1 (by decide +kernel)).trans ((W3_arr m ρ c 9).trans
    ((arr_db (V2 m ρ) c).trans (congrArg arr3 (funext (db_eq m ρ c)))))

theorem W4_dh1 : W4 m ρ c main_v13_2 = arr (A m c).rdh1 :=
  (W4_of m ρ c main_v13_2 (by decide +kernel)).trans ((W3_arr m ρ c 10).trans
    ((arr_dh1 (V2 m ρ) c).trans (congrArg arr (funext (dh1_eq m ρ c)))))

theorem W3_part : W3 m ρ c main_v12_5 = arr (rPart (V1 m ρ) c) :=
  (W3_of m ρ c main_v12_5 (by decide +kernel)).trans ((W2_arr m ρ c 12).trans (arr_part (V1 m ρ) c))

theorem W4_loss : W4 m ρ c main_v18 = fun _ : S_.Idx => (A m c).loss := by
  show StableHlo.after hostOps2 _ _ = _
  after_results
  rw [W3_part m ρ c]
  funext y
  pointwise
  unfold Args.loss
  refine Finset.sum_congr rfl fun j _ => Finset.sum_congr rfl fun t _ => ?_
  show rPart _ _ (⟨t.val * 8 + 1, _⟩ : Fin 64) j = _
  unfold rPart
  rw [if_pos (by show (t.val * 8 + 1) % 8 = 1; omega)]
  refine congrArg (_ * ·) (Finset.sum_congr rfl fun k _ => ?_)
  rw [sq_eq]
  exact congrArg (fun R => (A m c).rsq R j) (Fin.ext (by show (t.val * 8 + 1) / 8 * 512 + k.val = t.val * 512 + k.val; omega))

theorem W4_dgf : W4 m ρ c main_v26 = fun n : S1024.Idx => ∑ R : Fin 4096, (A m c).rdgf R (n 0) := by
  show StableHlo.after hostOps2 _ _ = _
  after_results
  rw [W3_part m ρ c]
  funext y
  obtain ⟨n, rfl⟩ : ∃ (n : Fin 1024), y = (ix1 n : S1024.Idx) := ⟨y 0, eq_ix1 y⟩
  pointwise
  rw [Fin.sum_univ_tiles 8 512 rfl]
  refine Finset.sum_congr rfl fun t _ => ?_
  show rPart _ _ (⟨t.val * 8, _⟩ : Fin 64) n = _
  unfold rPart
  rw [if_neg (by show ¬ t.val * 8 % 8 = 1; omega), if_pos (by show t.val * 8 % 8 = 0; omega)]
  refine Finset.sum_congr rfl fun k _ => ?_
  rw [dg_eq]
  exact congrArg (fun R => (A m c).rdgf R n) (Fin.ext (by show t.val * 8 / 8 * 512 + k.val = t.val * 512 + k.val; omega))

theorem W4_dg : W4 m ρ c main_v22 = fun n : S1024.Idx => ∑ R : Fin 4096, (A m c).rdg R (n 0) := by
  show StableHlo.after hostOps2 _ _ = _
  after_results
  rw [show W3 m ρ c (Proc.devRef .tc main_v13_3) = _ from (W3_arr m ρ c 11).trans (arr_bpart (V2 m ρ) c)]
  funext y
  obtain ⟨n, rfl⟩ : ∃ (n : Fin 1024), y = (ix1 n : S1024.Idx) := ⟨y 0, eq_ix1 y⟩
  pointwise
  rw [Fin.sum_univ_tiles 16 256 rfl]
  refine Finset.sum_congr rfl fun t _ => ?_
  show qPart _ _ (⟨t.val * 8, _⟩ : Fin 128) n = _
  unfold qPart
  rw [if_pos (by show t.val * 8 % 8 = 0; omega)]
  refine Finset.sum_congr rfl fun k _ => ?_
  rw [dgn_eq]
  exact congrArg (fun R => (A m c).rdg R n) (Fin.ext (by show t.val * 8 / 8 * 256 + k.val = t.val * 256 + k.val; omega))

end Cert.ChanKernelIdeal.Value

end
-- ==== Proof.Chan.Ref.lean ====
module

public import proofs.«01_k».proof.Proof.Chan.Args
public import proofs.«01_k».proof.Proof.Norm.Sum
public import proofs.«01_k».proof.Proof.Gen.ChanReferenceIdeal.Read
public import Idealize.ShloMosaic.Lib.Pointwise

@[expose] public section

set_option maxRecDepth 16384

noncomputable section

open Idealize.ShloMosaic Idealize.ShloMosaic.TcCoe

/-! ## The reference's stages at a row of tokens

The reference's channels lie in one row of 2816; channel `n` of shard `s` is entry `704 s + n`. -/

namespace Cert.Chan

open Cert.ChanReferenceIdeal Cert.ChanReferenceIdeal.Read Cert.Norm Cert.Merge
open Cert.RetKernelIdeal.Value (Fine)

variable (x0 : FVec Ideal S2x2048x1024 .f32) (x1 : FVec Ideal S1024 .f32) (x2 : FVec Ideal S1024x2816 .f32)
  (x3 : FVec Ideal S1024x2816 .f32) (x4 : FVec Ideal S2816x1024 .f32) (x5 : FVec Ideal S1024 .f32)
  (x6 : FVec Ideal S2x2048x1024 .f32) (R : Fin 4096)

theorem ref_sq : val_main_v6 (F := Ideal) x0 (ix3 ⟨R.val / 2048, by omega⟩ ⟨R.val % 2048, by omega⟩ 0) = Norm.sq (tok (n := 1024) x0 R) := by
  pointwise [val_main_v6, val_main_v5, val_main_cst_1, val_main_v4, val_main_v3, val_main_cst_0, val_main_v2, val_main_v1, val_main_v0, val_main_cst]
  rfl

theorem ref_rs : val_main_v7 (F := Ideal) x0 (ix3 ⟨R.val / 2048, by omega⟩ ⟨R.val % 2048, by omega⟩ 0) = rs (tok (n := 1024) x0 R) := by
  have := ref_sq x0 R
  pointwise [val_main_v7]
  rw [this]
  rfl

theorem ref_unit (j : Fin 1024) : val_main_v12 (F := Ideal) x0 (ix3 ⟨R.val / 2048, by omega⟩ ⟨R.val % 2048, by omega⟩ j)
    = unit (tok (n := 1024) x0 R) j := by
  have := ref_rs x0 R
  pointwise [val_main_v12, val_main_v11]
  rw [this]
  rfl

theorem ref_hn (j : Fin 1024) : val_main_v15 (F := Ideal) x0 x1 (ix3 ⟨R.val / 2048, by omega⟩ ⟨R.val % 2048, by omega⟩ j) = (args x0 x1 x2 x3 x4 x5 x6).rhn R j := by
  have := ref_unit x0 R j
  pointwise [val_main_v15, val_main_v14, val_main_v13]
  rw [this]
  rfl

theorem ref_a (s : Fin 4) (n : Fin 704) : val_main_v16 (F := Ideal) x0 x1 x2 (ix3 ⟨R.val / 2048, by omega⟩ ⟨R.val % 2048, by omega⟩ (ch s n))
    = (args x0 x1 x2 x3 x4 x5 x6).ra R s n := by
  have := ref_hn x0 x1 x2 x3 x4 x5 x6 R
  pointwise [val_main_v16]
  simp only [this]
  rfl

theorem ref_b (s : Fin 4) (n : Fin 704) : val_main_v17 (F := Ideal) x0 x1 x3 (ix3 ⟨R.val / 2048, by omega⟩ ⟨R.val % 2048, by omega⟩ (ch s n))
    = (args x0 x1 x2 x3 x4 x5 x6).rb R s n := by
  have := ref_hn x0 x1 x2 x3 x4 x5 x6 R
  pointwise [val_main_v17]
  simp only [this]
  rfl

theorem ref_sg (s : Fin 4) (n : Fin 704) : val_main_v18_2 (F := Ideal) x0 x1 x2 (ix3 ⟨R.val / 2048, by omega⟩ ⟨R.val % 2048, by omega⟩ (ch s n))
    = sg ((args x0 x1 x2 x3 x4 x5 x6).ra R s n) := by
  have := ref_a x0 x1 x2 x3 x4 x5 x6 R s n
  pointwise [val_main_v18_2, val_main_call0_v4, val_main_call0_cst_0, val_main_call0_v3, val_main_call0_v2, val_main_call0_cst, val_main_call0_v1, val_main_call0_v0]
  rw [this]
  unfold sg
  rw [zero_sub]

theorem ref_silu (s : Fin 4) (n : Fin 704) : val_main_v18_0 (F := Ideal) x0 x1 x2 (ix3 ⟨R.val / 2048, by omega⟩ ⟨R.val % 2048, by omega⟩ (ch s n))
    = (args x0 x1 x2 x3 x4 x5 x6).ra R s n * sg ((args x0 x1 x2 x3 x4 x5 x6).ra R s n) := by
  have h1 := ref_a x0 x1 x2 x3 x4 x5 x6 R s n
  have h2 := ref_sg x0 x1 x2 x3 x4 x5 x6 R s n
  pointwise [val_main_v18_0]
  rw [h1, h2]

theorem ref_f (s : Fin 4) (n : Fin 704) : val_main_v19 (F := Ideal) x0 x1 x2 x3 (ix3 ⟨R.val / 2048, by omega⟩ ⟨R.val % 2048, by omega⟩ (ch s n))
    = (args x0 x1 x2 x3 x4 x5 x6).rf R s n := by
  have h1 := ref_silu x0 x1 x2 x3 x4 x5 x6 R s n
  have h2 := ref_b x0 x1 x2 x3 x4 x5 x6 R s n
  pointwise [val_main_v19]
  rw [h1, h2]
  rfl

theorem ref_h2 (j : Fin 1024) : val_main_v21 (F := Ideal) x0 x1 x2 x3 x4 (ix3 ⟨R.val / 2048, by omega⟩ ⟨R.val % 2048, by omega⟩ j) = (args x0 x1 x2 x3 x4 x5 x6).rh2 R j := by
  have := ref_f x0 x1 x2 x3 x4 x5 x6 R
  pointwise [val_main_v21, val_main_v20]
  rw [sum_ch]
  simp only [this, ← add_assoc]
  rfl

theorem ref_sq2 : val_main_v28 (F := Ideal) x0 x1 x2 x3 x4 (ix3 ⟨R.val / 2048, by omega⟩ ⟨R.val % 2048, by omega⟩ 0) = Norm.sq ((args x0 x1 x2 x3 x4 x5 x6).rh2 R) := by
  have := ref_h2 x0 x1 x2 x3 x4 x5 x6 R
  pointwise [val_main_v28, val_main_v27, val_main_cst_5, val_main_v26, val_main_v25, val_main_cst_4, val_main_v24, val_main_v23, val_main_v22, val_main_cst_3]
  simp only [this]
  rfl

theorem ref_rs2 : val_main_v29 (F := Ideal) x0 x1 x2 x3 x4 (ix3 ⟨R.val / 2048, by omega⟩ ⟨R.val % 2048, by omega⟩ 0) = rs ((args x0 x1 x2 x3 x4 x5 x6).rh2 R) := by
  have := ref_sq2 x0 x1 x2 x3 x4 x5 x6 R
  pointwise [val_main_v29]
  rw [this]
  rfl

theorem ref_unit2 (j : Fin 1024) : val_main_v34 (F := Ideal) x0 x1 x2 x3 x4 (ix3 ⟨R.val / 2048, by omega⟩ ⟨R.val % 2048, by omega⟩ j)
    = unit ((args x0 x1 x2 x3 x4 x5 x6).rh2 R) j := by
  have h1 := ref_rs2 x0 x1 x2 x3 x4 x5 x6 R
  have h2 := ref_h2 x0 x1 x2 x3 x4 x5 x6 R j
  pointwise [val_main_v34, val_main_v33]
  rw [h1, h2]
  rfl

theorem ref_err (j : Fin 1024) : val_main_v38 (F := Ideal) x0 x1 x2 x3 x4 x5 x6 (ix3 ⟨R.val / 2048, by omega⟩ ⟨R.val % 2048, by omega⟩ j)
    = err ((args x0 x1 x2 x3 x4 x5 x6).rh2 R) (args x0 x1 x2 x3 x4 x5 x6).gf ((args x0 x1 x2 x3 x4 x5 x6).t R) j := by
  have h1 := ref_unit2 x0 x1 x2 x3 x4 x5 x6 R j
  pointwise [val_main_v38, val_main_v37, val_main_v36, val_main_v35]
  rw [h1]
  rfl

/-- The loss. -/
theorem ref_loss (y : S_.Idx) : val_main_v46 (F := Ideal) x0 x1 x2 x3 x4 x5 x6 y
    = Ideal.ofBits .f32 0x3F000000#32 * ∑ R, Ideal.div (∑ j, (args x0 x1 x2 x3 x4 x5 x6).rsq R j) (Ideal.ofBits .f32 0x44800000#32) := by
  pointwise [val_main_v46, val_main_cst_11, val_main_v45, val_main_cst_10]
  refine congrArg (_ * ·) ?_
  rw [sum_rows]
  refine Finset.sum_congr rfl fun R _ => ?_
  have h1 := ref_err x0 x1 x2 x3 x4 x5 x6 R
  pointwise [val_main_v44, val_main_v43, val_main_cst_9, val_main_v42, val_main_cst_8, val_main_v39]
  simp only [h1]
  rfl

theorem ref_dy (j : Fin 1024) : val_main_v52 (F := Ideal) x0 x1 x2 x3 x4 x5 x6 (ix3 ⟨R.val / 2048, by omega⟩ ⟨R.val % 2048, by omega⟩ j)
    = dy ((args x0 x1 x2 x3 x4 x5 x6).rh2 R) (args x0 x1 x2 x3 x4 x5 x6).gf ((args x0 x1 x2 x3 x4 x5 x6).t R) j := by
  have h1 := ref_err x0 x1 x2 x3 x4 x5 x6 R j
  refine Eq.trans ?_ (dy_lit _)
  pointwise [val_main_v52, val_main_v51, val_main_v50, val_main_v49, val_main_cst_14, val_main_v48, val_main_v47, val_main_cst_13, val_main_cst_12,
    val_main_v41, val_main_v40, val_main_cst_7]
  rw [h1]

/-- The gradient of the final norm's unit row. -/
def rd2 (A : Args) (R : Fin 4096) (j : Fin 1024) : EReal := dy (A.rh2 R) A.gf (A.t R) j * A.gf j

theorem ref_d2 (j : Fin 1024) : val_main_v57 (F := Ideal) x0 x1 x2 x3 x4 x5 x6 (ix3 ⟨R.val / 2048, by omega⟩ ⟨R.val % 2048, by omega⟩ j)
    = rd2 (args x0 x1 x2 x3 x4 x5 x6) R j := by
  have h1 := ref_dy x0 x1 x2 x3 x4 x5 x6 R j
  pointwise [val_main_v57, val_main_v56, val_main_v35]
  rw [h1]
  rfl

theorem ref_slope2 (j : Fin 1024) : val_main_v68 (F := Ideal) x0 x1 x2 x3 x4 x5 x6 (ix3 ⟨R.val / 2048, by omega⟩ ⟨R.val % 2048, by omega⟩ j)
    = Norm.slope ((args x0 x1 x2 x3 x4 x5 x6).rh2 R) (rd2 (args x0 x1 x2 x3 x4 x5 x6) R) := by
  have h6 := ref_sq2 x0 x1 x2 x3 x4 x5 x6 R
  have h7 := ref_rs2 x0 x1 x2 x3 x4 x5 x6 R
  have hy := ref_h2 x0 x1 x2 x3 x4 x5 x6 R
  have hd := ref_d2 x0 x1 x2 x3 x4 x5 x6 R
  pointwise [val_main_v68, val_main_v67, val_main_cst_19, val_main_v66, val_main_v65, val_main_cst_18, val_main_v64, val_main_v32, val_main_v31,
    val_main_cst_6, val_main_v30, val_main_v61, val_main_v60, val_main_cst_17, val_main_v59]
  rw [Fin.sum_univ_one, h6, h7]
  simp only [hd, hy]
  rfl

/-- The final gain's gradient. -/
theorem ref_dgf (j : Fin 1024) : val_main_v58 (F := Ideal) x0 x1 x2 x3 x4 x5 x6 (ix1 j) = ∑ R, (args x0 x1 x2 x3 x4 x5 x6).rdgf R j := by
  unfold val_main_v58
  refine (hostSum01 Gen.reducesTo_S1x1x1024_S1024_d0_1 (val_main_v55 (F := Ideal) x0 x1 x2 x3 x4 x5 x6) _ j).trans ?_
  refine Eq.trans (congrArg (· + _) (show val_main_cst_16 (F := Ideal) _ = 0 by pointwise [val_main_cst_16])) ((zero_add _).trans ?_)
  rw [Fin.sum_univ_one, Fin.sum_univ_one]
  refine Eq.trans (b := val_main_v54 (F := Ideal) x0 x1 x2 x3 x4 x5 x6 (ix1 j)) (by pointwise [val_main_v55]) ?_
  unfold val_main_v54
  refine (hostSum01 Gen.reducesTo_S2x2048x1024_S1024_d0_1 (val_main_v53 (F := Ideal) x0 x1 x2 x3 x4 x5 x6) _ j).trans ?_
  rw [sum_rows]
  refine Eq.trans (congrArg (· + _) (show val_main_cst_15 (F := Ideal) _ = 0 by pointwise [val_main_cst_15])) ((zero_add _).trans ?_)
  refine Finset.sum_congr rfl fun R _ => ?_
  have h1 := ref_unit2 x0 x1 x2 x3 x4 x5 x6 R j
  have h2 := ref_dy x0 x1 x2 x3 x4 x5 x6 R j
  pointwise [val_main_v53]
  rw [h1, h2, mul_comm]
  rfl

/-- The gradient of the first norm's unit row. -/
def rd1 (A : Args) (R : Fin 4096) (j : Fin 1024) : EReal := A.rdhn R j * A.g j

variable (hA : (args x0 x1 x2 x3 x4 x5 x6).Real)
include hA

theorem ref_dh2 (j : Fin 1024) : val_main_v72 (F := Ideal) x0 x1 x2 x3 x4 x5 x6 (ix3 ⟨R.val / 2048, by omega⟩ ⟨R.val % 2048, by omega⟩ j)
    = (args x0 x1 x2 x3 x4 x5 x6).rdh2 R j := by
  have h7 := ref_rs2 x0 x1 x2 x3 x4 x5 x6 R
  have hy := ref_h2 x0 x1 x2 x3 x4 x5 x6 R j
  have hd := ref_d2 x0 x1 x2 x3 x4 x5 x6 R j
  have hs := ref_slope2 x0 x1 x2 x3 x4 x5 x6 R j
  have he := pgrad_eq 0 (hA.rh2 R) (d := rd2 (args x0 x1 x2 x3 x4 x5 x6) R) (fun e => (hA.rdy R e).mul (hA.gf e)) j
  refine Eq.trans ?_ (he.trans (zero_add _))
  pointwise [val_main_v72, val_main_v71, val_main_v70, val_main_v69, val_main_v63, val_main_v62]
  rw [h7, hy, hd, hs]
  unfold pgrad
  rw [zero_add]

theorem ref_df (s : Fin 4) (n : Fin 704) : val_main_v73 (F := Ideal) x0 x1 x2 x3 x4 x5 x6 (ix3 ⟨R.val / 2048, by omega⟩ ⟨R.val % 2048, by omega⟩ (ch s n))
    = up ((args x0 x1 x2 x3 x4 x5 x6).rdh2 R) (args x0 x1 x2 x3 x4 x5 x6).wd s n := by
  have h1 := ref_dh2 x0 x1 x2 x3 x4 x5 x6 R hA
  pointwise [val_main_v73]
  simp only [h1]
  rfl

theorem ref_db (s : Fin 4) (n : Fin 704) : val_main_v74 (F := Ideal) x0 x1 x2 x3 x4 x5 x6 (ix3 ⟨R.val / 2048, by omega⟩ ⟨R.val % 2048, by omega⟩ (ch s n))
    = (args x0 x1 x2 x3 x4 x5 x6).rdb R s n := by
  have h1 := ref_df x0 x1 x2 x3 x4 x5 x6 R hA s n
  have h2 := ref_silu x0 x1 x2 x3 x4 x5 x6 R s n
  pointwise [val_main_v74]
  rw [h1, h2, mul_comm]
  rfl

theorem ref_da (s : Fin 4) (n : Fin 704) : val_main_v76 (F := Ideal) x0 x1 x2 x3 x4 x5 x6 (ix3 ⟨R.val / 2048, by omega⟩ ⟨R.val % 2048, by omega⟩ (ch s n))
    = (args x0 x1 x2 x3 x4 x5 x6).rda R s n := by
  have h1 := ref_df x0 x1 x2 x3 x4 x5 x6 R hA s n
  have h2 := ref_a x0 x1 x2 x3 x4 x5 x6 R s n
  have h3 := ref_b x0 x1 x2 x3 x4 x5 x6 R s n
  have h4 := ref_sg x0 x1 x2 x3 x4 x5 x6 R s n
  refine Eq.trans ?_ (silu_grad (hA.ra R s n) (hA.rb R s n) (up_fine (hA.rdh2 R) hA.wd s n))
  pointwise [val_main_v76, val_main_call1_v2, val_main_call1_v1, val_main_call1_v0, val_main_v75, val_main_v18_1, val_main_call0_v7, val_main_call0_v6, val_main_call0_cst_1]
  rw [h1, h2, h3, h4]

theorem ref_dhn (j : Fin 1024) : val_main_v79 (F := Ideal) x0 x1 x2 x3 x4 x5 x6 (ix3 ⟨R.val / 2048, by omega⟩ ⟨R.val % 2048, by omega⟩ j)
    = (args x0 x1 x2 x3 x4 x5 x6).rdhn R j := by
  have h1 := ref_da x0 x1 x2 x3 x4 x5 x6 R hA
  have h2 := ref_db x0 x1 x2 x3 x4 x5 x6 R hA
  pointwise [val_main_v79, val_main_v78, val_main_v77]
  rw [sum_ch, sum_ch]
  simp only [h1, h2]
  show down ((args x0 x1 x2 x3 x4 x5 x6).rda R) (args x0 x1 x2 x3 x4 x5 x6).wg 0 j + down ((args x0 x1 x2 x3 x4 x5 x6).rda R) (args x0 x1 x2 x3 x4 x5 x6).wg 1 j + down ((args x0 x1 x2 x3 x4 x5 x6).rda R) (args x0 x1 x2 x3 x4 x5 x6).wg 2 j + down ((args x0 x1 x2 x3 x4 x5 x6).rda R) (args x0 x1 x2 x3 x4 x5 x6).wg 3 j
    + (down ((args x0 x1 x2 x3 x4 x5 x6).rdb R) (args x0 x1 x2 x3 x4 x5 x6).wu 0 j + down ((args x0 x1 x2 x3 x4 x5 x6).rdb R) (args x0 x1 x2 x3 x4 x5 x6).wu 1 j + down ((args x0 x1 x2 x3 x4 x5 x6).rdb R) (args x0 x1 x2 x3 x4 x5 x6).wu 2 j + down ((args x0 x1 x2 x3 x4 x5 x6).rdb R) (args x0 x1 x2 x3 x4 x5 x6).wu 3 j) = _
  unfold Args.rdhn dhn
  abel

theorem ref_d1 (j : Fin 1024) : val_main_v84 (F := Ideal) x0 x1 x2 x3 x4 x5 x6 (ix3 ⟨R.val / 2048, by omega⟩ ⟨R.val % 2048, by omega⟩ j)
    = rd1 (args x0 x1 x2 x3 x4 x5 x6) R j := by
  have h1 := ref_dhn x0 x1 x2 x3 x4 x5 x6 R hA j
  pointwise [val_main_v84, val_main_v83, val_main_v13]
  rw [h1]
  rfl

theorem ref_slope1 (j : Fin 1024) : val_main_v95 (F := Ideal) x0 x1 x2 x3 x4 x5 x6 (ix3 ⟨R.val / 2048, by omega⟩ ⟨R.val % 2048, by omega⟩ j)
    = Norm.slope ((args x0 x1 x2 x3 x4 x5 x6).x R) (rd1 (args x0 x1 x2 x3 x4 x5 x6) R) := by
  have h6 := ref_sq x0 R
  have h7 := ref_rs x0 R
  have hd := ref_d1 x0 x1 x2 x3 x4 x5 x6 R hA
  pointwise [val_main_v95, val_main_v94, val_main_cst_24, val_main_v93, val_main_v92, val_main_cst_23, val_main_v91, val_main_v10, val_main_v9,
    val_main_cst_2, val_main_v8, val_main_v88, val_main_v87, val_main_cst_22, val_main_v86]
  rw [Fin.sum_univ_one, h6, h7]
  simp only [hd]
  rfl

theorem ref_dh1 (j : Fin 1024) : val_main_v100 (F := Ideal) x0 x1 x2 x3 x4 x5 x6 (ix3 ⟨R.val / 2048, by omega⟩ ⟨R.val % 2048, by omega⟩ j)
    = (args x0 x1 x2 x3 x4 x5 x6).rdh1 R j := by
  have h7 := ref_rs x0 R
  have h2 := ref_dh2 x0 x1 x2 x3 x4 x5 x6 R hA j
  have hd := ref_d1 x0 x1 x2 x3 x4 x5 x6 R hA j
  have hs := ref_slope1 x0 x1 x2 x3 x4 x5 x6 R hA j
  have he := pgrad_eq 0 (hA.x R) (d := rd1 (args x0 x1 x2 x3 x4 x5 x6) R) (fun e => (hA.rdhn R e).mul (hA.g e)) j
  refine Eq.trans ?_ (congrArg ((args x0 x1 x2 x3 x4 x5 x6).rdh2 R j + ·) (he.trans (zero_add _)))
  pointwise [val_main_v100, val_main_v99, val_main_v98, val_main_v97, val_main_v96, val_main_v90, val_main_v89]
  rw [h7, h2, hd, hs]
  unfold pgrad
  rw [zero_add]
  rfl

/-- The first gain's gradient. -/
theorem ref_dg (j : Fin 1024) : val_main_v85 (F := Ideal) x0 x1 x2 x3 x4 x5 x6 (ix1 j) = ∑ R, (args x0 x1 x2 x3 x4 x5 x6).rdg R j := by
  unfold val_main_v85
  refine (hostSum01 Gen.reducesTo_S1x1x1024_S1024_d0_1 (val_main_v82 (F := Ideal) x0 x1 x2 x3 x4 x5 x6) _ j).trans ?_
  refine Eq.trans (congrArg (· + _) (show val_main_cst_21 (F := Ideal) _ = 0 by pointwise [val_main_cst_21])) ((zero_add _).trans ?_)
  rw [Fin.sum_univ_one, Fin.sum_univ_one]
  refine Eq.trans (b := val_main_v81 (F := Ideal) x0 x1 x2 x3 x4 x5 x6 (ix1 j)) (by pointwise [val_main_v82]) ?_
  unfold val_main_v81
  refine (hostSum01 Gen.reducesTo_S2x2048x1024_S1024_d0_1 (val_main_v80 (F := Ideal) x0 x1 x2 x3 x4 x5 x6) _ j).trans ?_
  rw [sum_rows]
  refine Eq.trans (congrArg (· + _) (show val_main_cst_20 (F := Ideal) _ = 0 by pointwise [val_main_cst_20])) ((zero_add _).trans ?_)
  refine Finset.sum_congr rfl fun R _ => ?_
  have h1 := ref_unit x0 R j
  have h2 := ref_dhn x0 x1 x2 x3 x4 x5 x6 R hA j
  pointwise [val_main_v80]
  rw [h1, h2, mul_comm]
  rfl

end Cert.Chan

end
-- ==== Proof.Chan.Finite.lean ====
module

public import proofs.«01_k».proof.Proof.Ret.Finite
public import proofs.«01_k».proof.Proof.Chan.Args
public import proofs.«01_k».proof.Defs
public import Idealize.ShloMosaic.Lib.Pointwise

@[expose] public section

set_option maxRecDepth 16384

noncomputable section

open Idealize.ShloMosaic Idealize.ShloMosaic.TcCoe Idealize.SL.Sem

/-! ## What the precondition says

The precondition lays the seven arguments out as one list and compares the absolute value of every entry with infinity; where it
holds every argument is a real number. -/

theorem Cert.Pre_finite_channel.preFacts : Cert.Pre_finite_channel.Facts where
  shapeCasts_S2x2048x1024_S4194304 := by decide
  shapeCasts_S1024x2816_S2883584 := by decide
  shapeCasts_S2816x1024_S2883584 := by decide
  concatenates_S4194304_S1024_S2883584_S2883584_S2883584_S1024_S4194304_S17041408_d0 := by decide
  bcast_S_S17041408 := by decide

namespace Cert.Chan

open Cert.Pre_finite_channel Cert.Merge
open Cert.RetKernelIdeal.Value (Fine fine_of_lt of_bit)

theorem ix3_congr {n0 n1 n2 : Nat} {a a' : Fin n0} {b b' : Fin n1} {d d' : Fin n2} (ha : a = a') (hb : b = b') (hd : d = d') :
    ix3 a b d = ix3 a' b' d' := by
  rw [ha, hb, hd]

variable [Cert.Pre_finite_channel.Facts]

variable (x0 : FVec Ideal S2x2048x1024 .f32) (x1 : FVec Ideal S1024 .f32) (x2 : FVec Ideal S1024x2816 .f32)
  (x3 : FVec Ideal S1024x2816 .f32) (x4 : FVec Ideal S2816x1024 .f32) (x5 : FVec Ideal S1024 .f32)
  (x6 : FVec Ideal S2x2048x1024 .f32)
  (h : Cert.Pre_finite_channel.fn (F := Ideal) x0 x1 x2 x3 x4 x5 x6 = fun _ => 1#1)

include h

/-- Entry `k` of the list. -/
theorem pre_at (k : Fin 17041408) : Fine (
    if h : k.val < 4194304 then x0 (ix3 ⟨k.val / 2097152, by omega⟩ ⟨k.val / 1024 % 2048, by omega⟩ ⟨k.val % 1024, by omega⟩)
    else if h : k.val - 4194304 < 1024 then x1 (ix1 ⟨k.val - 4194304, by omega⟩)
    else if h : k.val - 4194304 - 1024 < 2883584 then
      x2 (ix2 ⟨(k.val - 4194304 - 1024) / 2816, by omega⟩ ⟨(k.val - 4194304 - 1024) % 2816, by omega⟩)
    else if h : k.val - 4194304 - 1024 - 2883584 < 2883584 then
      x3 (ix2 ⟨(k.val - 4194304 - 1024 - 2883584) / 2816, by omega⟩ ⟨(k.val - 4194304 - 1024 - 2883584) % 2816, by omega⟩)
    else if h : k.val - 4194304 - 1024 - 2883584 - 2883584 < 2883584 then
      x4 (ix2 ⟨(k.val - 4194304 - 1024 - 2883584 - 2883584) / 1024, by omega⟩ ⟨(k.val - 4194304 - 1024 - 2883584 - 2883584) % 1024, by omega⟩)
    else if h : k.val - 4194304 - 1024 - 2883584 - 2883584 - 2883584 < 1024 then
      x5 (ix1 ⟨k.val - 4194304 - 1024 - 2883584 - 2883584 - 2883584, by omega⟩)
    else x6 (ix3 ⟨(k.val - 4194304 - 1024 - 2883584 - 2883584 - 2883584 - 1024) / 2097152, by omega⟩
      ⟨(k.val - 4194304 - 1024 - 2883584 - 2883584 - 2883584 - 1024) / 1024 % 2048, by omega⟩
      ⟨(k.val - 4194304 - 1024 - 2883584 - 2883584 - 2883584 - 1024) % 1024, by omega⟩)) := by
  have := congrFun h (ix1 k)
  unfold Cert.Pre_finite_channel.fn at this
  revert this
  pointwise
  intro this
  exact fine_of_lt (of_bit _ this)

theorem pre_real : (args x0 x1 x2 x3 x4 x5 x6).Real where
  x R j := by
    have := pre_at x0 x1 x2 x3 x4 x5 x6 h ⟨R.val * 1024 + j.val, by omega⟩
    rw [dif_pos (by show R.val * 1024 + j.val < 4194304; omega)] at this
    refine Eq.subst (motive := fun i => Fine (x0 i)) ?_ this
    refine ix3_congr ?_ ?_ ?_
    all_goals (apply Fin.ext; dsimp only; omega)
  g j := by
    have := pre_at x0 x1 x2 x3 x4 x5 x6 h ⟨4194304 + j.val, by omega⟩
    rw [dif_neg (by dsimp only; omega), dif_pos (by dsimp only; omega)] at this
    refine Eq.subst (motive := fun i => Fine (x1 i)) ?_ this
    exact congrArg ix1 (Fin.ext (by dsimp only; omega))
  wg s n k := by
    have := pre_at x0 x1 x2 x3 x4 x5 x6 h ⟨4195328 + (k.val * 2816 + (ch s n).val), by omega⟩
    rw [dif_neg (by dsimp only; omega), dif_neg (by dsimp only; omega), dif_pos (by dsimp only; omega)] at this
    refine Eq.subst (motive := fun i => Fine (x2 i)) ?_ this
    exact congrArg₂ ix2 (Fin.ext (by dsimp only; omega)) (Fin.ext (by dsimp only; omega))
  wu s n k := by
    have := pre_at x0 x1 x2 x3 x4 x5 x6 h ⟨7078912 + (k.val * 2816 + (ch s n).val), by omega⟩
    rw [dif_neg (by dsimp only; omega), dif_neg (by dsimp only; omega), dif_neg (by dsimp only; omega), dif_pos (by dsimp only; omega)] at this
    refine Eq.subst (motive := fun i => Fine (x3 i)) ?_ this
    exact congrArg₂ ix2 (Fin.ext (by dsimp only; omega)) (Fin.ext (by dsimp only; omega))
  wd s n k := by
    have := pre_at x0 x1 x2 x3 x4 x5 x6 h ⟨9962496 + ((ch s n).val * 1024 + k.val), by omega⟩
    rw [dif_neg (by dsimp only; omega), dif_neg (by dsimp only; omega), dif_neg (by dsimp only; omega), dif_neg (by dsimp only; omega),
      dif_pos (by dsimp only; omega)] at this
    refine Eq.subst (motive := fun i => Fine (x4 i)) ?_ this
    exact congrArg₂ ix2 (Fin.ext (by dsimp only; omega)) (Fin.ext (by dsimp only; omega))
  gf j := by
    have := pre_at x0 x1 x2 x3 x4 x5 x6 h ⟨12846080 + j.val, by omega⟩
    rw [dif_neg (by dsimp only; omega), dif_neg (by dsimp only; omega), dif_neg (by dsimp only; omega), dif_neg (by dsimp only; omega),
      dif_neg (by dsimp only; omega), dif_pos (by dsimp only; omega)] at this
    refine Eq.subst (motive := fun i => Fine (x5 i)) ?_ this
    exact congrArg ix1 (Fin.ext (by dsimp only; omega))
  t R j := by
    have := pre_at x0 x1 x2 x3 x4 x5 x6 h ⟨12847104 + (R.val * 1024 + j.val), by omega⟩
    rw [dif_neg (by dsimp only; omega), dif_neg (by dsimp only; omega), dif_neg (by dsimp only; omega), dif_neg (by dsimp only; omega),
      dif_neg (by dsimp only; omega), dif_neg (by dsimp only; omega)] at this
    refine Eq.subst (motive := fun i => Fine (x6 i)) ?_ this
    refine ix3_congr ?_ ?_ ?_
    all_goals (apply Fin.ext; dsimp only; omega)

end Cert.Chan

end
-- ==== Proof.Chan.Claim.lean ====
module

public import proofs.«01_k».proof.Proof.Chan.Host
public import proofs.«01_k».proof.Proof.Chan.Ref
public import proofs.«01_k».proof.Proof.Chan.Finite
public import proofs.«01_k».proof.Proof.Gen.ChanReferenceIdeal.Run
public import Idealize.ShloMosaic.Lib.Claim
public import proofs.«01_k».proof.Defs
public import Idealize.ShloMosaic.Lib.Pointwise

@[expose] public section

set_option maxRecDepth 16384

noncomputable section

open Idealize.ShloMosaic Idealize.ShloMosaic.TcCoe Idealize.SL.Sem

/-! ## The nine results of the channel mixer's gradients

Both programs end with the rows of `Args`: the kernel by its two launches, the reference, where the arguments are real numbers,
by the derivatives of the square root, of the quotients and of the logistic function that it spells out. -/

/-- The sums of the rows' entries, one for each lane. -/
def Cert.Chan.colSum (G : Fin 4096 → Fin 1024 → EReal) : (⟨1, ![1024]⟩ : Shape).Idx → EReal := fun n => ∑ R : Fin 4096, G R (n 0)

namespace Cert.ChanKernelIdeal.Value

open Cert.ChanKernelIdeal Cert.ChanKernelIdeal.Gen Cert.Chan

variable (m : (ℓ : Loc nD τ sig) → Buf (Elt Ideal) ℓ) (ρ : Dev nD → PrngReg)

/-- The call's run: its results are the rows over its own arguments, which end unchanged. -/
theorem run : θ_run defs (onTc (τ := τ) (main (F := Ideal))) ⟨m, fun _ => 0, ρ⟩ (fun r => ∀ c : Dev nD,
      r.2.mem ((c.tc : Thread nD τ).loc main_v18) = (fun _ => (A m c).loss)
      ∧ r.2.mem ((c.tc : Thread nD τ).loc main_v13_2) = arr (A m c).rdh1
      ∧ r.2.mem ((c.tc : Thread nD τ).loc main_v22) = colSum (A m c).rdg
      ∧ r.2.mem ((c.tc : Thread nD τ).loc main_v26) = colSum (A m c).rdgf
      ∧ r.2.mem ((c.tc : Thread nD τ).loc main_v12_4) = arr (A m c).rdh2
      ∧ r.2.mem ((c.tc : Thread nD τ).loc main_v12_0) = arr (A m c).rhn
      ∧ r.2.mem ((c.tc : Thread nD τ).loc main_v12_3) = arr3 (A m c).rf
      ∧ r.2.mem ((c.tc : Thread nD τ).loc main_v13_0) = arr3 (A m c).rda
      ∧ r.2.mem ((c.tc : Thread nD τ).loc main_v13_1) = arr3 (A m c).rdb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v18 (by decide))).trans (W4_loss m ρ c),
    (h c _ (mem_uc main_v13_2 (by decide))).trans (W4_dh1 m ρ c),
    (h c _ (mem_uc main_v22 (by decide))).trans (W4_dg m ρ c),
    (h c _ (mem_uc main_v26 (by decide))).trans (W4_dgf m ρ c),
    (h c _ (mem_uc main_v12_4 (by decide))).trans (W4_dh2 m ρ c),
    (h c _ (mem_uc main_v12_0 (by decide))).trans (W4_hn m ρ c),
    (h c _ (mem_uc main_v12_3 (by decide))).trans (W4_f m ρ c),
    (h c _ (mem_uc main_v13_0 (by decide))).trans (W4_da m ρ c),
    (h c _ (mem_uc main_v13_1 (by decide))).trans (W4_db m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.ChanKernelIdeal.Value

/-! The reference's results over real arguments. -/
namespace Cert.Chan

open Cert.ChanReferenceIdeal Cert.ChanReferenceIdeal.Read
open Cert.ChanKernelIdeal.Value (arr arr3)

variable (x0 : FVec Ideal S2x2048x1024 .f32) (x1 : FVec Ideal S1024 .f32) (x2 : FVec Ideal S1024x2816 .f32)
  (x3 : FVec Ideal S1024x2816 .f32) (x4 : FVec Ideal S2816x1024 .f32) (x5 : FVec Ideal S1024 .f32)
  (x6 : FVec Ideal S2x2048x1024 .f32)

theorem out_hn : val_main_v104 (F := Ideal) x0 x1 = arr (args x0 x1 x2 x3 x4 x5 x6).rhn := by
  funext y
  obtain ⟨R, j, rfl⟩ : ∃ (R : Fin 4096) (j : Fin 1024), y = (ix2 R j : S4096x1024.Idx) := ⟨y 0, y 1, eq_ix2 y⟩
  have := ref_hn x0 x1 x2 x3 x4 x5 x6 R j
  pointwise [val_main_v104, val_main_v103]
  exact this

theorem out_f : val_main_v107 (F := Ideal) x0 x1 x2 x3 = arr3 (args x0 x1 x2 x3 x4 x5 x6).rf := by
  funext y
  obtain ⟨s, R, n, rfl⟩ : ∃ (s : Fin 4) (R : Fin 4096) (n : Fin 704), y = (ix3 s R n : S4x4096x704.Idx) := ⟨y 0, y 1, y 2, eq_ix3 y⟩
  have := ref_f x0 x1 x2 x3 x4 x5 x6 R s n
  pointwise [val_main_v107, val_main_v106, val_main_v105]
  exact this

theorem out_dgf : val_main_v58 (F := Ideal) x0 x1 x2 x3 x4 x5 x6 = colSum (args x0 x1 x2 x3 x4 x5 x6).rdgf := by
  funext y
  obtain ⟨j, rfl⟩ : ∃ (j : Fin 1024), y = (ix1 j : S1024.Idx) := ⟨y 0, eq_ix1 y⟩
  exact ref_dgf x0 x1 x2 x3 x4 x5 x6 j

variable (hA : (args x0 x1 x2 x3 x4 x5 x6).Real)
include hA

theorem out_loss : val_main_v46 (F := Ideal) x0 x1 x2 x3 x4 x5 x6 = fun _ => (args x0 x1 x2 x3 x4 x5 x6).loss :=
  funext fun y => (ref_loss x0 x1 x2 x3 x4 x5 x6 y).trans hA.loss.symm

theorem out_dg : val_main_v85 (F := Ideal) x0 x1 x2 x3 x4 x5 x6 = colSum (args x0 x1 x2 x3 x4 x5 x6).rdg := by
  funext y
  obtain ⟨j, rfl⟩ : ∃ (j : Fin 1024), y = (ix1 j : S1024.Idx) := ⟨y 0, eq_ix1 y⟩
  exact ref_dg x0 x1 x2 x3 x4 x5 x6 hA j

theorem out_dh1 : val_main_v101 (F := Ideal) x0 x1 x2 x3 x4 x5 x6 = arr (args x0 x1 x2 x3 x4 x5 x6).rdh1 := by
  funext y
  obtain ⟨R, j, rfl⟩ : ∃ (R : Fin 4096) (j : Fin 1024), y = (ix2 R j : S4096x1024.Idx) := ⟨y 0, y 1, eq_ix2 y⟩
  have := ref_dh1 x0 x1 x2 x3 x4 x5 x6 R hA j
  pointwise [val_main_v101]
  exact this

theorem out_dh2 : val_main_v102 (F := Ideal) x0 x1 x2 x3 x4 x5 x6 = arr (args x0 x1 x2 x3 x4 x5 x6).rdh2 := by
  funext y
  obtain ⟨R, j, rfl⟩ : ∃ (R : Fin 4096) (j : Fin 1024), y = (ix2 R j : S4096x1024.Idx) := ⟨y 0, y 1, eq_ix2 y⟩
  have := ref_dh2 x0 x1 x2 x3 x4 x5 x6 R hA j
  pointwise [val_main_v102]
  exact this

theorem out_da : val_main_v110 (F := Ideal) x0 x1 x2 x3 x4 x5 x6 = arr3 (args x0 x1 x2 x3 x4 x5 x6).rda := by
  funext y
  obtain ⟨s, R, n, rfl⟩ : ∃ (s : Fin 4) (R : Fin 4096) (n : Fin 704), y = (ix3 s R n : S4x4096x704.Idx) := ⟨y 0, y 1, y 2, eq_ix3 y⟩
  have := ref_da x0 x1 x2 x3 x4 x5 x6 R hA s n
  pointwise [val_main_v110, val_main_v109, val_main_v108]
  exact this

theorem out_db : val_main_v113 (F := Ideal) x0 x1 x2 x3 x4 x5 x6 = arr3 (args x0 x1 x2 x3 x4 x5 x6).rdb := by
  funext y
  obtain ⟨s, R, n, rfl⟩ : ∃ (s : Fin 4) (R : Fin 4096) (n : Fin 704), y = (ix3 s R n : S4x4096x704.Idx) := ⟨y 0, y 1, y 2, eq_ix3 y⟩
  have := ref_db x0 x1 x2 x3 x4 x5 x6 R hA s n
  pointwise [val_main_v113, val_main_v112, val_main_v111]
  exact this

end Cert.Chan

/-! The reference's run, its results as the stages' terms. -/
namespace Cert.ChanReferenceIdeal.Value

open Cert.ChanReferenceIdeal Cert.ChanReferenceIdeal.Gen Cert.ChanReferenceIdeal.Read
open Cert.ChanKernelIdeal.Value (arr arr3)
open Cert.Chan (colSum)

/-- The rows' arguments at a device. -/
def A (m : (ℓ : Loc nD τ sig) → Buf (Elt Ideal) ℓ) (c : Dev nD) : Cert.Chan.Args :=
  Cert.Chan.args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v102) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v104) = val_main_v104 (F := Ideal) (m ((c.tc : Thread nD τ).loc main_arg0)) (m ((c.tc : Thread nD τ).loc main_arg1))
      ∧ r.2.mem ((c.tc : Thread nD τ).loc main_v107) = val_main_v107 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (val_main_v46_eq (StableHlo.launchContents m c)),
    (h c).2.1.trans (val_main_v101_eq (StableHlo.launchContents m c)),
    (h c).2.2.1.trans (val_main_v85_eq (StableHlo.launchContents m c)),
    (h c).2.2.2.1.trans (val_main_v58_eq (StableHlo.launchContents m c)),
    (h c).2.2.2.2.1.trans (val_main_v102_eq (StableHlo.launchContents m c)),
    (h c).2.2.2.2.2.1.trans (val_main_v104_eq (StableHlo.launchContents m c)),
    (h c).2.2.2.2.2.2.1.trans (val_main_v107_eq (StableHlo.launchContents m c)),
    (h c).2.2.2.2.2.2.2.1.trans (val_main_v110_eq (StableHlo.launchContents m c)),
    (h c).2.2.2.2.2.2.2.2.1.trans (val_main_v113_eq (StableHlo.launchContents m c)),
    (h c).2.2.2.2.2.2.2.2.2⟩) (run m ρ)

theorem run_stages (m : (ℓ : Loc nD τ sig) → Buf (Elt Ideal) ℓ) (ρ : Dev nD → PrngReg) (hA : ∀ c, (A m c).Real) :
    θ_run defs (onTc (τ := τ) (main (F := Ideal))) ⟨m, fun _ => 0, ρ⟩ (fun r => ∀ c : Dev nD,
      r.2.mem ((c.tc : Thread nD τ).loc main_v46) = (fun _ => (A m c).loss)
      ∧ r.2.mem ((c.tc : Thread nD τ).loc main_v101) = arr (A m c).rdh1
      ∧ r.2.mem ((c.tc : Thread nD τ).loc main_v85) = colSum (A m c).rdg
      ∧ r.2.mem ((c.tc : Thread nD τ).loc main_v58) = colSum (A m c).rdgf
      ∧ r.2.mem ((c.tc : Thread nD τ).loc main_v102) = arr (A m c).rdh2
      ∧ r.2.mem ((c.tc : Thread nD τ).loc main_v104) = arr (A m c).rhn
      ∧ r.2.mem ((c.tc : Thread nD τ).loc main_v107) = arr3 (A m c).rf
      ∧ r.2.mem ((c.tc : Thread nD τ).loc main_v110) = arr3 (A m c).rda
      ∧ r.2.mem ((c.tc : Thread nD τ).loc main_v113) = arr3 (A m c).rdb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (Cert.Chan.out_loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.1.trans (Cert.Chan.out_dh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.2.1.trans (Cert.Chan.out_dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.2.2.1.trans (Cert.Chan.out_dgf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (h c).2.2.2.2.1.trans (Cert.Chan.out_dh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.2.2.2.2.1.trans (Cert.Chan.out_hn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (h c).2.2.2.2.2.2.1.trans (Cert.Chan.out_f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (h c).2.2.2.2.2.2.2.1.trans (Cert.Chan.out_da (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.2.2.2.2.2.2.2.1.trans (Cert.Chan.out_db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hA c)),
    (h c).2.2.2.2.2.2.2.2.2⟩) (run_vals m ρ)

end Cert.ChanReferenceIdeal.Value

namespace Cert.Chan

open Cert.ChanKernelIdeal.Value (A arr arr3)

theorem algebraic [Cert.Pre_finite_channel.Facts] : Cert.algebraic_ChanKernelIdeal_ChanReferenceIdeal_pre_finite_channel := by
  intro m g m' g' hpre hagree
  have hAA : ∀ c, Cert.ChanReferenceIdeal.Value.A m' c = A m c := fun c => by
    obtain ⟨a0, a1, a2, a3, a4, a5, a6⟩ := hagree c
    unfold Cert.ChanReferenceIdeal.Value.A
    rw [a0, a1, a2, a3, a4, a5, a6]
    rfl
  have hA : ∀ c, (A m c).Real := fun c => pre_real _ _ _ _ _ _ _ (hpre c)
  refine ⟨fun c => fun _ => (A m c).loss, fun c => arr (A m c).rdh1, fun c => colSum (A m c).rdg, fun c => colSum (A m c).rdgf, fun c => arr (A m c).rdh2, fun c => arr (A m c).rhn, fun c => arr3 (A m c).rf, fun c => arr3 (A m c).rda, fun c => arr3 (A m c).rdb,
    Cert.ChanKernelIdeal.Value.run m g, ?_⟩
  refine (θ_run Cert.ChanReferenceIdeal.defs _ _).mono (fun r h c => ?_)
    (Cert.ChanReferenceIdeal.Value.run_stages m' g' fun c => (hAA c).symm ▸ hA c)
  have hc := h c
  rw [hAA c] at hc
  exact hc

theorem frame_reference : Cert.quiescent_ChanReferenceIdeal := by
  intro m g _
  exact (θ_run Cert.ChanReferenceIdeal.defs _ _).mono (fun r h => ⟨fun c => (h c).2.2.2.2.2.2.2.2.2,
    sem_eq_zero_of_no_sems (by decide) r.2⟩) (Cert.ChanReferenceIdeal.Value.run m g)

end Cert.Chan

end
-- ==== Proof.Att.Math.lean ====
module

public import Idealize.ShloMosaic.Lib.Pointwise

@[expose] public section

noncomputable section

open Idealize.ShloMosaic

/-! Attention over a window of keys, one query and one output column at a time. -/

namespace Cert.Att

/-- The largest score. -/
def peak {n : ℕ} (s : Fin n → EReal) : EReal := Finset.univ.fold max ⊥ s

/-- The weight of a key before it is divided by the sum of all weights. -/
def wt {n : ℕ} (s : Fin n → EReal) (j : Fin n) : EReal := Ideal.exp (s j - peak s)

/-- The sum of all weights. -/
def mass {n : ℕ} (s : Fin n → EReal) : EReal := ∑ j, wt s j

/-- The softmax of the scores `s` against the column `v`. -/
def row {n : ℕ} (s v : Fin n → EReal) : EReal := ∑ j, Ideal.div (wt s j) (mass s) * v j

/-- The same with each weight multiplied by the inverse of the sum. -/
def krow {n : ℕ} (s v : Fin n → EReal) : EReal := ∑ j, wt s j * Ideal.div 1 (mass s) * v j

theorem peak_eq_sup {n : ℕ} (s : Fin n → EReal) : peak s = Finset.univ.sup s := rfl

theorem exp_nonneg (x : EReal) : 0 ≤ Ideal.exp x := by
  induction x with
  | bot => simp
  | top => exact le_top
  | coe r => exact EReal.coe_nonneg.mpr (Real.exp_nonneg r)

/-- The sum of the weights is not zero where one score is finite and none is infinite. -/
theorem mass_ne_zero {n : ℕ} {s : Fin n → EReal} (j : Fin n) (hj : s j ≠ ⊥) (ht : ∀ i, s i ≠ ⊤) : mass s ≠ 0 := by
  obtain ⟨i, -, hi⟩ := Finset.exists_mem_eq_sup Finset.univ ⟨j, Finset.mem_univ j⟩ s
  have hb : s i ≠ ⊥ := fun h => hj (le_bot_iff.mp (h ▸ hi ▸ Finset.le_sup (f := s) (Finset.mem_univ j)))
  have hw : wt s i = 1 := by
    rw [wt, peak_eq_sup, hi, EReal.sub_self (ht i) hb]
    show ((Real.exp 0 : ℝ) : EReal) = 1
    rw [Real.exp_zero]; rfl
  have h1 : (1 : EReal) ≤ mass s := hw ▸ Finset.single_le_sum (f := wt s) (fun k _ => exp_nonneg _) (Finset.mem_univ i)
  exact (lt_of_lt_of_le zero_lt_one h1).ne'

theorem krow_eq_row {n : ℕ} {s : Fin n → EReal} (h : mass s ≠ 0) (v : Fin n → EReal) : krow s v = row s v := by
  refine Finset.sum_congr rfl fun j _ => ?_
  rw [Ideal.div, if_neg h, Ideal.div, if_neg h, one_mul]

/-- Keys whose score is `−∞` can be left out. -/
theorem row_window {n N : ℕ} (e : Fin n → Fin N) (he : Function.Injective e) (s v : Fin N → EReal)
    (hs : ∀ j, (∀ i, e i ≠ j) → s j = ⊥) (h0 : mass s ≠ 0) : row (fun i => s (e i)) (fun i => v (e i)) = row s v := by
  have hp : peak (fun i => s (e i)) = peak s := by
    rw [peak_eq_sup, peak_eq_sup]
    refine le_antisymm (Finset.sup_le fun i _ => Finset.le_sup (Finset.mem_univ (e i))) (Finset.sup_le fun j _ => ?_)
    by_cases h : ∃ i, e i = j
    · obtain ⟨i, rfl⟩ := h
      exact Finset.le_sup (f := fun i => s (e i)) (Finset.mem_univ i)
    · rw [hs j (fun i hi => h ⟨i, hi⟩)]; exact bot_le
  have hw : ∀ i, wt (fun i => s (e i)) i = wt s (e i) := fun i => by rw [wt, wt, hp]
  have hz : ∀ j, (∀ i, e i ≠ j) → wt s j = 0 := fun j h => by rw [wt, hs j h, EReal.bot_sub, Ideal.exp_bot]
  have hm : mass (fun i => s (e i)) = mass s := by
    rw [mass, Finset.sum_congr rfl fun i _ => hw i]
    exact Fintype.sum_of_injective e he _ _ (fun j h => hz j fun i hi => h ⟨i, hi⟩) fun _ => rfl
  rw [row, hm, Finset.sum_congr rfl fun i _ => by rw [hw i]]
  refine Fintype.sum_of_injective e he _ (fun j => Ideal.div (wt s j) (mass s) * v j) (fun j h => ?_) fun _ => rfl
  rw [hz j fun i hi => h ⟨i, hi⟩, Ideal.div, if_neg h0, zero_mul, zero_mul]

/-- The scale of the scores can be taken out of the product of a query and a key. -/
theorem dot_scaled {n : ℕ} (q k : Fin n → EReal) {c : EReal} (h0 : 0 ≤ c) (ht : c ≠ ⊤) :
    ∑ d, q d * c * k d = (∑ d, q d * k d) * c := by
  have : ∀ t : Finset (Fin n), ∑ d ∈ t, q d * c * k d = c * ∑ d ∈ t, q d * k d := fun t => by
    induction t using Finset.induction_on with
    | empty => simp
    | insert a t ha ih =>
      rw [Finset.sum_insert ha, Finset.sum_insert ha, EReal.left_distrib_of_nonneg_of_ne_top h0 ht, ih, mul_comm (q a) c, mul_assoc]
  rw [this Finset.univ, mul_comm]

/-- Two heads lie side by side in 128 lanes: with the lanes of the second set to zero the product is the first head's. -/
theorem dot_first (q k : Fin 128 → EReal) :
    ∑ l : Fin 128, (if (l : ℕ) < 64 then q l else 0) * k l = ∑ d : Fin 64, q ⟨d, by omega⟩ * k ⟨d, by omega⟩ := by
  refine (Fin.sum_univ_add (a := 64) (b := 64) _).trans ?_
  have h : ∀ d : Fin 64, (if ((Fin.natAdd 64 d : Fin 128) : ℕ) < 64 then q (Fin.natAdd 64 d) else 0) * k (Fin.natAdd 64 d) = 0 := fun d => by
    rw [if_neg (by simp), zero_mul]
  rw [Finset.sum_congr rfl fun d _ => h d, Finset.sum_const_zero, add_zero]
  exact Finset.sum_congr rfl fun d _ => by rw [if_pos (by simp)]; rfl

/-- With the lanes of the first set to zero it is the second head's. -/
theorem dot_second (q k : Fin 128 → EReal) :
    ∑ l : Fin 128, (if (l : ℕ) < 64 then 0 else q l) * k l = ∑ d : Fin 64, q ⟨64 + d, by omega⟩ * k ⟨64 + d, by omega⟩ := by
  refine (Fin.sum_univ_add (a := 64) (b := 64) _).trans ?_
  have h : ∀ d : Fin 64, (if ((Fin.castAdd 64 d : Fin 128) : ℕ) < 64 then 0 else q (Fin.castAdd 64 d)) * k (Fin.castAdd 64 d) = 0 := fun d => by
    rw [if_pos (by simp), zero_mul]
  rw [Finset.sum_congr rfl fun d _ => h d, Finset.sum_const_zero, zero_add]
  exact Finset.sum_congr rfl fun d _ => by rw [if_neg (by simp)]; rfl

end Cert.Att
-- ==== Proof.Att.Lane.lean ====
module

public import proofs.«01_k».proof.Proof.Gen.AttKernelIdeal.Frame
public import Idealize.ShloMosaic.Lib.Pipeline.ValueKit
public import Idealize.ShloMosaic.Lib.Pointwise
public import proofs.«01_k».proof.Proof.Att.Math

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

/-! The tiles that a query block reads, and the lanes of the two heads that lie side by side in a tile. -/

/-- The lanes of the first head of a pair. -/
def laneFirst : IVec S1x128 1 :=
  xori (xori (k0_pay17 : IVec S1x128 1) (broadcastTo S1x128 (broadcast S1x128 1#1 : IVec S1x128 1) broadcasts_S1x128_S1x128)) (constantI S1x128 1 1#1)

/-- The lanes of the second. -/
def laneSecond : IVec S1x128 1 :=
  xori (xori (k0_pay17 : IVec S1x128 1) (broadcastTo S1x128 (broadcast S1x128 0#1 : IVec S1x128 1) broadcasts_S1x128_S1x128)) (constantI S1x128 1 1#1)

/-- A tile of queries, scaled, with the lanes outside `w` set to zero. -/
def maskedQ (w : IVec S1x128 1) (q : Vec Ideal S256x128 .bf16) : FVec Ideal S256x128 .bf16 :=
  select (broadcastTo S256x128 (shapeCast S1x128 w shapeCasts_S1x128_S1x128) broadcasts_S1x128_S256x128)
    (mulf (shapeCast S256x128 q shapeCasts_S256x128_S256x128) (broadcast S256x128 (Scalar.ofBits .bf16 0x3E00#16)))
    (broadcast S256x128 (Scalar.ofBits .bf16 0x0000#16))

theorem laneFirst_at (l : Fin 128) : laneFirst (ix2 0 l) = if (l : ℕ) < 64 then 1#1 else 0#1 := by
  revert l; decide +kernel

theorem laneSecond_at (l : Fin 128) : laneSecond (ix2 0 l) = if (l : ℕ) < 64 then 0#1 else 1#1 := by
  revert l; decide +kernel

theorem lane_at (l : Fin 128) : (k0_pay17 : IVec S1x128 1) (ix2 0 l) = if (l : ℕ) < 64 then 1#1 else 0#1 := by
  revert l; decide +kernel

/-- The scale of the scores, one eighth. -/
def eighth : EReal := Ideal.ofBits .bf16 0x3E00#16

theorem maskedQ_at (w : IVec S1x128 1) (q : Vec Ideal S256x128 .bf16) (n : Fin 256) (l : Fin 128) :
    maskedQ w q (ix2 n l) = if w (ix2 0 l) = 1#1 then q (ix2 n l) * eighth else 0 := by
  pointwise [maskedQ]
  rfl

/-- A pair of heads' queries: 128 columns of a block of queries, from column `a`. -/
def qTile (Q : FVec Ideal S256x512 .bf16) (a : ℕ) : FVec Ideal S256x128 .bf16 :=
  fun i => Q (ix2 (i 0) (⟨(a + (i 1 : ℕ)) % 512, Nat.mod_lt _ (by norm_num)⟩ : Fin 512))

theorem ldQ (Q : Vec Ideal S256x512 .bf16) (a : ℕ) (h) :
    (View.ld Q (Rect.unit (s := S256x512) ![0, a] ![256, 128] h) : Vec Ideal S256x128 .bf16) = qTile Q a := by
  have h0 : a + 128 ≤ 512 := h 1
  funext i
  unfold qTile
  pointwise
  blk_ext

end Cert.AttKernelIdeal.Value
-- ==== Proof.Att.WinB.lean ====
module

public import proofs.«01_k».proof.Proof.Gen.AttKernelIdeal.Frame
public import Idealize.ShloMosaic.Lib.Pipeline.ValueKit
public import Idealize.ShloMosaic.Lib.Pointwise
public import proofs.«01_k».proof.Proof.Att.Lane
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

/-! The second query block of a sequence: a window of 512 keys. -/

/-- The scores of one head. -/
def scoreB (q : FVec Ideal S256x128 .bf16) (k : FVec Ideal S512x128 .bf16) (b : Vec Ideal S1x256x512 .f32) : FVec Ideal S256x512 .f32 :=
  addf (matmul dot_S256x128_S512x128_S256x512_1_1_0_0_n_n none q k (constant S256x512 .f32 0x00000000#32))
    (shapeCast S256x512 b shapeCasts_S1x256x512_S256x512)

/-- The weights of one head. -/
def weightB (s : FVec Ideal S256x512 .f32) : FVec Ideal S256x512 .f32 :=
  exp (subf s (broadcastTo S256x512 (shapeCast S256x1 (multiReduction .maximumf [1] S256 s 0xFF800000#32 reduces_S256x512_S256 (.inl rfl) rfl)
    shapeCasts_S256_S256x1) broadcasts_S256x1_S256x512))

/-- One head's softmax against its values. -/
def headB (p : FVec Ideal S256x512 .f32) (v : FVec Ideal S512x128 .bf16) : FVec Ideal S256x128 .f32 :=
  matmul dot_S256x512_S512x128_S256x128_1_0_0_1_n_n none
    (truncf .bf16 (mulf p (broadcastTo S256x512 (divf (broadcast S256x1 (Scalar.ofBits .f32 0x3F800000#32))
      (shapeCast S256x1 (multiReduction .add [1] S256 p 0x00000000#32 reduces_S256x512_S256 (.inl rfl) rfl) shapeCasts_S256_S256x1))
      broadcasts_S256x1_S256x512)) bitsLt_bf16_f32) v (constant S256x128 .f32 0x00000000#32)

/-- Both heads of a pair. -/
def pairB (q : Vec Ideal S256x128 .bf16) (k v : FVec Ideal S512x128 .bf16) (b0 b1 : Vec Ideal S1x256x512 .f32) : FVec Ideal S256x128 .f32 :=
  select (broadcastTo S256x128 (shapeCast S1x128 (k0_pay17 : IVec S1x128 1) shapeCasts_S1x128_S1x128) broadcasts_S1x128_S256x128)
    (headB (weightB (scoreB (maskedQ laneFirst q) k b0)) v) (headB (weightB (scoreB (maskedQ laneSecond q) k b1)) v)

theorem scoreB_at (q : FVec Ideal S256x128 .bf16) (k : FVec Ideal S512x128 .bf16) (b : Vec Ideal S1x256x512 .f32) (n : Fin 256) (j : Fin 512) :
    scoreB q k b (ix2 n j) = ∑ l : Fin 128, q (ix2 n l) * k (ix2 j l) + b (ix3 0 n j) := by
  pointwise [scoreB]

theorem weightB_at (s : FVec Ideal S256x512 .f32) (n : Fin 256) (j : Fin 512) :
    weightB s (ix2 n j) = Att.wt (fun j : Fin 512 => s (ix2 n j)) j := by
  pointwise [weightB]
  rw [show Ideal.ofBits FTy.f32 0xFF800000#32 = ⊥ by simp [Ideal.ofBits, Ideal.ieee]]
  rfl

theorem headB_at (p : FVec Ideal S256x512 .f32) (v : FVec Ideal S512x128 .bf16) (n : Fin 256) (l : Fin 128) :
    headB p v (ix2 n l) = ∑ j : Fin 512, p (ix2 n j) * Ideal.div 1 (∑ j : Fin 512, p (ix2 n j)) * v (ix2 j l) := by
  pointwise [headB]

set_option maxHeartbeats 4000000 in
/-- One head's output row. -/
theorem head_rowB (q : FVec Ideal S256x128 .bf16) (k v : FVec Ideal S512x128 .bf16) (b : Vec Ideal S1x256x512 .f32) (n : Fin 256) (l : Fin 128) :
    headB (weightB (scoreB q k b)) v (ix2 n l)
      = Att.krow (fun j : Fin 512 => ∑ l : Fin 128, q (ix2 n l) * k (ix2 j l) + b (ix3 0 n j)) (fun j => v (ix2 j l)) := by
  rw [headB_at]
  simp only [weightB_at, scoreB_at]
  rfl

/-- A pair's output row. -/
theorem pairB_at (q : Vec Ideal S256x128 .bf16) (k v : FVec Ideal S512x128 .bf16) (b0 b1 : Vec Ideal S1x256x512 .f32) (n : Fin 256) (l : Fin 128) :
    pairB q k v b0 b1 (ix2 n l) = if (l : ℕ) < 64 then
        Att.krow (fun j : Fin 512 => ∑ d : Fin 64, q (ix2 n ⟨d, by omega⟩) * eighth * k (ix2 j ⟨d, by omega⟩) + b0 (ix3 0 n j)) (fun j => v (ix2 j l))
      else Att.krow (fun j : Fin 512 => ∑ d : Fin 64, q (ix2 n ⟨64 + d, by omega⟩) * eighth * k (ix2 j ⟨64 + d, by omega⟩) + b1 (ix3 0 n j))
        (fun j => v (ix2 j l)) := by
  pointwise [pairB]
  rw [head_rowB, head_rowB, lane_at]
  simp only [maskedQ_at, laneFirst_at, laneSecond_at]
  by_cases h : (l : ℕ) < 64
  · rw [if_pos h, if_pos h]
    show Att.krow _ _ = _
    refine congrArg (fun s => Att.krow s fun j => v (ix2 j l)) (funext fun j => congrArg (· + _) ?_)
    refine Eq.trans (Finset.sum_congr rfl fun x _ => ?_) (Att.dot_first (fun l => q (ix2 n l) * eighth) fun l => k (ix2 j l))
    split <;> simp
  · rw [if_neg h, if_neg h]
    show Att.krow _ _ = _
    refine congrArg (fun s => Att.krow s fun j => v (ix2 j l)) (funext fun j => congrArg (· + _) ?_)
    refine Eq.trans (Finset.sum_congr rfl fun x _ => ?_) (Att.dot_second (fun l => q (ix2 n l) * eighth) fun l => k (ix2 j l))
    split <;> simp

/-- What such a block stores, from its tiles. -/
def blockB (q0 q1 q2 q3 : Vec Ideal S256x128 .bf16) (k v : Vec Ideal S512x512 .bf16) (b0 b1 b2 b3 b4 b5 b6 b7 : Vec Ideal S1x256x512 .f32) :
    FVec Ideal S256x512 .bf16 :=
  truncf .bf16 (concatenate S256x512 1
    [⟨S256x128, pairB q0 (extractStridedSlice S512x128 ![0, 0] (shapeCast S512x512 k shapeCasts_S512x512_S512x512) slices_S512x512_o0_0_S512x128)
      (extractStridedSlice S512x128 ![0, 0] (shapeCast S512x512 v shapeCasts_S512x512_S512x512) slices_S512x512_o0_0_S512x128) b0 b1⟩,
     ⟨S256x128, pairB q1 (extractStridedSlice S512x128 ![0, 128] (shapeCast S512x512 k shapeCasts_S512x512_S512x512) slices_S512x512_o0_128_S512x128)
      (extractStridedSlice S512x128 ![0, 128] (shapeCast S512x512 v shapeCasts_S512x512_S512x512) slices_S512x512_o0_128_S512x128) b2 b3⟩,
     ⟨S256x128, pairB q2 (extractStridedSlice S512x128 ![0, 256] (shapeCast S512x512 k shapeCasts_S512x512_S512x512) slices_S512x512_o0_256_S512x128)
      (extractStridedSlice S512x128 ![0, 256] (shapeCast S512x512 v shapeCasts_S512x512_S512x512) slices_S512x512_o0_256_S512x128) b4 b5⟩,
     ⟨S256x128, pairB q3 (extractStridedSlice S512x128 ![0, 384] (shapeCast S512x512 k shapeCasts_S512x512_S512x512) slices_S512x512_o0_384_S512x128)
      (extractStridedSlice S512x128 ![0, 384] (shapeCast S512x512 v shapeCasts_S512x512_S512x512) slices_S512x512_o0_384_S512x128) b6 b7⟩]
    concatenates_S256x128_S256x128_S256x128_S256x128_S256x512_d1) bitsLt_bf16_f32

set_option maxHeartbeats 1000000 in
/-- The stored value is made of these tiles. -/
theorem payB (q0 q1 q2 q3 : Vec Ideal S256x128 .bf16) (k v : Vec Ideal S512x512 .bf16) (b0 b1 b2 b3 b4 b5 b6 b7 : Vec Ideal S1x256x512 .f32) :
    k0_pay74 k0_pay47 (k0_pay53 k0_pay47 (k0_pay48 q0) (k0_pay49 k) (k0_pay50 v) (k0_pay51 k q0 b0) (k0_pay52 k q0 b0) b1)
      (k0_pay62 k0_pay47 (k0_pay56 (k0_pay46 v)) (k0_pay59 (k0_pay54 q1) (k0_pay55 (k0_pay45 k)) (k0_pay56 (k0_pay46 v)) (k0_pay57 k0_pay47) k0_pay58 b2)
        (k0_pay60 k0_pay47 (k0_pay54 q1) (k0_pay55 (k0_pay45 k)) b3) (k0_pay61 k0_pay47 (k0_pay54 q1) (k0_pay55 (k0_pay45 k)) b3))
      (k0_pay69 k0_pay47 (k0_pay63 q2) (k0_pay64 (k0_pay45 k)) (k0_pay65 (k0_pay46 v)) (k0_pay66 (k0_pay45 k) (k0_pay46 v) k0_pay47 q2 b4)
        (k0_pay67 k0_pay47) k0_pay68 b5)
      (k0_pay70 q3) (k0_pay71 (k0_pay45 k)) (k0_pay72 (k0_pay46 v)) (k0_pay73 (k0_pay45 k) k0_pay47 q3 b6) b7
    = blockB q0 q1 q2 q3 k v b0 b1 b2 b3 b4 b5 b6 b7 := rfl

/-- One head's scores' bias: a window of the table. -/
def biasB (Z : FVec Ideal S8x256x768 .f32) (a : ℕ) : FVec Ideal S1x256x512 .f32 :=
  fun i => Z (ix3 (⟨a % 8, Nat.mod_lt _ (by norm_num)⟩ : Fin 8) (i 1) (⟨(256 + (i 2 : ℕ)) % 768, Nat.mod_lt _ (by norm_num)⟩ : Fin 768))

theorem ldBiasB (Z : Vec Ideal S8x256x768 .f32) (a : ℕ) (h) :
    (View.ld Z (Rect.unit (s := S8x256x768) ![a, 0, 256] ![1, 256, 512] h) : Vec Ideal S1x256x512 .f32) = biasB Z a := by
  have h0 : a + 1 ≤ 8 := h 0
  funext i
  unfold biasB
  pointwise
  blk_ext

/-- What such a block stores, from the block of queries, the windows of keys and values and the table. -/
def winB (Q : Vec Ideal S256x512 .bf16) (k v : Vec Ideal S512x512 .bf16) (Z : Vec Ideal S8x256x768 .f32) : FVec Ideal S256x512 .bf16 :=
  blockB (qTile Q 0) (qTile Q 128) (qTile Q 256) (qTile Q 384) k v
    (biasB Z 0) (biasB Z 1) (biasB Z 2) (biasB Z 3) (biasB Z 4) (biasB Z 5) (biasB Z 6) (biasB Z 7)

set_option maxHeartbeats 1000000 in
theorem winB_at (Q : Vec Ideal S256x512 .bf16) (k v : Vec Ideal S512x512 .bf16) (Z : Vec Ideal S8x256x768 .f32) (n : Fin 256) (h : Fin 8) (d : Fin 64) :
    winB Q k v Z (ix2 n (⟨64 * h + d, by omega⟩ : Fin 512)) = Att.krow (fun j : Fin 512 =>
      ∑ x : Fin 64, Q (ix2 n (⟨64 * h + x, by omega⟩ : Fin 512)) * eighth * k (ix2 j (⟨64 * h + x, by omega⟩ : Fin 512))
        + Z (ix3 h n (⟨256 + j, by omega⟩ : Fin 768))) fun j => v (ix2 j (⟨64 * h + d, by omega⟩ : Fin 512)) := by
  pointwise [winB, blockB]
  simp only [pairB_at]
  obtain ⟨h, hh⟩ := h
  have hd := d.isLt
  interval_cases h
  all_goals
    dsimp only
    split_ifs
    all_goals first | (exfalso; omega) | skip
    refine congrArg₂ Att.krow (funext fun j => congrArg₂ (· + ·) (Finset.sum_congr rfl fun x _ => ?_) ?_) (funext fun j => ?_)
    · unfold qTile
      pointwise
      refine congrArg₂ (· * ·) (congrArg (· * _) ?_) ?_
      · blk_ext
      · blk_ext
    · unfold biasB
      blk_ext
    · pointwise
      blk_ext

variable (m : (ℓ : Loc nD τ sig) → Buf (Elt Ideal) ℓ)

set_option maxHeartbeats 1000000 in
/-- The block that such a point stores. -/
theorem pointB (c : Dev nD) (t : Fin cfg0.N) (h0 : ¬t.val % 16 = 0) (h1 : ¬t.val % 8 = 0) (h2 : t.val % 8 = 1) (h3 : ¬2 ≤ t.val % 8) :
    ∃ inb, (outsAt0 m c t.val t.isLt).1 = winB (iblk m c 0 t)
     (View.ld (iblk m c 1 t) (Rect.unit (k0_off2 (grid0.coords t)) ![512, 512] inb))
     (View.ld (iblk m c 2 t) (Rect.unit (k0_off2 (grid0.coords t)) ![512, 512] inb))
     (outsAt0 m c (t.val - 1) (Nat.lt_of_le_of_lt (Nat.sub_le _ _) t.isLt)).2 := by
  refine ⟨Facts₀.k0_off2_inb _ ((hcond0_2 t).mpr h2), ?_⟩
  funext y
  rw [outsAt0_B m c t h0 h1 h2 h3]; frame_out
  simp only [read_unread_whole]
  refine (congrFun (payB _ _ _ _ _ _ _ _ _ _ _ _ _ _) y).trans ?_
  unfold winB
  simp only [ldQ, ldBiasB]
  rfl

end Cert.AttKernelIdeal.Value
-- ==== Proof.Att.WinC.lean ====
module

public import proofs.«01_k».proof.Proof.Gen.AttKernelIdeal.Frame
public import Idealize.ShloMosaic.Lib.Pipeline.ValueKit
public import Idealize.ShloMosaic.Lib.Pointwise
public import proofs.«01_k».proof.Proof.Att.Lane
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

/-! The later query blocks of a sequence: a window of 768 keys. -/

/-- The scores of one head. -/
def scoreC (q : FVec Ideal S256x128 .bf16) (k : FVec Ideal S768x128 .bf16) (b : Vec Ideal S1x256x768 .f32) : FVec Ideal S256x768 .f32 :=
  addf (matmul dot_S256x128_S768x128_S256x768_1_1_0_0_n_n none q k (constant S256x768 .f32 0x00000000#32))
    (shapeCast S256x768 b shapeCasts_S1x256x768_S256x768)

/-- The weights of one head. -/
def weightC (s : FVec Ideal S256x768 .f32) : FVec Ideal S256x768 .f32 :=
  exp (subf s (broadcastTo S256x768 (shapeCast S256x1 (multiReduction .maximumf [1] S256 s 0xFF800000#32 reduces_S256x768_S256 (.inl rfl) rfl)
    shapeCasts_S256_S256x1) broadcasts_S256x1_S256x768))

/-- One head's softmax against its values. -/
def headC (p : FVec Ideal S256x768 .f32) (v : FVec Ideal S768x128 .bf16) : FVec Ideal S256x128 .f32 :=
  matmul dot_S256x768_S768x128_S256x128_1_0_0_1_n_n none
    (truncf .bf16 (mulf p (broadcastTo S256x768 (divf (broadcast S256x1 (Scalar.ofBits .f32 0x3F800000#32))
      (shapeCast S256x1 (multiReduction .add [1] S256 p 0x00000000#32 reduces_S256x768_S256 (.inl rfl) rfl) shapeCasts_S256_S256x1))
      broadcasts_S256x1_S256x768)) bitsLt_bf16_f32) v (constant S256x128 .f32 0x00000000#32)

/-- Both heads of a pair. -/
def pairC (q : Vec Ideal S256x128 .bf16) (k v : FVec Ideal S768x128 .bf16) (b0 b1 : Vec Ideal S1x256x768 .f32) : FVec Ideal S256x128 .f32 :=
  select (broadcastTo S256x128 (shapeCast S1x128 (k0_pay17 : IVec S1x128 1) shapeCasts_S1x128_S1x128) broadcasts_S1x128_S256x128)
    (headC (weightC (scoreC (maskedQ laneFirst q) k b0)) v) (headC (weightC (scoreC (maskedQ laneSecond q) k b1)) v)

theorem scoreC_at (q : FVec Ideal S256x128 .bf16) (k : FVec Ideal S768x128 .bf16) (b : Vec Ideal S1x256x768 .f32) (n : Fin 256) (j : Fin 768) :
    scoreC q k b (ix2 n j) = ∑ l : Fin 128, q (ix2 n l) * k (ix2 j l) + b (ix3 0 n j) := by
  pointwise [scoreC]

theorem weightC_at (s : FVec Ideal S256x768 .f32) (n : Fin 256) (j : Fin 768) :
    weightC s (ix2 n j) = Att.wt (fun j : Fin 768 => s (ix2 n j)) j := by
  pointwise [weightC]
  rw [show Ideal.ofBits FTy.f32 0xFF800000#32 = ⊥ by simp [Ideal.ofBits, Ideal.ieee]]
  rfl

theorem headC_at (p : FVec Ideal S256x768 .f32) (v : FVec Ideal S768x128 .bf16) (n : Fin 256) (l : Fin 128) :
    headC p v (ix2 n l) = ∑ j : Fin 768, p (ix2 n j) * Ideal.div 1 (∑ j : Fin 768, p (ix2 n j)) * v (ix2 j l) := by
  pointwise [headC]

set_option maxHeartbeats 4000000 in
/-- One head's output row. -/
theorem head_rowC (q : FVec Ideal S256x128 .bf16) (k v : FVec Ideal S768x128 .bf16) (b : Vec Ideal S1x256x768 .f32) (n : Fin 256) (l : Fin 128) :
    headC (weightC (scoreC q k b)) v (ix2 n l)
      = Att.krow (fun j : Fin 768 => ∑ l : Fin 128, q (ix2 n l) * k (ix2 j l) + b (ix3 0 n j)) (fun j => v (ix2 j l)) := by
  rw [headC_at]
  simp only [weightC_at, scoreC_at]
  rfl

/-- A pair's output row. -/
theorem pairC_at (q : Vec Ideal S256x128 .bf16) (k v : FVec Ideal S768x128 .bf16) (b0 b1 : Vec Ideal S1x256x768 .f32) (n : Fin 256) (l : Fin 128) :
    pairC q k v b0 b1 (ix2 n l) = if (l : ℕ) < 64 then
        Att.krow (fun j : Fin 768 => ∑ d : Fin 64, q (ix2 n ⟨d, by omega⟩) * eighth * k (ix2 j ⟨d, by omega⟩) + b0 (ix3 0 n j)) (fun j => v (ix2 j l))
      else Att.krow (fun j : Fin 768 => ∑ d : Fin 64, q (ix2 n ⟨64 + d, by omega⟩) * eighth * k (ix2 j ⟨64 + d, by omega⟩) + b1 (ix3 0 n j))
        (fun j => v (ix2 j l)) := by
  pointwise [pairC]
  rw [head_rowC, head_rowC, lane_at]
  simp only [maskedQ_at, laneFirst_at, laneSecond_at]
  by_cases h : (l : ℕ) < 64
  · rw [if_pos h, if_pos h]
    show Att.krow _ _ = _
    refine congrArg (fun s => Att.krow s fun j => v (ix2 j l)) (funext fun j => congrArg (· + _) ?_)
    refine Eq.trans (Finset.sum_congr rfl fun x _ => ?_) (Att.dot_first (fun l => q (ix2 n l) * eighth) fun l => k (ix2 j l))
    split <;> simp
  · rw [if_neg h, if_neg h]
    show Att.krow _ _ = _
    refine congrArg (fun s => Att.krow s fun j => v (ix2 j l)) (funext fun j => congrArg (· + _) ?_)
    refine Eq.trans (Finset.sum_congr rfl fun x _ => ?_) (Att.dot_second (fun l => q (ix2 n l) * eighth) fun l => k (ix2 j l))
    split <;> simp

/-- What such a block stores, from its tiles. -/
def blockC (q0 q1 q2 q3 : Vec Ideal S256x128 .bf16) (k v : Vec Ideal S768x512 .bf16) (b0 b1 b2 b3 b4 b5 b6 b7 : Vec Ideal S1x256x768 .f32) :
    FVec Ideal S256x512 .bf16 :=
  truncf .bf16 (concatenate S256x512 1
    [⟨S256x128, pairC q0 (extractStridedSlice S768x128 ![0, 0] (shapeCast S768x512 k shapeCasts_S768x512_S768x512) slices_S768x512_o0_0_S768x128)
      (extractStridedSlice S768x128 ![0, 0] (shapeCast S768x512 v shapeCasts_S768x512_S768x512) slices_S768x512_o0_0_S768x128) b0 b1⟩,
     ⟨S256x128, pairC q1 (extractStridedSlice S768x128 ![0, 128] (shapeCast S768x512 k shapeCasts_S768x512_S768x512) slices_S768x512_o0_128_S768x128)
      (extractStridedSlice S768x128 ![0, 128] (shapeCast S768x512 v shapeCasts_S768x512_S768x512) slices_S768x512_o0_128_S768x128) b2 b3⟩,
     ⟨S256x128, pairC q2 (extractStridedSlice S768x128 ![0, 256] (shapeCast S768x512 k shapeCasts_S768x512_S768x512) slices_S768x512_o0_256_S768x128)
      (extractStridedSlice S768x128 ![0, 256] (shapeCast S768x512 v shapeCasts_S768x512_S768x512) slices_S768x512_o0_256_S768x128) b4 b5⟩,
     ⟨S256x128, pairC q3 (extractStridedSlice S768x128 ![0, 384] (shapeCast S768x512 k shapeCasts_S768x512_S768x512) slices_S768x512_o0_384_S768x128)
      (extractStridedSlice S768x128 ![0, 384] (shapeCast S768x512 v shapeCasts_S768x512_S768x512) slices_S768x512_o0_384_S768x128) b6 b7⟩]
    concatenates_S256x128_S256x128_S256x128_S256x128_S256x512_d1) bitsLt_bf16_f32

set_option maxHeartbeats 1000000 in
/-- The stored value is made of these tiles. -/
theorem payC (q0 q1 q2 q3 : Vec Ideal S256x128 .bf16) (k v : Vec Ideal S768x512 .bf16) (b0 b1 b2 b3 b4 b5 b6 b7 : Vec Ideal S1x256x768 .f32) :
    k0_pay104 k0_pay77 (k0_pay83 k0_pay77 (k0_pay78 q0) (k0_pay79 k) (k0_pay80 v) (k0_pay81 k q0 b0) (k0_pay82 k q0 b0) b1)
      (k0_pay92 k0_pay77 (k0_pay86 (k0_pay76 v)) (k0_pay89 (k0_pay84 q1) (k0_pay85 (k0_pay75 k)) (k0_pay86 (k0_pay76 v)) (k0_pay87 k0_pay77) k0_pay88 b2)
        (k0_pay90 k0_pay77 (k0_pay84 q1) (k0_pay85 (k0_pay75 k)) b3) (k0_pay91 k0_pay77 (k0_pay84 q1) (k0_pay85 (k0_pay75 k)) b3))
      (k0_pay99 k0_pay77 (k0_pay93 q2) (k0_pay94 (k0_pay75 k)) (k0_pay95 (k0_pay76 v)) (k0_pay96 (k0_pay75 k) (k0_pay76 v) k0_pay77 q2 b4)
        (k0_pay97 k0_pay77) k0_pay98 b5)
      (k0_pay100 q3) (k0_pay101 (k0_pay75 k)) (k0_pay102 (k0_pay76 v)) (k0_pay103 (k0_pay75 k) k0_pay77 q3 b6) b7
    = blockC q0 q1 q2 q3 k v b0 b1 b2 b3 b4 b5 b6 b7 := rfl

/-- One head's scores' bias: a window of the table. -/
def biasC (Z : FVec Ideal S8x256x768 .f32) (a : ℕ) : FVec Ideal S1x256x768 .f32 :=
  fun i => Z (ix3 (⟨a % 8, Nat.mod_lt _ (by norm_num)⟩ : Fin 8) (i 1) (⟨(0 + (i 2 : ℕ)) % 768, Nat.mod_lt _ (by norm_num)⟩ : Fin 768))

theorem ldBiasC (Z : Vec Ideal S8x256x768 .f32) (a : ℕ) (h) :
    (View.ld Z (Rect.unit (s := S8x256x768) ![a, 0, 0] ![1, 256, 768] h) : Vec Ideal S1x256x768 .f32) = biasC Z a := by
  have h0 : a + 1 ≤ 8 := h 0
  funext i
  unfold biasC
  pointwise
  blk_ext

/-- What such a block stores, from the block of queries, the windows of keys and values and the table. -/
def winC (Q : Vec Ideal S256x512 .bf16) (k v : Vec Ideal S768x512 .bf16) (Z : Vec Ideal S8x256x768 .f32) : FVec Ideal S256x512 .bf16 :=
  blockC (qTile Q 0) (qTile Q 128) (qTile Q 256) (qTile Q 384) k v
    (biasC Z 0) (biasC Z 1) (biasC Z 2) (biasC Z 3) (biasC Z 4) (biasC Z 5) (biasC Z 6) (biasC Z 7)

set_option maxHeartbeats 1000000 in
theorem winC_at (Q : Vec Ideal S256x512 .bf16) (k v : Vec Ideal S768x512 .bf16) (Z : Vec Ideal S8x256x768 .f32) (n : Fin 256) (h : Fin 8) (d : Fin 64) :
    winC Q k v Z (ix2 n (⟨64 * h + d, by omega⟩ : Fin 512)) = Att.krow (fun j : Fin 768 =>
      ∑ x : Fin 64, Q (ix2 n (⟨64 * h + x, by omega⟩ : Fin 512)) * eighth * k (ix2 j (⟨64 * h + x, by omega⟩ : Fin 512))
        + Z (ix3 h n (⟨0 + j, by omega⟩ : Fin 768))) fun j => v (ix2 j (⟨64 * h + d, by omega⟩ : Fin 512)) := by
  pointwise [winC, blockC]
  simp only [pairC_at]
  obtain ⟨h, hh⟩ := h
  have hd := d.isLt
  interval_cases h
  all_goals
    dsimp only
    split_ifs
    all_goals first | (exfalso; omega) | skip
    refine congrArg₂ Att.krow (funext fun j => congrArg₂ (· + ·) (Finset.sum_congr rfl fun x _ => ?_) ?_) (funext fun j => ?_)
    · unfold qTile
      pointwise
      refine congrArg₂ (· * ·) (congrArg (· * _) ?_) ?_
      · blk_ext
      · blk_ext
    · unfold biasC
      blk_ext
    · pointwise
      blk_ext

variable (m : (ℓ : Loc nD τ sig) → Buf (Elt Ideal) ℓ)

set_option maxHeartbeats 1000000 in
/-- The block that such a point stores. -/
theorem pointC (c : Dev nD) (t : Fin cfg0.N) (h0 : ¬t.val % 16 = 0) (h1 : ¬t.val % 8 = 0) (h2 : ¬t.val % 8 = 1) (h3 : 2 ≤ t.val % 8) :
    ∃ inb, (outsAt0 m c t.val t.isLt).1 = winC (iblk m c 0 t)
     (View.ld (iblk m c 1 t) (Rect.unit (k0_off3 (grid0.coords t)) ![768, 512] inb))
     (View.ld (iblk m c 2 t) (Rect.unit (k0_off3 (grid0.coords t)) ![768, 512] inb))
     (outsAt0 m c (t.val - 1) (Nat.lt_of_le_of_lt (Nat.sub_le _ _) t.isLt)).2 := by
  refine ⟨Facts₀.k0_off3_inb _ ((hcond0_3 t).mpr h3), ?_⟩
  funext y
  rw [outsAt0_C m c t h0 h1 h2 h3]; frame_out
  simp only [read_unread_whole]
  refine (congrFun (payC _ _ _ _ _ _ _ _ _ _ _ _ _ _) y).trans ?_
  unfold winC
  simp only [ldQ, ldBiasC]
  rfl

end Cert.AttKernelIdeal.Value
-- ==== Proof.Att.WinA.lean ====
module

public import proofs.«01_k».proof.Proof.Gen.AttKernelIdeal.Frame
public import Idealize.ShloMosaic.Lib.Pipeline.ValueKit
public import Idealize.ShloMosaic.Lib.Pointwise
public import proofs.«01_k».proof.Proof.Att.Lane
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

/-! The first query block of a sequence: a window of 256 keys. -/

/-- The scores of one head. -/
def scoreA (q k : FVec Ideal S256x128 .bf16) (b : Vec Ideal S1x256x256 .f32) : FVec Ideal S256x256 .f32 :=
  addf (matmul dot_S256x128_S256x128_S256x256_1_1_0_0_n_n none q k (constant S256x256 .f32 0x00000000#32))
    (shapeCast S256x256 b shapeCasts_S1x256x256_S256x256)

/-- The weights of one head. -/
def weightA (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- One head's softmax against its values. -/
def headA (p : FVec Ideal S256x256 .f32) (v : FVec Ideal S256x128 .bf16) : FVec Ideal S256x128 .f32 :=
  matmul dot_S256x256_S256x128_S256x128_1_0_0_1_n_n none
    (truncf .bf16 (mulf p (broadcastTo S256x256 (divf (broadcast S256x1 (Scalar.ofBits .f32 0x3F800000#32))
      (shapeCast S256x1 (multiReduction .add [1] S256 p 0x00000000#32 reduces_S256x256_S256 (.inl rfl) rfl) shapeCasts_S256_S256x1))
      broadcasts_S256x1_S256x256)) bitsLt_bf16_f32) v (constant S256x128 .f32 0x00000000#32)

/-- Both heads of a pair. -/
def pairA (q : Vec Ideal S256x128 .bf16) (k v : FVec Ideal S256x128 .bf16) (b0 b1 : Vec Ideal S1x256x256 .f32) : FVec Ideal S256x128 .f32 :=
  select (broadcastTo S256x128 (shapeCast S1x128 (k0_pay17 : IVec S1x128 1) shapeCasts_S1x128_S1x128) broadcasts_S1x128_S256x128)
    (headA (weightA (scoreA (maskedQ laneFirst q) k b0)) v) (headA (weightA (scoreA (maskedQ laneSecond q) k b1)) v)

theorem scoreA_at (q k : FVec Ideal S256x128 .bf16) (b : Vec Ideal S1x256x256 .f32) (n j : Fin 256) :
    scoreA q k b (ix2 n j) = ∑ l : Fin 128, q (ix2 n l) * k (ix2 j l) + b (ix3 0 n j) := by
  pointwise [scoreA]

theorem weightA_at (s : FVec Ideal S256x256 .f32) (n j : Fin 256) :
    weightA s (ix2 n j) = Att.wt (fun j : Fin 256 => s (ix2 n j)) j := by
  pointwise [weightA]
  rw [show Ideal.ofBits FTy.f32 0xFF800000#32 = ⊥ by simp [Ideal.ofBits, Ideal.ieee]]
  rfl

theorem headA_at (p : FVec Ideal S256x256 .f32) (v : FVec Ideal S256x128 .bf16) (n : Fin 256) (l : Fin 128) :
    headA p v (ix2 n l) = ∑ j : Fin 256, p (ix2 n j) * Ideal.div 1 (∑ j : Fin 256, p (ix2 n j)) * v (ix2 j l) := by
  pointwise [headA]

set_option maxHeartbeats 4000000 in
/-- One head's output row. -/
theorem head_row (q k v : FVec Ideal S256x128 .bf16) (b : Vec Ideal S1x256x256 .f32) (n : Fin 256) (l : Fin 128) :
    headA (weightA (scoreA q k b)) v (ix2 n l)
      = Att.krow (fun j : Fin 256 => ∑ l : Fin 128, q (ix2 n l) * k (ix2 j l) + b (ix3 0 n j)) (fun j => v (ix2 j l)) := by
  rw [headA_at]
  simp only [weightA_at, scoreA_at]
  rfl

/-- A pair's output row. -/
theorem pairA_at (q : Vec Ideal S256x128 .bf16) (k v : FVec Ideal S256x128 .bf16) (b0 b1 : Vec Ideal S1x256x256 .f32) (n : Fin 256) (l : Fin 128) :
    pairA q k v b0 b1 (ix2 n l) = if (l : ℕ) < 64 then
        Att.krow (fun j : Fin 256 => ∑ d : Fin 64, q (ix2 n ⟨d, by omega⟩) * eighth * k (ix2 j ⟨d, by omega⟩) + b0 (ix3 0 n j)) (fun j => v (ix2 j l))
      else Att.krow (fun j : Fin 256 => ∑ d : Fin 64, q (ix2 n ⟨64 + d, by omega⟩) * eighth * k (ix2 j ⟨64 + d, by omega⟩) + b1 (ix3 0 n j))
        (fun j => v (ix2 j l)) := by
  pointwise [pairA]
  rw [head_row, head_row, lane_at]
  simp only [maskedQ_at, laneFirst_at, laneSecond_at]
  by_cases h : (l : ℕ) < 64
  · rw [if_pos h, if_pos h]
    show Att.krow _ _ = _
    refine congrArg (fun s => Att.krow s fun j => v (ix2 j l)) (funext fun j => congrArg (· + _) ?_)
    refine Eq.trans (Finset.sum_congr rfl fun x _ => ?_) (Att.dot_first (fun l => q (ix2 n l) * eighth) fun l => k (ix2 j l))
    split <;> simp
  · rw [if_neg h, if_neg h]
    show Att.krow _ _ = _
    refine congrArg (fun s => Att.krow s fun j => v (ix2 j l)) (funext fun j => congrArg (· + _) ?_)
    refine Eq.trans (Finset.sum_congr rfl fun x _ => ?_) (Att.dot_second (fun l => q (ix2 n l) * eighth) fun l => k (ix2 j l))
    split <;> simp

/-- What the first query block stores, from its tiles. -/
def blockA (q0 q1 q2 q3 : Vec Ideal S256x128 .bf16) (k v : Vec Ideal S256x512 .bf16) (b0 b1 b2 b3 b4 b5 b6 b7 : Vec Ideal S1x256x256 .f32) :
    FVec Ideal S256x512 .bf16 :=
  truncf .bf16 (concatenate S256x512 1
    [⟨S256x128, pairA q0 (extractStridedSlice S256x128 ![0, 0] (shapeCast S256x512 k shapeCasts_S256x512_S256x512) slices_S256x512_o0_0_S256x128)
      (extractStridedSlice S256x128 ![0, 0] (shapeCast S256x512 v shapeCasts_S256x512_S256x512) slices_S256x512_o0_0_S256x128) b0 b1⟩,
     ⟨S256x128, pairA q1 (extractStridedSlice S256x128 ![0, 128] (shapeCast S256x512 k shapeCasts_S256x512_S256x512) slices_S256x512_o0_128_S256x128)
      (extractStridedSlice S256x128 ![0, 128] (shapeCast S256x512 v shapeCasts_S256x512_S256x512) slices_S256x512_o0_128_S256x128) b2 b3⟩,
     ⟨S256x128, pairA q2 (extractStridedSlice S256x128 ![0, 256] (shapeCast S256x512 k shapeCasts_S256x512_S256x512) slices_S256x512_o0_256_S256x128)
      (extractStridedSlice S256x128 ![0, 256] (shapeCast S256x512 v shapeCasts_S256x512_S256x512) slices_S256x512_o0_256_S256x128) b4 b5⟩,
     ⟨S256x128, pairA q3 (extractStridedSlice S256x128 ![0, 384] (shapeCast S256x512 k shapeCasts_S256x512_S256x512) slices_S256x512_o0_384_S256x128)
      (extractStridedSlice S256x128 ![0, 384] (shapeCast S256x512 v shapeCasts_S256x512_S256x512) slices_S256x512_o0_384_S256x128) b6 b7⟩]
    concatenates_S256x128_S256x128_S256x128_S256x128_S256x512_d1) bitsLt_bf16_f32

set_option maxHeartbeats 1000000 in
/-- The stored value is made of these tiles. -/
theorem payA (q0 q1 q2 q3 : Vec Ideal S256x128 .bf16) (k v : Vec Ideal S256x512 .bf16) (b0 b1 b2 b3 b4 b5 b6 b7 : Vec Ideal S1x256x256 .f32) :
    k0_pay44 k0_pay17 (k0_pay23 k0_pay17 (k0_pay18 q0) (k0_pay19 k) (k0_pay20 v) (k0_pay21 k q0 b0) (k0_pay22 k q0 b0) b1)
      (k0_pay32 k0_pay17 (k0_pay26 (k0_pay16 v)) (k0_pay29 (k0_pay24 q1) (k0_pay25 (k0_pay15 k)) (k0_pay26 (k0_pay16 v)) (k0_pay27 k0_pay17) k0_pay28 b2)
        (k0_pay30 k0_pay17 (k0_pay24 q1) (k0_pay25 (k0_pay15 k)) b3) (k0_pay31 k0_pay17 (k0_pay24 q1) (k0_pay25 (k0_pay15 k)) b3))
      (k0_pay39 k0_pay17 (k0_pay33 q2) (k0_pay34 (k0_pay15 k)) (k0_pay35 (k0_pay16 v)) (k0_pay36 (k0_pay15 k) (k0_pay16 v) k0_pay17 q2 b4)
        (k0_pay37 k0_pay17) k0_pay38 b5)
      (k0_pay40 q3) (k0_pay41 (k0_pay15 k)) (k0_pay42 (k0_pay16 v)) (k0_pay43 (k0_pay15 k) k0_pay17 q3 b6) b7
    = blockA q0 q1 q2 q3 k v b0 b1 b2 b3 b4 b5 b6 b7 := rfl

/-- One head's scores' bias: a window of the table. -/
def biasA (Z : FVec Ideal S8x256x768 .f32) (a : ℕ) : FVec Ideal S1x256x256 .f32 :=
  fun i => Z (ix3 (⟨a % 8, Nat.mod_lt _ (by norm_num)⟩ : Fin 8) (i 1) (⟨(512 + (i 2 : ℕ)) % 768, Nat.mod_lt _ (by norm_num)⟩ : Fin 768))

theorem ldBiasA (Z : Vec Ideal S8x256x768 .f32) (a : ℕ) (h) :
    (View.ld Z (Rect.unit (s := S8x256x768) ![a, 0, 512] ![1, 256, 256] h) : Vec Ideal S1x256x256 .f32) = biasA Z a := by
  have h0 : a + 1 ≤ 8 := h 0
  funext i
  unfold biasA
  pointwise
  blk_ext

/-- What the first query block stores, from the block of queries, the windows of keys and values and the table. -/
def winA (Q : Vec Ideal S256x512 .bf16) (k v : Vec Ideal S256x512 .bf16) (Z : Vec Ideal S8x256x768 .f32) : FVec Ideal S256x512 .bf16 :=
  blockA (qTile Q 0) (qTile Q 128) (qTile Q 256) (qTile Q 384) k v
    (biasA Z 0) (biasA Z 1) (biasA Z 2) (biasA Z 3) (biasA Z 4) (biasA Z 5) (biasA Z 6) (biasA Z 7)

set_option maxHeartbeats 1000000 in
theorem winA_at (Q : Vec Ideal S256x512 .bf16) (k v : Vec Ideal S256x512 .bf16) (Z : Vec Ideal S8x256x768 .f32) (n : Fin 256) (h : Fin 8) (d : Fin 64) :
    winA Q k v Z (ix2 n (⟨64 * h + d, by omega⟩ : Fin 512)) = Att.krow (fun j : Fin 256 =>
      ∑ x : Fin 64, Q (ix2 n (⟨64 * h + x, by omega⟩ : Fin 512)) * eighth * k (ix2 j (⟨64 * h + x, by omega⟩ : Fin 512))
        + Z (ix3 h n (⟨512 + j, by omega⟩ : Fin 768))) fun j => v (ix2 j (⟨64 * h + d, by omega⟩ : Fin 512)) := by
  pointwise [winA, blockA]
  simp only [pairA_at]
  obtain ⟨h, hh⟩ := h
  have hd := d.isLt
  interval_cases h
  all_goals
    dsimp only
    split_ifs
    all_goals first | (exfalso; omega) | skip
    refine congrArg₂ Att.krow (funext fun j => congrArg₂ (· + ·) (Finset.sum_congr rfl fun x _ => ?_) ?_) (funext fun j => ?_)
    · unfold qTile
      pointwise
      refine congrArg₂ (· * ·) (congrArg (· * _) ?_) ?_
      · blk_ext
      · blk_ext
    · unfold biasA
      blk_ext
    · pointwise
      blk_ext

variable (m : (ℓ : Loc nD τ sig) → Buf (Elt Ideal) ℓ)

set_option maxHeartbeats 1000000 in
/-- The block that the second sequence's first point stores. -/
theorem pointD (c : Dev nD) (t : Fin cfg0.N) (h0 : ¬t.val % 16 = 0) (h1 : t.val % 8 = 0) (h2 : ¬t.val % 8 = 1) (h3 : ¬2 ≤ t.val % 8) :
    ∃ inb, (outsAt0 m c t.val t.isLt).1 = winA (iblk m c 0 t)
     (View.ld (iblk m c 1 t) (Rect.unit (k0_off1 (grid0.coords t)) ![256, 512] inb))
     (View.ld (iblk m c 2 t) (Rect.unit (k0_off1 (grid0.coords t)) ![256, 512] inb))
     (outsAt0 m c (t.val - 1) (Nat.lt_of_le_of_lt (Nat.sub_le _ _) t.isLt)).2 := by
  refine ⟨Facts₀.k0_off1_inb _ ((hcond0_1 t).mpr h1), ?_⟩
  funext y
  rw [outsAt0_D m c t h0 h1 h2 h3]; frame_out
  simp only [read_unread_whole]
  refine (congrFun (payA _ _ _ _ _ _ _ _ _ _ _ _ _ _) y).trans ?_
  simp only [ldQ, ldBiasA]
  rfl

end Cert.AttKernelIdeal.Value
-- ==== Proof.Att.Table.lean ====
module

public import proofs.«01_k».proof.Proof.Att.WinA

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

variable (m : (ℓ : Loc nD τ sig) → Buf (Elt Ideal) ℓ)

/-- The chunk of a query. -/
theorem row_at (n : Fin 256) (c : Fin 768) : (k0_pay4 : IVec S256x768 32) (ix2 n c) = BitVec.ofNat 32 (n / 64) := by
  pointwise [k0_pay4]
  revert n; decide +kernel

/-- The chunk of a column of the table. -/
theorem col_at (n : Fin 256) (c : Fin 768) :
    Scalar.select ((k0_pay6 : IVec S256x768 1) (ix2 n c)) (IntOp.subi ((k0_pay5 : IVec S256x768 32) (ix2 n c)) 1#32) ((k0_pay5 : IVec S256x768 32) (ix2 n c))
      = BitVec.ofNat 32 (c / 64) := by
  pointwise [k0_pay5, k0_pay6]
  revert c; decide +kernel

theorem band_word (a : Fin 4) (b : Fin 12) :
    IntOp.andi (IntOp.cmpi CmpIPredicate.sge (IntOp.subi (IntOp.addi (8#32) (BitVec.ofNat 32 a)) (BitVec.ofNat 32 b)) 0#32)
      (IntOp.cmpi CmpIPredicate.sle (IntOp.subi (IntOp.addi (8#32) (BitVec.ofNat 32 a)) (BitVec.ofNat 32 b)) 8#32)
      = if (a : ℕ) ≤ b ∧ (b : ℕ) ≤ 8 + a then 1#1 else 0#1 := by
  revert a b; decide +kernel

/-- Where a query sees a column of the table: the chunk of its own and the eight before it. -/
theorem seen_at (n : Fin 256) (c : Fin 768) :
    (k0_pay7 k0_pay4 k0_pay5 k0_pay6 : IVec S256x768 1) (ix2 n c) = if (n / 64 : ℕ) ≤ c / 64 ∧ (c / 64 : ℕ) ≤ 8 + n / 64 then 1#1 else 0#1 := by
  pointwise [k0_pay7]
  rw [row_at, col_at]
  exact band_word ⟨n / 64, by omega⟩ ⟨c / 64, by omega⟩

theorem mask_bot : (Named.named κ "mask" 0xF149F2CA#32 : Ideal .f32) = (⊥ : EReal) :=
  IdealRules.named_const.ideal_named_scalar _ _ _ _ rfl

/-- One head's row of the bias rows. -/
def biasRow (T : FVec Ideal S8x1024 .f32) (a : ℕ) : FVec Ideal S1x1024 .f32 := fun i => T (ix2 (⟨a % 8, Nat.mod_lt _ (by norm_num)⟩ : Fin 8) (i 1))

theorem ldBiasRow (T : Vec Ideal S8x1024 .f32) (a : ℕ) (h) :
    (View.ld T (Rect.unit (s := S8x1024) ![a, 0] ![1, 1024] h) : Vec Ideal S1x1024 .f32) = biasRow T a := by
  have h0 : a + 1 ≤ 8 := h 0
  funext i
  unfold biasRow
  pointwise
  blk_ext

/-- The table's entry: the rotated row where the query sees the key, `−∞` elsewhere. -/
def table (T : FVec Ideal S8x1024 .f32) (h : Fin 8) (n : Fin 256) (c : Fin 768) : EReal :=
  if (n / 64 : ℕ) ≤ c / 64 ∧ (c / 64 : ℕ) ≤ 8 + n / 64 then T (ix2 h (⟨(c + 1024 - n % 1024) % 1024, Nat.mod_lt _ (by norm_num)⟩ : Fin 1024)) else ⊥

/-- One head's part of the table, from its row. -/
def headTable (r : Vec Ideal S1x1024 .f32) : FVec Ideal S1x256x768 .f32 := k0_pay8 k0_pay4 k0_pay5 k0_pay6 r

theorem headTable_at (T : FVec Ideal S8x1024 .f32) (a : Fin 8) (n : Fin 256) (c : Fin 768) : headTable (biasRow T a) (ix3 0 n c) = table T a n c := by
  pointwise [headTable, k0_pay8]
  rw [seen_at, mask_bot]
  unfold table biasRow
  split
  · rw [show (⟨(a : ℕ) % 8, Nat.mod_lt _ (by norm_num)⟩ : Fin 8) = a from Fin.ext (Nat.mod_eq_of_lt a.isLt)]
    rfl
  · rfl

theorem headTable_of (T : FVec Ideal S8x1024 .f32) (y : S8x256x768.Idx) (x : S1x256x768.Idx) (a : Fin 8) (h0 : (y 0 : ℕ) = a)
    (h1 : (y 1 : ℕ) = (x 1 : ℕ)) (h2 : (y 2 : ℕ) = (x 2 : ℕ)) : headTable (biasRow T a) x = table T (y 0) (y 1) (y 2) := by
  obtain rfl : (y 0 : Fin 8) = a := Fin.ext h0
  refine Eq.trans ?_ (headTable_at T (y 0) (y 1) (y 2))
  blk_ext

/-- A load after stores that fill the table reads what they left. -/
theorem read_canon (L : List (View.Piece (Elt Ideal) S8x256x768 .f32)) (r : Rect S8x256x768) :
    (View.whole cc0_scratch0 : View sig .tc .vmem S8x256x768 .f32).readCov (Val := Elt Ideal) L r.toLoadRect = View.ld (View.canon L) r :=
  View.readCov_eq_canon' _ L _

variable (c : Dev nD) (t : Fin cfg0.N) (h0 : t.val % 16 = 0) (h1 : t.val % 8 = 0) (h2 : ¬t.val % 8 = 1) (h3 : ¬2 ≤ t.val % 8)
include h0 h1 h2 h3

set_option maxHeartbeats 1000000 in
/-- The table that the first point builds. -/
theorem table_first (y : S8x256x768.Idx) : (outsAt0 m c t.val t.isLt).2 y = table (iblk m c 3 t) (y 0) (y 1) (y 2) := by
  rw [outsAt0_A m c t h0 h1 h2 h3]; frame_out
  canon_tiles x h
  all_goals simp only [ldBiasRow]
  · exact headTable_of _ y x 7 (show (y 0 : ℕ) = 7 by omega) h1 h2
  · exact headTable_of _ y x 6 (show (y 0 : ℕ) = 6 by omega) h1 h2
  · exact headTable_of _ y x 5 (show (y 0 : ℕ) = 5 by omega) h1 h2
  · exact headTable_of _ y x 4 (show (y 0 : ℕ) = 4 by omega) h1 h2
  · exact headTable_of _ y x 3 (show (y 0 : ℕ) = 3 by omega) h1 h2
  · exact headTable_of _ y x 2 (show (y 0 : ℕ) = 2 by omega) h1 h2
  · exact headTable_of _ y x 1 (show (y 0 : ℕ) = 1 by omega) h1 h2
  · exact headTable_of _ y x 0 (show (y 0 : ℕ) = 0 by omega) h1 h2

set_option maxHeartbeats 1000000 in
/-- The block that the first point stores, over the table that it has built. -/
theorem pointA : ∃ inb, (outsAt0 m c t.val t.isLt).1 = winA (iblk m c 0 t)
     (View.ld (iblk m c 1 t) (Rect.unit (k0_off1 (grid0.coords t)) ![256, 512] inb))
     (View.ld (iblk m c 2 t) (Rect.unit (k0_off1 (grid0.coords t)) ![256, 512] inb))
     (outsAt0 m c t.val t.isLt).2 := by
  refine ⟨Facts₀.k0_off1_inb _ ((hcond0_1 t).mpr h1), ?_⟩
  funext y
  rw [outsAt0_A m c t h0 h1 h2 h3]; frame_out
  simp only [read_canon]
  refine (congrFun (payA _ _ _ _ _ _ _ _ _ _ _ _ _ _) y).trans ?_
  unfold winA
  simp only [ldQ, ldBiasA]
  rfl

end Cert.AttKernelIdeal.Value
-- ==== Proof.Att.Entry.lean ====
module

public import proofs.«01_k».proof.Proof.Att.WinB
public import proofs.«01_k».proof.Proof.Att.WinC
public import proofs.«01_k».proof.Proof.Att.Table
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen

variable (m : (ℓ : Loc nD τ sig) → Buf (Elt Ideal) ℓ) (c : Dev nD)

/-! ## What the call is given

The projections as a flat array, and each head's row of biases, laid out so that one rotation of it gives a row of the table. -/

/-- The projections, the call's first argument. -/
abbrev X0 : FVec Ideal S2x2048x6656 .f32 := m ((c.tc : Thread nD τ).loc main_arg0)
/-- The relative biases, its second argument. -/
abbrev X1 : FVec Ideal S8x320 .f32 := m ((c.tc : Thread nD τ).loc main_arg1)

theorem V_p : @Eq (FVec Ideal S4096x6656 .bf16) (V m c main_v1)
    (truncf .bf16 (shapeCast S4096x6656 (X0 m c) shapeCasts_S2x2048x6656_S4096x6656) bitsLt_bf16_f32) := by
  unfold_abbrev_sides
  after_reads_simp
  rfl

theorem V_rows : @Eq (FVec Ideal S8x1024 .f32) (V m c main_v9)
    (concatenate S8x1024 1
      [⟨S8x257, broadcastInDim S8x257 ![0, 1] bcast_S8x1_S8x257_0_1 (extractStridedSlice S8x1 ![0, 319] (X1 m c) slices_S8x320_S8x1_0_319)⟩,
       ⟨S8x319, Host.reverse [1] (extractStridedSlice S8x319 ![0, 0] (X1 m c) slices_S8x320_S8x319_0_0)⟩,
       ⟨S8x192, broadcastInDim S8x192 ![0, 1] bcast_S8x1_S8x192_0_1 (extractStridedSlice S8x1 ![0, 0] (X1 m c) slices_S8x320_S8x1_0_0)⟩,
       ⟨S8x256, broadcastInDim S8x256 ![0, 1] bcast_S8x1_S8x256_0_1 (extractStridedSlice S8x1 ![0, 319] (X1 m c) slices_S8x320_S8x1_0_319)⟩]
      concatenates_S8x257_S8x319_S8x192_S8x256_S8x1024_d1) := by
  unfold_abbrev_sides
  after_reads_simp
  rfl

theorem p_at (R : Fin 4096) (k : Fin 6656) : (show FVec Ideal S4096x6656 .bf16 from V m c main_v1) (ix2 R k)
    = X0 m c (ix3 ⟨R / 2048, by omega⟩ ⟨R % 2048, by omega⟩ k) := by
  refine (congrFun (V_p m c) (ix2 R k)).trans ?_
  pointwise
  blk_ext

/-- Which bias an entry of a head's row is. -/
def biasIx (x : Fin 1024) : Fin 320 := if h : x.val < 257 then 319 else if h' : x.val < 576 then ⟨575 - x.val, by omega⟩ else if x.val < 768 then 0 else 319

theorem rows_at (h : Fin 8) (x : Fin 1024) : (show FVec Ideal S8x1024 .f32 from V m c main_v9) (ix2 h x) = X1 m c (ix2 h (biasIx x)) := by
  refine (congrFun (V_rows m c) (ix2 h x)).trans ?_
  pointwise
  unfold biasIx
  by_cases h1 : x.val < 257
  · rw [dif_pos h1, dif_pos h1]
  · rw [dif_neg h1, dif_neg h1]
    by_cases h2 : x.val < 576
    · rw [dif_pos (by omega : x.val - 257 < 319), dif_pos h2]
      refine congrArg (X1 m c) (congrArg₂ ix2 rfl (Fin.ext ?_))
      show 319 - (x.val - 257 + 1) = 575 - x.val
      omega
    · rw [dif_neg (by omega : ¬x.val - 257 < 319), dif_neg h2]
      by_cases h3 : x.val < 768
      · rw [dif_pos (by omega : x.val - 257 - 319 < 192), if_pos h3]
      · rw [dif_neg (by omega : ¬x.val - 257 - 319 < 192), if_neg h3]

theorem idx0 : ∀ t : Fin cfg0.N, win0_0.index t = ![t.val, 6] ∧ win0_1.index t = ![t.val / 8, 7] ∧ win0_2.index t = ![t.val / 8, 8]
    ∧ win0_3.index t = ![0, 0] ∧ win0_4.index t = ![t.val, 0] :=
  (by decide +kernel : ∀ t : Fin grid0.N, _)

theorem blkq (t : Fin cfg0.N) (n : Fin 256) (l : Fin 512) : iblk m c 0 t (ix2 n l)
    = (show FVec Ideal S4096x6656 .bf16 from V m c main_v1) (ix2 ⟨256 * t.val + n, by have : t.val < 16 := t.isLt; omega⟩ ⟨3072 + l, by omega⟩) := by
  blk_point [iblk, idx0 t]
theorem blkk (t : Fin cfg0.N) (j : Fin 2048) (l : Fin 512) : iblk m c 1 t (ix2 j l)
    = (show FVec Ideal S4096x6656 .bf16 from V m c main_v1) (ix2 ⟨2048 * (t.val / 8) + j, by have : t.val < 16 := t.isLt; omega⟩ ⟨3584 + l, by omega⟩) := by
  blk_point [iblk, idx0 t]
theorem blkv (t : Fin cfg0.N) (j : Fin 2048) (l : Fin 512) : iblk m c 2 t (ix2 j l)
    = (show FVec Ideal S4096x6656 .bf16 from V m c main_v1) (ix2 ⟨2048 * (t.val / 8) + j, by have : t.val < 16 := t.isLt; omega⟩ ⟨4096 + l, by omega⟩) := by
  blk_point [iblk, idx0 t]
theorem blkr (t : Fin cfg0.N) (h : Fin 8) (x : Fin 1024) : iblk m c 3 t (ix2 h x)
    = (show FVec Ideal S8x1024 .f32 from V m c main_v9) (ix2 h x) := by
  blk_point [iblk, idx0 t]

theorem offA : ∀ t : Fin cfg0.N, t.val % 8 = 0 → k0_off1 (grid0.coords t) = ![256 * (t.val % 8 + 1) - 256, 0] :=
  (by decide +kernel : ∀ t : Fin grid0.N, t.val % 8 = 0 → _)
theorem offB : ∀ t : Fin cfg0.N, t.val % 8 = 1 → k0_off2 (grid0.coords t) = ![256 * (t.val % 8 + 1) - 512, 0] :=
  (by decide +kernel : ∀ t : Fin grid0.N, t.val % 8 = 1 → _)
theorem offC : ∀ t : Fin cfg0.N, 2 ≤ t.val % 8 → k0_off3 (grid0.coords t) = ![256 * (t.val % 8 + 1) - 768, 0] :=
  (by decide +kernel : ∀ t : Fin grid0.N, 2 ≤ t.val % 8 → _)

/-- A window of `N` keys from row `a`. -/
theorem window_at (N : ℕ) (K : Vec Ideal S2048x512 .bf16) (o : Fin 2 → ℕ) (a : ℕ) (ho : o = ![a, 0]) (inb) (j : Fin N) (l : Fin 512) (hj : a + j < 2048) :
    (View.ld K (Rect.unit (s := S2048x512) o ![N, 512] inb) : FVec Ideal ⟨2, ![N, 512]⟩ .bf16) (ix2 j l) = K (ix2 ⟨a + j, hj⟩ l) := by
  subst ho
  pointwise
  blk_ext

end Cert.AttKernelIdeal.Value

end
-- ==== Proof.Att.Spec.lean ====
module

public import proofs.«01_k».proof.Proof.Att.Math
public import proofs.«01_k».proof.Proof.Ret.Fine
public import Idealize.ShloMosaic.Lib.Pointwise

@[expose] public section

noncomputable section

open Idealize.ShloMosaic Idealize.ShloMosaic.TcCoe Idealize.SL.Sem

namespace Cert.Att

open Cert.RetKernelIdeal.Value (Fine)

/-- The kernel's row over a window of keys, where every key outside it has the score `−∞`. -/
theorem krow_of_window {n N : ℕ} (e : Fin n → Fin N) (he : Function.Injective e) (s v : Fin N → EReal) (j0 : Fin n) (h0 : s (e j0) ≠ ⊥)
    (ht : ∀ i, s i ≠ ⊤) (hs : ∀ j, (∀ i, e i ≠ j) → s j = ⊥) : krow (fun i => s (e i)) (fun i => v (e i)) = row s v :=
  (krow_eq_row (mass_ne_zero j0 h0 fun i => ht (e i)) _).trans (row_window e he s v hs (mass_ne_zero (e j0) h0 ht))

/-! ## The attention both programs compute

A query sees the keys of its own chunk of 64 and of the eight chunks before it. -/

variable (P : FVec Ideal ⟨3, ![2, 2048, 6656]⟩ .f32) (B : FVec Ideal ⟨2, ![8, 320]⟩ .f32) (b : Fin 2) (h : Fin 8)

/-- Queries, keys and values: entry `d` of head `h` at position `n` of sequence `b`. -/
def qat (n : Fin 2048) (d : Fin 64) : EReal := P (ix3 b n ⟨3072 + (64 * h + d), by omega⟩)
def kat (n : Fin 2048) (d : Fin 64) : EReal := P (ix3 b n ⟨3584 + (64 * h + d), by omega⟩)
def vat (n : Fin 2048) (d : Fin 64) : EReal := P (ix3 b n ⟨4096 + (64 * h + d), by omega⟩)

/-- The scale of the scores. -/
def eighth : EReal := ((1 / 8 : ℝ) : EReal)

theorem dot_eighth (q k : Fin 64 → EReal) : ∑ x, q x * eighth * k x = (∑ x, q x * k x) * eighth :=
  dot_scaled q k (by unfold eighth; exact EReal.coe_nonneg.mpr (by norm_num)) (by unfold eighth; exact EReal.coe_ne_top _)

/-- The bias of a query and a key is that of their clipped distance. -/
def rel (n m : Fin 2048) : Fin 320 := ⟨min (n + 63 - m) 319, by omega⟩

/-- The score of a query and a key. -/
def score (n m : Fin 2048) : EReal :=
  if (m / 64 : ℕ) ≤ n / 64 ∧ (n / 64 : ℕ) ≤ m / 64 + 8 then (∑ x, qat P b h n x * kat P b h m x) * eighth + B (ix2 h (rel n m)) else ⊥

/-- The attention's result. -/
def attn (n : Fin 2048) (d : Fin 64) : EReal := row (score P B b h n) fun m => vat P b h m d

/-- The arguments the scores are made of are real numbers. -/
structure Real : Prop where
  proj (b : Fin 2) (n : Fin 2048) (j : Fin 1024) : Fine (P (ix3 b n ⟨3072 + j, by omega⟩))
  bias (h : Fin 8) (j : Fin 320) : Fine (B (ix2 h j))

variable {P B} (hr : Real P B)
include hr

theorem qat_fine (n : Fin 2048) (d : Fin 64) : Fine (qat P b h n d) := hr.proj b n ⟨64 * h + d, by omega⟩
theorem kat_fine (n : Fin 2048) (d : Fin 64) : Fine (kat P b h n d) := by
  have := hr.proj b n ⟨512 + (64 * h + d), by omega⟩
  refine Eq.subst (motive := fun i => Fine (P (ix3 b n i))) (Fin.ext ?_) this
  show 3072 + (512 + (64 * h.val + d.val)) = 3584 + (64 * h.val + d.val)
  omega

theorem seen_fine (n m : Fin 2048) : Fine ((∑ x, qat P b h n x * kat P b h m x) * eighth + B (ix2 h (rel n m))) :=
  .add (.mul (.sum _ fun x => .mul (qat_fine b h hr n x) (kat_fine b h hr m x)) (.coe _)) (hr.bias h _)

theorem score_top (n m : Fin 2048) : score P B b h n m ≠ ⊤ := by
  unfold score
  split
  · obtain ⟨r, hr⟩ := seen_fine b h hr n m
    rw [hr]; exact EReal.coe_ne_top r
  · exact bot_ne_top

theorem score_self (n : Fin 2048) : score P B b h n n ≠ ⊥ := by
  unfold score
  rw [if_pos ⟨le_rfl, by omega⟩]
  obtain ⟨r, hr⟩ := seen_fine b h hr n n
  rw [hr]; exact EReal.coe_ne_bot r

/-- What the kernel computes of a window of keys that holds every key the query sees. -/
theorem krow_window {N : ℕ} (e : Fin N → Fin 2048) (he : Function.Injective e) (n : Fin 2048) (d : Fin 64) (j0 : Fin N) (hj : e j0 = n)
    (hs : ∀ m : Fin 2048, (∀ i, e i ≠ m) → ¬((m / 64 : ℕ) ≤ n / 64 ∧ (n / 64 : ℕ) ≤ m / 64 + 8)) :
    krow (fun i => score P B b h n (e i)) (fun i => vat P b h (e i) d) = attn P B b h n d := by
  have ht := score_top b h hr n
  have h0 := score_self b h hr n
  have hz : ∀ m, (∀ i, e i ≠ m) → score P B b h n m = ⊥ := fun m hm => if_neg (hs m hm)
  unfold attn
  generalize score P B b h n = s at ht h0 hz ⊢
  exact krow_of_window e he s (fun m => vat P b h m d) j0 (hj ▸ h0) ht hz

end Cert.Att

end
-- ==== Proof.Att.Out.lean ====
module

public import proofs.«01_k».proof.Proof.Att.Entry
public import proofs.«01_k».proof.Proof.Att.Spec

@[expose] public section

set_option maxRecDepth 16384

noncomputable section

open Idealize.ShloMosaic Idealize.ShloMosaic.TcCoe Idealize.SL.Sem
open Idealize.ShloMosaic.Pipeline (Dat)

namespace Cert.AttKernelIdeal.Value

open Cert.AttKernelIdeal Cert.AttKernelIdeal.Gen
open Cert.Att (qat kat vat rel score attn krow krow_window)

variable (m : (ℓ : Loc nD τ sig) → Buf (Elt Ideal) ℓ) (c : Dev nD)

/-! ## The table at every point

The first point builds the table of biases and the others find it unchanged. -/

/-- The bias rows, as every point sees them. -/
def rows : FVec Ideal S8x1024 .f32 := V m c main_v9

theorem blkr_eq (t : Fin cfg0.N) : iblk m c 3 t = rows m c := by
  funext i
  obtain ⟨h, x, rfl⟩ : ∃ (h : Fin 8) (x : Fin 1024), i = (ix2 h x : S8x1024.Idx) := ⟨i 0, i 1, eq_ix2 i⟩
  exact blkr m c t h x

theorem carry (t : Fin cfg0.N) (h0 : ¬t.val % 16 = 0) : (outsAt0 m c t.val t.isLt).2
    = (outsAt0 m c (t.val - 1) (Nat.lt_of_le_of_lt (Nat.sub_le _ _) t.isLt)).2 := by
  by_cases h1 : t.val % 8 = 0
  · rw [outsAt0_D m c t h0 h1 (by omega) (by omega)]
    rfl
  · by_cases h2 : t.val % 8 = 1
    · rw [outsAt0_B m c t h0 h1 h2 (by omega)]
      rfl
    · rw [outsAt0_C m c t h0 h1 h2 (by omega)]
      rfl

theorem table_at : ∀ n (hn : n < 16) (y : S8x256x768.Idx), (outsAt0 m c n hn).2 y = table (rows m c) (y 0) (y 1) (y 2) := by
  intro n
  induction n with
  | zero =>
    intro hn y
    have := table_first m c ⟨0, hn⟩ rfl rfl (show ¬0 % 8 = 1 by decide) (show ¬2 ≤ 0 % 8 by decide) y
    rw [blkr_eq] at this
    exact this
  | succ n ih =>
    intro hn y
    refine (congrFun (carry m c ⟨n + 1, hn⟩ (by show ¬(n + 1) % 16 = 0; omega)) y).trans ?_
    exact ih (by omega) y

theorem biasIx_val (x : Fin 1024) : (biasIx x : ℕ) = if x.val < 257 then 319 else if x.val < 576 then 575 - x.val else if x.val < 768 then 0 else 319 := by
  unfold biasIx
  split
  · rfl
  · split
    · rfl
    · split <;> rfl

/-- A table's entry is the bias of a query and a key where the query sees the key. -/
theorem table_rel (i : Fin 8) (h : Fin 8) (n : Fin 256) (k : Fin 768) (N M : Fin 2048) (hN : (N : ℕ) = 256 * i + n) (hM : (M : ℕ) + 512 = 256 * i + k) :
    table (rows m c) h n k = if (M / 64 : ℕ) ≤ N / 64 ∧ (N / 64 : ℕ) ≤ M / 64 + 8 then X1 m c (ix2 h (rel N M)) else ⊥ := by
  unfold table
  refine if_congr (by constructor <;> intro H <;> constructor <;> omega) ?_ rfl
  refine (rows_at m c h _).trans (congrArg (fun z => X1 m c (ix2 h z)) (Fin.ext ?_))
  rw [biasIx_val]
  show _ = min (N.val + 63 - M.val) 319
  have hk := k.isLt
  have hn := n.isLt
  dsimp only
  split
  · omega
  · split
    · omega
    · split <;> omega

theorem eighth_eq : eighth = Att.eighth := by
  unfold eighth Att.eighth
  simp [Ideal.ofBits, Ideal.ieee, -EReal.coe_mul]; norm_num

/-! ## The block of a point -/

theorem q_at (t : Fin cfg0.N) (n : Fin 256) (h : Fin 8) (d : Fin 64) : iblk m c 0 t (ix2 n (⟨64 * h + d, by omega⟩ : Fin 512))
    = qat (X0 m c) ⟨t.val / 8, by have : t.val < 16 := t.isLt; omega⟩ h ⟨256 * (t.val % 8) + n, by omega⟩ d := by
  have ht : t.val < 16 := t.isLt
  refine (blkq m c t n _).trans ((p_at m c _ _).trans ?_)
  unfold qat
  blk_ext

theorem k_at (t : Fin cfg0.N) (j : Fin 2048) (h : Fin 8) (d : Fin 64) : iblk m c 1 t (ix2 j (⟨64 * h + d, by omega⟩ : Fin 512))
    = kat (X0 m c) ⟨t.val / 8, by have : t.val < 16 := t.isLt; omega⟩ h j d := by
  have ht : t.val < 16 := t.isLt
  refine (blkk m c t j _).trans ((p_at m c _ _).trans ?_)
  unfold kat
  blk_ext

theorem v_at (t : Fin cfg0.N) (j : Fin 2048) (h : Fin 8) (d : Fin 64) : iblk m c 2 t (ix2 j (⟨64 * h + d, by omega⟩ : Fin 512))
    = vat (X0 m c) ⟨t.val / 8, by have : t.val < 16 := t.isLt; omega⟩ h j d := by
  have ht : t.val < 16 := t.isLt
  refine (blkv m c t j _).trans ((p_at m c _ _).trans ?_)
  unfold vat
  blk_ext

/-- One score of the kernel. -/
theorem kscore (b : Fin 2) (i : Fin 8) (h : Fin 8) (n : Fin 256) (k : Fin 768) (N M : Fin 2048) (hN : (N : ℕ) = 256 * i + n) (hM : (M : ℕ) + 512 = 256 * i + k) :
    ∑ x : Fin 64, qat (X0 m c) b h N x * eighth * kat (X0 m c) b h M x + table (rows m c) h n k = score (X0 m c) (X1 m c) b h N M := by
  rw [table_rel m c i h n k N M hN hM, eighth_eq, Att.dot_eighth]
  unfold score
  split
  · rfl
  · exact EReal.add_bot _

/-- The attention's result as the call writes it, heads side by side. -/
def attnArr (P : FVec Ideal S2x2048x6656 .f32) (B : FVec Ideal S8x320 .f32) : FVec Ideal S4096x512 .bf16 := fun i =>
  attn P B ⟨(i 0 : ℕ) / 2048 % 2, by omega⟩ ⟨(i 1 : ℕ) / 64 % 8, by omega⟩ ⟨(i 0 : ℕ) % 2048, by omega⟩ ⟨(i 1 : ℕ) % 64, by omega⟩

theorem at4 (t : Fin cfg0.N) (n : Fin 256) (l : Fin 512) : ((cfg0.win 4).blk t).view.emb (ix2 n l : S256x512.Idx)
    = ix2 (⟨256 * t.val + n, by have : t.val < 16 := t.isLt; omega⟩ : Fin 4096) l := by
  blk_ext [idx0 t]

/-- What a point's block holds. -/
def block (t : Fin cfg0.N) (n : Fin 256) (h : Fin 8) (d : Fin 64) : EReal :=
  attn (X0 m c) (X1 m c) ⟨t.val / 8, by have : t.val < 16 := t.isLt; omega⟩ h ⟨256 * (t.val % 8) + n, by omega⟩ d

variable (hr : Att.Real (X0 m c) (X1 m c))
include hr

/-- A row over a window of `w` keys from position `a`, where the window ends with the query block and holds every key it sees. -/
theorem row_core (w o a : ℕ) (t : Fin cfg0.N) (how : o + w = 768) (hw : 256 ≤ w) (ha : a + w = 256 * (t.val % 8 + 1)) (ho : w = 768 ∨ a = 0)
    (Q : FVec Ideal S256x512 .bf16) (K V : FVec Ideal ⟨2, ![w, 512]⟩ .bf16) (Z : FVec Ideal S8x256x768 .f32) (hQ : Q = iblk m c 0 t)
    (hK : ∀ (j : Fin w) (l : Fin 512), K (ix2 j l) = iblk m c 1 t (ix2 ⟨a + j, by omega⟩ l))
    (hV : ∀ (j : Fin w) (l : Fin 512), V (ix2 j l) = iblk m c 2 t (ix2 ⟨a + j, by omega⟩ l))
    (hZ : ∀ y : S8x256x768.Idx, Z y = table (rows m c) (y 0) (y 1) (y 2)) (n : Fin 256) (h : Fin 8) (d : Fin 64) :
    krow (fun j : Fin w => ∑ x : Fin 64, Q (ix2 n (⟨64 * h + x, by omega⟩ : Fin 512)) * eighth * K (ix2 j (⟨64 * h + x, by omega⟩ : Fin 512))
        + Z (ix3 h n (⟨o + j, by omega⟩ : Fin 768))) (fun j => V (ix2 j (⟨64 * h + d, by omega⟩ : Fin 512)))
      = block m c t n h d := by
  unfold block
  refine Eq.trans (congrArg₂ krow (funext fun j => ?_) (funext fun j => ?_)) (krow_window _ h hr (fun j : Fin w => ⟨a + j, by omega⟩)
    (fun i j hij => Fin.ext (by have := congrArg Fin.val hij; dsimp only at this; omega)) _ d ⟨256 * (t.val % 8) + n - a, by omega⟩
    (Fin.ext (by dsimp only; omega)) fun M hM => ?_)
  · rw [hZ]
    refine Eq.trans ?_ (kscore m c _ ⟨t.val % 8, by omega⟩ h n ⟨o + j, by omega⟩ _ ⟨a + j, by omega⟩ rfl (by dsimp only; omega))
    refine congrArg₂ (fun x y : EReal => x + y) (Finset.sum_congr rfl fun x _ => ?_) rfl
    rw [hQ, q_at, hK, k_at]
  · rw [hV, v_at]
  · have h1 : ¬(a ≤ M.val ∧ M.val < a + w) := fun H => hM ⟨M.val - a, by omega⟩ (Fin.ext (by dsimp only; omega))
    have := M.isLt
    dsimp only
    omega

theorem pointA_at (t : Fin cfg0.N) (h0 : t.val % 16 = 0) (h1 : t.val % 8 = 0) (n : Fin 256) (h : Fin 8) (d : Fin 64) :
    (outsAt0 m c t.val t.isLt).1 (ix2 n (⟨64 * h + d, by omega⟩ : Fin 512)) = block m c t n h d := by
  obtain ⟨inb, e⟩ := pointA m c t h0 h1 (by omega) (by omega)
  refine (congrFun e _).trans ((winA_at _ _ _ _ n h d).trans ?_)
  exact row_core m c hr 256 512 (256 * (t.val % 8 + 1) - 256) t rfl (by norm_num) (by omega) (.inr (by omega)) _ _ _ _ rfl
    (fun j l => window_at 256 _ _ _ (offA t h1) inb j l (by omega)) (fun j l => window_at 256 _ _ _ (offA t h1) inb j l (by omega))
    (table_at m c t.val t.isLt) n h d

theorem pointD_at (t : Fin cfg0.N) (h0 : ¬t.val % 16 = 0) (h1 : t.val % 8 = 0) (n : Fin 256) (h : Fin 8) (d : Fin 64) :
    (outsAt0 m c t.val t.isLt).1 (ix2 n (⟨64 * h + d, by omega⟩ : Fin 512)) = block m c t n h d := by
  obtain ⟨inb, e⟩ := pointD m c t h0 h1 (by omega) (by omega)
  refine (congrFun e _).trans ((winA_at _ _ _ _ n h d).trans ?_)
  exact row_core m c hr 256 512 (256 * (t.val % 8 + 1) - 256) t rfl (by norm_num) (by omega) (.inr (by omega)) _ _ _ _ rfl
    (fun j l => window_at 256 _ _ _ (offA t h1) inb j l (by omega)) (fun j l => window_at 256 _ _ _ (offA t h1) inb j l (by omega))
    (table_at m c (t.val - 1) (Nat.lt_of_le_of_lt (Nat.sub_le _ _) t.isLt)) n h d

theorem pointB_at (t : Fin cfg0.N) (h2 : t.val % 8 = 1) (n : Fin 256) (h : Fin 8) (d : Fin 64) :
    (outsAt0 m c t.val t.isLt).1 (ix2 n (⟨64 * h + d, by omega⟩ : Fin 512)) = block m c t n h d := by
  obtain ⟨inb, e⟩ := pointB m c t (by omega) (by omega) h2 (by omega)
  refine (congrFun e _).trans ((winB_at _ _ _ _ n h d).trans ?_)
  exact row_core m c hr 512 256 (256 * (t.val % 8 + 1) - 512) t rfl (by norm_num) (by omega) (.inr (by omega)) _ _ _ _ rfl
    (fun j l => window_at 512 _ _ _ (offB t h2) inb j l (by omega)) (fun j l => window_at 512 _ _ _ (offB t h2) inb j l (by omega))
    (table_at m c (t.val - 1) (Nat.lt_of_le_of_lt (Nat.sub_le _ _) t.isLt)) n h d

theorem pointC_at (t : Fin cfg0.N) (h3 : 2 ≤ t.val % 8) (n : Fin 256) (h : Fin 8) (d : Fin 64) :
    (outsAt0 m c t.val t.isLt).1 (ix2 n (⟨64 * h + d, by omega⟩ : Fin 512)) = block m c t n h d := by
  obtain ⟨inb, e⟩ := pointC m c t (by omega) (by omega) (by omega) h3
  refine (congrFun e _).trans ((winC_at _ _ _ _ n h d).trans ?_)
  exact row_core m c hr 768 0 (256 * (t.val % 8 + 1) - 768) t rfl (by norm_num) (by omega) (.inl rfl) _ _ _ _ rfl
    (fun j l => window_at 768 _ _ _ (offC t h3) inb j l (by omega)) (fun j l => window_at 768 _ _ _ (offC t h3) inb j l (by omega))
    (table_at m c (t.val - 1) (Nat.lt_of_le_of_lt (Nat.sub_le _ _) t.isLt)) n h d

/-- The block that a point stores. -/
theorem point_at (t : Fin cfg0.N) (n : Fin 256) (h : Fin 8) (d : Fin 64) :
    (outsAt0 m c t.val t.isLt).1 (ix2 n (⟨64 * h + d, by omega⟩ : Fin 512)) = block m c t n h d := by
  by_cases h1 : t.val % 8 = 0
  · by_cases h0 : t.val % 16 = 0
    · exact pointA_at m c hr t h0 h1 n h d
    · exact pointD_at m c hr t h0 h1 n h d
  · by_cases h2 : t.val % 8 = 1
    · exact pointB_at m c hr t h2 n h d
    · exact pointC_at m c hr t (by omega) n h d

theorem result : (dats m 0 c).arrAt 4 cfg0.N = attnArr (X0 m c) (X1 m c) := by
  refine (dats m 0 c).arrAt_eq_of_covers 4 _ (by decide +kernel) fun t ht y => ?_
  obtain ⟨n, l, rfl⟩ : ∃ (n : Fin 256) (l : Fin 512), y = (ix2 n l : S256x512.Idx) := ⟨y 0, y 1, eq_ix2 y⟩
  have ht : t.val < 16 := t.isLt
  blk_simp
  rw [after0_4]
  refine Eq.trans ?_ (congrArg (attnArr (X0 m c) (X1 m c)) (at4 t n l)).symm
  have e : (ix2 n l : S256x512.Idx) = ix2 n (⟨64 * (⟨l / 64, by omega⟩ : Fin 8) + (⟨l % 64, by omega⟩ : Fin 64), by dsimp only; omega⟩ : Fin 512) :=
    congrArg (ix2 n) (Fin.ext (by dsimp only; omega))
  refine (congrArg (outsAt0 m c t.val t.isLt).1 e).trans ((point_at m c hr t n _ _).trans ?_)
  unfold attnArr block
  have e2 : (⟨l.val / 64, by omega⟩ : Fin 8) = ⟨l.val / 64 % 8, by omega⟩ := Fin.ext (by dsimp only; omega)
  rw [e2]
  refine congrArg₂ (fun b s => attn (X0 m c) (X1 m c) b ⟨l.val / 64 % 8, by omega⟩ s ⟨l.val % 64, by omega⟩) (Fin.ext ?_) (Fin.ext ?_)
  · show t.val / 8 = (256 * t.val + n.val) / 2048 % 2
    omega
  · show 256 * (t.val % 8) + n.val = (256 * t.val + n.val) % 2048
    omega

end Cert.AttKernelIdeal.Value

end
-- ==== Proof.Att.RefIndex.lean ====
module

public import proofs.«01_k».proof.Proof.Att.Spec
public import proofs.«01_k».proof.Proof.Gen.AttReferenceIdeal.Read
public import Idealize.ShloMosaic.Lib.Pointwise

@[expose] public section

set_option maxRecDepth 16384

noncomputable section

open Idealize.ShloMosaic Idealize.ShloMosaic.TcCoe

/-! The bias that the reference adds to a score and the keys that its mask leaves, from its integer arrays. -/

namespace Cert.Att

open Cert.AttReferenceIdeal Cert.AttReferenceIdeal.Read

/-! ## The bias that the reference looks up -/

section
variable {α : Type}

/-- The reference's look-up: one column of the operand for each pair of positions, the column's number clamped into the operand. -/
theorem gather_at (x : S8x320.Idx → α) (idx : IVec S2048x2048x1 32) (h : Fin 8) (n j : Fin 2048) :
    Host.gather gather_S8x320_S2048x2048x1_S8x2048x2048_0_1_n_n_1_2_81 x idx (ix3 h n j)
      = x (ix2 h ⟨min (idx (ix3 n j 0)).toInt.toNat 319, by omega⟩) := by
  unfold Host.gather
  congr 1
  funext a
  refine Fin.ext ?_
  show (gather_S8x320_S2048x2048x1_S8x2048x2048_0_1_n_n_1_2_81).start (ix3 h n j) idx a
    + (gather_S8x320_S2048x2048x1_S8x2048x2048_0_1_n_n_1_2_81).batchCoord (ix3 h n j) a
    + (gather_S8x320_S2048x2048x1_S8x2048x2048_0_1_n_n_1_2_81).offCoord (ix3 h n j) a = _
  rw [GatherDims.batchCoord_eq_zero _ _ _ List.not_mem_nil]
  rcases (show a = 0 ∨ a = 1 by revert a; decide) with rfl | rfl
  · unfold GatherDims.start
    rw [dif_neg (show ¬(0 : Fin S8x320.rank) ∈ (gather_S8x320_S2048x2048x1_S8x2048x2048_0_1_n_n_1_2_81).startIndexMap by decide)]
    unfold GatherDims.offCoord
    rw [dif_pos (show (0 : Fin S8x320.rank) ∈ (gather_S8x320_S2048x2048x1_S8x2048x2048_0_1_n_n_1_2_81).sKept by decide)]
    show 0 + 0 + h.val = h.val
    omega
  · rw [GatherDims.offCoord_eq_zero _ _ _ (show ¬(1 : Fin S8x320.rank) ∈ (gather_S8x320_S2048x2048x1_S8x2048x2048_0_1_n_n_1_2_81).sKept by decide)]
    unfold GatherDims.start
    rw [dif_pos (show (1 : Fin S8x320.rank) ∈ (gather_S8x320_S2048x2048x1_S8x2048x2048_0_1_n_n_1_2_81).startIndexMap by decide)]
    have hsi : (gather_S8x320_S2048x2048x1_S8x2048x2048_0_1_n_n_1_2_81).siIdx (ix3 h n j)
        ⟨List.idxOf (1 : Fin S8x320.rank) (gather_S8x320_S2048x2048x1_S8x2048x2048_0_1_n_n_1_2_81).startIndexMap,
          List.idxOf_lt_length_iff.2 (by decide)⟩ = ix3 n j 0 := by
      funext b; refine Fin.ext ?_
      match b with
      | ⟨0, _⟩ => rfl
      | ⟨1, _⟩ => rfl
      | ⟨2, _⟩ => rfl
    rw [hsi]
    rfl
end

/-- The clipped distance, from the difference of two positions. -/
theorem clip_word : ∀ δ : Fin 4095, (fun x : BitVec 32 =>
    Scalar.select (IntOp.cmpi CmpIPredicate.slt (IntOp.addi (IntOp.minsi 256#32 (IntOp.maxsi 4294967233#32 x)) 63#32) 0#32)
      (IntOp.addi (IntOp.addi (IntOp.minsi 256#32 (IntOp.maxsi 4294967233#32 x)) 63#32) 320#32)
      (IntOp.addi (IntOp.minsi 256#32 (IntOp.maxsi 4294967233#32 x)) 63#32)) (BitVec.ofNat 32 δ - 2047#32) = BitVec.ofNat 32 (min (δ.val - 1984) 319) := by
  decide +kernel

theorem index_at (n j : Fin 2048) : val_main_v20 (F := Ideal) (ix2 n j) = BitVec.ofNat 32 (min (n + 63 - j) 319) := by
  pointwise [val_main_v20, val_main_v19, val_main_v18, val_main_v17, val_main_v16, val_main_v15, val_main_v14, val_main_v13, val_main_v12, val_main_v11,
    val_main_v10, val_main_v9, val_main_v8, val_main_v7, val_main_v6, val_main_call0_v0, val_main_call0_v1, val_main_call0_v2, val_main_call0_v3,
    val_main_call0_v4, val_main_c, val_main_c_0, val_main_c_1, val_main_c_2, val_main_c_3]
  have e : IntOp.subi (BitVec.ofNat 32 n) (BitVec.ofNat 32 j) = BitVec.ofNat 32 (n + 2047 - j) - 2047#32 := by
    refine BitVec.eq_of_toNat_eq ?_
    show (BitVec.ofNat 32 n.val - BitVec.ofNat 32 j.val).toNat = _
    rw [BitVec.toNat_sub, BitVec.toNat_sub, BitVec.toNat_ofNat, BitVec.toNat_ofNat, BitVec.toNat_ofNat, BitVec.toNat_ofNat]
    omega
  rw [e]
  refine (clip_word ⟨n + 2047 - j, by omega⟩).trans (congrArg (BitVec.ofNat 32) ?_)
  show min (n.val + 2047 - j.val - 1984) 319 = min (n.val + 63 - j.val) 319
  omega

theorem chunk_n (n : Fin 2048) : val_main_v29 (F := Ideal) (ix2 n 0) = BitVec.ofNat 32 (n / 64) := by
  pointwise [val_main_v29, val_main_c_4, val_main_call1_v0, val_main_call1_v1, val_main_call1_v2, val_main_call1_v3, val_main_call1_v4, val_main_call1_v5,
    val_main_call1_v6, val_main_call1_v7, val_main_call1_v8, val_main_call1_c, val_main_call1_v9, val_main_call1_v10, val_main_call1_v11, val_main_call1_c_0,
    val_main_call1_v12, val_main_call1_v13, val_main_v7, val_main_v6]
  revert n; decide +kernel

theorem chunk_j (j : Fin 2048) : val_main_v30 (F := Ideal) (ix2 0 j) = BitVec.ofNat 32 (j / 64) := by
  pointwise [val_main_v30, val_main_c_5, val_main_call2_v0, val_main_call2_v1, val_main_call2_v2, val_main_call2_v3, val_main_call2_v4, val_main_call2_v5,
    val_main_call2_v6, val_main_call2_v7, val_main_call2_v8, val_main_call2_c, val_main_call2_v9, val_main_call2_v10, val_main_call2_v11, val_main_call2_c_0,
    val_main_call2_v12, val_main_call2_v13, val_main_v9, val_main_v8]
  revert j; decide +kernel

theorem band_word : ∀ a b : Fin 32, IntOp.andi (IntOp.cmpi CmpIPredicate.sge (IntOp.subi (BitVec.ofNat 32 a) (BitVec.ofNat 32 b)) 0#32)
    (IntOp.cmpi CmpIPredicate.sle (IntOp.subi (BitVec.ofNat 32 a) (BitVec.ofNat 32 b)) 8#32) = if (b : ℕ) ≤ a ∧ (a : ℕ) ≤ b + 8 then 1#1 else 0#1 := by
  decide +kernel

theorem seen_at (n j : Fin 2048) : val_main_v38 (F := Ideal) (ix2 n j) = if (j / 64 : ℕ) ≤ n / 64 ∧ (n / 64 : ℕ) ≤ j / 64 + 8 then 1#1 else 0#1 := by
  pointwise [val_main_v38, val_main_v37, val_main_v36, val_main_v35, val_main_v34, val_main_v33, val_main_v32, val_main_v31, val_main_c_6, val_main_c_7]
  rw [chunk_n, chunk_j]
  exact band_word ⟨n / 64, by omega⟩ ⟨j / 64, by omega⟩

variable (x0 : FVec Ideal S2x2048x6656 .f32) (x1 : FVec Ideal S8x320 .f32)

theorem clamp_at : ∀ k : Fin 320, min (BitVec.ofNat 32 k).toInt.toNat 319 = (k : ℕ) := by
  decide +kernel

theorem bias_at (h : Fin 8) (n j : Fin 2048) : val_main_v22 (F := Ideal) x1 (ix3 h n j) = x1 (ix2 h (rel n j)) := by
  unfold val_main_v22
  refine (gather_at _ _ h n j).trans (congrArg (fun z => x1 (ix2 h z)) (Fin.ext ?_))
  have e : val_main_v21 (F := Ideal) (ix3 n j 0) = BitVec.ofNat 32 (min (n + 63 - j) 319) := by
    refine (val_main_v21_apply (F := Ideal) (ix3 n j 0)).trans (Eq.trans (congrArg (val_main_v20 (F := Ideal)) ?_) (index_at n j))
    funext a
    match a with
    | ⟨0, _⟩ => rfl
    | ⟨1, _⟩ => rfl
  dsimp only
  rw [e]
  exact clamp_at ⟨min (n + 63 - j) 319, by omega⟩

end Cert.Att

end
-- ==== Proof.Att.Ref.lean ====
module

public import proofs.«01_k».proof.Proof.Att.RefIndex
public import proofs.«01_k».proof.Proof.Gen.AttReferenceIdeal.Read
public import Idealize.ShloMosaic.Lib.Pointwise

@[expose] public section

set_option maxRecDepth 16384

noncomputable section

open Idealize.ShloMosaic Idealize.ShloMosaic.TcCoe

/-! The reference's attention, at a query and a head. -/

namespace Cert.Att

open Cert.AttReferenceIdeal Cert.AttReferenceIdeal.Read

variable (x0 : FVec Ideal S2x2048x6656 .f32) (x1 : FVec Ideal S8x320 .f32)

theorem lit_eighth : Ideal.ofBits FTy.f32 0x3E000000#32 = eighth := by
  unfold eighth
  simp [Ideal.ofBits, Ideal.ieee, -EReal.coe_mul]; norm_num
theorem lit_bot : Ideal.ofBits FTy.f32 0xFF800000#32 = ⊥ := by simp [Ideal.ofBits, Ideal.ieee]

theorem score_at (b : Fin 2) (h : Fin 8) (n j : Fin 2048) : val_main_v39 (F := Ideal) x0 x1 (ix4 b h n j) = score x0 x1 b h n j := by
  pointwise [val_main_v39, val_main_call3_v0, val_main_call3_v1, val_main_call3_v2, val_main_v28, val_main_v27, val_main_v26, val_main_v25, val_main_v24,
    val_main_v23, val_main_cst, val_main_cst_8, val_main_v0, val_main_v1, val_main_v2, val_main_v3]
  rw [bias_at, seen_at, lit_eighth]
  simp only [mul_comm (h : ℕ) 64]
  unfold score
  split
  · rfl
  · exact lit_bot

/-- The largest key of a row, from the reduction's own starting value. -/
theorem row_max (y : S2x8x2048x2048.Idx → EReal) (z : S_.Idx → EReal) (hc : S2x8x2048x2048.ReducesTo [3] S2x8x2048) (hu : 0 < S_.numel)
    (b : Fin 2) (h : Fin 8) (n : Fin 2048) :
    Host.reduce (max : EReal → EReal → EReal) y z hc hu (ix3 b h n)
      = (Finset.univ : Finset (Fin 2048)).fold max (z (Shape.Idx.first hu)) (fun k => y (ix4 b h n k)) := by
  have hr : S2x8x2048x2048.Reduces [3] S2x8x2048 := by decide
  refine (Host.reduce_eq_fold_single max y z hc hr hu (ix3 b h n)).trans ?_
  refine Finset.fold_congr fun k _ => ?_
  refine congrArg y (funext fun a => Fin.ext ?_)
  rw [Shape.Reduces.lift_val]
  fin_cases a <;> rfl

theorem row_peak (b : Fin 2) (h : Fin 8) (n : Fin 2048) : val_main_v40 (F := Ideal) x0 x1 (ix3 b h n) = peak (score x0 x1 b h n) := by
  unfold val_main_v40 peak
  have hz : ∀ i, val_main_cst_9 (F := Ideal) i = (⊥ : EReal) := fun i => (val_main_cst_9_apply i).trans lit_bot
  have hy : ∀ k, val_main_v39 (F := Ideal) x0 x1 (ix4 b h n k) = score x0 x1 b h n k := score_at x0 x1 b h n
  generalize val_main_v39 (F := Ideal) x0 x1 = y at hy ⊢
  generalize val_main_cst_9 (F := Ideal) = z at hz ⊢
  generalize score x0 x1 b h n = s at hy ⊢
  refine (row_max y z _ _ b h n).trans ?_
  rw [hz]
  exact Finset.fold_congr fun k _ => hy k

theorem bot_max (p : EReal) (q : EReal) (hq : q = ⊥) : (FloatOps.maximumf (F := Ideal) (φ := .f32) q p : EReal) = p := by
  subst hq
  exact max_eq_right bot_le

theorem peak_at (b : Fin 2) (h : Fin 8) (n : Fin 2048) : val_main_v42 (F := Ideal) x0 x1 (ix3 b h n) = peak (score x0 x1 b h n) := by
  rw [val_main_v42_apply, row_peak]
  exact bot_max _ _ ((val_main_v41_apply _).trans ((val_main_cst_10_apply _).trans lit_bot))

theorem weight_at (b : Fin 2) (h : Fin 8) (n j : Fin 2048) : val_main_v46 (F := Ideal) x0 x1 (ix4 b h n j) = wt (score x0 x1 b h n) j := by
  pointwise [val_main_v46, val_main_v45, val_main_v44, val_main_v43]
  rw [score_at, peak_at]
  rfl

theorem mass_at (b : Fin 2) (h : Fin 8) (n : Fin 2048) : val_main_v47 (F := Ideal) x0 x1 (ix3 b h n) = mass (score x0 x1 b h n) := by
  pointwise [val_main_v47, val_main_cst_11]
  simp only [weight_at]
  rfl

theorem ref_at (b : Fin 2) (n : Fin 2048) (h : Fin 8) (d : Fin 64) : val_main_v52 (F := Ideal) x0 x1 (ix4 b n h d) = attn x0 x1 b h n d := by
  pointwise [val_main_v52, val_main_v51, val_main_v50, val_main_v49, val_main_v48, val_main_v4, val_main_v5]
  simp only [weight_at, mass_at]
  unfold attn row vat
  refine Finset.sum_congr rfl fun j _ => ?_
  rw [mul_comm]
  simp only [mul_comm (h : ℕ) 64]

theorem ref_out (R : Fin 4096) (l : Fin 512) : val_main_v55 (F := Ideal) x0 x1 (ix2 R l)
    = attn x0 x1 ⟨R / 2048 % 2, by omega⟩ ⟨l / 64 % 8, by omega⟩ ⟨R % 2048, by omega⟩ ⟨l % 64, by omega⟩ := by
  refine Eq.trans ?_ (ref_at x0 x1 _ _ _ _)
  pointwise [val_main_v55, val_main_v54, val_main_v53]
  blk_ext

end Cert.Att

end
-- ==== Proof.Att.Finite.lean ====
module

public import proofs.«01_k».proof.Proof.Ret.Finite
public import proofs.«01_k».proof.Proof.Att.Spec
public import proofs.«01_k».proof.Defs
public import Idealize.ShloMosaic.Lib.Pointwise

@[expose] public section

set_option maxRecDepth 16384

noncomputable section

open Idealize.ShloMosaic Idealize.ShloMosaic.TcCoe Idealize.SL.Sem

/-! ## What the precondition says

The precondition lays the queries and keys and the biases out as one list and compares the absolute value of every entry with
infinity; where it holds these entries are real numbers. -/

theorem Cert.Pre_finite_attention.preFacts : Cert.Pre_finite_attention.Facts where
  slices_S2x2048x6656_S2x2048x1024_0_0_3072 := by decide
  shapeCasts_S2x2048x1024_S4194304 := by decide
  shapeCasts_S8x320_S2560 := by decide
  concatenates_S4194304_S2560_S4196864_d0 := by decide
  bcast_S_S4196864 := by decide

namespace Cert.Att

open Cert.Pre_finite_attention
open Cert.RetKernelIdeal.Value (Fine fine_of_lt of_bit)

theorem ix3_congr {n0 n1 n2 : Nat} {a a' : Fin n0} {b b' : Fin n1} {d d' : Fin n2} (ha : a = a') (hb : b = b') (hd : d = d') :
    ix3 a b d = ix3 a' b' d' := by
  rw [ha, hb, hd]

variable [Cert.Pre_finite_attention.Facts]

variable (x0 : FVec Ideal S2x2048x6656 .f32) (x1 : FVec Ideal S8x320 .f32)
  (h : Cert.Pre_finite_attention.fn (F := Ideal) x0 x1 = fun _ => 1#1)

include h

/-- Entry `k` of the list. -/
theorem pre_at (k : Fin 4196864) : Fine (
    if h : k.val < 4194304 then x0 (ix3 ⟨k.val / 2097152, by omega⟩ ⟨k.val / 1024 % 2048, by omega⟩ ⟨3072 + k.val % 1024, by omega⟩)
    else x1 (ix2 ⟨(k.val - 4194304) / 320, by omega⟩ ⟨(k.val - 4194304) % 320, by omega⟩)) := by
  have := congrFun h (ix1 k)
  unfold Cert.Pre_finite_attention.fn at this
  revert this
  pointwise
  intro this
  exact fine_of_lt (of_bit _ this)

theorem pre_real : Real x0 x1 where
  proj b n j := by
    have := pre_at x0 x1 h ⟨b.val * 2097152 + n.val * 1024 + j.val, by omega⟩
    rw [dif_pos (by dsimp only; omega)] at this
    refine Eq.subst (motive := fun i => Fine (x0 i)) ?_ this
    refine ix3_congr ?_ ?_ ?_
    all_goals (apply Fin.ext; dsimp only; omega)
  bias a j := by
    have := pre_at x0 x1 h ⟨4194304 + (a.val * 320 + j.val), by omega⟩
    rw [dif_neg (by dsimp only; omega)] at this
    refine Eq.subst (motive := fun i => Fine (x1 i)) ?_ this
    exact congrArg₂ ix2 (Fin.ext (by dsimp only; omega)) (Fin.ext (by dsimp only; omega))

end Cert.Att

end
-- ==== Proof.Att.Claim.lean ====
module

public import proofs.«01_k».proof.Proof.Att.Out
public import proofs.«01_k».proof.Proof.Att.Ref
public import proofs.«01_k».proof.Proof.Att.Finite
public import proofs.«01_k».proof.Proof.Gen.AttKernelIdeal.Frame
public import proofs.«01_k».proof.Proof.Gen.AttReferenceIdeal.Run
public import Idealize.ShloMosaic.Lib.Claim
public import proofs.«01_k».proof.Defs

@[expose] public section

set_option maxRecDepth 16384

noncomputable section

open Idealize.ShloMosaic Idealize.ShloMosaic.TcCoe Idealize.SL.Sem

/-! ## The attention's result

The kernel reads a window of at most 768 keys, whose masked scores are `⊥`; the reference reads all 2048 keys, whose masked scores
are `⊥` too and weigh nothing. Where the scores are real numbers the two rows are the same weighted mean of the values. -/

namespace Cert.AttKernelIdeal.Value

open Cert.AttKernelIdeal Cert.AttKernelIdeal.Gen
open Cert.AttReferenceIdeal.Read (val_main_v55)

variable (m : (ℓ : Loc nD τ sig) → Buf (Elt Ideal) ℓ) (ρ : Dev nD → PrngReg) (c : Dev nD)

theorem attn_eq [Cert.Pre_finite_attention.Facts] (hpre : Cert.Pre_AttKernelIdeal_finite_attention m) :
    (dats m 0 c).arrAt 4 cfg0.N = val_main_v55 (F := Ideal) (X0 m c) (X1 m c) := by
  refine (result m c (Cert.Att.pre_real _ _ (hpre c))).trans (funext fun y => ?_)
  obtain ⟨R, l, rfl⟩ : ∃ (R : Fin 4096) (l : Fin 512), y = (ix2 R l : S4096x512.Idx) := ⟨y 0, y 1, eq_ix2 y⟩
  exact (Cert.Att.ref_out (X0 m c) (X1 m c) R l).symm

/-- The call's run: its result is the reference's term over its own arguments, which end unchanged. -/
theorem run [Cert.Pre_finite_attention.Facts] (hpre : Cert.Pre_AttKernelIdeal_finite_attention m) :
    θ_run defs (onTc (τ := τ) (main (F := Ideal))) ⟨m, fun _ => 0, ρ⟩ (fun r => ∀ c : Dev nD,
      r.2.mem ((c.tc : Thread nD τ).loc main_v10) = val_main_v55 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 4).trans (attn_eq m c hpre), h.2 c⟩)
    (Idealize.ShloMosaic.θ_run_and (run_main m ρ) (unchanged m ρ))

end Cert.AttKernelIdeal.Value

/-! The reference's run, its result as the stage's term. -/
namespace Cert.AttReferenceIdeal.Value

open Cert.AttReferenceIdeal Cert.AttReferenceIdeal.Gen Cert.AttReferenceIdeal.Read

theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55) = val_main_v55 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v55_eq m c), (h c).2⟩) (run m ρ)

end Cert.AttReferenceIdeal.Value

namespace Cert.Att

open Cert.AttKernelIdeal.Value (X0 X1)

theorem algebraic [Cert.Pre_finite_attention.Facts] : Cert.algebraic_AttKernelIdeal_AttReferenceIdeal_pre_finite_attention := by
  intro m g m' g' hpre hagree
  refine ⟨fun c => Cert.AttReferenceIdeal.Read.val_main_v55 (F := Ideal) (X0 m c) (X1 m c),
    Cert.AttKernelIdeal.Value.run m g hpre, ?_⟩
  refine (θ_run Cert.AttReferenceIdeal.defs _ _).mono (fun r h c => ?_) (Cert.AttReferenceIdeal.Value.run_stages m' g')
  obtain ⟨a0, a1⟩ := hagree c
  obtain ⟨h0, hargs⟩ := h c
  rw [a0, a1] at h0
  exact ⟨h0, hargs⟩

theorem frame_reference : Cert.quiescent_AttReferenceIdeal := by
  intro m g _
  exact (θ_run Cert.AttReferenceIdeal.defs _ _).mono (fun r h => ⟨fun c => (h c).2,
    sem_eq_zero_of_no_sems (by decide) r.2⟩) (Cert.AttReferenceIdeal.Value.run m g)

end Cert.Att

end
-- ==== Proof.RetFwd.Host.lean ====
module

public import proofs.«01_k».proof.Proof.Gen.RetFwdKernelIdeal.Frame
public import proofs.«01_k».proof.Proof.Gen.RetReferenceIdeal.Read
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetReferenceIdeal.Read

variable (m : (ℓ : Loc nD τ sig) → Buf (Elt Ideal) ℓ) (c : Dev nD)

/-- The projections, the call's argument. -/
abbrev X0 : FVec Ideal S2x2048x6656 .f32 := m ((c.tc : Thread nD τ).loc main_arg0)

/-! The host's lines before the call, read as the reference's stages. -/

/-- The projections, a row to a token. -/
theorem V_p : @Eq (FVec Ideal S4096x6656 .bf16) (V m c main_v1)
    (truncf .bf16 (shapeCast S4096x6656 (X0 m c) shapeCasts_S2x2048x6656_S4096x6656) bitsLt_bf16_f32) := by
  unfold_abbrev_sides
  after_reads_simp
  rfl

/-- The cosines, once. -/
theorem u18 : @Eq (FVec Ideal S2048x64 .f32) (StableHlo.upto hostOps0 (fun b => m (c, b)) 24 (Proc.tc.devRef main_v18)) (val_main_v54 (F := Ideal)) := by
  unfold_abbrev_sides
  after_reads_simp
  rfl

/-- The sines. -/
theorem u19 : @Eq (FVec Ideal S2048x64 .f32) (StableHlo.upto hostOps0 (fun b => m (c, b)) 26 (Proc.tc.devRef main_v19)) (val_main_v56 (F := Ideal)) := by
  unfold_abbrev_sides
  after_reads_simp
  rfl

/-- The sines, negated. -/
theorem u21 : @Eq (FVec Ideal S2048x64 .f32) (StableHlo.upto hostOps0 (fun b => m (c, b)) 26 (Proc.tc.devRef main_v21)) (Host.negf (val_main_v56 (F := Ideal))) := by
  unfold_abbrev_sides
  after_reads_simp
  rfl

/-- The cosines, twice. -/
theorem V_cos : @Eq (FVec Ideal S2048x128 .f32) (V m c main_v20)
    (concatenate S2048x128 1 [⟨S2048x64, val_main_v54 (F := Ideal)⟩, ⟨S2048x64, val_main_v54 (F := Ideal)⟩] concatenates_S2048x64_S2048x64_S2048x128_d1) := by
  unfold_abbrev_sides
  after_reads_simp
  rw [u18]

/-- The sines, negated in the first half. -/
theorem V_sin : @Eq (FVec Ideal S2048x128 .f32) (V m c main_v22)
    (concatenate S2048x128 1 [⟨S2048x64, Host.negf (val_main_v56 (F := Ideal))⟩, ⟨S2048x64, val_main_v56 (F := Ideal)⟩] concatenates_S2048x64_S2048x64_S2048x128_d1) := by
  unfold_abbrev_sides
  after_reads_simp
  rw [u21, u19]

/-- The decay inside a chunk. -/
theorem V_intra : @Eq (FVec Ideal S4x64x64 .f32) (V m c main_v43)
    (val_main_v92 (F := Ideal)) := by
  unfold_abbrev_sides
  after_reads_simp
  rfl

/-- The decay from the chunk before to a token. -/
theorem V_qd : @Eq (FVec Ideal S4x64x128 .f32) (V m c main_v64)
    (broadcastInDim S4x64x128 ![0, 1, 2] bcast_S4x64x1_S4x64x128_0_1_2 (broadcastInDim S4x64x1 ![0, 1] bcast_S4x64_S4x64x1_0_1
      (Host.exp (mulf (broadcastInDim S4x64 ![0, 1] bcast_S4x1_S4x64_0_1 (broadcastInDim S4x1 ![0] bcast_S4_S4x1_0 (val_main_v79 (F := Ideal))))
        (broadcastInDim S4x64 ![0, 1] bcast_S1x64_S4x64_0_1 (addf (broadcastInDim S1x64 ![1] bcast_S64_S1x64_1 (sitofp FTy.f32 (iotaInDim S64 32 0))) (broadcastInDim S1x64 ![] bcast_S_S1x64 (constant S_ FTy.f32 1065353216#32)))))))) := by
  unfold_abbrev_sides
  after_reads_simp
  rfl

/-- The decay from a token to its chunk's end. -/
theorem V_kd : @Eq (FVec Ideal S4x64x128 .f32) (V m c main_v66)
    (broadcastInDim S4x64x128 ![0, 1, 2] bcast_S4x64x1_S4x64x128_0_1_2 (broadcastInDim S4x64x1 ![0, 1] bcast_S4x64_S4x64x1_0_1
      (Host.exp (mulf (broadcastInDim S4x64 ![0, 1] bcast_S4x1_S4x64_0_1 (broadcastInDim S4x1 ![0] bcast_S4_S4x1_0 (val_main_v79 (F := Ideal))))
        (broadcastInDim S4x64 ![0, 1] bcast_S1x64_S4x64_0_1 (subf (broadcastInDim S1x64 ![] bcast_S_S1x64 (constant S_ FTy.f32 1115422720#32)) (broadcastInDim S1x64 ![1] bcast_S64_S1x64_1 (sitofp FTy.f32 (iotaInDim S64 32 0))))))))) := by
  unfold_abbrev_sides
  after_reads_simp
  rfl

/-- The decay over a chunk. -/
theorem V_cd : @Eq (FVec Ideal S4x1x256 .f32) (V m c main_v68)
    (broadcastInDim S4x1x256 ![0, 1, 2] bcast_S4x1x1_S4x1x256_0_1_2 (broadcastInDim S4x1x1 ![0] bcast_S4_S4x1x1_0
      (Host.exp (mulf (val_main_v79 (F := Ideal)) (broadcastInDim S4 ![] bcast_S_S4 (constant S_ FTy.f32 1115684864#32)))))) := by
  unfold_abbrev_sides
  after_reads_simp
  rfl

end Cert.RetFwdKernelIdeal.Value
-- ==== Proof.RetFwd.Entry.lean ====
module

public import proofs.«01_k».proof.Proof.RetFwd.Host
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetReferenceIdeal.Read

variable (m : (ℓ : Loc nD τ sig) → Buf (Elt Ideal) ℓ) (c : Dev nD)

/-! ## The blocks that a grid point reads and writes

A point works on 256 rows; the points of a sequence go from its first rows to its last. -/

theorem idx0 : ∀ t : Fin cfg0.N, win0_0.index t = ![t.val, 0] ∧ win0_1.index t = ![t.val, 1]
    ∧ win0_2.index t = ![t.val, 1] ∧ win0_3.index t = ![t.val, 2]
    ∧ win0_4.index t = ![t.val % 8, 0] ∧ win0_5.index t = ![t.val % 8, 0]
    ∧ win0_6.index t = ![0, 0, 0] ∧ win0_7.index t = ![0, 0, 0] ∧ win0_8.index t = ![0, 0, 0] ∧ win0_9.index t = ![0, 0, 0]
    ∧ win0_10.index t = ![t.val, 0] ∧ win0_11.index t = ![t.val, 0] ∧ win0_12.index t = ![t.val, 0] ∧ win0_13.index t = ![t.val, 0]
    ∧ win0_14.index t = ![t.val / 8, 0, t.val % 8, 0, 0] :=
  (by decide +kernel : ∀ t : Fin grid0.N, _)

/-- The row of the flat arrays that a block's row is. -/
def row (t : ℕ) (ht : t < 16) (i : ℕ) (hi : i < 256) : Fin 4096 := ⟨t * 256 + i, by omega⟩

theorem blkq (t : Fin cfg0.N) (i : Fin 256) (k : Fin 512) : iblk m c 0 t (ix2 i k)
    = (show FVec Ideal S4096x6656 .bf16 from V m c main_v1) (ix2 (row t.val t.isLt i.val i.isLt) (⟨k.val, by omega⟩ : Fin 6656)) := by
  blk_point [iblk, idx0 t, row]
theorem blkk (t : Fin cfg0.N) (i : Fin 256) (k : Fin 512) : iblk m c 1 t (ix2 i k)
    = (show FVec Ideal S4096x6656 .bf16 from V m c main_v1) (ix2 (row t.val t.isLt i.val i.isLt) (⟨512 + k.val, by omega⟩ : Fin 6656)) := by
  blk_point [iblk, idx0 t, row]
theorem blkv (t : Fin cfg0.N) (i : Fin 256) (k : Fin 1024) : X0_2 m c t (ix2 i k)
    = (show FVec Ideal S4096x6656 .bf16 from V m c main_v1) (ix2 (row t.val t.isLt i.val i.isLt) (⟨1024 + k.val, by omega⟩ : Fin 6656)) := by
  unfold X0_2 Pipeline.Window.fill; rw [dif_pos (moved0_2 t _)]
  blk_point [iblk, idx0 t, row]
theorem blkg (t : Fin cfg0.N) (i : Fin 256) (k : Fin 1024) : X0_3 m c t (ix2 i k)
    = (show FVec Ideal S4096x6656 .bf16 from V m c main_v1) (ix2 (row t.val t.isLt i.val i.isLt) (⟨2048 + k.val, by omega⟩ : Fin 6656)) := by
  unfold X0_3 Pipeline.Window.fill; rw [dif_pos (moved0_3 t _)]
  blk_point [iblk, idx0 t, row]
theorem blkcos (t : Fin cfg0.N) (i : Fin 256) (k : Fin 128) : iblk m c 4 t (ix2 i k)
    = (show FVec Ideal S2048x128 .f32 from V m c main_v20) (ix2 (⟨t.val % 8 * 256 + i.val, by omega⟩ : Fin 2048) k) := by
  blk_point [iblk, idx0 t, row]
theorem blksin (t : Fin cfg0.N) (i : Fin 256) (k : Fin 128) : iblk m c 5 t (ix2 i k)
    = (show FVec Ideal S2048x128 .f32 from V m c main_v22) (ix2 (⟨t.val % 8 * 256 + i.val, by omega⟩ : Fin 2048) k) := by
  blk_point [iblk, idx0 t, row]
theorem blkintra (t : Fin cfg0.N) : iblk m c 6 t = (show FVec Ideal S4x64x64 .f32 from V m c main_v43) := by
  funext y; obtain ⟨h, n, p, rfl⟩ : ∃ (h : Fin 4) (n p : Fin 64), y = (ix3 h n p : S4x64x64.Idx) := ⟨y 0, y 1, y 2, eq_ix3 y⟩
  blk_point [iblk, idx0 t, row]
theorem blkqd (t : Fin cfg0.N) : iblk m c 7 t = (show FVec Ideal S4x64x128 .f32 from V m c main_v64) := by
  funext y; obtain ⟨h, n, p, rfl⟩ : ∃ (h : Fin 4) (n : Fin 64) (p : Fin 128), y = (ix3 h n p : S4x64x128.Idx) := ⟨y 0, y 1, y 2, eq_ix3 y⟩
  blk_point [iblk, idx0 t, row]
theorem blkkd (t : Fin cfg0.N) : iblk m c 8 t = (show FVec Ideal S4x64x128 .f32 from V m c main_v66) := by
  funext y; obtain ⟨h, n, p, rfl⟩ : ∃ (h : Fin 4) (n : Fin 64) (p : Fin 128), y = (ix3 h n p : S4x64x128.Idx) := ⟨y 0, y 1, y 2, eq_ix3 y⟩
  blk_point [iblk, idx0 t, row]
theorem blkcd (t : Fin cfg0.N) : iblk m c 9 t = (show FVec Ideal S4x1x256 .f32 from V m c main_v68) := by
  funext y; obtain ⟨h, n, p, rfl⟩ : ∃ (h : Fin 4) (n : Fin 1) (p : Fin 256), y = (ix3 h n p : S4x1x256.Idx) := ⟨y 0, y 1, y 2, eq_ix3 y⟩
  blk_point [iblk, idx0 t, row]

end Cert.RetFwdKernelIdeal.Value
-- ==== Proof.RetFwd.Tile.lean ====
module

public import proofs.«01_k».proof.Proof.Gen.RetFwdKernelIdeal.Skeleton
public import proofs.«01_k».proof.Proof.Ret.Load
public import Idealize.ShloMosaic.Lib.Pipeline.ValueKit
public import Idealize.ShloMosaic.Lib.Pipeline.ReadBack
public import proofs.«01_k».proof.Proof.Gen.RetFwdKernelIdeal.Frame
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry)

/-! ## The tiles of one chunk and one head

The forward turns a block's queries and keys first, a head at a time, and stores them. Then it walks over the 64-token chunks
and over the heads, reads the turned tiles back and carries every head's state. The tiles are functions of the tiles read. -/

/-- The columns of a 512-wide block from column `b`. -/
def c128 (B : FVec Ideal S256x512 .bf16) (b : ℕ) : FVec Ideal S256x128 .bf16 :=
  fun i => B (ix2 (i 0) (⟨(b + (i 1 : ℕ)) % 512, Nat.mod_lt _ (by norm_num)⟩ : Fin 512))

theorem ldCol (B : Vec Ideal S256x512 .bf16) (b : ℕ) (h) :
    (View.ld B (Rect.unit (s := S256x512) ![0, b] ![256, 128] h) : Vec Ideal S256x128 .bf16) = c128 B b := by
  have h1 : b + 128 ≤ 512 := h 1
  funext i
  unfold c128
  pointwise
  blk_ext

/-- The turn of a head's columns. -/
def rot (x : FVec Ideal S256x128 .bf16) (C N : FVec Ideal S256x128 .f32) : FVec Ideal S256x128 .f32 :=
  let f := extf .f32 (shapeCast S256x128 x shapeCasts_S256x128_S256x128) bitsLt_bf16_f32
  addf (mulf f (shapeCast S256x128 C shapeCasts_S256x128_S256x128))
    (mulf (dynamicRotate 1 64#32 none f rotates_S256x128_d1) (shapeCast S256x128 N shapeCasts_S256x128_S256x128))

/-- The turned queries of a head. -/
def rq (x : FVec Ideal S256x128 .bf16) (C N : FVec Ideal S256x128 .f32) : FVec Ideal S256x128 .bf16 := truncf .bf16 (rot x C N) bitsLt_bf16_f32
/-- The turned and scaled keys of a head. -/
def rk (x : FVec Ideal S256x128 .bf16) (C N : FVec Ideal S256x128 .f32) : FVec Ideal S256x128 .bf16 :=
  truncf .bf16 (mulf (rot x C N) (broadcast S256x128 (Scalar.ofBits .f32 0x3DB504F3#32))) bitsLt_bf16_f32

/-- Four heads beside each other. -/
def beside (P Q R S : FVec Ideal S256x128 .bf16) : FVec Ideal S256x512 .bf16 := fun y =>
  let x : S256x128.Idx := ix2 (y 0) (⟨(y 1 : ℕ) % 128, Nat.mod_lt _ (by norm_num)⟩ : Fin 128)
  if (y 1 : ℕ) < 128 then P x else if (y 1 : ℕ) < 256 then Q x else if (y 1 : ℕ) < 384 then R x else S x

theorem canon_beside (P Q R S : Vec Ideal S256x128 .bf16) (a b c d) :
    View.canon (Val := Elt Ideal) [⟨Rect.unit (s := S256x512) ![0, 384] ![256, 128] d, S⟩, ⟨Rect.unit (s := S256x512) ![0, 256] ![256, 128] c, R⟩,
      ⟨Rect.unit (s := S256x512) ![0, 128] ![256, 128] b, Q⟩, ⟨Rect.unit (s := S256x512) ![0, 0] ![256, 128] a, P⟩] = beside P Q R S := by
  funext y
  unfold beside
  canon_tiles x h using View.cover_of_tiledBy _ ![256, 128] (by sl_kernel_rfl) y
  all_goals
    have e : x = (ix2 (y 0) (⟨(y 1 : ℕ) % 128, Nat.mod_lt _ (by norm_num)⟩ : Fin 128) : S256x128.Idx) := by
      rw [eq_ix2 x]
      exact (ix2_inj ..).2 ⟨Fin.ext (by omega), Fin.ext (by simp only; omega)⟩
    dsimp only
    rw [← e]
    repeat first | rw [if_pos (by omega)] | rw [if_neg (by omega)]

/-- A turned tile read back. -/
theorem readBack (v : View sig .tc .vmem S256x512 .bf16) (P Q R S : Vec Ideal S256x128 .bf16) (a b c d) (i j : ℕ) (h) :
    v.readCov (Val := Elt Ideal) [⟨Rect.unit (s := S256x512) ![0, 384] ![256, 128] d, S⟩, ⟨Rect.unit (s := S256x512) ![0, 256] ![256, 128] c, R⟩,
      ⟨Rect.unit (s := S256x512) ![0, 128] ![256, 128] b, Q⟩, ⟨Rect.unit (s := S256x512) ![0, 0] ![256, 128] a, P⟩]
      (Rect.unit (s := S256x512) ![i, j] ![64, 128] h).toLoadRect = (s128 (beside P Q R S) i j : Vec Ideal S64x128 .bf16) := by
  refine (View.readCov_eq_canon' _ _ _).trans ?_
  rw [canon_beside]
  exact Cert.RetKernelIdeal.Value.ld128 _ i j h

/-- Queries or keys times their decay. -/
def fdec (k : FVec Ideal S64x128 .bf16) (d : FVec Ideal S1x64x128 .f32) : FVec Ideal S64x128 .bf16 :=
  truncf .bf16 (mulf (extf .f32 (shapeCast S64x128 k shapeCasts_S64x128_S64x128) bitsLt_bf16_f32)
    (shapeCast S64x128 d shapeCasts_S1x64x128_S64x128)) bitsLt_bf16_f32

/-- A head's output in a chunk. -/
def fo (M : FVec Ideal S128x256 .f32) (q k : FVec Ideal S64x128 .bf16) (v : FVec Ideal S64x256 .bf16) (intra : FVec Ideal S1x64x64 .f32)
    (qd : FVec Ideal S1x64x128 .f32) : FVec Ideal S64x256 .f32 :=
  addf (matmul dot_S64x64_S64x256_S64x256_1_0_0_1_n_n none
      (truncf .bf16 (mulf (matmul dot_S64x128_S64x128_S64x64_1_1_0_0_n_n none (shapeCast S64x128 q shapeCasts_S64x128_S64x128)
        (shapeCast S64x128 k shapeCasts_S64x128_S64x128) (constant S64x64 .f32 0x00000000#32))
        (shapeCast S64x64 intra shapeCasts_S1x64x64_S64x64)) bitsLt_bf16_f32)
      (shapeCast S64x256 v shapeCasts_S64x256_S64x256) (constant S64x256 .f32 0x00000000#32))
    (matmul dot_S64x128_S128x256_S64x256_1_0_0_1_n_n none (fdec q qd) (truncf .bf16 M bitsLt_bf16_f32) (constant S64x256 .f32 0x00000000#32))

/-- The state, taken one chunk further. -/
def fstep (M : FVec Ideal S128x256 .f32) (k : FVec Ideal S64x128 .bf16) (v : FVec Ideal S64x256 .bf16) (kd : FVec Ideal S1x64x128 .f32)
    (cd : FVec Ideal S1x1x256 .f32) : FVec Ideal S128x256 .f32 :=
  addf (mulf M (broadcastTo S128x256 (shapeCast S1x256 cd shapeCasts_S1x1x256_S1x256) broadcasts_S1x256_S128x256))
    (matmul dot_S64x128_S64x256_S128x256_0_0_1_1_n_n none (fdec k kd) (shapeCast S64x256 v shapeCasts_S64x256_S64x256) (constant S128x256 .f32 0x00000000#32))

/-- An output less its mean over the head. -/
def fcen (o : FVec Ideal S64x256 .f32) : FVec Ideal S64x256 .f32 :=
  subf o (broadcastTo S64x256 (divf (shapeCast S64x1 (multiReduction .add [1] S64 o 0x00000000#32 reduces_S64x256_S64 (.inl rfl) rfl) shapeCasts_S64_S64x1)
    (broadcast S64x1 (Scalar.ofBits .f32 0x43800000#32))) broadcasts_S64x1_S64x256)

/-- The normalised output. -/
def foh (o : FVec Ideal S64x256 .f32) : FVec Ideal S64x256 .f32 :=
  mulf (fcen o) (broadcastTo S64x256 (rsqrt (addf (divf (shapeCast S64x1 (multiReduction .add [1] S64 (mulf (fcen o) (fcen o)) 0x00000000#32 reduces_S64x256_S64 (.inl rfl) rfl) shapeCasts_S64_S64x1)
    (broadcast S64x1 (Scalar.ofBits .f32 0x43800000#32))) (broadcast S64x1 (Scalar.ofBits .f32 0x358637BD#32)))) broadcasts_S64x1_S64x256)

/-- The gated output. -/
def fu (o : FVec Ideal S64x256 .f32) (g : FVec Ideal S64x256 .bf16) : FVec Ideal S64x256 .bf16 :=
  let f := extf .f32 (shapeCast S64x256 g shapeCasts_S64x256_S64x256) bitsLt_bf16_f32
  truncf .bf16 (mulf (mulf f (divf (broadcast S64x256 (Scalar.ofBits .f32 0x3F800000#32)) (addf (broadcast S64x256 (Scalar.ofBits .f32 0x3F800000#32))
    (exp (subf (broadcast S64x256 (Scalar.ofBits .f32 0x00000000#32)) f))))) (foh o)) bitsLt_bf16_f32

/-! ### The blocks of a point -/

variable (x0 x1 : FVec Ideal S256x512 .bf16) (x2 x3 : FVec Ideal S256x1024 .bf16) (x4 x5 : FVec Ideal S256x128 .f32)
  (x6 : FVec Ideal S4x64x64 .f32) (x7 x8 : FVec Ideal S4x64x128 .f32) (x9 : FVec Ideal S4x1x256 .f32) (xs : FVec Ideal S4x128x256 .f32)

/-- The turned queries and keys of a block. -/
def bq : FVec Ideal S256x512 .bf16 := beside (rq (c128 x0 0) x4 x5) (rq (c128 x0 128) x4 x5) (rq (c128 x0 256) x4 x5) (rq (c128 x0 384) x4 x5)
def bk : FVec Ideal S256x512 .bf16 := beside (rk (c128 x1 0) x4 x5) (rk (c128 x1 128) x4 x5) (rk (c128 x1 256) x4 x5) (rk (c128 x1 384) x4 x5)

/-- A head's state after `n` chunks of the block. -/
def bstate (h : ℕ) : ℕ → FVec Ideal S128x256 .f32
  | 0 => shapeCast S128x256 (hCarry xs h) shapeCasts_S1x128x256_S128x256
  | n + 1 => fstep (bstate h n) (s128 (bk x1 x4 x5) (64 * n) (128 * h)) (s256 x2 (64 * n) (256 * h)) (hDec x8 h) (hCd x9 h)

/-- A head's output in a chunk of the block. -/
def bo (a h : ℕ) : FVec Ideal S64x256 .f32 := fo (bstate x1 x2 x4 x5 x8 x9 xs h (a / 64)) (s128 (bq x0 x4 x5) a (128 * h)) (s128 (bk x1 x4 x5) a (128 * h))
  (s256 x2 a (256 * h)) (hIntra x6 h) (hDec x7 h)

/-- The place of a column in its tile. -/
def inTile (y : S256x1024.Idx) : S64x256.Idx :=
  ix2 (⟨(y 0 : ℕ) % 64, Nat.mod_lt _ (by norm_num)⟩ : Fin 64) (⟨(y 1 : ℕ) % 256, Nat.mod_lt _ (by norm_num)⟩ : Fin 256)

/-- The block of outputs and the block of gated outputs. -/
def blkO : FVec Ideal S256x1024 .bf16 := fun y =>
  truncf .bf16 (bo x0 x1 x2 x4 x5 x6 x7 x8 x9 xs ((y 0 : ℕ) / 64 * 64) ((y 1 : ℕ) / 256)) bitsLt_bf16_f32 (inTile y)
def blkU : FVec Ideal S256x1024 .bf16 := fun y =>
  fu (bo x0 x1 x2 x4 x5 x6 x7 x8 x9 xs ((y 0 : ℕ) / 64 * 64) ((y 1 : ℕ) / 256)) (s256 x3 ((y 0 : ℕ) / 64 * 64) (256 * ((y 1 : ℕ) / 256))) (inTile y)

/-- The block of saved states. -/
def blkS : FVec Ideal S1x4x4x128x256 .bf16 := fun y => truncf .bf16 (bstate x1 x2 x4 x5 x8 x9 xs (y 1 : ℕ) (y 2 : ℕ)) bitsLt_bf16_f32 (ix2 (y 3) (y 4))

theorem inTile_eq {y : S256x1024.Idx} {x : S64x256.Idx} (h0 : (x 0 : ℕ) = (y 0 : ℕ) % 64) (h1 : (x 1 : ℕ) = (y 1 : ℕ) % 256) : inTile y = x := by
  unfold inTile
  rw [eq_ix2 x]
  exact (ix2_inj ..).2 ⟨Fin.ext h0.symm, Fin.ext h1.symm⟩

end Cert.RetFwdKernelIdeal.Value
-- ==== Proof.RetFwd.Block.lean ====
module

public import proofs.«01_k».proof.Proof.Gen.RetFwdKernelIdeal.Frame
public import Idealize.ShloMosaic.Lib.Pipeline.ValueKit
public import Idealize.ShloMosaic.Lib.Pointwise
public import Idealize.ShloMosaic.Lib.Pipeline.ReadBack
public import proofs.«01_k».proof.Proof.RetFwd.Tile
public import proofs.«01_k».proof.Proof.Ret.Block

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry ld256 ldIntra ldDec ldCd ldCarry canon_four row_tile row_tile0 col_tile col_tile0)
/-- A load of one head after a fill of the whole scratch. -/
theorem carry_fill (Z : Vec Ideal S4x128x256 .f32) (a : ℕ) (inb) (h) :
    (View.whole cc0_scratch0 : View sig .tc .vmem S4x128x256 .f32).readCov (Val := Elt Ideal) [⟨Rect.unit (s := S4x128x256) ![0, 0, 0] ![4, 128, 256] inb, Z⟩]
      (Rect.unit (s := S4x128x256) ![a, 0, 0] ![1, 128, 256] h).toLoadRect = (hCarry Z a : Vec Ideal S1x128x256 .f32) := by
  refine (View.readCov_fill (s := S4x128x256) _ inb Z [] _ (by decide)).trans ?_
  exact ldCarry Z a h

/-- A store of one head, read at the state's own coordinates. -/
theorem carry_drop (x : S1x128x256.Idx) (d : Fin 128) (e : Fin 256) (hd : (d : ℕ) = (x 1 : ℕ)) (he : (e : ℕ) = (x 2 : ℕ)) (M : FVec Ideal S128x256 .f32) :
    shapeCast S1x128x256 M shapeCasts_S128x256_S1x128x256 x = M (ix2 d e) := by
  pointwise
  blk_ext

/-- A saved state, read at the state's own coordinates. -/
theorem state_drop (x : S1x1x1x128x256.Idx) (d : Fin 128) (e : Fin 256) (hd : (d : ℕ) = (x 3 : ℕ)) (he : (e : ℕ) = (x 4 : ℕ)) (M : FVec Ideal S128x256 .bf16) :
    shapeCast S1x1x1x128x256 M shapeCasts_S128x256_S1x1x1x128x256 x = M (ix2 d e) := by
  pointwise
  blk_ext

/-- The turned queries and keys as the call stores them, a head at a time. -/
theorem fold_q (x0 : FVec Ideal S256x512 .bf16) (x4 x5 : FVec Ideal S256x128 .f32) :
    beside (k0_pay5 x4 x5 (c128 x0 0)) (k0_pay7 x4 x5 (c128 x0 128)) (k0_pay9 (k0_pay3 x4) (k0_pay4 x5) (c128 x0 256))
      (k0_pay12 (k0_pay3 x4) (k0_pay4 x5) (k0_pay11 (c128 x0 384))) = bq x0 x4 x5 := rfl
theorem fold_k (x1 : FVec Ideal S256x512 .bf16) (x4 x5 : FVec Ideal S256x128 .f32) :
    beside (k0_pay6 x4 x5 (c128 x1 0)) (k0_pay8 (k0_pay3 x4) (k0_pay4 x5) (c128 x1 128)) (k0_pay10 (k0_pay3 x4) (k0_pay4 x5) (c128 x1 256))
      (k0_pay13 (k0_pay3 x4) (k0_pay4 x5) (c128 x1 384)) = bk x1 x4 x5 := rfl

variable (m : (ℓ : Loc nD τ sig) → Buf (Elt Ideal) ℓ) (ρ : Dev nD → PrngReg)

set_option maxHeartbeats 8000000 in
/-- The turned queries a point stores. -/
theorem point_q (c : Dev nD) (t : Fin cfg0.N) : (outsAt0 m c t.val t.isLt).1 = bq (iblk m c 0 t) (iblk m c 4 t) (iblk m c 5 t) := by
  by_cases hB : t.val % 8 = 0
  · rw [outsAt0_A m c t hB]; frame_out
    refine (canon_beside _ _ _ _ _ _ _ _).trans ?_
    simp only [ldCol]
    rfl
  · rw [outsAt0_B m c t hB]; frame_out
    refine (canon_beside _ _ _ _ _ _ _ _).trans ?_
    simp only [ldCol]
    rfl

set_option maxHeartbeats 8000000 in
/-- The turned and scaled keys a point stores. -/
theorem point_k (c : Dev nD) (t : Fin cfg0.N) : (outsAt0 m c t.val t.isLt).2.1 = bk (iblk m c 1 t) (iblk m c 4 t) (iblk m c 5 t) := by
  by_cases hB : t.val % 8 = 0
  · rw [outsAt0_A m c t hB]; frame_out
    refine (canon_beside _ _ _ _ _ _ _ _).trans ?_
    simp only [ldCol]
    rfl
  · rw [outsAt0_B m c t hB]; frame_out
    refine (canon_beside _ _ _ _ _ _ _ _).trans ?_
    simp only [ldCol]
    rfl

end Cert.RetFwdKernelIdeal.Value
-- ==== Proof.RetFwd.Carry.lean ====
module

public import proofs.«01_k».proof.Proof.Gen.RetFwdKernelIdeal.Frame
public import Idealize.ShloMosaic.Lib.Pipeline.ValueKit
public import Idealize.ShloMosaic.Lib.Pointwise
public import Idealize.ShloMosaic.Lib.Pipeline.ReadBack
public import proofs.«01_k».proof.Proof.RetFwd.Tile
public import proofs.«01_k».proof.Proof.Ret.Block
public import proofs.«01_k».proof.Proof.RetFwd.Block

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry ld256 ldIntra ldDec ldCd ldCarry canon_four row_tile row_tile0 col_tile col_tile0)
variable (m : (ℓ : Loc nD τ sig) → Buf (Elt Ideal) ℓ) (ρ : Dev nD → PrngReg)

set_option maxHeartbeats 8000000 in
/-- The scratch after a block at a point that is not the first of a sequence. -/
theorem carry_step (c : Dev nD) (t : Fin cfg0.N) (hB : ¬t.val % 8 = 0) (y : S4x128x256.Idx) :
    (outsAt0 m c t.val t.isLt).2.2.2.2.2 y = bstate (iblk m c 1 t) (X0_2 m c t) (iblk m c 4 t) (iblk m c 5 t) (iblk m c 8 t) (iblk m c 9 t)
      (outsAt0 m c (t.val - 1) (Nat.lt_of_le_of_lt (Nat.sub_le _ _) t.isLt)).2.2.2.2.2 (y 0 : ℕ) 4 (ix2 (y 1) (y 2)) := by
  rw [outsAt0_B m c t hB]; frame_out
  canon_tiles x h
  all_goals
    have e0 : (y 0 : ℕ) = (y 0 : ℕ) := rfl
    conv at e0 => rhs; rw [h0]
    have z0 : (x 0 : ℕ) = 0 := by omega
    simp only [z0, Nat.add_zero] at e0
    simp only [read_unread_whole, ldCol, readBack, fold_q, fold_k, ld256, ldIntra, ldDec, ldCd, ldCarry, e0, ← carry_drop x (y 1) (y 2) h1 h2]
    refine congrFun ?_ x
    dsimp only [Nat.reduceMul, bstate, fstep, fdec, k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109,
      k0_pay110, k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197, k0_pay198, k0_pay199, k0_pay200,
      k0_pay201, k0_pay202, k0_pay203]

set_option maxHeartbeats 8000000 in
/-- The scratch after a block at a point that is the first of a sequence. -/
theorem carry_first (c : Dev nD) (t : Fin cfg0.N) (hB : t.val % 8 = 0) (y : S4x128x256.Idx) :
    (outsAt0 m c t.val t.isLt).2.2.2.2.2 y = bstate (iblk m c 1 t) (X0_2 m c t) (iblk m c 4 t) (iblk m c 5 t) (iblk m c 8 t) (iblk m c 9 t) (k0_pay2 (F := Ideal)) (y 0 : ℕ) 4 (ix2 (y 1) (y 2)) := by
  rw [outsAt0_A m c t hB]; frame_out
  refine (canon_four _ _ _ _ _ y (View.cover_of_tiled_head _ _ _ (by sl_kernel_rfl) y)).trans ?_
  canon_tiles x h
  all_goals
    have e0 : (y 0 : ℕ) = (y 0 : ℕ) := rfl
    conv at e0 => rhs; rw [h0]
    have z0 : (x 0 : ℕ) = 0 := by omega
    simp only [z0, Nat.add_zero] at e0
    simp only [ldCol, readBack, fold_q, fold_k, ld256, ldIntra, ldDec, ldCd, ldCarry, e0, ← carry_drop x (y 1) (y 2) h1 h2]
    refine congrFun ?_ x
    rw [carry_fill]
    dsimp only [Nat.reduceMul, bstate, fstep, fdec, k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109,
      k0_pay110, k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197, k0_pay198, k0_pay199, k0_pay200,
      k0_pay201, k0_pay202, k0_pay203]

end Cert.RetFwdKernelIdeal.Value
-- ==== Proof.RetFwd.TileAt.lean ====
module

public import proofs.«01_k».proof.Proof.RetFwd.Tile
public import proofs.«01_k».proof.Proof.Ret.TileAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry rmean rcen rrs roh rsig)

/-! ## What the tiles hold

Every entry of a tile, written with sums over the entries of the tiles it is made from. -/

theorem rot_at (x : FVec Ideal S256x128 .bf16) (C N : FVec Ideal S256x128 .f32) (i : Fin 256) (d : Fin 128) :
    rot x C N (ix2 i d) = x (ix2 i d) * C (ix2 i d)
      + x (ix2 i (⟨((d : ℕ) + 64) % 128, Nat.mod_lt _ (by norm_num)⟩ : Fin 128)) * N (ix2 i d) := by
  unfold rot; pointwise; rfl

theorem fdec_at (k : FVec Ideal S64x128 .bf16) (d : FVec Ideal S1x64x128 .f32) (p : Fin 64) (c : Fin 128) :
    fdec k d (ix2 p c) = k (ix2 p c) * d (ix3 (0 : Fin 1) p c) := by
  unfold fdec; pointwise

theorem fo_at (M : FVec Ideal S128x256 .f32) (q k : FVec Ideal S64x128 .bf16) (v : FVec Ideal S64x256 .bf16) (intra : FVec Ideal S1x64x64 .f32)
    (qd : FVec Ideal S1x64x128 .f32) (n : Fin 64) (e : Fin 256) :
    fo M q k v intra qd (ix2 n e)
      = (∑ p : Fin 64, (∑ d : Fin 128, q (ix2 n d) * k (ix2 p d)) * intra (ix3 (0 : Fin 1) n p) * v (ix2 p e))
        + ∑ d : Fin 128, q (ix2 n d) * qd (ix3 (0 : Fin 1) n d) * M (ix2 d e) := by
  unfold fo; pointwise; simp only [fdec_at]

theorem fstep_at (M : FVec Ideal S128x256 .f32) (k : FVec Ideal S64x128 .bf16) (v : FVec Ideal S64x256 .bf16) (kd : FVec Ideal S1x64x128 .f32)
    (cd : FVec Ideal S1x1x256 .f32) (d : Fin 128) (e : Fin 256) :
    fstep M k v kd cd (ix2 d e)
      = M (ix2 d e) * cd (ix3 (0 : Fin 1) (0 : Fin 1) e) + ∑ p : Fin 64, k (ix2 p d) * kd (ix3 (0 : Fin 1) p d) * v (ix2 p e) := by
  unfold fstep; pointwise; simp only [fdec_at]

theorem fcen_at (o : FVec Ideal S64x256 .f32) (p : Fin 64) (e : Fin 256) : fcen o (ix2 p e) = rcen (fun j => o (ix2 p j)) e := by
  unfold fcen; pointwise; rfl

theorem foh_at (o : FVec Ideal S64x256 .f32) (p : Fin 64) (e : Fin 256) : foh o (ix2 p e) = roh (fun j => o (ix2 p j)) e := by
  unfold foh; pointwise; simp only [fcen_at]; rfl

theorem fu_at (o : FVec Ideal S64x256 .f32) (g : FVec Ideal S64x256 .bf16) (p : Fin 64) (e : Fin 256) :
    fu o g (ix2 p e) = g (ix2 p e) * rsig (g (ix2 p e)) * roh (fun j => o (ix2 p j)) e := by
  unfold fu; pointwise; rw [foh_at]; rfl

end Cert.RetFwdKernelIdeal.Value
-- ==== Proof.RetFwd.State.lean ====
module

public import proofs.«01_k».proof.Proof.Ret.FineAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwd

open Cert.RetKernelIdeal Cert.RetKernelIdeal.Gen Cert.RetKernelIdeal.Value
open Cert.RetReferenceIdeal.Read

/-! ## The carried state

The call carries a head's state from chunk to chunk; the reference sums, for a chunk, over all earlier tokens with the decay from
each of them. A decay is a positive real number, which distributes over every sum of extended
reals, so the two are the same. -/

/-- What a chunk adds to the state. -/
def sadd (x0 : FVec Ideal S2x2048x6656 .f32) (b : Fin 2) (h : Fin 4) (C : Fin 32) (d : Fin 128) (e : Fin 256) : EReal :=
  ∑ p : Fin 64, ak x0 b h (tok C p) d * dec h (63 - p.val) * av x0 b h (tok C p) e

/-- The state before chunk `n`, carried from chunk to chunk. -/
def sC (x0 : FVec Ideal S2x2048x6656 .f32) (b : Fin 2) (h : Fin 4) : ℕ → Fin 128 → Fin 256 → EReal
  | 0 => fun _ _ => 0
  | n + 1 => fun d e => sC x0 b h n d e * dec h 64 + sadd x0 b h ⟨n % 32, Nat.mod_lt _ (by norm_num)⟩ d e

/-- A sum over the tokens of the first chunks, one chunk more. -/
theorem tokens_succ (f : Fin 2048 → EReal) (n : ℕ) (hn : n < 32) :
    (∑ s : Fin 2048, if s.val < 64 * (n + 1) then f s else 0)
      = (∑ s : Fin 2048, if s.val < 64 * n then f s else 0) + ∑ p : Fin 64, f (tok ⟨n, hn⟩ p) := by
  have hc : (∑ p : Fin 64, f (tok ⟨n, hn⟩ p)) = ∑ s : Fin 2048, if s.val / 64 = n then f s else 0 := by
    rw [← Finset.sum_filter]
    refine (Finset.sum_nbij' (fun s => place s) (fun p => tok ⟨n, hn⟩ p) (fun s _ => Finset.mem_univ _) (fun p _ => ?_) (fun s hs => ?_) (fun p _ => ?_)
      (fun s hs => ?_)).symm
    · refine Finset.mem_filter.2 ⟨Finset.mem_univ _, ?_⟩
      unfold tok; simp only; omega
    · have := (Finset.mem_filter.1 hs).2
      refine Fin.ext ?_
      unfold tok place; simp only; omega
    · exact place_tok _ _
    · have := (Finset.mem_filter.1 hs).2
      refine congrArg f (Fin.ext ?_)
      unfold tok place; simp only; omega
  rw [hc, ← Finset.sum_add_distrib]
  refine Finset.sum_congr rfl fun s _ => ?_
  by_cases h1 : s.val < 64 * n
  · rw [if_pos (by omega), if_pos h1, if_neg (by omega), add_zero]
  · by_cases h2 : s.val / 64 = n
    · rw [if_pos (by omega), if_neg h1, if_pos h2, zero_add]
    · rw [if_neg (by omega), if_neg h1, if_neg h2, zero_add]

/-- A real number that is not negative distributes over a sum. -/
theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (EReal.coe_nonneg.2 hc) (EReal.coe_ne_top c), ih]

section
variable (x0 : FVec Ideal S2x2048x6656 .f32) (b : Fin 2) (h : Fin 4)

theorem ast_sum (C : Fin 32) (d : Fin 128) (e : Fin 256) : ast x0 b h C d e = ∑ s : Fin 2048, ak x0 b h s d * wdec h C s * av x0 b h s e := by
  unfold ast
  pointwise [val_main_v131]
  refine Finset.sum_congr rfl fun s _ => ?_
  rw [ref_130]
  rfl

/-- The carried state is the reference's. -/
theorem state_eq (C : Fin 32) (d : Fin 128) (e : Fin 256) : sC x0 b h C.val d e = ast x0 b h C d e := by
  obtain ⟨l, hl⟩ := dec_real h
  have hS : ∀ n, n ≤ 32 → sC x0 b h n d e
      = ∑ s : Fin 2048, if s.val < 64 * n then ak x0 b h s d * dec h (64 * n - 1 - s.val) * av x0 b h s e else 0 := by
    intro n
    induction n with
    | zero =>
      intro _
      rw [Finset.sum_eq_zero fun s _ => if_neg (by omega)]
      rfl
    | succ n ih =>
      intro hn
      have hm : (⟨n % 32, Nat.mod_lt _ (by norm_num)⟩ : Fin 32) = ⟨n, by omega⟩ := Fin.ext (Nat.mod_eq_of_lt (by omega))
      show sC x0 b h n d e * dec h 64 + sadd x0 b h ⟨n % 32, _⟩ d e = _
      rw [ih (by omega), hm, tokens_succ (fun s => ak x0 b h s d * dec h (64 * ((n + 1 : ℕ) : ℝ) - 1 - s.val) * av x0 b h s e) n (by omega)]
      congr 1
      · rw [hl 64, sum_mul_real _ _ _ (Real.exp_pos _).le]
        refine Finset.sum_congr rfl fun s _ => ?_
        by_cases h1 : s.val < 64 * n
        · have hx : l * (64 * n - 1 - s.val) + l * 64 = l * (64 * ((n + 1 : ℕ) : ℝ) - 1 - s.val) := by push_cast; ring
          rw [if_pos h1, if_pos h1, hl, hl, mul_right_comm, mul_assoc (ak x0 b h s d), ← EReal.coe_mul, ← Real.exp_add, hx]
        · rw [if_neg h1, if_neg h1, zero_mul]
      · unfold sadd
        refine Finset.sum_congr rfl fun p _ => ?_
        have hx : (63 : ℝ) - p.val = 64 * ((n + 1 : ℕ) : ℝ) - 1 - ((tok ⟨n, by omega⟩ p).val : ℝ) := by
          unfold tok
          push_cast
          ring
        rw [hx]
  rw [hS _ (by omega), ast_sum]
  refine Finset.sum_congr rfl fun s _ => ?_
  rw [wdec_eq]
  by_cases h1 : s.val < 64 * C.val
  · rw [if_pos h1, if_pos h1]
  · rw [if_neg h1, if_neg h1, mul_zero, zero_mul]

/-- The reference's output, a chunk's own tokens and the state before it. -/
theorem ao_sum (C : Fin 32) (n : Fin 64) (e : Fin 256) : ao x0 b h (tok C n) e
    = (∑ p : Fin 64, (∑ d : Fin 128, aq x0 b h (tok C n) d * ak x0 b h (tok C p) d) * intra h n p * av x0 b h (tok C p) e)
      + ∑ d : Fin 128, aq x0 b h (tok C n) d * dec h (n.val + 1) * ast x0 b h C d e := by
  have hr : ao x0 b h (tok C n) e = val_main_v146 (F := Ideal) x0 (ix5 b C n h e) := by
    unfold ao tok
    pointwise [val_main_v147]
    blk_ext
  rw [hr]
  pointwise [val_main_v146, val_main_v145, val_main_v144, val_main_v140, val_main_v139]
  congr 1
  · refine Finset.sum_congr rfl fun p _ => ?_
    rw [ref_134, ref_138, mul_comm]
  · refine Finset.sum_congr rfl fun d _ => ?_
    rw [ref_143, qdec_eq, mul_comm]
    rfl

end

end Cert.RetFwd
-- ==== Proof.RetFwd.RefRot.lean ====
module

public import proofs.«01_k».proof.Proof.Ret.FineAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwd

open Cert.RetKernelIdeal Cert.RetKernelIdeal.Gen Cert.RetKernelIdeal.Value
open Cert.RetReferenceIdeal.Read

/-! ## The reference's turned queries and keys

Written as the call turns them: every column with its cosine, and the column half a head away with the signed sine. -/

variable (x0 : FVec Ideal S2x2048x6656 .f32) (b : Fin 2) (h : Fin 4)

theorem ref_aq (s : Fin 2048) (d : Fin 128) : aq x0 b h s d
    = val_main_v5 (F := Ideal) x0 (ix4 b s h d) * cosT s ⟨(d : ℕ) % 64, by omega⟩
      + val_main_v5 (F := Ideal) x0 (ix4 b s h (⟨((d : ℕ) + 64) % 128, by omega⟩ : Fin 128)) * sinC s d := by
  unfold aq sinC cosT sinT
  pointwise [val_main_v37]
  by_cases hd : d.val < 64
  · rw [dif_pos hd, dif_pos hd]
    pointwise [val_main_v31, val_main_v28, val_main_v27, val_main_v22, val_main_v30, val_main_v29, val_main_v24, val_main_v25, val_main_v26]
    rw [tables_cos, tables_sin, sub_eq_add_neg, mul_neg]
    rw [show (⟨(d : ℕ) % 64, by omega⟩ : Fin 64) = ⟨d.val, hd⟩ from Fin.ext (by simp only; omega),
      show (⟨((d : ℕ) + 64) % 128, by omega⟩ : Fin 128) = ⟨64 + d.val, by omega⟩ from Fin.ext (by simp only; omega)]
  · rw [dif_neg hd, dif_neg hd]
    pointwise [val_main_v36, val_main_v22, val_main_v24, val_main_v25, val_main_v26, val_main_v33, val_main_v32, val_main_v35, val_main_v34]
    rw [tables_cos, tables_sin, add_comm]
    rw [show (⟨(d : ℕ) % 64, by omega⟩ : Fin 64) = ⟨d.val - 64, by omega⟩ from Fin.ext (by simp only; omega),
      show (⟨((d : ℕ) + 64) % 128, by omega⟩ : Fin 128) = ⟨d.val - 64, by omega⟩ from Fin.ext (by simp only; omega),
      show (⟨64 + (d.val - 64), by omega⟩ : Fin 128) = d from Fin.ext (by simp only; omega)]

theorem ref_ak (s : Fin 2048) (d : Fin 128) : ak x0 b h s d
    = (val_main_v38 (F := Ideal) x0 (ix4 b s h d) * cosT s ⟨(d : ℕ) % 64, by omega⟩
      + val_main_v38 (F := Ideal) x0 (ix4 b s h (⟨((d : ℕ) + 64) % 128, by omega⟩ : Fin 128)) * sinC s d) * Ideal.ofBits .f32 0x3DB504F3#32 := by
  unfold ak
  pointwise [val_main_v123, val_main_v122, val_main_cst_15]
  refine congrArg (· * Ideal.ofBits .f32 0x3DB504F3#32) ?_
  unfold sinC cosT sinT
  pointwise [val_main_v70]
  by_cases hd : d.val < 64
  · rw [dif_pos hd, dif_pos hd]
    pointwise [val_main_v64, val_main_v61, val_main_v60, val_main_v55, val_main_v63, val_main_v62, val_main_v57, val_main_v58, val_main_v59]
    rw [sub_eq_add_neg, mul_neg]
    rw [show (⟨(d : ℕ) % 64, by omega⟩ : Fin 64) = ⟨d.val, hd⟩ from Fin.ext (by simp only; omega),
      show (⟨((d : ℕ) + 64) % 128, by omega⟩ : Fin 128) = ⟨64 + d.val, by omega⟩ from Fin.ext (by simp only; omega)]
  · rw [dif_neg hd, dif_neg hd]
    pointwise [val_main_v69, val_main_v55, val_main_v57, val_main_v58, val_main_v59, val_main_v66, val_main_v65, val_main_v68, val_main_v67]
    rw [add_comm]
    rw [show (⟨(d : ℕ) % 64, by omega⟩ : Fin 64) = ⟨d.val - 64, by omega⟩ from Fin.ext (by simp only; omega),
      show (⟨((d : ℕ) + 64) % 128, by omega⟩ : Fin 128) = ⟨d.val - 64, by omega⟩ from Fin.ext (by simp only; omega),
      show (⟨64 + (d.val - 64), by omega⟩ : Fin 128) = d from Fin.ext (by simp only; omega)]

end Cert.RetFwd
-- ==== Proof.RetFwd.Tiles.lean ====
module

public import proofs.«01_k».proof.Proof.RetFwd.Entry
public import proofs.«01_k».proof.Proof.RetFwd.Carry
public import proofs.«01_k».proof.Proof.RetFwd.TileAt
public import proofs.«01_k».proof.Proof.RetFwd.State
public import proofs.«01_k».proof.Proof.RetFwd.RefRot
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetReferenceIdeal.Read
open Cert.RetKernelIdeal.Value (s256 s128 hIntra hDec hCd hCarry tok sq lg dec intra cosT sinT sinC aq ak av ao ast ag sitofp_nat ofBits_63 ofBits_64)
open Cert.RetFwd (ref_aq ref_ak)

variable (m : (ℓ : Loc nD τ sig) → Buf (Elt Ideal) ℓ) (c : Dev nD)

/-! ## A grid point's tiles

The tiles that a grid point reads, as the entries of the reference's stages at the tokens of its chunk. -/

/-- The chunk in row `a` of a point's block. -/
def ck (t : ℕ) (a : Fin 4) : Fin 32 := ⟨t % 8 * 4 + a.val, by omega⟩
/-- The token that a row of a point's block is. -/
def brow (t : ℕ) (i : Fin 256) : Fin 2048 := ⟨t % 8 * 256 + i.val, by omega⟩

theorem col_q (t : Fin cfg0.N) (i : Fin 256) (h : Fin 4) (d : Fin 128) :
    c128 (iblk m c 0 t) (128 * h.val) (ix2 i d) = val_main_v5 (F := Ideal) (X0 m c) (ix4 (sq t.val t.isLt) (brow t.val i) h d) := by
  have ht : t.val < 16 := t.isLt
  unfold c128
  refine (blkq m c t _ _).trans ((congrFun (V_p m c) _).trans ?_)
  unfold Cert.RetKernelIdeal.Value.sq brow row
  pointwise [val_main_v5, val_main_v1, val_main_v0]
  blk_ext

theorem col_k (t : Fin cfg0.N) (i : Fin 256) (h : Fin 4) (d : Fin 128) :
    c128 (iblk m c 1 t) (128 * h.val) (ix2 i d) = val_main_v38 (F := Ideal) (X0 m c) (ix4 (sq t.val t.isLt) (brow t.val i) h d) := by
  have ht : t.val < 16 := t.isLt
  unfold c128
  refine (blkk m c t _ _).trans ((congrFun (V_p m c) _).trans ?_)
  unfold Cert.RetKernelIdeal.Value.sq brow row
  pointwise [val_main_v38, val_main_v2, val_main_v0]
  blk_ext

theorem tile_cos (t : Fin cfg0.N) (i : Fin 256) (d : Fin 128) : iblk m c 4 t (ix2 i d) = cosT (brow t.val i) ⟨(d : ℕ) % 64, by omega⟩ := by
  have ht : t.val < 16 := t.isLt
  refine (blkcos m c t _ _).trans ((congrFun (V_cos m c) _).trans ?_)
  unfold cosT brow
  pointwise
  split_ifs with hd
  all_goals exact congrArg _ (by blk_ext)

theorem tile_sin (t : Fin cfg0.N) (i : Fin 256) (d : Fin 128) : iblk m c 5 t (ix2 i d) = sinC (brow t.val i) d := by
  have ht : t.val < 16 := t.isLt
  refine (blksin m c t _ _).trans ((congrFun (V_sin m c) _).trans ?_)
  unfold sinC sinT brow
  pointwise

/-- Four heads beside each other, at a head's column. -/
theorem beside_at (f : ℕ → FVec Ideal S256x128 .bf16) (i : Fin 256) (h : Fin 4) (d : Fin 128) :
    beside (f 0) (f 1) (f 2) (f 3) (ix2 i (⟨128 * h.val + d.val, by omega⟩ : Fin 512)) = f h.val (ix2 i d) := by
  have e : (⟨(128 * h.val + d.val) % 128, Nat.mod_lt _ (by norm_num)⟩ : Fin 128) = d := Fin.ext (by simp only; omega)
  have key : ∀ d' : Fin 128, (⟨(128 * h.val + d.val) % 128, Nat.mod_lt _ (by norm_num)⟩ : Fin 128) = d' →
      beside (f 0) (f 1) (f 2) (f 3) (ix2 i (⟨128 * h.val + d.val, by omega⟩ : Fin 512))
      = if 128 * h.val + d.val < 128 then f 0 (ix2 i d') else if 128 * h.val + d.val < 256 then f 1 (ix2 i d')
        else if 128 * h.val + d.val < 384 then f 2 (ix2 i d') else f 3 (ix2 i d') := by
    rintro _ rfl
    rfl
  rw [key d e]
  clear e key
  have hh := h.isLt
  generalize h.val = n at hh
  interval_cases n
  · rw [if_pos (by omega)]
  · rw [if_neg (by omega), if_pos (by omega)]
  · rw [if_neg (by omega), if_neg (by omega), if_pos (by omega)]
  · rw [if_neg (by omega), if_neg (by omega), if_neg (by omega)]

theorem bq_at (t : Fin cfg0.N) (i : Fin 256) (h : Fin 4) (d : Fin 128) :
    bq (iblk m c 0 t) (iblk m c 4 t) (iblk m c 5 t) (ix2 i (⟨128 * h.val + d.val, by omega⟩ : Fin 512))
      = aq (X0 m c) (sq t.val t.isLt) h (brow t.val i) d := by
  refine (beside_at (fun n => rq (c128 (iblk m c 0 t) (128 * n)) (iblk m c 4 t) (iblk m c 5 t)) i h d).trans ?_
  refine (rot_at (c128 (iblk m c 0 t) (128 * h.val)) (iblk m c 4 t) (iblk m c 5 t) i d).trans ?_
  rw [col_q, col_q, tile_cos, tile_sin, ref_aq]

theorem bk_at (t : Fin cfg0.N) (i : Fin 256) (h : Fin 4) (d : Fin 128) :
    bk (iblk m c 1 t) (iblk m c 4 t) (iblk m c 5 t) (ix2 i (⟨128 * h.val + d.val, by omega⟩ : Fin 512))
      = ak (X0 m c) (sq t.val t.isLt) h (brow t.val i) d := by
  refine (beside_at (fun n => rk (c128 (iblk m c 1 t) (128 * n)) (iblk m c 4 t) (iblk m c 5 t)) i h d).trans ?_
  rw [ref_ak]
  refine congrArg (· * Ideal.ofBits .f32 0x3DB504F3#32) ?_
  refine (rot_at (c128 (iblk m c 1 t) (128 * h.val)) (iblk m c 4 t) (iblk m c 5 t) i d).trans ?_
  rw [col_k, col_k, tile_cos, tile_sin]

/-- A row of a chunk of the block. -/
theorem brow_tok (t : ℕ) (a : Fin 4) (p : Fin 64) : brow t (⟨64 * a.val + p.val, by omega⟩ : Fin 256) = tok (ck t a) p :=
  Fin.ext (by unfold brow tok ck; simp only; omega)

theorem s128_at (B : FVec Ideal S256x512 .bf16) (a h : Fin 4) (p : Fin 64) (d : Fin 128) : s128 B (64 * a.val) (128 * h.val) (ix2 p d)
    = B (ix2 (⟨64 * a.val + p.val, by omega⟩ : Fin 256) (⟨128 * h.val + d.val, by omega⟩ : Fin 512)) := by
  unfold s128
  blk_ext

theorem tile_q (t : Fin cfg0.N) (a h : Fin 4) (p : Fin 64) (d : Fin 128) :
    s128 (bq (iblk m c 0 t) (iblk m c 4 t) (iblk m c 5 t)) (64 * a.val) (128 * h.val) (ix2 p d) = aq (X0 m c) (sq t.val t.isLt) h (tok (ck t.val a) p) d := by
  rw [s128_at, bq_at, brow_tok]

theorem tile_k (t : Fin cfg0.N) (a h : Fin 4) (p : Fin 64) (d : Fin 128) :
    s128 (bk (iblk m c 1 t) (iblk m c 4 t) (iblk m c 5 t)) (64 * a.val) (128 * h.val) (ix2 p d) = ak (X0 m c) (sq t.val t.isLt) h (tok (ck t.val a) p) d := by
  rw [s128_at, bk_at, brow_tok]

theorem tile_v (t : Fin cfg0.N) (a h : Fin 4) (p : Fin 64) (e : Fin 256) :
    s256 (X0_2 m c t) (64 * a.val) (256 * h.val) (ix2 p e) = av (X0 m c) (sq t.val t.isLt) h (tok (ck t.val a) p) e := by
  have ht : t.val < 16 := t.isLt
  refine (blkv m c t _ _).trans ((congrFun (V_p m c) _).trans ?_)
  unfold av Cert.RetKernelIdeal.Value.sq tok ck row
  pointwise [val_main_v71, val_main_v3, val_main_v0]
  blk_ext

theorem tile_g (t : Fin cfg0.N) (a h : Fin 4) (p : Fin 64) (e : Fin 256) :
    s256 (X0_3 m c t) (64 * a.val) (256 * h.val) (ix2 p e) = ag (X0 m c) (sq t.val t.isLt) h (tok (ck t.val a) p) e := by
  have ht : t.val < 16 := t.isLt
  refine (blkg m c t _ _).trans ((congrFun (V_p m c) _).trans ?_)
  unfold ag Cert.RetKernelIdeal.Value.sq tok ck row
  pointwise
  blk_ext

theorem tile_intra (t : Fin cfg0.N) (h : Fin 4) (n p : Fin 64) :
    hIntra (iblk m c 6 t) h.val (ix3 (0 : Fin 1) n p) = intra h n p := by
  rw [blkintra]
  refine (congrFun (V_intra m c) _).trans ?_
  unfold intra
  blk_ext

theorem tile_qd (t : Fin cfg0.N) (h : Fin 4) (n : Fin 64) (d : Fin 128) :
    hDec (iblk m c 7 t) h.val (ix3 (0 : Fin 1) n d) = dec h (n.val + 1) := by
  rw [blkqd]
  refine (congrFun (V_qd m c) _).trans ?_
  unfold dec lg
  pointwise
  rw [show (⟨h.val % 4, Nat.mod_lt _ (by norm_num)⟩ : Fin 4) = h from Fin.ext (Nat.mod_eq_of_lt h.isLt), sitofp_nat n.val (by omega), EReal.coe_add]
  norm_num

theorem tile_kd (t : Fin cfg0.N) (h : Fin 4) (n : Fin 64) (d : Fin 128) :
    hDec (iblk m c 8 t) h.val (ix3 (0 : Fin 1) n d) = dec h (63 - n.val) := by
  rw [blkkd]
  refine (congrFun (V_kd m c) _).trans ?_
  unfold dec lg
  pointwise
  rw [show (⟨h.val % 4, Nat.mod_lt _ (by norm_num)⟩ : Fin 4) = h from Fin.ext (Nat.mod_eq_of_lt h.isLt), sitofp_nat n.val (by omega), ofBits_63, EReal.coe_sub]

theorem tile_cd (t : Fin cfg0.N) (h : Fin 4) (e : Fin 256) :
    hCd (iblk m c 9 t) h.val (ix3 (0 : Fin 1) (0 : Fin 1) e) = dec h 64 := by
  rw [blkcd]
  refine (congrFun (V_cd m c) _).trans ?_
  unfold dec lg
  pointwise
  rw [show (⟨h.val % 4, Nat.mod_lt _ (by norm_num)⟩ : Fin 4) = h from Fin.ext (Nat.mod_eq_of_lt h.isLt), ofBits_64]

end Cert.RetFwdKernelIdeal.Value
-- ==== Proof.RetFwd.RefOut.lean ====
module

public import proofs.«01_k».proof.Proof.Ret.FineAt
public import proofs.«01_k».proof.Proof.Gen.RetFwdReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwd

open Cert.RetFwdReferenceIdeal Cert.RetFwdReferenceIdeal.Read
open Cert.RetKernelIdeal.Value (aq ak av ao ast ag rmean rcen rrs roh rsig)

/-! ## The reference's results

The five results of the reference, entry by entry. Its stages up to the retention's output are those of the backward's reference. -/

variable (x0 : FVec Ideal S2x2048x6656 .f32)

theorem same_q : val_main_v37 (F := Ideal) x0 = Cert.RetReferenceIdeal.Read.val_main_v37 (F := Ideal) x0 := by sl_kernel_rfl
theorem same_k : val_main_v123 (F := Ideal) x0 = Cert.RetReferenceIdeal.Read.val_main_v123 (F := Ideal) x0 := by sl_kernel_rfl
theorem same_s : val_main_v131 (F := Ideal) x0 = Cert.RetReferenceIdeal.Read.val_main_v131 (F := Ideal) x0 := by sl_kernel_rfl
theorem same_o : val_main_v147 (F := Ideal) x0 = Cert.RetReferenceIdeal.Read.val_main_v147 (F := Ideal) x0 := by sl_kernel_rfl

variable (b : Fin 2) (s : Fin 2048) (h : Fin 4)

/-- A token's row in the flat arrays. -/
def flat (b : Fin 2) (s : Fin 2048) : Fin 4096 := ⟨b.val * 2048 + s.val, by omega⟩

theorem out_q (d : Fin 128) : val_main_v173 (F := Ideal) x0 (ix2 (flat b s) (⟨128 * h.val + d.val, by omega⟩ : Fin 512)) = aq x0 b h s d := by
  unfold aq flat
  rw [← same_q]
  pointwise [val_main_v173, val_main_v172]
  blk_ext

theorem out_k (d : Fin 128) : val_main_v175 (F := Ideal) x0 (ix2 (flat b s) (⟨128 * h.val + d.val, by omega⟩ : Fin 512)) = ak x0 b h s d := by
  unfold ak flat
  rw [← same_k]
  pointwise [val_main_v175, val_main_v174]
  blk_ext

theorem out_o (e : Fin 256) : val_main_v177 (F := Ideal) x0 (ix2 (flat b s) (⟨256 * h.val + e.val, by omega⟩ : Fin 1024)) = ao x0 b h s e := by
  unfold ao flat
  rw [← same_o]
  pointwise [val_main_v177, val_main_v176]
  blk_ext

theorem out_s (C : Fin 32) (d : Fin 128) (e : Fin 256) : val_main_v178 (F := Ideal) x0 (ix5 b h C d e) = ast x0 b h C d e := by
  unfold ast
  rw [← same_s]
  pointwise [val_main_v178]

theorem row_mean (u : Fin 1) : val_main_v153 (F := Ideal) x0 (ix4 b s h u) = rmean (ao x0 b h s) := by
  unfold ao
  rw [← same_o]
  pointwise [val_main_v153, val_main_v152, val_main_cst_17, val_main_v151, val_main_v150, val_main_cst_16]
  rfl

theorem row_cen (e : Fin 256) : val_main_v155 (F := Ideal) x0 (ix4 b s h e) = rcen (ao x0 b h s) e := by
  unfold rcen
  rw [← row_mean x0 b s h 0]
  unfold ao
  rw [← same_o]
  pointwise [val_main_v155, val_main_v154]

theorem row_rs (u : Fin 1) : val_main_v165 (F := Ideal) x0 (ix4 b s h u) = rrs (ao x0 b h s) := by
  unfold rrs
  simp only [← row_cen]
  pointwise [val_main_v165, val_main_v164, val_main_v163, val_main_cst_20, val_main_v160, val_main_v159, val_main_cst_19, val_main_v158, val_main_v157,
    val_main_cst_18, val_main_v156]
  rfl

theorem row_hat (e : Fin 256) : val_main_v167 (F := Ideal) x0 (ix4 b s h e) = roh (ao x0 b h s) e := by
  unfold roh
  rw [← row_cen, ← row_rs x0 b s h 0]
  pointwise [val_main_v167, val_main_v166, val_main_v162, val_main_v161, val_main_v155, val_main_v154]

theorem row_gate (e : Fin 256) : val_main_v149 (F := Ideal) x0 (ix3 b s (⟨256 * h.val + e.val, by omega⟩ : Fin 1024))
    = ag x0 b h s e * rsig (ag x0 b h s e) := by
  have hg : val_main_v148 (F := Ideal) x0 (ix3 b s (⟨256 * h.val + e.val, by omega⟩ : Fin 1024)) = ag x0 b h s e := by
    unfold ag
    pointwise [val_main_v148, val_main_v0]
  rw [← hg]
  unfold rsig
  pointwise [val_main_v149, val_main_call1_v5, val_main_call1_v4, val_main_call1_v3, val_main_call1_v2, val_main_call1_v1, val_main_call1_v0, val_main_call1_cst,
    val_main_call1_cst_0]
  rw [zero_sub]

theorem out_u (e : Fin 256) : val_main_v171 (F := Ideal) x0 (ix2 (flat b s) (⟨256 * h.val + e.val, by omega⟩ : Fin 1024))
    = ag x0 b h s e * rsig (ag x0 b h s e) * roh (ao x0 b h s) e := by
  rw [← row_gate, ← row_hat]
  unfold flat
  pointwise [val_main_v171, val_main_v170, val_main_v169, val_main_v168]
  blk_ext

end Cert.RetFwd
-- ==== Proof.RetFwd.PointO.lean ====
module

public import proofs.«01_k».proof.Proof.Gen.RetFwdKernelIdeal.Frame
public import Idealize.ShloMosaic.Lib.Pipeline.ValueKit
public import Idealize.ShloMosaic.Lib.Pointwise
public import Idealize.ShloMosaic.Lib.Pipeline.ReadBack
public import proofs.«01_k».proof.Proof.RetFwd.Tile
public import proofs.«01_k».proof.Proof.Ret.Block
public import proofs.«01_k».proof.Proof.RetFwd.Block

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry ld256 ldIntra ldDec ldCd ldCarry canon_four row_tile row_tile0 col_tile col_tile0)
variable (m : (ℓ : Loc nD τ sig) → Buf (Elt Ideal) ℓ) (ρ : Dev nD → PrngReg)

set_option maxHeartbeats 8000000 in
/-- The outputs stored at a point that is not the first of a sequence. -/
theorem point_o_step (c : Dev nD) (t : Fin cfg0.N) (hB : ¬t.val % 8 = 0) (y : S256x1024.Idx) :
    (outsAt0 m c t.val t.isLt).2.2.1 y = blkO (iblk m c 0 t) (iblk m c 1 t) (X0_2 m c t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2.2 y := by
  rw [outsAt0_B m c t hB]; frame_out
  canon_tiles x h using View.cover_of_tiledBy _ ![64, 256] (by sl_kernel_rfl) y
  all_goals
    unfold blkO
    rw [inTile_eq (x := x) (by omega) (by omega)]
    simp only [h0, h1, row_tile x0_lt, row_tile0 x0_lt, col_tile x1_lt, col_tile0 x1_lt, Nat.reduceMod, Nat.reduceSub, Nat.reduceDiv, Nat.reduceLeDiff, Nat.reduceMul,
      read_unread_whole, ldCol, readBack, fold_q, fold_k, ld256, ldIntra, ldDec, ldCd, ldCarry]
    dsimp only [Nat.reduceMul, bstate, fstep, fdec, bo, fo, Nat.reduceDiv, k0_pay1, k0_pay3, k0_pay4, k0_pay5, k0_pay6, k0_pay7, k0_pay8, k0_pay9, k0_pay10,
      k0_pay11, k0_pay12, k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171, k0_pay172,
      k0_pay173, k0_pay174, k0_pay175, k0_pay176, k0_pay177, k0_pay178, k0_pay179, k0_pay180, k0_pay181, k0_pay182, k0_pay183, k0_pay184, k0_pay185,
      k0_pay186, k0_pay187, k0_pay188, k0_pay189, k0_pay190, k0_pay191, k0_pay192, k0_pay193, k0_pay194, k0_pay195, k0_pay196, k0_pay197, k0_pay198,
      k0_pay199, k0_pay200, k0_pay201, k0_pay202, k0_pay203]

set_option maxHeartbeats 8000000 in
/-- The outputs stored at a point that is the first of a sequence. -/
theorem point_o_first (c : Dev nD) (t : Fin cfg0.N) (hB : t.val % 8 = 0) (y : S256x1024.Idx) :
    (outsAt0 m c t.val t.isLt).2.2.1 y = blkO (iblk m c 0 t) (iblk m c 1 t) (X0_2 m c t) (iblk m c 4 t) (iblk m c 5 t) (iblk m c 6 t) (iblk m c 7 t) (iblk m c 8 t) (iblk m c 9 t) (k0_pay2 (F := Ideal)) y := by
  rw [outsAt0_A m c t hB]; frame_out
  canon_tiles x h using View.cover_of_tiledBy _ ![64, 256] (by sl_kernel_rfl) y
  all_goals
    unfold blkO
    rw [inTile_eq (x := x) (by omega) (by omega)]
    simp only [h0, h1, row_tile x0_lt, row_tile0 x0_lt, col_tile x1_lt, col_tile0 x1_lt, Nat.reduceMod, Nat.reduceSub, Nat.reduceDiv, Nat.reduceLeDiff, Nat.reduceMul,
      ldCol, readBack, fold_q, fold_k, ld256, ldIntra, ldDec, ldCd, ldCarry]
    rw [carry_fill]
    dsimp only [Nat.reduceMul, bstate, fstep, fdec, bo, fo, Nat.reduceDiv, k0_pay1, k0_pay3, k0_pay4, k0_pay5, k0_pay6, k0_pay7, k0_pay8, k0_pay9, k0_pay10,
      k0_pay11, k0_pay12, k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171, k0_pay172,
      k0_pay173, k0_pay174, k0_pay175, k0_pay176, k0_pay177, k0_pay178, k0_pay179, k0_pay180, k0_pay181, k0_pay182, k0_pay183, k0_pay184, k0_pay185,
      k0_pay186, k0_pay187, k0_pay188, k0_pay189, k0_pay190, k0_pay191, k0_pay192, k0_pay193, k0_pay194, k0_pay195, k0_pay196, k0_pay197, k0_pay198,
      k0_pay199, k0_pay200, k0_pay201, k0_pay202, k0_pay203]

end Cert.RetFwdKernelIdeal.Value
-- ==== Proof.RetFwd.PointU.lean ====
module

public import proofs.«01_k».proof.Proof.Gen.RetFwdKernelIdeal.Frame
public import Idealize.ShloMosaic.Lib.Pipeline.ValueKit
public import Idealize.ShloMosaic.Lib.Pointwise
public import Idealize.ShloMosaic.Lib.Pipeline.ReadBack
public import proofs.«01_k».proof.Proof.RetFwd.Tile
public import proofs.«01_k».proof.Proof.Ret.Block
public import proofs.«01_k».proof.Proof.RetFwd.Block

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry ld256 ldIntra ldDec ldCd ldCarry canon_four row_tile row_tile0 col_tile col_tile0)
variable (m : (ℓ : Loc nD τ sig) → Buf (Elt Ideal) ℓ) (ρ : Dev nD → PrngReg)

set_option maxHeartbeats 8000000 in
/-- The gated outputs stored at a point that is not the first of a sequence. -/
theorem point_u_step (c : Dev nD) (t : Fin cfg0.N) (hB : ¬t.val % 8 = 0) (y : S256x1024.Idx) :
    (outsAt0 m c t.val t.isLt).2.2.2.1 y = blkU (iblk m c 0 t) (iblk m c 1 t) (X0_2 m c t) (X0_3 m c t) (iblk m c 4 t) (iblk m c 5 t) (iblk m c 6 t) (iblk m c 7 t) (iblk m c 8 t) (iblk m c 9 t)
      (outsAt0 m c (t.val - 1) (Nat.lt_of_le_of_lt (Nat.sub_le _ _) t.isLt)).2.2.2.2.2 y := by
  rw [outsAt0_B m c t hB]; frame_out
  canon_tiles x h using View.cover_of_tiledBy _ ![64, 256] (by sl_kernel_rfl) y
  all_goals
    unfold blkU
    rw [inTile_eq (x := x) (by omega) (by omega)]
    simp only [h0, h1, row_tile x0_lt, row_tile0 x0_lt, col_tile x1_lt, col_tile0 x1_lt, Nat.reduceMod, Nat.reduceSub, Nat.reduceDiv, Nat.reduceLeDiff, Nat.reduceMul,
      read_unread_whole, ldCol, readBack, fold_q, fold_k, ld256, ldIntra, ldDec, ldCd, ldCarry]
    dsimp only [Nat.reduceMul, bstate, fstep, fdec, bo, fo, fu, foh, fcen, Nat.reduceDiv, k0_pay1, k0_pay3, k0_pay4, k0_pay5, k0_pay6, k0_pay7, k0_pay8,
      k0_pay9, k0_pay10, k0_pay11, k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196,
      k0_pay197, k0_pay198, k0_pay199, k0_pay200, k0_pay201, k0_pay202, k0_pay203]

set_option maxHeartbeats 8000000 in
/-- The gated outputs stored at a point that is the first of a sequence. -/
theorem point_u_first (c : Dev nD) (t : Fin cfg0.N) (hB : t.val % 8 = 0) (y : S256x1024.Idx) :
    (outsAt0 m c t.val t.isLt).2.2.2.1 y = blkU (iblk m c 0 t) (iblk m c 1 t) (X0_2 m c t) (X0_3 m c t) (iblk m c 4 t) (iblk m c 5 t) (iblk m c 6 t) (iblk m c 7 t) (iblk m c 8 t) (iblk m c 9 t) (k0_pay2 (F := Ideal)) y := by
  rw [outsAt0_A m c t hB]; frame_out
  canon_tiles x h using View.cover_of_tiledBy _ ![64, 256] (by sl_kernel_rfl) y
  all_goals
    unfold blkU
    rw [inTile_eq (x := x) (by omega) (by omega)]
    simp only [h0, h1, row_tile x0_lt, row_tile0 x0_lt, col_tile x1_lt, col_tile0 x1_lt, Nat.reduceMod, Nat.reduceSub, Nat.reduceDiv, Nat.reduceLeDiff, Nat.reduceMul,
      ldCol, readBack, fold_q, fold_k, ld256, ldIntra, ldDec, ldCd, ldCarry]
    rw [carry_fill]
    dsimp only [Nat.reduceMul, bstate, fstep, fdec, bo, fo, fu, foh, fcen, Nat.reduceDiv, k0_pay1, k0_pay3, k0_pay4, k0_pay5, k0_pay6, k0_pay7, k0_pay8,
      k0_pay9, k0_pay10, k0_pay11, k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay150, k0_pay151, k0_pay152, k0_pay153, k0_pay154, k0_pay155, k0_pay156, k0_pay157,
      k0_pay158, k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195, k0_pay196,
      k0_pay197, k0_pay198, k0_pay199, k0_pay200, k0_pay201, k0_pay202, k0_pay203]

end Cert.RetFwdKernelIdeal.Value
-- ==== Proof.RetFwd.PointS.lean ====
module

public import proofs.«01_k».proof.Proof.Gen.RetFwdKernelIdeal.Frame
public import Idealize.ShloMosaic.Lib.Pipeline.ValueKit
public import Idealize.ShloMosaic.Lib.Pointwise
public import Idealize.ShloMosaic.Lib.Pipeline.ReadBack
public import proofs.«01_k».proof.Proof.RetFwd.Tile
public import proofs.«01_k».proof.Proof.Ret.Block
public import proofs.«01_k».proof.Proof.RetFwd.Block

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry ld256 ldIntra ldDec ldCd ldCarry canon_four row_tile row_tile0 col_tile col_tile0)
variable (m : (ℓ : Loc nD τ sig) → Buf (Elt Ideal) ℓ) (ρ : Dev nD → PrngReg)

set_option maxHeartbeats 8000000 in
/-- The states stored at a point that is not the first of a sequence. -/
theorem point_s_step (c : Dev nD) (t : Fin cfg0.N) (hB : ¬t.val % 8 = 0) (y : S1x4x4x128x256.Idx) :
    (outsAt0 m c t.val t.isLt).2.2.2.2.1 y = blkS (iblk m c 1 t) (X0_2 m c t) (iblk m c 4 t) (iblk m c 5 t) (iblk m c 8 t) (iblk m c 9 t)
      (outsAt0 m c (t.val - 1) (Nat.lt_of_le_of_lt (Nat.sub_le _ _) t.isLt)).2.2.2.2.2 y := by
  rw [outsAt0_B m c t hB]; frame_out
  canon_tiles x h using View.cover_of_tiledBy _ ![1, 1, 1, 128, 256] (by sl_kernel_rfl) y
  all_goals
    have e1 : (y 1 : ℕ) = (y 1 : ℕ) := rfl
    have e2 : (y 2 : ℕ) = (y 2 : ℕ) := rfl
    conv at e1 => rhs; rw [h1]
    conv at e2 => rhs; rw [h2]
    have z1 : (x 1 : ℕ) = 0 := by omega
    have z2 : (x 2 : ℕ) = 0 := by omega
    simp only [z1, Nat.add_zero] at e1
    simp only [z2, Nat.add_zero] at e2
    unfold blkS
    refine Eq.trans ?_ (state_drop x (y 3) (y 4) h3 h4 _)
    simp only [read_unread_whole, ldCol, readBack, fold_q, fold_k, ld256, ldIntra, ldDec, ldCd, ldCarry, e1, e2]
    refine congrFun ?_ x
    dsimp only [Nat.reduceMul, bstate, fstep, fdec, k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109,
      k0_pay110, k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197, k0_pay198, k0_pay199, k0_pay200,
      k0_pay201, k0_pay202, k0_pay203]

set_option maxHeartbeats 8000000 in
/-- The states stored at a point that is the first of a sequence. -/
theorem point_s_first (c : Dev nD) (t : Fin cfg0.N) (hB : t.val % 8 = 0) (y : S1x4x4x128x256.Idx) :
    (outsAt0 m c t.val t.isLt).2.2.2.2.1 y = blkS (iblk m c 1 t) (X0_2 m c t) (iblk m c 4 t) (iblk m c 5 t) (iblk m c 8 t) (iblk m c 9 t) (k0_pay2 (F := Ideal)) y := by
  rw [outsAt0_A m c t hB]; frame_out
  canon_tiles x h using View.cover_of_tiledBy _ ![1, 1, 1, 128, 256] (by sl_kernel_rfl) y
  all_goals
    have e1 : (y 1 : ℕ) = (y 1 : ℕ) := rfl
    have e2 : (y 2 : ℕ) = (y 2 : ℕ) := rfl
    conv at e1 => rhs; rw [h1]
    conv at e2 => rhs; rw [h2]
    have z1 : (x 1 : ℕ) = 0 := by omega
    have z2 : (x 2 : ℕ) = 0 := by omega
    simp only [z1, Nat.add_zero] at e1
    simp only [z2, Nat.add_zero] at e2
    unfold blkS
    refine Eq.trans ?_ (state_drop x (y 3) (y 4) h3 h4 _)
    simp only [ldCol, readBack, fold_q, fold_k, ld256, ldIntra, ldDec, ldCd, ldCarry, e1, e2]
    refine congrFun ?_ x
    rw [carry_fill]
    dsimp only [Nat.reduceMul, bstate, fstep, fdec, k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109,
      k0_pay110, k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148,
      k0_pay149, k0_pay150, k0_pay151, k0_pay152, k0_pay153, k0_pay154, k0_pay155, k0_pay156, k0_pay157, k0_pay158, k0_pay159, k0_pay160, k0_pay161,
      k0_pay162, k0_pay163, k0_pay164, k0_pay165, k0_pay166, k0_pay167, k0_pay168, k0_pay169, k0_pay170, k0_pay171, k0_pay172, k0_pay173, k0_pay174,
      k0_pay175, k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197, k0_pay198, k0_pay199, k0_pay200,
      k0_pay201, k0_pay202, k0_pay203]

end Cert.RetFwdKernelIdeal.Value
-- ==== Proof.RetFwd.Blocks.lean ====
module

public import proofs.«01_k».proof.Proof.RetFwd.Tiles
public import proofs.«01_k».proof.Proof.RetFwd.RefOut
public import proofs.«01_k».proof.Proof.RetFwd.PointO
public import proofs.«01_k».proof.Proof.RetFwd.PointU
public import proofs.«01_k».proof.Proof.RetFwd.PointS
public import proofs.«01_k».proof.Proof.RetFwd.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetKernelIdeal.Value (s256 s128 hIntra hDec hCd hCarry tok dec intra aq ak av ao ast ag rsig roh)
open Cert.RetFwd (sadd sC state_eq ao_sum)

variable (m : (ℓ : Loc nD τ sig) → Buf (Elt Ideal) ℓ) (c : Dev nD)

/-! ## The blocks that a point stores -/

/-- A point's sequence. -/
abbrev sqn (t : ℕ) (ht : t < 16) : Fin 2 := Cert.RetKernelIdeal.Value.sq t ht

/-- The state inside a point, if it is right at the point's start. -/
theorem chain_at (t : Fin cfg0.N) (h : Fin 4) (xs : FVec Ideal S4x128x256 .f32)
    (hxs : ∀ d e, xs (ix3 h d e) = sC (X0 m c) (sqn t.val t.isLt) h (4 * (t.val % 8)) d e) :
    ∀ n, n ≤ 4 → ∀ d e, bstate (iblk m c 1 t) (X0_2 m c t) (iblk m c 4 t) (iblk m c 5 t) (iblk m c 8 t) (iblk m c 9 t) xs h.val n (ix2 d e)
      = sC (X0 m c) (sqn t.val t.isLt) h (4 * (t.val % 8) + n) d e := by
  have ht : t.val < 16 := t.isLt
  intro n
  induction n with
  | zero =>
    intro _ d e
    refine Eq.trans ?_ (hxs d e)
    unfold bstate hCarry
    pointwise
    blk_ext
  | succ n ih =>
    intro hn d e
    obtain ⟨a, ha⟩ : ∃ a : Fin 4, a.val = n := ⟨⟨n, by omega⟩, rfl⟩
    have e2 : (⟨(4 * (t.val % 8) + n) % 32, Nat.mod_lt _ (by norm_num)⟩ : Fin 32) = ck t.val a := Fin.ext (by unfold ck; simp only; omega)
    show fstep (bstate _ _ _ _ _ _ xs h.val n) _ _ _ _ (ix2 d e) = sC (X0 m c) (sqn t.val t.isLt) h (4 * (t.val % 8) + n) d e * dec h 64
      + sadd (X0 m c) (sqn t.val t.isLt) h ⟨(4 * (t.val % 8) + n) % 32, _⟩ d e
    rw [fstep_at, ih (by omega), tile_cd, e2, ← ha]
    simp only [tile_k, tile_kd, tile_v]
    unfold sadd
    rfl

theorem zero_at (h : Fin 4) (d : Fin 128) (e : Fin 256) : k0_pay2 (F := Ideal) (ix3 h d e) = 0 := by
  unfold k0_pay2
  pointwise

/-- The state after a point. -/
theorem carry_at : ∀ n (hn : n < 16) (h : Fin 4) (d : Fin 128) (e : Fin 256),
    (outsAt0 m c n hn).2.2.2.2.2 (ix3 h d e) = sC (X0 m c) (sqn n hn) h (4 * (n % 8) + 4) d e := by
  intro n
  induction n using Nat.strong_induction_on with
  | _ n ih =>
    intro hn h d e
    by_cases h0 : n % 8 = 0
    · refine (carry_first m c ⟨n, hn⟩ h0 _).trans ?_
      refine chain_at m c ⟨n, hn⟩ h _ (fun d e => (zero_at h d e).trans ?_) 4 le_rfl d e
      simp only [h0]
      rfl
    · refine (carry_step m c ⟨n, hn⟩ h0 _).trans ?_
      refine chain_at m c ⟨n, hn⟩ h _ (fun d e => (ih (n - 1) (by omega) (by omega) h d e).trans ?_) 4 le_rfl d e
      have e1 : sqn (n - 1) (by omega) = sqn n hn := Fin.ext (by show (n - 1) / 8 = n / 8; omega)
      have e2 : 4 * ((n - 1) % 8) + 4 = 4 * (n % 8) := by omega
      rw [e1, e2]

/-- The state that a point starts from. -/
def Starts (t : Fin cfg0.N) (xs : FVec Ideal S4x128x256 .f32) : Prop :=
  ∀ (h : Fin 4) (d : Fin 128) (e : Fin 256), xs (ix3 h d e) = sC (X0 m c) (sqn t.val t.isLt) h (4 * (t.val % 8)) d e

theorem starts_first (t : Fin cfg0.N) (h0 : t.val % 8 = 0) : Starts m c t (k0_pay2 (F := Ideal)) := by
  intro h d e
  refine (zero_at h d e).trans ?_
  simp only [h0]
  rfl

theorem starts_step (t : Fin cfg0.N) (h0 : ¬t.val % 8 = 0) :
    Starts m c t (outsAt0 m c (t.val - 1) (Nat.lt_of_le_of_lt (Nat.sub_le _ _) t.isLt)).2.2.2.2.2 := by
  have ht : t.val < 16 := t.isLt
  intro h d e
  refine (carry_at m c (t.val - 1) (by omega) h d e).trans ?_
  have e1 : sqn (t.val - 1) (by omega) = sqn t.val t.isLt := Fin.ext (by show (t.val - 1) / 8 = t.val / 8; omega)
  have e2 : 4 * ((t.val - 1) % 8) + 4 = 4 * (t.val % 8) := by omega
  rw [e1, e2]

section
variable (t : Fin cfg0.N) (xs : FVec Ideal S4x128x256 .f32) (hxs : Starts m c t xs)
include hxs

/-- The state at a chunk of the block. -/
theorem chain_ck (a h : Fin 4) (d : Fin 128) (e : Fin 256) :
    bstate (iblk m c 1 t) (X0_2 m c t) (iblk m c 4 t) (iblk m c 5 t) (iblk m c 8 t) (iblk m c 9 t) xs h.val a.val (ix2 d e)
      = ast (X0 m c) (sqn t.val t.isLt) h (ck t.val a) d e := by
  refine (chain_at m c t h xs (hxs h) a.val (by omega) d e).trans ?_
  rw [← state_eq (X0 m c)]
  exact congrArg (fun n => sC (X0 m c) (sqn t.val t.isLt) h n d e) (by unfold ck; simp only; omega)

theorem o_at (a h : Fin 4) (p : Fin 64) (e : Fin 256) :
    bo (iblk m c 0 t) (iblk m c 1 t) (X0_2 m c t) (iblk m c 4 t) (iblk m c 5 t) (iblk m c 6 t) (iblk m c 7 t) (iblk m c 8 t) (iblk m c 9 t) xs
      (64 * a.val) h.val (ix2 p e) = ao (X0 m c) (sqn t.val t.isLt) h (tok (ck t.val a) p) e := by
  have hd : 64 * a.val / 64 = a.val := by omega
  unfold bo
  rw [fo_at, ao_sum]
  simp only [hd, tile_q, tile_k, tile_v, tile_intra, tile_qd, chain_ck m c t xs hxs]

theorem blkO_at (i : Fin 256) (h : Fin 4) (e : Fin 256) :
    blkO (iblk m c 0 t) (iblk m c 1 t) (X0_2 m c t) (iblk m c 4 t) (iblk m c 5 t) (iblk m c 6 t) (iblk m c 7 t) (iblk m c 8 t) (iblk m c 9 t) xs
      (ix2 i (⟨256 * h.val + e.val, by omega⟩ : Fin 1024)) = ao (X0 m c) (sqn t.val t.isLt) h (brow t.val i) e := by
  have hA : i.val / 64 * 64 = 64 * ((⟨i.val / 64, by omega⟩ : Fin 4) : ℕ) := by show i.val / 64 * 64 = 64 * (i.val / 64); omega
  have hB : (256 * h.val + e.val) / 256 = h.val := by omega
  have hT : tok (ck t.val ⟨i.val / 64, by omega⟩) ⟨i.val % 64, by omega⟩ = brow t.val i := Fin.ext (by unfold brow tok ck; simp only; omega)
  unfold blkO
  rw [inTile_eq (y := ix2 i (⟨256 * h.val + e.val, by omega⟩ : Fin 1024)) (x := ix2 (⟨i.val % 64, by omega⟩ : Fin 64) e) rfl (by show e.val = (256 * h.val + e.val) % 256; omega)]
  show bo (iblk m c 0 t) (iblk m c 1 t) (X0_2 m c t) (iblk m c 4 t) (iblk m c 5 t) (iblk m c 6 t) (iblk m c 7 t) (iblk m c 8 t) (iblk m c 9 t) xs
    (i.val / 64 * 64) ((256 * h.val + e.val) / 256) (ix2 (⟨i.val % 64, by omega⟩ : Fin 64) e) = _
  rw [hA, hB, o_at m c t xs hxs, hT]

theorem blkU_at (i : Fin 256) (h : Fin 4) (e : Fin 256) :
    blkU (iblk m c 0 t) (iblk m c 1 t) (X0_2 m c t) (X0_3 m c t) (iblk m c 4 t) (iblk m c 5 t) (iblk m c 6 t) (iblk m c 7 t) (iblk m c 8 t) (iblk m c 9 t) xs
      (ix2 i (⟨256 * h.val + e.val, by omega⟩ : Fin 1024)) = ag (X0 m c) (sqn t.val t.isLt) h (brow t.val i) e
        * rsig (ag (X0 m c) (sqn t.val t.isLt) h (brow t.val i) e) * roh (ao (X0 m c) (sqn t.val t.isLt) h (brow t.val i)) e := by
  have hA : i.val / 64 * 64 = 64 * ((⟨i.val / 64, by omega⟩ : Fin 4) : ℕ) := by show i.val / 64 * 64 = 64 * (i.val / 64); omega
  have hB : (256 * h.val + e.val) / 256 = h.val := by omega
  have hT : tok (ck t.val ⟨i.val / 64, by omega⟩) ⟨i.val % 64, by omega⟩ = brow t.val i := Fin.ext (by unfold brow tok ck; simp only; omega)
  unfold blkU
  rw [inTile_eq (y := ix2 i (⟨256 * h.val + e.val, by omega⟩ : Fin 1024)) (x := ix2 (⟨i.val % 64, by omega⟩ : Fin 64) e) rfl (by show e.val = (256 * h.val + e.val) % 256; omega)]
  show fu (bo (iblk m c 0 t) (iblk m c 1 t) (X0_2 m c t) (iblk m c 4 t) (iblk m c 5 t) (iblk m c 6 t) (iblk m c 7 t) (iblk m c 8 t) (iblk m c 9 t) xs
    (i.val / 64 * 64) ((256 * h.val + e.val) / 256)) (s256 (X0_3 m c t) (i.val / 64 * 64) (256 * ((256 * h.val + e.val) / 256))) (ix2 (⟨i.val % 64, by omega⟩ : Fin 64) e) = _
  rw [hA, hB, fu_at, tile_g, hT]
  refine congrArg (fun f => _ * roh f e) (funext fun j => ?_)
  exact (o_at m c t xs hxs ⟨i.val / 64, by omega⟩ h ⟨i.val % 64, by omega⟩ j).trans (by rw [hT])

theorem blkS_at (h a : Fin 4) (d : Fin 128) (e : Fin 256) :
    blkS (iblk m c 1 t) (X0_2 m c t) (iblk m c 4 t) (iblk m c 5 t) (iblk m c 8 t) (iblk m c 9 t) xs (ix5 (0 : Fin 1) h a d e)
      = ast (X0 m c) (sqn t.val t.isLt) h (ck t.val a) d e :=
  chain_ck m c t xs hxs a h d e

end

end Cert.RetFwdKernelIdeal.Value
-- ==== Proof.RetFwd.Out.lean ====
module

public import proofs.«01_k».proof.Proof.RetFwd.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetFwdKernelIdeal.Value

open Cert.RetFwdKernelIdeal Cert.RetFwdKernelIdeal.Gen
open Cert.RetFwdReferenceIdeal.Read (val_main_v171 val_main_v173 val_main_v175 val_main_v177 val_main_v178)
open Cert.RetFwd (flat out_q out_k out_o out_u out_s)

variable (m : (ℓ : Loc nD τ sig) → Buf (Elt Ideal) ℓ) (c : Dev nD)

/-! ## The call's results

The blocks of the grid points cover every result, and each block holds the reference's result there. -/

theorem token_row (t : Fin cfg0.N) (i : Fin 256) : row t.val t.isLt i.val i.isLt = flat (sqn t.val t.isLt) (brow t.val i) := by
  have ht : t.val < 16 := t.isLt
  refine Fin.ext ?_
  show t.val * 256 + i.val = t.val / 8 * 2048 + (t.val % 8 * 256 + i.val)
  omega

theorem at10 (t : Fin cfg0.N) (i : Fin 256) (k : Fin 512) : ((cfg0.win 10).blk t).view.emb (ix2 i k : S256x512.Idx) = ix2 (row t.val t.isLt i.val i.isLt) k := by
  blk_ext [idx0 t, row]
theorem at11 (t : Fin cfg0.N) (i : Fin 256) (k : Fin 512) : ((cfg0.win 11).blk t).view.emb (ix2 i k : S256x512.Idx) = ix2 (row t.val t.isLt i.val i.isLt) k := by
  blk_ext [idx0 t, row]
theorem at12 (t : Fin cfg0.N) (i : Fin 256) (k : Fin 1024) : ((cfg0.win 12).blk t).view.emb (ix2 i k : S256x1024.Idx) = ix2 (row t.val t.isLt i.val i.isLt) k := by
  blk_ext [idx0 t, row]
theorem at13 (t : Fin cfg0.N) (i : Fin 256) (k : Fin 1024) : ((cfg0.win 13).blk t).view.emb (ix2 i k : S256x1024.Idx) = ix2 (row t.val t.isLt i.val i.isLt) k := by
  blk_ext [idx0 t, row]
theorem at14 (t : Fin cfg0.N) (h a : Fin 4) (d : Fin 128) (e : Fin 256) : ((cfg0.win 14).blk t).view.emb (ix5 (0 : Fin 1) h a d e : S1x4x4x128x256.Idx)
    = ix5 (sqn t.val t.isLt) h (ck t.val a) d e := by
  blk_ext [idx0 t, ck, sqn, Cert.RetKernelIdeal.Value.sq]

/-- A column as a head's column. -/
theorem col128 (k : Fin 512) : ∃ (h : Fin 4) (d : Fin 128), k = ⟨128 * h.val + d.val, by omega⟩ :=
  ⟨⟨k.val / 128, by omega⟩, ⟨k.val % 128, by omega⟩, Fin.ext (by simp only; omega)⟩
theorem col256 (k : Fin 1024) : ∃ (h : Fin 4) (e : Fin 256), k = ⟨256 * h.val + e.val, by omega⟩ :=
  ⟨⟨k.val / 256, by omega⟩, ⟨k.val % 256, by omega⟩, Fin.ext (by simp only; omega)⟩

theorem result_q : (dats m 0 c).arrAt 10 cfg0.N = val_main_v173 (F := Ideal) (X0 m c) := by
  refine (dats m 0 c).arrAt_eq_of_covers 10 _ (by decide +kernel) fun t ht y => ?_
  obtain ⟨i, k, rfl⟩ : ∃ (i : Fin 256) (k : Fin 512), y = (ix2 i k : S256x512.Idx) := ⟨y 0, y 1, eq_ix2 y⟩
  obtain ⟨h, d, rfl⟩ := col128 k
  blk_simp
  rw [after0_10, point_q]
  refine Eq.trans ?_ (congrArg (val_main_v173 (F := Ideal) (X0 m c)) (at10 t i _)).symm
  rw [token_row, out_q]
  exact bq_at m c t i h d

theorem result_k : (dats m 0 c).arrAt 11 cfg0.N = val_main_v175 (F := Ideal) (X0 m c) := by
  refine (dats m 0 c).arrAt_eq_of_covers 11 _ (by decide +kernel) fun t ht y => ?_
  obtain ⟨i, k, rfl⟩ : ∃ (i : Fin 256) (k : Fin 512), y = (ix2 i k : S256x512.Idx) := ⟨y 0, y 1, eq_ix2 y⟩
  obtain ⟨h, d, rfl⟩ := col128 k
  blk_simp
  rw [after0_11, point_k]
  refine Eq.trans ?_ (congrArg (val_main_v175 (F := Ideal) (X0 m c)) (at11 t i _)).symm
  rw [token_row, out_k]
  exact bk_at m c t i h d

theorem result_o : (dats m 0 c).arrAt 12 cfg0.N = val_main_v177 (F := Ideal) (X0 m c) := by
  refine (dats m 0 c).arrAt_eq_of_covers 12 _ (by decide +kernel) fun t ht y => ?_
  obtain ⟨i, k, rfl⟩ : ∃ (i : Fin 256) (k : Fin 1024), y = (ix2 i k : S256x1024.Idx) := ⟨y 0, y 1, eq_ix2 y⟩
  obtain ⟨h, e, rfl⟩ := col256 k
  blk_simp
  rw [after0_12]
  refine Eq.trans ?_ (congrArg (val_main_v177 (F := Ideal) (X0 m c)) (at12 t i _)).symm
  rw [token_row, out_o]
  by_cases h0 : t.val % 8 = 0
  · exact (point_o_first m c t h0 _).trans (blkO_at m c t _ (starts_first m c t h0) i h e)
  · exact (point_o_step m c t h0 _).trans (blkO_at m c t _ (starts_step m c t h0) i h e)

theorem result_u : (dats m 0 c).arrAt 13 cfg0.N = val_main_v171 (F := Ideal) (X0 m c) := by
  refine (dats m 0 c).arrAt_eq_of_covers 13 _ (by decide +kernel) fun t ht y => ?_
  obtain ⟨i, k, rfl⟩ : ∃ (i : Fin 256) (k : Fin 1024), y = (ix2 i k : S256x1024.Idx) := ⟨y 0, y 1, eq_ix2 y⟩
  obtain ⟨h, e, rfl⟩ := col256 k
  blk_simp
  rw [after0_13]
  refine Eq.trans ?_ (congrArg (val_main_v171 (F := Ideal) (X0 m c)) (at13 t i _)).symm
  rw [token_row, out_u]
  by_cases h0 : t.val % 8 = 0
  · exact (point_u_first m c t h0 _).trans (blkU_at m c t _ (starts_first m c t h0) i h e)
  · exact (point_u_step m c t h0 _).trans (blkU_at m c t _ (starts_step m c t h0) i h e)

theorem result_s : (dats m 0 c).arrAt 14 cfg0.N = val_main_v178 (F := Ideal) (X0 m c) := by
  refine (dats m 0 c).arrAt_eq_of_covers 14 _ (by decide +kernel) fun t ht y => ?_
  obtain ⟨z, h, a, d, e, rfl⟩ : ∃ (z : Fin 1) (h a : Fin 4) (d : Fin 128) (e : Fin 256), y = (ix5 z h a d e : S1x4x4x128x256.Idx) :=
    ⟨y 0, y 1, y 2, y 3, y 4, eq_ix5 y⟩
  obtain rfl : z = 0 := Subsingleton.elim _ _
  blk_simp
  rw [after0_14]
  refine Eq.trans ?_ (congrArg (val_main_v178 (F := Ideal) (X0 m c)) (at14 t h a d e)).symm
  rw [out_s]
  by_cases h0 : t.val % 8 = 0
  · exact (point_s_first m c t h0 _).trans (blkS_at m c t _ (starts_first m c t h0) h a d e)
  · exact (point_s_step m c t h0 _).trans (blkS_at m c t _ (starts_step m c t h0) h a d e)

end Cert.RetFwdKernelIdeal.Value
-- ==== Proof.RetFwd.Claim.lean ====
module

public import proofs.«01_k».proof.Proof.RetFwd.Out
public import proofs.«01_k».proof.Proof.Gen.RetFwdKernelIdeal.Frame
public import proofs.«01_k».proof.Proof.Gen.RetFwdReferenceIdeal.Run
public import proofs.«01_k».proof.Proof.Gen.RetFwdReferenceIdeal.Read
public import Idealize.ShloMosaic.Lib.Claim
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! ## The forward call's claim -/

namespace Cert.RetFwdKernelIdeal.Value

open Cert.RetFwdKernelIdeal Cert.RetFwdKernelIdeal.Gen
open Cert.RetFwdReferenceIdeal.Read

variable (m : (ℓ : Loc nD τ sig) → Buf (Elt Ideal) ℓ) (ρ : Dev nD → PrngReg)

/-- The call's run: its results are the reference's terms over its own argument, which ends unchanged. -/
theorem run :
    θ_run defs (onTc (τ := τ) (main (F := Ideal))) ⟨m, fun _ => 0, ρ⟩ (fun r => ∀ c : Dev nD,
      r.2.mem ((c.tc : Thread nD τ).loc main_v69_3) = val_main_v171 (F := Ideal) (X0 m c)
      ∧ r.2.mem ((c.tc : Thread nD τ).loc main_v69_0) = val_main_v173 (F := Ideal) (X0 m c)
      ∧ r.2.mem ((c.tc : Thread nD τ).loc main_v69_1) = val_main_v175 (F := Ideal) (X0 m c)
      ∧ r.2.mem ((c.tc : Thread nD τ).loc main_v69_2) = val_main_v177 (F := Ideal) (X0 m c)
      ∧ r.2.mem ((c.tc : Thread nD τ).loc main_v69_4) = val_main_v178 (F := Ideal) (X0 m c)
      ∧ r.2.mem ((c.tc : Thread nD τ).loc main_arg0) = m ((c.tc : Thread nD τ).loc main_arg0)) :=
  (θ_run defs _ _).mono (fun _ h c => ⟨((h.1 c).1 13).trans (result_u m c),
      ((h.1 c).1 10).trans (result_q m c), ((h.1 c).1 11).trans (result_k m c),
      ((h.1 c).1 12).trans (result_o m c),
      ((h.1 c).1 14).trans (result_s m c), h.2 c⟩)
    (Idealize.ShloMosaic.θ_run_and (run_main m ρ) (unchanged m ρ))

end Cert.RetFwdKernelIdeal.Value

/-! The reference's run, its results as the stages' terms. -/
namespace Cert.RetFwdReferenceIdeal.Value

open Cert.RetFwdReferenceIdeal Cert.RetFwdReferenceIdeal.Gen Cert.RetFwdReferenceIdeal.Read

theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v171) = val_main_v171 (F := Ideal) (m ((c.tc : Thread nD τ).loc main_arg0))
      ∧ r.2.mem ((c.tc : Thread nD τ).loc main_v173) = val_main_v173 (F := Ideal) (m ((c.tc : Thread nD τ).loc main_arg0))
      ∧ r.2.mem ((c.tc : Thread nD τ).loc main_v175) = val_main_v175 (F := Ideal) (m ((c.tc : Thread nD τ).loc main_arg0))
      ∧ r.2.mem ((c.tc : Thread nD τ).loc main_v177) = val_main_v177 (F := Ideal) (m ((c.tc : Thread nD τ).loc main_arg0))
      ∧ r.2.mem ((c.tc : Thread nD τ).loc main_v178) = val_main_v178 (F := Ideal) (m ((c.tc : Thread nD τ).loc main_arg0))
      ∧ r.2.mem ((c.tc : Thread nD τ).loc main_arg0) = m ((c.tc : Thread nD τ).loc main_arg0)) :=
  (θ_run defs _ _).mono (fun _ h c => ⟨(h c).1.trans (val_main_v171_eq (StableHlo.launchContents m c)),
      (h c).2.1.trans (val_main_v173_eq (StableHlo.launchContents m c)), (h c).2.2.1.trans (val_main_v175_eq (StableHlo.launchContents m c)),
      (h c).2.2.2.1.trans (val_main_v177_eq (StableHlo.launchContents m c)), (h c).2.2.2.2.1.trans (val_main_v178_eq (StableHlo.launchContents m c)),
      (h c).2.2.2.2.2⟩) (run m ρ)

end Cert.RetFwdReferenceIdeal.Value

namespace Cert.RetFwd

open Cert.RetFwdKernelIdeal.Value (X0)
open Cert.RetFwdReferenceIdeal.Read

theorem algebraic : Cert.algebraic_RetFwdKernelIdeal_RetFwdReferenceIdeal := by
  intro m g m' g' _ hagree
  refine ⟨fun c => val_main_v171 (F := Ideal) (X0 m c), fun c => val_main_v173 (F := Ideal) (X0 m c), fun c => val_main_v175 (F := Ideal) (X0 m c),
    fun c => val_main_v177 (F := Ideal) (X0 m c), fun c => val_main_v178 (F := Ideal) (X0 m c), Cert.RetFwdKernelIdeal.Value.run m g, ?_⟩
  refine (θ_run Cert.RetFwdReferenceIdeal.defs _ _).mono (fun r h c => ?_) (Cert.RetFwdReferenceIdeal.Value.run_stages m' g')
  have a0 := hagree c
  obtain ⟨h0, h1, h2, h3, h4, hargs⟩ := h c
  rw [a0] at h0 h1 h2 h3 h4
  exact ⟨h0, h1, h2, h3, h4, hargs⟩

/-- The reference of the retention's forward call ends with its arguments unchanged. -/
theorem frame_reference : Cert.quiescent_RetFwdReferenceIdeal := by
  intro m g _
  exact (θ_run Cert.RetFwdReferenceIdeal.defs _ _).mono (fun r h => ⟨fun c => (h c).2.2.2.2.2,
    sem_eq_zero_of_no_sems (by decide) r.2⟩) (Cert.RetFwdReferenceIdeal.Value.run m g)

end Cert.RetFwd

end
-- ==== Proof.lean ====
module

public import proofs.«01_k».proof.Defs
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Merge.Claim
public import Idealize.ShloMosaic.Adequacy
public import Idealize.ShloMosaic.Init
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetReferenceIdeal
public import proofs.«01_k».proof.Proof.Gen.RetReferenceIdeal.Run
public import proofs.«01_k».proof.Proof.Gen.RetReferenceIdeal.Read
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.ChanKernel
public import proofs.«01_k».proof.Proof.Gen.ChanKernel.Skeleton
public import proofs.«01_k».proof.Proof.Gen.ChanKernel.Launch
public import proofs.«01_k».proof.Proof.Gen.ChanKernel.Points
public import proofs.«01_k».proof.Proof.Gen.ChanKernel.Frame
public import proofs.«01_k».proof.Proof.Gen.ChanKernelIdeal
public import proofs.«01_k».proof.Proof.Gen.ChanKernelIdeal.Skeleton
public import proofs.«01_k».proof.Proof.Gen.ChanKernelIdeal.Launch
public import proofs.«01_k».proof.Proof.Gen.ChanKernelIdeal.Points
public import proofs.«01_k».proof.Proof.Gen.ChanKernelIdeal.Frame
public import proofs.«01_k».proof.Proof.Gen.ChanReferenceIdeal
public import proofs.«01_k».proof.Proof.Gen.ChanReferenceIdeal.Run
public import proofs.«01_k».proof.Proof.Gen.ChanReferenceIdeal.Read
public import proofs.«01_k».proof.Proof.Ret.Claim
public import proofs.«01_k».proof.Proof.Proj.Claim
public import proofs.«01_k».proof.Proof.Chan.Claim
public import proofs.«01_k».proof.Proof.Gen.RetFwdKernel
public import proofs.«01_k».proof.Proof.Gen.RetFwdKernel.Skeleton
public import proofs.«01_k».proof.Proof.Gen.RetFwdKernel.Launch
public import proofs.«01_k».proof.Proof.Gen.RetFwdKernel.Points
public import proofs.«01_k».proof.Proof.Gen.RetFwdKernel.Frame
public import proofs.«01_k».proof.Proof.Gen.RetFwdKernelIdeal
public import proofs.«01_k».proof.Proof.Gen.RetFwdKernelIdeal.Skeleton
public import proofs.«01_k».proof.Proof.Gen.RetFwdKernelIdeal.Launch
public import proofs.«01_k».proof.Proof.Gen.RetFwdKernelIdeal.Points
public import proofs.«01_k».proof.Proof.Gen.RetFwdKernelIdeal.Frame
public import proofs.«01_k».proof.Proof.Gen.RetFwdReferenceIdeal
public import proofs.«01_k».proof.Proof.Gen.RetFwdReferenceIdeal.Run
public import proofs.«01_k».proof.Proof.Gen.RetFwdReferenceIdeal.Read
public import proofs.«01_k».proof.Proof.Gen.AttKernel
public import proofs.«01_k».proof.Proof.Gen.AttKernel.Skeleton
public import proofs.«01_k».proof.Proof.Gen.AttKernel.Launch
public import proofs.«01_k».proof.Proof.Gen.AttKernel.Points
public import proofs.«01_k».proof.Proof.Gen.AttKernel.Frame
public import proofs.«01_k».proof.Proof.Gen.AttKernelIdeal
public import proofs.«01_k».proof.Proof.Gen.AttKernelIdeal.Skeleton
public import proofs.«01_k».proof.Proof.Gen.AttKernelIdeal.Launch
public import proofs.«01_k».proof.Proof.Gen.AttKernelIdeal.Points
public import proofs.«01_k».proof.Proof.Gen.AttKernelIdeal.Frame
public import proofs.«01_k».proof.Proof.Gen.AttReferenceIdeal
public import proofs.«01_k».proof.Proof.Gen.AttReferenceIdeal.Run
public import proofs.«01_k».proof.Proof.Gen.AttReferenceIdeal.Read
public import proofs.«01_k».proof.Proof.Att.Claim
public import proofs.«01_k».proof.Proof.RetFwd.Claim

@[expose] public section

noncomputable section

namespace Cert.Proof

open Idealize.ShloMosaic Idealize.SL.Sem

theorem claim : Cert.Claim := ⟨Cert.MergeKernel.Gen.facts, Cert.MergeKernelIdeal.Gen.facts, Cert.MergeReferenceIdeal.Gen.facts,
  Cert.RetKernel.Gen.facts, Cert.RetKernelIdeal.Gen.facts, Cert.RetReferenceIdeal.Gen.facts,
  Cert.ProjKernel.Gen.facts, Cert.ProjKernelIdeal.Gen.facts, Cert.ProjReferenceIdeal.Gen.facts,
  Cert.ChanKernel.Gen.facts, Cert.ChanKernelIdeal.Gen.facts, Cert.ChanReferenceIdeal.Gen.facts,
  Cert.RetFwdKernel.Gen.facts, Cert.RetFwdKernelIdeal.Gen.facts, Cert.RetFwdReferenceIdeal.Gen.facts,
  Cert.AttKernel.Gen.facts, Cert.AttKernelIdeal.Gen.facts, Cert.AttReferenceIdeal.Gen.facts,
  Cert.Pre_finite.preFacts, Cert.Pre_finite_projection.preFacts, Cert.Pre_finite_channel.preFacts, Cert.Pre_finite_attention.preFacts,
  fun m ρ _ => Cert.MergeKernel.Gen.frame m ρ, fun m ρ _ => Cert.MergeKernelIdeal.Gen.frame m ρ, Cert.Merge.frame_reference,
  fun m ρ _ => Cert.RetKernel.Gen.frame m ρ, fun m ρ _ => Cert.RetKernelIdeal.Gen.frame m ρ, fun m ρ _ => Cert.RetKernelIdeal.Gen.frame m ρ,
  Cert.Ret.frame_reference, fun m ρ _ => Cert.Ret.frame_reference m ρ trivial,
  fun m ρ _ => Cert.ProjKernel.Gen.frame m ρ, fun m ρ _ => Cert.ProjKernelIdeal.Gen.frame m ρ, fun m ρ _ => Cert.ProjKernelIdeal.Gen.frame m ρ,
  Cert.Proj.frame_reference, fun m ρ _ => Cert.Proj.frame_reference m ρ trivial,
  fun m ρ _ => Cert.ChanKernel.Gen.frame m ρ, fun m ρ _ => Cert.ChanKernelIdeal.Gen.frame m ρ, fun m ρ _ => Cert.ChanKernelIdeal.Gen.frame m ρ,
  Cert.Chan.frame_reference, fun m ρ _ => Cert.Chan.frame_reference m ρ trivial,
  fun m ρ _ => Cert.RetFwdKernel.Gen.frame m ρ, fun m ρ _ => Cert.RetFwdKernelIdeal.Gen.frame m ρ,
  Cert.RetFwd.frame_reference,
  fun m ρ _ => Cert.AttKernel.Gen.frame m ρ, fun m ρ _ => Cert.AttKernelIdeal.Gen.frame m ρ, fun m ρ _ => Cert.AttKernelIdeal.Gen.frame m ρ,
  Cert.Att.frame_reference, fun m ρ _ => Cert.Att.frame_reference m ρ trivial,
  trivial, Cert.Merge.algebraic, trivial, @Cert.Ret.algebraic Cert.Pre_finite.preFacts,
  trivial, @Cert.Proj.algebraic Cert.Pre_finite_projection.preFacts, trivial, @Cert.Chan.algebraic Cert.Pre_finite_channel.preFacts,
  trivial, Cert.RetFwd.algebraic, IdealRules.named_const.statement Cert.AttKernelIdeal.κ "mask" .f32 0xF149F2CA#32 ⊥ rfl,
  @Cert.Att.algebraic Cert.Pre_finite_attention.preFacts⟩

end Cert.Proof

end
